-- ==== Defs.lean ====
def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_swiglu_finite [hPre_swiglu_finite : Cert.Pre_swiglu_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.2.1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))).2.2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).1 = (fun _ => 1#1)
    ∧ (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.1 = (fun _ => 1#1)
    ∧ (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2.1 = (fun _ => 1#1)
    ∧ (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2.2 = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3))).1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3))).2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3))).2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3))).2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2.2 = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOut1 (m : (ℓ : Loc Cert.FfnOut1.nD Cert.FfnOut1.τ Cert.FfnOut1.sig) → Buf (Elt Bits) ℓ) : Prop :=
  True

def Pre_FfnOut1Ideal (m : (ℓ : Loc Cert.FfnOut1Ideal.nD Cert.FfnOut1Ideal.τ Cert.FfnOut1Ideal.sig) → Buf (Elt Ideal) ℓ) : Prop :=
  True

def Pre_FfnOut1RefIdeal (m : (ℓ : Loc Cert.FfnOut1RefIdeal.nD Cert.FfnOut1RefIdeal.τ Cert.FfnOut1RefIdeal.sig) → Buf (Elt Ideal) ℓ) : Prop :=
  True

def Pre_FfnOut2 (m : (ℓ : Loc Cert.FfnOut2.nD Cert.FfnOut2.τ Cert.FfnOut2.sig) → Buf (Elt Bits) ℓ) : Prop :=
  True

def Pre_FfnOut2Ideal (m : (ℓ : Loc Cert.FfnOut2Ideal.nD Cert.FfnOut2Ideal.τ Cert.FfnOut2Ideal.sig) → Buf (Elt Ideal) ℓ) : Prop :=
  True

def Pre_FfnOut2RefIdeal (m : (ℓ : Loc Cert.FfnOut2RefIdeal.nD Cert.FfnOut2RefIdeal.τ Cert.FfnOut2RefIdeal.sig) → Buf (Elt Ideal) ℓ) : Prop :=
  True

def Pre_AoDw (m : (ℓ : Loc Cert.AoDw.nD Cert.AoDw.τ Cert.AoDw.sig) → Buf (Elt Bits) ℓ) : Prop :=
  True

def Pre_AoDwIdeal (m : (ℓ : Loc Cert.AoDwIdeal.nD Cert.AoDwIdeal.τ Cert.AoDwIdeal.sig) → Buf (Elt Ideal) ℓ) : Prop :=
  True

def Pre_AoDwRefIdeal (m : (ℓ : Loc Cert.AoDwRefIdeal.nD Cert.AoDwRefIdeal.τ Cert.AoDwRefIdeal.sig) → Buf (Elt Ideal) ℓ) : Prop :=
  True

def Pre_AoDx (m : (ℓ : Loc Cert.AoDx.nD Cert.AoDx.τ Cert.AoDx.sig) → Buf (Elt Bits) ℓ) : Prop :=
  True

def Pre_AoDxIdeal (m : (ℓ : Loc Cert.AoDxIdeal.nD Cert.AoDxIdeal.τ Cert.AoDxIdeal.sig) → Buf (Elt Ideal) ℓ) : Prop :=
  True

def Pre_AoDxRefIdeal (m : (ℓ : Loc Cert.AoDxRefIdeal.nD Cert.AoDxRefIdeal.τ Cert.AoDxRefIdeal.sig) → Buf (Elt Ideal) ℓ) : Prop :=
  True

def Pre_Bq (m : (ℓ : Loc Cert.Bq.nD Cert.Bq.τ Cert.Bq.sig) → Buf (Elt Bits) ℓ) : Prop :=
  True

def Pre_BqIdeal (m : (ℓ : Loc Cert.BqIdeal.nD Cert.BqIdeal.τ Cert.BqIdeal.sig) → Buf (Elt Ideal) ℓ) : Prop :=
  True

def Pre_BqRefIdeal (m : (ℓ : Loc Cert.BqRefIdeal.nD Cert.BqRefIdeal.τ Cert.BqRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_BqDw (m : (ℓ : Loc Cert.BqDw.nD Cert.BqDw.τ Cert.BqDw.sig) → Buf (Elt Bits) ℓ) : Prop :=
  True

def Pre_BqDwIdeal (m : (ℓ : Loc Cert.BqDwIdeal.nD Cert.BqDwIdeal.τ Cert.BqDwIdeal.sig) → Buf (Elt Ideal) ℓ) : Prop :=
  True

def Pre_BqDwRefIdeal (m : (ℓ : Loc Cert.BqDwRefIdeal.nD Cert.BqDwRefIdeal.τ Cert.BqDwRefIdeal.sig) → Buf (Elt Ideal) ℓ) : Prop :=
  True

def Pre_Ao (m : (ℓ : Loc Cert.Ao.nD Cert.Ao.τ Cert.Ao.sig) → Buf (Elt Bits) ℓ) : Prop :=
  True

def Pre_AoIdeal (m : (ℓ : Loc Cert.AoIdeal.nD Cert.AoIdeal.τ Cert.AoIdeal.sig) → Buf (Elt Ideal) ℓ) : Prop :=
  True

def Pre_AoRefIdeal (m : (ℓ : Loc Cert.AoRefIdeal.nD Cert.AoRefIdeal.τ Cert.AoRefIdeal.sig) → Buf (Elt Ideal) ℓ) : Prop :=
  True

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdIdeal_pre_swiglu_finite [hSwigluBwdIdeal : Cert.SwigluBwdIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_swiglu_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1)
      ∧ r.2.mem ((c.tc : Thread Cert.QkvDw.nD Cert.QkvDw.τ).loc Cert.QkvDw.main_arg2) = m ((c.tc : Thread Cert.QkvDw.nD Cert.QkvDw.τ).loc Cert.QkvDw.main_arg2))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
      ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1)
      ∧ r.2.mem ((c.tc : Thread Cert.QkvDwRefIdeal.nD Cert.QkvDwRefIdeal.τ).loc Cert.QkvDwRefIdeal.main_arg2) = m ((c.tc : Thread Cert.QkvDwRefIdeal.nD Cert.QkvDwRefIdeal.τ).loc Cert.QkvDwRefIdeal.main_arg2))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2)
      ∧ r.2.mem ((c.tc : Thread Cert.QkvDx.nD Cert.QkvDx.τ).loc Cert.QkvDx.main_arg3) = m ((c.tc : Thread Cert.QkvDx.nD Cert.QkvDx.τ).loc Cert.QkvDx.main_arg3)
      ∧ r.2.mem ((c.tc : Thread Cert.QkvDx.nD Cert.QkvDx.τ).loc Cert.QkvDx.main_arg4) = m ((c.tc : Thread Cert.QkvDx.nD Cert.QkvDx.τ).loc Cert.QkvDx.main_arg4))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
      ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
      ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2)
      ∧ r.2.mem ((c.tc : Thread Cert.QkvDxRefIdeal.nD Cert.QkvDxRefIdeal.τ).loc Cert.QkvDxRefIdeal.main_arg3) = m ((c.tc : Thread Cert.QkvDxRefIdeal.nD Cert.QkvDxRefIdeal.τ).loc Cert.QkvDxRefIdeal.main_arg3)
      ∧ r.2.mem ((c.tc : Thread Cert.QkvDxRefIdeal.nD Cert.QkvDxRefIdeal.τ).loc Cert.QkvDxRefIdeal.main_arg4) = m ((c.tc : Thread Cert.QkvDxRefIdeal.nD Cert.QkvDxRefIdeal.τ).loc Cert.QkvDxRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_FfnOut1 [hFfnOut1 : Cert.FfnOut1.Facts] : Prop :=
  ∀ (m : (ℓ : Loc Cert.FfnOut1.nD Cert.FfnOut1.τ Cert.FfnOut1.sig) → Buf (Elt Bits) ℓ) (g : Dev Cert.FfnOut1.nD → PrngReg), Pre_FfnOut1 m →
    θ_run (Cert.FfnOut1.defs (F := Bits)) (onTc (τ := Cert.FfnOut1.τ) (Cert.FfnOut1.main (F := Bits))) ⟨m, fun _ => 0, g⟩ (fun r => (∀ c : Dev Cert.FfnOut1.nD,
      r.2.mem ((c.tc : Thread Cert.FfnOut1.nD Cert.FfnOut1.τ).loc Cert.FfnOut1.main_arg0) = m ((c.tc : Thread Cert.FfnOut1.nD Cert.FfnOut1.τ).loc Cert.FfnOut1.main_arg0)
      ∧ r.2.mem ((c.tc : Thread Cert.FfnOut1.nD Cert.FfnOut1.τ).loc Cert.FfnOut1.main_arg1) = m ((c.tc : Thread Cert.FfnOut1.nD Cert.FfnOut1.τ).loc Cert.FfnOut1.main_arg1)
      ∧ r.2.mem ((c.tc : Thread Cert.FfnOut1.nD Cert.FfnOut1.τ).loc Cert.FfnOut1.main_arg2) = m ((c.tc : Thread Cert.FfnOut1.nD Cert.FfnOut1.τ).loc Cert.FfnOut1.main_arg2)
      ∧ r.2.mem ((c.tc : Thread Cert.FfnOut1.nD Cert.FfnOut1.τ).loc Cert.FfnOut1.main_arg3) = m ((c.tc : Thread Cert.FfnOut1.nD Cert.FfnOut1.τ).loc Cert.FfnOut1.main_arg3))
      ∧ r.2.sem = fun _ => 0)

def quiescent_FfnOut1Ideal [hFfnOut1Ideal : Cert.FfnOut1Ideal.Facts] : Prop :=
  ∀ (m : (ℓ : Loc Cert.FfnOut1Ideal.nD Cert.FfnOut1Ideal.τ Cert.FfnOut1Ideal.sig) → Buf (Elt Ideal) ℓ) (g : Dev Cert.FfnOut1Ideal.nD → PrngReg), Pre_FfnOut1Ideal m →
    θ_run (Cert.FfnOut1Ideal.defs (F := Ideal)) (onTc (τ := Cert.FfnOut1Ideal.τ) (Cert.FfnOut1Ideal.main (F := Ideal))) ⟨m, fun _ => 0, g⟩ (fun r => (∀ c : Dev Cert.FfnOut1Ideal.nD,
      r.2.mem ((c.tc : Thread Cert.FfnOut1Ideal.nD Cert.FfnOut1Ideal.τ).loc Cert.FfnOut1Ideal.main_arg0) = m ((c.tc : Thread Cert.FfnOut1Ideal.nD Cert.FfnOut1Ideal.τ).loc Cert.FfnOut1Ideal.main_arg0)
      ∧ r.2.mem ((c.tc : Thread Cert.FfnOut1Ideal.nD Cert.FfnOut1Ideal.τ).loc Cert.FfnOut1Ideal.main_arg1) = m ((c.tc : Thread Cert.FfnOut1Ideal.nD Cert.FfnOut1Ideal.τ).loc Cert.FfnOut1Ideal.main_arg1)
      ∧ r.2.mem ((c.tc : Thread Cert.FfnOut1Ideal.nD Cert.FfnOut1Ideal.τ).loc Cert.FfnOut1Ideal.main_arg2) = m ((c.tc : Thread Cert.FfnOut1Ideal.nD Cert.FfnOut1Ideal.τ).loc Cert.FfnOut1Ideal.main_arg2)
      ∧ r.2.mem ((c.tc : Thread Cert.FfnOut1Ideal.nD Cert.FfnOut1Ideal.τ).loc Cert.FfnOut1Ideal.main_arg3) = m ((c.tc : Thread Cert.FfnOut1Ideal.nD Cert.FfnOut1Ideal.τ).loc Cert.FfnOut1Ideal.main_arg3))
      ∧ r.2.sem = fun _ => 0)

def quiescent_FfnOut1RefIdeal [hFfnOut1RefIdeal : Cert.FfnOut1RefIdeal.Facts] : Prop :=
  ∀ (m : (ℓ : Loc Cert.FfnOut1RefIdeal.nD Cert.FfnOut1RefIdeal.τ Cert.FfnOut1RefIdeal.sig) → Buf (Elt Ideal) ℓ) (g : Dev Cert.FfnOut1RefIdeal.nD → PrngReg), Pre_FfnOut1RefIdeal m →
    θ_run (Cert.FfnOut1RefIdeal.defs (F := Ideal)) (onTc (τ := Cert.FfnOut1RefIdeal.τ) (Cert.FfnOut1RefIdeal.main (F := Ideal))) ⟨m, fun _ => 0, g⟩ (fun r => (∀ c : Dev Cert.FfnOut1RefIdeal.nD,
      r.2.mem ((c.tc : Thread Cert.FfnOut1RefIdeal.nD Cert.FfnOut1RefIdeal.τ).loc Cert.FfnOut1RefIdeal.main_arg0) = m ((c.tc : Thread Cert.FfnOut1RefIdeal.nD Cert.FfnOut1RefIdeal.τ).loc Cert.FfnOut1RefIdeal.main_arg0)
      ∧ r.2.mem ((c.tc : Thread Cert.FfnOut1RefIdeal.nD Cert.FfnOut1RefIdeal.τ).loc Cert.FfnOut1RefIdeal.main_arg1) = m ((c.tc : Thread Cert.FfnOut1RefIdeal.nD Cert.FfnOut1RefIdeal.τ).loc Cert.FfnOut1RefIdeal.main_arg1)
      ∧ r.2.mem ((c.tc : Thread Cert.FfnOut1RefIdeal.nD Cert.FfnOut1RefIdeal.τ).loc Cert.FfnOut1RefIdeal.main_arg2) = m ((c.tc : Thread Cert.FfnOut1RefIdeal.nD Cert.FfnOut1RefIdeal.τ).loc Cert.FfnOut1RefIdeal.main_arg2)
      ∧ r.2.mem ((c.tc : Thread Cert.FfnOut1RefIdeal.nD Cert.FfnOut1RefIdeal.τ).loc Cert.FfnOut1RefIdeal.main_arg3) = m ((c.tc : Thread Cert.FfnOut1RefIdeal.nD Cert.FfnOut1RefIdeal.τ).loc Cert.FfnOut1RefIdeal.main_arg3))
      ∧ r.2.sem = fun _ => 0)

def quiescent_FfnOut2 [hFfnOut2 : Cert.FfnOut2.Facts] : Prop :=
  ∀ (m : (ℓ : Loc Cert.FfnOut2.nD Cert.FfnOut2.τ Cert.FfnOut2.sig) → Buf (Elt Bits) ℓ) (g : Dev Cert.FfnOut2.nD → PrngReg), Pre_FfnOut2 m →
    θ_run (Cert.FfnOut2.defs (F := Bits)) (onTc (τ := Cert.FfnOut2.τ) (Cert.FfnOut2.main (F := Bits))) ⟨m, fun _ => 0, g⟩ (fun r => (∀ c : Dev Cert.FfnOut2.nD,
      r.2.mem ((c.tc : Thread Cert.FfnOut2.nD Cert.FfnOut2.τ).loc Cert.FfnOut2.main_arg0) = m ((c.tc : Thread Cert.FfnOut2.nD Cert.FfnOut2.τ).loc Cert.FfnOut2.main_arg0)
      ∧ r.2.mem ((c.tc : Thread Cert.FfnOut2.nD Cert.FfnOut2.τ).loc Cert.FfnOut2.main_arg1) = m ((c.tc : Thread Cert.FfnOut2.nD Cert.FfnOut2.τ).loc Cert.FfnOut2.main_arg1)
      ∧ r.2.mem ((c.tc : Thread Cert.FfnOut2.nD Cert.FfnOut2.τ).loc Cert.FfnOut2.main_arg2) = m ((c.tc : Thread Cert.FfnOut2.nD Cert.FfnOut2.τ).loc Cert.FfnOut2.main_arg2)
      ∧ r.2.mem ((c.tc : Thread Cert.FfnOut2.nD Cert.FfnOut2.τ).loc Cert.FfnOut2.main_arg3) = m ((c.tc : Thread Cert.FfnOut2.nD Cert.FfnOut2.τ).loc Cert.FfnOut2.main_arg3)
      ∧ r.2.mem ((c.tc : Thread Cert.FfnOut2.nD Cert.FfnOut2.τ).loc Cert.FfnOut2.main_arg4) = m ((c.tc : Thread Cert.FfnOut2.nD Cert.FfnOut2.τ).loc Cert.FfnOut2.main_arg4))
      ∧ r.2.sem = fun _ => 0)

def quiescent_FfnOut2Ideal [hFfnOut2Ideal : Cert.FfnOut2Ideal.Facts] : Prop :=
  ∀ (m : (ℓ : Loc Cert.FfnOut2Ideal.nD Cert.FfnOut2Ideal.τ Cert.FfnOut2Ideal.sig) → Buf (Elt Ideal) ℓ) (g : Dev Cert.FfnOut2Ideal.nD → PrngReg), Pre_FfnOut2Ideal m →
    θ_run (Cert.FfnOut2Ideal.defs (F := Ideal)) (onTc (τ := Cert.FfnOut2Ideal.τ) (Cert.FfnOut2Ideal.main (F := Ideal))) ⟨m, fun _ => 0, g⟩ (fun r => (∀ c : Dev Cert.FfnOut2Ideal.nD,
      r.2.mem ((c.tc : Thread Cert.FfnOut2Ideal.nD Cert.FfnOut2Ideal.τ).loc Cert.FfnOut2Ideal.main_arg0) = m ((c.tc : Thread Cert.FfnOut2Ideal.nD Cert.FfnOut2Ideal.τ).loc Cert.FfnOut2Ideal.main_arg0)
      ∧ r.2.mem ((c.tc : Thread Cert.FfnOut2Ideal.nD Cert.FfnOut2Ideal.τ).loc Cert.FfnOut2Ideal.main_arg1) = m ((c.tc : Thread Cert.FfnOut2Ideal.nD Cert.FfnOut2Ideal.τ).loc Cert.FfnOut2Ideal.main_arg1)
      ∧ r.2.mem ((c.tc : Thread Cert.FfnOut2Ideal.nD Cert.FfnOut2Ideal.τ).loc Cert.FfnOut2Ideal.main_arg2) = m ((c.tc : Thread Cert.FfnOut2Ideal.nD Cert.FfnOut2Ideal.τ).loc Cert.FfnOut2Ideal.main_arg2)
      ∧ r.2.mem ((c.tc : Thread Cert.FfnOut2Ideal.nD Cert.FfnOut2Ideal.τ).loc Cert.FfnOut2Ideal.main_arg3) = m ((c.tc : Thread Cert.FfnOut2Ideal.nD Cert.FfnOut2Ideal.τ).loc Cert.FfnOut2Ideal.main_arg3)
      ∧ r.2.mem ((c.tc : Thread Cert.FfnOut2Ideal.nD Cert.FfnOut2Ideal.τ).loc Cert.FfnOut2Ideal.main_arg4) = m ((c.tc : Thread Cert.FfnOut2Ideal.nD Cert.FfnOut2Ideal.τ).loc Cert.FfnOut2Ideal.main_arg4))
      ∧ r.2.sem = fun _ => 0)

def quiescent_FfnOut2RefIdeal [hFfnOut2RefIdeal : Cert.FfnOut2RefIdeal.Facts] : Prop :=
  ∀ (m : (ℓ : Loc Cert.FfnOut2RefIdeal.nD Cert.FfnOut2RefIdeal.τ Cert.FfnOut2RefIdeal.sig) → Buf (Elt Ideal) ℓ) (g : Dev Cert.FfnOut2RefIdeal.nD → PrngReg), Pre_FfnOut2RefIdeal m →
    θ_run (Cert.FfnOut2RefIdeal.defs (F := Ideal)) (onTc (τ := Cert.FfnOut2RefIdeal.τ) (Cert.FfnOut2RefIdeal.main (F := Ideal))) ⟨m, fun _ => 0, g⟩ (fun r => (∀ c : Dev Cert.FfnOut2RefIdeal.nD,
      r.2.mem ((c.tc : Thread Cert.FfnOut2RefIdeal.nD Cert.FfnOut2RefIdeal.τ).loc Cert.FfnOut2RefIdeal.main_arg0) = m ((c.tc : Thread Cert.FfnOut2RefIdeal.nD Cert.FfnOut2RefIdeal.τ).loc Cert.FfnOut2RefIdeal.main_arg0)
      ∧ r.2.mem ((c.tc : Thread Cert.FfnOut2RefIdeal.nD Cert.FfnOut2RefIdeal.τ).loc Cert.FfnOut2RefIdeal.main_arg1) = m ((c.tc : Thread Cert.FfnOut2RefIdeal.nD Cert.FfnOut2RefIdeal.τ).loc Cert.FfnOut2RefIdeal.main_arg1)
      ∧ r.2.mem ((c.tc : Thread Cert.FfnOut2RefIdeal.nD Cert.FfnOut2RefIdeal.τ).loc Cert.FfnOut2RefIdeal.main_arg2) = m ((c.tc : Thread Cert.FfnOut2RefIdeal.nD Cert.FfnOut2RefIdeal.τ).loc Cert.FfnOut2RefIdeal.main_arg2)
      ∧ r.2.mem ((c.tc : Thread Cert.FfnOut2RefIdeal.nD Cert.FfnOut2RefIdeal.τ).loc Cert.FfnOut2RefIdeal.main_arg3) = m ((c.tc : Thread Cert.FfnOut2RefIdeal.nD Cert.FfnOut2RefIdeal.τ).loc Cert.FfnOut2RefIdeal.main_arg3)
      ∧ r.2.mem ((c.tc : Thread Cert.FfnOut2RefIdeal.nD Cert.FfnOut2RefIdeal.τ).loc Cert.FfnOut2RefIdeal.main_arg4) = m ((c.tc : Thread Cert.FfnOut2RefIdeal.nD Cert.FfnOut2RefIdeal.τ).loc Cert.FfnOut2RefIdeal.main_arg4))
      ∧ r.2.sem = fun _ => 0)

def quiescent_AoDw [hAoDw : Cert.AoDw.Facts] : Prop :=
  ∀ (m : (ℓ : Loc Cert.AoDw.nD Cert.AoDw.τ Cert.AoDw.sig) → Buf (Elt Bits) ℓ) (g : Dev Cert.AoDw.nD → PrngReg), Pre_AoDw m →
    θ_run (Cert.AoDw.defs (F := Bits)) (onTc (τ := Cert.AoDw.τ) (Cert.AoDw.main (F := Bits))) ⟨m, fun _ => 0, g⟩ (fun r => (∀ c : Dev Cert.AoDw.nD,
      r.2.mem ((c.tc : Thread Cert.AoDw.nD Cert.AoDw.τ).loc Cert.AoDw.main_arg0) = m ((c.tc : Thread Cert.AoDw.nD Cert.AoDw.τ).loc Cert.AoDw.main_arg0)
      ∧ r.2.mem ((c.tc : Thread Cert.AoDw.nD Cert.AoDw.τ).loc Cert.AoDw.main_arg1) = m ((c.tc : Thread Cert.AoDw.nD Cert.AoDw.τ).loc Cert.AoDw.main_arg1)
      ∧ r.2.mem ((c.tc : Thread Cert.AoDw.nD Cert.AoDw.τ).loc Cert.AoDw.main_arg2) = m ((c.tc : Thread Cert.AoDw.nD Cert.AoDw.τ).loc Cert.AoDw.main_arg2))
      ∧ r.2.sem = fun _ => 0)

def quiescent_AoDwIdeal [hAoDwIdeal : Cert.AoDwIdeal.Facts] : Prop :=
  ∀ (m : (ℓ : Loc Cert.AoDwIdeal.nD Cert.AoDwIdeal.τ Cert.AoDwIdeal.sig) → Buf (Elt Ideal) ℓ) (g : Dev Cert.AoDwIdeal.nD → PrngReg), Pre_AoDwIdeal m →
    θ_run (Cert.AoDwIdeal.defs (F := Ideal)) (onTc (τ := Cert.AoDwIdeal.τ) (Cert.AoDwIdeal.main (F := Ideal))) ⟨m, fun _ => 0, g⟩ (fun r => (∀ c : Dev Cert.AoDwIdeal.nD,
      r.2.mem ((c.tc : Thread Cert.AoDwIdeal.nD Cert.AoDwIdeal.τ).loc Cert.AoDwIdeal.main_arg0) = m ((c.tc : Thread Cert.AoDwIdeal.nD Cert.AoDwIdeal.τ).loc Cert.AoDwIdeal.main_arg0)
      ∧ r.2.mem ((c.tc : Thread Cert.AoDwIdeal.nD Cert.AoDwIdeal.τ).loc Cert.AoDwIdeal.main_arg1) = m ((c.tc : Thread Cert.AoDwIdeal.nD Cert.AoDwIdeal.τ).loc Cert.AoDwIdeal.main_arg1)
      ∧ r.2.mem ((c.tc : Thread Cert.AoDwIdeal.nD Cert.AoDwIdeal.τ).loc Cert.AoDwIdeal.main_arg2) = m ((c.tc : Thread Cert.AoDwIdeal.nD Cert.AoDwIdeal.τ).loc Cert.AoDwIdeal.main_arg2))
      ∧ r.2.sem = fun _ => 0)

def quiescent_AoDwRefIdeal [hAoDwRefIdeal : Cert.AoDwRefIdeal.Facts] : Prop :=
  ∀ (m : (ℓ : Loc Cert.AoDwRefIdeal.nD Cert.AoDwRefIdeal.τ Cert.AoDwRefIdeal.sig) → Buf (Elt Ideal) ℓ) (g : Dev Cert.AoDwRefIdeal.nD → PrngReg), Pre_AoDwRefIdeal m →
    θ_run (Cert.AoDwRefIdeal.defs (F := Ideal)) (onTc (τ := Cert.AoDwRefIdeal.τ) (Cert.AoDwRefIdeal.main (F := Ideal))) ⟨m, fun _ => 0, g⟩ (fun r => (∀ c : Dev Cert.AoDwRefIdeal.nD,
      r.2.mem ((c.tc : Thread Cert.AoDwRefIdeal.nD Cert.AoDwRefIdeal.τ).loc Cert.AoDwRefIdeal.main_arg0) = m ((c.tc : Thread Cert.AoDwRefIdeal.nD Cert.AoDwRefIdeal.τ).loc Cert.AoDwRefIdeal.main_arg0)
      ∧ r.2.mem ((c.tc : Thread Cert.AoDwRefIdeal.nD Cert.AoDwRefIdeal.τ).loc Cert.AoDwRefIdeal.main_arg1) = m ((c.tc : Thread Cert.AoDwRefIdeal.nD Cert.AoDwRefIdeal.τ).loc Cert.AoDwRefIdeal.main_arg1)
      ∧ r.2.mem ((c.tc : Thread Cert.AoDwRefIdeal.nD Cert.AoDwRefIdeal.τ).loc Cert.AoDwRefIdeal.main_arg2) = m ((c.tc : Thread Cert.AoDwRefIdeal.nD Cert.AoDwRefIdeal.τ).loc Cert.AoDwRefIdeal.main_arg2))
      ∧ r.2.sem = fun _ => 0)

def quiescent_AoDx [hAoDx : Cert.AoDx.Facts] : Prop :=
  ∀ (m : (ℓ : Loc Cert.AoDx.nD Cert.AoDx.τ Cert.AoDx.sig) → Buf (Elt Bits) ℓ) (g : Dev Cert.AoDx.nD → PrngReg), Pre_AoDx m →
    θ_run (Cert.AoDx.defs (F := Bits)) (onTc (τ := Cert.AoDx.τ) (Cert.AoDx.main (F := Bits))) ⟨m, fun _ => 0, g⟩ (fun r => (∀ c : Dev Cert.AoDx.nD,
      r.2.mem ((c.tc : Thread Cert.AoDx.nD Cert.AoDx.τ).loc Cert.AoDx.main_arg0) = m ((c.tc : Thread Cert.AoDx.nD Cert.AoDx.τ).loc Cert.AoDx.main_arg0)
      ∧ r.2.mem ((c.tc : Thread Cert.AoDx.nD Cert.AoDx.τ).loc Cert.AoDx.main_arg1) = m ((c.tc : Thread Cert.AoDx.nD Cert.AoDx.τ).loc Cert.AoDx.main_arg1))
      ∧ r.2.sem = fun _ => 0)

def quiescent_AoDxIdeal [hAoDxIdeal : Cert.AoDxIdeal.Facts] : Prop :=
  ∀ (m : (ℓ : Loc Cert.AoDxIdeal.nD Cert.AoDxIdeal.τ Cert.AoDxIdeal.sig) → Buf (Elt Ideal) ℓ) (g : Dev Cert.AoDxIdeal.nD → PrngReg), Pre_AoDxIdeal m →
    θ_run (Cert.AoDxIdeal.defs (F := Ideal)) (onTc (τ := Cert.AoDxIdeal.τ) (Cert.AoDxIdeal.main (F := Ideal))) ⟨m, fun _ => 0, g⟩ (fun r => (∀ c : Dev Cert.AoDxIdeal.nD,
      r.2.mem ((c.tc : Thread Cert.AoDxIdeal.nD Cert.AoDxIdeal.τ).loc Cert.AoDxIdeal.main_arg0) = m ((c.tc : Thread Cert.AoDxIdeal.nD Cert.AoDxIdeal.τ).loc Cert.AoDxIdeal.main_arg0)
      ∧ r.2.mem ((c.tc : Thread Cert.AoDxIdeal.nD Cert.AoDxIdeal.τ).loc Cert.AoDxIdeal.main_arg1) = m ((c.tc : Thread Cert.AoDxIdeal.nD Cert.AoDxIdeal.τ).loc Cert.AoDxIdeal.main_arg1))
      ∧ r.2.sem = fun _ => 0)

def quiescent_AoDxRefIdeal [hAoDxRefIdeal : Cert.AoDxRefIdeal.Facts] : Prop :=
  ∀ (m : (ℓ : Loc Cert.AoDxRefIdeal.nD Cert.AoDxRefIdeal.τ Cert.AoDxRefIdeal.sig) → Buf (Elt Ideal) ℓ) (g : Dev Cert.AoDxRefIdeal.nD → PrngReg), Pre_AoDxRefIdeal m →
    θ_run (Cert.AoDxRefIdeal.defs (F := Ideal)) (onTc (τ := Cert.AoDxRefIdeal.τ) (Cert.AoDxRefIdeal.main (F := Ideal))) ⟨m, fun _ => 0, g⟩ (fun r => (∀ c : Dev Cert.AoDxRefIdeal.nD,
      r.2.mem ((c.tc : Thread Cert.AoDxRefIdeal.nD Cert.AoDxRefIdeal.τ).loc Cert.AoDxRefIdeal.main_arg0) = m ((c.tc : Thread Cert.AoDxRefIdeal.nD Cert.AoDxRefIdeal.τ).loc Cert.AoDxRefIdeal.main_arg0)
      ∧ r.2.mem ((c.tc : Thread Cert.AoDxRefIdeal.nD Cert.AoDxRefIdeal.τ).loc Cert.AoDxRefIdeal.main_arg1) = m ((c.tc : Thread Cert.AoDxRefIdeal.nD Cert.AoDxRefIdeal.τ).loc Cert.AoDxRefIdeal.main_arg1))
      ∧ r.2.sem = fun _ => 0)

def quiescent_Bq [hBq : Cert.Bq.Facts] : Prop :=
  ∀ (m : (ℓ : Loc Cert.Bq.nD Cert.Bq.τ Cert.Bq.sig) → Buf (Elt Bits) ℓ) (g : Dev Cert.Bq.nD → PrngReg), Pre_Bq m →
    θ_run (Cert.Bq.defs (F := Bits)) (onTc (τ := Cert.Bq.τ) (Cert.Bq.main (F := Bits))) ⟨m, fun _ => 0, g⟩ (fun r => (∀ c : Dev Cert.Bq.nD,
      r.2.mem ((c.tc : Thread Cert.Bq.nD Cert.Bq.τ).loc Cert.Bq.main_arg0) = m ((c.tc : Thread Cert.Bq.nD Cert.Bq.τ).loc Cert.Bq.main_arg0)
      ∧ r.2.mem ((c.tc : Thread Cert.Bq.nD Cert.Bq.τ).loc Cert.Bq.main_arg1) = m ((c.tc : Thread Cert.Bq.nD Cert.Bq.τ).loc Cert.Bq.main_arg1))
      ∧ r.2.sem = fun _ => 0)

def quiescent_BqIdeal [hBqIdeal : Cert.BqIdeal.Facts] : Prop :=
  ∀ (m : (ℓ : Loc Cert.BqIdeal.nD Cert.BqIdeal.τ Cert.BqIdeal.sig) → Buf (Elt Ideal) ℓ) (g : Dev Cert.BqIdeal.nD → PrngReg), Pre_BqIdeal m →
    θ_run (Cert.BqIdeal.defs (F := Ideal)) (onTc (τ := Cert.BqIdeal.τ) (Cert.BqIdeal.main (F := Ideal))) ⟨m, fun _ => 0, g⟩ (fun r => (∀ c : Dev Cert.BqIdeal.nD,
      r.2.mem ((c.tc : Thread Cert.BqIdeal.nD Cert.BqIdeal.τ).loc Cert.BqIdeal.main_arg0) = m ((c.tc : Thread Cert.BqIdeal.nD Cert.BqIdeal.τ).loc Cert.BqIdeal.main_arg0)
      ∧ r.2.mem ((c.tc : Thread Cert.BqIdeal.nD Cert.BqIdeal.τ).loc Cert.BqIdeal.main_arg1) = m ((c.tc : Thread Cert.BqIdeal.nD Cert.BqIdeal.τ).loc Cert.BqIdeal.main_arg1))
      ∧ r.2.sem = fun _ => 0)

def quiescent_BqRefIdeal [hBqRefIdeal : Cert.BqRefIdeal.Facts] : Prop :=
  ∀ (m : (ℓ : Loc Cert.BqRefIdeal.nD Cert.BqRefIdeal.τ Cert.BqRefIdeal.sig) → Buf (Elt Ideal) ℓ) (g : Dev Cert.BqRefIdeal.nD → PrngReg), Pre_BqRefIdeal m →
    θ_run (Cert.BqRefIdeal.defs (F := Ideal)) (onTc (τ := Cert.BqRefIdeal.τ) (Cert.BqRefIdeal.main (F := Ideal))) ⟨m, fun _ => 0, g⟩ (fun r => (∀ c : Dev Cert.BqRefIdeal.nD,
      r.2.mem ((c.tc : Thread Cert.BqRefIdeal.nD Cert.BqRefIdeal.τ).loc Cert.BqRefIdeal.main_arg0) = m ((c.tc : Thread Cert.BqRefIdeal.nD Cert.BqRefIdeal.τ).loc Cert.BqRefIdeal.main_arg0)
      ∧ r.2.mem ((c.tc : Thread Cert.BqRefIdeal.nD Cert.BqRefIdeal.τ).loc Cert.BqRefIdeal.main_arg1) = m ((c.tc : Thread Cert.BqRefIdeal.nD Cert.BqRefIdeal.τ).loc Cert.BqRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1)
      ∧ r.2.mem ((c.tc : Thread Cert.KvDw.nD Cert.KvDw.τ).loc Cert.KvDw.main_arg2) = m ((c.tc : Thread Cert.KvDw.nD Cert.KvDw.τ).loc Cert.KvDw.main_arg2))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
      ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1)
      ∧ r.2.mem ((c.tc : Thread Cert.KvDwRefIdeal.nD Cert.KvDwRefIdeal.τ).loc Cert.KvDwRefIdeal.main_arg2) = m ((c.tc : Thread Cert.KvDwRefIdeal.nD Cert.KvDwRefIdeal.τ).loc Cert.KvDwRefIdeal.main_arg2))
      ∧ r.2.sem = fun _ => 0)

def quiescent_BqDw [hBqDw : Cert.BqDw.Facts] : Prop :=
  ∀ (m : (ℓ : Loc Cert.BqDw.nD Cert.BqDw.τ Cert.BqDw.sig) → Buf (Elt Bits) ℓ) (g : Dev Cert.BqDw.nD → PrngReg), Pre_BqDw m →
    θ_run (Cert.BqDw.defs (F := Bits)) (onTc (τ := Cert.BqDw.τ) (Cert.BqDw.main (F := Bits))) ⟨m, fun _ => 0, g⟩ (fun r => (∀ c : Dev Cert.BqDw.nD,
      r.2.mem ((c.tc : Thread Cert.BqDw.nD Cert.BqDw.τ).loc Cert.BqDw.main_arg0) = m ((c.tc : Thread Cert.BqDw.nD Cert.BqDw.τ).loc Cert.BqDw.main_arg0)
      ∧ r.2.mem ((c.tc : Thread Cert.BqDw.nD Cert.BqDw.τ).loc Cert.BqDw.main_arg1) = m ((c.tc : Thread Cert.BqDw.nD Cert.BqDw.τ).loc Cert.BqDw.main_arg1)
      ∧ r.2.mem ((c.tc : Thread Cert.BqDw.nD Cert.BqDw.τ).loc Cert.BqDw.main_arg2) = m ((c.tc : Thread Cert.BqDw.nD Cert.BqDw.τ).loc Cert.BqDw.main_arg2))
      ∧ r.2.sem = fun _ => 0)

def quiescent_BqDwIdeal [hBqDwIdeal : Cert.BqDwIdeal.Facts] : Prop :=
  ∀ (m : (ℓ : Loc Cert.BqDwIdeal.nD Cert.BqDwIdeal.τ Cert.BqDwIdeal.sig) → Buf (Elt Ideal) ℓ) (g : Dev Cert.BqDwIdeal.nD → PrngReg), Pre_BqDwIdeal m →
    θ_run (Cert.BqDwIdeal.defs (F := Ideal)) (onTc (τ := Cert.BqDwIdeal.τ) (Cert.BqDwIdeal.main (F := Ideal))) ⟨m, fun _ => 0, g⟩ (fun r => (∀ c : Dev Cert.BqDwIdeal.nD,
      r.2.mem ((c.tc : Thread Cert.BqDwIdeal.nD Cert.BqDwIdeal.τ).loc Cert.BqDwIdeal.main_arg0) = m ((c.tc : Thread Cert.BqDwIdeal.nD Cert.BqDwIdeal.τ).loc Cert.BqDwIdeal.main_arg0)
      ∧ r.2.mem ((c.tc : Thread Cert.BqDwIdeal.nD Cert.BqDwIdeal.τ).loc Cert.BqDwIdeal.main_arg1) = m ((c.tc : Thread Cert.BqDwIdeal.nD Cert.BqDwIdeal.τ).loc Cert.BqDwIdeal.main_arg1)
      ∧ r.2.mem ((c.tc : Thread Cert.BqDwIdeal.nD Cert.BqDwIdeal.τ).loc Cert.BqDwIdeal.main_arg2) = m ((c.tc : Thread Cert.BqDwIdeal.nD Cert.BqDwIdeal.τ).loc Cert.BqDwIdeal.main_arg2))
      ∧ r.2.sem = fun _ => 0)

def quiescent_BqDwRefIdeal [hBqDwRefIdeal : Cert.BqDwRefIdeal.Facts] : Prop :=
  ∀ (m : (ℓ : Loc Cert.BqDwRefIdeal.nD Cert.BqDwRefIdeal.τ Cert.BqDwRefIdeal.sig) → Buf (Elt Ideal) ℓ) (g : Dev Cert.BqDwRefIdeal.nD → PrngReg), Pre_BqDwRefIdeal m →
    θ_run (Cert.BqDwRefIdeal.defs (F := Ideal)) (onTc (τ := Cert.BqDwRefIdeal.τ) (Cert.BqDwRefIdeal.main (F := Ideal))) ⟨m, fun _ => 0, g⟩ (fun r => (∀ c : Dev Cert.BqDwRefIdeal.nD,
      r.2.mem ((c.tc : Thread Cert.BqDwRefIdeal.nD Cert.BqDwRefIdeal.τ).loc Cert.BqDwRefIdeal.main_arg0) = m ((c.tc : Thread Cert.BqDwRefIdeal.nD Cert.BqDwRefIdeal.τ).loc Cert.BqDwRefIdeal.main_arg0)
      ∧ r.2.mem ((c.tc : Thread Cert.BqDwRefIdeal.nD Cert.BqDwRefIdeal.τ).loc Cert.BqDwRefIdeal.main_arg1) = m ((c.tc : Thread Cert.BqDwRefIdeal.nD Cert.BqDwRefIdeal.τ).loc Cert.BqDwRefIdeal.main_arg1)
      ∧ r.2.mem ((c.tc : Thread Cert.BqDwRefIdeal.nD Cert.BqDwRefIdeal.τ).loc Cert.BqDwRefIdeal.main_arg2) = m ((c.tc : Thread Cert.BqDwRefIdeal.nD Cert.BqDwRefIdeal.τ).loc Cert.BqDwRefIdeal.main_arg2))
      ∧ r.2.sem = fun _ => 0)

def quiescent_Ao [hAo : Cert.Ao.Facts] : Prop :=
  ∀ (m : (ℓ : Loc Cert.Ao.nD Cert.Ao.τ Cert.Ao.sig) → Buf (Elt Bits) ℓ) (g : Dev Cert.Ao.nD → PrngReg), Pre_Ao m →
    θ_run (Cert.Ao.defs (F := Bits)) (onTc (τ := Cert.Ao.τ) (Cert.Ao.main (F := Bits))) ⟨m, fun _ => 0, g⟩ (fun r => (∀ c : Dev Cert.Ao.nD,
      r.2.mem ((c.tc : Thread Cert.Ao.nD Cert.Ao.τ).loc Cert.Ao.main_arg0) = m ((c.tc : Thread Cert.Ao.nD Cert.Ao.τ).loc Cert.Ao.main_arg0)
      ∧ r.2.mem ((c.tc : Thread Cert.Ao.nD Cert.Ao.τ).loc Cert.Ao.main_arg1) = m ((c.tc : Thread Cert.Ao.nD Cert.Ao.τ).loc Cert.Ao.main_arg1)
      ∧ r.2.mem ((c.tc : Thread Cert.Ao.nD Cert.Ao.τ).loc Cert.Ao.main_arg2) = m ((c.tc : Thread Cert.Ao.nD Cert.Ao.τ).loc Cert.Ao.main_arg2)
      ∧ r.2.mem ((c.tc : Thread Cert.Ao.nD Cert.Ao.τ).loc Cert.Ao.main_arg3) = m ((c.tc : Thread Cert.Ao.nD Cert.Ao.τ).loc Cert.Ao.main_arg3))
      ∧ r.2.sem = fun _ => 0)

def quiescent_AoIdeal [hAoIdeal : Cert.AoIdeal.Facts] : Prop :=
  ∀ (m : (ℓ : Loc Cert.AoIdeal.nD Cert.AoIdeal.τ Cert.AoIdeal.sig) → Buf (Elt Ideal) ℓ) (g : Dev Cert.AoIdeal.nD → PrngReg), Pre_AoIdeal m →
    θ_run (Cert.AoIdeal.defs (F := Ideal)) (onTc (τ := Cert.AoIdeal.τ) (Cert.AoIdeal.main (F := Ideal))) ⟨m, fun _ => 0, g⟩ (fun r => (∀ c : Dev Cert.AoIdeal.nD,
      r.2.mem ((c.tc : Thread Cert.AoIdeal.nD Cert.AoIdeal.τ).loc Cert.AoIdeal.main_arg0) = m ((c.tc : Thread Cert.AoIdeal.nD Cert.AoIdeal.τ).loc Cert.AoIdeal.main_arg0)
      ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
      ∧ r.2.mem ((c.tc : Thread Cert.AoIdeal.nD Cert.AoIdeal.τ).loc Cert.AoIdeal.main_arg2) = m ((c.tc : Thread Cert.AoIdeal.nD Cert.AoIdeal.τ).loc Cert.AoIdeal.main_arg2)
      ∧ r.2.mem ((c.tc : Thread Cert.AoIdeal.nD Cert.AoIdeal.τ).loc Cert.AoIdeal.main_arg3) = m ((c.tc : Thread Cert.AoIdeal.nD Cert.AoIdeal.τ).loc Cert.AoIdeal.main_arg3))
      ∧ r.2.sem = fun _ => 0)

def quiescent_AoRefIdeal [hAoRefIdeal : Cert.AoRefIdeal.Facts] : Prop :=
  ∀ (m : (ℓ : Loc Cert.AoRefIdeal.nD Cert.AoRefIdeal.τ Cert.AoRefIdeal.sig) → Buf (Elt Ideal) ℓ) (g : Dev Cert.AoRefIdeal.nD → PrngReg), Pre_AoRefIdeal m →
    θ_run (Cert.AoRefIdeal.defs (F := Ideal)) (onTc (τ := Cert.AoRefIdeal.τ) (Cert.AoRefIdeal.main (F := Ideal))) ⟨m, fun _ => 0, g⟩ (fun r => (∀ c : Dev Cert.AoRefIdeal.nD,
      r.2.mem ((c.tc : Thread Cert.AoRefIdeal.nD Cert.AoRefIdeal.τ).loc Cert.AoRefIdeal.main_arg0) = m ((c.tc : Thread Cert.AoRefIdeal.nD Cert.AoRefIdeal.τ).loc Cert.AoRefIdeal.main_arg0)
      ∧ r.2.mem ((c.tc : Thread Cert.AoRefIdeal.nD Cert.AoRefIdeal.τ).loc Cert.AoRefIdeal.main_arg1) = m ((c.tc : Thread Cert.AoRefIdeal.nD Cert.AoRefIdeal.τ).loc Cert.AoRefIdeal.main_arg1)
      ∧ r.2.mem ((c.tc : Thread Cert.AoRefIdeal.nD Cert.AoRefIdeal.τ).loc Cert.AoRefIdeal.main_arg2) = m ((c.tc : Thread Cert.AoRefIdeal.nD Cert.AoRefIdeal.τ).loc Cert.AoRefIdeal.main_arg2)
      ∧ r.2.mem ((c.tc : Thread Cert.AoRefIdeal.nD Cert.AoRefIdeal.τ).loc Cert.AoRefIdeal.main_arg3) = m ((c.tc : Thread Cert.AoRefIdeal.nD Cert.AoRefIdeal.τ).loc Cert.AoRefIdeal.main_arg3))
      ∧ r.2.sem = fun _ => 0)

def preserves_SwigluBwd_SwigluBwdIdeal : Prop :=
  True

def algebraic_SwigluBwdIdeal_SwigluRefIdeal_pre_swiglu_finite [hSwigluBwdIdeal : Cert.SwigluBwdIdeal.Facts] [hSwigluRefIdeal : Cert.SwigluRefIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluBwdIdeal_swiglu_finite m →
    (∀ c : Dev Cert.SwigluBwdIdeal.nD,
      m' ((c.tc : Thread Cert.SwigluRefIdeal.nD Cert.SwigluRefIdeal.τ).loc Cert.SwigluRefIdeal.main_arg0) = m ((c.tc : Thread Cert.SwigluBwdIdeal.nD Cert.SwigluBwdIdeal.τ).loc Cert.SwigluBwdIdeal.main_arg0)
      ∧ m' ((c.tc : Thread Cert.SwigluRefIdeal.nD Cert.SwigluRefIdeal.τ).loc Cert.SwigluRefIdeal.main_arg1) = m ((c.tc : Thread Cert.SwigluBwdIdeal.nD Cert.SwigluBwdIdeal.τ).loc Cert.SwigluBwdIdeal.main_arg1)
      ∧ m' ((c.tc : Thread Cert.SwigluRefIdeal.nD Cert.SwigluRefIdeal.τ).loc Cert.SwigluRefIdeal.main_arg2) = m ((c.tc : Thread Cert.SwigluBwdIdeal.nD Cert.SwigluBwdIdeal.τ).loc Cert.SwigluBwdIdeal.main_arg2)
      ∧ m' ((c.tc : Thread Cert.SwigluRefIdeal.nD Cert.SwigluRefIdeal.τ).loc Cert.SwigluRefIdeal.main_arg3) = m ((c.tc : Thread Cert.SwigluBwdIdeal.nD Cert.SwigluBwdIdeal.τ).loc Cert.SwigluBwdIdeal.main_arg3)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v15) = v0 c
          ∧ r.2.mem ((c.tc : Thread Cert.SwigluRefIdeal.nD Cert.SwigluRefIdeal.τ).loc Cert.SwigluRefIdeal.main_v16) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_FoxBwd_FoxBwdIdeal : Prop :=
  IdealRules.named_const.Statement Cert.FoxBwdIdeal.κ "mask" .f32 0xF149F2CA#32 ⊥

def algebraic_FoxBwdIdeal_FoxRefIdeal_pre_fox_finite [hFoxBwdIdeal : Cert.FoxBwdIdeal.Facts] [hFoxRefIdeal : Cert.FoxRefIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxBwdIdeal_fox_finite m →
    (∀ c : Dev Cert.FoxBwdIdeal.nD,
      m' ((c.tc : Thread Cert.FoxRefIdeal.nD Cert.FoxRefIdeal.τ).loc Cert.FoxRefIdeal.main_arg0) = m ((c.tc : Thread Cert.FoxBwdIdeal.nD Cert.FoxBwdIdeal.τ).loc Cert.FoxBwdIdeal.main_arg0)
      ∧ m' ((c.tc : Thread Cert.FoxRefIdeal.nD Cert.FoxRefIdeal.τ).loc Cert.FoxRefIdeal.main_arg1) = m ((c.tc : Thread Cert.FoxBwdIdeal.nD Cert.FoxBwdIdeal.τ).loc Cert.FoxBwdIdeal.main_arg1)
      ∧ m' ((c.tc : Thread Cert.FoxRefIdeal.nD Cert.FoxRefIdeal.τ).loc Cert.FoxRefIdeal.main_arg2) = m ((c.tc : Thread Cert.FoxBwdIdeal.nD Cert.FoxBwdIdeal.τ).loc Cert.FoxBwdIdeal.main_arg2)
      ∧ m' ((c.tc : Thread Cert.FoxRefIdeal.nD Cert.FoxRefIdeal.τ).loc Cert.FoxRefIdeal.main_arg3) = m ((c.tc : Thread Cert.FoxBwdIdeal.nD Cert.FoxBwdIdeal.τ).loc Cert.FoxBwdIdeal.main_arg3)) →
    ∃ (v0 : (c : Dev Cert.FoxBwdIdeal.nD) → Buf (Elt Ideal) ((c.tc : Thread Cert.FoxBwdIdeal.nD Cert.FoxBwdIdeal.τ).loc Cert.FoxBwdIdeal.main_v61_0)) (v1 : (c : Dev Cert.FoxBwdIdeal.nD) → Buf (Elt Ideal) ((c.tc : Thread Cert.FoxBwdIdeal.nD Cert.FoxBwdIdeal.τ).loc Cert.FoxBwdIdeal.main_v61_1)) (v2 : (c : Dev Cert.FoxBwdIdeal.nD) → Buf (Elt Ideal) ((c.tc : Thread Cert.FoxBwdIdeal.nD Cert.FoxBwdIdeal.τ).loc Cert.FoxBwdIdeal.main_v61_2)) (v3 : (c : Dev Cert.FoxBwdIdeal.nD) → Buf (Elt Ideal) ((c.tc : Thread Cert.FoxBwdIdeal.nD Cert.FoxBwdIdeal.τ).loc Cert.FoxBwdIdeal.main_v61_3)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v61_0) = v0 c
          ∧ r.2.mem ((c.tc : Thread Cert.FoxBwdIdeal.nD Cert.FoxBwdIdeal.τ).loc Cert.FoxBwdIdeal.main_v61_1) = v1 c
          ∧ r.2.mem ((c.tc : Thread Cert.FoxBwdIdeal.nD Cert.FoxBwdIdeal.τ).loc Cert.FoxBwdIdeal.main_v61_2) = v2 c
          ∧ r.2.mem ((c.tc : Thread Cert.FoxBwdIdeal.nD Cert.FoxBwdIdeal.τ).loc Cert.FoxBwdIdeal.main_v61_3) = v3 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v88) = v0 c
          ∧ r.2.mem ((c.tc : Thread Cert.FoxRefIdeal.nD Cert.FoxRefIdeal.τ).loc Cert.FoxRefIdeal.main_v91) = v1 c
          ∧ r.2.mem ((c.tc : Thread Cert.FoxRefIdeal.nD Cert.FoxRefIdeal.τ).loc Cert.FoxRefIdeal.main_v92) = v2 c
          ∧ r.2.mem ((c.tc : Thread Cert.FoxRefIdeal.nD Cert.FoxRefIdeal.τ).loc Cert.FoxRefIdeal.main_v90) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v13) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v9) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)) →
    ∃ (v0 : (c : Dev Cert.InDxIdeal.nD) → Buf (Elt Ideal) ((c.tc : Thread Cert.InDxIdeal.nD Cert.InDxIdeal.τ).loc Cert.InDxIdeal.main_v1_0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1_0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v44) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)
      ∧ m' ((c.tc : Thread Cert.QkvDwRefIdeal.nD Cert.QkvDwRefIdeal.τ).loc Cert.QkvDwRefIdeal.main_arg2) = m ((c.tc : Thread Cert.QkvDwIdeal.nD Cert.QkvDwIdeal.τ).loc Cert.QkvDwIdeal.main_arg2)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
          ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v9) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1)
          ∧ r.2.mem ((c.tc : Thread Cert.QkvDwRefIdeal.nD Cert.QkvDwRefIdeal.τ).loc Cert.QkvDwRefIdeal.main_arg2) = m' ((c.tc : Thread Cert.QkvDwRefIdeal.nD Cert.QkvDwRefIdeal.τ).loc Cert.QkvDwRefIdeal.main_arg2))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)
      ∧ m' ((c.tc : Thread Cert.QkvDxRefIdeal.nD Cert.QkvDxRefIdeal.τ).loc Cert.QkvDxRefIdeal.main_arg2) = m ((c.tc : Thread Cert.QkvDxIdeal.nD Cert.QkvDxIdeal.τ).loc Cert.QkvDxIdeal.main_arg2)
      ∧ m' ((c.tc : Thread Cert.QkvDxRefIdeal.nD Cert.QkvDxRefIdeal.τ).loc Cert.QkvDxRefIdeal.main_arg3) = m ((c.tc : Thread Cert.QkvDxIdeal.nD Cert.QkvDxIdeal.τ).loc Cert.QkvDxIdeal.main_arg3)
      ∧ m' ((c.tc : Thread Cert.QkvDxRefIdeal.nD Cert.QkvDxRefIdeal.τ).loc Cert.QkvDxRefIdeal.main_arg4) = m ((c.tc : Thread Cert.QkvDxIdeal.nD Cert.QkvDxIdeal.τ).loc Cert.QkvDxIdeal.main_arg4)) →
    ∃ (v0 : (c : Dev Cert.QkvDxIdeal.nD) → Buf (Elt Ideal) ((c.tc : Thread Cert.QkvDxIdeal.nD Cert.QkvDxIdeal.τ).loc Cert.QkvDxIdeal.main_v1_0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v1_0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
          ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
          ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v38) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1)
          ∧ r.2.mem ((c.tc : Thread Cert.QkvDxRefIdeal.nD Cert.QkvDxRefIdeal.τ).loc Cert.QkvDxRefIdeal.main_arg2) = m' ((c.tc : Thread Cert.QkvDxRefIdeal.nD Cert.QkvDxRefIdeal.τ).loc Cert.QkvDxRefIdeal.main_arg2)
          ∧ r.2.mem ((c.tc : Thread Cert.QkvDxRefIdeal.nD Cert.QkvDxRefIdeal.τ).loc Cert.QkvDxRefIdeal.main_arg3) = m' ((c.tc : Thread Cert.QkvDxRefIdeal.nD Cert.QkvDxRefIdeal.τ).loc Cert.QkvDxRefIdeal.main_arg3)
          ∧ r.2.mem ((c.tc : Thread Cert.QkvDxRefIdeal.nD Cert.QkvDxRefIdeal.τ).loc Cert.QkvDxRefIdeal.main_arg4) = m' ((c.tc : Thread Cert.QkvDxRefIdeal.nD Cert.QkvDxRefIdeal.τ).loc Cert.QkvDxRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v8) = v1 c
          ∧ r.2.mem ((c.tc : Thread Cert.FfnInRefIdeal.nD Cert.FfnInRefIdeal.τ).loc Cert.FfnInRefIdeal.main_v11) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v7) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_FfnOut1_FfnOut1Ideal : Prop :=
  True

def algebraic_FfnOut1Ideal_FfnOut1RefIdeal [hFfnOut1Ideal : Cert.FfnOut1Ideal.Facts] [hFfnOut1RefIdeal : Cert.FfnOut1RefIdeal.Facts] : Prop :=
  ∀ (m : (ℓ : Loc Cert.FfnOut1Ideal.nD Cert.FfnOut1Ideal.τ Cert.FfnOut1Ideal.sig) → Buf (Elt Ideal) ℓ) (g : Dev Cert.FfnOut1Ideal.nD → PrngReg)
    (m' : (ℓ : Loc Cert.FfnOut1RefIdeal.nD Cert.FfnOut1RefIdeal.τ Cert.FfnOut1RefIdeal.sig) → Buf (Elt Ideal) ℓ) (g' : Dev Cert.FfnOut1RefIdeal.nD → PrngReg), Pre_FfnOut1Ideal m →
    (∀ c : Dev Cert.FfnOut1Ideal.nD,
      m' ((c.tc : Thread Cert.FfnOut1RefIdeal.nD Cert.FfnOut1RefIdeal.τ).loc Cert.FfnOut1RefIdeal.main_arg0) = m ((c.tc : Thread Cert.FfnOut1Ideal.nD Cert.FfnOut1Ideal.τ).loc Cert.FfnOut1Ideal.main_arg0)
      ∧ m' ((c.tc : Thread Cert.FfnOut1RefIdeal.nD Cert.FfnOut1RefIdeal.τ).loc Cert.FfnOut1RefIdeal.main_arg1) = m ((c.tc : Thread Cert.FfnOut1Ideal.nD Cert.FfnOut1Ideal.τ).loc Cert.FfnOut1Ideal.main_arg1)
      ∧ m' ((c.tc : Thread Cert.FfnOut1RefIdeal.nD Cert.FfnOut1RefIdeal.τ).loc Cert.FfnOut1RefIdeal.main_arg2) = m ((c.tc : Thread Cert.FfnOut1Ideal.nD Cert.FfnOut1Ideal.τ).loc Cert.FfnOut1Ideal.main_arg2)
      ∧ m' ((c.tc : Thread Cert.FfnOut1RefIdeal.nD Cert.FfnOut1RefIdeal.τ).loc Cert.FfnOut1RefIdeal.main_arg3) = m ((c.tc : Thread Cert.FfnOut1Ideal.nD Cert.FfnOut1Ideal.τ).loc Cert.FfnOut1Ideal.main_arg3)) →
    ∃ (v0 : (c : Dev Cert.FfnOut1Ideal.nD) → Buf (Elt Ideal) ((c.tc : Thread Cert.FfnOut1Ideal.nD Cert.FfnOut1Ideal.τ).loc Cert.FfnOut1Ideal.main_v1_0)) (v1 : (c : Dev Cert.FfnOut1Ideal.nD) → Buf (Elt Ideal) ((c.tc : Thread Cert.FfnOut1Ideal.nD Cert.FfnOut1Ideal.τ).loc Cert.FfnOut1Ideal.main_v1_1)),
      θ_run (Cert.FfnOut1Ideal.defs (F := Ideal)) (onTc (τ := Cert.FfnOut1Ideal.τ) (Cert.FfnOut1Ideal.main (F := Ideal))) ⟨m, fun _ => 0, g⟩ (fun r => ∀ c : Dev Cert.FfnOut1Ideal.nD,
          r.2.mem ((c.tc : Thread Cert.FfnOut1Ideal.nD Cert.FfnOut1Ideal.τ).loc Cert.FfnOut1Ideal.main_v1_0) = v0 c
          ∧ r.2.mem ((c.tc : Thread Cert.FfnOut1Ideal.nD Cert.FfnOut1Ideal.τ).loc Cert.FfnOut1Ideal.main_v1_1) = v1 c
          ∧ r.2.mem ((c.tc : Thread Cert.FfnOut1Ideal.nD Cert.FfnOut1Ideal.τ).loc Cert.FfnOut1Ideal.main_arg0) = m ((c.tc : Thread Cert.FfnOut1Ideal.nD Cert.FfnOut1Ideal.τ).loc Cert.FfnOut1Ideal.main_arg0)
          ∧ r.2.mem ((c.tc : Thread Cert.FfnOut1Ideal.nD Cert.FfnOut1Ideal.τ).loc Cert.FfnOut1Ideal.main_arg1) = m ((c.tc : Thread Cert.FfnOut1Ideal.nD Cert.FfnOut1Ideal.τ).loc Cert.FfnOut1Ideal.main_arg1)
          ∧ r.2.mem ((c.tc : Thread Cert.FfnOut1Ideal.nD Cert.FfnOut1Ideal.τ).loc Cert.FfnOut1Ideal.main_arg2) = m ((c.tc : Thread Cert.FfnOut1Ideal.nD Cert.FfnOut1Ideal.τ).loc Cert.FfnOut1Ideal.main_arg2)
          ∧ r.2.mem ((c.tc : Thread Cert.FfnOut1Ideal.nD Cert.FfnOut1Ideal.τ).loc Cert.FfnOut1Ideal.main_arg3) = m ((c.tc : Thread Cert.FfnOut1Ideal.nD Cert.FfnOut1Ideal.τ).loc Cert.FfnOut1Ideal.main_arg3))
      ∧ θ_run (Cert.FfnOut1RefIdeal.defs (F := Ideal)) (onTc (τ := Cert.FfnOut1RefIdeal.τ) (Cert.FfnOut1RefIdeal.main (F := Ideal))) ⟨m', fun _ => 0, g'⟩ (fun r => ∀ c : Dev Cert.FfnOut1RefIdeal.nD,
          r.2.mem ((c.tc : Thread Cert.FfnOut1RefIdeal.nD Cert.FfnOut1RefIdeal.τ).loc Cert.FfnOut1RefIdeal.main_v7) = v0 c
          ∧ r.2.mem ((c.tc : Thread Cert.FfnOut1RefIdeal.nD Cert.FfnOut1RefIdeal.τ).loc Cert.FfnOut1RefIdeal.main_v21) = v1 c
          ∧ r.2.mem ((c.tc : Thread Cert.FfnOut1RefIdeal.nD Cert.FfnOut1RefIdeal.τ).loc Cert.FfnOut1RefIdeal.main_arg0) = m' ((c.tc : Thread Cert.FfnOut1RefIdeal.nD Cert.FfnOut1RefIdeal.τ).loc Cert.FfnOut1RefIdeal.main_arg0)
          ∧ r.2.mem ((c.tc : Thread Cert.FfnOut1RefIdeal.nD Cert.FfnOut1RefIdeal.τ).loc Cert.FfnOut1RefIdeal.main_arg1) = m' ((c.tc : Thread Cert.FfnOut1RefIdeal.nD Cert.FfnOut1RefIdeal.τ).loc Cert.FfnOut1RefIdeal.main_arg1)
          ∧ r.2.mem ((c.tc : Thread Cert.FfnOut1RefIdeal.nD Cert.FfnOut1RefIdeal.τ).loc Cert.FfnOut1RefIdeal.main_arg2) = m' ((c.tc : Thread Cert.FfnOut1RefIdeal.nD Cert.FfnOut1RefIdeal.τ).loc Cert.FfnOut1RefIdeal.main_arg2)
          ∧ r.2.mem ((c.tc : Thread Cert.FfnOut1RefIdeal.nD Cert.FfnOut1RefIdeal.τ).loc Cert.FfnOut1RefIdeal.main_arg3) = m' ((c.tc : Thread Cert.FfnOut1RefIdeal.nD Cert.FfnOut1RefIdeal.τ).loc Cert.FfnOut1RefIdeal.main_arg3))

def preserves_FfnOut2_FfnOut2Ideal : Prop :=
  True

def algebraic_FfnOut2Ideal_FfnOut2RefIdeal [hFfnOut2Ideal : Cert.FfnOut2Ideal.Facts] [hFfnOut2RefIdeal : Cert.FfnOut2RefIdeal.Facts] : Prop :=
  ∀ (m : (ℓ : Loc Cert.FfnOut2Ideal.nD Cert.FfnOut2Ideal.τ Cert.FfnOut2Ideal.sig) → Buf (Elt Ideal) ℓ) (g : Dev Cert.FfnOut2Ideal.nD → PrngReg)
    (m' : (ℓ : Loc Cert.FfnOut2RefIdeal.nD Cert.FfnOut2RefIdeal.τ Cert.FfnOut2RefIdeal.sig) → Buf (Elt Ideal) ℓ) (g' : Dev Cert.FfnOut2RefIdeal.nD → PrngReg), Pre_FfnOut2Ideal m →
    (∀ c : Dev Cert.FfnOut2Ideal.nD,
      m' ((c.tc : Thread Cert.FfnOut2RefIdeal.nD Cert.FfnOut2RefIdeal.τ).loc Cert.FfnOut2RefIdeal.main_arg0) = m ((c.tc : Thread Cert.FfnOut2Ideal.nD Cert.FfnOut2Ideal.τ).loc Cert.FfnOut2Ideal.main_arg0)
      ∧ m' ((c.tc : Thread Cert.FfnOut2RefIdeal.nD Cert.FfnOut2RefIdeal.τ).loc Cert.FfnOut2RefIdeal.main_arg1) = m ((c.tc : Thread Cert.FfnOut2Ideal.nD Cert.FfnOut2Ideal.τ).loc Cert.FfnOut2Ideal.main_arg1)
      ∧ m' ((c.tc : Thread Cert.FfnOut2RefIdeal.nD Cert.FfnOut2RefIdeal.τ).loc Cert.FfnOut2RefIdeal.main_arg2) = m ((c.tc : Thread Cert.FfnOut2Ideal.nD Cert.FfnOut2Ideal.τ).loc Cert.FfnOut2Ideal.main_arg2)
      ∧ m' ((c.tc : Thread Cert.FfnOut2RefIdeal.nD Cert.FfnOut2RefIdeal.τ).loc Cert.FfnOut2RefIdeal.main_arg3) = m ((c.tc : Thread Cert.FfnOut2Ideal.nD Cert.FfnOut2Ideal.τ).loc Cert.FfnOut2Ideal.main_arg3)
      ∧ m' ((c.tc : Thread Cert.FfnOut2RefIdeal.nD Cert.FfnOut2RefIdeal.τ).loc Cert.FfnOut2RefIdeal.main_arg4) = m ((c.tc : Thread Cert.FfnOut2Ideal.nD Cert.FfnOut2Ideal.τ).loc Cert.FfnOut2Ideal.main_arg4)) →
    ∃ (v0 : (c : Dev Cert.FfnOut2Ideal.nD) → Buf (Elt Ideal) ((c.tc : Thread Cert.FfnOut2Ideal.nD Cert.FfnOut2Ideal.τ).loc Cert.FfnOut2Ideal.main_v2_0)) (v1 : (c : Dev Cert.FfnOut2Ideal.nD) → Buf (Elt Ideal) ((c.tc : Thread Cert.FfnOut2Ideal.nD Cert.FfnOut2Ideal.τ).loc Cert.FfnOut2Ideal.main_v2_1)) (v2 : (c : Dev Cert.FfnOut2Ideal.nD) → Buf (Elt Ideal) ((c.tc : Thread Cert.FfnOut2Ideal.nD Cert.FfnOut2Ideal.τ).loc Cert.FfnOut2Ideal.main_v2_2)),
      θ_run (Cert.FfnOut2Ideal.defs (F := Ideal)) (onTc (τ := Cert.FfnOut2Ideal.τ) (Cert.FfnOut2Ideal.main (F := Ideal))) ⟨m, fun _ => 0, g⟩ (fun r => ∀ c : Dev Cert.FfnOut2Ideal.nD,
          r.2.mem ((c.tc : Thread Cert.FfnOut2Ideal.nD Cert.FfnOut2Ideal.τ).loc Cert.FfnOut2Ideal.main_v2_0) = v0 c
          ∧ r.2.mem ((c.tc : Thread Cert.FfnOut2Ideal.nD Cert.FfnOut2Ideal.τ).loc Cert.FfnOut2Ideal.main_v2_1) = v1 c
          ∧ r.2.mem ((c.tc : Thread Cert.FfnOut2Ideal.nD Cert.FfnOut2Ideal.τ).loc Cert.FfnOut2Ideal.main_v2_2) = v2 c
          ∧ r.2.mem ((c.tc : Thread Cert.FfnOut2Ideal.nD Cert.FfnOut2Ideal.τ).loc Cert.FfnOut2Ideal.main_arg0) = m ((c.tc : Thread Cert.FfnOut2Ideal.nD Cert.FfnOut2Ideal.τ).loc Cert.FfnOut2Ideal.main_arg0)
          ∧ r.2.mem ((c.tc : Thread Cert.FfnOut2Ideal.nD Cert.FfnOut2Ideal.τ).loc Cert.FfnOut2Ideal.main_arg1) = m ((c.tc : Thread Cert.FfnOut2Ideal.nD Cert.FfnOut2Ideal.τ).loc Cert.FfnOut2Ideal.main_arg1)
          ∧ r.2.mem ((c.tc : Thread Cert.FfnOut2Ideal.nD Cert.FfnOut2Ideal.τ).loc Cert.FfnOut2Ideal.main_arg2) = m ((c.tc : Thread Cert.FfnOut2Ideal.nD Cert.FfnOut2Ideal.τ).loc Cert.FfnOut2Ideal.main_arg2)
          ∧ r.2.mem ((c.tc : Thread Cert.FfnOut2Ideal.nD Cert.FfnOut2Ideal.τ).loc Cert.FfnOut2Ideal.main_arg3) = m ((c.tc : Thread Cert.FfnOut2Ideal.nD Cert.FfnOut2Ideal.τ).loc Cert.FfnOut2Ideal.main_arg3)
          ∧ r.2.mem ((c.tc : Thread Cert.FfnOut2Ideal.nD Cert.FfnOut2Ideal.τ).loc Cert.FfnOut2Ideal.main_arg4) = m ((c.tc : Thread Cert.FfnOut2Ideal.nD Cert.FfnOut2Ideal.τ).loc Cert.FfnOut2Ideal.main_arg4))
      ∧ θ_run (Cert.FfnOut2RefIdeal.defs (F := Ideal)) (onTc (τ := Cert.FfnOut2RefIdeal.τ) (Cert.FfnOut2RefIdeal.main (F := Ideal))) ⟨m', fun _ => 0, g'⟩ (fun r => ∀ c : Dev Cert.FfnOut2RefIdeal.nD,
          r.2.mem ((c.tc : Thread Cert.FfnOut2RefIdeal.nD Cert.FfnOut2RefIdeal.τ).loc Cert.FfnOut2RefIdeal.main_v7) = v0 c
          ∧ r.2.mem ((c.tc : Thread Cert.FfnOut2RefIdeal.nD Cert.FfnOut2RefIdeal.τ).loc Cert.FfnOut2RefIdeal.main_v21) = v1 c
          ∧ r.2.mem ((c.tc : Thread Cert.FfnOut2RefIdeal.nD Cert.FfnOut2RefIdeal.τ).loc Cert.FfnOut2RefIdeal.main_v35) = v2 c
          ∧ r.2.mem ((c.tc : Thread Cert.FfnOut2RefIdeal.nD Cert.FfnOut2RefIdeal.τ).loc Cert.FfnOut2RefIdeal.main_arg0) = m' ((c.tc : Thread Cert.FfnOut2RefIdeal.nD Cert.FfnOut2RefIdeal.τ).loc Cert.FfnOut2RefIdeal.main_arg0)
          ∧ r.2.mem ((c.tc : Thread Cert.FfnOut2RefIdeal.nD Cert.FfnOut2RefIdeal.τ).loc Cert.FfnOut2RefIdeal.main_arg1) = m' ((c.tc : Thread Cert.FfnOut2RefIdeal.nD Cert.FfnOut2RefIdeal.τ).loc Cert.FfnOut2RefIdeal.main_arg1)
          ∧ r.2.mem ((c.tc : Thread Cert.FfnOut2RefIdeal.nD Cert.FfnOut2RefIdeal.τ).loc Cert.FfnOut2RefIdeal.main_arg2) = m' ((c.tc : Thread Cert.FfnOut2RefIdeal.nD Cert.FfnOut2RefIdeal.τ).loc Cert.FfnOut2RefIdeal.main_arg2)
          ∧ r.2.mem ((c.tc : Thread Cert.FfnOut2RefIdeal.nD Cert.FfnOut2RefIdeal.τ).loc Cert.FfnOut2RefIdeal.main_arg3) = m' ((c.tc : Thread Cert.FfnOut2RefIdeal.nD Cert.FfnOut2RefIdeal.τ).loc Cert.FfnOut2RefIdeal.main_arg3)
          ∧ r.2.mem ((c.tc : Thread Cert.FfnOut2RefIdeal.nD Cert.FfnOut2RefIdeal.τ).loc Cert.FfnOut2RefIdeal.main_arg4) = m' ((c.tc : Thread Cert.FfnOut2RefIdeal.nD Cert.FfnOut2RefIdeal.τ).loc Cert.FfnOut2RefIdeal.main_arg4))

def preserves_AoDw_AoDwIdeal : Prop :=
  True

def algebraic_AoDwIdeal_AoDwRefIdeal [hAoDwIdeal : Cert.AoDwIdeal.Facts] [hAoDwRefIdeal : Cert.AoDwRefIdeal.Facts] : Prop :=
  ∀ (m : (ℓ : Loc Cert.AoDwIdeal.nD Cert.AoDwIdeal.τ Cert.AoDwIdeal.sig) → Buf (Elt Ideal) ℓ) (g : Dev Cert.AoDwIdeal.nD → PrngReg)
    (m' : (ℓ : Loc Cert.AoDwRefIdeal.nD Cert.AoDwRefIdeal.τ Cert.AoDwRefIdeal.sig) → Buf (Elt Ideal) ℓ) (g' : Dev Cert.AoDwRefIdeal.nD → PrngReg), Pre_AoDwIdeal m →
    (∀ c : Dev Cert.AoDwIdeal.nD,
      m' ((c.tc : Thread Cert.AoDwRefIdeal.nD Cert.AoDwRefIdeal.τ).loc Cert.AoDwRefIdeal.main_arg0) = m ((c.tc : Thread Cert.AoDwIdeal.nD Cert.AoDwIdeal.τ).loc Cert.AoDwIdeal.main_arg0)
      ∧ m' ((c.tc : Thread Cert.AoDwRefIdeal.nD Cert.AoDwRefIdeal.τ).loc Cert.AoDwRefIdeal.main_arg1) = m ((c.tc : Thread Cert.AoDwIdeal.nD Cert.AoDwIdeal.τ).loc Cert.AoDwIdeal.main_arg1)
      ∧ m' ((c.tc : Thread Cert.AoDwRefIdeal.nD Cert.AoDwRefIdeal.τ).loc Cert.AoDwRefIdeal.main_arg2) = m ((c.tc : Thread Cert.AoDwIdeal.nD Cert.AoDwIdeal.τ).loc Cert.AoDwIdeal.main_arg2)) →
    ∃ (v0 : (c : Dev Cert.AoDwIdeal.nD) → Buf (Elt Ideal) ((c.tc : Thread Cert.AoDwIdeal.nD Cert.AoDwIdeal.τ).loc Cert.AoDwIdeal.main_v0)),
      θ_run (Cert.AoDwIdeal.defs (F := Ideal)) (onTc (τ := Cert.AoDwIdeal.τ) (Cert.AoDwIdeal.main (F := Ideal))) ⟨m, fun _ => 0, g⟩ (fun r => ∀ c : Dev Cert.AoDwIdeal.nD,
          r.2.mem ((c.tc : Thread Cert.AoDwIdeal.nD Cert.AoDwIdeal.τ).loc Cert.AoDwIdeal.main_v0) = v0 c
          ∧ r.2.mem ((c.tc : Thread Cert.AoDwIdeal.nD Cert.AoDwIdeal.τ).loc Cert.AoDwIdeal.main_arg0) = m ((c.tc : Thread Cert.AoDwIdeal.nD Cert.AoDwIdeal.τ).loc Cert.AoDwIdeal.main_arg0)
          ∧ r.2.mem ((c.tc : Thread Cert.AoDwIdeal.nD Cert.AoDwIdeal.τ).loc Cert.AoDwIdeal.main_arg1) = m ((c.tc : Thread Cert.AoDwIdeal.nD Cert.AoDwIdeal.τ).loc Cert.AoDwIdeal.main_arg1)
          ∧ r.2.mem ((c.tc : Thread Cert.AoDwIdeal.nD Cert.AoDwIdeal.τ).loc Cert.AoDwIdeal.main_arg2) = m ((c.tc : Thread Cert.AoDwIdeal.nD Cert.AoDwIdeal.τ).loc Cert.AoDwIdeal.main_arg2))
      ∧ θ_run (Cert.AoDwRefIdeal.defs (F := Ideal)) (onTc (τ := Cert.AoDwRefIdeal.τ) (Cert.AoDwRefIdeal.main (F := Ideal))) ⟨m', fun _ => 0, g'⟩ (fun r => ∀ c : Dev Cert.AoDwRefIdeal.nD,
          r.2.mem ((c.tc : Thread Cert.AoDwRefIdeal.nD Cert.AoDwRefIdeal.τ).loc Cert.AoDwRefIdeal.main_v6) = v0 c
          ∧ r.2.mem ((c.tc : Thread Cert.AoDwRefIdeal.nD Cert.AoDwRefIdeal.τ).loc Cert.AoDwRefIdeal.main_arg0) = m' ((c.tc : Thread Cert.AoDwRefIdeal.nD Cert.AoDwRefIdeal.τ).loc Cert.AoDwRefIdeal.main_arg0)
          ∧ r.2.mem ((c.tc : Thread Cert.AoDwRefIdeal.nD Cert.AoDwRefIdeal.τ).loc Cert.AoDwRefIdeal.main_arg1) = m' ((c.tc : Thread Cert.AoDwRefIdeal.nD Cert.AoDwRefIdeal.τ).loc Cert.AoDwRefIdeal.main_arg1)
          ∧ r.2.mem ((c.tc : Thread Cert.AoDwRefIdeal.nD Cert.AoDwRefIdeal.τ).loc Cert.AoDwRefIdeal.main_arg2) = m' ((c.tc : Thread Cert.AoDwRefIdeal.nD Cert.AoDwRefIdeal.τ).loc Cert.AoDwRefIdeal.main_arg2))

def preserves_AoDx_AoDxIdeal : Prop :=
  True

def algebraic_AoDxIdeal_AoDxRefIdeal [hAoDxIdeal : Cert.AoDxIdeal.Facts] [hAoDxRefIdeal : Cert.AoDxRefIdeal.Facts] : Prop :=
  ∀ (m : (ℓ : Loc Cert.AoDxIdeal.nD Cert.AoDxIdeal.τ Cert.AoDxIdeal.sig) → Buf (Elt Ideal) ℓ) (g : Dev Cert.AoDxIdeal.nD → PrngReg)
    (m' : (ℓ : Loc Cert.AoDxRefIdeal.nD Cert.AoDxRefIdeal.τ Cert.AoDxRefIdeal.sig) → Buf (Elt Ideal) ℓ) (g' : Dev Cert.AoDxRefIdeal.nD → PrngReg), Pre_AoDxIdeal m →
    (∀ c : Dev Cert.AoDxIdeal.nD,
      m' ((c.tc : Thread Cert.AoDxRefIdeal.nD Cert.AoDxRefIdeal.τ).loc Cert.AoDxRefIdeal.main_arg0) = m ((c.tc : Thread Cert.AoDxIdeal.nD Cert.AoDxIdeal.τ).loc Cert.AoDxIdeal.main_arg0)
      ∧ m' ((c.tc : Thread Cert.AoDxRefIdeal.nD Cert.AoDxRefIdeal.τ).loc Cert.AoDxRefIdeal.main_arg1) = m ((c.tc : Thread Cert.AoDxIdeal.nD Cert.AoDxIdeal.τ).loc Cert.AoDxIdeal.main_arg1)) →
    ∃ (v0 : (c : Dev Cert.AoDxIdeal.nD) → Buf (Elt Ideal) ((c.tc : Thread Cert.AoDxIdeal.nD Cert.AoDxIdeal.τ).loc Cert.AoDxIdeal.main_v0)),
      θ_run (Cert.AoDxIdeal.defs (F := Ideal)) (onTc (τ := Cert.AoDxIdeal.τ) (Cert.AoDxIdeal.main (F := Ideal))) ⟨m, fun _ => 0, g⟩ (fun r => ∀ c : Dev Cert.AoDxIdeal.nD,
          r.2.mem ((c.tc : Thread Cert.AoDxIdeal.nD Cert.AoDxIdeal.τ).loc Cert.AoDxIdeal.main_v0) = v0 c
          ∧ r.2.mem ((c.tc : Thread Cert.AoDxIdeal.nD Cert.AoDxIdeal.τ).loc Cert.AoDxIdeal.main_arg0) = m ((c.tc : Thread Cert.AoDxIdeal.nD Cert.AoDxIdeal.τ).loc Cert.AoDxIdeal.main_arg0)
          ∧ r.2.mem ((c.tc : Thread Cert.AoDxIdeal.nD Cert.AoDxIdeal.τ).loc Cert.AoDxIdeal.main_arg1) = m ((c.tc : Thread Cert.AoDxIdeal.nD Cert.AoDxIdeal.τ).loc Cert.AoDxIdeal.main_arg1))
      ∧ θ_run (Cert.AoDxRefIdeal.defs (F := Ideal)) (onTc (τ := Cert.AoDxRefIdeal.τ) (Cert.AoDxRefIdeal.main (F := Ideal))) ⟨m', fun _ => 0, g'⟩ (fun r => ∀ c : Dev Cert.AoDxRefIdeal.nD,
          r.2.mem ((c.tc : Thread Cert.AoDxRefIdeal.nD Cert.AoDxRefIdeal.τ).loc Cert.AoDxRefIdeal.main_v5) = v0 c
          ∧ r.2.mem ((c.tc : Thread Cert.AoDxRefIdeal.nD Cert.AoDxRefIdeal.τ).loc Cert.AoDxRefIdeal.main_arg0) = m' ((c.tc : Thread Cert.AoDxRefIdeal.nD Cert.AoDxRefIdeal.τ).loc Cert.AoDxRefIdeal.main_arg0)
          ∧ r.2.mem ((c.tc : Thread Cert.AoDxRefIdeal.nD Cert.AoDxRefIdeal.τ).loc Cert.AoDxRefIdeal.main_arg1) = m' ((c.tc : Thread Cert.AoDxRefIdeal.nD Cert.AoDxRefIdeal.τ).loc Cert.AoDxRefIdeal.main_arg1))

def preserves_Bq_BqIdeal : Prop :=
  True

def algebraic_BqIdeal_BqRefIdeal [hBqIdeal : Cert.BqIdeal.Facts] [hBqRefIdeal : Cert.BqRefIdeal.Facts] : Prop :=
  ∀ (m : (ℓ : Loc Cert.BqIdeal.nD Cert.BqIdeal.τ Cert.BqIdeal.sig) → Buf (Elt Ideal) ℓ) (g : Dev Cert.BqIdeal.nD → PrngReg)
    (m' : (ℓ : Loc Cert.BqRefIdeal.nD Cert.BqRefIdeal.τ Cert.BqRefIdeal.sig) → Buf (Elt Ideal) ℓ) (g' : Dev Cert.BqRefIdeal.nD → PrngReg), Pre_BqIdeal m →
    (∀ c : Dev Cert.BqIdeal.nD,
      m' ((c.tc : Thread Cert.BqRefIdeal.nD Cert.BqRefIdeal.τ).loc Cert.BqRefIdeal.main_arg0) = m ((c.tc : Thread Cert.BqIdeal.nD Cert.BqIdeal.τ).loc Cert.BqIdeal.main_arg0)
      ∧ m' ((c.tc : Thread Cert.BqRefIdeal.nD Cert.BqRefIdeal.τ).loc Cert.BqRefIdeal.main_arg1) = m ((c.tc : Thread Cert.BqIdeal.nD Cert.BqIdeal.τ).loc Cert.BqIdeal.main_arg1)) →
    ∃ (v0 : (c : Dev Cert.BqIdeal.nD) → Buf (Elt Ideal) ((c.tc : Thread Cert.BqIdeal.nD Cert.BqIdeal.τ).loc Cert.BqIdeal.main_v0)),
      θ_run (Cert.BqIdeal.defs (F := Ideal)) (onTc (τ := Cert.BqIdeal.τ) (Cert.BqIdeal.main (F := Ideal))) ⟨m, fun _ => 0, g⟩ (fun r => ∀ c : Dev Cert.BqIdeal.nD,
          r.2.mem ((c.tc : Thread Cert.BqIdeal.nD Cert.BqIdeal.τ).loc Cert.BqIdeal.main_v0) = v0 c
          ∧ r.2.mem ((c.tc : Thread Cert.BqIdeal.nD Cert.BqIdeal.τ).loc Cert.BqIdeal.main_arg0) = m ((c.tc : Thread Cert.BqIdeal.nD Cert.BqIdeal.τ).loc Cert.BqIdeal.main_arg0)
          ∧ r.2.mem ((c.tc : Thread Cert.BqIdeal.nD Cert.BqIdeal.τ).loc Cert.BqIdeal.main_arg1) = m ((c.tc : Thread Cert.BqIdeal.nD Cert.BqIdeal.τ).loc Cert.BqIdeal.main_arg1))
      ∧ θ_run (Cert.BqRefIdeal.defs (F := Ideal)) (onTc (τ := Cert.BqRefIdeal.τ) (Cert.BqRefIdeal.main (F := Ideal))) ⟨m', fun _ => 0, g'⟩ (fun r => ∀ c : Dev Cert.BqRefIdeal.nD,
          r.2.mem ((c.tc : Thread Cert.BqRefIdeal.nD Cert.BqRefIdeal.τ).loc Cert.BqRefIdeal.main_v4) = v0 c
          ∧ r.2.mem ((c.tc : Thread Cert.BqRefIdeal.nD Cert.BqRefIdeal.τ).loc Cert.BqRefIdeal.main_arg0) = m' ((c.tc : Thread Cert.BqRefIdeal.nD Cert.BqRefIdeal.τ).loc Cert.BqRefIdeal.main_arg0)
          ∧ r.2.mem ((c.tc : Thread Cert.BqRefIdeal.nD Cert.BqRefIdeal.τ).loc Cert.BqRefIdeal.main_arg1) = m' ((c.tc : Thread Cert.BqRefIdeal.nD Cert.BqRefIdeal.τ).loc Cert.BqRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v4) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)
      ∧ m' ((c.tc : Thread Cert.KvDwRefIdeal.nD Cert.KvDwRefIdeal.τ).loc Cert.KvDwRefIdeal.main_arg2) = m ((c.tc : Thread Cert.KvDwIdeal.nD Cert.KvDwIdeal.τ).loc Cert.KvDwIdeal.main_arg2)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
          ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v8) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1)
          ∧ r.2.mem ((c.tc : Thread Cert.KvDwRefIdeal.nD Cert.KvDwRefIdeal.τ).loc Cert.KvDwRefIdeal.main_arg2) = m' ((c.tc : Thread Cert.KvDwRefIdeal.nD Cert.KvDwRefIdeal.τ).loc Cert.KvDwRefIdeal.main_arg2))

def preserves_BqDw_BqDwIdeal : Prop :=
  True

def algebraic_BqDwIdeal_BqDwRefIdeal [hBqDwIdeal : Cert.BqDwIdeal.Facts] [hBqDwRefIdeal : Cert.BqDwRefIdeal.Facts] : Prop :=
  ∀ (m : (ℓ : Loc Cert.BqDwIdeal.nD Cert.BqDwIdeal.τ Cert.BqDwIdeal.sig) → Buf (Elt Ideal) ℓ) (g : Dev Cert.BqDwIdeal.nD → PrngReg)
    (m' : (ℓ : Loc Cert.BqDwRefIdeal.nD Cert.BqDwRefIdeal.τ Cert.BqDwRefIdeal.sig) → Buf (Elt Ideal) ℓ) (g' : Dev Cert.BqDwRefIdeal.nD → PrngReg), Pre_BqDwIdeal m →
    (∀ c : Dev Cert.BqDwIdeal.nD,
      m' ((c.tc : Thread Cert.BqDwRefIdeal.nD Cert.BqDwRefIdeal.τ).loc Cert.BqDwRefIdeal.main_arg0) = m ((c.tc : Thread Cert.BqDwIdeal.nD Cert.BqDwIdeal.τ).loc Cert.BqDwIdeal.main_arg0)
      ∧ m' ((c.tc : Thread Cert.BqDwRefIdeal.nD Cert.BqDwRefIdeal.τ).loc Cert.BqDwRefIdeal.main_arg1) = m ((c.tc : Thread Cert.BqDwIdeal.nD Cert.BqDwIdeal.τ).loc Cert.BqDwIdeal.main_arg1)
      ∧ m' ((c.tc : Thread Cert.BqDwRefIdeal.nD Cert.BqDwRefIdeal.τ).loc Cert.BqDwRefIdeal.main_arg2) = m ((c.tc : Thread Cert.BqDwIdeal.nD Cert.BqDwIdeal.τ).loc Cert.BqDwIdeal.main_arg2)) →
    ∃ (v0 : (c : Dev Cert.BqDwIdeal.nD) → Buf (Elt Ideal) ((c.tc : Thread Cert.BqDwIdeal.nD Cert.BqDwIdeal.τ).loc Cert.BqDwIdeal.main_v0)),
      θ_run (Cert.BqDwIdeal.defs (F := Ideal)) (onTc (τ := Cert.BqDwIdeal.τ) (Cert.BqDwIdeal.main (F := Ideal))) ⟨m, fun _ => 0, g⟩ (fun r => ∀ c : Dev Cert.BqDwIdeal.nD,
          r.2.mem ((c.tc : Thread Cert.BqDwIdeal.nD Cert.BqDwIdeal.τ).loc Cert.BqDwIdeal.main_v0) = v0 c
          ∧ r.2.mem ((c.tc : Thread Cert.BqDwIdeal.nD Cert.BqDwIdeal.τ).loc Cert.BqDwIdeal.main_arg0) = m ((c.tc : Thread Cert.BqDwIdeal.nD Cert.BqDwIdeal.τ).loc Cert.BqDwIdeal.main_arg0)
          ∧ r.2.mem ((c.tc : Thread Cert.BqDwIdeal.nD Cert.BqDwIdeal.τ).loc Cert.BqDwIdeal.main_arg1) = m ((c.tc : Thread Cert.BqDwIdeal.nD Cert.BqDwIdeal.τ).loc Cert.BqDwIdeal.main_arg1)
          ∧ r.2.mem ((c.tc : Thread Cert.BqDwIdeal.nD Cert.BqDwIdeal.τ).loc Cert.BqDwIdeal.main_arg2) = m ((c.tc : Thread Cert.BqDwIdeal.nD Cert.BqDwIdeal.τ).loc Cert.BqDwIdeal.main_arg2))
      ∧ θ_run (Cert.BqDwRefIdeal.defs (F := Ideal)) (onTc (τ := Cert.BqDwRefIdeal.τ) (Cert.BqDwRefIdeal.main (F := Ideal))) ⟨m', fun _ => 0, g'⟩ (fun r => ∀ c : Dev Cert.BqDwRefIdeal.nD,
          r.2.mem ((c.tc : Thread Cert.BqDwRefIdeal.nD Cert.BqDwRefIdeal.τ).loc Cert.BqDwRefIdeal.main_v8) = v0 c
          ∧ r.2.mem ((c.tc : Thread Cert.BqDwRefIdeal.nD Cert.BqDwRefIdeal.τ).loc Cert.BqDwRefIdeal.main_arg0) = m' ((c.tc : Thread Cert.BqDwRefIdeal.nD Cert.BqDwRefIdeal.τ).loc Cert.BqDwRefIdeal.main_arg0)
          ∧ r.2.mem ((c.tc : Thread Cert.BqDwRefIdeal.nD Cert.BqDwRefIdeal.τ).loc Cert.BqDwRefIdeal.main_arg1) = m' ((c.tc : Thread Cert.BqDwRefIdeal.nD Cert.BqDwRefIdeal.τ).loc Cert.BqDwRefIdeal.main_arg1)
          ∧ r.2.mem ((c.tc : Thread Cert.BqDwRefIdeal.nD Cert.BqDwRefIdeal.τ).loc Cert.BqDwRefIdeal.main_arg2) = m' ((c.tc : Thread Cert.BqDwRefIdeal.nD Cert.BqDwRefIdeal.τ).loc Cert.BqDwRefIdeal.main_arg2))

def preserves_Ao_AoIdeal : Prop :=
  True

def algebraic_AoIdeal_AoRefIdeal [hAoIdeal : Cert.AoIdeal.Facts] [hAoRefIdeal : Cert.AoRefIdeal.Facts] : Prop :=
  ∀ (m : (ℓ : Loc Cert.AoIdeal.nD Cert.AoIdeal.τ Cert.AoIdeal.sig) → Buf (Elt Ideal) ℓ) (g : Dev Cert.AoIdeal.nD → PrngReg)
    (m' : (ℓ : Loc Cert.AoRefIdeal.nD Cert.AoRefIdeal.τ Cert.AoRefIdeal.sig) → Buf (Elt Ideal) ℓ) (g' : Dev Cert.AoRefIdeal.nD → PrngReg), Pre_AoIdeal m →
    (∀ c : Dev Cert.AoIdeal.nD,
      m' ((c.tc : Thread Cert.AoRefIdeal.nD Cert.AoRefIdeal.τ).loc Cert.AoRefIdeal.main_arg0) = m ((c.tc : Thread Cert.AoIdeal.nD Cert.AoIdeal.τ).loc Cert.AoIdeal.main_arg0)
      ∧ m' ((c.tc : Thread Cert.AoRefIdeal.nD Cert.AoRefIdeal.τ).loc Cert.AoRefIdeal.main_arg1) = m ((c.tc : Thread Cert.AoIdeal.nD Cert.AoIdeal.τ).loc Cert.AoIdeal.main_arg1)
      ∧ m' ((c.tc : Thread Cert.AoRefIdeal.nD Cert.AoRefIdeal.τ).loc Cert.AoRefIdeal.main_arg2) = m ((c.tc : Thread Cert.AoIdeal.nD Cert.AoIdeal.τ).loc Cert.AoIdeal.main_arg2)
      ∧ m' ((c.tc : Thread Cert.AoRefIdeal.nD Cert.AoRefIdeal.τ).loc Cert.AoRefIdeal.main_arg3) = m ((c.tc : Thread Cert.AoIdeal.nD Cert.AoIdeal.τ).loc Cert.AoIdeal.main_arg3)) →
    ∃ (v0 : (c : Dev Cert.AoIdeal.nD) → Buf (Elt Ideal) ((c.tc : Thread Cert.AoIdeal.nD Cert.AoIdeal.τ).loc Cert.AoIdeal.main_v1_0)) (v1 : (c : Dev Cert.AoIdeal.nD) → Buf (Elt Ideal) ((c.tc : Thread Cert.AoIdeal.nD Cert.AoIdeal.τ).loc Cert.AoIdeal.main_v1_1)),
      θ_run (Cert.AoIdeal.defs (F := Ideal)) (onTc (τ := Cert.AoIdeal.τ) (Cert.AoIdeal.main (F := Ideal))) ⟨m, fun _ => 0, g⟩ (fun r => ∀ c : Dev Cert.AoIdeal.nD,
          r.2.mem ((c.tc : Thread Cert.AoIdeal.nD Cert.AoIdeal.τ).loc Cert.AoIdeal.main_v1_0) = v0 c
          ∧ r.2.mem ((c.tc : Thread Cert.AoIdeal.nD Cert.AoIdeal.τ).loc Cert.AoIdeal.main_v1_1) = v1 c
          ∧ r.2.mem ((c.tc : Thread Cert.AoIdeal.nD Cert.AoIdeal.τ).loc Cert.AoIdeal.main_arg0) = m ((c.tc : Thread Cert.AoIdeal.nD Cert.AoIdeal.τ).loc Cert.AoIdeal.main_arg0)
          ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
          ∧ r.2.mem ((c.tc : Thread Cert.AoIdeal.nD Cert.AoIdeal.τ).loc Cert.AoIdeal.main_arg2) = m ((c.tc : Thread Cert.AoIdeal.nD Cert.AoIdeal.τ).loc Cert.AoIdeal.main_arg2)
          ∧ r.2.mem ((c.tc : Thread Cert.AoIdeal.nD Cert.AoIdeal.τ).loc Cert.AoIdeal.main_arg3) = m ((c.tc : Thread Cert.AoIdeal.nD Cert.AoIdeal.τ).loc Cert.AoIdeal.main_arg3))
      ∧ θ_run (Cert.AoRefIdeal.defs (F := Ideal)) (onTc (τ := Cert.AoRefIdeal.τ) (Cert.AoRefIdeal.main (F := Ideal))) ⟨m', fun _ => 0, g'⟩ (fun r => ∀ c : Dev Cert.AoRefIdeal.nD,
          r.2.mem ((c.tc : Thread Cert.AoRefIdeal.nD Cert.AoRefIdeal.τ).loc Cert.AoRefIdeal.main_v4) = v0 c
          ∧ r.2.mem ((c.tc : Thread Cert.AoRefIdeal.nD Cert.AoRefIdeal.τ).loc Cert.AoRefIdeal.main_v18) = v1 c
          ∧ r.2.mem ((c.tc : Thread Cert.AoRefIdeal.nD Cert.AoRefIdeal.τ).loc Cert.AoRefIdeal.main_arg0) = m' ((c.tc : Thread Cert.AoRefIdeal.nD Cert.AoRefIdeal.τ).loc Cert.AoRefIdeal.main_arg0)
          ∧ r.2.mem ((c.tc : Thread Cert.AoRefIdeal.nD Cert.AoRefIdeal.τ).loc Cert.AoRefIdeal.main_arg1) = m' ((c.tc : Thread Cert.AoRefIdeal.nD Cert.AoRefIdeal.τ).loc Cert.AoRefIdeal.main_arg1)
          ∧ r.2.mem ((c.tc : Thread Cert.AoRefIdeal.nD Cert.AoRefIdeal.τ).loc Cert.AoRefIdeal.main_arg2) = m' ((c.tc : Thread Cert.AoRefIdeal.nD Cert.AoRefIdeal.τ).loc Cert.AoRefIdeal.main_arg2)
          ∧ r.2.mem ((c.tc : Thread Cert.AoRefIdeal.nD Cert.AoRefIdeal.τ).loc Cert.AoRefIdeal.main_arg3) = m' ((c.tc : Thread Cert.AoRefIdeal.nD Cert.AoRefIdeal.τ).loc Cert.AoRefIdeal.main_arg3))

def Claim : Prop :=
  ∃ (hSwigluBwd : Cert.SwigluBwd.Facts) (hSwigluBwdIdeal : Cert.SwigluBwdIdeal.Facts) (hSwigluRefIdeal : Cert.SwigluRefIdeal.Facts) (hFoxBwd : Cert.FoxBwd.Facts) (hFoxBwdIdeal : Cert.FoxBwdIdeal.Facts) (hFoxRefIdeal : Cert.FoxRefIdeal.Facts) (hInDw : Cert.InDw.Facts) (hInDwIdeal : Cert.InDwIdeal.Facts) (hInDwRefIdeal : Cert.InDwRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hQkvDw : Cert.QkvDw.Facts) (hQkvDwIdeal : Cert.QkvDwIdeal.Facts) (hQkvDwRefIdeal : Cert.QkvDwRefIdeal.Facts) (hQkvDx : Cert.QkvDx.Facts) (hQkvDxIdeal : Cert.QkvDxIdeal.Facts) (hQkvDxRefIdeal : Cert.QkvDxRefIdeal.Facts) (hQkv : Cert.Qkv.Facts) (hQkvIdeal : Cert.QkvIdeal.Facts) (hQkvRefIdeal : Cert.QkvRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hFfnOut1 : Cert.FfnOut1.Facts) (hFfnOut1Ideal : Cert.FfnOut1Ideal.Facts) (hFfnOut1RefIdeal : Cert.FfnOut1RefIdeal.Facts) (hFfnOut2 : Cert.FfnOut2.Facts) (hFfnOut2Ideal : Cert.FfnOut2Ideal.Facts) (hFfnOut2RefIdeal : Cert.FfnOut2RefIdeal.Facts) (hAoDw : Cert.AoDw.Facts) (hAoDwIdeal : Cert.AoDwIdeal.Facts) (hAoDwRefIdeal : Cert.AoDwRefIdeal.Facts) (hAoDx : Cert.AoDx.Facts) (hAoDxIdeal : Cert.AoDxIdeal.Facts) (hAoDxRefIdeal : Cert.AoDxRefIdeal.Facts) (hBq : Cert.Bq.Facts) (hBqIdeal : Cert.BqIdeal.Facts) (hBqRefIdeal : Cert.BqRefIdeal.Facts) (hKv : Cert.Kv.Facts) (hKvIdeal : Cert.KvIdeal.Facts) (hKvRefIdeal : Cert.KvRefIdeal.Facts) (hKvDw : Cert.KvDw.Facts) (hKvDwIdeal : Cert.KvDwIdeal.Facts) (hKvDwRefIdeal : Cert.KvDwRefIdeal.Facts) (hBqDw : Cert.BqDw.Facts) (hBqDwIdeal : Cert.BqDwIdeal.Facts) (hBqDwRefIdeal : Cert.BqDwRefIdeal.Facts) (hAo : Cert.Ao.Facts) (hAoIdeal : Cert.AoIdeal.Facts) (hAoRefIdeal : Cert.AoRefIdeal.Facts) (hPre_swiglu_finite : Cert.Pre_swiglu_finite.Facts) (hPre_fox_finite : Cert.Pre_fox_finite.Facts),
    quiescent_SwigluBwd (hSwigluBwd := hSwigluBwd)
    ∧ quiescent_SwigluBwdIdeal (hSwigluBwdIdeal := hSwigluBwdIdeal)
    ∧ quiescent_SwigluBwdIdeal_pre_swiglu_finite (hSwigluBwdIdeal := hSwigluBwdIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_InDw (hInDw := hInDw)
    ∧ quiescent_InDwIdeal (hInDwIdeal := hInDwIdeal)
    ∧ quiescent_InDwRefIdeal (hInDwRefIdeal := hInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_Qkv (hQkv := hQkv)
    ∧ quiescent_QkvIdeal (hQkvIdeal := hQkvIdeal)
    ∧ quiescent_QkvRefIdeal (hQkvRefIdeal := hQkvRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOut1 (hFfnOut1 := hFfnOut1)
    ∧ quiescent_FfnOut1Ideal (hFfnOut1Ideal := hFfnOut1Ideal)
    ∧ quiescent_FfnOut1RefIdeal (hFfnOut1RefIdeal := hFfnOut1RefIdeal)
    ∧ quiescent_FfnOut2 (hFfnOut2 := hFfnOut2)
    ∧ quiescent_FfnOut2Ideal (hFfnOut2Ideal := hFfnOut2Ideal)
    ∧ quiescent_FfnOut2RefIdeal (hFfnOut2RefIdeal := hFfnOut2RefIdeal)
    ∧ quiescent_AoDw (hAoDw := hAoDw)
    ∧ quiescent_AoDwIdeal (hAoDwIdeal := hAoDwIdeal)
    ∧ quiescent_AoDwRefIdeal (hAoDwRefIdeal := hAoDwRefIdeal)
    ∧ quiescent_AoDx (hAoDx := hAoDx)
    ∧ quiescent_AoDxIdeal (hAoDxIdeal := hAoDxIdeal)
    ∧ quiescent_AoDxRefIdeal (hAoDxRefIdeal := hAoDxRefIdeal)
    ∧ quiescent_Bq (hBq := hBq)
    ∧ quiescent_BqIdeal (hBqIdeal := hBqIdeal)
    ∧ quiescent_BqRefIdeal (hBqRefIdeal := hBqRefIdeal)
    ∧ quiescent_Kv (hKv := hKv)
    ∧ quiescent_KvIdeal (hKvIdeal := hKvIdeal)
    ∧ quiescent_KvRefIdeal (hKvRefIdeal := hKvRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_BqDw (hBqDw := hBqDw)
    ∧ quiescent_BqDwIdeal (hBqDwIdeal := hBqDwIdeal)
    ∧ quiescent_BqDwRefIdeal (hBqDwRefIdeal := hBqDwRefIdeal)
    ∧ quiescent_Ao (hAo := hAo)
    ∧ quiescent_AoIdeal (hAoIdeal := hAoIdeal)
    ∧ quiescent_AoRefIdeal (hAoRefIdeal := hAoRefIdeal)
    ∧ preserves_SwigluBwd_SwigluBwdIdeal
    ∧ algebraic_SwigluBwdIdeal_SwigluRefIdeal_pre_swiglu_finite (hSwigluBwdIdeal := hSwigluBwdIdeal) (hSwigluRefIdeal := hSwigluRefIdeal) (hPre_swiglu_finite := hPre_swiglu_finite)
    ∧ preserves_FoxBwd_FoxBwdIdeal
    ∧ algebraic_FoxBwdIdeal_FoxRefIdeal_pre_fox_finite (hFoxBwdIdeal := hFoxBwdIdeal) (hFoxRefIdeal := hFoxRefIdeal) (hPre_fox_finite := hPre_fox_finite)
    ∧ preserves_InDw_InDwIdeal
    ∧ algebraic_InDwIdeal_InDwRefIdeal (hInDwIdeal := hInDwIdeal) (hInDwRefIdeal := hInDwRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_Qkv_QkvIdeal
    ∧ algebraic_QkvIdeal_QkvRefIdeal (hQkvIdeal := hQkvIdeal) (hQkvRefIdeal := hQkvRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOut1_FfnOut1Ideal
    ∧ algebraic_FfnOut1Ideal_FfnOut1RefIdeal (hFfnOut1Ideal := hFfnOut1Ideal) (hFfnOut1RefIdeal := hFfnOut1RefIdeal)
    ∧ preserves_FfnOut2_FfnOut2Ideal
    ∧ algebraic_FfnOut2Ideal_FfnOut2RefIdeal (hFfnOut2Ideal := hFfnOut2Ideal) (hFfnOut2RefIdeal := hFfnOut2RefIdeal)
    ∧ preserves_AoDw_AoDwIdeal
    ∧ algebraic_AoDwIdeal_AoDwRefIdeal (hAoDwIdeal := hAoDwIdeal) (hAoDwRefIdeal := hAoDwRefIdeal)
    ∧ preserves_AoDx_AoDxIdeal
    ∧ algebraic_AoDxIdeal_AoDxRefIdeal (hAoDxIdeal := hAoDxIdeal) (hAoDxRefIdeal := hAoDxRefIdeal)
    ∧ preserves_Bq_BqIdeal
    ∧ algebraic_BqIdeal_BqRefIdeal (hBqIdeal := hBqIdeal) (hBqRefIdeal := hBqRefIdeal)
    ∧ preserves_Kv_KvIdeal
    ∧ algebraic_KvIdeal_KvRefIdeal (hKvIdeal := hKvIdeal) (hKvRefIdeal := hKvRefIdeal)
    ∧ preserves_KvDw_KvDwIdeal
    ∧ algebraic_KvDwIdeal_KvDwRefIdeal (hKvDwIdeal := hKvDwIdeal) (hKvDwRefIdeal := hKvDwRefIdeal)
    ∧ preserves_BqDw_BqDwIdeal
    ∧ algebraic_BqDwIdeal_BqDwRefIdeal (hBqDwIdeal := hBqDwIdeal) (hBqDwRefIdeal := hBqDwRefIdeal)
    ∧ preserves_Ao_AoIdeal
    ∧ algebraic_AoIdeal_AoRefIdeal (hAoIdeal := hAoIdeal) (hAoRefIdeal := hAoRefIdeal)
-- ==== Pre_fox_finite.lean ====
abbrev S8192x1024 : Shape := ⟨2, ![8192, 1024]⟩
abbrev S8192x2048 : Shape := ⟨2, ![8192, 2048]⟩
abbrev S8192x128 : Shape := ⟨2, ![8192, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S8192x128 : S_.BroadcastsInDim S8192x128 (![] : Fin 0 → Fin S8192x128.rank)

variable [Facts]

def fn {F : FTy → Type} [FloatOps F] (main_arg0 : FVec F S8192x1024 .bf16) (main_arg1 : FVec F S8192x2048 .bf16) (main_arg2 : FVec F S8192x128 .f32) (main_arg3 : FVec F S8192x1024 .bf16) : IVec S8192x1024 1 × IVec S8192x2048 1 × IVec S8192x128 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8192x128 .f32 := Host.absf main_arg2
  let main_cst_1 : FVec F S_ .f32 := constant S_ .f32 0x7F800000#32
  let main_v9 : FVec F S8192x128 .f32 := broadcastInDim S8192x128 ![] bcast_S_S8192x128 main_cst_1
  let main_v10 : IVec S8192x128 1 := cmpf .olt main_v8 main_v9
  let main_v11 : FVec F S8192x1024 .f32 := (extf .f32 · bitsLt_bf16_f32) main_arg3
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  (main_v3, main_v7, main_v10, main_v14)
-- ==== Pre_swiglu_finite.lean ====
abbrev S8192x1024 : Shape := ⟨2, ![8192, 1024]⟩
abbrev S1x2816x1024 : Shape := ⟨3, ![1, 2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1x2816x1024 : S_.BroadcastsInDim S1x2816x1024 (![] : Fin 0 → Fin S1x2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S1x2816x1024 .bf16) (main_arg2 : FVec F S8192x2816 .bf16) (main_arg3 : FVec F S8192x2816 .bf16) : IVec S8192x1024 1 × IVec S1x2816x1024 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x2816x1024 .f32 := (extf .f32 · bitsLt_bf16_f32) main_arg1
  let main_v4 : FVec F S1x2816x1024 .f32 := Host.absf main_v3
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_v7 : FVec F S8192x2816 .f32 := (extf .f32 · bitsLt_bf16_f32) main_arg2
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  let main_v11 : FVec F S8192x2816 .f32 := (extf .f32 · bitsLt_bf16_f32) main_arg3
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  (main_v2, main_v6, main_v10, main_v14)
-- ==== SwigluBwd.lean ====
abbrev S8192x1024 : Shape := ⟨2, ![8192, 1024]⟩
abbrev S1x2816x1024 : Shape := ⟨3, ![1, 2816, 1024]⟩
abbrev S8192x2816 : Shape := ⟨2, ![8192, 2816]⟩
abbrev S512x1024 : Shape := ⟨2, ![512, 1024]⟩
abbrev S1x1408x1024 : Shape := ⟨3, ![1, 1408, 1024]⟩
abbrev S512x1408 : Shape := ⟨2, ![512, 1408]⟩
abbrev S1408x1024 : Shape := ⟨2, ![1408, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluRefIdeal.lean ====
abbrev S8192x1024 : Shape := ⟨2, ![8192, 1024]⟩
abbrev S1x2816x1024 : Shape := ⟨3, ![1, 2816, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .bf16⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== FoxBwd.lean ====
abbrev S8192x1024 : Shape := ⟨2, ![8192, 1024]⟩
abbrev S8192x2048 : Shape := ⟨2, ![8192, 2048]⟩
abbrev S8192x128 : Shape := ⟨2, ![8192, 128]⟩
abbrev S2x4096x16x64 : Shape := ⟨4, ![2, 4096, 16, 64]⟩
abbrev S8192x16 : Shape := ⟨2, ![8192, 16]⟩
abbrev S2x4096x16 : Shape := ⟨3, ![2, 4096, 16]⟩
abbrev S2x4096x16x1 : Shape := ⟨4, ![2, 4096, 16, 1]⟩
abbrev S_ : Shape := ⟨0, ![]⟩
abbrev S2x4096x16x61 : Shape := ⟨4, ![2, 4096, 16, 61]⟩
abbrev S2x4096x16x128 : Shape := ⟨4, ![2, 4096, 16, 128]⟩
abbrev S2x16x4096x4096 : Shape := ⟨4, ![2, 16, 4096, 4096]⟩
abbrev S2x16x4096 : Shape := ⟨3, ![2, 16, 4096]⟩
abbrev S2x16x1x4096 : Shape := ⟨4, ![2, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096x1 : Shape := ⟨4, ![2, 16, 4096, 1]⟩
abbrev S2x16x64x4096 : Shape := ⟨4, ![2, 16, 64, 4096]⟩
abbrev S16x2x4096 : Shape := ⟨3, ![16, 2, 4096]⟩
abbrev S16x8192 : Shape := ⟨2, ![16, 8192]⟩
abbrev S2x16x1024x256 : Shape := ⟨4, ![2, 16, 1024, 256]⟩
abbrev S256x1024 : Shape := ⟨2, ![256, 1024]⟩
abbrev S256x2048 : Shape := ⟨2, ![256, 2048]⟩
abbrev S16x256 : Shape := ⟨2, ![16, 256]⟩
abbrev S256x128 : Shape := ⟨2, ![256, 128]⟩
abbrev S16x1024x256 : Shape := ⟨3, ![16, 1024, 256]⟩
abbrev S128x256 : Shape := ⟨2, ![128, 256]⟩
abbrev S64x256 : Shape := ⟨2, ![64, 256]⟩
abbrev S256x256 : Shape := ⟨2, ![256, 256]⟩
abbrev S1x256 : Shape := ⟨2, ![1, 256]⟩
abbrev S256x1 : Shape := ⟨2, ![256, 1]⟩
abbrev S256 : Shape := ⟨1, ![256]⟩
abbrev S1x64x256 : Shape := ⟨3, ![1, 64, 256]⟩
abbrev S1x16x1024x256 : Shape := ⟨4, ![1, 16, 1024, 256]⟩

abbrev nBuf : Space → Nat
  | .hbm => 77
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x128, .f32⟩
  | .hbm, ⟨3, _⟩ => ⟨S8192x1024, .bf16⟩
  | .hbm, ⟨4, _⟩ => ⟨S8192x1024, .f32⟩
  | .hbm, ⟨5, _⟩ => ⟨S2x4096x16x64, .f32⟩
  | .hbm, ⟨6, _⟩ => ⟨S8192x1024, .bf16⟩
  | .hbm, ⟨7, _⟩ => ⟨S8192x1024, .f32⟩
  | .hbm, ⟨8, _⟩ => ⟨S2x4096x16x64, .f32⟩
  | .hbm, ⟨9, _⟩ => ⟨S8192x1024, .bf16⟩
  | .hbm, ⟨10, _⟩ => ⟨S8192x1024, .f32⟩
  | .hbm, ⟨11, _⟩ => ⟨S2x4096x16x64, .f32⟩
  | .hbm, ⟨12, _⟩ => ⟨S8192x1024, .f32⟩
  | .hbm, ⟨13, _⟩ => ⟨S2x4096x16x64, .f32⟩
  | .hbm, ⟨14, _⟩ => ⟨S8192x16, .f32⟩
  | .hbm, ⟨15, _⟩ => ⟨S2x4096x16, .f32⟩
  | .hbm, ⟨16, _⟩ => ⟨S2x4096x16, .f32⟩
  | .hbm, ⟨17, _⟩ => ⟨S2x4096x16, .bf16⟩
  | .hbm, ⟨18, _⟩ => ⟨S2x4096x16, .f32⟩
  | .hbm, ⟨19, _⟩ => ⟨S2x4096x16, .f32⟩
  | .hbm, ⟨20, _⟩ => ⟨S2x4096x16, .f32⟩
  | .hbm, ⟨21, _⟩ => ⟨S2x4096x16, .bf16⟩
  | .hbm, ⟨22, _⟩ => ⟨S2x4096x16, .f32⟩
  | .hbm, ⟨23, _⟩ => ⟨S2x4096x16, .f32⟩
  | .hbm, ⟨24, _⟩ => ⟨S2x4096x16, .f32⟩
  | .hbm, ⟨25, _⟩ => ⟨S2x4096x16, .f32⟩
  | .hbm, ⟨26, _⟩ => ⟨S2x4096x16x1, .f32⟩
  | .hbm, ⟨27, _⟩ => ⟨S2x4096x16x1, .f32⟩
  | .hbm, ⟨28, _⟩ => ⟨S2x4096x16x1, .f32⟩
  | .hbm, ⟨29, _⟩ => ⟨S_, .f32⟩
  | .hbm, ⟨30, _⟩ => ⟨S2x4096x16x61, .f32⟩
  | .hbm, ⟨31, _⟩ => ⟨S2x4096x16x128, .f32⟩
  | .hbm, ⟨32, _⟩ => ⟨S8192x2048, .f32⟩
  | .hbm, ⟨33, _⟩ => ⟨S8192x2048, .bf16⟩
  | .hbm, ⟨34, _⟩ => ⟨S2x16x4096x4096, .f32⟩
  | .hbm, ⟨35, _⟩ => ⟨S2x16x4096, .f32⟩
  | .hbm, ⟨36, _⟩ => ⟨S2x16x1x4096, .f32⟩
  | .hbm, ⟨37, _⟩ => ⟨S2x16x4096x4096, .f32⟩
  | .hbm, ⟨38, _⟩ => ⟨S2x16x4096x4096, .f32⟩
  | .hbm, ⟨39, _⟩ => ⟨S4096, .i32⟩
  | .hbm, ⟨40, _⟩ => ⟨S1x4096, .i32⟩
  | .hbm, ⟨41, _⟩ => ⟨S4096x1, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S_, .f32⟩
  | .hbm, ⟨46, _⟩ => ⟨S_, .f32⟩
  | .hbm, ⟨47, _⟩ => ⟨S2x16x4096x4096, .i1⟩
  | .hbm, ⟨48, _⟩ => ⟨S2x16x4096x4096, .f32⟩
  | .hbm, ⟨49, _⟩ => ⟨S2x16x4096x4096, .f32⟩
  | .hbm, ⟨50, _⟩ => ⟨S_, .f32⟩
  | .hbm, ⟨51, _⟩ => ⟨S2x16x4096, .f32⟩
  | .hbm, ⟨52, _⟩ => ⟨S2x16x4096x1, .f32⟩
  | .hbm, ⟨53, _⟩ => ⟨S2x16x4096x4096, .f32⟩
  | .hbm, ⟨54, _⟩ => ⟨S2x16x4096x4096, .f32⟩
  | .hbm, ⟨55, _⟩ => ⟨S2x16x4096x4096, .f32⟩
  | .hbm, ⟨56, _⟩ => ⟨S_, .f32⟩
  | .hbm, ⟨57, _⟩ => ⟨S2x16x4096, .f32⟩
  | .hbm, ⟨58, _⟩ => ⟨S2x16x4096x1, .f32⟩
  | .hbm, ⟨59, _⟩ => ⟨S2x16x4096x4096, .f32⟩
  | .hbm, ⟨60, _⟩ => ⟨S2x16x4096x4096, .f32⟩
  | .hbm, ⟨61, _⟩ => ⟨S2x16x64x4096, .f32⟩
  | .hbm, ⟨62, _⟩ => ⟨S2x4096x16x64, .f32⟩
  | .hbm, ⟨63, _⟩ => ⟨S2x16x4096x1, .f32⟩
  | .hbm, ⟨64, _⟩ => ⟨S2x16x4096x1, .f32⟩
  | .hbm, ⟨65, _⟩ => ⟨S2x16x4096, .f32⟩
  | .hbm, ⟨66, _⟩ => ⟨S16x2x4096, .f32⟩
  | .hbm, ⟨67, _⟩ => ⟨S16x8192, .f32⟩
  | .hbm, ⟨68, _⟩ => ⟨S2x4096x16x64, .f32⟩
  | .hbm, ⟨69, _⟩ => ⟨S_, .f32⟩
  | .hbm, ⟨70, _⟩ => ⟨S2x4096x16, .f32⟩
  | .hbm, ⟨71, _⟩ => ⟨S16x2x4096, .f32⟩
  | .hbm, ⟨72, _⟩ => ⟨S16x8192, .f32⟩
  | .hbm, ⟨73, _⟩ => ⟨S2x16x1024x256, .f32⟩
  | .hbm, ⟨74, _⟩ => ⟨S8192x1024, .f32⟩
  | .hbm, ⟨75, _⟩ => ⟨S8192x1024, .f32⟩
  | .hbm, ⟨76, _⟩ => ⟨S8192x128, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x128, .f32⟩
  | .local _ .vmem, ⟨17, _⟩ => ⟨S256x128, .f32⟩
  | .local _ .vmem, ⟨18, _⟩ => ⟨S16x1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_3 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61_0 : Ref sig .tc := ⟨.hbm, 73, rfl⟩
abbrev main_v61_1 : Ref sig .tc := ⟨.hbm, 74, rfl⟩
abbrev main_v61_2 : Ref sig .tc := ⟨.hbm, 75, rfl⟩
abbrev main_v61_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 16], ![false, false, false]⟩

def k0_cond3 (i : grid0.Coords) : BitVec 1 :=
  let arg2 : BitVec 32 := BitVec.ofNat 32 (i 2).val
  let arg1 : BitVec 32 := BitVec.ofNat 32 (i 1).val
  let v9 : BitVec 1 := Scalar.cmpi .sgt arg2 arg1
  let v10 : BitVec 32 := Scalar.extui v9
  let c0_i32_4 : BitVec 32 := 0#32
  let v11 : BitVec 1 := Scalar.cmpi .ne v10 c0_i32_4
  v11

def k0_off1 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v69 : Index := Scalar.indexCast v0
  let c0_30 : Index := 0#32
  let c0_31 : Index := 0#32
  ![v69.toNat, 0, 0]
def k0_off2 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v119 : Index := Scalar.indexCast v0
  let c64 : Index := 64#32
  let c0_53 : Index := 0#32
  ![v119.toNat, 64, 0]
def k0_off3 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v184 : Index := Scalar.indexCast v0
  let c128_89 : Index := 128#32
  let c0_90 : Index := 0#32
  ![v184.toNat, 128, 0]
def k0_off4 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v234 : Index := Scalar.indexCast v0
  let c192 : Index := 192#32
  let c0_113 : Index := 0#32
  ![v234.toNat, 192, 0]
def k0_off5 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v299 : Index := Scalar.indexCast v0
  let c256_149 : Index := 256#32
  let c0_150 : Index := 0#32
  ![v299.toNat, 256, 0]
def k0_off6 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v349 : Index := Scalar.indexCast v0
  let c320 : Index := 320#32
  let c0_173 : Index := 0#32
  ![v349.toNat, 320, 0]
def k0_off7 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v414 : Index := Scalar.indexCast v0
  let c384_209 : Index := 384#32
  let c0_210 : Index := 0#32
  ![v414.toNat, 384, 0]
def k0_off8 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v464 : Index := Scalar.indexCast v0
  let c448 : Index := 448#32
  let c0_233 : Index := 0#32
  ![v464.toNat, 448, 0]
def k0_off9 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v529 : Index := Scalar.indexCast v0
  let c512_269 : Index := 512#32
  let c0_270 : Index := 0#32
  ![v529.toNat, 512, 0]
def k0_off10 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v579 : Index := Scalar.indexCast v0
  let c576 : Index := 576#32
  let c0_293 : Index := 0#32
  ![v579.toNat, 576, 0]
def k0_off11 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v644 : Index := Scalar.indexCast v0
  let c640_329 : Index := 640#32
  let c0_330 : Index := 0#32
  ![v644.toNat, 640, 0]
def k0_off12 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v694 : Index := Scalar.indexCast v0
  let c704 : Index := 704#32
  let c0_353 : Index := 0#32
  ![v694.toNat, 704, 0]
def k0_off13 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v759 : Index := Scalar.indexCast v0
  let c768_389 : Index := 768#32
  let c0_390 : Index := 0#32
  ![v759.toNat, 768, 0]
def k0_off14 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v809 : Index := Scalar.indexCast v0
  let c832 : Index := 832#32
  let c0_413 : Index := 0#32
  ![v809.toNat, 832, 0]
def k0_off15 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v874 : Index := Scalar.indexCast v0
  let c896_449 : Index := 896#32
  let c0_450 : Index := 0#32
  ![v874.toNat, 896, 0]
def k0_off16 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v924 : Index := Scalar.indexCast v0
  let c960 : Index := 960#32
  let c0_473 : Index := 0#32
  ![v924.toNat, 960, 0]
def k0_cond4 (i : grid0.Coords) : BitVec 1 :=
  let arg2 : BitVec 32 := BitVec.ofNat 32 (i 2).val
  let arg1 : BitVec 32 := BitVec.ofNat 32 (i 1).val
  let v12 : BitVec 1 := Scalar.cmpi .eq arg2 arg1
  let v13 : BitVec 32 := Scalar.extui v12
  let c0_i32_5 : BitVec 32 := 0#32
  let v14 : BitVec 1 := Scalar.cmpi .ne v13 c0_i32_5
  v14

def k0_off17 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v74 : Index := Scalar.indexCast v0
  let c0_31 : Index := 0#32
  let c0_32 : Index := 0#32
  ![v74.toNat, 0, 0]
def k0_off18 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v129 : Index := Scalar.indexCast v0
  let c64 : Index := 64#32
  let c0_55 : Index := 0#32
  ![v129.toNat, 64, 0]
def k0_off19 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v199 : Index := Scalar.indexCast v0
  let c128_92 : Index := 128#32
  let c0_93 : Index := 0#32
  ![v199.toNat, 128, 0]
def k0_off20 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v254 : Index := Scalar.indexCast v0
  let c192 : Index := 192#32
  let c0_117 : Index := 0#32
  ![v254.toNat, 192, 0]
def k0_off21 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v324 : Index := Scalar.indexCast v0
  let c256_154 : Index := 256#32
  let c0_155 : Index := 0#32
  ![v324.toNat, 256, 0]
def k0_off22 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v379 : Index := Scalar.indexCast v0
  let c320 : Index := 320#32
  let c0_179 : Index := 0#32
  ![v379.toNat, 320, 0]
def k0_off23 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v449 : Index := Scalar.indexCast v0
  let c384_216 : Index := 384#32
  let c0_217 : Index := 0#32
  ![v449.toNat, 384, 0]
def k0_off24 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v504 : Index := Scalar.indexCast v0
  let c448 : Index := 448#32
  let c0_241 : Index := 0#32
  ![v504.toNat, 448, 0]
def k0_off25 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v574 : Index := Scalar.indexCast v0
  let c512_278 : Index := 512#32
  let c0_279 : Index := 0#32
  ![v574.toNat, 512, 0]
def k0_off26 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v629 : Index := Scalar.indexCast v0
  let c576 : Index := 576#32
  let c0_303 : Index := 0#32
  ![v629.toNat, 576, 0]
def k0_off27 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v699 : Index := Scalar.indexCast v0
  let c640_340 : Index := 640#32
  let c0_341 : Index := 0#32
  ![v699.toNat, 640, 0]
def k0_off28 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v754 : Index := Scalar.indexCast v0
  let c704 : Index := 704#32
  let c0_365 : Index := 0#32
  ![v754.toNat, 704, 0]
def k0_off29 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v824 : Index := Scalar.indexCast v0
  let c768_402 : Index := 768#32
  let c0_403 : Index := 0#32
  ![v824.toNat, 768, 0]
def k0_off30 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v879 : Index := Scalar.indexCast v0
  let c832 : Index := 832#32
  let c0_427 : Index := 0#32
  ![v879.toNat, 832, 0]
def k0_off31 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v949 : Index := Scalar.indexCast v0
  let c896_464 : Index := 896#32
  let c0_465 : Index := 0#32
  ![v949.toNat, 896, 0]
def k0_off32 (i : grid0.Coords) : Fin 3 → Nat :=
  let arg2 : BitVec 32 := BitVec.ofNat 32 (i 2).val
  let arg1 : BitVec 32 := BitVec.ofNat 32 (i 1).val
  let v0 : BitVec 32 := Scalar.maxsi arg2 arg1
  let v1004 : Index := Scalar.indexCast v0
  let c960 : Index := 960#32
  let c0_489 : Index := 0#32
  ![v1004.toNat, 960, 0]
def k0_cond5 (i : grid0.Coords) : BitVec 1 :=
  let arg1 : BitVec 32 := BitVec.ofNat 32 (i 1).val
  let c15_i32 : BitVec 32 := 15#32
  let v15 : BitVec 1 := Scalar.cmpi .eq arg1 c15_i32
  let arg2 : BitVec 32 := BitVec.ofNat 32 (i 2).val
  let c15_i32_6 : BitVec 32 := 15#32
  let v16 : BitVec 1 := Scalar.cmpi .eq arg2 c15_i32_6
  let v17 : BitVec 1 := Scalar.andi v15 v16
  let v18 : BitVec 32 := Scalar.extui v17
  let c0_i32_7 : BitVec 32 := 0#32
  let v19 : BitVec 1 := Scalar.cmpi .ne v18 c0_i32_7
  v19

def k0_off33 (i : grid0.Coords) : Fin 4 → Nat :=
  let arg0 : BitVec 32 := BitVec.ofNat 32 (i 0).val
  let c0_i32_8 : BitVec 32 := 0#32
  let c0_i32_9 : BitVec 32 := 0#32
  let c0_i32_10 : BitVec 32 := 0#32
  ![arg0.toNat, 0, 0, 0]
def k0_cond2 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.maxsi arg2 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.maxsi arg2 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.maxsi arg2 arg1
  let v2 : BitVec 32 := Scalar.addi v0 v1
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.maxsi arg2 arg1
  let v2 : BitVec 32 := Scalar.addi v0 v1
  let c0_i32 : BitVec 32 := 0#32
  let c0_i32_0 : BitVec 32 := 0#32
  ![c0_i32.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FoxBwdIdeal.lean ====
variable {F : FTy → Type} [FloatOps F] [Named F]
def κ : String → Option EReal := fun
  | "mask" => some ⊥
  | _ => none
-- ==== FoxRefIdeal.lean ====
abbrev S8192x1024 : Shape := ⟨2, ![8192, 1024]⟩
abbrev S8192x2048 : Shape := ⟨2, ![8192, 2048]⟩
abbrev S8192x128 : Shape := ⟨2, ![8192, 128]⟩
abbrev S2x4096x16x64 : Shape := ⟨4, ![2, 4096, 16, 64]⟩
abbrev S8192x16 : Shape := ⟨2, ![8192, 16]⟩
abbrev S2x4096x16 : Shape := ⟨3, ![2, 4096, 16]⟩
abbrev S2x16x4096x4096 : Shape := ⟨4, ![2, 16, 4096, 4096]⟩
abbrev S2x16x4096 : Shape := ⟨3, ![2, 16, 4096]⟩
abbrev S2x16x4096x1 : Shape := ⟨4, ![2, 16, 4096, 1]⟩
abbrev S2x16x1x4096 : Shape := ⟨4, ![2, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x16x64x4096 : Shape := ⟨4, ![2, 16, 64, 4096]⟩
abbrev S2x16x4096x64 : Shape := ⟨4, ![2, 16, 4096, 64]⟩
abbrev S2x16x256x1024 : Shape := ⟨4, ![2, 16, 256, 1024]⟩
abbrev S2x16x1024x256 : Shape := ⟨4, ![2, 16, 1024, 256]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x128, .f32⟩
  | .hbm, ⟨3, _⟩ => ⟨S8192x1024, .bf16⟩
  | .hbm, ⟨4, _⟩ => ⟨S8192x1024, .f32⟩
  | .hbm, ⟨5, _⟩ => ⟨S2x4096x16x64, .f32⟩
  | .hbm, ⟨6, _⟩ => ⟨S8192x1024, .bf16⟩
  | .hbm, ⟨7, _⟩ => ⟨S8192x1024, .f32⟩
  | .hbm, ⟨8, _⟩ => ⟨S2x4096x16x64, .f32⟩
  | .hbm, ⟨9, _⟩ => ⟨S8192x1024, .bf16⟩
  | .hbm, ⟨10, _⟩ => ⟨S8192x1024, .f32⟩
  | .hbm, ⟨11, _⟩ => ⟨S2x4096x16x64, .f32⟩
  | .hbm, ⟨12, _⟩ => ⟨S8192x16, .f32⟩
  | .hbm, ⟨13, _⟩ => ⟨S2x4096x16, .f32⟩
  | .hbm, ⟨14, _⟩ => ⟨S2x16x4096x4096, .f32⟩
  | .hbm, ⟨15, _⟩ => ⟨S2x16x4096, .f32⟩
  | .hbm, ⟨16, _⟩ => ⟨S2x16x4096x1, .f32⟩
  | .hbm, ⟨17, _⟩ => ⟨S2x16x1x4096, .f32⟩
  | .hbm, ⟨18, _⟩ => ⟨S2x16x4096x4096, .f32⟩
  | .hbm, ⟨19, _⟩ => ⟨S2x16x4096x4096, .f32⟩
  | .hbm, ⟨20, _⟩ => ⟨S2x16x4096x4096, .f32⟩
  | .hbm, ⟨21, _⟩ => ⟨S2x16x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S2x16x4096x4096, .f32⟩
  | .hbm, ⟨35, _⟩ => ⟨S_, .f32⟩
  | .hbm, ⟨36, _⟩ => ⟨S2x16x4096, .f32⟩
  | .hbm, ⟨37, _⟩ => ⟨S2x16x4096x1, .f32⟩
  | .hbm, ⟨38, _⟩ => ⟨S2x16x4096x4096, .f32⟩
  | .hbm, ⟨39, _⟩ => ⟨S2x16x4096x4096, .i1⟩
  | .hbm, ⟨40, _⟩ => ⟨S2x16x4096x4096, .f32⟩
  | .hbm, ⟨41, _⟩ => ⟨S_, .f32⟩
  | .hbm, ⟨42, _⟩ => ⟨S2x16x4096, .f32⟩
  | .hbm, ⟨43, _⟩ => ⟨S_, .f32⟩
  | .hbm, ⟨44, _⟩ => ⟨S2x16x4096, .f32⟩
  | .hbm, ⟨45, _⟩ => ⟨S2x16x4096, .f32⟩
  | .hbm, ⟨46, _⟩ => ⟨S_, .f32⟩
  | .hbm, ⟨47, _⟩ => ⟨S2x16x4096, .f32⟩
  | .hbm, ⟨48, _⟩ => ⟨S2x16x4096, .i1⟩
  | .hbm, ⟨49, _⟩ => ⟨S_, .f32⟩
  | .hbm, ⟨50, _⟩ => ⟨S2x16x4096, .f32⟩
  | .hbm, ⟨51, _⟩ => ⟨S2x16x4096, .i1⟩
  | .hbm, ⟨52, _⟩ => ⟨S_, .f32⟩
  | .hbm, ⟨53, _⟩ => ⟨S2x16x4096, .f32⟩
  | .hbm, ⟨54, _⟩ => ⟨S_, .f32⟩
  | .hbm, ⟨55, _⟩ => ⟨S2x16x4096, .f32⟩
  | .hbm, ⟨56, _⟩ => ⟨S_, .f32⟩
  | .hbm, ⟨57, _⟩ => ⟨S2x16x4096, .f32⟩
  | .hbm, ⟨58, _⟩ => ⟨S2x16x4096, .f32⟩
  | .hbm, ⟨59, _⟩ => ⟨S2x16x4096, .f32⟩
  | .hbm, ⟨60, _⟩ => ⟨S2x16x4096x1, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S_, .f32⟩
  | .hbm, ⟨65, _⟩ => ⟨S2x16x4096, .f32⟩
  | .hbm, ⟨66, _⟩ => ⟨S2x16x4096x1, .f32⟩
  | .hbm, ⟨67, _⟩ => ⟨S2x16x4096x4096, .f32⟩
  | .hbm, ⟨68, _⟩ => ⟨S2x16x4096x4096, .f32⟩
  | .hbm, ⟨69, _⟩ => ⟨S2x16x4096x1, .f32⟩
  | .hbm, ⟨70, _⟩ => ⟨S_, .f32⟩
  | .hbm, ⟨71, _⟩ => ⟨S2x16x4096x1, .f32⟩
  | .hbm, ⟨72, _⟩ => ⟨S2x16x4096x1, .f32⟩
  | .hbm, ⟨73, _⟩ => ⟨S2x16x64x4096, .f32⟩
  | .hbm, ⟨74, _⟩ => ⟨S2x4096x16x64, .f32⟩
  | .hbm, ⟨75, _⟩ => ⟨S8192x1024, .f32⟩
  | .hbm, ⟨76, _⟩ => ⟨S2x4096x16x64, .f32⟩
  | .hbm, ⟨77, _⟩ => ⟨S2x16x64x4096, .f32⟩
  | .hbm, ⟨78, _⟩ => ⟨S2x16x4096x4096, .f32⟩
  | .hbm, ⟨79, _⟩ => ⟨S2x16x64x4096, .f32⟩
  | .hbm, ⟨80, _⟩ => ⟨S2x4096x16x64, .f32⟩
  | .hbm, ⟨81, _⟩ => ⟨S2x16x4096x4096, .f32⟩
  | .hbm, ⟨82, _⟩ => ⟨S2x16x4096x4096, .f32⟩
  | .hbm, ⟨83, _⟩ => ⟨S2x16x4096x4096, .f32⟩
  | .hbm, ⟨84, _⟩ => ⟨S_, .f32⟩
  | .hbm, ⟨85, _⟩ => ⟨S2x16x4096, .f32⟩
  | .hbm, ⟨86, _⟩ => ⟨S2x16x4096x1, .f32⟩
  | .hbm, ⟨87, _⟩ => ⟨S2x16x4096x1, .f32⟩
  | .hbm, ⟨88, _⟩ => ⟨S2x16x4096x4096, .f32⟩
  | .hbm, ⟨89, _⟩ => ⟨S2x16x4096x4096, .f32⟩
  | .hbm, ⟨90, _⟩ => ⟨S_, .f32⟩
  | .hbm, ⟨91, _⟩ => ⟨S2x16x4096, .f32⟩
  | .hbm, ⟨92, _⟩ => ⟨S2x16x4096x4096, .f32⟩
  | .hbm, ⟨93, _⟩ => ⟨S2x16x4096x4096, .f32⟩
  | .hbm, ⟨94, _⟩ => ⟨S2x16x4096x4096, .f32⟩
  | .hbm, ⟨95, _⟩ => ⟨S_, .f32⟩
  | .hbm, ⟨96, _⟩ => ⟨S2x16x4096x4096, .f32⟩
  | .hbm, ⟨97, _⟩ => ⟨S2x16x4096x4096, .f32⟩
  | .hbm, ⟨98, _⟩ => ⟨S_, .f32⟩
  | .hbm, ⟨99, _⟩ => ⟨S2x16x4096, .f32⟩
  | .hbm, ⟨100, _⟩ => ⟨S2x16x4096x1, .f32⟩
  | .hbm, ⟨101, _⟩ => ⟨S2x16x4096x4096, .f32⟩
  | .hbm, ⟨102, _⟩ => ⟨S_, .f32⟩
  | .hbm, ⟨103, _⟩ => ⟨S2x16x4096, .f32⟩
  | .hbm, ⟨104, _⟩ => ⟨S2x16x1x4096, .f32⟩
  | .hbm, ⟨105, _⟩ => ⟨S_, .f32⟩
  | .hbm, ⟨106, _⟩ => ⟨S2x16x4096, .f32⟩
  | .hbm, ⟨107, _⟩ => ⟨S_, .f32⟩
  | .hbm, ⟨108, _⟩ => ⟨S2x16x4096, .f32⟩
  | .hbm, ⟨109, _⟩ => ⟨S2x16x4096, .f32⟩
  | .hbm, ⟨110, _⟩ => ⟨S2x4096x16, .f32⟩
  | .hbm, ⟨111, _⟩ => ⟨S2x16x4096x64, .f32⟩
  | .hbm, ⟨112, _⟩ => ⟨S2x4096x16x64, .f32⟩
  | .hbm, ⟨113, _⟩ => ⟨S2x16x4096x64, .f32⟩
  | .hbm, ⟨114, _⟩ => ⟨S2x4096x16x64, .f32⟩
  | .hbm, ⟨115, _⟩ => ⟨S2x16x256x1024, .f32⟩
  | .hbm, ⟨116, _⟩ => ⟨S2x16x1024x256, .f32⟩
  | .hbm, ⟨117, _⟩ => ⟨S8192x16, .f32⟩
  | .hbm, ⟨118, _⟩ => ⟨S_, .i32⟩
  | .hbm, ⟨119, _⟩ => ⟨S_, .f32⟩
  | .hbm, ⟨120, _⟩ => ⟨S8192x128, .f32⟩
  | .hbm, ⟨121, _⟩ => ⟨S8192x1024, .f32⟩
  | .hbm, ⟨122, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c : Ref sig .tc := ⟨.hbm, 118, rfl⟩
abbrev main_call2_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== InDw.lean ====
abbrev S8192x1024 : Shape := ⟨2, ![8192, 1024]⟩
abbrev S8192x2816 : Shape := ⟨2, ![8192, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .f32⟩
  | .local _ .vmem, ⟨7, _⟩ => ⟨S1x1024x1408, .f32⟩
  | .local _ .vmem, ⟨8, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond4 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c1_i32_13 : BitVec 32 := 1#32
  let v36 : BitVec 1 := Scalar.cmpi .eq v35 c1_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDwRefIdeal.lean ====
abbrev S8192x1024 : Shape := ⟨2, ![8192, 1024]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S5632x1024, .f32⟩
  | .hbm, ⟨17, _⟩ => ⟨S1024x5632, .f32⟩
  | .hbm, ⟨18, _⟩ => ⟨S1024x4x1408, .f32⟩
  | .hbm, ⟨19, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutDw.lean ====
abbrev S8192x2816 : Shape := ⟨2, ![8192, 2816]⟩
abbrev S8192x1024 : Shape := ⟨2, ![8192, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S1x2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg1 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== InDx.lean ====
abbrev S8192x2816 : Shape := ⟨2, ![8192, 2816]⟩
abbrev S4x1024x1408 : Shape := ⟨3, ![4, 1024, 1408]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8x1024, .f32⟩
  | .hbm, ⟨9, _⟩ => ⟨S_, .f32⟩
  | .hbm, ⟨10, _⟩ => ⟨S1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 4], ![false, false]⟩

def k0_cond5 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_20 : BitVec 32 := 0#32
  let v50 : BitVec 1 := Scalar.cmpi .ne v49 c0_i32_20
  v50

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== InDxRefIdeal.lean ====
abbrev S8192x2816 : Shape := ⟨2, ![8192, 2816]⟩
abbrev S4x1024x1408 : Shape := ⟨3, ![4, 1024, 1408]⟩
abbrev S8192x1024 : Shape := ⟨2, ![8192, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 60
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== QkvDw.lean ====
abbrev S8192x1024 : Shape := ⟨2, ![8192, 1024]⟩
abbrev S8192x9216 : Shape := ⟨2, ![8192, 9216]⟩
abbrev S4x1024x2304 : Shape := ⟨3, ![4, 1024, 2304]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S4x1024x2304, .bf16⟩
  | .hbm, ⟨3, _⟩ => ⟨S4x1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c8_i32_6 : BitVec 32 := 8#32
  let v19 : BitVec 32 := Scalar.divsi arg1 c8_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c8_i32_6 c0_i32_9
  let v26 : BitVec 32 := Scalar.extui v25
  let c0_i32_10 : BitVec 32 := 0#32
  let v27 : BitVec 1 := Scalar.cmpi .slt c8_i32_6 c0_i32_10
  let v28 : BitVec 32 := Scalar.extui v27
  let v29 : BitVec 32 := Scalar.subi v26 v28
  let v30 : BitVec 1 := Scalar.cmpi .ne v24 v29
  let v31 : BitVec 32 := Scalar.remsi arg1 c8_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c8_i32_14 : BitVec 32 := 8#32
  let c0_i32_15 : BitVec 32 := 0#32
  let v37 : BitVec 1 := Scalar.cmpi .eq c8_i32_14 c0_i32_15
  let c1_i32_16 : BitVec 32 := 1#32
  let v38 : BitVec 32 := Scalar.select v37 c1_i32_16 c8_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S8192x1024 : Shape := ⟨2, ![8192, 1024]⟩
abbrev S8192x9216 : Shape := ⟨2, ![8192, 9216]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S9216x1024 : Shape := ⟨2, ![9216, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S4x1024x2304, .bf16⟩
  | .hbm, ⟨3, _⟩ => ⟨S4x1024x2304, .f32⟩
  | .hbm, ⟨4, _⟩ => ⟨S1024x4x2304, .f32⟩
  | .hbm, ⟨5, _⟩ => ⟨S1024x9216, .f32⟩
  | .hbm, ⟨6, _⟩ => ⟨S8192x1024, .f32⟩
  | .hbm, ⟨7, _⟩ => ⟨S8192x9216, .f32⟩
  | .hbm, ⟨8, _⟩ => ⟨S8192x9216, .f32⟩
  | .hbm, ⟨9, _⟩ => ⟨S9216x1024, .f32⟩
  | .hbm, ⟨10, _⟩ => ⟨S1024x9216, .f32⟩
  | .hbm, ⟨11, _⟩ => ⟨S1024x4x2304, .f32⟩
  | .hbm, ⟨12, _⟩ => ⟨S4x1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== QkvDx.lean ====
abbrev S8192x9216 : Shape := ⟨2, ![8192, 9216]⟩
abbrev S4x1024x2304 : Shape := ⟨3, ![4, 1024, 2304]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x1152 : Shape := ⟨2, ![512, 1152]⟩
abbrev S1x1024x1152 : Shape := ⟨3, ![1, 1024, 1152]⟩
abbrev S512x1024 : Shape := ⟨2, ![512, 1024]⟩
abbrev S1024x1152 : Shape := ⟨2, ![1024, 1152]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S8192x9216, .bf16⟩
  | .hbm, ⟨1, _⟩ => ⟨S4x1024x2304, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8x1024, .f32⟩
  | .hbm, ⟨8, _⟩ => ⟨S_, .f32⟩
  | .hbm, ⟨9, _⟩ => ⟨S1024, .f32⟩
  | .local _ .vmem, ⟨0, _⟩ => ⟨S512x1152, .bf16⟩
  | .local _ .vmem, ⟨1, _⟩ => ⟨S512x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 8], ![false, false, false]⟩

def k0_cond3 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_9 : BitVec 32 := 0#32
  let v12 : BitVec 1 := Scalar.cmpi .eq arg0 c0_i32_9
  let arg2 : BitVec 32 := BitVec.ofNat 32 (i 2).val
  let c0_i32_10 : BitVec 32 := 0#32
  let v13 : BitVec 1 := Scalar.cmpi .eq arg2 c0_i32_10
  let v14 : BitVec 1 := Scalar.andi v12 v13
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== QkvDxRefIdeal.lean ====
abbrev S8192x9216 : Shape := ⟨2, ![8192, 9216]⟩
abbrev S4x1024x2304 : Shape := ⟨3, ![4, 1024, 2304]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x2304 : Shape := ⟨3, ![1024, 4, 2304]⟩
abbrev S1024x9216 : Shape := ⟨2, ![1024, 9216]⟩

abbrev nBuf : Space → Nat
  | .hbm => 51
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S4x1024x2304, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S4x1024x2304, .f32⟩
  | .hbm, ⟨26, _⟩ => ⟨S1024x4x2304, .f32⟩
  | .hbm, ⟨27, _⟩ => ⟨S1024x9216, .f32⟩
  | .hbm, ⟨28, _⟩ => ⟨S8192x9216, .f32⟩
  | .hbm, ⟨29, _⟩ => ⟨S8192x9216, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Qkv.lean ====
abbrev S8192x1024 : Shape := ⟨2, ![8192, 1024]⟩
abbrev S4x1024x2304 : Shape := ⟨3, ![4, 1024, 2304]⟩
abbrev S8192x9216 : Shape := ⟨2, ![8192, 9216]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x2304, .bf16⟩
  | .hbm, ⟨2, _⟩ => ⟨S8192x9216, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S8192x1024 : Shape := ⟨2, ![8192, 1024]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S8192x9216 : Shape := ⟨2, ![8192, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x2304, .bf16⟩
  | .hbm, ⟨2, _⟩ => ⟨S8192x1024, .f32⟩
  | .hbm, ⟨3, _⟩ => ⟨S4x1024x2304, .f32⟩
  | .hbm, ⟨4, _⟩ => ⟨S1024x4x2304, .f32⟩
  | .hbm, ⟨5, _⟩ => ⟨S1024x9216, .f32⟩
  | .hbm, ⟨6, _⟩ => ⟨S8192x9216, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnIn.lean ====
abbrev S8192x1024 : Shape := ⟨2, ![8192, 1024]⟩
abbrev S4x1024x1408 : Shape := ⟨3, ![4, 1024, 1408]⟩
abbrev S8192x2816 : Shape := ⟨2, ![8192, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.addi arg0 c2_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S8192x1024 : Shape := ⟨2, ![8192, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .bf16⟩
  | .hbm, ⟨10, _⟩ => ⟨S8192x2816, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== FfnOut.lean ====
abbrev S8192x2816 : Shape := ⟨2, ![8192, 2816]⟩
abbrev S1x2816x1024 : Shape := ⟨3, ![1, 2816, 1024]⟩
abbrev S8192x1024 : Shape := ⟨2, ![8192, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1x1024 : Shape := ⟨3, ![2816, 1, 1024]⟩
abbrev S2816x1024 : Shape := ⟨2, ![2816, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x2816, .f32⟩
  | .hbm, ⟨4, _⟩ => ⟨S1x2816x1024, .f32⟩
  | .hbm, ⟨5, _⟩ => ⟨S2816x1x1024, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnOut1.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S1x1024 : Shape := ⟨2, ![1, 1024]⟩
abbrev S512x1408 : Shape := ⟨2, ![512, 1408]⟩
abbrev S1x1408x1024 : Shape := ⟨3, ![1, 1408, 1024]⟩
abbrev S512x1024 : Shape := ⟨2, ![512, 1024]⟩
abbrev S1408x1024 : Shape := ⟨2, ![1408, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1408, .bf16⟩
  | .local _ .vmem, ⟨1, _⟩ => ⟨S512x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnOut1RefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S2816x1x1024 : Shape := ⟨3, ![2816, 1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S1x2816x1024, .f32⟩
  | .hbm, ⟨6, _⟩ => ⟨S2816x1x1024, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== FfnOut2.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S1x1024 : Shape := ⟨2, ![1, 1024]⟩
abbrev S512x1408 : Shape := ⟨2, ![512, 1408]⟩
abbrev S1x1408x1024 : Shape := ⟨3, ![1, 1408, 1024]⟩
abbrev S512x1024 : Shape := ⟨2, ![512, 1024]⟩
abbrev S1408x1024 : Shape := ⟨2, ![1408, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .local _ .vmem, ⟨0, _⟩ => ⟨S512x1408, .bf16⟩
  | .local _ .vmem, ⟨1, _⟩ => ⟨S512x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnOut2RefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S2816x1x1024 : Shape := ⟨3, ![2816, 1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x2816, .f32⟩
  | .hbm, ⟨6, _⟩ => ⟨S1x2816x1024, .f32⟩
  | .hbm, ⟨7, _⟩ => ⟨S2816x1x1024, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== AoDw.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .bf16⟩
  | .hbm, ⟨3, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg1 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AoDwRefIdeal.lean ====
abbrev S8192x1024 : Shape := ⟨2, ![8192, 1024]⟩
abbrev S1x1024x1024 : Shape := ⟨3, ![1, 1024, 1024]⟩
abbrev S1024x1x1024 : Shape := ⟨3, ![1024, 1, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .bf16⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AoDx.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AoDxRefIdeal.lean ====
abbrev S8192x1024 : Shape := ⟨2, ![8192, 1024]⟩
abbrev S1x1024x1024 : Shape := ⟨3, ![1, 1024, 1024]⟩
abbrev S_ : Shape := ⟨0, ![]⟩
abbrev S1024x1x1024 : Shape := ⟨3, ![1024, 1, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S_, .f32⟩
  | .hbm, ⟨3, _⟩ => ⟨S8192x1024, .f32⟩
  | .hbm, ⟨4, _⟩ => ⟨S1x1024x1024, .f32⟩
  | .hbm, ⟨5, _⟩ => ⟨S1024x1x1024, .f32⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Bq.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BqRefIdeal.lean ====
abbrev S8192x1024 : Shape := ⟨2, ![8192, 1024]⟩
abbrev S1x1024x1024 : Shape := ⟨3, ![1, 1024, 1024]⟩
abbrev S1024x1x1024 : Shape := ⟨3, ![1024, 1, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kv.lean ====
abbrev S8192x1024 : Shape := ⟨2, ![8192, 1024]⟩
abbrev S1x1024x2304 : Shape := ⟨3, ![1, 1024, 2304]⟩
abbrev S8192x2304 : Shape := ⟨2, ![8192, 2304]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x2304, .bf16⟩
  | .hbm, ⟨2, _⟩ => ⟨S8192x2304, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S8192x1024 : Shape := ⟨2, ![8192, 1024]⟩
abbrev S1x1024x2304 : Shape := ⟨3, ![1, 1024, 2304]⟩
abbrev S1024x1x2304 : Shape := ⟨3, ![1024, 1, 2304]⟩
abbrev S1024x2304 : Shape := ⟨2, ![1024, 2304]⟩
abbrev S8192x2304 : Shape := ⟨2, ![8192, 2304]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x2304, .bf16⟩
  | .hbm, ⟨2, _⟩ => ⟨S8192x1024, .f32⟩
  | .hbm, ⟨3, _⟩ => ⟨S1x1024x2304, .f32⟩
  | .hbm, ⟨4, _⟩ => ⟨S1024x1x2304, .f32⟩
  | .hbm, ⟨5, _⟩ => ⟨S1024x2304, .f32⟩
  | .hbm, ⟨6, _⟩ => ⟨S8192x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KvDw.lean ====
abbrev S8192x1024 : Shape := ⟨2, ![8192, 1024]⟩
abbrev S8192x2304 : Shape := ⟨2, ![8192, 2304]⟩
abbrev S1x1024x2304 : Shape := ⟨3, ![1, 1024, 2304]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1x1024x2304, .bf16⟩
  | .hbm, ⟨3, _⟩ => ⟨S1x1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S8192x1024 : Shape := ⟨2, ![8192, 1024]⟩
abbrev S8192x2304 : Shape := ⟨2, ![8192, 2304]⟩
abbrev S1x1024x2304 : Shape := ⟨3, ![1, 1024, 2304]⟩
abbrev S1024x1x2304 : Shape := ⟨3, ![1024, 1, 2304]⟩
abbrev S1024x2304 : Shape := ⟨2, ![1024, 2304]⟩
abbrev S2304x1024 : Shape := ⟨2, ![2304, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1x1024x2304, .bf16⟩
  | .hbm, ⟨3, _⟩ => ⟨S1x1024x2304, .f32⟩
  | .hbm, ⟨4, _⟩ => ⟨S1024x1x2304, .f32⟩
  | .hbm, ⟨5, _⟩ => ⟨S1024x2304, .f32⟩
  | .hbm, ⟨6, _⟩ => ⟨S8192x1024, .f32⟩
  | .hbm, ⟨7, _⟩ => ⟨S8192x2304, .f32⟩
  | .hbm, ⟨8, _⟩ => ⟨S8192x2304, .f32⟩
  | .hbm, ⟨9, _⟩ => ⟨S2304x1024, .f32⟩
  | .hbm, ⟨10, _⟩ => ⟨S1024x2304, .f32⟩
  | .hbm, ⟨11, _⟩ => ⟨S1x1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BqDw.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .hbm, ⟨3, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg1 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BqDwRefIdeal.lean ====
abbrev S8192x1024 : Shape := ⟨2, ![8192, 1024]⟩
abbrev S1x1024x1024 : Shape := ⟨3, ![1, 1024, 1024]⟩
abbrev S1024x1x1024 : Shape := ⟨3, ![1024, 1, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ao.lean ====
abbrev S8192x1024 : Shape := ⟨2, ![8192, 1024]⟩
abbrev S1x1024x1024 : Shape := ⟨3, ![1, 1024, 1024]⟩
abbrev S1024 : Shape := ⟨1, ![1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AoRefIdeal.lean ====
abbrev S8192x1024 : Shape := ⟨2, ![8192, 1024]⟩
abbrev S1x1024x1024 : Shape := ⟨3, ![1, 1024, 1024]⟩
abbrev S1024 : Shape := ⟨1, ![1024]⟩
abbrev S1024x1x1024 : Shape := ⟨3, ![1024, 1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .f32⟩
  | .hbm, ⟨3, _⟩ => ⟨S1024, .f32⟩
  | .hbm, ⟨4, _⟩ => ⟨S1x1024x1024, .f32⟩
  | .hbm, ⟨5, _⟩ => ⟨S1024x1x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Finite.lean ====
/-
  Finite extended reals: what the mask `|a| < ∞` says of an element, and the arithmetic of finite values (the coercion from
  the reals carries sums, products, exponentials and quotients).
-/
module

public import Idealize.ShloMosaic.PureOps.Ideal.Laws
public import Idealize.ShloMosaic.Lib.StableHlo

@[expose] public section

noncomputable section

namespace Cert.Finite

open Idealize.ShloMosaic

/-- The f32 word of +∞ is the top of the extended reals. -/
theorem ofBits_inf : Ideal.ofBits .f32 0x7F800000#32 = ⊤ := by simp [Ideal.ofBits, Ideal.ieee]

/-- The f32 word of 1/2. -/
theorem ofBits_half : Ideal.ofBits .f32 0x3F000000#32 = ((1 / 2 : ℝ) : EReal) := by
  simp [Ideal.ofBits, Ideal.ieee, -EReal.coe_mul]; norm_num

/-- The f32 word of 1. -/
theorem ofBits_one : Ideal.ofBits .f32 0x3F800000#32 = ((1 : ℝ) : EReal) := by
  simp [Ideal.ofBits, Ideal.ieee, -EReal.coe_mul, -EReal.coe_one]; norm_num

/-- An extended real whose absolute value lies below +∞ is a real number. -/
theorem real_of_cmp (x : EReal) (h : Ideal.cmp .olt (max x (-x)) ⊤ = 1#1) : x = ((x.toReal : ℝ) : EReal) := by
  have h' : max x (-x) < ⊤ := by
    by_contra hn
    simp [Ideal.cmp, hn] at h
  obtain ⟨h1, h2⟩ := max_lt_iff.mp h'
  refine (EReal.coe_toReal h1.ne ?_).symm
  intro hb
  rw [hb] at h2
  simp at h2

/-- A sum of reals is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- 1 / (1 + e^{-g}) at a real `g`. -/
theorem sigmoid_coe (g : ℝ) :
    Ideal.div ((1 : ℝ) : EReal) (((1 : ℝ) : EReal) + Ideal.exp (-(g : EReal))) = ((1 / (1 + Real.exp (-g)) : ℝ) : EReal) := by
  have hp : (0 : ℝ) < 1 + Real.exp (-g) := by positivity
  rw [← EReal.coe_neg]
  show Ideal.div _ (_ + ((Real.exp (-g) : ℝ) : EReal)) = _
  rw [← EReal.coe_add, Ideal.div_coe hp.ne', EReal.coe_one, one_mul]

end Cert.Finite

end
-- ==== Proof.SwigluBlock.lean ====
/-
  The SwiGLU half-step's backward call, one block: what the kernel's two payloads are at an index, over the extended reals.
-/
module

public import proofs.«01_k».proof.Proof.Gen.SwigluBwdIdeal.Value
public import proofs.«01_k».proof.Proof.Finite
public import Idealize.ShloMosaic.Lib.Pointwise
public import Idealize.ShloMosaic.Lib.ValueIdx

@[expose] public section

set_option maxRecDepth 16384

noncomputable section

namespace Cert.Swiglu

open Idealize.ShloMosaic Cert.SwigluBwdIdeal.Gen Cert.Finite

/-- The logistic function of a real. -/
def sg (g : ℝ) : ℝ := 1 / (1 + Real.exp (-g))

/-- The product's gradient before the gate, `½ Σₖ dhₖ wₖ`. -/
def da {K : Nat} (dh w : Fin K → ℝ) : ℝ := 1 / 2 * ∑ k, dh k * w k

/-- The gate's gradient: the derivative of `g · sg g` is `sg g + g · sg g · (1 - sg g)`. -/
def dgate {K : Nat} (dh w : Fin K → ℝ) (g u : ℝ) : ℝ := da dh w * u * (sg g + g * sg g * (1 - sg g))

/-- The up projection's gradient. -/
def dup {K : Nat} (dh w : Fin K → ℝ) (g : ℝ) : ℝ := da dh w * (g * sg g)

section
variable (x0 : FVec Ideal Cert.SwigluBwdIdeal.S512x1024 .f32) (x1 : FVec Ideal Cert.SwigluBwdIdeal.S1x1408x1024 .bf16)
  (x2 x3 : FVec Ideal Cert.SwigluBwdIdeal.S512x1408 .bf16) (a : Fin 512) (b : Fin 1408)
  (dh w : Fin 1024 → ℝ) (g u : ℝ)

theorem pay1_apply (h0 : ∀ k, x0 (ix2 a k) = (dh k : EReal)) (h1 : ∀ k, x1 (ix3 0 b k) = (w k : EReal)) :
    k0_pay1 (F := Ideal) x0 x1 (ix2 a b) = (da dh w : EReal) := by
  unfold k0_pay1
  pointwise [h0, h1, ← EReal.coe_mul, coe_sum]
  rw [ofBits_half, ← EReal.coe_mul]
  exact congrArg _ (mul_comm _ _)

theorem pay3_apply (h2 : x2 (ix2 a b) = (g : EReal)) : k0_pay3 (F := Ideal) x2 (ix2 a b) = (sg g : EReal) := by
  unfold k0_pay3 k0_pay2
  pointwise [h2]
  exact sigmoid_coe g

theorem pay4_apply (h2 : x2 (ix2 a b) = (g : EReal)) : k0_pay4 (F := Ideal) x2 (ix2 a b) = (g * sg g : ℝ) := by
  unfold k0_pay4 k0_pay2
  pointwise [h2, pay3_apply x2 a b g h2]
  exact (EReal.coe_mul _ _).symm

theorem pay5_apply (h0 : ∀ k, x0 (ix2 a k) = (dh k : EReal)) (h1 : ∀ k, x1 (ix3 0 b k) = (w k : EReal))
    (h2 : x2 (ix2 a b) = (g : EReal)) (h3 : x3 (ix2 a b) = (u : EReal)) :
    k0_pay5 (F := Ideal) x0 x1 x2 x3 (ix2 a b) = (dgate dh w g u : EReal) := by
  unfold k0_pay5
  pointwise [h2, h3, pay1_apply x0 x1 a b dh w h0 h1, pay3_apply x2 a b g h2, pay4_apply x2 a b g h2]
  rw [← EReal.coe_one]
  simp only [← EReal.coe_mul, ← EReal.coe_add, ← EReal.coe_sub]
  rfl

theorem pay6_apply (h0 : ∀ k, x0 (ix2 a k) = (dh k : EReal)) (h1 : ∀ k, x1 (ix3 0 b k) = (w k : EReal))
    (h2 : x2 (ix2 a b) = (g : EReal)) :
    k0_pay6 (F := Ideal) x0 x1 x2 (ix2 a b) = (dup dh w g : EReal) := by
  unfold k0_pay6
  pointwise [h2, pay1_apply x0 x1 a b dh w h0 h1, pay4_apply x2 a b g h2]
  exact (EReal.coe_mul _ _).symm

end

end Cert.Swiglu

end
-- ==== Proof.SwigluArray.lean ====
/-
  The SwiGLU half-step's backward call: what its two result arrays hold after the run, over the extended reals, where the four
  argument arrays are finite.
-/
module

public import proofs.«01_k».proof.Proof.SwigluBlock
public import Idealize.ShloMosaic.Lib.Pipeline.ValueKit

@[expose] public section

set_option maxRecDepth 16384

noncomputable section

namespace Cert.Swiglu

open Idealize.ShloMosaic Idealize.ShloMosaic.TcCoe Idealize.SL.Sem Cert.SwigluBwdIdeal Cert.SwigluBwdIdeal.Gen Cert.Finite
open Idealize.ShloMosaic.Pipeline (Dat)

/-- The gradient of the gate's array, from the four argument arrays. -/
def dgateArr (A0 : FVec Ideal S8192x1024 .f32) (A1 : FVec Ideal S1x2816x1024 .bf16) (A2 A3 : FVec Ideal S8192x2816 .bf16) :
    FVec Ideal S8192x2816 .bf16 := fun i =>
  (dgate (fun k : Fin 1024 => (A0 (ix2 (i 0) k)).toReal) (fun k => (A1 (ix3 0 (i 1) k)).toReal) (A2 i).toReal (A3 i).toReal : EReal)

/-- The gradient of the up projection's array, from the argument arrays. -/
def dupArr (A0 : FVec Ideal S8192x1024 .f32) (A1 : FVec Ideal S1x2816x1024 .bf16) (A2 : FVec Ideal S8192x2816 .bf16) :
    FVec Ideal S8192x2816 .bf16 := fun i =>
  (dup (fun k : Fin 1024 => (A0 (ix2 (i 0) k)).toReal) (fun k => (A1 (ix3 0 (i 1) k)).toReal) (A2 i).toReal : EReal)

/-- An array of extended reals all of whose elements are reals. -/
def AllReal {s : Shape} (A : s.Idx → EReal) : Prop := ∀ i, A i = ((A i).toReal : EReal)

/-- Where the windows' blocks lie: point `t` of the 16 × 2 grid takes 512 rows and half of the 2816 columns. -/
theorem idx_facts : ∀ t : Fin cfg0.N, win0_0.index t = ![(grid0.coords t 0).val, 0] ∧ win0_1.index t = ![0, (grid0.coords t 1).val, 0]
    ∧ win0_2.index t = ![(grid0.coords t 0).val, (grid0.coords t 1).val] ∧ win0_3.index t = ![(grid0.coords t 0).val, (grid0.coords t 1).val]
    ∧ win0_4.index t = ![(grid0.coords t 0).val, (grid0.coords t 1).val] ∧ win0_5.index t = ![(grid0.coords t 0).val, (grid0.coords t 1).val] :=
  (by decide +kernel : ∀ t : Fin grid0.N, _)

variable (m : (ℓ : Loc nD τ sig) → Buf (Elt Ideal) ℓ)

/-- The first result array holds the gate's gradient of the argument arrays. -/
theorem final4 (c : Dev nD) (h0 : AllReal (s := S8192x1024) (m ((c : Thread nD τ).loc main_arg0))) (h1 : AllReal (s := S1x2816x1024) (m ((c : Thread nD τ).loc main_arg1)))
    (h2 : AllReal (s := S8192x2816) (m ((c : Thread nD τ).loc main_arg2)))
    (h3 : AllReal (s := S8192x2816) (m ((c : Thread nD τ).loc main_arg3))) :
    (dats m 0 c).arrAt 4 cfg0.N = dgateArr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5⟩ := idx_facts t
  blk_simp
  rw [after0_4]
  frame_out
  rw [ValueIdx.eq_ix2 y]
  refine pay5_apply _ _ _ _ _ _ _ _ _ _ (fun k => ?_) (fun k => ?_) ?_ ?_
  · refine Eq.trans ?_ (h0 _)
    blk_simp [iblk]
    refine congrArg _ ?_
    blk_ext [e0, e4]
  · refine Eq.trans ?_ (h1 _)
    blk_simp [iblk]
    refine congrArg _ ?_
    blk_ext [e1, e4]
  · refine Eq.trans ?_ (h2 _)
    blk_simp [iblk]
    refine congrArg _ ?_
    blk_ext [e2, e4]
  · refine Eq.trans ?_ (h3 _)
    blk_simp [iblk]
    refine congrArg _ ?_
    blk_ext [e3, e4]

/-- The second result array holds the up projection's gradient of the argument arrays. -/
theorem final5 (c : Dev nD) (h0 : AllReal (s := S8192x1024) (m ((c : Thread nD τ).loc main_arg0))) (h1 : AllReal (s := S1x2816x1024) (m ((c : Thread nD τ).loc main_arg1)))
    (h2 : AllReal (s := S8192x2816) (m ((c : Thread nD τ).loc main_arg2))) :
    (dats m 0 c).arrAt 5 cfg0.N = dupArr (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5⟩ := idx_facts t
  blk_simp
  rw [after0_5]
  frame_out
  rw [ValueIdx.eq_ix2 y]
  refine pay6_apply _ _ _ _ _ _ _ _ (fun k => ?_) (fun k => ?_) ?_
  · refine Eq.trans ?_ (h0 _)
    blk_simp [iblk]
    refine congrArg _ ?_
    blk_ext [e0, e5]
  · refine Eq.trans ?_ (h1 _)
    blk_simp [iblk]
    refine congrArg _ ?_
    blk_ext [e1, e5]
  · refine Eq.trans ?_ (h2 _)
    blk_simp [iblk]
    refine congrArg _ ?_
    blk_ext [e2, e5]

end Cert.Swiglu

end
-- ==== Proof.SwigluRef.lean ====
/-
  The SwiGLU half-step's backward call: the reference's two results are the same functions of the four argument arrays, and
  the claims.
-/
module

public import proofs.«01_k».proof.Proof.SwigluArray
public import proofs.«01_k».proof.Proof.Gen.SwigluRefIdeal.Read
public import proofs.«01_k».proof.Proof.Gen.Pre_swiglu_finite
public import proofs.«01_k».proof.Proof.Gen.SwigluBwd.Frame
public import proofs.«01_k».proof.Defs

@[expose] public section

set_option maxRecDepth 16384

noncomputable section

namespace Cert.Swiglu

open Idealize.ShloMosaic Idealize.ShloMosaic.TcCoe Idealize.SL.Sem Cert.SwigluRefIdeal Cert.SwigluRefIdeal.Gen Cert.SwigluRefIdeal.Read Cert.Finite

section
variable (A0 : FVec Ideal S8192x1024 .f32) (A1 : FVec Ideal S1x2816x1024 .bf16) (A2 A3 : FVec Ideal S8192x2816 .bf16)

/-- The reference's logistic of the gate. -/
theorem ref_sg (i : S8192x2816.Idx) (h2 : A2 i = ((A2 i).toReal : EReal)) : val_main_v4_2 (F := Ideal) A2 i = (sg (A2 i).toReal : EReal) := by
  simp only [val_main_v4_2_apply, val_main_call0_v4_apply, val_main_call0_v3_apply, val_main_call0_cst_0_apply, val_main_call0_v2_apply,
    val_main_call0_cst_apply, val_main_call0_v1_apply, val_main_call0_v0_apply, val_main_v0_apply]
  have e : FloatOps.extf (F := Ideal) .f32 bitsLt_bf16_f32 (A2 i) = (((A2 i).toReal : ℝ) : EReal) := h2
  rw [e]
  show Ideal.div (Ideal.ofBits .f32 0x3F800000#32) (Ideal.ofBits .f32 0x3F800000#32 + Ideal.exp (-(((A2 i).toReal : ℝ) : EReal))) = _
  rw [ofBits_one]
  exact sigmoid_coe _

/-- The reference's gradient before the gate. -/
theorem ref_da (h0 : AllReal A0) (h1 : AllReal A1) (i : S8192x2816.Idx) :
    val_main_v11 (F := Ideal) A0 A1 i
      = (da (fun k : Fin 1024 => (A0 (ix2 (i 0) k)).toReal) (fun k => (A1 (ix3 0 (i 1) k)).toReal) : EReal) := by
  have e (k : Fin 1024) : val_main_v10 (F := Ideal) A0 (lidx_main_v11 i k) * val_main_v3 (F := Ideal) A1 (ridx_main_v11 i k)
      = ((1 / 2 * ((A0 (ix2 (i 0) k)).toReal * (A1 (ix3 0 (i 1) k)).toReal) : ℝ) : EReal) := by
    rw [val_main_v10_apply, val_main_v9_apply, val_main_cst_0_apply, val_main_v3_apply, val_main_v2_apply]
    have e1 : idx_main_v2 (ridx_main_v11 i k) = ix3 0 (i 1) k := by
      have hk := k.isLt
      have hi : (i 1).val < 2816 := (i 1).isLt
      funext a
      match a with
      | ⟨0, _⟩ => rfl
      | ⟨1, _⟩ => exact Fin.ext (show ((i 1).val * 1024 + k.val) / 1024 % 2816 = (i 1).val by omega)
      | ⟨2, _⟩ => exact Fin.ext (show ((i 1).val * 1024 + k.val) % 1024 = k.val by omega)
    have e0 : lidx_main_v11 i k = ix2 (i 0) k := ValueIdx.eq_ix2 _
    rw [e1, e0]
    show (Ideal.ofBits .f32 0x3F000000#32 * A0 (ix2 (i 0) k)) * A1 (ix3 0 (i 1) k) = _
    rw [h0, h1, ofBits_half, ← EReal.coe_mul, ← EReal.coe_mul, mul_assoc]
    rfl
  rw [val_main_v11_apply, Finset.sum_congr rfl fun k _ => e k, coe_sum, ← Finset.mul_sum]
  rfl

/-- The reference's first result is the gate's gradient. -/
theorem ref_dgate (h0 : AllReal A0) (h1 : AllReal A1) (h2 : AllReal A2) (h3 : AllReal A3) :
    val_main_v15 (F := Ideal) A0 A1 A2 A3 = dgateArr A0 A1 A2 A3 := by
  funext i
  simp only [val_main_v15_apply, val_main_v14_apply, val_main_call1_v2_apply, val_main_call1_v1_apply, val_main_call1_v0_apply,
    val_main_v13_apply, val_main_v4_1_apply, val_main_call0_v7_apply, val_main_call0_v6_apply, val_main_call0_cst_1_apply,
    val_main_v0_apply, val_main_v1_apply, ref_sg A2 i (h2 i), ref_da A0 A1 h0 h1]
  show ((da _ _ : ℝ) : EReal) * A3 i * (sg _ : EReal) + A2 i * (((da _ _ : ℝ) : EReal) * A3 i) * ((sg _ : EReal) * (Ideal.ofBits .f32 0x3F800000#32 - (sg _ : EReal))) = _
  unfold dgateArr dgate
  rw [h2 i, h3 i, ofBits_one]
  simp only [← EReal.coe_mul, ← EReal.coe_add, ← EReal.coe_sub, EReal.toReal_coe]
  refine congrArg _ ?_
  ring

/-- The reference's second result is the up projection's gradient. -/
theorem ref_dup (h0 : AllReal A0) (h1 : AllReal A1) (h2 : AllReal A2) :
    val_main_v16 (F := Ideal) A0 A1 A2 = dupArr A0 A1 A2 := by
  funext i
  simp only [val_main_v16_apply, val_main_v12_apply, val_main_v4_0_apply, val_main_v0_apply, ref_sg A2 i (h2 i), ref_da A0 A1 h0 h1]
  show A2 i * (sg _ : EReal) * ((da _ _ : ℝ) : EReal) = _
  unfold dupArr dup
  rw [h2 i]
  simp only [← EReal.coe_mul, EReal.toReal_coe]
  refine congrArg _ ?_
  ring

/-- The precondition's masks say that every element of the four arrays is a real. -/
theorem finite_of_pre
    (h : (Cert.Pre_swiglu_finite.fn (F := Ideal) A0 A1 A2 A3).1 = (fun _ => 1#1) ∧ (Cert.Pre_swiglu_finite.fn (F := Ideal) A0 A1 A2 A3).2.1 = (fun _ => 1#1)
      ∧ (Cert.Pre_swiglu_finite.fn (F := Ideal) A0 A1 A2 A3).2.2.1 = (fun _ => 1#1) ∧ (Cert.Pre_swiglu_finite.fn (F := Ideal) A0 A1 A2 A3).2.2.2 = (fun _ => 1#1)) :
    AllReal A0 ∧ AllReal A1 ∧ AllReal A2 ∧ AllReal A3 := by
  refine ⟨fun i => ?_, fun i => ?_, fun i => ?_, fun i => ?_⟩
  · refine real_of_cmp _ (Eq.trans ?_ (congrFun h.1 i)); rw [← ofBits_inf]; rfl
  · refine real_of_cmp _ (Eq.trans ?_ (congrFun h.2.1 i)); rw [← ofBits_inf]; rfl
  · refine real_of_cmp _ (Eq.trans ?_ (congrFun h.2.2.1 i)); rw [← ofBits_inf]; rfl
  · refine real_of_cmp _ (Eq.trans ?_ (congrFun h.2.2.2 i)); rw [← ofBits_inf]; rfl

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, Idealize.ShloMosaic.sem_eq_zero_of_no_sems (by decide) r.2⟩)
    (Cert.SwigluRefIdeal.Value.run (F := Ideal) m ρ)

/-- Kernel and reference compute the same two arrays from finite arguments. -/
theorem algebraic : Cert.algebraic_SwigluBwdIdeal_SwigluRefIdeal_pre_swiglu_finite := by
  intro m ρ m' ρ' hpre hagree
  have hf (c : Dev Cert.SwigluBwdIdeal.nD) := finite_of_pre _ _ _ _ (hpre c)
  refine ⟨fun c => dgateArr (m ((c.tc : Thread _ _).loc Cert.SwigluBwdIdeal.main_arg0)) (m ((c.tc : Thread _ _).loc Cert.SwigluBwdIdeal.main_arg1))
      (m ((c.tc : Thread _ _).loc Cert.SwigluBwdIdeal.main_arg2)) (m ((c.tc : Thread _ _).loc Cert.SwigluBwdIdeal.main_arg3)),
    fun c => dupArr (m ((c.tc : Thread _ _).loc Cert.SwigluBwdIdeal.main_arg0)) (m ((c.tc : Thread _ _).loc Cert.SwigluBwdIdeal.main_arg1))
      (m ((c.tc : Thread _ _).loc Cert.SwigluBwdIdeal.main_arg2)), ?_, ?_⟩
  · refine (θ_run Cert.SwigluBwdIdeal.defs _ _).mono (fun r h c => ?_) (Cert.SwigluBwdIdeal.Value.run_blocks (F := Ideal) m ρ)
    obtain ⟨f0, f1, f2, f3⟩ := hf c
    exact ⟨(h c).1.trans (final4 m c f0 f1 f2 f3), (h c).2.1.trans (final5 m c f0 f1 f2), (h c).2.2⟩
  · refine (θ_run defs _ _).mono (fun r h c => ?_) (Cert.SwigluRefIdeal.Value.run (F := Ideal) m' ρ')
    obtain ⟨f0, f1, f2, f3⟩ := hf c
    obtain ⟨a0, a1, a2, a3⟩ := hagree c
    refine ⟨((h c).1.trans (val_main_v15_eq _ _ _ _)).trans ?_, ((h c).2.1.trans (val_main_v16_eq _ _ _)).trans ?_, (h c).2.2⟩
    · rw [a0, a1, a2, a3]; exact ref_dgate _ _ _ _ f0 f1 f2 f3
    · rw [a0, a1, a2]; exact ref_dup _ _ _ f0 f1 f2

end Cert.Swiglu

end
-- ==== Proof.FoxRuns.lean ====
/- The FoX gradient kernel: the conditions of its branches over the grid, in closed form. -/
module

public import proofs.«01_k».proof.Proof.Gen.FoxBwdIdeal.Launch
public import proofs.«01_k».proof.Proof.Gen.FoxBwdIdeal.Skeleton
public import proofs.«01_k».proof.Proof.Gen.FoxBwdIdeal.Points
public import proofs.«01_k».proof.Proof.Gen.FoxBwdIdeal.Frame
public import Idealize.ShloMosaic.Lib.Pipeline.FrameBody
public import Idealize.ShloMosaic.Lib.Pipeline.TableIdle
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.FoxBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxBwdIdeal Cert.FoxBwdIdeal.Gen

variable {F : FTy → Type} [FloatOps F] [Named F]

local notation "𝕄" => MT nD τ sig Unit (Elt F) ℕ (Pipeline.UD sig nD τ) ℕ

/-! ## The body's branch conditions -/

/-- Key block 0 met by query block 0: the accumulator of the queries' gradients is cleared. -/
abbrev cnd0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The first query block of a key block. -/
abbrev cnd1 (i : grid0.Coords) : Prop := k0_cond2 i = 1#1
/-- The query block lies after the key block. -/
abbrev cnd2 (i : grid0.Coords) : Prop := k0_cond3 i = 1#1
/-- The query block is the key block. -/
abbrev cnd3 (i : grid0.Coords) : Prop := k0_cond4 i = 1#1
/-- The last point of a batch entry. -/
abbrev cnd4 (i : grid0.Coords) : Prop := k0_cond5 i = 1#1

/-- The grid coordinates of a point. -/
theorem coord0 (t : Fin cfg0.N) : (grid0.coords t 0).val = t.val / 256 % 2 := Pipeline.Grid.coords_val t 0 (by decide) rfl
theorem coord1 (t : Fin cfg0.N) : (grid0.coords t 1).val = t.val / 16 % 16 := Pipeline.Grid.coords_val t 1 (by decide) rfl
theorem coord2 (t : Fin cfg0.N) : (grid0.coords t 2).val = t.val / 1 % 16 := Pipeline.Grid.coords_val t 2 (by decide) rfl

theorem hcnd0 (t : Fin cfg0.N) : cnd0 (grid0.coords t) ↔ t.val % 256 = 0 := by
  have ht : t.val < 512 := Nat.lt_of_lt_of_eq t.isLt N_0
  simp only [cnd0, coord1 t, coord2 t]
  word_cmp
theorem hcnd1 (t : Fin cfg0.N) : cnd1 (grid0.coords t) ↔ t.val % 16 = 0 := by
  have ht : t.val < 512 := Nat.lt_of_lt_of_eq t.isLt N_0
  simp only [cnd1, k0_cond2, coord1 t, coord2 t]
  word_cmp
theorem hcnd2 (t : Fin cfg0.N) : cnd2 (grid0.coords t) ↔ t.val / 16 % 16 + 1 ≤ t.val % 16 := by
  have ht : t.val < 512 := Nat.lt_of_lt_of_eq t.isLt N_0
  simp only [cnd2, k0_cond3, coord1 t, coord2 t]
  word_cmp
theorem hcnd3 (t : Fin cfg0.N) : cnd3 (grid0.coords t) ↔ t.val / 16 % 16 = t.val % 16 := by
  have ht : t.val < 512 := Nat.lt_of_lt_of_eq t.isLt N_0
  simp only [cnd3, k0_cond4, coord1 t, coord2 t]
  word_cmp
theorem hcnd4 (t : Fin cfg0.N) : cnd4 (grid0.coords t) ↔ t.val % 256 = 255 := by
  have ht : t.val < 512 := Nat.lt_of_lt_of_eq t.isLt N_0
  simp only [cnd4, k0_cond5, coord1 t, coord2 t]
  word_cmp

/-- The array of the queries' gradients, the accumulator, and the one transfer's cell. -/
abbrev dqM : Memref sig .tc .hbm S2x16x1024x256 .f32 := Memref.whole main_v61_0
abbrev accM : Memref sig .tc .vmem S16x1024x256 .f32 := Memref.whole cc0_scratch0

end Cert.FoxBwdIdeal.Hand

end
-- ==== Proof.FoxRunZ.lean ====
/- The FoX gradient kernel: its body run case by case. -/
module

public import proofs.«01_k».proof.Proof.FoxRuns

@[expose] public section

set_option maxRecDepth 16384

noncomputable section

namespace Cert.FoxBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxBwdIdeal Cert.FoxBwdIdeal.Gen

variable {F : FTy → Type} [FloatOps F] [Named F]

local notation "𝕄" => MT nD τ sig Unit (Elt F) ℕ (Pipeline.UD sig nD τ) ℕ

variable (c : Dev nD) (i : grid0.Coords) (arg3 : Memref sig .tc .vmem S256x1024 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S16x256 .f32) (harg7 : arg7.IsWhole) (arg8 : Memref sig .tc .vmem S16x256 .f32) (harg8 : arg8.IsWhole) (arg10 : Memref sig .tc .vmem S256x1024 .f32) (harg10 : arg10.IsWhole) (arg11 : Memref sig .tc .vmem S256x1024 .f32) (harg11 : arg11.IsWhole) (arg12 : Memref sig .tc .vmem S256x128 .f32) (harg12 : arg12.IsWhole)

local notation "⟪" c "," a "," x "⟫" => owns (c : Thread nD τ) a fullShare x
local notation "⟪" c "," a "," y "," L "⟫" => View.loc (c : Thread nD τ) (Memref.view a) ↦[View.set (Memref.view a)]{fullShare} View.writes (Memref.view a) (Elt F) y L

section

variable (arg9 : Memref sig .tc .hbm S2x16x1024x256 .f32) (harg9 : arg9.IsWhole) (arg13 : Memref sig .tc .vmem S16x1024x256 .f32) (harg13 : arg13.IsWhole) (arg14 : DmaSems sig S_)

set_option maxHeartbeats 0 in
/-- The body in case E (a query block before the key block: nothing is done), with what its stores leave in each output's buffer and in the accumulator (the pieces
  written, the last first). -/
theorem runE (hc0 : ¬cnd0 i) (hc1 : ¬cnd1 i) (hc2 : ¬cnd2 i) (hc3 : ¬cnd3 i) (hc4 : ¬cnd4 i)
  (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
        ∀ (E : Set ℕ) (K : PUnit → sProp 𝕄),
      iprop(⟪c,arg3,x0⟫ ∗ ⟪c,arg4,x1⟫ ∗ ⟪c,arg5,x2⟫ ∗ ⟪c,arg6,x3⟫ ∗ ⟪c,arg7,x4⟫ ∗ ⟪c,arg8,x5⟫ ∗ ⟪c,arg10,xo6⟫ ∗ ⟪c,arg11,xo7⟫ ∗ ⟪c,arg12,xo8⟫ ∗ ⟪c,arg13,xs0⟫
          ∗ (iprop(⟪c,arg3,x0⟫ ∗ ⟪c,arg4,x1⟫ ∗ ⟪c,arg5,x2⟫ ∗ ⟪c,arg6,x3⟫ ∗ ⟪c,arg7,x4⟫ ∗ ⟪c,arg8,x5⟫ ∗ ⟪c,arg10,xo6⟫ ∗ ⟪c,arg11,xo7⟫ ∗ ⟪c,arg12,xo8⟫ ∗ ⟪c,arg13,xs0⟫) -∗ K ⟨⟩))
        ⊢ wp frame (wpE (defs₀ (F := F)) Variants.none c none) E (cc0_b_fox_bwd i arg3 harg3 arg4 harg4 arg5 harg5 arg6 harg6 arg7 harg7 arg8 harg8 arg9 harg9 arg10 harg10 arg11 harg11 arg12 harg12 arg13 harg13 arg14) K := by
  intro E K
  rw [cc0_b_fox_bwd_eq_skeleton]; unfold cc0_b_fox_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8; obtain rfl := harg13.eq_unread hfs
  sl_exec (disch := first | sl_exact hc0 | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; · ipureintro; exact harg12.read_unread _
    iexact H8
  iexists _; isplitr; · ipureintro; exact harg13.read_unread _
  iexact HS

set_option maxHeartbeats 0 in
/-- The body in case B (the query block lies after the key block), with what its stores leave in each output's buffer and in the accumulator (the pieces
    written, the last first). -/
noncomputable def runB (hc0 : ¬cnd0 i) (hc1 : ¬cnd1 i) (hc2 : cnd2 i) (hc3 : ¬cnd3 i) (hc4 : ¬cnd4 i)
    (x0 : Vec F S256x1024 .bf16) (x1 : Vec F S256x2048 .bf16) (x2 x3 : Vec F S256x1024 .bf16) (x4 x5 : Vec F S16x256 .f32) (xo6 xo7 : Vec F S256x1024 .f32) (xo8 : Vec F S256x128 .f32) (xs0 : Vec F S16x1024x256 .f32) :
    Σ' (L6 : List (View.Piece (Elt F) S256x1024 .f32)), Σ' (L7 : List (View.Piece (Elt F) S256x1024 .f32)), Σ' (L8 : List (View.Piece (Elt F) S256x128 .f32)), { LS : List (View.Piece (Elt F) S16x1024x256 .f32) //
      ∀ (E : Set ℕ) (K : PUnit → sProp 𝕄),
        iprop(⟪c,arg3,x0⟫ ∗ ⟪c,arg4,x1⟫ ∗ ⟪c,arg5,x2⟫ ∗ ⟪c,arg6,x3⟫ ∗ ⟪c,arg7,x4⟫ ∗ ⟪c,arg8,x5⟫ ∗ ⟪c,arg10,xo6⟫ ∗ ⟪c,arg11,xo7⟫ ∗ ⟪c,arg12,xo8⟫ ∗ ⟪c,arg13,xs0⟫
            ∗ (iprop(⟪c,arg3,x0⟫ ∗ ⟪c,arg4,x1⟫ ∗ ⟪c,arg5,x2⟫ ∗ ⟪c,arg6,x3⟫ ∗ ⟪c,arg7,x4⟫ ∗ ⟪c,arg8,x5⟫ ∗ (⟪c,arg10,(harg10.unread xo6),L6⟫) ∗ (⟪c,arg11,(harg11.unread xo7),L7⟫) ∗ (⟪c,arg12,(harg12.unread xo8),L8⟫) ∗ (⟪c,arg13,(harg13.unread xs0),LS⟫)) -∗ K ⟨⟩))
          ⊢ wp frame (wpE (defs₀ (F := F)) Variants.none c none) E (cc0_b_fox_bwd i arg3 harg3 arg4 harg4 arg5 harg5 arg6 harg6 arg7 harg7 arg8 harg8 arg9 harg9 arg10 harg10 arg11 harg11 arg12 harg12 arg13 harg13 arg14) K } := by
  refine ⟨?_, ?_, ?_, ?_, fun E K => ?run⟩
  case run =>
    rw [cc0_b_fox_bwd_eq_skeleton]; unfold cc0_b_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8; obtain rfl := harg13.eq_unread hfs
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexact H7
    isplitl [H8]; · iexact H8
    iexact HS

set_option maxHeartbeats 0 in
/-- The body in case D (the diagonal step), with what its stores leave in each output's buffer and in the accumulator (the pieces
    written, the last first). -/
noncomputable def runD (hc0 : ¬cnd0 i) (hc1 : ¬cnd1 i) (hc2 : ¬cnd2 i) (hc3 : cnd3 i) (hc4 : ¬cnd4 i)
    (x0 : Vec F S256x1024 .bf16) (x1 : Vec F S256x2048 .bf16) (x2 x3 : Vec F S256x1024 .bf16) (x4 x5 : Vec F S16x256 .f32) (xo6 xo7 : Vec F S256x1024 .f32) (xo8 : Vec F S256x128 .f32) (xs0 : Vec F S16x1024x256 .f32) :
    Σ' (L6 : List (View.Piece (Elt F) S256x1024 .f32)), Σ' (L7 : List (View.Piece (Elt F) S256x1024 .f32)), Σ' (L8 : List (View.Piece (Elt F) S256x128 .f32)), { LS : List (View.Piece (Elt F) S16x1024x256 .f32) //
      ∀ (E : Set ℕ) (K : PUnit → sProp 𝕄),
        iprop(⟪c,arg3,x0⟫ ∗ ⟪c,arg4,x1⟫ ∗ ⟪c,arg5,x2⟫ ∗ ⟪c,arg6,x3⟫ ∗ ⟪c,arg7,x4⟫ ∗ ⟪c,arg8,x5⟫ ∗ ⟪c,arg10,xo6⟫ ∗ ⟪c,arg11,xo7⟫ ∗ ⟪c,arg12,xo8⟫ ∗ ⟪c,arg13,xs0⟫
            ∗ (iprop(⟪c,arg3,x0⟫ ∗ ⟪c,arg4,x1⟫ ∗ ⟪c,arg5,x2⟫ ∗ ⟪c,arg6,x3⟫ ∗ ⟪c,arg7,x4⟫ ∗ ⟪c,arg8,x5⟫ ∗ (⟪c,arg10,(harg10.unread xo6),L6⟫) ∗ (⟪c,arg11,(harg11.unread xo7),L7⟫) ∗ (⟪c,arg12,(harg12.unread xo8),L8⟫) ∗ (⟪c,arg13,(harg13.unread xs0),LS⟫)) -∗ K ⟨⟩))
          ⊢ wp frame (wpE (defs₀ (F := F)) Variants.none c none) E (cc0_b_fox_bwd i arg3 harg3 arg4 harg4 arg5 harg5 arg6 harg6 arg7 harg7 arg8 harg8 arg9 harg9 arg10 harg10 arg11 harg11 arg12 harg12 arg13 harg13 arg14) K } := by
  refine ⟨?_, ?_, ?_, ?_, fun E K => ?run⟩
  case run =>
    rw [cc0_b_fox_bwd_eq_skeleton]; unfold cc0_b_fox_bwd_skel
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8; obtain rfl := harg13.eq_unread hfs
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexact H7
    isplitl [H8]; · iexact H8
    iexact HS

set_option maxHeartbeats 0 in
/-- The body in case C (the first query block of a key block past the diagonal: the outputs are cleared), with what its stores leave in each output's buffer and in the accumulator (the pieces
    written, the last first). -/
noncomputable def runC (hc0 : ¬cnd0 i) (hc1 : cnd1 i) (hc2 : ¬cnd2 i) (hc3 : ¬cnd3 i) (hc4 : ¬cnd4 i)
    (x0 : Vec F S256x1024 .bf16) (x1 : Vec F S256x2048 .bf16) (x2 x3 : Vec F S256x1024 .bf16) (x4 x5 : Vec F S16x256 .f32)  (xs0 : Vec F S16x1024x256 .f32) :
    Σ' (L6 : List (View.Piece (Elt F) S256x1024 .f32)), Σ' (L7 : List (View.Piece (Elt F) S256x1024 .f32)), { L8 : List (View.Piece (Elt F) S256x128 .f32) //
      ∀ (E : Set ℕ) (K : PUnit → sProp 𝕄),
        iprop(⟪c,arg3,x0⟫ ∗ ⟪c,arg4,x1⟫ ∗ ⟪c,arg5,x2⟫ ∗ ⟪c,arg6,x3⟫ ∗ ⟪c,arg7,x4⟫ ∗ ⟪c,arg8,x5⟫ ∗ (∃ d, ⟪c,arg10,d⟫) ∗ (∃ d, ⟪c,arg11,d⟫) ∗ (∃ d, ⟪c,arg12,d⟫) ∗ ⟪c,arg13,xs0⟫
            ∗ (iprop(⟪c,arg3,x0⟫ ∗ ⟪c,arg4,x1⟫ ∗ ⟪c,arg5,x2⟫ ∗ ⟪c,arg6,x3⟫ ∗ ⟪c,arg7,x4⟫ ∗ ⟪c,arg8,x5⟫ ∗ (∃ f, ⟪c,arg10,f,L6⟫) ∗ (∃ f, ⟪c,arg11,f,L7⟫) ∗ (∃ f, ⟪c,arg12,f,L8⟫) ∗ ⟪c,arg13,xs0⟫) -∗ K ⟨⟩))
          ⊢ wp frame (wpE (defs₀ (F := F)) Variants.none c none) E (cc0_b_fox_bwd i arg3 harg3 arg4 harg4 arg5 harg5 arg6 harg6 arg7 harg7 arg8 harg8 arg9 harg9 arg10 harg10 arg11 harg11 arg12 harg12 arg13 harg13 arg14) K } := by
  refine ⟨?_, ?_, ?_, fun E K => ?run⟩
  case run =>
    rw [cc0_b_fox_bwd_eq_skeleton]; unfold cc0_b_fox_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg13.eq_unread hfs
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    iexists _; isplitr; · ipureintro; exact harg13.read_unread _
    iexact HS

set_option maxHeartbeats 0 in
/-- The body in case A (the first point of a sequence: everything is cleared, then the diagonal step), with what its stores leave in each output's buffer and in the accumulator (the pieces
    written, the last first). -/
noncomputable def runA (hc0 : cnd0 i) (hc1 : cnd1 i) (hc2 : ¬cnd2 i) (hc3 : cnd3 i) (hc4 : ¬cnd4 i)
    (x0 : Vec F S256x1024 .bf16) (x1 : Vec F S256x2048 .bf16) (x2 x3 : Vec F S256x1024 .bf16) (x4 x5 : Vec F S16x256 .f32)   :
    Σ' (L6 : List (View.Piece (Elt F) S256x1024 .f32)), Σ' (L7 : List (View.Piece (Elt F) S256x1024 .f32)), Σ' (L8 : List (View.Piece (Elt F) S256x128 .f32)), { LS : List (View.Piece (Elt F) S16x1024x256 .f32) //
      ∀ (E : Set ℕ) (K : PUnit → sProp 𝕄),
        iprop(⟪c,arg3,x0⟫ ∗ ⟪c,arg4,x1⟫ ∗ ⟪c,arg5,x2⟫ ∗ ⟪c,arg6,x3⟫ ∗ ⟪c,arg7,x4⟫ ∗ ⟪c,arg8,x5⟫ ∗ (∃ d, ⟪c,arg10,d⟫) ∗ (∃ d, ⟪c,arg11,d⟫) ∗ (∃ d, ⟪c,arg12,d⟫) ∗ (∃ d, ⟪c,arg13,d⟫)
            ∗ (iprop(⟪c,arg3,x0⟫ ∗ ⟪c,arg4,x1⟫ ∗ ⟪c,arg5,x2⟫ ∗ ⟪c,arg6,x3⟫ ∗ ⟪c,arg7,x4⟫ ∗ ⟪c,arg8,x5⟫ ∗ (∃ f, ⟪c,arg10,f,L6⟫) ∗ (∃ f, ⟪c,arg11,f,L7⟫) ∗ (∃ f, ⟪c,arg12,f,L8⟫) ∗ (∃ f, ⟪c,arg13,f,LS⟫)) -∗ K ⟨⟩))
          ⊢ wp frame (wpE (defs₀ (F := F)) Variants.none c none) E (cc0_b_fox_bwd i arg3 harg3 arg4 harg4 arg5 harg5 arg6 harg6 arg7 harg7 arg8 harg8 arg9 harg9 arg10 harg10 arg11 harg11 arg12 harg12 arg13 harg13 arg14) K } := by
  refine ⟨?_, ?_, ?_, ?_, fun E K => ?run⟩
  case run =>
    rw [cc0_b_fox_bwd_eq_skeleton]; unfold cc0_b_fox_bwd_skel
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    iexists _; iexact HS

end

set_option maxHeartbeats 0 in
/-- The body in case Z (the last point of a sequence: the diagonal step, then the copy out), with what its stores leave in each output's buffer and in the accumulator (the pieces
    written, the last first). -/
noncomputable def runZ (hc0 : ¬cnd0 i) (hc1 : ¬cnd1 i) (hc2 : ¬cnd2 i) (hc3 : cnd3 i) (hc4 : cnd4 i)
    (x0 : Vec F S256x1024 .bf16) (x1 : Vec F S256x2048 .bf16) (x2 x3 : Vec F S256x1024 .bf16) (x4 x5 : Vec F S16x256 .f32) (xo6 xo7 : Vec F S256x1024 .f32) (xo8 : Vec F S256x128 .f32) (xs0 : Vec F S16x1024x256 .f32) (xq : Vec F S2x16x1024x256 .f32) :
    Σ' (L6 : List (View.Piece (Elt F) S256x1024 .f32)), Σ' (L7 : List (View.Piece (Elt F) S256x1024 .f32)), Σ' (L8 : List (View.Piece (Elt F) S256x128 .f32)), Σ' (LS : List (View.Piece (Elt F) S16x1024x256 .f32)), { D : Vec F S2x16x1024x256 .f32 //
      ∀ (W : Waits sig Unit) (K : PUnit → sProp 𝕄),
        iprop(⟪c,arg3,x0⟫ ∗ ⟪c,arg4,x1⟫ ∗ ⟪c,arg5,x2⟫ ∗ ⟪c,arg6,x3⟫ ∗ ⟪c,arg7,x4⟫ ∗ ⟪c,arg8,x5⟫ ∗ ⟪c,arg10,xo6⟫ ∗ ⟪c,arg11,xo7⟫ ∗ ⟪c,arg12,xo8⟫ ∗ ⟪c,accM,xs0⟫ ∗ semVal ((c : Thread nD τ), SemLoc.dma 18) 0 ∗ ⟪c,dqM,xq⟫ ∗ owes (c : Thread nD τ) 0 W
            ∗ (iprop(⟪c,arg3,x0⟫ ∗ ⟪c,arg4,x1⟫ ∗ ⟪c,arg5,x2⟫ ∗ ⟪c,arg6,x3⟫ ∗ ⟪c,arg7,x4⟫ ∗ ⟪c,arg8,x5⟫ ∗ (⟪c,arg10,(harg10.unread xo6),L6⟫) ∗ (⟪c,arg11,(harg11.unread xo7),L7⟫) ∗ (⟪c,arg12,(harg12.unread xo8),L8⟫) ∗ (⟪c,accM,((Memref.isWhole_whole cc0_scratch0).unread xs0),LS⟫) ∗ semVal ((c : Thread nD τ), SemLoc.dma 18) 0 ∗ ⟪c,dqM,D⟫ ∗ (∃ W1, owes (c : Thread nD τ) 0 W1)) -∗ K ⟨⟩))
          ⊢ wp frame (wpE (defs₀ (F := F)) Variants.none c none) Set.univ (cc0_b_fox_bwd i arg3 harg3 arg4 harg4 arg5 harg5 arg6 harg6 arg7 harg7 arg8 harg8 dqM (Memref.isWhole_whole _) arg10 harg10 arg11 harg11 arg12 harg12 accM (Memref.isWhole_whole _) cc0_scratch1) K } := by
  refine ⟨?_, ?_, ?_, ?_, ?_, fun W K => ?run⟩
  case run =>
    rw [cc0_b_fox_bwd_eq_skeleton]; unfold cc0_b_fox_bwd_skel
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hq, ⟨%fq, %hfq, Hd⟩, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8; obtain rfl := (Memref.isWhole_whole cc0_scratch0).eq_unread hfs; obtain rfl := (Memref.isWhole_whole main_v61_0).eq_unread hfq
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexact H7
    isplitl [H8]; · iexact H8
    isplitl [HS]; · iexact HS
    isplitl [Hq]; · iexact Hq
    isplitl [Hd]
    · iexists _; isplitr; swap; · iexact Hd
      ipureintro; rfl
    iexists _; iexact HW

end Cert.FoxBwdIdeal.Hand

end
-- ==== Proof.FoxFrame.lean ====
/- The FoX gradient kernel: what the outputs, the accumulator and the array of the queries' gradients hold after each grid point, the body at every point, the launch and the frame. -/
module

public import proofs.«01_k».proof.Proof.FoxRunZ

@[expose] public section

set_option maxRecDepth 16384

noncomputable section

namespace Cert.FoxBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxBwdIdeal Cert.FoxBwdIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg) (c : Dev nD) (t : Fin cfg0.N)

/-! ## @main up to the region -/

/-- What the region finds in each buffer. -/
abbrev V (b : Ref sig .tc) : Buf (Elt F) ((c : Thread nD τ).loc b) := Gen.V m c b

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- Window `w`'s block at point `t`, read off its array as the region finds it. -/
abbrev blk (w : Fin cfg0.W) (t : Fin cfg0.N) : ((cfg0.win w).xblock (cfg0.grid.coords t)).Idx → Elt F (cfg0.win w).elt :=
  Gen.iblk m c w t

/-- The array of the queries' gradients: the one result that the body writes itself. -/
def R0 : Finset (Ref sig .tc) := {main_v61_0}
def H0 : Finset (Ref sig .tc) := ∅
theorem H0_sub : H0 ⊆ Pipeline.restRefs sig spec0 := by unfold H0; exact Finset.empty_subset _
theorem R0_sub : R0 ⊆ Pipeline.restRefs sig spec0 \ H0 := by
  intro b hb
  rw [R0, Finset.mem_singleton] at hb
  subst hb
  exact Finset.mem_sdiff.mpr ⟨Pipeline.mem_restRefs_of main_v61_0 (by decide) (by decide), by unfold H0; exact Finset.notMem_empty _⟩

abbrev osem0 : Fin 1 → SemLoc sig := fun j => (![SemLoc.dma 18] : Fin 1 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0) := by
  rw [Pipeline.ownSems0_eq_of_list c osem0 [0] (by decide) (by decide)]; rfl

/-! ## The staging memrefs -/

abbrev ms0 : Memref sig .tc .vmem S256x1024 .bf16 := win0_0.stage (cfg0.slots t 0)
abbrev hs0 : (ms0 t).IsWhole := hstage0_0 ((cfg0.slots t 0).cast nbuf0_0)
abbrev ms1 : Memref sig .tc .vmem S256x2048 .bf16 := win0_1.stage (cfg0.slots t 1)
abbrev hs1 : (ms1 t).IsWhole := hstage0_1 ((cfg0.slots t 1).cast nbuf0_1)
abbrev ms2 : Memref sig .tc .vmem S256x1024 .bf16 := win0_2.stage (cfg0.slots t 2)
abbrev hs2 : (ms2 t).IsWhole := hstage0_2 ((cfg0.slots t 2).cast nbuf0_2)
abbrev ms3 : Memref sig .tc .vmem S256x1024 .bf16 := win0_3.stage (cfg0.slots t 3)
abbrev hs3 : (ms3 t).IsWhole := hstage0_3 ((cfg0.slots t 3).cast nbuf0_3)
abbrev ms4 : Memref sig .tc .vmem S16x256 .f32 := win0_4.stage (cfg0.slots t 4)
abbrev hs4 : (ms4 t).IsWhole := hstage0_4 ((cfg0.slots t 4).cast nbuf0_4)
abbrev ms5 : Memref sig .tc .vmem S16x256 .f32 := win0_5.stage (cfg0.slots t 5)
abbrev hs5 : (ms5 t).IsWhole := hstage0_5 ((cfg0.slots t 5).cast nbuf0_5)
abbrev ms6 : Memref sig .tc .vmem S256x1024 .f32 := win0_6.stage (cfg0.slots t 6)
abbrev hs6 : (ms6 t).IsWhole := hstage0_6 ((cfg0.slots t 6).cast nbuf0_6)
abbrev ms7 : Memref sig .tc .vmem S256x1024 .f32 := win0_7.stage (cfg0.slots t 7)
abbrev hs7 : (ms7 t).IsWhole := hstage0_7 ((cfg0.slots t 7).cast nbuf0_7)
abbrev ms8 : Memref sig .tc .vmem S256x128 .f32 := win0_8.stage (cfg0.slots t 8)
abbrev hs8 : (ms8 t).IsWhole := hstage0_8 ((cfg0.slots t 8).cast nbuf0_8)

/-! ## What a point leaves -/

/-- The three staged outputs (the gradients of the keys, of the values, of the forget gates' sums), the accumulator of the
    queries' gradients, and the array into which it is copied. -/
structure St (F : FTy → Type) where
  o6 : Vec F S256x1024 .f32
  o7 : Vec F S256x1024 .f32
  o8 : Vec F S256x128 .f32
  ac : Vec F S16x1024x256 .f32
  dq : Vec F S2x16x1024x256 .f32

/-- A case's run at a point: on the windows' staging memrefs and blocks, the array of the queries' gradients and the accumulator. -/
local notation "⟪" f:max m:max c:max t:max h0:max h1:max h2:max h3:max h4:max "⟫" =>
  f c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) dqM (Memref.isWhole_whole _) accM (Memref.isWhole_whole _) cc0_scratch1 h0 h1 h2 h3 h4 (blk m c 0 t) (blk m c 1 t) (blk m c 2 t) (blk m c 3 t) (blk m c 4 t) (blk m c 5 t)

/-- The same for the case which names the last two itself. -/
local notation "⟅" f:max m:max c:max t:max h0:max h1:max h2:max h3:max h4:max "⟆" =>
  f c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) h0 h1 h2 h3 h4 (blk m c 0 t) (blk m c 1 t) (blk m c 2 t) (blk m c 3 t) (blk m c 4 t) (blk m c 5 t)

/-- What case A leaves. -/
def stA (s : St F) (hc0 : cnd0 (grid0.coords t)) (hc1 : cnd1 (grid0.coords t)) (hc2 : ¬cnd2 (grid0.coords t)) (hc3 : cnd3 (grid0.coords t)) (hc4 : ¬cnd4 (grid0.coords t)) : St F where
  o6 := (ms6 t).view.read (Elt F) ((ms6 t).view.writes (Elt F) (ms6 t).view.junk (⟪runA m c t hc0 hc1 hc2 hc3 hc4⟫).1)
  o7 := (ms7 t).view.read (Elt F) ((ms7 t).view.writes (Elt F) (ms7 t).view.junk (⟪runA m c t hc0 hc1 hc2 hc3 hc4⟫).2.1)
  o8 := (ms8 t).view.read (Elt F) ((ms8 t).view.writes (Elt F) (ms8 t).view.junk (⟪runA m c t hc0 hc1 hc2 hc3 hc4⟫).2.2.1)
  ac := accM.view.read (Elt F) (accM.view.writes (Elt F) accM.view.junk (⟪runA m c t hc0 hc1 hc2 hc3 hc4⟫).2.2.2.1)
  dq := s.dq

/-- What case B leaves. -/
def stB (s : St F) (hc0 : ¬cnd0 (grid0.coords t)) (hc1 : ¬cnd1 (grid0.coords t)) (hc2 : cnd2 (grid0.coords t)) (hc3 : ¬cnd3 (grid0.coords t)) (hc4 : ¬cnd4 (grid0.coords t)) : St F where
  o6 := (ms6 t).view.read (Elt F) ((ms6 t).view.writes (Elt F) ((hs6 t).unread s.o6) (⟪runB m c t hc0 hc1 hc2 hc3 hc4⟫ s.o6 s.o7 s.o8 s.ac).1)
  o7 := (ms7 t).view.read (Elt F) ((ms7 t).view.writes (Elt F) ((hs7 t).unread s.o7) (⟪runB m c t hc0 hc1 hc2 hc3 hc4⟫ s.o6 s.o7 s.o8 s.ac).2.1)
  o8 := (ms8 t).view.read (Elt F) ((ms8 t).view.writes (Elt F) ((hs8 t).unread s.o8) (⟪runB m c t hc0 hc1 hc2 hc3 hc4⟫ s.o6 s.o7 s.o8 s.ac).2.2.1)
  ac := accM.view.read (Elt F) (accM.view.writes (Elt F) ((Memref.isWhole_whole cc0_scratch0).unread s.ac) (⟪runB m c t hc0 hc1 hc2 hc3 hc4⟫ s.o6 s.o7 s.o8 s.ac).2.2.2.1)
  dq := s.dq

/-- What case C leaves. -/
def stC (s : St F) (hc0 : ¬cnd0 (grid0.coords t)) (hc1 : cnd1 (grid0.coords t)) (hc2 : ¬cnd2 (grid0.coords t)) (hc3 : ¬cnd3 (grid0.coords t)) (hc4 : ¬cnd4 (grid0.coords t)) : St F where
  o6 := (ms6 t).view.read (Elt F) ((ms6 t).view.writes (Elt F) (ms6 t).view.junk (⟪runC m c t hc0 hc1 hc2 hc3 hc4⟫ s.ac).1)
  o7 := (ms7 t).view.read (Elt F) ((ms7 t).view.writes (Elt F) (ms7 t).view.junk (⟪runC m c t hc0 hc1 hc2 hc3 hc4⟫ s.ac).2.1)
  o8 := (ms8 t).view.read (Elt F) ((ms8 t).view.writes (Elt F) (ms8 t).view.junk (⟪runC m c t hc0 hc1 hc2 hc3 hc4⟫ s.ac).2.2.1)
  ac := s.ac
  dq := s.dq

/-- What case D leaves. -/
def stD (s : St F) (hc0 : ¬cnd0 (grid0.coords t)) (hc1 : ¬cnd1 (grid0.coords t)) (hc2 : ¬cnd2 (grid0.coords t)) (hc3 : cnd3 (grid0.coords t)) (hc4 : ¬cnd4 (grid0.coords t)) : St F where
  o6 := (ms6 t).view.read (Elt F) ((ms6 t).view.writes (Elt F) ((hs6 t).unread s.o6) (⟪runD m c t hc0 hc1 hc2 hc3 hc4⟫ s.o6 s.o7 s.o8 s.ac).1)
  o7 := (ms7 t).view.read (Elt F) ((ms7 t).view.writes (Elt F) ((hs7 t).unread s.o7) (⟪runD m c t hc0 hc1 hc2 hc3 hc4⟫ s.o6 s.o7 s.o8 s.ac).2.1)
  o8 := (ms8 t).view.read (Elt F) ((ms8 t).view.writes (Elt F) ((hs8 t).unread s.o8) (⟪runD m c t hc0 hc1 hc2 hc3 hc4⟫ s.o6 s.o7 s.o8 s.ac).2.2.1)
  ac := accM.view.read (Elt F) (accM.view.writes (Elt F) ((Memref.isWhole_whole cc0_scratch0).unread s.ac) (⟪runD m c t hc0 hc1 hc2 hc3 hc4⟫ s.o6 s.o7 s.o8 s.ac).2.2.2.1)
  dq := s.dq

/-- What case Z leaves. -/
def stZ (s : St F) (hc0 : ¬cnd0 (grid0.coords t)) (hc1 : ¬cnd1 (grid0.coords t)) (hc2 : ¬cnd2 (grid0.coords t)) (hc3 : cnd3 (grid0.coords t)) (hc4 : cnd4 (grid0.coords t)) : St F where
  o6 := (ms6 t).view.read (Elt F) ((ms6 t).view.writes (Elt F) ((hs6 t).unread s.o6) (⟅runZ m c t hc0 hc1 hc2 hc3 hc4⟆ s.o6 s.o7 s.o8 s.ac s.dq).1)
  o7 := (ms7 t).view.read (Elt F) ((ms7 t).view.writes (Elt F) ((hs7 t).unread s.o7) (⟅runZ m c t hc0 hc1 hc2 hc3 hc4⟆ s.o6 s.o7 s.o8 s.ac s.dq).2.1)
  o8 := (ms8 t).view.read (Elt F) ((ms8 t).view.writes (Elt F) ((hs8 t).unread s.o8) (⟅runZ m c t hc0 hc1 hc2 hc3 hc4⟆ s.o6 s.o7 s.o8 s.ac s.dq).2.2.1)
  ac := accM.view.read (Elt F) (accM.view.writes (Elt F) ((Memref.isWhole_whole cc0_scratch0).unread s.ac) (⟅runZ m c t hc0 hc1 hc2 hc3 hc4⟆ s.o6 s.o7 s.o8 s.ac s.dq).2.2.2.1)
  dq := (⟅runZ m c t hc0 hc1 hc2 hc3 hc4⟆ s.o6 s.o7 s.o8 s.ac s.dq).2.2.2.2.1

theorem n1 {t : Fin cfg0.N} (h : ¬t.val % 16 = 0) : ¬cnd1 (grid0.coords t) := fun e => h ((hcnd1 t).mp e)
theorem n2 {t : Fin cfg0.N} (h : ¬t.val / 16 % 16 + 1 ≤ t.val % 16) : ¬cnd2 (grid0.coords t) := fun e => h ((hcnd2 t).mp e)
theorem n3 {t : Fin cfg0.N} (h : ¬t.val / 16 % 16 = t.val % 16) : ¬cnd3 (grid0.coords t) := fun e => h ((hcnd3 t).mp e)
theorem n4 {t : Fin cfg0.N} (h : ¬t.val % 256 = 255) : ¬cnd4 (grid0.coords t) := fun e => h ((hcnd4 t).mp e)
theorem n0 {t : Fin cfg0.N} (h : ¬t.val % 256 = 0) : ¬cnd0 (grid0.coords t) := fun e => h ((hcnd0 t).mp e)

/-- One point's step. -/
def stepAt (s : St F) : St F :=
  if h1 : t.val % 16 = 0 then
    if h0 : t.val % 256 = 0 then
      stA m c t s ((hcnd0 t).mpr h0) ((hcnd1 t).mpr h1) (n2 (by omega)) ((hcnd3 t).mpr (by omega)) (n4 (by omega))
    else stC m c t s (n0 h0) ((hcnd1 t).mpr h1) (n2 (by omega)) (n3 (by omega)) (n4 (by omega))
  else if h2 : t.val / 16 % 16 + 1 ≤ t.val % 16 then
    stB m c t s (n0 (by omega)) (n1 h1) ((hcnd2 t).mpr h2) (n3 (by omega)) (n4 (by omega))
  else if h3 : t.val / 16 % 16 = t.val % 16 then
    if h4 : t.val % 256 = 255 then
      stZ m c t s (n0 (by omega)) (n1 h1) (n2 h2) ((hcnd3 t).mpr h3) ((hcnd4 t).mpr h4)
    else stD m c t s (n0 (by omega)) (n1 h1) (n2 h2) ((hcnd3 t).mpr h3) (n4 h4)
  else s

/-- What is held before point `n`. -/
def st (c : Dev nD) : ℕ → St F
  | 0 => ⟨(Memref.whole cc0_stg6_0).view.read (Elt F) (Memref.whole cc0_stg6_0).view.junk, (Memref.whole cc0_stg6_0).view.read (Elt F) (Memref.whole cc0_stg6_0).view.junk,
      (Memref.whole cc0_stg8_0).view.read (Elt F) (Memref.whole cc0_stg8_0).view.junk, accM.view.read (Elt F) accM.view.junk, V m c main_v61_0⟩
  | n + 1 => if h : n < cfg0.N then stepAt m c ⟨n, h⟩ (st c n) else st c n

theorem st_succ : st m c (t.val + 1) = stepAt m c t (st m c t.val) := by
  rw [st, dif_pos t.isLt]

theorem step_A (s : St F) (h0 : t.val % 256 = 0) :
    stepAt m c t s = stA m c t s ((hcnd0 t).mpr h0) ((hcnd1 t).mpr (by omega)) (n2 (by omega)) ((hcnd3 t).mpr (by omega)) (n4 (by omega)) := by
  unfold stepAt; rw [dif_pos (by omega), dif_pos h0]
theorem step_C (s : St F) (h0 : ¬t.val % 256 = 0) (h1 : t.val % 16 = 0) :
    stepAt m c t s = stC m c t s (n0 h0) ((hcnd1 t).mpr h1) (n2 (by omega)) (n3 (by omega)) (n4 (by omega)) := by
  unfold stepAt; rw [dif_pos h1, dif_neg h0]
theorem step_B (s : St F) (h2 : t.val / 16 % 16 + 1 ≤ t.val % 16) :
    stepAt m c t s = stB m c t s (n0 (by omega)) (n1 (by omega)) ((hcnd2 t).mpr h2) (n3 (by omega)) (n4 (by omega)) := by
  unfold stepAt; rw [dif_neg (by omega), dif_pos h2]
theorem step_D (s : St F) (h1 : ¬t.val % 16 = 0) (h3 : t.val / 16 % 16 = t.val % 16) (h4 : ¬t.val % 256 = 255) :
    stepAt m c t s = stD m c t s (n0 (by omega)) (n1 h1) (n2 (by omega)) ((hcnd3 t).mpr h3) (n4 h4) := by
  unfold stepAt; rw [dif_neg h1, dif_neg (by omega), dif_pos h3, dif_neg h4]
theorem step_Z (s : St F) (h4 : t.val % 256 = 255) :
    stepAt m c t s = stZ m c t s (n0 (by omega)) (n1 (by omega)) (n2 (by omega)) ((hcnd3 t).mpr (by omega)) ((hcnd4 t).mpr h4) := by
  unfold stepAt; rw [dif_neg (by omega), dif_neg (by omega), dif_pos (by omega), dif_pos h4]
theorem step_E (s : St F) (h1 : ¬t.val % 16 = 0) (h2 : t.val % 16 < t.val / 16 % 16) :
    stepAt m c t s = s := by
  unfold stepAt; rw [dif_neg h1, dif_neg (by omega), dif_neg (by omega)]

/-! ## The pieces of a point that clears its outputs cover them -/

section
variable (c : Dev nD) (i : grid0.Coords) (arg3 : Memref sig .tc .vmem S256x1024 .bf16) (harg3 : arg3.IsWhole)
  (arg4 : Memref sig .tc .vmem S256x2048 .bf16) (harg4 : arg4.IsWhole) (arg5 : Memref sig .tc .vmem S256x1024 .bf16)
  (harg5 : arg5.IsWhole) (arg6 : Memref sig .tc .vmem S256x1024 .bf16) (harg6 : arg6.IsWhole)
  (arg7 : Memref sig .tc .vmem S16x256 .f32) (harg7 : arg7.IsWhole) (arg8 : Memref sig .tc .vmem S16x256 .f32)
  (harg8 : arg8.IsWhole) (arg10 : Memref sig .tc .vmem S256x1024 .f32) (harg10 : arg10.IsWhole)
  (arg11 : Memref sig .tc .vmem S256x1024 .f32) (harg11 : arg11.IsWhole) (arg12 : Memref sig .tc .vmem S256x128 .f32)
  (harg12 : arg12.IsWhole) (arg9 : Memref sig .tc .hbm S2x16x1024x256 .f32) (harg9 : arg9.IsWhole)
  (arg13 : Memref sig .tc .vmem S16x1024x256 .f32) (harg13 : arg13.IsWhole) (arg14 : DmaSems sig S_)
  (x0 x2 x3 : Vec F S256x1024 .bf16) (x1 : Vec F S256x2048 .bf16) (x4 x5 : Vec F S16x256 .f32)

/-- A case's run on these memrefs. -/
local notation "⦃" f:max "⦄" => f c i arg3 harg3 arg4 harg4 arg5 harg5 arg6 harg6 arg7 harg7 arg8 harg8 arg10 harg10 arg11 harg11 arg12 harg12 arg9 harg9 arg13 harg13 arg14

theorem coverA6 (hc0 : cnd0 i) (hc1 : cnd1 i) (hc2 : ¬cnd2 i) (hc3 : cnd3 i) (hc4 : ¬cnd4 i) (y : S256x1024.Idx) :
    ∃ pc ∈ (⦃runA⦄ hc0 hc1 hc2 hc3 hc4 x0 x1 x2 x3 x4 x5).1, y ∈ pc.1.set :=
  View.cover_of_tiledBy (⦃runA⦄ hc0 hc1 hc2 hc3 hc4 x0 x1 x2 x3 x4 x5).1 ![256, 128] (by sl_kernel_rfl) y
theorem coverA7 (hc0 : cnd0 i) (hc1 : cnd1 i) (hc2 : ¬cnd2 i) (hc3 : cnd3 i) (hc4 : ¬cnd4 i) (y : S256x1024.Idx) :
    ∃ pc ∈ (⦃runA⦄ hc0 hc1 hc2 hc3 hc4 x0 x1 x2 x3 x4 x5).2.1, y ∈ pc.1.set :=
  View.cover_of_tiledBy (⦃runA⦄ hc0 hc1 hc2 hc3 hc4 x0 x1 x2 x3 x4 x5).2.1 ![256, 128] (by sl_kernel_rfl) y
theorem coverA8 (hc0 : cnd0 i) (hc1 : cnd1 i) (hc2 : ¬cnd2 i) (hc3 : cnd3 i) (hc4 : ¬cnd4 i) (y : S256x128.Idx) :
    ∃ pc ∈ (⦃runA⦄ hc0 hc1 hc2 hc3 hc4 x0 x1 x2 x3 x4 x5).2.2.1, y ∈ pc.1.set :=
  View.cover_of_tiledBy (⦃runA⦄ hc0 hc1 hc2 hc3 hc4 x0 x1 x2 x3 x4 x5).2.2.1 ![256, 1] (by sl_kernel_rfl) y
theorem coverAS (hc0 : cnd0 i) (hc1 : cnd1 i) (hc2 : ¬cnd2 i) (hc3 : cnd3 i) (hc4 : ¬cnd4 i) (y : S16x1024x256.Idx) :
    ∃ pc ∈ (⦃runA⦄ hc0 hc1 hc2 hc3 hc4 x0 x1 x2 x3 x4 x5).2.2.2.1, y ∈ pc.1.set :=
  View.cover_of_wholeMem (⦃runA⦄ hc0 hc1 hc2 hc3 hc4 x0 x1 x2 x3 x4 x5).2.2.2.1 (by sl_whole_mem) y
theorem coverC6 (hc0 : ¬cnd0 i) (hc1 : cnd1 i) (hc2 : ¬cnd2 i) (hc3 : ¬cnd3 i) (hc4 : ¬cnd4 i) (xs0 : Vec F S16x1024x256 .f32) (y : S256x1024.Idx) :
    ∃ pc ∈ (⦃runC⦄ hc0 hc1 hc2 hc3 hc4 x0 x1 x2 x3 x4 x5 xs0).1, y ∈ pc.1.set :=
  View.cover_of_wholeMem (⦃runC⦄ hc0 hc1 hc2 hc3 hc4 x0 x1 x2 x3 x4 x5 xs0).1 (by sl_whole_mem) y
theorem coverC7 (hc0 : ¬cnd0 i) (hc1 : cnd1 i) (hc2 : ¬cnd2 i) (hc3 : ¬cnd3 i) (hc4 : ¬cnd4 i) (xs0 : Vec F S16x1024x256 .f32) (y : S256x1024.Idx) :
    ∃ pc ∈ (⦃runC⦄ hc0 hc1 hc2 hc3 hc4 x0 x1 x2 x3 x4 x5 xs0).2.1, y ∈ pc.1.set :=
  View.cover_of_wholeMem (⦃runC⦄ hc0 hc1 hc2 hc3 hc4 x0 x1 x2 x3 x4 x5 xs0).2.1 (by sl_whole_mem) y
theorem coverC8 (hc0 : ¬cnd0 i) (hc1 : cnd1 i) (hc2 : ¬cnd2 i) (hc3 : ¬cnd3 i) (hc4 : ¬cnd4 i) (xs0 : Vec F S16x1024x256 .f32) (y : S256x128.Idx) :
    ∃ pc ∈ (⦃runC⦄ hc0 hc1 hc2 hc3 hc4 x0 x1 x2 x3 x4 x5 xs0).2.2.1, y ∈ pc.1.set :=
  View.cover_of_wholeMem (⦃runC⦄ hc0 hc1 hc2 hc3 hc4 x0 x1 x2 x3 x4 x5 xs0).2.2.1 (by sl_whole_mem) y

end

/-! ## The proof data -/

/-- Between points: the accumulator at its contents (at anything before the first point), the generator register, the
    transfer's cell at zero, the array of the queries' gradients at its contents. -/
def Phi (n : ℕ) : sProp 𝕄 :=
  iprop((∃ a, ⌜n ≠ 0 → a = (st m c n).ac⌝ ∗ owns (c : Thread nD τ) accM fullShare a) ∗ (∃ r, prngReg c r)
    ∗ semVal ((c : Thread nD τ), SemLoc.dma 18) 0 ∗ owns (c : Thread nD τ) dqM fullShare (st m c n).dq)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => (st m c (t.val + 1)).o6
    | ⟨7, _⟩ => (st m c (t.val + 1)).o7
    | ⟨8, _⟩ => (st m c (t.val + 1)).o8
  Φ t := Phi m c t.val
  q _ := fullShare
  owed _ := 0

theorem A_eq (w : Fin cfg0.W) : (dats m 0 c).A w = V m c (Pipeline.arrRef spec0 w) := by
  dsimp only [dats]
theorem after0 : (dats m 0 c).after 0 t = blk m c 0 t := by dsimp only [dats]
theorem after1 : (dats m 0 c).after 1 t = blk m c 1 t := by dsimp only [dats]
theorem after2 : (dats m 0 c).after 2 t = blk m c 2 t := by dsimp only [dats]
theorem after3 : (dats m 0 c).after 3 t = blk m c 3 t := by dsimp only [dats]
theorem after4 : (dats m 0 c).after 4 t = blk m c 4 t := by dsimp only [dats]
theorem after5 : (dats m 0 c).after 5 t = blk m c 5 t := by dsimp only [dats]
theorem after6 : (dats m 0 c).after 6 t = (st m c (t.val + 1)).o6 := by dsimp only [dats]
theorem after7 : (dats m 0 c).after 7 t = (st m c (t.val + 1)).o7 := by dsimp only [dats]
theorem after8 : (dats m 0 c).after 8 t = (st m c (t.val + 1)).o8 := by dsimp only [dats]
theorem before0 (d) : (dats m 0 c).before 0 t d = blk m c 0 t :=
  ((dats m 0 c).before_in_eq_fetched 0 rfl (fun _ => rfl) (fun _ _ _ => rfl) (fun t => by rw [after0]; unfold Dat.blockOf blk Gen.iblk; rw [A_eq]; try rfl) t d).trans
    (by unfold Dat.fetched Dat.blockOf blk Gen.iblk; rw [A_eq]; try rfl)
theorem live0 : ∀ t : Fin cfg0.N, cfg0.idle 0 (grid0.coords t) = false := by decide +kernel
theorem before1 (d) : (dats m 0 c).before 1 t d = blk m c 1 t :=
  ((dats m 0 c).before_in_eq_fetched 1 rfl (fun _ => rfl) (fun _ _ _ => rfl) (fun t => by rw [after1]; unfold Dat.blockOf blk Gen.iblk; rw [A_eq]; try rfl) t d).trans
    (by unfold Dat.fetched Dat.blockOf blk Gen.iblk; rw [A_eq]; try rfl)
theorem live1 : ∀ t : Fin cfg0.N, cfg0.idle 1 (grid0.coords t) = false := by decide +kernel
theorem before2 (d) : (dats m 0 c).before 2 t d = blk m c 2 t :=
  ((dats m 0 c).before_in_eq_fetched 2 rfl (fun _ => rfl) (fun _ _ _ => rfl) (fun t => by rw [after2]; unfold Dat.blockOf blk Gen.iblk; rw [A_eq]; try rfl) t d).trans
    (by unfold Dat.fetched Dat.blockOf blk Gen.iblk; rw [A_eq]; try rfl)
theorem live2 : ∀ t : Fin cfg0.N, cfg0.idle 2 (grid0.coords t) = false := by decide +kernel
theorem before3 (d) : (dats m 0 c).before 3 t d = blk m c 3 t :=
  ((dats m 0 c).before_in_eq_fetched 3 rfl (fun _ => rfl) (fun _ _ _ => rfl) (fun t => by rw [after3]; unfold Dat.blockOf blk Gen.iblk; rw [A_eq]; try rfl) t d).trans
    (by unfold Dat.fetched Dat.blockOf blk Gen.iblk; rw [A_eq]; try rfl)
theorem live3 : ∀ t : Fin cfg0.N, cfg0.idle 3 (grid0.coords t) = false := by decide +kernel
theorem before4 (d) : (dats m 0 c).before 4 t d = blk m c 4 t :=
  ((dats m 0 c).before_in_eq_fetched 4 rfl (fun _ => rfl) (fun _ _ _ => rfl) (fun t => by rw [after4]; unfold Dat.blockOf blk Gen.iblk; rw [A_eq]; try rfl) t d).trans
    (by unfold Dat.fetched Dat.blockOf blk Gen.iblk; rw [A_eq]; try rfl)
theorem live4 : ∀ t : Fin cfg0.N, cfg0.idle 4 (grid0.coords t) = false := by decide +kernel
theorem before5 (d) : (dats m 0 c).before 5 t d = blk m c 5 t :=
  ((dats m 0 c).before_in_eq_fetched 5 rfl (fun _ => rfl) (fun _ _ _ => rfl) (fun t => by rw [after5]; unfold Dat.blockOf blk Gen.iblk; rw [A_eq]; try rfl) t d).trans
    (by unfold Dat.fetched Dat.blockOf blk Gen.iblk; rw [A_eq]; try rfl)
theorem live5 : ∀ t : Fin cfg0.N, cfg0.idle 5 (grid0.coords t) = false := by decide +kernel

/-- Where the three staged outputs are left alone, and where nothing is in their buffers yet. -/
def idleF (n : ℕ) : Bool := decide (n % 16 ≠ 0 ∧ n % 16 < n / 16 % 16)
def freshF (n : ℕ) : Bool := decide (n % 16 = 0)
theorem idle6 : ∀ t : Fin cfg0.N, cfg0.idle 6 (grid0.coords t) = idleF t.val := by decide +kernel
theorem flush6 : ∀ t : Fin cfg0.N, (cfg0.win 6).flush t = decide (t.val % 16 = 15) := by decide +kernel
theorem fresh6_step : ∀ t : Fin cfg0.N, freshF (t.val + 1) = ((cfg0.win 6).flush t || (cfg0.idle 6 (cfg0.grid.coords t) && freshF t.val)) := by decide +kernel
theorem fresh6 : cfg0.fresh 6 t.val = freshF t.val :=
  Pipeline.Cfg.fresh_tab cfg0 6 freshF rfl fresh6_step t.val (Nat.le_of_lt t.isLt)
theorem carry6 : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t hz hi _
  rw [idle6, idleF, decide_eq_true_eq] at hi
  rw [after6, after6, st_succ, step_E m c t _ hi.1 hi.2, show t.val - 1 + 1 = t.val by omega]
theorem before6 (h : ¬t.val % 16 = 0) (d) :
    (dats m 0 c).before 6 t d = (st m c t.val).o6 := by
  rw [Dat.before_out_traj _ 6 rfl (fun _ _ => rfl) (carry6 m c) t.val t rfl d,
    if_neg (by rw [fresh6, freshF, decide_eq_true_eq]; exact h), after6]
  congr 2
  show t.val - 1 + 1 = t.val
  omega
theorem idle7 : ∀ t : Fin cfg0.N, cfg0.idle 7 (grid0.coords t) = idleF t.val := by decide +kernel
theorem flush7 : ∀ t : Fin cfg0.N, (cfg0.win 7).flush t = decide (t.val % 16 = 15) := by decide +kernel
theorem fresh7_step : ∀ t : Fin cfg0.N, freshF (t.val + 1) = ((cfg0.win 7).flush t || (cfg0.idle 7 (cfg0.grid.coords t) && freshF t.val)) := by decide +kernel
theorem fresh7 : cfg0.fresh 7 t.val = freshF t.val :=
  Pipeline.Cfg.fresh_tab cfg0 7 freshF rfl fresh7_step t.val (Nat.le_of_lt t.isLt)
theorem carry7 : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t hz hi _
  rw [idle7, idleF, decide_eq_true_eq] at hi
  rw [after7, after7, st_succ, step_E m c t _ hi.1 hi.2, show t.val - 1 + 1 = t.val by omega]
theorem before7 (h : ¬t.val % 16 = 0) (d) :
    (dats m 0 c).before 7 t d = (st m c t.val).o7 := by
  rw [Dat.before_out_traj _ 7 rfl (fun _ _ => rfl) (carry7 m c) t.val t rfl d,
    if_neg (by rw [fresh7, freshF, decide_eq_true_eq]; exact h), after7]
  congr 2
  show t.val - 1 + 1 = t.val
  omega
theorem idle8 : ∀ t : Fin cfg0.N, cfg0.idle 8 (grid0.coords t) = idleF t.val := by decide +kernel
theorem flush8 : ∀ t : Fin cfg0.N, (cfg0.win 8).flush t = decide (t.val % 16 = 15) := by decide +kernel
theorem fresh8_step : ∀ t : Fin cfg0.N, freshF (t.val + 1) = ((cfg0.win 8).flush t || (cfg0.idle 8 (cfg0.grid.coords t) && freshF t.val)) := by decide +kernel
theorem fresh8 : cfg0.fresh 8 t.val = freshF t.val :=
  Pipeline.Cfg.fresh_tab cfg0 8 freshF rfl fresh8_step t.val (Nat.le_of_lt t.isLt)
theorem carry8 : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t hz hi _
  rw [idle8, idleF, decide_eq_true_eq] at hi
  rw [after8, after8, st_succ, step_E m c t _ hi.1 hi.2, show t.val - 1 + 1 = t.val by omega]
theorem before8 (h : ¬t.val % 16 = 0) (d) :
    (dats m 0 c).before 8 t d = (st m c t.val).o8 := by
  rw [Dat.before_out_traj _ 8 rfl (fun _ _ => rfl) (carry8 m c) t.val t rfl d,
    if_neg (by rw [fresh8, freshF, decide_eq_true_eq]; exact h), after8]
  congr 2
  show t.val - 1 + 1 = t.val
  omega

/-! ## The body at every point -/

def bodyPre : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 : (dats m 0 c).leavesExact 0 t = owns (c : Thread nD τ) (ms0 t) fullShare (blk m c 0 t) := by
  unfold Dat.leavesExact; rw [live0 t, after0]
theorem leaves1 : (dats m 0 c).leavesExact 1 t = owns (c : Thread nD τ) (ms1 t) fullShare (blk m c 1 t) := by
  unfold Dat.leavesExact; rw [live1 t, after1]
theorem leaves2 : (dats m 0 c).leavesExact 2 t = owns (c : Thread nD τ) (ms2 t) fullShare (blk m c 2 t) := by
  unfold Dat.leavesExact; rw [live2 t, after2]
theorem leaves3 : (dats m 0 c).leavesExact 3 t = owns (c : Thread nD τ) (ms3 t) fullShare (blk m c 3 t) := by
  unfold Dat.leavesExact; rw [live3 t, after3]
theorem leaves4 : (dats m 0 c).leavesExact 4 t = owns (c : Thread nD τ) (ms4 t) fullShare (blk m c 4 t) := by
  unfold Dat.leavesExact; rw [live4 t, after4]
theorem leaves5 : (dats m 0 c).leavesExact 5 t = owns (c : Thread nD τ) (ms5 t) fullShare (blk m c 5 t) := by
  unfold Dat.leavesExact; rw [live5 t, after5]
theorem leaves6 (h : idleF t.val = false) : (dats m 0 c).leavesExact 6 t = owns (c : Thread nD τ) (ms6 t) fullShare (stepAt m c t (st m c t.val)).o6 := by
  unfold Dat.leavesExact; rw [idle6 t, h, after6, st_succ]
theorem leaves7 (h : idleF t.val = false) : (dats m 0 c).leavesExact 7 t = owns (c : Thread nD τ) (ms7 t) fullShare (stepAt m c t (st m c t.val)).o7 := by
  unfold Dat.leavesExact; rw [idle7 t, h, after7, st_succ]
theorem leaves8 (h : idleF t.val = false) : (dats m 0 c).leavesExact 8 t = owns (c : Thread nD τ) (ms8 t) fullShare (stepAt m c t (st m c t.val)).o8 := by
  unfold Dat.leavesExact; rw [idle8 t, h, after8, st_succ]
theorem live_of (h : ¬(¬t.val % 16 = 0 ∧ t.val % 16 < t.val / 16 % 16)) : idleF t.val = false := by
  rw [idleF, decide_eq_false_iff_not]; exact h

set_option maxHeartbeats 4000000 in
theorem soundA (h0 : t.val % 256 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves0, leaves1, leaves2, leaves3, leaves4, leaves5]
  unfold Dat.owesAt Pipeline.owesWithin
  rw [show (dats m 0 c).owed t.castSucc = 0 from rfl, show (dats m 0 c).owed t.succ = 0 from rfl]
  rw [show (dats m 0 c).Φ t.castSucc = Phi m c t.val from rfl, show (dats m 0 c).Φ t.succ = Phi m c (t.val + 1) from rfl]
  unfold Phi
  rw [st_succ]
  rw [leaves6 m c t (live_of t (by omega)), leaves7 m c t (live_of t (by omega)), leaves8 m c t (live_of t (by omega))]
  rw [step_A m c t _ h0]
  unfold stA; dsimp only
  generalize st m c t.val = s
  iintro ⟨⟨⟨%a, %ha, HS⟩, Hg, Hq, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((⟪runA m c t ((hcnd0 t).mpr h0) ((hcnd1 t).mpr (by omega)) (n2 (by omega)) ((hcnd3 t).mpr (by omega)) (n4 (by omega))⟫).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexists _; iexact HS
  iintro ⟨H0, H1, H2, H3, H4, H5, ⟨%e6, H6⟩, ⟨%e7, H7⟩, ⟨%e8, H8⟩, ⟨%es, HS⟩⟩
  isplitl [HS Hg Hq Hd]
  · isplitl [HS]
    · iexists _; isplitr; · ipureintro; exact fun _ => rfl
      unfold owns; iexists _; isplitr
      swap; · iexact HS
      ipureintro; exact View.read_writes_of_cover _ _ _ _ _ (coverAS c _ _ _ _ _ _ _ _ _ _ _ _ _ _ _ _ _ _ _ _ _ _ _ _ _ _ _ _ _ _ _ _ _ _ _)
    isplitl [Hg]; · iexact Hg
    isplitl [Hq]; · iexact Hq
    iexact Hd
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverA6 c _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (coverA7 c _ _ _ _ _ _ _ _ _ _ _ _ _ _ _ _ _ _ _ _ _ _ _ _ _ _ _ _ _ _ _ _ _ _ _)
  unfold owns; iexists _; isplitr
  swap; · iexact H8
  ipureintro; exact View.read_writes_of_cover _ _ _ _ _ (coverA8 c _ _ _ _ _ _ _ _ _ _ _ _ _ _ _ _ _ _ _ _ _ _ _ _ _ _ _ _ _ _ _ _ _ _ _)

set_option maxHeartbeats 4000000 in
theorem soundC (h0 : ¬t.val % 256 = 0) (h1 : t.val % 16 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves0, leaves1, leaves2, leaves3, leaves4, leaves5]
  unfold Dat.owesAt Pipeline.owesWithin
  rw [show (dats m 0 c).owed t.castSucc = 0 from rfl, show (dats m 0 c).owed t.succ = 0 from rfl]
  rw [show (dats m 0 c).Φ t.castSucc = Phi m c t.val from rfl, show (dats m 0 c).Φ t.succ = Phi m c (t.val + 1) from rfl]
  unfold Phi
  rw [st_succ]
  rw [leaves6 m c t (live_of t (by omega)), leaves7 m c t (live_of t (by omega)), leaves8 m c t (live_of t (by omega))]
  rw [step_C m c t _ h0 h1]
  unfold stC; dsimp only
  generalize st m c t.val = s
  iintro ⟨⟨⟨%a, %ha, HS⟩, Hg, Hq, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha (by omega)
  iapply ((⟪runC m c t (n0 h0) ((hcnd1 t).mpr h1) (n2 (by omega)) (n3 (by omega)) (n4 (by omega))⟫ s.ac).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, ⟨%e6, H6⟩, ⟨%e7, H7⟩, ⟨%e8, H8⟩, HS⟩
  isplitl [HS Hg Hq Hd]
  · isplitl [HS]
    · iexists _; isplitr; · ipureintro; exact fun _ => rfl
      iexact HS
    isplitl [Hg]; · iexact Hg
    isplitl [Hq]; · iexact Hq
    iexact Hd
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverC6 c _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (coverC7 c _ _ _ _ _ _ _ _ _ _ _ _ _ _ _ _ _ _ _ _ _ _ _ _ _ _ _ _ _ _ _ _ _ _ _ _)
  unfold owns; iexists _; isplitr
  swap; · iexact H8
  ipureintro; exact View.read_writes_of_cover _ _ _ _ _ (coverC8 c _ _ _ _ _ _ _ _ _ _ _ _ _ _ _ _ _ _ _ _ _ _ _ _ _ _ _ _ _ _ _ _ _ _ _ _)

set_option maxHeartbeats 4000000 in
theorem soundB (h2 : t.val / 16 % 16 + 1 ≤ t.val % 16) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves0, leaves1, leaves2, leaves3, leaves4, leaves5]
  unfold Dat.owesAt Pipeline.owesWithin
  rw [show (dats m 0 c).owed t.castSucc = 0 from rfl, show (dats m 0 c).owed t.succ = 0 from rfl]
  rw [show (dats m 0 c).Φ t.castSucc = Phi m c t.val from rfl, show (dats m 0 c).Φ t.succ = Phi m c (t.val + 1) from rfl]
  unfold Phi
  rw [st_succ]
  rw [leaves6 m c t (live_of t (by omega)), leaves7 m c t (live_of t (by omega)), leaves8 m c t (live_of t (by omega))]
  rw [step_B m c t _ h2]
  simp only [before6 m c t (by omega), before7 m c t (by omega), before8 m c t (by omega)]
  unfold stB; dsimp only
  generalize st m c t.val = s
  iintro ⟨⟨⟨%a, %ha, HS⟩, Hg, Hq, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha (by omega)
  iapply ((⟪runB m c t (n0 (by omega)) (n1 (by omega)) ((hcnd2 t).mpr h2) (n3 (by omega)) (n4 (by omega))⟫ s.o6 s.o7 s.o8 s.ac).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg Hq Hd]
  · isplitl [HS]
    · iexists _; isplitr; · ipureintro; exact fun _ => rfl
      unfold owns; iexists _; isplitr
      swap; · iexact HS
      ipureintro; rfl
    isplitl [Hg]; · iexact Hg
    isplitl [Hq]; · iexact Hq
    iexact Hd
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rfl
  isplitl [H7]
  · unfold owns; iexists _; isplitr
    swap; · iexact H7
    ipureintro; rfl
  unfold owns; iexists _; isplitr
  swap; · iexact H8
  ipureintro; rfl

set_option maxHeartbeats 4000000 in
theorem soundD (h1 : ¬t.val % 16 = 0) (h3 : t.val / 16 % 16 = t.val % 16) (h4 : ¬t.val % 256 = 255) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves0, leaves1, leaves2, leaves3, leaves4, leaves5]
  unfold Dat.owesAt Pipeline.owesWithin
  rw [show (dats m 0 c).owed t.castSucc = 0 from rfl, show (dats m 0 c).owed t.succ = 0 from rfl]
  rw [show (dats m 0 c).Φ t.castSucc = Phi m c t.val from rfl, show (dats m 0 c).Φ t.succ = Phi m c (t.val + 1) from rfl]
  unfold Phi
  rw [st_succ]
  rw [leaves6 m c t (live_of t (by omega)), leaves7 m c t (live_of t (by omega)), leaves8 m c t (live_of t (by omega))]
  rw [step_D m c t _ h1 h3 h4]
  simp only [before6 m c t (by omega), before7 m c t (by omega), before8 m c t (by omega)]
  unfold stD; dsimp only
  generalize st m c t.val = s
  iintro ⟨⟨⟨%a, %ha, HS⟩, Hg, Hq, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha (by omega)
  iapply ((⟪runD m c t (n0 (by omega)) (n1 h1) (n2 (by omega)) ((hcnd3 t).mpr h3) (n4 h4)⟫ s.o6 s.o7 s.o8 s.ac).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg Hq Hd]
  · isplitl [HS]
    · iexists _; isplitr; · ipureintro; exact fun _ => rfl
      unfold owns; iexists _; isplitr
      swap; · iexact HS
      ipureintro; rfl
    isplitl [Hg]; · iexact Hg
    isplitl [Hq]; · iexact Hq
    iexact Hd
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rfl
  isplitl [H7]
  · unfold owns; iexists _; isplitr
    swap; · iexact H7
    ipureintro; rfl
  unfold owns; iexists _; isplitr
  swap; · iexact H8
  ipureintro; rfl

set_option maxHeartbeats 4000000 in
theorem soundZ (h4 : t.val % 256 = 255) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves0, leaves1, leaves2, leaves3, leaves4, leaves5]
  unfold Dat.owesAt Pipeline.owesWithin
  rw [show (dats m 0 c).owed t.castSucc = 0 from rfl, show (dats m 0 c).owed t.succ = 0 from rfl]
  rw [show (dats m 0 c).Φ t.castSucc = Phi m c t.val from rfl, show (dats m 0 c).Φ t.succ = Phi m c (t.val + 1) from rfl]
  unfold Phi
  rw [st_succ]
  rw [leaves6 m c t (live_of t (by omega)), leaves7 m c t (live_of t (by omega)), leaves8 m c t (live_of t (by omega))]
  rw [step_Z m c t _ h4]
  simp only [before6 m c t (by omega), before7 m c t (by omega), before8 m c t (by omega)]
  unfold stZ; dsimp only
  generalize st m c t.val = s
  iintro ⟨⟨⟨%a, %ha, HS⟩, Hg, Hq, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha (by omega)
  iapply ((⟅runZ m c t (n0 (by omega)) (n1 (by omega)) (n2 (by omega)) ((hcnd3 t).mpr (by omega)) ((hcnd4 t).mpr h4)⟆ s.o6 s.o7 s.o8 s.ac s.dq).2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [Hq]; · iexact Hq
  isplitl [Hd]; · iexact Hd
  isplitl [HW]; · iexact HW
  iintro ⟨H0, H1, H2, H3, H4, H5, H6, H7, H8, HS, Hq, Hd, ⟨%W1, HW⟩⟩
  isplitl [HS Hg Hq Hd]
  · isplitl [HS]
    · iexists _; isplitr; · ipureintro; exact fun _ => rfl
      unfold owns; iexists _; isplitr
      swap; · iexact HS
      ipureintro; rfl
    isplitl [Hg]; · iexact Hg
    isplitl [Hq]; · iexact Hq
    iexact Hd
  isplitl [HW]
  · iexists W1; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rfl
  isplitl [H7]
  · unfold owns; iexists _; isplitr
    swap; · iexact H7
    ipureintro; rfl
  unfold owns; iexists _; isplitr
  swap; · iexact H8
  ipureintro; rfl

set_option maxHeartbeats 4000000 in
theorem soundE (h1 : ¬t.val % 16 = 0) (h2 : t.val % 16 < t.val / 16 % 16) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [leaves0, leaves1, leaves2, leaves3, leaves4, leaves5]
  unfold Dat.owesAt Pipeline.owesWithin
  rw [show (dats m 0 c).owed t.castSucc = 0 from rfl, show (dats m 0 c).owed t.succ = 0 from rfl]
  rw [show (dats m 0 c).Φ t.castSucc = Phi m c t.val from rfl, show (dats m 0 c).Φ t.succ = Phi m c (t.val + 1) from rfl]
  unfold Phi
  rw [st_succ]
  rw [Dat.leavesExact_idle (dats m 0 c) 6 t (by rw [idle6, idleF, decide_eq_true_eq]; exact ⟨h1, h2⟩) (by rw [flush6, decide_eq_false_iff_not]; omega)]
  rw [Dat.leavesExact_idle (dats m 0 c) 7 t (by rw [idle7, idleF, decide_eq_true_eq]; exact ⟨h1, h2⟩) (by rw [flush7, decide_eq_false_iff_not]; omega)]
  rw [Dat.leavesExact_idle (dats m 0 c) 8 t (by rw [idle8, idleF, decide_eq_true_eq]; exact ⟨h1, h2⟩) (by rw [flush8, decide_eq_false_iff_not]; omega)]
  rw [step_E m c t _ h1 h2]
  generalize st m c t.val = s
  iintro ⟨⟨⟨%a, %ha, HS⟩, Hg, Hq, Hd⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := ha (by omega)
  iapply ((⟪runE m c t (n0 (by omega)) (n1 h1) (n2 (by omega)) (n3 (by omega)) (n4 (by omega))⟫ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg Hq Hd]
  · isplitl [HS]
    · iexists _; isplitr; · ipureintro; exact fun _ => rfl
      iexact HS
    isplitl [Hg]; · iexact Hg
    isplitl [Hq]; · iexact Hq
    iexact Hd
  isplitl [HW]
  · iexists W; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H7]
  · iexists _; iexact H7
  iexists _; iexact H8

theorem sound_body :
    bodyPre m c t ⊢ wp frame (wpE (defs₀ (F := F)) Variants.none c none) Set.univ (bodyAt0 t) (fun _ => bodyPost m c t) := by
  by_cases h1 : t.val % 16 = 0
  · by_cases h0 : t.val % 256 = 0
    · exact soundA m c t h0
    · exact soundC m c t h0 h1
  · by_cases h2 : t.val / 16 % 16 + 1 ≤ t.val % 16
    · exact soundB m c t h2
    · by_cases h3 : t.val / 16 % 16 = t.val % 16
      · by_cases h4 : t.val % 256 = 255
        · exact soundZ m c t h4
        · exact soundD m c t h1 h3 h4
      · exact soundE m c t h1 (by omega)

theorem defs₀_row :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the buffers that the body writes itself hold at the end. -/
def G : (b : Ref sig .tc) → Buf (Elt F) ((c : Thread nD τ).loc b) :=
  Function.update (V m c) main_v61_0 (st m c cfg0.N).dq

theorem hbm_empty :
    (bigSep H0 (fun b => ((c : Thread nD τ).loc b) ↦{fullShare} V m c b) : sProp 𝕄) = iprop(emp) := by
  unfold H0; exact BI.bigSep_empty

theorem routed_eq (Gc : (b : Ref sig .tc) → Buf (Elt F) ((c : Thread nD τ).loc b)) :
    (Pipeline.routed R0 c Gc : sProp 𝕄) = owns (c : Thread nD τ) dqM fullShare (Gc main_v61_0) := by
  unfold Pipeline.routed
  rw [BI.bigSep_eq_bigSepL_of_eq [main_v61_0] (by decide) (by decide), owns_whole]; rfl

theorem hin : Pipeline.ΦDRG osem0 spec0 H0 R0 (V m) (V m) c ⊢ (dats m 0 c).Φ 0 := by
  rw [show (dats m 0 c).Φ 0 = Phi m c 0 from rfl, Pipeline.ΦDRG_eq, scopedRest0_eq, ownSems00_eq, routed_eq]
  unfold Phi
  simp only [accM, owns_whole]
  iintro ⟨⟨%f, HS⟩, Hg, Hq, -, Hd⟩
  isplitl [HS]
  · iexists f; isplitr; · ipureintro; exact fun h => absurd rfl h
    iexact HS
  isplitl [Hg]; · iexact Hg
  isplitl [Hq]; · iexact Hq
  iexact Hd

theorem hout : (dats m 0 c).Φ (Fin.last cfg0.N) ⊢ Pipeline.ΦDRG osem0 spec0 H0 R0 (V m) (G m) c := by
  rw [show (dats m 0 c).Φ (Fin.last cfg0.N) = Phi m c cfg0.N from rfl, Pipeline.ΦDRG_eq, scopedRest0_eq, ownSems00_eq, routed_eq, hbm_empty]
  unfold Phi
  rw [show G m c main_v61_0 = (st m c cfg0.N).dq from Function.update_self _ _ _]
  simp only [accM, owns_whole]
  iintro ⟨⟨%a, -, HS⟩, Hg, Hq, Hd⟩
  isplitl [HS]
  · iexists a; iexact HS
  isplitl [Hg]; · iexact Hg
  isplitl [Hq]; · iexact Hq
  isplitr; · iempintro
  iexact Hd

set_option backward.isDefEq.respectTransparency.types false in
/-- THE LAUNCH: every array of the pipeline at what the library computes from the proof data, the array of the queries'
    gradients at what the copies left, every other unscoped buffer as the region found it, every counter at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m) (hin := hin m) (hout := hout m)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1.toR c).1 0).trans (((dats m 0 c).arrAt_in 0 rfl _).trans ((A_eq m c 0).trans (V_main_arg0 m c))),
     ((h.1.toR c).1 2).trans (((dats m 0 c).arrAt_in 2 rfl _).trans ((A_eq m c 2).trans (V_main_arg1 m c))),
     ((h.1.toR c).2 main_arg2 (Finset.mem_sdiff.mpr ⟨Pipeline.mem_restRefs_of main_arg2 (by decide) (by decide), by decide⟩)).trans (V_main_arg2 m c),
     ((h.1.toR c).1 3).trans (((dats m 0 c).arrAt_in 3 rfl _).trans ((A_eq m c 3).trans (V_main_arg3 m c)))⟩, h.2⟩) (run_main m ρ)

end Cert.FoxBwdIdeal.Hand

end
-- ==== Proof.FoxPay.lean ====
/- The FoX gradient kernel: one head pair's arithmetic as functions of the blocks it loads, and the lists of stores of a point as lists of updates. -/
module

public import proofs.«01_k».proof.Proof.FoxFrame

@[expose] public section

set_option maxRecDepth 16384

noncomputable section

namespace Cert.FoxBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxBwdIdeal Cert.FoxBwdIdeal.Gen

variable {F : FTy → Type} [FloatOps F] [Named F]

local notation "𝕄" => MT nD τ sig Unit (Elt F) ℕ (Pipeline.UD sig nD τ) ℕ

/-! ## One head's arithmetic -/

abbrev B128 (F : FTy → Type) := FVec F S256x128 .bf16
abbrev Row (F : FTy → Type) := FVec F S1x256 .f32

/-- Three rows of ones above rows of zeros: what multiplies a key's bias lanes. -/
def biasRows : FVec F S64x256 .bf16 :=
  truncf .bf16 (sitofp (F := F) .f32 (extui 32 (cmpi .slt (iota .tc S64x256 32 [0] iota_S64x256_d0_w32) (broadcast S64x256 3#32)) natLt_1_32)) bitsLt_bf16_f32

/-- The queries of head `e` of a pair, transposed, above the bias rows. -/
def qAug (e : Fin 2) (q : B128 F) : FVec F S128x256 .bf16 :=
  match e with
  | 0 => concatenate S128x256 0 [⟨S64x256, extractStridedSlice S64x256 ![0, 0] (transpose S128x256 [1, 0] q transposes_S256x128_p1_0_S128x256) slices_S128x256_o0_0_S64x256⟩, ⟨S64x256, biasRows⟩] concatenates_S64x256_S64x256_S128x256_d0
  | 1 => concatenate S128x256 0 [⟨S64x256, extractStridedSlice S64x256 ![64, 0] (transpose S128x256 [1, 0] q transposes_S256x128_p1_0_S128x256) slices_S128x256_o64_0_S64x256⟩, ⟨S64x256, biasRows⟩] concatenates_S64x256_S64x256_S128x256_d0

/-- The cotangents of head `e`'s lanes, transposed, zero at the other head's. -/
def gHalf (e : Fin 2) (g : B128 F) : FVec F S128x256 .bf16 :=
  match e with
  | 0 => select (xori (xori (cmpi .slt (iota .tc S128x256 32 [0] iota_S128x256_d0_w32) (broadcast S128x256 64#32)) (broadcastTo S128x256 (broadcast S128x256 1#1) broadcasts_S128x256_S128x256)) (constantI S128x256 1 1#1))
      (transpose S128x256 [1, 0] g transposes_S256x128_p1_0_S128x256) (broadcast S128x256 (Scalar.ofBits .bf16 0x0000#16))
  | 1 => select (xori (xori (cmpi .slt (iota .tc S128x256 32 [0] iota_S128x256_d0_w32) (broadcast S128x256 64#32)) (broadcastTo S128x256 (broadcast S128x256 0#1) broadcasts_S128x256_S128x256)) (constantI S128x256 1 1#1))
      (transpose S128x256 [1, 0] g transposes_S256x128_p1_0_S128x256) (broadcast S128x256 (Scalar.ofBits .bf16 0x0000#16))

/-- On the diagonal: the logits of keys after the query, masked. -/
def maskD (x : FVec F S256x256 .f32) : FVec F S256x256 .f32 :=
  select (cmpi .sle (iota .tc S256x256 32 [0] iota_S256x256_d0_w32) (iota .tc S256x256 32 [1] iota_S256x256_d1_w32)) x
    (broadcast S256x256 (Named.named κ "mask" 0xF149F2CA#32))

/-- The mask of a point: on the diagonal, or none. -/
def maskOf (M : Bool) (x : FVec F S256x256 .f32) : FVec F S256x256 .f32 :=
  match M with
  | true => maskD x
  | false => x

/-- The probabilities, keys by queries. -/
def pF (M : Bool) (e : Fin 2) (q ka : B128 F) (l : Row F) : FVec F S256x256 .f32 :=
  exp (subf (maskOf M (matmul dot_S256x128_S128x256_S256x256_1_0_0_1_n_n none (shapeCast S256x128 ka shapeCasts_S256x128_S256x128) (qAug e q) (constant S256x256 .f32 0x00000000#32)))
    (broadcastTo S256x256 (shapeCast S1x256 l shapeCasts_S1x256_S1x256) broadcasts_S1x256_S256x256))

/-- The gradients of the logits. -/
def dsF (M : Bool) (e : Fin 2) (q ka v g : B128 F) (l d : Row F) : FVec F S256x256 .f32 :=
  mulf (pF M e q ka l) (subf (matmul dot_S256x128_S128x256_S256x256_1_0_0_1_n_n none v (gHalf e g) (constant S256x256 .f32 0x00000000#32))
    (broadcastTo S256x256 (shapeCast S1x256 d shapeCasts_S1x256_S1x256) broadcasts_S1x256_S256x256))

def dvF (M : Bool) (e : Fin 2) (q ka g : B128 F) (l : Row F) : FVec F S256x128 .f32 :=
  matmul dot_S256x256_S256x128_S256x128_1_0_0_1_n_n none (truncf .bf16 (pF M e q ka l) bitsLt_bf16_f32) g (constant S256x128 .f32 0x00000000#32)

def dkF (M : Bool) (e : Fin 2) (q ka v g : B128 F) (l d : Row F) : FVec F S256x128 .f32 :=
  matmul dot_S256x256_S128x256_S256x128_1_1_0_0_n_n none (truncf .bf16 (dsF M e q ka v g l d) bitsLt_bf16_f32) (qAug e q) (constant S256x128 .f32 0x00000000#32)

/-- What a point adds to its key block's gradient of the values, for a pair of heads; -/
def dvPair (M : Bool) (q ka0 ka1 g : B128 F) (l0 l1 : Row F) (old : FVec F S256x128 .f32) : FVec F S256x128 .f32 :=
  addf (shapeCast S256x128 old shapeCasts_S256x128_S256x128)
    (select (cmpi .slt (iota .tc S256x128 32 [1] iota_S256x128_d1_w32) (broadcast S256x128 64#32)) (dvF M 0 q ka0 g l0) (dvF M 1 q ka1 g l1))

/-- of the keys; -/
def dkPair (M : Bool) (q ka0 ka1 v g : B128 F) (l0 l1 d0 d1 : Row F) (old : FVec F S256x128 .f32) : FVec F S256x128 .f32 :=
  addf (shapeCast S256x128 old shapeCasts_S256x128_S256x128)
    (select (cmpi .slt (iota .tc S256x128 32 [1] iota_S256x128_d1_w32) (broadcast S256x128 64#32)) (dkF M 0 q ka0 v g l0 d0)
      (dynamicRotate 1 64#32 none (dkF M 1 q ka1 v g l1 d1) rotates_S256x128_d1))

/-- of the running sums of the gates, for one head; -/
def dcHead (M : Bool) (e : Fin 2) (q ka v g : B128 F) (l d : Row F) (old : FVec F S256x1 .f32) : FVec F S256x1 .f32 :=
  subf (shapeCast S256x1 old shapeCasts_S256x1_S256x1)
    (shapeCast S256x1 (multiReduction .add [1] S256 (dsF M e q ka v g l d) 0x00000000#32 reduces_S256x256_S256 (.inl rfl) rfl) shapeCasts_S256_S256x1)

/-- of the queries, for one head. -/
def dqHead (M : Bool) (e : Fin 2) (q ka v g : B128 F) (l d : Row F) (old : FVec F S1x64x256 .f32) : FVec F S1x64x256 .f32 :=
  shapeCast S1x64x256 (addf (shapeCast S64x256 old shapeCasts_S1x64x256_S64x256)
    (matmul dot_S64x256_S256x256_S64x256_1_0_0_1_n_n none
      (extractStridedSlice S64x256 ![0, 0] (transpose S128x256 [1, 0] (shapeCast S256x128 ka shapeCasts_S256x128_S256x128) transposes_S256x128_p1_0_S128x256) slices_S128x256_o0_0_S64x256)
      (truncf .bf16 (dsF M e q ka v g l d) bitsLt_bf16_f32) (constant S64x256 .f32 0x00000000#32))) shapeCasts_S64x256_S1x64x256

/-! ## The rectangles -/

theorem inbPair (p : Fin 8) : ∀ a : Fin 2, (![0, 128 * p.val] : Fin 2 → ℕ) a + S256x128.size a ≤ S256x1024.size a := by
  revert p; decide
theorem inbKey (h : Fin 16) : ∀ a : Fin 2, (![0, 128 * h.val] : Fin 2 → ℕ) a + S256x128.size a ≤ S256x2048.size a := by
  revert h; decide
theorem inbRow (h : Fin 16) : ∀ a : Fin 2, (![h.val, 0] : Fin 2 → ℕ) a + S1x256.size a ≤ S16x256.size a := by
  revert h; decide
theorem inbCol (h : Fin 16) : ∀ a : Fin 2, (![0, h.val] : Fin 2 → ℕ) a + S256x1.size a ≤ S256x128.size a := by
  revert h; decide
/-- A pair's lanes. -/
abbrev rPair (p : Fin 8) : Rect S256x1024 := Rect.unit ![0, 128 * p.val] S256x128.size (inbPair p)
/-- A head's key with its bias lanes. -/
abbrev rKey (h : Fin 16) : Rect S256x2048 := Rect.unit ![0, 128 * h.val] S256x128.size (inbKey h)
abbrev rRow (h : Fin 16) : Rect S16x256 := Rect.unit ![h.val, 0] S1x256.size (inbRow h)
abbrev rCol (h : Fin 16) : Rect S256x128 := Rect.unit ![0, h.val] S256x1.size (inbCol h)

/-- Where head `h`'s rows of the accumulator start: off the diagonal, and on it. -/
def offH (M : Bool) (i : grid0.Coords) (h : Fin 16) : Fin 3 → ℕ :=
  match M with
  | false => (![k0_off1 i, k0_off2 i, k0_off3 i, k0_off4 i, k0_off5 i, k0_off6 i, k0_off7 i, k0_off8 i, k0_off9 i, k0_off10 i, k0_off11 i, k0_off12 i, k0_off13 i, k0_off14 i, k0_off15 i, k0_off16 i] : Fin 16 → Fin 3 → ℕ) h
  | true => (![k0_off17 i, k0_off18 i, k0_off19 i, k0_off20 i, k0_off21 i, k0_off22 i, k0_off23 i, k0_off24 i, k0_off25 i, k0_off26 i, k0_off27 i, k0_off28 i, k0_off29 i, k0_off30 i, k0_off31 i, k0_off32 i] : Fin 16 → Fin 3 → ℕ) h
theorem offH_eq (M : Bool) (i : grid0.Coords) (h : Fin 16) : offH M i h = ![max (i 2).val (i 1).val, 64 * h.val, 0] := by
  cases M <;> fin_cases h
  · exact k0_off1_eq i
  · exact k0_off2_eq i
  · exact k0_off3_eq i
  · exact k0_off4_eq i
  · exact k0_off5_eq i
  · exact k0_off6_eq i
  · exact k0_off7_eq i
  · exact k0_off8_eq i
  · exact k0_off9_eq i
  · exact k0_off10_eq i
  · exact k0_off11_eq i
  · exact k0_off12_eq i
  · exact k0_off13_eq i
  · exact k0_off14_eq i
  · exact k0_off15_eq i
  · exact k0_off16_eq i
  · exact k0_off17_eq i
  · exact k0_off18_eq i
  · exact k0_off19_eq i
  · exact k0_off20_eq i
  · exact k0_off21_eq i
  · exact k0_off22_eq i
  · exact k0_off23_eq i
  · exact k0_off24_eq i
  · exact k0_off25_eq i
  · exact k0_off26_eq i
  · exact k0_off27_eq i
  · exact k0_off28_eq i
  · exact k0_off29_eq i
  · exact k0_off30_eq i
  · exact k0_off31_eq i
  · exact k0_off32_eq i
theorem inbH (M : Bool) (i : grid0.Coords) (h : Fin 16) : ∀ a : Fin 3, offH M i h a + S1x64x256.size a ≤ S16x1024x256.size a := by
  rw [offH_eq]
  have h1 : (i 1).val < 16 := (i 1).isLt
  have h2 : (i 2).val < 16 := (i 2).isLt
  intro a
  fin_cases a
  · show max (i 2).val (i 1).val + 1 ≤ 16; omega
  · show 64 * h.val + 64 ≤ 1024; omega
  · show 0 + 256 ≤ 256; omega
/-- A head's rows of the accumulator, at the point's query block. -/
abbrev rAcc (M : Bool) (i : grid0.Coords) (h : Fin 16) : Rect S16x1024x256 := Rect.unit (offH M i h) S1x64x256.size (inbH M i h)

/-! ## Updates -/

/-- A store whose payload is a function of what its rectangle held. -/
abbrev Upd (F : FTy → Type) (s : Shape) := Σ r : Rect s, (r.shape.Idx → Elt F .f32) → (r.shape.Idx → Elt F .f32)

/-- The stores of updates, each of what the buffer `f` held at first; -/
def plainL {sig : RefSig} {κ : Kind} {sp : Space} {s : Shape} (v : View sig κ sp s .f32) (f : v.ty.Contents (Elt F)) (us : List (Upd F s)) : List (View.Piece (Elt F) s .f32) :=
  us.map fun u => ⟨u.1, u.2 (v.readAt (Elt F) u.1.toLoadRect f)⟩

/-- of what the buffer holds after the earlier stores, over the base stores `L`. -/
def chainL {sig : RefSig} {κ : Kind} {sp : Space} {s : Shape} (v : View sig κ sp s .f32) (L : List (View.Piece (Elt F) s .f32)) : List (Upd F s) → List (View.Piece (Elt F) s .f32)
  | [] => L
  | u :: us => ⟨u.1, u.2 (v.readAt (Elt F) u.1.toLoadRect (v.writes (Elt F) v.junk (chainL v L us)))⟩ :: chainL v L us

/-- The first and the second head of a pair. -/
def hd (p : Fin 8) (e : Fin 2) : Fin 16 := ⟨2 * p.val + e.val, by omega⟩
/-- A head's pair, and its place in it. -/
def prOf (h : Fin 16) : Fin 8 := ⟨h.val / 2, by omega⟩
def parOf (h : Fin 16) : Fin 2 := ⟨h.val % 2, by omega⟩

section
variable (M : Bool) (i : grid0.Coords) (x0 : Vec F S256x1024 .bf16) (x1 : Vec F S256x2048 .bf16) (x2 x3 : Vec F S256x1024 .bf16) (x4 x5 : Vec F S16x256 .f32)

def updV (p : Fin 8) : Upd F S256x1024 :=
  ⟨rPair p, dvPair M (View.ld x0 (rPair p)) (View.ld x1 (rKey (hd p 0))) (View.ld x1 (rKey (hd p 1))) (View.ld x3 (rPair p)) (View.ld x4 (rRow (hd p 0))) (View.ld x4 (rRow (hd p 1)))⟩
def updK (p : Fin 8) : Upd F S256x1024 :=
  ⟨rPair p, dkPair M (View.ld x0 (rPair p)) (View.ld x1 (rKey (hd p 0))) (View.ld x1 (rKey (hd p 1))) (View.ld x2 (rPair p)) (View.ld x3 (rPair p)) (View.ld x4 (rRow (hd p 0))) (View.ld x4 (rRow (hd p 1)))
    (View.ld x5 (rRow (hd p 0))) (View.ld x5 (rRow (hd p 1)))⟩
def updC (h : Fin 16) : Upd F S256x128 :=
  ⟨rCol h, dcHead M (parOf h) (View.ld x0 (rPair (prOf h))) (View.ld x1 (rKey h)) (View.ld x2 (rPair (prOf h))) (View.ld x3 (rPair (prOf h))) (View.ld x4 (rRow h)) (View.ld x5 (rRow h))⟩
def updQ (h : Fin 16) : Upd F S16x1024x256 :=
  ⟨rAcc M i h, dqHead M (parOf h) (View.ld x0 (rPair (prOf h))) (View.ld x1 (rKey h)) (View.ld x2 (rPair (prOf h))) (View.ld x3 (rPair (prOf h))) (View.ld x4 (rRow h)) (View.ld x5 (rRow h))⟩

def usV : List (Upd F S256x1024) := ([7, 6, 5, 4, 3, 2, 1, 0] : List (Fin 8)).map (updV M x0 x1 x3 x4)
def usK : List (Upd F S256x1024) := ([7, 6, 5, 4, 3, 2, 1, 0] : List (Fin 8)).map (updK M x0 x1 x2 x3 x4 x5)
def usC : List (Upd F S256x128) := ([15, 14, 13, 12, 11, 10, 9, 8, 7, 6, 5, 4, 3, 2, 1, 0] : List (Fin 16)).map (updC M x0 x1 x2 x3 x4 x5)
def usQ : List (Upd F S16x1024x256) := ([15, 14, 13, 12, 11, 10, 9, 8, 7, 6, 5, 4, 3, 2, 1, 0] : List (Fin 16)).map (updQ M i x0 x1 x2 x3 x4 x5)
end

end Cert.FoxBwdIdeal.Hand

end
-- ==== Proof.FoxLists.lean ====
/- The FoX gradient kernel: the stores that each case's run found are the updates of its pairs and heads. -/
module

public import proofs.«01_k».proof.Proof.FoxPay

@[expose] public section

set_option maxRecDepth 16384

noncomputable section

namespace Cert.FoxBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxBwdIdeal Cert.FoxBwdIdeal.Gen

variable {F : FTy → Type} [FloatOps F] [Named F]

local notation "𝕄" => MT nD τ sig Unit (Elt F) ℕ (Pipeline.UD sig nD τ) ℕ

variable (c : Dev nD) (i : grid0.Coords) (arg3 : Memref sig .tc .vmem S256x1024 .bf16) (harg3 : arg3.IsWhole)
  (arg4 : Memref sig .tc .vmem S256x2048 .bf16) (harg4 : arg4.IsWhole) (arg5 : Memref sig .tc .vmem S256x1024 .bf16)
  (harg5 : arg5.IsWhole) (arg6 : Memref sig .tc .vmem S256x1024 .bf16) (harg6 : arg6.IsWhole)
  (arg7 : Memref sig .tc .vmem S16x256 .f32) (harg7 : arg7.IsWhole) (arg8 : Memref sig .tc .vmem S16x256 .f32)
  (harg8 : arg8.IsWhole) (arg10 : Memref sig .tc .vmem S256x1024 .f32) (harg10 : arg10.IsWhole)
  (arg11 : Memref sig .tc .vmem S256x1024 .f32) (harg11 : arg11.IsWhole) (arg12 : Memref sig .tc .vmem S256x128 .f32)
  (harg12 : arg12.IsWhole) (arg9 : Memref sig .tc .hbm S2x16x1024x256 .f32) (harg9 : arg9.IsWhole)
  (arg13 : Memref sig .tc .vmem S16x1024x256 .f32) (harg13 : arg13.IsWhole) (arg14 : DmaSems sig S_)

/-- A case's run on these memrefs. -/
local notation "⦃" f:max "⦄" => f c i arg3 harg3 arg4 harg4 arg5 harg5 arg6 harg6 arg7 harg7 arg8 harg8 arg10 harg10 arg11 harg11 arg12 harg12 arg9 harg9 arg13 harg13 arg14

set_option maxHeartbeats 4000000 in
theorem listB6 (hc0 : ¬cnd0 i) (hc1 : ¬cnd1 i) (hc2 : cnd2 i) (hc3 : ¬cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runB⦄ hc0 hc1 hc2 hc3 hc4 x0 x1 x2 x3 x4 x5 xo6 xo7 xo8 xs0).1 = plainL arg10.view (harg10.unread xo6) (usK false (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runB; rfl
set_option maxHeartbeats 4000000 in
theorem listB7 (hc0 : ¬cnd0 i) (hc1 : ¬cnd1 i) (hc2 : cnd2 i) (hc3 : ¬cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runB⦄ hc0 hc1 hc2 hc3 hc4 x0 x1 x2 x3 x4 x5 xo6 xo7 xo8 xs0).2.1 = plainL arg11.view (harg11.unread xo7) (usV false (arg3.view.read (Elt F) (harg3.unread x0)) (arg4.view.read (Elt F) (harg4.unread x1)) (arg6.view.read (Elt F) (harg6.unread x3)) (arg7.view.read (Elt F) (harg7.unread x4))) := by
  unfold runB; rfl
set_option maxHeartbeats 4000000 in
theorem listB8 (hc0 : ¬cnd0 i) (hc1 : ¬cnd1 i) (hc2 : cnd2 i) (hc3 : ¬cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runB⦄ hc0 hc1 hc2 hc3 hc4 x0 x1 x2 x3 x4 x5 xo6 xo7 xo8 xs0).2.2.1 = plainL arg12.view (harg12.unread xo8) (usC false (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runB; rfl
set_option maxHeartbeats 4000000 in
theorem listBS (hc0 : ¬cnd0 i) (hc1 : ¬cnd1 i) (hc2 : cnd2 i) (hc3 : ¬cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runB⦄ hc0 hc1 hc2 hc3 hc4 x0 x1 x2 x3 x4 x5 xo6 xo7 xo8 xs0).2.2.2.1 = plainL arg13.view (harg13.unread xs0) (usQ false i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runB; rfl
set_option maxHeartbeats 4000000 in
theorem listD6 (hc0 : ¬cnd0 i) (hc1 : ¬cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runD⦄ hc0 hc1 hc2 hc3 hc4 x0 x1 x2 x3 x4 x5 xo6 xo7 xo8 xs0).1 = plainL arg10.view (harg10.unread xo6) (usK true (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runD; rfl
set_option maxHeartbeats 4000000 in
theorem listD7 (hc0 : ¬cnd0 i) (hc1 : ¬cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runD⦄ hc0 hc1 hc2 hc3 hc4 x0 x1 x2 x3 x4 x5 xo6 xo7 xo8 xs0).2.1 = plainL arg11.view (harg11.unread xo7) (usV true (arg3.view.read (Elt F) (harg3.unread x0)) (arg4.view.read (Elt F) (harg4.unread x1)) (arg6.view.read (Elt F) (harg6.unread x3)) (arg7.view.read (Elt F) (harg7.unread x4))) := by
  unfold runD; rfl
set_option maxHeartbeats 4000000 in
theorem listD8 (hc0 : ¬cnd0 i) (hc1 : ¬cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runD⦄ hc0 hc1 hc2 hc3 hc4 x0 x1 x2 x3 x4 x5 xo6 xo7 xo8 xs0).2.2.1 = plainL arg12.view (harg12.unread xo8) (usC true (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runD; rfl
set_option maxHeartbeats 4000000 in
theorem listDS (hc0 : ¬cnd0 i) (hc1 : ¬cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) :
    (⦃runD⦄ hc0 hc1 hc2 hc3 hc4 x0 x1 x2 x3 x4 x5 xo6 xo7 xo8 xs0).2.2.2.1 = plainL arg13.view (harg13.unread xs0) (usQ true i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runD; rfl
set_option maxHeartbeats 4000000 in
theorem listZ6 (c : Dev nD) (i : grid0.Coords) (arg3 : Memref sig .tc .vmem S256x1024 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S16x256 .f32) (harg7 : arg7.IsWhole) (arg8 : Memref sig .tc .vmem S16x256 .f32) (harg8 : arg8.IsWhole) (arg10 : Memref sig .tc .vmem S256x1024 .f32) (harg10 : arg10.IsWhole) (arg11 : Memref sig .tc .vmem S256x1024 .f32) (harg11 : arg11.IsWhole) (arg12 : Memref sig .tc .vmem S256x128 .f32) (harg12 : arg12.IsWhole) (hc0 : ¬cnd0 i) (hc1 : ¬cnd1 i) (hc2 : ¬cnd2 i) (hc3 : cnd3 i) (hc4 : cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) (xq : Vec F S2x16x1024x256 .f32) :
    (runZ c i arg3 harg3 arg4 harg4 arg5 harg5 arg6 harg6 arg7 harg7 arg8 harg8 arg10 harg10 arg11 harg11 arg12 harg12 hc0 hc1 hc2 hc3 hc4 x0 x1 x2 x3 x4 x5 xo6 xo7 xo8 xs0 xq).1 = plainL arg10.view (harg10.unread xo6) (usK true (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runZ; rfl
set_option maxHeartbeats 4000000 in
theorem listZ7 (c : Dev nD) (i : grid0.Coords) (arg3 : Memref sig .tc .vmem S256x1024 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S16x256 .f32) (harg7 : arg7.IsWhole) (arg8 : Memref sig .tc .vmem S16x256 .f32) (harg8 : arg8.IsWhole) (arg10 : Memref sig .tc .vmem S256x1024 .f32) (harg10 : arg10.IsWhole) (arg11 : Memref sig .tc .vmem S256x1024 .f32) (harg11 : arg11.IsWhole) (arg12 : Memref sig .tc .vmem S256x128 .f32) (harg12 : arg12.IsWhole) (hc0 : ¬cnd0 i) (hc1 : ¬cnd1 i) (hc2 : ¬cnd2 i) (hc3 : cnd3 i) (hc4 : cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) (xq : Vec F S2x16x1024x256 .f32) :
    (runZ c i arg3 harg3 arg4 harg4 arg5 harg5 arg6 harg6 arg7 harg7 arg8 harg8 arg10 harg10 arg11 harg11 arg12 harg12 hc0 hc1 hc2 hc3 hc4 x0 x1 x2 x3 x4 x5 xo6 xo7 xo8 xs0 xq).2.1 = plainL arg11.view (harg11.unread xo7) (usV true (arg3.view.read (Elt F) (harg3.unread x0)) (arg4.view.read (Elt F) (harg4.unread x1)) (arg6.view.read (Elt F) (harg6.unread x3)) (arg7.view.read (Elt F) (harg7.unread x4))) := by
  unfold runZ; rfl
set_option maxHeartbeats 4000000 in
theorem listZ8 (c : Dev nD) (i : grid0.Coords) (arg3 : Memref sig .tc .vmem S256x1024 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S16x256 .f32) (harg7 : arg7.IsWhole) (arg8 : Memref sig .tc .vmem S16x256 .f32) (harg8 : arg8.IsWhole) (arg10 : Memref sig .tc .vmem S256x1024 .f32) (harg10 : arg10.IsWhole) (arg11 : Memref sig .tc .vmem S256x1024 .f32) (harg11 : arg11.IsWhole) (arg12 : Memref sig .tc .vmem S256x128 .f32) (harg12 : arg12.IsWhole) (hc0 : ¬cnd0 i) (hc1 : ¬cnd1 i) (hc2 : ¬cnd2 i) (hc3 : cnd3 i) (hc4 : cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) (xq : Vec F S2x16x1024x256 .f32) :
    (runZ c i arg3 harg3 arg4 harg4 arg5 harg5 arg6 harg6 arg7 harg7 arg8 harg8 arg10 harg10 arg11 harg11 arg12 harg12 hc0 hc1 hc2 hc3 hc4 x0 x1 x2 x3 x4 x5 xo6 xo7 xo8 xs0 xq).2.2.1 = plainL arg12.view (harg12.unread xo8) (usC true (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runZ; rfl
set_option maxHeartbeats 4000000 in
theorem listZS (c : Dev nD) (i : grid0.Coords) (arg3 : Memref sig .tc .vmem S256x1024 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S16x256 .f32) (harg7 : arg7.IsWhole) (arg8 : Memref sig .tc .vmem S16x256 .f32) (harg8 : arg8.IsWhole) (arg10 : Memref sig .tc .vmem S256x1024 .f32) (harg10 : arg10.IsWhole) (arg11 : Memref sig .tc .vmem S256x1024 .f32) (harg11 : arg11.IsWhole) (arg12 : Memref sig .tc .vmem S256x128 .f32) (harg12 : arg12.IsWhole) (hc0 : ¬cnd0 i) (hc1 : ¬cnd1 i) (hc2 : ¬cnd2 i) (hc3 : cnd3 i) (hc4 : cnd4 i) (x0 : Vec F S256x1024 .bf16) (x1 : Vec F S256x2048 .bf16) (x2 : Vec F S256x1024 .bf16) (x3 : Vec F S256x1024 .bf16) (x4 : Vec F S16x256 .f32) (x5 : Vec F S16x256 .f32) (xo6 xo7 : Vec F S256x1024 .f32) (xo8 : Vec F S256x128 .f32) (xs0 : Vec F S16x1024x256 .f32) (xq : Vec F S2x16x1024x256 .f32) :
    (runZ c i arg3 harg3 arg4 harg4 arg5 harg5 arg6 harg6 arg7 harg7 arg8 harg8 arg10 harg10 arg11 harg11 arg12 harg12 hc0 hc1 hc2 hc3 hc4 x0 x1 x2 x3 x4 x5 xo6 xo7 xo8 xs0 xq).2.2.2.1 = plainL accM.view ((Memref.isWhole_whole cc0_scratch0).unread xs0) (usQ true i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runZ; rfl
set_option maxHeartbeats 4000000 in
theorem listA6 (hc0 : cnd0 i) (hc1 : cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) :
    (⦃runA⦄ hc0 hc1 hc2 hc3 hc4 x0 x1 x2 x3 x4 x5).1 = chainL arg10.view runA.sl.H6_1 (usK true (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runA; rfl
set_option maxHeartbeats 4000000 in
theorem listA7 (hc0 : cnd0 i) (hc1 : cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) :
    (⦃runA⦄ hc0 hc1 hc2 hc3 hc4 x0 x1 x2 x3 x4 x5).2.1 = chainL arg11.view runA.sl.H7_1 (usV true (arg3.view.read (Elt F) (harg3.unread x0)) (arg4.view.read (Elt F) (harg4.unread x1)) (arg6.view.read (Elt F) (harg6.unread x3)) (arg7.view.read (Elt F) (harg7.unread x4))) := by
  unfold runA; rfl
set_option maxHeartbeats 4000000 in
theorem listA8 (hc0 : cnd0 i) (hc1 : cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) :
    (⦃runA⦄ hc0 hc1 hc2 hc3 hc4 x0 x1 x2 x3 x4 x5).2.2.1 = chainL arg12.view runA.sl.H8_1 (usC true (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runA; rfl
set_option maxHeartbeats 4000000 in
theorem listAS (hc0 : cnd0 i) (hc1 : cnd1 i) (hc2 : ¬cnd2 i) (hc3 : cnd3 i) (hc4 : ¬cnd4 i) (x0 : Vec F S256x1024 .bf16) (x1 : Vec F S256x2048 .bf16) (x2 : Vec F S256x1024 .bf16) (x3 : Vec F S256x1024 .bf16) (x4 : Vec F S16x256 .f32) (x5 : Vec F S16x256 .f32) :
    (⦃runA⦄ hc0 hc1 hc2 hc3 hc4 x0 x1 x2 x3 x4 x5).2.2.2.1 = chainL arg13.view runA.sl.HS_1 (usQ true i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5))) := by
  unfold runA; rfl

end Cert.FoxBwdIdeal.Hand

end
-- ==== Proof.FoxUpd.lean ====
/- The FoX gradient kernel: a point's step as updates of what the outputs and the accumulator held. -/
module

public import proofs.«01_k».proof.Proof.FoxLists
public import Idealize.ShloMosaic.Lib.VecWindow

@[expose] public section

set_option maxRecDepth 16384

noncomputable section

namespace Cert.FoxBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxBwdIdeal Cert.FoxBwdIdeal.Gen

variable {F : FTy → Type} [FloatOps F] [Named F]

local notation "𝕄" => MT nD τ sig Unit (Elt F) ℕ (Pipeline.UD sig nD τ) ℕ

/-! ## What a list of updates leaves -/

/-- `new` is `old` with the updates made, each on its own rectangle. -/
def Applied {s : Shape} (us : List (Upd F s)) (old new : s.Idx → Elt F .f32) : Prop :=
  (∀ u ∈ us, ∀ x : u.1.shape.Idx, new (u.1.emb x) = u.2 (View.ld old u.1) x) ∧ ∀ y, (∀ u ∈ us, y ∉ u.1.set) → new y = old y

/-- No two updates meet. -/
def Apart {s : Shape} (us : List (Upd F s)) : Prop := us.Pairwise fun u u' => ∀ y, y ∈ u.1.set → y ∉ u'.1.set

section
variable {sig : RefSig} {κ : Kind} {sp : Space} {s : Shape} (v : View sig κ sp s .f32)

theorem embMem {s : Shape} (r : Rect s) (x : r.shape.Idx) : r.emb x ∈ r.set := by
  rw [← Rect.map_emb_univ]; exact Finset.mem_map_of_mem _ (Finset.mem_univ x)

theorem off_writes (f : v.ty.Contents (Elt F)) (p : View.Piece (Elt F) s .f32) (L : List (View.Piece (Elt F) s .f32)) {y : s.Idx} (hy : y ∉ p.1.set) :
    v.read (Elt F) (v.writes (Elt F) f (p :: L)) y = v.read (Elt F) (v.writes (Elt F) f L) y := by
  have hy' : y ∉ Finset.univ.map p.1.emb := by rwa [Rect.map_emb_univ]
  rw [View.writes_cons, View.read_slice_write_of_not_mem p.1 _ _ _ hy']

theorem off_plain (f g : v.ty.Contents (Elt F)) : ∀ (us : List (Upd F s)) (y : s.Idx), (∀ u ∈ us, y ∉ u.1.set) →
    v.read (Elt F) (v.writes (Elt F) f (plainL v g us)) y = v.read (Elt F) f y
  | [], _, _ => rfl
  | u :: us, y, h => by
    show v.read (Elt F) (v.writes (Elt F) f (_ :: plainL v g us)) y = _
    rw [off_writes v f _ _ (h u List.mem_cons_self)]
    exact off_plain f g us y fun u' hu' => h u' (List.mem_cons_of_mem _ hu')

theorem on_plain (f g : v.ty.Contents (Elt F)) : ∀ (us : List (Upd F s)) (_ : Apart us), ∀ u ∈ us, ∀ x : u.1.shape.Idx,
    v.read (Elt F) (v.writes (Elt F) f (plainL v g us)) (u.1.emb x) = u.2 (v.readAt (Elt F) u.1.toLoadRect g) x
  | [], _, u, hu, _ => absurd hu List.not_mem_nil
  | w :: us, ha, u, hu, x => by
    rcases List.mem_cons.mp hu with rfl | hu
    · exact View.read_writes_cons_emb v f u.1 _ _ x
    · show v.read (Elt F) (v.writes (Elt F) f (_ :: plainL v g us)) (u.1.emb x) = _
      rw [off_writes v f _ _ (fun hy => (List.pairwise_cons.mp ha).1 u hu _ hy (embMem _ x))]
      exact on_plain f g us (List.pairwise_cons.mp ha).2 u hu x

/-- The plain stores make the updates. -/
theorem applied_plain (f : v.ty.Contents (Elt F)) (old : s.Idx → Elt F .f32) (ho : v.read (Elt F) f = old) (us : List (Upd F s)) (ha : Apart us) :
    Applied us old (v.read (Elt F) (v.writes (Elt F) f (plainL v f us))) := by
  subst ho
  exact ⟨fun u hu x => on_plain v f f us ha u hu x, fun y hy => off_plain v f f us y hy⟩

theorem off_chain (L : List (View.Piece (Elt F) s .f32)) : ∀ (us : List (Upd F s)) (y : s.Idx), (∀ u ∈ us, y ∉ u.1.set) →
    v.read (Elt F) (v.writes (Elt F) v.junk (chainL v L us)) y = v.read (Elt F) (v.writes (Elt F) v.junk L) y
  | [], _, _ => rfl
  | u :: us, y, h => by
    show v.read (Elt F) (v.writes (Elt F) v.junk (_ :: chainL v L us)) y = _
    rw [off_writes v _ _ _ (h u List.mem_cons_self)]
    exact off_chain L us y fun u' hu' => h u' (List.mem_cons_of_mem _ hu')

theorem on_chain (L : List (View.Piece (Elt F) s .f32)) : ∀ (us : List (Upd F s)) (_ : Apart us), ∀ u ∈ us, ∀ x : u.1.shape.Idx,
    v.read (Elt F) (v.writes (Elt F) v.junk (chainL v L us)) (u.1.emb x) = u.2 (View.ld (v.read (Elt F) (v.writes (Elt F) v.junk L)) u.1) x
  | [], _, u, hu, _ => absurd hu List.not_mem_nil
  | w :: us, ha, u, hu, x => by
    rcases List.mem_cons.mp hu with rfl | hu
    · show v.read (Elt F) (v.writes (Elt F) v.junk (_ :: chainL v L us)) (u.1.emb x) = _
      rw [View.read_writes_cons_emb]
      exact congrArg (fun o => u.2 o x) (funext fun z => off_chain v L us _ fun u' hu' hy => (List.pairwise_cons.mp ha).1 u' hu' _ (embMem _ z) hy)
    · show v.read (Elt F) (v.writes (Elt F) v.junk (_ :: chainL v L us)) (u.1.emb x) = _
      have hn : u.1.emb x ∉ w.1.set := fun hy => (List.pairwise_cons.mp ha).1 u hu _ hy (embMem _ x)
      refine Eq.trans (off_writes v _ _ _ hn) ?_
      exact on_chain L us (List.pairwise_cons.mp ha).2 u hu x

/-- The chained stores make the updates too. -/
theorem applied_chain (L : List (View.Piece (Elt F) s .f32)) (old : s.Idx → Elt F .f32) (ho : v.read (Elt F) (v.writes (Elt F) v.junk L) = old)
    (us : List (Upd F s)) (ha : Apart us) :
    Applied us old (v.read (Elt F) (v.writes (Elt F) v.junk (chainL v L us))) := by
  subst ho
  exact ⟨fun u hu x => on_chain v L us ha u hu x, fun y hy => off_chain v L us y hy⟩
end

/-! ## The kernel's updates do not meet -/

section
variable (M : Bool) (i : grid0.Coords) (x0 : Vec F S256x1024 .bf16) (x1 : Vec F S256x2048 .bf16) (x2 x3 : Vec F S256x1024 .bf16) (x4 x5 : Vec F S16x256 .f32)

theorem pair_apart {p p' : Fin 8} (h : p ≠ p') (y : S256x1024.Idx) (hy : y ∈ (rPair p).set) : y ∉ (rPair p').set := fun hy' => by
  obtain ⟨j, hj, e⟩ := (rPair p).mem_set.mp hy 1
  obtain ⟨j', hj', e'⟩ := (rPair p').mem_set.mp hy' 1
  have a1 : (y 1).val = 128 * p.val + 1 * j := e
  have a2 : (y 1).val = 128 * p'.val + 1 * j' := e'
  have b1 : j < 128 := hj
  have b2 : j' < 128 := hj'
  exact h (Fin.ext (by omega))
theorem col_apart {p p' : Fin 16} (h : p ≠ p') (y : S256x128.Idx) (hy : y ∈ (rCol p).set) : y ∉ (rCol p').set := fun hy' => by
  obtain ⟨j, hj, e⟩ := (rCol p).mem_set.mp hy 1
  obtain ⟨j', hj', e'⟩ := (rCol p').mem_set.mp hy' 1
  have a1 : (y 1).val = p.val + 1 * j := e
  have a2 : (y 1).val = p'.val + 1 * j' := e'
  have b1 : j < 1 := hj
  have b2 : j' < 1 := hj'
  exact h (Fin.ext (by omega))
theorem acc_apart {p p' : Fin 16} (h : p ≠ p') (y : S16x1024x256.Idx) (hy : y ∈ (rAcc M i p).set) : y ∉ (rAcc M i p').set := fun hy' => by
  obtain ⟨j, hj, e⟩ := (rAcc M i p).mem_set.mp hy 1
  obtain ⟨j', hj', e'⟩ := (rAcc M i p').mem_set.mp hy' 1
  have a1 : (y 1).val = offH M i p 1 + 1 * j := e
  have a2 : (y 1).val = offH M i p' 1 + 1 * j' := e'
  rw [offH_eq] at a1 a2
  have a1 : (y 1).val = 64 * p.val + 1 * j := a1
  have a2 : (y 1).val = 64 * p'.val + 1 * j' := a2
  have b1 : j < 64 := hj
  have b2 : j' < 64 := hj'
  exact h (Fin.ext (by omega))

theorem apartV : Apart (usV M x0 x1 x3 x4) := by
  unfold Apart usV; rw [List.pairwise_map]
  exact (by decide : List.Pairwise (· ≠ ·) ([7, 6, 5, 4, 3, 2, 1, 0] : List (Fin 8))).imp fun h y => pair_apart h y
theorem apartK : Apart (usK M x0 x1 x2 x3 x4 x5) := by
  unfold Apart usK; rw [List.pairwise_map]
  exact (by decide : List.Pairwise (· ≠ ·) ([7, 6, 5, 4, 3, 2, 1, 0] : List (Fin 8))).imp fun h y => pair_apart h y
theorem apartC : Apart (usC M x0 x1 x2 x3 x4 x5) := by
  unfold Apart usC; rw [List.pairwise_map]
  exact (by decide : List.Pairwise (· ≠ ·) ([15, 14, 13, 12, 11, 10, 9, 8, 7, 6, 5, 4, 3, 2, 1, 0] : List (Fin 16))).imp fun h y => col_apart h y
theorem apartQ : Apart (usQ M i x0 x1 x2 x3 x4 x5) := by
  unfold Apart usQ; rw [List.pairwise_map]
  exact (by decide : List.Pairwise (· ≠ ·) ([15, 14, 13, 12, 11, 10, 9, 8, 7, 6, 5, 4, 3, 2, 1, 0] : List (Fin 16))).imp fun h y => acc_apart M i h y
end

/-! ## A point's step -/

/-- `new` from `old` by one point's updates, its blocks `x0 … x5`. -/
structure Step (M : Bool) (i : grid0.Coords) (x0 : Vec F S256x1024 .bf16) (x1 : Vec F S256x2048 .bf16) (x2 x3 : Vec F S256x1024 .bf16) (x4 x5 : Vec F S16x256 .f32)
    (old new : St F) : Prop where
  h6 : Applied (usK M x0 x1 x2 x3 x4 x5) old.o6 new.o6
  h7 : Applied (usV M x0 x1 x3 x4) old.o7 new.o7
  h8 : Applied (usC M x0 x1 x2 x3 x4 x5) old.o8 new.o8
  hS : Applied (usQ M i x0 x1 x2 x3 x4 x5) old.ac new.ac

/-- The outputs cleared; -/
def St.clear (s : St F) : St F := { s with o6 := k0_pay2, o7 := k0_pay3, o8 := k0_pay4 }
/-- the outputs and the accumulator. -/
def St.clearAll (s : St F) : St F := { s.clear with ac := k0_pay1 }

theorem zero6 {sig : RefSig} {κ : Kind} {sp : Space} (v : View sig κ sp S256x1024 .f32) :
    v.read (Elt F) (v.writes (Elt F) v.junk runA.sl.H6_1) = k0_pay2 :=
  View.read_writes_full v _ _ _ _
theorem zero7 {sig : RefSig} {κ : Kind} {sp : Space} (v : View sig κ sp S256x1024 .f32) :
    v.read (Elt F) (v.writes (Elt F) v.junk runA.sl.H7_1) = k0_pay3 :=
  View.read_writes_full v _ _ _ _
theorem zero8 {sig : RefSig} {κ : Kind} {sp : Space} (v : View sig κ sp S256x128 .f32) :
    v.read (Elt F) (v.writes (Elt F) v.junk runA.sl.H8_1) = k0_pay4 :=
  View.read_writes_full v _ _ _ _
theorem zeroS {sig : RefSig} {κ : Kind} {sp : Space} (v : View sig κ sp S16x1024x256 .f32) :
    v.read (Elt F) (v.writes (Elt F) v.junk runA.sl.HS_1) = k0_pay1 :=
  View.read_writes_full v _ _ _ _

variable (m : (ℓ : Loc nD τ sig) → Buf (Elt F) ℓ)

set_option maxHeartbeats 1000000 in
theorem stepB (c : Dev nD) (t : Fin cfg0.N) (s : St F) (h2 : t.val / 16 % 16 + 1 ≤ t.val % 16) :
    Step false (grid0.coords t) (blk m c 0 t) (blk m c 1 t) (blk m c 2 t) (blk m c 3 t) (blk m c 4 t) (blk m c 5 t) s (stepAt m c t s) := by
  rw [step_B m c t s h2]; unfold stB
  constructor
  · dsimp only
    rw [listB6]
    rw [(hs0 t).read_unread, (hs1 t).read_unread, (hs2 t).read_unread, (hs3 t).read_unread, (hs4 t).read_unread, (hs5 t).read_unread]
    exact applied_plain (ms6 t).view ((hs6 t).unread s.o6) _ ((hs6 t).read_unread _) _ (apartK _ _ _ _ _ _ _)
  · dsimp only
    rw [listB7]
    rw [(hs0 t).read_unread, (hs1 t).read_unread, (hs3 t).read_unread, (hs4 t).read_unread]
    exact applied_plain (ms7 t).view ((hs7 t).unread s.o7) _ ((hs7 t).read_unread _) _ (apartV _ _ _ _ _)
  · dsimp only
    rw [listB8]
    rw [(hs0 t).read_unread, (hs1 t).read_unread, (hs2 t).read_unread, (hs3 t).read_unread, (hs4 t).read_unread, (hs5 t).read_unread]
    exact applied_plain (ms8 t).view ((hs8 t).unread s.o8) _ ((hs8 t).read_unread _) _ (apartC _ _ _ _ _ _ _)
  · dsimp only
    rw [listBS]
    rw [(hs0 t).read_unread, (hs1 t).read_unread, (hs2 t).read_unread, (hs3 t).read_unread, (hs4 t).read_unread, (hs5 t).read_unread]
    exact applied_plain accM.view ((Memref.isWhole_whole cc0_scratch0).unread s.ac) _ ((Memref.isWhole_whole cc0_scratch0).read_unread _) _ (apartQ _ _ _ _ _ _ _ _)
set_option maxHeartbeats 1000000 in
theorem stepD (c : Dev nD) (t : Fin cfg0.N) (s : St F) (h1 : ¬t.val % 16 = 0) (h3 : t.val / 16 % 16 = t.val % 16) (h4 : ¬t.val % 256 = 255) :
    Step true (grid0.coords t) (blk m c 0 t) (blk m c 1 t) (blk m c 2 t) (blk m c 3 t) (blk m c 4 t) (blk m c 5 t) s (stepAt m c t s) := by
  rw [step_D m c t s h1 h3 h4]; unfold stD
  constructor
  · dsimp only
    rw [listD6]
    rw [(hs0 t).read_unread, (hs1 t).read_unread, (hs2 t).read_unread, (hs3 t).read_unread, (hs4 t).read_unread, (hs5 t).read_unread]
    exact applied_plain (ms6 t).view ((hs6 t).unread s.o6) _ ((hs6 t).read_unread _) _ (apartK _ _ _ _ _ _ _)
  · dsimp only
    rw [listD7]
    rw [(hs0 t).read_unread, (hs1 t).read_unread, (hs3 t).read_unread, (hs4 t).read_unread]
    exact applied_plain (ms7 t).view ((hs7 t).unread s.o7) _ ((hs7 t).read_unread _) _ (apartV _ _ _ _ _)
  · dsimp only
    rw [listD8]
    rw [(hs0 t).read_unread, (hs1 t).read_unread, (hs2 t).read_unread, (hs3 t).read_unread, (hs4 t).read_unread, (hs5 t).read_unread]
    exact applied_plain (ms8 t).view ((hs8 t).unread s.o8) _ ((hs8 t).read_unread _) _ (apartC _ _ _ _ _ _ _)
  · dsimp only
    rw [listDS]
    rw [(hs0 t).read_unread, (hs1 t).read_unread, (hs2 t).read_unread, (hs3 t).read_unread, (hs4 t).read_unread, (hs5 t).read_unread]
    exact applied_plain accM.view ((Memref.isWhole_whole cc0_scratch0).unread s.ac) _ ((Memref.isWhole_whole cc0_scratch0).read_unread _) _ (apartQ _ _ _ _ _ _ _ _)
set_option maxHeartbeats 1000000 in
theorem stepZ (c : Dev nD) (t : Fin cfg0.N) (s : St F) (h4 : t.val % 256 = 255) :
    Step true (grid0.coords t) (blk m c 0 t) (blk m c 1 t) (blk m c 2 t) (blk m c 3 t) (blk m c 4 t) (blk m c 5 t) s (stepAt m c t s) := by
  rw [step_Z m c t s h4]; unfold stZ
  constructor
  · dsimp only
    rw [listZ6]
    rw [(hs0 t).read_unread, (hs1 t).read_unread, (hs2 t).read_unread, (hs3 t).read_unread, (hs4 t).read_unread, (hs5 t).read_unread]
    exact applied_plain (ms6 t).view ((hs6 t).unread s.o6) _ ((hs6 t).read_unread _) _ (apartK _ _ _ _ _ _ _)
  · dsimp only
    rw [listZ7]
    rw [(hs0 t).read_unread, (hs1 t).read_unread, (hs3 t).read_unread, (hs4 t).read_unread]
    exact applied_plain (ms7 t).view ((hs7 t).unread s.o7) _ ((hs7 t).read_unread _) _ (apartV _ _ _ _ _)
  · dsimp only
    rw [listZ8]
    rw [(hs0 t).read_unread, (hs1 t).read_unread, (hs2 t).read_unread, (hs3 t).read_unread, (hs4 t).read_unread, (hs5 t).read_unread]
    exact applied_plain (ms8 t).view ((hs8 t).unread s.o8) _ ((hs8 t).read_unread _) _ (apartC _ _ _ _ _ _ _)
  · dsimp only
    rw [listZS]
    rw [(hs0 t).read_unread, (hs1 t).read_unread, (hs2 t).read_unread, (hs3 t).read_unread, (hs4 t).read_unread, (hs5 t).read_unread]
    exact applied_plain accM.view ((Memref.isWhole_whole cc0_scratch0).unread s.ac) _ ((Memref.isWhole_whole cc0_scratch0).read_unread _) _ (apartQ _ _ _ _ _ _ _ _)
set_option maxHeartbeats 1000000 in
theorem stepA (c : Dev nD) (t : Fin cfg0.N) (s : St F) (h0 : t.val % 256 = 0) :
    Step true (grid0.coords t) (blk m c 0 t) (blk m c 1 t) (blk m c 2 t) (blk m c 3 t) (blk m c 4 t) (blk m c 5 t) s.clearAll (stepAt m c t s) := by
  rw [step_A m c t s h0]; unfold stA
  constructor
  · dsimp only
    rw [listA6]
    rw [(hs0 t).read_unread, (hs1 t).read_unread, (hs2 t).read_unread, (hs3 t).read_unread, (hs4 t).read_unread, (hs5 t).read_unread]
    exact applied_chain (ms6 t).view runA.sl.H6_1 _ (zero6 (ms6 t).view) _ (apartK _ _ _ _ _ _ _)
  · dsimp only
    rw [listA7]
    rw [(hs0 t).read_unread, (hs1 t).read_unread, (hs3 t).read_unread, (hs4 t).read_unread]
    exact applied_chain (ms7 t).view runA.sl.H7_1 _ (zero7 (ms7 t).view) _ (apartV _ _ _ _ _)
  · dsimp only
    rw [listA8]
    rw [(hs0 t).read_unread, (hs1 t).read_unread, (hs2 t).read_unread, (hs3 t).read_unread, (hs4 t).read_unread, (hs5 t).read_unread]
    exact applied_chain (ms8 t).view runA.sl.H8_1 _ (zero8 (ms8 t).view) _ (apartC _ _ _ _ _ _ _)
  · dsimp only
    rw [listAS]
    rw [(hs0 t).read_unread, (hs1 t).read_unread, (hs2 t).read_unread, (hs3 t).read_unread, (hs4 t).read_unread, (hs5 t).read_unread]
    exact applied_chain accM.view runA.sl.HS_1 _ (zeroS accM.view) _ (apartQ _ _ _ _ _ _ _ _)
/-- The first point of a key block that no query block of its own step reaches clears the outputs. -/
theorem stepC (c : Dev nD) (t : Fin cfg0.N) (s : St F) (h0 : ¬t.val % 256 = 0) (h1 : t.val % 16 = 0) : stepAt m c t s = s.clear := by
  rw [step_C m c t s h0 h1]; unfold stC St.clear
  congr 1
  · exact View.read_writes_full _ _ _ _ _
  · exact View.read_writes_full _ _ _ _ _
  · exact View.read_writes_full _ _ _ _ _

/-- Only the last point of a batch changes the array of the queries' gradients. -/
theorem step_dq (c : Dev nD) (t : Fin cfg0.N) (s : St F) (h4 : ¬t.val % 256 = 255) : (stepAt m c t s).dq = s.dq := by
  unfold stepAt; split
  · split <;> rfl
  · split
    · rfl
    · split
      · rfl
      · rfl

end Cert.FoxBwdIdeal.Hand

end
-- ==== Proof.FoxMath.lean ====
/- The FoX gradient kernel over the extended reals: what one head pair's arithmetic gives at an index, of blocks of real numbers. -/
module

public import proofs.«01_k».proof.Proof.FoxPay
public import proofs.«01_k».proof.Proof.Finite
public import Idealize.ShloMosaic.Lib.Pointwise
public import Idealize.ShloMosaic.Lib.KernelVsHost
public import Idealize.ShloMosaic.Lib.WordCmp

@[expose] public section

set_option maxRecDepth 16384

noncomputable section

namespace Cert.Fox

open Idealize.ShloMosaic Cert.FoxBwdIdeal Cert.FoxBwdIdeal.Gen Cert.FoxBwdIdeal.Hand Cert.Finite

/-! ## One head's arithmetic on reals -/

/-- Row `k` of the queries of head `e` of a pair above the three rows of ones. -/
def qaR (e : Fin 2) (Q : Fin 256 → Fin 128 → ℝ) (k : Fin 128) (t : Fin 256) : ℝ :=
  if h : k.val < 64 then Q t ⟨64 * e.val + k.val, by omega⟩ else if k.val < 67 then 1 else 0
/-- The cotangents of head `e`'s lanes. -/
def gR (e : Fin 2) (G : Fin 256 → Fin 128 → ℝ) (k : Fin 128) (t : Fin 256) : ℝ := if k.val / 64 = e.val then G t k else 0
/-- The logits, keys by queries. -/
def sR (e : Fin 2) (Q KA : Fin 256 → Fin 128 → ℝ) (s t : Fin 256) : ℝ := ∑ k, KA s k * qaR e Q k t
/-- The probabilities. -/
def pR (M : Bool) (e : Fin 2) (Q KA : Fin 256 → Fin 128 → ℝ) (L : Fin 256 → ℝ) (s t : Fin 256) : ℝ :=
  if M = true ∧ t.val < s.val then 0 else Real.exp (sR e Q KA s t - L t)
/-- The gradients of the logits. -/
def dR (M : Bool) (e : Fin 2) (Q KA V G : Fin 256 → Fin 128 → ℝ) (L D : Fin 256 → ℝ) (s t : Fin 256) : ℝ :=
  pR M e Q KA L s t * (∑ k, V s k * gR e G k t - D t)

/-- A block of reals. -/
abbrev Is128 (q : B128 Ideal) (Q : Fin 256 → Fin 128 → ℝ) : Prop := ∀ s k, q (ix2 s k) = ((Q s k : ℝ) : EReal)
abbrev IsRow (l : Row Ideal) (L : Fin 256 → ℝ) : Prop := ∀ t, l (ix2 0 t) = ((L t : ℝ) : EReal)

variable {q ka ka0 ka1 v g : B128 Ideal} {l d l0 l1 d0 d1 : Row Ideal} {Q KA KA0 KA1 V G : Fin 256 → Fin 128 → ℝ} {L D L0 L1 D0 D1 : Fin 256 → ℝ}

theorem biasRows_apply (k : Fin 64) (t : Fin 256) : biasRows (F := Ideal) (ix2 k t) = ((if k.val < 3 then 1 else 0 : ℝ) : EReal) := by
  unfold biasRows
  pointwise []
  show (((BitVec.setWidth 32 (IntOp.cmpi .slt (BitVec.ofNat 32 k.val) 3#32)).toInt : ℝ) : EReal) = _
  have h : (BitVec.setWidth 32 (IntOp.cmpi .slt (BitVec.ofNat 32 k.val) 3#32)).toInt = if k.val < 3 then 1 else 0 := by revert k; decide
  rw [h]
  split <;> norm_num

theorem qAug_apply (e : Fin 2) (hq : Is128 q Q) (k : Fin 128) (t : Fin 256) : qAug (F := Ideal) e q (ix2 k t) = ((qaR e Q k t : ℝ) : EReal) := by
  have hb : ∀ h : ¬k.val < 64, biasRows (F := Ideal) (ix2 ⟨k.val - 64, by omega⟩ t) = ((if k.val < 67 then 1 else 0 : ℝ) : EReal) := fun h => by
    rw [biasRows_apply]
    have : (k.val - 64 < 3) = (k.val < 67) := propext (by omega)
    simp only [this]
  fin_cases e
  · unfold qAug
    pointwise []
    unfold qaR
    split
    · rw [hq]; refine congrArg (fun x => ((Q t x : ℝ) : EReal)) (Fin.ext ?_); show k.val = 64 * 0 + k.val; omega
    · exact hb ‹_›
  · unfold qAug
    pointwise []
    unfold qaR
    split
    · rw [hq]; refine congrArg (fun x => ((Q t x : ℝ) : EReal)) (Fin.ext ?_); show _ = 64 * 1 + k.val; simp
    · exact hb ‹_›

theorem gHalf_apply (e : Fin 2) (hg : Is128 g G) (k : Fin 128) (t : Fin 256) : gHalf (F := Ideal) e g (ix2 k t) = ((gR e G k t : ℝ) : EReal) := by
  fin_cases e
  · unfold gHalf
    pointwise [hg t k]
    have h : IntOp.xori (IntOp.xori (IntOp.cmpi .slt (BitVec.ofNat 32 k.val) 64#32) 1#1) 1#1 = BitVec.ofBool (decide (k.val / 64 = 0)) := by revert k; decide
    rw [h, Scalar.select_decide]
    unfold gR
    show _ = ((if k.val / 64 = 0 then G t k else 0 : ℝ) : EReal)
    split <;> rfl
  · unfold gHalf
    pointwise [hg t k]
    have h : IntOp.xori (IntOp.xori (IntOp.cmpi .slt (BitVec.ofNat 32 k.val) 64#32) 0#1) 1#1 = BitVec.ofBool (decide (k.val / 64 = 1)) := by revert k; decide
    rw [h, Scalar.select_decide]
    unfold gR
    show _ = ((if k.val / 64 = 1 then G t k else 0 : ℝ) : EReal)
    split <;> rfl

theorem maskD_apply (x : FVec Ideal S256x256 .f32) (s t : Fin 256) : maskD (F := Ideal) x (ix2 s t) = if t.val < s.val then ⊥ else x (ix2 s t) := by
  unfold maskD
  pointwise []
  have h1 := s.isLt
  have h2 := t.isLt
  rw [WordCmp.cmpi_sle_ofNat (by omega) (by omega), Scalar.select_decide]
  show (if s.val ≤ t.val then _ else (⊥ : EReal)) = _
  by_cases h : s.val ≤ t.val
  · rw [if_pos h, if_neg (by omega)]
  · rw [if_neg h, if_pos (by omega)]

theorem pF_apply (M : Bool) (e : Fin 2) (hq : Is128 q Q) (hk : Is128 ka KA) (hl : IsRow l L) (s t : Fin 256) :
    pF (F := Ideal) M e q ka l (ix2 s t) = ((pR M e Q KA L s t : ℝ) : EReal) := by
  unfold pR
  cases M
  · unfold pF maskOf
    pointwise [hk, hl, qAug_apply e hq, ← EReal.coe_mul, coe_sum]
    rw [if_neg (by simp), ← EReal.coe_sub]
    rfl
  · unfold pF maskOf
    pointwise [maskD_apply, hk, hl, qAug_apply e hq, ← EReal.coe_mul, coe_sum]
    by_cases h : t.val < s.val
    · rw [if_pos h, if_pos h, EReal.bot_sub]; rfl
    · rw [if_neg h, if_neg h, ← EReal.coe_sub]; rfl

theorem dsF_apply (M : Bool) (e : Fin 2) (hq : Is128 q Q) (hk : Is128 ka KA) (hv : Is128 v V) (hg : Is128 g G) (hl : IsRow l L) (hd : IsRow d D) (s t : Fin 256) :
    dsF (F := Ideal) M e q ka v g l d (ix2 s t) = ((dR M e Q KA V G L D s t : ℝ) : EReal) := by
  unfold dsF
  pointwise [pF_apply M e hq hk hl, hv, hd, gHalf_apply e hg, ← EReal.coe_mul, coe_sum]
  rw [← EReal.coe_sub, ← EReal.coe_mul]
  rfl

theorem dvF_apply (M : Bool) (e : Fin 2) (hq : Is128 q Q) (hk : Is128 ka KA) (hg : Is128 g G) (hl : IsRow l L) (s : Fin 256) (j : Fin 128) :
    dvF (F := Ideal) M e q ka g l (ix2 s j) = ((∑ t, pR M e Q KA L s t * G t j : ℝ) : EReal) := by
  unfold dvF
  pointwise [pF_apply M e hq hk hl, hg, ← EReal.coe_mul, coe_sum]

theorem dkF_apply (M : Bool) (e : Fin 2) (hq : Is128 q Q) (hk : Is128 ka KA) (hv : Is128 v V) (hg : Is128 g G) (hl : IsRow l L) (hd : IsRow d D) (s : Fin 256) (j : Fin 128) :
    dkF (F := Ideal) M e q ka v g l d (ix2 s j) = ((∑ t, dR M e Q KA V G L D s t * qaR e Q j t : ℝ) : EReal) := by
  unfold dkF
  pointwise [dsF_apply M e hq hk hv hg hl hd, qAug_apply e hq, ← EReal.coe_mul, coe_sum]

theorem half_apply (j : Fin 128) : IntOp.cmpi .slt (BitVec.ofNat 32 j.val) 64#32 = BitVec.ofBool (decide (j.val < 64)) := by revert j; decide

theorem dvPair_apply (M : Bool) (hq : Is128 q Q) (hk0 : Is128 ka0 KA0) (hk1 : Is128 ka1 KA1) (hg : Is128 g G) (hl0 : IsRow l0 L0) (hl1 : IsRow l1 L1)
    (old : FVec Ideal S256x128 .f32) (o : ℝ) (s : Fin 256) (j : Fin 128) (ho : old (ix2 s j) = (o : EReal)) :
    dvPair (F := Ideal) M q ka0 ka1 g l0 l1 old (ix2 s j) =
      ((o + if j.val < 64 then ∑ t, pR M 0 Q KA0 L0 s t * G t j else ∑ t, pR M 1 Q KA1 L1 s t * G t j : ℝ) : EReal) := by
  unfold dvPair
  pointwise [ho, dvF_apply M 0 hq hk0 hg hl0, dvF_apply M 1 hq hk1 hg hl1]
  rw [half_apply, Scalar.select_decide, EReal.coe_add]
  split <;> rfl

theorem dkPair_apply (M : Bool) (hq : Is128 q Q) (hk0 : Is128 ka0 KA0) (hk1 : Is128 ka1 KA1) (hv : Is128 v V) (hg : Is128 g G) (hl0 : IsRow l0 L0) (hl1 : IsRow l1 L1)
    (hd0 : IsRow d0 D0) (hd1 : IsRow d1 D1) (old : FVec Ideal S256x128 .f32) (o : ℝ) (s : Fin 256) (j : Fin 128) (ho : old (ix2 s j) = (o : EReal)) :
    dkPair (F := Ideal) M q ka0 ka1 v g l0 l1 d0 d1 old (ix2 s j) =
      ((o + if j.val < 64 then ∑ t, dR M 0 Q KA0 V G L0 D0 s t * Q t j else ∑ t, dR M 1 Q KA1 V G L1 D1 s t * Q t j : ℝ) : EReal) := by
  unfold dkPair
  pointwise [ho, dkF_apply M 0 hq hk0 hv hg hl0 hd0, dkF_apply M 1 hq hk1 hv hg hl1 hd1]
  rw [half_apply, Scalar.select_decide, EReal.coe_add]
  refine congrArg _ ?_
  by_cases h : j.val < 64
  · rw [if_pos h, if_pos h]
    refine congrArg _ (Finset.sum_congr rfl fun t _ => congrArg _ ?_)
    unfold qaR
    rw [dif_pos h]
    refine congrArg _ (Fin.ext ?_)
    show 64 * 0 + j.val = j.val; omega
  · rw [if_neg h, if_neg h]
    refine congrArg _ (Finset.sum_congr rfl fun t _ => congrArg _ ?_)
    refine (dif_pos (show (j.val + 128 - 64) % 128 < 64 by omega)).trans ?_
    refine congrArg _ (Fin.ext ?_)
    show 64 * 1 + (j.val + 128 - 64) % 128 = j.val; omega

theorem dcHead_apply (M : Bool) (e : Fin 2) (hq : Is128 q Q) (hk : Is128 ka KA) (hv : Is128 v V) (hg : Is128 g G) (hl : IsRow l L) (hd : IsRow d D)
    (old : FVec Ideal S256x1 .f32) (o : ℝ) (s : Fin 256) (ho : old (ix2 s 0) = (o : EReal)) :
    dcHead (F := Ideal) M e q ka v g l d old (ix2 s 0) = ((o - ∑ t, dR M e Q KA V G L D s t : ℝ) : EReal) := by
  unfold dcHead
  pointwise [ho, dsF_apply M e hq hk hv hg hl hd, coe_sum]
  rw [← EReal.coe_sub]

theorem dqHead_apply (M : Bool) (e : Fin 2) (hq : Is128 q Q) (hk : Is128 ka KA) (hv : Is128 v V) (hg : Is128 g G) (hl : IsRow l L) (hd : IsRow d D)
    (old : FVec Ideal S1x64x256 .f32) (o : ℝ) (j : Fin 64) (t : Fin 256) (ho : old (ix3 0 j t) = (o : EReal)) :
    dqHead (F := Ideal) M e q ka v g l d old (ix3 0 j t) = ((o + ∑ s, KA s ⟨j.val, by omega⟩ * dR M e Q KA V G L D s t : ℝ) : EReal) := by
  unfold dqHead
  pointwise [ho, hk, dsF_apply M e hq hk hv hg hl hd, ← EReal.coe_mul, coe_sum]
  rw [← EReal.coe_add]

end Cert.Fox

end
-- ==== Proof.FoxSpec.lean ====
/- The forgetting attention's gradient on real numbers: the probabilities, the gradients of the logits and of the four arguments, per batch and head. -/
module

public import Mathlib.Analysis.SpecialFunctions.Log.Basic
public import Mathlib.Algebra.BigOperators.Fin
public import Mathlib.Algebra.BigOperators.Intervals

@[expose] public section

noncomputable section

namespace Cert.Fox

/-- The arguments: a row is a position of a batch (`4096 b + t`), a lane one of a head's 64 (`64 h + d`), or a head for the running sums. -/
structure Data where
  q : ℕ → ℕ → ℝ
  k : ℕ → ℕ → ℝ
  v : ℕ → ℕ → ℝ
  g : ℕ → ℕ → ℝ
  c : ℕ → ℕ → ℝ

namespace Data
variable (A : Data)

/-- The logit of key `s` at query `t`, up to what depends on the query alone. -/
def lg (b h t s : ℕ) : ℝ := ∑ d : Fin 64, A.k (4096 * b + s) (64 * h + d.val) * A.q (4096 * b + t) (64 * h + d.val) - A.c (4096 * b + s) h
/-- The sum of the exponentials of the logits of the keys up to the query. -/
def z (b h t : ℕ) : ℝ := ∑ s ∈ Finset.range 4096, if s ≤ t then Real.exp (A.lg b h t s) else 0
/-- The probabilities. -/
def p (b h t s : ℕ) : ℝ := if s ≤ t then Real.exp (A.lg b h t s - Real.log (A.z b h t)) else 0
/-- The attention's output. -/
def out (b h t d : ℕ) : ℝ := ∑ s ∈ Finset.range 4096, A.p b h t s * A.v (4096 * b + s) (64 * h + d)
/-- The gradient of a probability: the cotangent's product with the value. -/
def dp (b h t s : ℕ) : ℝ := ∑ d : Fin 64, A.v (4096 * b + s) (64 * h + d.val) * A.g (4096 * b + t) (64 * h + d.val)
/-- A query's product of output and cotangent. -/
def ds (b h t : ℕ) : ℝ := ∑ d : Fin 64, A.out b h t d.val * A.g (4096 * b + t) (64 * h + d.val)
/-- The gradient of a logit. -/
def dl (b h t s : ℕ) : ℝ := A.p b h t s * (A.dp b h t s - A.ds b h t)

theorem p_of_lt {b h t s : ℕ} (hs : t < s) : A.p b h t s = 0 := if_neg (by omega)
theorem dl_of_lt {b h t s : ℕ} (hs : t < s) : A.dl b h t s = 0 := by rw [dl, A.p_of_lt hs, zero_mul]

/-- The gradients, as sums over the first `n` positions. -/
def dv (n b s j : ℕ) : ℝ := ∑ t ∈ Finset.range n, A.p b (j / 64) t s * A.g (4096 * b + t) j
def dk (n b s j : ℕ) : ℝ := ∑ t ∈ Finset.range n, A.dl b (j / 64) t s * A.q (4096 * b + t) j
def dc (n b s h : ℕ) : ℝ := -∑ t ∈ Finset.range n, A.dl b h t s
def dq (n b t j : ℕ) : ℝ := ∑ s ∈ Finset.range n, A.k (4096 * b + s) j * A.dl b (j / 64) t s

theorem sum_next (f : ℕ → ℝ) (n : ℕ) :
    ∑ x ∈ Finset.range (256 * (n + 1)), f x = ∑ x ∈ Finset.range (256 * n), f x + ∑ t : Fin 256, f (256 * n + t.val) := by
  rw [Nat.mul_succ, Finset.sum_range_add, Fin.sum_univ_eq_sum_range (fun t => f (256 * n + t))]

theorem sum_skip (f : ℕ → ℝ) (n : ℕ) (h : ∀ t < 256, f (256 * n + t) = 0) :
    ∑ x ∈ Finset.range (256 * (n + 1)), f x = ∑ x ∈ Finset.range (256 * n), f x := by
  rw [sum_next, Finset.sum_eq_zero fun (t : Fin 256) _ => h t.val t.isLt, add_zero]

theorem dv_next (n b s j : ℕ) : A.dv (256 * (n + 1)) b s j = A.dv (256 * n) b s j + ∑ t : Fin 256, A.p b (j / 64) (256 * n + t.val) s * A.g (4096 * b + (256 * n + t.val)) j :=
  sum_next _ n
theorem dk_next (n b s j : ℕ) : A.dk (256 * (n + 1)) b s j = A.dk (256 * n) b s j + ∑ t : Fin 256, A.dl b (j / 64) (256 * n + t.val) s * A.q (4096 * b + (256 * n + t.val)) j :=
  sum_next _ n
theorem dc_next (n b s h : ℕ) : A.dc (256 * (n + 1)) b s h = A.dc (256 * n) b s h - ∑ t : Fin 256, A.dl b h (256 * n + t.val) s := by
  unfold dc; rw [sum_next]; ring
theorem dq_next (n b t j : ℕ) : A.dq (256 * (n + 1)) b t j = A.dq (256 * n) b t j + ∑ s : Fin 256, A.k (4096 * b + (256 * n + s.val)) j * A.dl b (j / 64) t (256 * n + s.val) :=
  sum_next _ n

/-- A block of queries before the keys adds nothing; -/
theorem dv_skip {n b s j : ℕ} (h : 256 * (n + 1) ≤ s) : A.dv (256 * (n + 1)) b s j = A.dv (256 * n) b s j :=
  sum_skip _ n fun t ht => by rw [A.p_of_lt (by omega), zero_mul]
theorem dk_skip {n b s j : ℕ} (h : 256 * (n + 1) ≤ s) : A.dk (256 * (n + 1)) b s j = A.dk (256 * n) b s j :=
  sum_skip _ n fun t ht => by rw [A.dl_of_lt (by omega), zero_mul]
theorem dc_skip {n b s h : ℕ} (hs : 256 * (n + 1) ≤ s) : A.dc (256 * (n + 1)) b s h = A.dc (256 * n) b s h := by
  unfold dc; rw [sum_skip (fun t => A.dl b h t s) n fun t ht => A.dl_of_lt (by omega)]
/-- nor does a block of keys after the query. -/
theorem dq_skip {n b t j : ℕ} (h : t < 256 * n) : A.dq (256 * (n + 1)) b t j = A.dq (256 * n) b t j :=
  sum_skip _ n fun t ht => by rw [A.dl_of_lt (by omega), mul_zero]

theorem dv_zero (b s j : ℕ) : A.dv (256 * 0) b s j = 0 := rfl
theorem dk_zero (b s j : ℕ) : A.dk (256 * 0) b s j = 0 := rfl
theorem dc_zero (b s h : ℕ) : A.dc (256 * 0) b s h = 0 := neg_zero
theorem dq_zero (b t j : ℕ) : A.dq (256 * 0) b t j = 0 := rfl

end Data

end Cert.Fox

end
-- ==== Proof.FoxPoint.lean ====
/- The FoX gradient kernel over the extended reals: what one point of the grid adds to what its buffers hold. -/
module

public import proofs.«01_k».proof.Proof.FoxUpd
public import proofs.«01_k».proof.Proof.FoxMath
public import proofs.«01_k».proof.Proof.FoxSpec

@[expose] public section

set_option maxRecDepth 16384

noncomputable section

namespace Cert.Fox

open Idealize.ShloMosaic Cert.FoxBwdIdeal Cert.FoxBwdIdeal.Gen Cert.FoxBwdIdeal.Hand Cert.Finite

/-! ## The rectangles at an index -/

theorem emb_pair (p : Fin 8) (s : Fin 256) (k : Fin 128) : (rPair p).emb (ix2 s k) = ix2 s ⟨128 * p.val + k.val, by omega⟩ :=
  funext fun a => Fin.ext (by
    fin_cases a
    · show 0 + 1 * s.val = s.val; omega
    · show 128 * p.val + 1 * k.val = 128 * p.val + k.val; omega)
theorem emb_key (h : Fin 16) (s : Fin 256) (k : Fin 128) : (rKey h).emb (ix2 s k) = ix2 s ⟨128 * h.val + k.val, by omega⟩ :=
  funext fun a => Fin.ext (by
    fin_cases a
    · show 0 + 1 * s.val = s.val; omega
    · show 128 * h.val + 1 * k.val = 128 * h.val + k.val; omega)
theorem emb_row (h : Fin 16) (t : Fin 256) : (rRow h).emb (ix2 0 t) = ix2 h t :=
  funext fun a => Fin.ext (by
    fin_cases a
    · show h.val + 1 * 0 = h.val; omega
    · show 0 + 1 * t.val = t.val; omega)
theorem emb_col (h : Fin 16) (s : Fin 256) : (rCol h).emb (ix2 s 0) = ix2 s ⟨h.val, by omega⟩ :=
  funext fun a => Fin.ext (by
    fin_cases a
    · show 0 + 1 * s.val = s.val; omega
    · show h.val + 1 * 0 = h.val; omega)
theorem emb_acc (M : Bool) (i : grid0.Coords) (h : Fin 16) (j : Fin 64) (t : Fin 256) :
    (rAcc M i h).emb (ix3 0 j t) = ix3 ⟨max (i 2).val (i 1).val, max_lt (i 2).isLt (i 1).isLt⟩ ⟨64 * h.val + j.val, by omega⟩ t :=
  funext fun a => Fin.ext (by
    fin_cases a
    · show offH M i h 0 + 1 * 0 = max (i 2).val (i 1).val; rw [offH_eq]; rfl
    · show offH M i h 1 + 1 * j.val = 64 * h.val + j.val; rw [offH_eq]; show 64 * h.val + 1 * j.val = _; omega
    · show offH M i h 2 + 1 * t.val = t.val; rw [offH_eq]; show 0 + 1 * t.val = _; omega)

/-! ## A head's sums -/

variable (A : Data)

/-- What a key's row of 128 lanes holds for head `h`: the key, and minus its running sum in the first bias lane. -/
def Data.ka (r l : ℕ) : ℝ := if l % 128 < 64 then A.k r (64 * (l / 128) + l % 128) else if l % 128 = 64 then -A.c r (l / 128) else 0

theorem sum_halves (f : Fin 128 → ℝ) : ∑ k, f k = ∑ d : Fin 64, f ⟨d.val, by omega⟩ + ∑ d : Fin 64, f ⟨64 + d.val, by omega⟩ :=
  Fin.sum_univ_add (a := 64) (b := 64) f

section
variable {b ki qi : ℕ} (hp : Fin 8) (e : Fin 2)
  {Q KA V G : Fin 256 → Fin 128 → ℝ} {L D : Fin 256 → ℝ}
  (hQ : ∀ t k, Q t k = A.q (4096 * b + (256 * qi + t.val)) (128 * hp.val + k.val))
  (hK : ∀ s k, KA s k = A.ka (4096 * b + (256 * ki + s.val)) (128 * (hd hp e).val + k.val))
  (hV : ∀ s k, V s k = A.v (4096 * b + (256 * ki + s.val)) (128 * hp.val + k.val))
  (hG : ∀ t k, G t k = A.g (4096 * b + (256 * qi + t.val)) (128 * hp.val + k.val))
  (hL : ∀ t, L t = Real.log (A.z b (hd hp e).val (256 * qi + t.val)))
  (hD : ∀ t, D t = A.ds b (hd hp e).val (256 * qi + t.val))
  {M : Bool} (hM : M = true → qi = ki) (hM' : M = false → ki < qi)
include hQ hK

theorem sR_eq (s t : Fin 256) : sR e Q KA s t = A.lg b (hd hp e).val (256 * qi + t.val) (256 * ki + s.val) := by
  unfold sR Data.lg
  rw [sum_halves, sub_eq_add_neg]
  congr 1
  · refine Finset.sum_congr rfl fun d _ => ?_
    have h1 := d.isLt
    have h2 := hp.isLt
    have h3 := e.isLt
    rw [hK]
    unfold Data.ka qaR
    rw [if_pos (by show (128 * (hd hp e).val + d.val) % 128 < 64; omega), dif_pos h1, hQ]
    congr 2
    · show 64 * ((128 * (hd hp e).val + d.val) / 128) + (128 * (hd hp e).val + d.val) % 128 = _; omega
    · show 128 * hp.val + (64 * e.val + d.val) = 64 * (2 * hp.val + e.val) + d.val; omega
  · rw [Finset.sum_eq_single (0 : Fin 64)]
    · rw [hK]
      unfold Data.ka qaR
      rw [if_neg (by show ¬(128 * (hd hp e).val + (64 + 0)) % 128 < 64; omega), if_pos (by show (128 * (hd hp e).val + (64 + 0)) % 128 = 64; omega), dif_neg (by simp), if_pos (by simp), mul_one]
      congr 2
      show (128 * (hd hp e).val + (64 + 0)) / 128 = _; omega
    · intro d _ hd0
      have h1 := d.isLt
      have h4 : d.val ≠ 0 := fun h => hd0 (Fin.ext h)
      rw [hK]
      unfold Data.ka
      rw [if_neg (by show ¬(128 * (hd hp e).val + (64 + d.val)) % 128 < 64; omega), if_neg (by show ¬(128 * (hd hp e).val + (64 + d.val)) % 128 = 64; omega), zero_mul]
    · intro h; exact absurd (Finset.mem_univ _) h

include hL hM hM'
theorem pR_eq (s t : Fin 256) : pR M e Q KA L s t = A.p b (hd hp e).val (256 * qi + t.val) (256 * ki + s.val) := by
  unfold pR Data.p
  rw [sR_eq A hp e hQ hK, hL]
  have h1 := s.isLt
  have h2 := t.isLt
  cases M with
  | false => have := hM' rfl; rw [if_neg (by simp), if_pos (by omega)]
  | true =>
    have := hM rfl
    by_cases h : t.val < s.val
    · rw [if_pos ⟨rfl, h⟩, if_neg (by omega)]
    · rw [if_neg (fun x => h x.2), if_pos (by omega)]

include hV hG hD
theorem dR_eq (s t : Fin 256) : dR M e Q KA V G L D s t = A.dl b (hd hp e).val (256 * qi + t.val) (256 * ki + s.val) := by
  unfold dR Data.dl
  rw [pR_eq A hp e hQ hK hL hM hM', hD]
  congr 2
  unfold Data.dp gR
  rw [sum_halves]
  have h2 := hp.isLt
  fin_cases e
  · rw [Finset.sum_eq_zero (s := Finset.univ) (f := fun d : Fin 64 => V s ⟨64 + d.val, _⟩ * _), add_zero]
    · refine Finset.sum_congr rfl fun d _ => ?_
      have h1 := d.isLt
      rw [if_pos (by show d.val / 64 = 0; omega), hV, hG]
      have : 128 * hp.val + d.val = 64 * (2 * hp.val + 0) + d.val := by omega
      show A.v _ (128 * hp.val + d.val) * A.g _ (128 * hp.val + d.val) = A.v _ (64 * (2 * hp.val + 0) + d.val) * A.g _ (64 * (2 * hp.val + 0) + d.val)
      rw [this]
    · intro d _
      have h1 := d.isLt
      rw [if_neg (by show ¬(64 + d.val) / 64 = 0; omega), mul_zero]
  · rw [Finset.sum_eq_zero (s := Finset.univ) (f := fun d : Fin 64 => V s ⟨d.val, _⟩ * _), zero_add]
    · refine Finset.sum_congr rfl fun d _ => ?_
      have h1 := d.isLt
      rw [if_pos (by show (64 + d.val) / 64 = 1; omega), hV, hG]
      have : 128 * hp.val + (64 + d.val) = 64 * (2 * hp.val + 1) + d.val := by omega
      show A.v _ (128 * hp.val + (64 + d.val)) * A.g _ (128 * hp.val + (64 + d.val)) = A.v _ (64 * (2 * hp.val + 1) + d.val) * A.g _ (64 * (2 * hp.val + 1) + d.val)
      rw [this]
    · intro d _
      have h1 := d.isLt
      rw [if_neg (by show ¬d.val / 64 = 1; omega), mul_zero]
end

/-! ## A point's step -/

/-- The blocks of a point hold the data's rows: queries `256 qi …`, keys `256 ki …` of batch `b`. -/
structure Blocks (b ki qi : ℕ) (x0 : Vec Ideal S256x1024 .bf16) (x1 : Vec Ideal S256x2048 .bf16) (x2 x3 : Vec Ideal S256x1024 .bf16) (x4 x5 : Vec Ideal S16x256 .f32) : Prop where
  h0 : ∀ (t : Fin 256) (k : Fin 1024), x0 (ix2 t k) = ((A.q (4096 * b + (256 * qi + t.val)) k.val : ℝ) : EReal)
  h1 : ∀ (s : Fin 256) (l : Fin 2048), x1 (ix2 s l) = ((A.ka (4096 * b + (256 * ki + s.val)) l.val : ℝ) : EReal)
  h2 : ∀ (s : Fin 256) (k : Fin 1024), x2 (ix2 s k) = ((A.v (4096 * b + (256 * ki + s.val)) k.val : ℝ) : EReal)
  h3 : ∀ (t : Fin 256) (k : Fin 1024), x3 (ix2 t k) = ((A.g (4096 * b + (256 * qi + t.val)) k.val : ℝ) : EReal)
  h4 : ∀ (h : Fin 16) (t : Fin 256), x4 (ix2 h t) = ((Real.log (A.z b h.val (256 * qi + t.val)) : ℝ) : EReal)
  h5 : ∀ (h : Fin 16) (t : Fin 256), x5 (ix2 h t) = ((A.ds b h.val (256 * qi + t.val) : ℝ) : EReal)

section
variable {A} {M : Bool} {i : grid0.Coords} {x0 : Vec Ideal S256x1024 .bf16} {x1 : Vec Ideal S256x2048 .bf16} {x2 x3 : Vec Ideal S256x1024 .bf16} {x4 x5 : Vec Ideal S16x256 .f32}
  {b ki qi : ℕ} (B : Blocks A b ki qi x0 x1 x2 x3 x4 x5) {old new : St Ideal} (S : Step M i x0 x1 x2 x3 x4 x5 old new)
  (hM : M = true → qi = ki) (hM' : M = false → ki < qi)
include B

theorem bq (p : Fin 8) : Is128 (View.ld x0 (rPair p)) (fun t k => A.q (4096 * b + (256 * qi + t.val)) (128 * p.val + k.val)) := fun t k =>
  (congrArg x0 (emb_pair p t k)).trans (B.h0 t _)
theorem bk (h : Fin 16) : Is128 (View.ld x1 (rKey h)) (fun s k => A.ka (4096 * b + (256 * ki + s.val)) (128 * h.val + k.val)) := fun t k =>
  (congrArg x1 (emb_key h t k)).trans (B.h1 t _)
theorem bv (p : Fin 8) : Is128 (View.ld x2 (rPair p)) (fun t k => A.v (4096 * b + (256 * ki + t.val)) (128 * p.val + k.val)) := fun t k =>
  (congrArg x2 (emb_pair p t k)).trans (B.h2 t _)
theorem bg (p : Fin 8) : Is128 (View.ld x3 (rPair p)) (fun t k => A.g (4096 * b + (256 * qi + t.val)) (128 * p.val + k.val)) := fun t k =>
  (congrArg x3 (emb_pair p t k)).trans (B.h3 t _)
theorem bl (h : Fin 16) : IsRow (View.ld x4 (rRow h)) (fun t => Real.log (A.z b h.val (256 * qi + t.val))) := fun t =>
  (congrArg x4 (emb_row h t)).trans (B.h4 h t)
theorem bd (h : Fin 16) : IsRow (View.ld x5 (rRow h)) (fun t => A.ds b h.val (256 * qi + t.val)) := fun t =>
  (congrArg x5 (emb_row h t)).trans (B.h5 h t)

include S hM hM'

theorem step_o7 (s : Fin 256) (j : Fin 1024) (o : ℝ) (ho : old.o7 (ix2 s j) = (o : EReal)) :
    new.o7 (ix2 s j) = ((o + ∑ t : Fin 256, A.p b (j.val / 64) (256 * qi + t.val) (256 * ki + s.val) * A.g (4096 * b + (256 * qi + t.val)) j.val : ℝ) : EReal) := by
  have hj := j.isLt
  have he : ix2 s j = (rPair ⟨j.val / 128, by omega⟩).emb (ix2 s ⟨j.val % 128, by omega⟩) := by
    rw [emb_pair]; congr 1; exact Fin.ext (by show j.val = 128 * (j.val / 128) + j.val % 128; omega)
  have hu : updV M x0 x1 x3 x4 ⟨j.val / 128, by omega⟩ ∈ usV M x0 x1 x3 x4 := List.mem_map_of_mem (by
    generalize (⟨j.val / 128, by omega⟩ : Fin 8) = p; revert p; decide)
  rw [he]
  refine (S.h7.1 _ hu (ix2 s ⟨j.val % 128, by omega⟩)).trans ?_
  refine (dvPair_apply M (bq B _) (bk B _) (bk B _) (bg B _) (bl B _) (bl B _) _ o s _ ((congrArg old.o7 he.symm).trans ho)).trans ?_
  congr 2
  by_cases h : j.val % 128 < 64
  · rw [if_pos h]
    refine Finset.sum_congr rfl fun t _ => ?_
    rw [pR_eq A ⟨j.val / 128, by omega⟩ 0 (fun _ _ => rfl) (fun _ _ => rfl) (fun _ => rfl) hM hM']
    congr 2
    · show 2 * (j.val / 128) + 0 = _; omega
    · show 128 * (j.val / 128) + j.val % 128 = _; omega
  · rw [if_neg h]
    refine Finset.sum_congr rfl fun t _ => ?_
    rw [pR_eq A ⟨j.val / 128, by omega⟩ 1 (fun _ _ => rfl) (fun _ _ => rfl) (fun _ => rfl) hM hM']
    congr 2
    · show 2 * (j.val / 128) + 1 = _; omega
    · show 128 * (j.val / 128) + j.val % 128 = _; omega

theorem step_o6 (s : Fin 256) (j : Fin 1024) (o : ℝ) (ho : old.o6 (ix2 s j) = (o : EReal)) :
    new.o6 (ix2 s j) = ((o + ∑ t : Fin 256, A.dl b (j.val / 64) (256 * qi + t.val) (256 * ki + s.val) * A.q (4096 * b + (256 * qi + t.val)) j.val : ℝ) : EReal) := by
  have hj := j.isLt
  have he : ix2 s j = (rPair ⟨j.val / 128, by omega⟩).emb (ix2 s ⟨j.val % 128, by omega⟩) := by
    rw [emb_pair]; congr 1; exact Fin.ext (by show j.val = 128 * (j.val / 128) + j.val % 128; omega)
  have hu : updK M x0 x1 x2 x3 x4 x5 ⟨j.val / 128, by omega⟩ ∈ usK M x0 x1 x2 x3 x4 x5 := List.mem_map_of_mem (by
    generalize (⟨j.val / 128, by omega⟩ : Fin 8) = p; revert p; decide)
  rw [he]
  refine (S.h6.1 _ hu (ix2 s ⟨j.val % 128, by omega⟩)).trans ?_
  refine (dkPair_apply M (bq B _) (bk B _) (bk B _) (bv B _) (bg B _) (bl B _) (bl B _) (bd B _) (bd B _) _ o s _ ((congrArg old.o6 he.symm).trans ho)).trans ?_
  congr 2
  by_cases h : j.val % 128 < 64
  · rw [if_pos h]
    refine Finset.sum_congr rfl fun t _ => ?_
    rw [dR_eq A ⟨j.val / 128, by omega⟩ 0 (fun _ _ => rfl) (fun _ _ => rfl) (fun _ _ => rfl) (fun _ _ => rfl) (fun _ => rfl) (fun _ => rfl) hM hM']
    congr 2
    · show 2 * (j.val / 128) + 0 = _; omega
    · show 128 * (j.val / 128) + j.val % 128 = _; omega
  · rw [if_neg h]
    refine Finset.sum_congr rfl fun t _ => ?_
    rw [dR_eq A ⟨j.val / 128, by omega⟩ 1 (fun _ _ => rfl) (fun _ _ => rfl) (fun _ _ => rfl) (fun _ _ => rfl) (fun _ => rfl) (fun _ => rfl) hM hM']
    congr 2
    · show 2 * (j.val / 128) + 1 = _; omega
    · show 128 * (j.val / 128) + j.val % 128 = _; omega

theorem hd_eq (h : Fin 16) : hd (prOf h) (parOf h) = h := Fin.ext (by show 2 * (h.val / 2) + h.val % 2 = h.val; omega)

theorem step_o8 (s : Fin 256) (h : Fin 16) (o : ℝ) (ho : old.o8 (ix2 s ⟨h.val, by omega⟩) = (o : EReal)) :
    new.o8 (ix2 s ⟨h.val, by omega⟩) = ((o - ∑ t : Fin 256, A.dl b h.val (256 * qi + t.val) (256 * ki + s.val) : ℝ) : EReal) := by
  have hu : updC M x0 x1 x2 x3 x4 x5 h ∈ usC M x0 x1 x2 x3 x4 x5 := List.mem_map_of_mem (by clear ho; revert h; decide)
  have he := emb_col h s
  rw [← he]
  refine (S.h8.1 _ hu (ix2 s 0)).trans ?_
  refine (dcHead_apply M (parOf h) (bq B _) (bk B _) (bv B _) (bg B _) (bl B _) (bd B _) _ o s ((congrArg old.o8 he).trans ho)).trans ?_
  congr 2
  refine Finset.sum_congr rfl fun t _ => ?_
  have hh := hd_eq B S hM hM' h
  refine (dR_eq A (prOf h) (parOf h) (fun _ _ => rfl) (fun s k => by rw [hh]) (fun _ _ => rfl) (fun _ _ => rfl) (fun t => by rw [hh]) (fun t => by rw [hh]) hM hM' s t).trans ?_
  rw [hh]

/-- Lanes without a head keep what they hold. -/
theorem step_o8_rest (s : Fin 256) (l : Fin 128) (hl : 16 ≤ l.val) : new.o8 (ix2 s l) = old.o8 (ix2 s l) := by
  refine S.h8.2 _ fun u hu hy => ?_
  obtain ⟨h, _, rfl⟩ := List.mem_map.mp hu
  obtain ⟨j, hj, e⟩ := (rCol h).mem_set.mp hy 1
  have a1 : l.val = h.val + 1 * j := e
  have b1 : j < 1 := hj
  have := h.isLt
  omega

theorem step_ac (hi : max (i 2).val (i 1).val = qi) (r : Fin 16) (j : Fin 1024) (t : Fin 256) (hr : r.val = qi) (o : ℝ) (ho : old.ac (ix3 r j t) = (o : EReal)) :
    new.ac (ix3 r j t) = ((o + ∑ s : Fin 256, A.k (4096 * b + (256 * ki + s.val)) j.val * A.dl b (j.val / 64) (256 * qi + t.val) (256 * ki + s.val) : ℝ) : EReal) := by
  have hj := j.isLt
  have hh' : j.val / 64 < 16 := by omega
  generalize hhd : (⟨j.val / 64, hh'⟩ : Fin 16) = h
  have hv : h.val = j.val / 64 := by rw [← hhd]
  have he : (rAcc M i h).emb (ix3 0 ⟨j.val % 64, by omega⟩ t) = ix3 r j t := by
    rw [emb_acc]
    have e1 : (⟨max (i 2).val (i 1).val, max_lt (i 2).isLt (i 1).isLt⟩ : Fin 16) = r := Fin.ext (hi.trans hr.symm)
    have e2 : (⟨64 * h.val + j.val % 64, by omega⟩ : Fin 1024) = j := Fin.ext (by show 64 * h.val + j.val % 64 = j.val; omega)
    rw [e2]
    exact congrArg (fun x => ix3 x j t) e1
  have hu : updQ M i x0 x1 x2 x3 x4 x5 h ∈ usQ M i x0 x1 x2 x3 x4 x5 := List.mem_map_of_mem (by clear hhd hv he; revert h; decide)
  rw [← he]
  refine (S.hS.1 _ hu (ix3 0 ⟨j.val % 64, by omega⟩ t)).trans ?_
  refine (dqHead_apply M (parOf h) (bq B _) (bk B _) (bv B _) (bg B _) (bl B _) (bd B _) _ o ⟨j.val % 64, by omega⟩ t ((congrArg old.ac he).trans ho)).trans ?_
  congr 2
  refine Finset.sum_congr rfl fun s _ => ?_
  have hh := hd_eq B S hM hM' h
  rw [dR_eq A (prOf h) (parOf h) (fun _ _ => rfl) (fun s k => by rw [hh]) (fun _ _ => rfl) (fun _ _ => rfl) (fun t => by rw [hh]) (fun t => by rw [hh]) hM hM' s t]
  rw [hh, hv]
  congr 1
  unfold Data.ka
  rw [if_pos (by show (128 * (j.val / 64) + j.val % 64) % 128 < 64; omega)]
  congr 1
  show 64 * ((128 * (j.val / 64) + j.val % 64) / 128) + (128 * (j.val / 64) + j.val % 64) % 128 = j.val
  omega

/-- The other query blocks' rows keep what they hold. -/
theorem step_ac_rest (hi : max (i 2).val (i 1).val = qi) (r : Fin 16) (j : Fin 1024) (t : Fin 256) (hr : r.val ≠ qi) : new.ac (ix3 r j t) = old.ac (ix3 r j t) := by
  refine S.hS.2 _ fun u hu hy => ?_
  obtain ⟨h, _, rfl⟩ := List.mem_map.mp hu
  obtain ⟨x, hx, e⟩ := (rAcc M i h).mem_set.mp hy 0
  have a1 : r.val = offH M i h 0 + 1 * x := e
  rw [offH_eq] at a1
  have a1 : r.val = max (i 2).val (i 1).val + 1 * x := a1
  have b1 : x < 1 := hx
  omega
end

end Cert.Fox

end
-- ==== Proof.FoxInd.lean ====
/- The FoX gradient kernel over the extended reals: what its buffers hold after each point of the grid, by induction over the points. -/
module

public import proofs.«01_k».proof.Proof.FoxPoint
public import Idealize.ShloMosaic.Lib.Pipeline.ValueKit

@[expose] public section

set_option maxRecDepth 16384

noncomputable section

namespace Cert.Fox

open Idealize.ShloMosaic Idealize.ShloMosaic.TcCoe Cert.FoxBwdIdeal Cert.FoxBwdIdeal.Gen Cert.FoxBwdIdeal.Hand Cert.Finite

/-- Where the windows' blocks lie at point `256 b + 16 ki + qi`. -/
theorem idx_facts : ∀ t : Fin cfg0.N, win0_0.index t = ![16 * (t.val / 256) + max (t.val % 16) (t.val / 16 % 16), 0]
    ∧ win0_1.index t = ![16 * (t.val / 256) + t.val / 16 % 16, 0] ∧ win0_2.index t = ![16 * (t.val / 256) + t.val / 16 % 16, 1]
    ∧ win0_3.index t = ![16 * (t.val / 256) + max (t.val % 16) (t.val / 16 % 16), 0]
    ∧ win0_4.index t = ![0, 16 * (t.val / 256) + max (t.val % 16) (t.val / 16 % 16)]
    ∧ win0_5.index t = ![0, 16 * (t.val / 256) + max (t.val % 16) (t.val / 16 % 16)]
    ∧ win0_6.index t = ![16 * (t.val / 256) + t.val / 16 % 16, 0] ∧ win0_7.index t = ![16 * (t.val / 256) + t.val / 16 % 16, 0]
    ∧ win0_8.index t = ![16 * (t.val / 256) + t.val / 16 % 16, 0] :=
  (by decide +kernel : ∀ t : Fin grid0.N, _)
theorem coord_facts : ∀ t : Fin cfg0.N, (grid0.coords t 1).val = t.val / 16 % 16 ∧ (grid0.coords t 2).val = t.val % 16 :=
  (by decide +kernel : ∀ t : Fin grid0.N, _)

variable (m : (ℓ : Loc nD τ sig) → Buf (Elt Ideal) ℓ) (c : Dev nD) (A : Data)

/-- The call's six arrays hold the data. -/
structure Host : Prop where
  q : ∀ (r : Fin 8192) (k : Fin 1024), (Gen.V m c main_arg0 : S8192x1024.Idx → EReal) (ix2 r k) = ((A.q r.val k.val : ℝ) : EReal)
  ka : ∀ (r : Fin 8192) (l : Fin 2048), (Gen.V m c main_v28 : S8192x2048.Idx → EReal) (ix2 r l) = ((A.ka r.val l.val : ℝ) : EReal)
  v : ∀ (r : Fin 8192) (k : Fin 1024), (Gen.V m c main_arg1 : S8192x2048.Idx → EReal) (ix2 r ⟨1024 + k.val, by omega⟩) = ((A.v r.val k.val : ℝ) : EReal)
  g : ∀ (r : Fin 8192) (k : Fin 1024), (Gen.V m c main_arg3 : S8192x1024.Idx → EReal) (ix2 r k) = ((A.g r.val k.val : ℝ) : EReal)
  l : ∀ (h : Fin 16) (r : Fin 8192), (Gen.V m c main_v56 : S16x8192.Idx → EReal) (ix2 h r) = ((Real.log (A.z (r.val / 4096) h.val (r.val % 4096)) : ℝ) : EReal)
  d : ∀ (h : Fin 16) (r : Fin 8192), (Gen.V m c main_v60 : S16x8192.Idx → EReal) (ix2 h r) = ((A.ds (r.val / 4096) h.val (r.val % 4096) : ℝ) : EReal)

variable {m c A} (H : Host m c A)

set_option maxHeartbeats 2000000 in
include H in
set_option maxHeartbeats 2000000 in
include H in
set_option maxHeartbeats 2000000 in
include H in
theorem blocks (t : Fin cfg0.N) : Blocks A (t.val / 256) (t.val / 16 % 16) (max (t.val % 16) (t.val / 16 % 16))
    (blk m c 0 t) (blk m c 1 t) (blk m c 2 t) (blk m c 3 t) (blk m c 4 t) (blk m c 5 t) := by
  obtain ⟨e0, e1, e2, e3, e4, e5, e6, e7, e8⟩ := idx_facts t
  have ht : t.val < 512 := t.isLt
  constructor
  · intro s k
    refine Eq.trans ?_ (H.q ⟨4096 * (t.val / 256) + (256 * max (t.val % 16) (t.val / 16 % 16) + s.val), by omega⟩ k)
    blk_simp [iblk]
    refine congrArg _ ?_
    blk_ext [e0]
  · intro s k
    refine Eq.trans ?_ (H.ka ⟨4096 * (t.val / 256) + (256 * (t.val / 16 % 16) + s.val), by omega⟩ k)
    blk_simp [iblk]
    refine congrArg _ ?_
    blk_ext [e1]
  · intro s k
    refine Eq.trans ?_ (H.v ⟨4096 * (t.val / 256) + (256 * (t.val / 16 % 16) + s.val), by omega⟩ k)
    blk_simp [iblk]
    refine congrArg _ ?_
    blk_ext [e2]
  · intro s k
    refine Eq.trans ?_ (H.g ⟨4096 * (t.val / 256) + (256 * max (t.val % 16) (t.val / 16 % 16) + s.val), by omega⟩ k)
    blk_simp [iblk]
    refine congrArg _ ?_
    blk_ext [e3]
  · intro h s
    have hb : (4096 * (t.val / 256) + (256 * max (t.val % 16) (t.val / 16 % 16) + s.val)) / 4096 = t.val / 256 := by omega
    have hm : (4096 * (t.val / 256) + (256 * max (t.val % 16) (t.val / 16 % 16) + s.val)) % 4096 = 256 * max (t.val % 16) (t.val / 16 % 16) + s.val := by omega
    have h4 := H.l h ⟨4096 * (t.val / 256) + (256 * max (t.val % 16) (t.val / 16 % 16) + s.val), by omega⟩
    dsimp only at h4
    rw [hb, hm] at h4
    refine Eq.trans ?_ h4
    blk_simp [iblk]
    refine congrArg _ ?_
    blk_ext [e4]
  · intro h s
    have hb : (4096 * (t.val / 256) + (256 * max (t.val % 16) (t.val / 16 % 16) + s.val)) / 4096 = t.val / 256 := by omega
    have hm : (4096 * (t.val / 256) + (256 * max (t.val % 16) (t.val / 16 % 16) + s.val)) % 4096 = 256 * max (t.val % 16) (t.val / 16 % 16) + s.val := by omega
    have h4 := H.d h ⟨4096 * (t.val / 256) + (256 * max (t.val % 16) (t.val / 16 % 16) + s.val), by omega⟩
    dsimp only at h4
    rw [hb, hm] at h4
    refine Eq.trans ?_ h4
    blk_simp [iblk]
    refine congrArg _ ?_
    blk_ext [e5]

variable (A)
/-- What is held once `x` of the query blocks have been added for key block `ki` of batch `b`. -/
structure Inv (b ki x : ℕ) (s : St Ideal) : Prop where
  i6 : ∀ (r : Fin 256) (j : Fin 1024), s.o6 (ix2 r j) = ((A.dk (256 * x) b (256 * ki + r.val) j.val : ℝ) : EReal)
  i7 : ∀ (r : Fin 256) (j : Fin 1024), s.o7 (ix2 r j) = ((A.dv (256 * x) b (256 * ki + r.val) j.val : ℝ) : EReal)
  i8 : ∀ (r : Fin 256) (h : Fin 16), s.o8 (ix2 r ⟨h.val, by omega⟩) = ((A.dc (256 * x) b (256 * ki + r.val) h.val : ℝ) : EReal)
  i8r : ∀ (r : Fin 256) (l : Fin 128), 16 ≤ l.val → s.o8 (ix2 r l) = 0
  iS : ∀ (r : Fin 16) (j : Fin 1024) (t : Fin 256),
    s.ac (ix3 r j t) = ((A.dq (256 * if r.val < x then ki + 1 else ki) b (256 * r.val + t.val) j.val : ℝ) : EReal)
variable {A}

/-- A point before the diagonal adds nothing. -/
theorem Inv.idle {b ki x : ℕ} {s : St Ideal} (h : Inv A b ki x s) (hx : x < ki) : Inv A b ki (x + 1) s := by
  refine ⟨fun r j => ?_, fun r j => ?_, fun r j => ?_, h.i8r, fun r j t => ?_⟩
  · rw [A.dk_skip (by omega)]; exact h.i6 r j
  · rw [A.dv_skip (by omega)]; exact h.i7 r j
  · rw [A.dc_skip (by omega)]; exact h.i8 r j
  · rw [h.iS r j t]
    have ht := t.isLt
    by_cases h1 : r.val < x
    · rw [if_pos h1, if_pos (by omega)]
    · by_cases h2 : r.val < x + 1
      · rw [if_neg h1, if_pos h2, A.dq_skip (by omega)]
      · rw [if_neg h1, if_neg h2]

/-- A point on or after the diagonal adds its query block. -/
theorem Inv.step {b ki x : ℕ} {s new : St Ideal} {M : Bool} {i : grid0.Coords} {x0 : Vec Ideal S256x1024 .bf16} {x1 : Vec Ideal S256x2048 .bf16} {x2 x3 : Vec Ideal S256x1024 .bf16} {x4 x5 : Vec Ideal S16x256 .f32}
    (h : Inv A b ki x s) (B : Blocks A b ki x x0 x1 x2 x3 x4 x5) (S : Step M i x0 x1 x2 x3 x4 x5 s new)
    (hM : M = true → x = ki) (hM' : M = false → ki < x) (hi : max (i 2).val (i 1).val = x) : Inv A b ki (x + 1) new := by
  refine ⟨fun r j => ?_, fun r j => ?_, fun r j => ?_, fun r l hl => ?_, fun r j t => ?_⟩
  · rw [A.dk_next]; exact step_o6 B S hM hM' r j _ (h.i6 r j)
  · rw [A.dv_next]; exact step_o7 B S hM hM' r j _ (h.i7 r j)
  · rw [A.dc_next]; exact step_o8 B S hM hM' r j _ (h.i8 r j)
  · rw [step_o8_rest B S hM hM' r l hl]; exact h.i8r r l hl
  · by_cases hr : r.val = x
    · rw [if_pos (by omega), A.dq_next]
      have h0 := h.iS r j t
      rw [if_neg (by omega)] at h0
      rw [step_ac B S hM hM' hi r j t hr _ h0, hr]
    · rw [step_ac_rest B S hM hM' hi r j t hr, h.iS r j t]
      by_cases h1 : r.val < x
      · rw [if_pos h1, if_pos (by omega)]
      · rw [if_neg h1, if_neg (by omega)]

theorem zero_f32 : Ideal.ofBits .f32 0x00000000#32 = 0 := Ideal.ofBits_zero _

/-- Cleared outputs hold empty sums. -/
theorem Inv.clear {b ki : ℕ} {s : St Ideal} (h : ∀ (r : Fin 16) (j : Fin 1024) (t : Fin 256), s.ac (ix3 r j t) = ((A.dq (256 * ki) b (256 * r.val + t.val) j.val : ℝ) : EReal)) :
    Inv A b ki 0 s.clear := by
  refine ⟨fun r j => ?_, fun r j => ?_, fun r j => ?_, fun r l hl => zero_f32, fun r j t => ?_⟩
  · rw [A.dk_zero]; exact zero_f32
  · rw [A.dv_zero]; exact zero_f32
  · rw [A.dc_zero]; exact zero_f32
  · rw [if_neg (by omega)]; exact h r j t
theorem Inv.clearAll {b : ℕ} (s : St Ideal) : Inv A b 0 0 s.clearAll := by
  refine Inv.clear (s := { s with ac := k0_pay1 (F := Ideal) }) fun r j t => ?_
  rw [A.dq_zero]; exact zero_f32

include H
/-- What every point leaves. -/
theorem inv : ∀ (n : ℕ) (h : n < 512), Inv A (n / 256) (n / 16 % 16) (n % 16 + 1) (st m c (n + 1)) := by
  intro n
  induction n with
  | zero =>
    intro h
    generalize ht : (⟨0, h⟩ : Fin cfg0.N) = t
    have hv : t.val = 0 := by rw [← ht]
    have S := stepA m c t (st m c 0) (by rw [hv])
    have e : st m c (0 + 1) = stepAt m c t (st m c 0) := by rw [← hv]; exact st_succ m c t
    rw [e]
    have B := blocks H t
    have cf := coord_facts t
    rw [hv] at B cf
    exact (Inv.clearAll _).step B S (fun _ => rfl) (fun e => Bool.noConfusion e) (by rw [cf.1, cf.2]; rfl)
  | succ n ih =>
    intro h
    have ih := ih (by omega)
    generalize ht : (⟨n + 1, h⟩ : Fin cfg0.N) = t
    have hv : t.val = n + 1 := by rw [← ht]
    have e : st m c (n + 1 + 1) = stepAt m c t (st m c (n + 1)) := by rw [← hv]; exact st_succ m c t
    rw [e]
    have B := blocks H t
    have cf := coord_facts t
    rw [hv] at B cf
    by_cases h1 : (n + 1) % 16 = 0
    · by_cases h0 : (n + 1) % 256 = 0
      · have S := stepA m c t (st m c (n + 1)) (by omega)
        have k1 : (n + 1) / 16 % 16 = 0 := by omega
        rw [h1, k1] at B cf ⊢
        exact (Inv.clearAll _).step B S (fun _ => rfl) (fun e => Bool.noConfusion e) (by rw [cf.1, cf.2]; rfl)
      · rw [stepC m c t _ (by omega) (by omega)]
        have k0 : (n + 1) / 256 = n / 256 := by omega
        have k1 : (n + 1) / 16 % 16 = n / 16 % 16 + 1 := by omega
        rw [h1, k0, k1]
        refine (Inv.clear fun r j x => ?_).idle (by omega)
        have := ih.iS r j x
        rwa [if_pos (by have := r.isLt; omega)] at this
    · have k0 : (n + 1) / 256 = n / 256 := by omega
      have k1 : (n + 1) / 16 % 16 = n / 16 % 16 := by omega
      have k2 : (n + 1) % 16 = n % 16 + 1 := by omega
      rw [k1, k2] at cf
      rw [k0, k1, k2] at B ⊢
      by_cases h2 : n / 16 % 16 < n % 16 + 1
      · rw [max_eq_left (by omega)] at B
        exact ih.step B (stepB m c t _ (by omega)) (fun e => Bool.noConfusion e) (fun _ => h2) (by rw [cf.1, cf.2]; omega)
      · by_cases h3 : n / 16 % 16 = n % 16 + 1
        · rw [max_eq_left (by omega)] at B
          by_cases h4 : (n + 1) % 256 = 255
          · exact ih.step B (stepZ m c t _ (by omega)) (fun _ => h3.symm) (fun e => Bool.noConfusion e) (by rw [cf.1, cf.2]; omega)
          · exact ih.step B (stepD m c t _ (by omega) (by rw [hv, k1, k2]; omega) (by omega)) (fun _ => h3.symm) (fun e => Bool.noConfusion e) (by rw [cf.1, cf.2]; omega)
        · have q1 : t.val % 16 < t.val / 16 % 16 := by rw [hv, k1, k2]; omega
          rw [step_E m c t _ (by omega) q1]
          exact ih.idle (by omega)

end Cert.Fox

end
-- ==== Proof.FoxDq.lean ====
/- The FoX gradient kernel: the copy out at the last point of each batch entry. -/
module

public import proofs.«01_k».proof.Proof.FoxUpd
public import Idealize.ShloMosaic.Lib.Pointwise

@[expose] public section

set_option maxRecDepth 16384

noncomputable section

namespace Cert.FoxBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxBwdIdeal Cert.FoxBwdIdeal.Gen

variable {F : FTy → Type} [FloatOps F] [Named F]

local notation "𝕄" => MT nD τ sig Unit (Elt F) ℕ (Pipeline.UD sig nD τ) ℕ

theorem off33_eq (t : Fin cfg0.N) : k0_off33 (grid0.coords t) = ![t.val / 256, 0, 0, 0] := by
  have ht : t.val < 512 := Nat.lt_of_lt_of_eq t.isLt N_0
  rw [Gen.k0_off33_eq, coord0 t, show t.val / 256 % 2 = t.val / 256 by omega]

section
variable {Val : EltTy → Type}
/-- A store through one batch entry's slab of the array. -/
theorem read_write_slab {sig : RefSig} {κ : Kind} {sp : Space} (M : Memref sig κ sp S2x16x1024x256 .f32) (off : Fin 4 → ℕ) (b : Fin 2)
    (h : off = ![b.val, 0, 0, 0]) (inb : ∀ a, off a + S1x16x1024x256.size a ≤ S2x16x1024x256.size a) (hr) (hq : S1x16x1024x256.Squeezes S16x1024x256)
    (f : M.view.ty.Contents Val) (w : S16x1024x256.Idx → Val .f32) (a : Fin 2) (x : Fin 16) (y : Fin 1024) (z : Fin 256) :
    M.view.read Val (((M.slice (Rect.unit (s := S2x16x1024x256) off S1x16x1024x256.size inb) hr).squeeze S16x1024x256 hq).view.write Val f w Finset.univ) (ix4 a x y z)
      = if a = b then w (ix3 x y z) else M.view.read Val f (ix4 a x y z) := by
  subst h
  show M.view.read Val (((M.view.slice (Rect.unit (s := S2x16x1024x256) ![b.val, 0, 0, 0] S1x16x1024x256.size inb)).reshape S16x1024x256 hq.numel_eq).write Val f w Finset.univ) _ = _
  rw [View.write_reshape_univ]
  by_cases hab : a = b
  · subst hab
    rw [if_pos rfl]
    have e : (ix4 a x y z : S2x16x1024x256.Idx) = (Rect.unit (s := S2x16x1024x256) ![a.val, 0, 0, 0] S1x16x1024x256.size inb).emb (Shape.reshapeEquiv hq.numel_eq (ix3 x y z)) := by
      rw [Shape.reshapeEquiv_cons_one]
      funext k
      apply Fin.ext
      rw [Rect.emb_apply]
      match k with
      | ⟨0, _⟩ => show a.val = a.val + 1 * 0; omega
      | ⟨1, _⟩ => show x.val = 0 + 1 * x.val; omega
      | ⟨2, _⟩ => show y.val = 0 + 1 * y.val; omega
      | ⟨3, _⟩ => show z.val = 0 + 1 * z.val; omega
    rw [e, View.read_slice_write_emb _ _ _ (Finset.mem_univ _), Equiv.symm_apply_apply]
  · rw [if_neg hab]
    refine View.read_slice_write_of_not_mem _ _ _ _ fun hm => ?_
    obtain ⟨q, -, hq'⟩ := Finset.mem_map.mp hm
    have e0 : b.val + 1 * (q 0).val = a.val := congrArg (fun j : S2x16x1024x256.Idx => (j 0).val) hq'
    have q0 : (q 0).val < 1 := (q 0).isLt
    exact hab (Fin.ext (by omega))
end

variable (m : (ℓ : Loc nD τ sig) → Buf (Elt F) ℓ)

set_option maxHeartbeats 4000000 in
/-- The last point of a batch entry copies the accumulator to that entry's slab. -/
theorem step_dqZ (c : Dev nD) (t : Fin cfg0.N) (s : St F) (h4 : t.val % 256 = 255) (b : Fin 2) (hb : b.val = t.val / 256) (a : Fin 2) (x : Fin 16) (y : Fin 1024) (z : Fin 256) :
    (stepAt m c t s).dq (ix4 a x y z) = if a = b then (stepAt m c t s).ac (ix3 x y z) else s.dq (ix4 a x y z) := by
  rw [step_Z m c t s h4]; unfold stZ; dsimp only
  unfold runZ; dsimp only
  unfold runZ.sl.Hd_w0 runZ.sl.dma224
  refine (read_write_slab dqM _ b (by rw [off33_eq, hb]) _ _ _ _ _ a x y z).trans ?_
  exact congrArg₂ _ rfl (congrFun ((Memref.isWhole_whole main_v61_0).read_unread _) _)

end Cert.FoxBwdIdeal.Hand

end
-- ==== Proof.FoxArr.lean ====
/- The FoX gradient kernel over the extended reals: what its four result arrays hold after the last point. -/
module

public import proofs.«01_k».proof.Proof.FoxInd
public import proofs.«01_k».proof.Proof.FoxDq

@[expose] public section

set_option maxRecDepth 16384

noncomputable section

namespace Cert.Fox

open Idealize.ShloMosaic Idealize.ShloMosaic.TcCoe Cert.FoxBwdIdeal Cert.FoxBwdIdeal.Gen Cert.FoxBwdIdeal.Hand Cert.Finite
open Idealize.ShloMosaic.Pipeline (Dat)

/-- The four arrays of gradients of the data. -/
def dkArr (A : Data) : FVec Ideal S8192x1024 .f32 := fun i => ((A.dk 4096 ((i 0).val / 4096) ((i 0).val % 4096) (i 1).val : ℝ) : EReal)
def dvArr (A : Data) : FVec Ideal S8192x1024 .f32 := fun i => ((A.dv 4096 ((i 0).val / 4096) ((i 0).val % 4096) (i 1).val : ℝ) : EReal)
def dcArr (A : Data) : FVec Ideal S8192x128 .f32 := fun i =>
  if (i 1).val < 16 then ((A.dc 4096 ((i 0).val / 4096) ((i 0).val % 4096) (i 1).val : ℝ) : EReal) else 0
def dqArr (A : Data) : FVec Ideal S2x16x1024x256 .f32 := fun i =>
  ((A.dq 4096 (i 0).val (256 * (i 1).val + (i 3).val) (i 2).val : ℝ) : EReal)

variable {m : (ℓ : Loc nD τ sig) → Buf (Elt Ideal) ℓ} {c : Dev nD} {A : Data} (H : Host m c A)

include H in
theorem inv_flush (t : Fin cfg0.N) (hf : t.val % 16 = 15) : Inv A (t.val / 256) (t.val / 16 % 16) 16 (st m c (t.val + 1)) := by
  have h := inv H t.val t.isLt
  rwa [hf] at h

theorem flush_at {w : Fin cfg0.W} (t : Fin cfg0.N) (e : (cfg0.win w).flush t = decide (t.val % 16 = 15)) (hf : (cfg0.win w).flush t = true) : t.val % 16 = 15 := by
  rw [e] at hf; exact of_decide_eq_true hf

theorem rows (t : ℕ) (a : ℕ) (ha : a < 256) : (4096 * (t / 256) + (256 * (t / 16 % 16) + a)) / 4096 = t / 256
    ∧ (4096 * (t / 256) + (256 * (t / 16 % 16) + a)) % 4096 = 256 * (t / 16 % 16) + a := by omega

set_option maxHeartbeats 2000000 in
theorem emb6 (t : Fin cfg0.N) (a : Fin 256) (b : Fin 1024) (h : 4096 * (t.val / 256) + (256 * (t.val / 16 % 16) + a.val) < 8192) :
    (win0_6.blk t).view.emb (ValueIdx.ix2 a b) = ix2 (⟨4096 * (t.val / 256) + (256 * (t.val / 16 % 16) + a.val), h⟩ : Fin 8192) b := by
  obtain ⟨e0, e1, e2, e3, e4, e5, e6, e7, e8⟩ := idx_facts t
  blk_ext [e6] <;> (show (16 * (t.val / 256) + t.val / 16 % 16) * 256 + a.val = _; omega)
set_option maxHeartbeats 2000000 in
theorem emb7 (t : Fin cfg0.N) (a : Fin 256) (b : Fin 1024) (h : 4096 * (t.val / 256) + (256 * (t.val / 16 % 16) + a.val) < 8192) :
    (win0_7.blk t).view.emb (ValueIdx.ix2 a b) = ix2 (⟨4096 * (t.val / 256) + (256 * (t.val / 16 % 16) + a.val), h⟩ : Fin 8192) b := by
  obtain ⟨e0, e1, e2, e3, e4, e5, e6, e7, e8⟩ := idx_facts t
  blk_ext [e7] <;> (show (16 * (t.val / 256) + t.val / 16 % 16) * 256 + a.val = _; omega)
set_option maxHeartbeats 2000000 in
theorem emb8 (t : Fin cfg0.N) (a : Fin 256) (b : Fin 128) (h : 4096 * (t.val / 256) + (256 * (t.val / 16 % 16) + a.val) < 8192) :
    (win0_8.blk t).view.emb (ValueIdx.ix2 a b) = ix2 (⟨4096 * (t.val / 256) + (256 * (t.val / 16 % 16) + a.val), h⟩ : Fin 8192) b := by
  obtain ⟨e0, e1, e2, e3, e4, e5, e6, e7, e8⟩ := idx_facts t
  blk_ext [e8] <;> (show (16 * (t.val / 256) + t.val / 16 % 16) * 256 + a.val = _; omega)
include H in
theorem final6 : (dats m 0 c).arrAt 6 cfg0.N = dkArr A := by
  refine (dats m 0 c).arrAt_eq_of_covers 6 _ (by decide +kernel) fun t hf y => ?_
  have hI := inv_flush H t (flush_at t (flush6 t) hf)
  have ht : t.val < 512 := t.isLt
  obtain ⟨a, b, rfl⟩ : ∃ (a : Fin 256) (b : Fin 1024), y = ValueIdx.ix2 a b := ⟨y 0, y 1, ValueIdx.eq_ix2 y⟩
  have ha := a.isLt
  blk_simp
  rw [after6]
  refine (hI.i6 a b).trans (Eq.trans ?_ (congrArg (dkArr A) (emb6 t a b (by omega))).symm)
  show ((A.dk 4096 _ _ _ : ℝ) : EReal) = ((A.dk 4096 ((4096 * (t.val / 256) + (256 * (t.val / 16 % 16) + a.val)) / 4096) ((4096 * (t.val / 256) + (256 * (t.val / 16 % 16) + a.val)) % 4096) b.val : ℝ) : EReal)
  rw [(rows t.val a.val ha).1, (rows t.val a.val ha).2]

include H in
theorem final7 : (dats m 0 c).arrAt 7 cfg0.N = dvArr A := by
  refine (dats m 0 c).arrAt_eq_of_covers 7 _ (by decide +kernel) fun t hf y => ?_
  have hI := inv_flush H t (flush_at t (flush7 t) hf)
  have ht : t.val < 512 := t.isLt
  obtain ⟨a, b, rfl⟩ : ∃ (a : Fin 256) (b : Fin 1024), y = ValueIdx.ix2 a b := ⟨y 0, y 1, ValueIdx.eq_ix2 y⟩
  have ha := a.isLt
  blk_simp
  rw [after7]
  refine (hI.i7 a b).trans (Eq.trans ?_ (congrArg (dvArr A) (emb7 t a b (by omega))).symm)
  show ((A.dv 4096 _ _ _ : ℝ) : EReal) = ((A.dv 4096 ((4096 * (t.val / 256) + (256 * (t.val / 16 % 16) + a.val)) / 4096) ((4096 * (t.val / 256) + (256 * (t.val / 16 % 16) + a.val)) % 4096) b.val : ℝ) : EReal)
  rw [(rows t.val a.val ha).1, (rows t.val a.val ha).2]

include H in
theorem final8 : (dats m 0 c).arrAt 8 cfg0.N = dcArr A := by
  refine (dats m 0 c).arrAt_eq_of_covers 8 _ (by decide +kernel) fun t hf y => ?_
  have hI := inv_flush H t (flush_at t (flush8 t) hf)
  have ht : t.val < 512 := t.isLt
  obtain ⟨a, b, rfl⟩ : ∃ (a : Fin 256) (b : Fin 128), y = ValueIdx.ix2 a b := ⟨y 0, y 1, ValueIdx.eq_ix2 y⟩
  have ha := a.isLt
  blk_simp
  rw [after8]
  refine Eq.trans ?_ (congrArg (dcArr A) (emb8 t a b (by omega))).symm
  show _ = if b.val < 16 then ((A.dc 4096 ((4096 * (t.val / 256) + (256 * (t.val / 16 % 16) + a.val)) / 4096) ((4096 * (t.val / 256) + (256 * (t.val / 16 % 16) + a.val)) % 4096) b.val : ℝ) : EReal) else 0
  rw [(rows t.val a.val ha).1, (rows t.val a.val ha).2]
  by_cases h16 : b.val < 16
  · rw [if_pos h16]; exact hI.i8 a ⟨b.val, h16⟩
  · rw [if_neg h16]; exact hI.i8r a b (by omega)

/-- The slabs copied out so far. -/
theorem dq_at : ∀ (n : ℕ) (h : n ≤ 512), (∀ (a : Fin 2) (x : Fin 16) (y : Fin 1024) (z : Fin 256), 256 * (a.val + 1) ≤ n →
    (st m c n).dq (ix4 a x y z) = (st m c (256 * (a.val + 1))).ac (ix3 x y z)) := by
  intro n
  induction n with
  | zero => intro h a x y z ha; omega
  | succ n ih =>
    intro h a x y z ha
    generalize ht : (⟨n, h⟩ : Fin cfg0.N) = t
    have hv : t.val = n := by rw [← ht]
    have e : st m c (n + 1) = stepAt m c t (st m c n) := by rw [← hv]; exact st_succ m c t
    by_cases h4 : n % 256 = 255
    · by_cases hb : n / 256 = a.val
      · rw [show 256 * (a.val + 1) = n + 1 by omega, e, step_dqZ m c t _ (by rw [hv]; exact h4) a (by rw [hv, hb]) a x y z, if_pos rfl]
      · rw [e, step_dqZ m c t _ (by rw [hv]; exact h4) ⟨n / 256, by omega⟩ (by rw [hv]) a x y z,
          if_neg (fun he => hb (congrArg Fin.val he).symm)]
        exact ih (by omega) a x y z (by omega)
    · rw [e, step_dq m c t _ (by rw [hv]; exact h4)]
      exact ih (by omega) a x y z (by omega)

include H in
theorem finalG : (G m c main_v61_0 : FVec Ideal S2x16x1024x256 .f32) = dqArr A := by
  have e : (G m c main_v61_0 : FVec Ideal S2x16x1024x256 .f32) = (st m c 512).dq := by
    unfold G; exact Function.update_self _ _ _
  rw [e]
  funext i
  obtain ⟨a, x, y, z, rfl⟩ : ∃ (a : Fin 2) (x : Fin 16) (y : Fin 1024) (z : Fin 256), i = ix4 a x y z := by
    refine ⟨i 0, i 1, i 2, i 3, funext fun k => ?_⟩
    match k with
    | ⟨0, _⟩ => rfl
    | ⟨1, _⟩ => rfl
    | ⟨2, _⟩ => rfl
    | ⟨3, _⟩ => rfl
  have h0 := a.isLt
  have h1 := x.isLt
  rw [dq_at 512 (le_refl _) a x y z (by omega)]
  generalize ht : (⟨256 * a.val + 255, by omega⟩ : Fin 512) = t
  have hv : t.val = 256 * a.val + 255 := by rw [← ht]
  have hI := inv_flush H t (by rw [hv]; omega)
  have hn : t.val + 1 = 256 * (a.val + 1) := by omega
  rw [hn] at hI
  refine (hI.iS x y z).trans ?_
  rw [if_pos h1, show t.val / 16 % 16 = 15 by omega, show t.val / 256 = a.val by omega]
  rfl

end Cert.Fox

end
-- ==== Proof.FoxHostVals.lean ====
/- The FoX gradient call's host lines before the kernel, one operation at a time: what each writes, as a function of the four
   arguments, and how its elements read off its operands' elements. -/
module

public import proofs.«01_k».proof.Proof.Gen.FoxBwdIdeal.Launch
public import proofs.«01_k».proof.Proof.Gen.FoxBwdIdeal.Frame
public import Idealize.ShloMosaic.Lib.Pipeline.Value
public import Idealize.ShloMosaic.Lib.ValueIdx
public import Idealize.ShloMosaic.Lib.StableHlo.Run
public import Idealize.ShloMosaic.PureOps.Ideal.Laws

@[expose] public section

noncomputable section

namespace Cert.FoxBwdIdeal.Host

open Cert.FoxBwdIdeal Cert.FoxBwdIdeal.Gen Idealize.ShloMosaic Idealize.ShloMosaic.TcCoe Idealize.SL.Sem Idealize.ShloMosaic.StableHlo

variable {F : FTy → Type} [FloatOps F] [Named F]

local notation "⊡" => dot_S2x4096x16x64_S2x4096x16x64_S2x16x4096x4096_3_3_1_1_02_02
local notation "⊟" => dot_S2x4096x16x64_S2x16x4096x4096_S2x16x64x4096_1_3_3_2_02_01
local notation "𝕟" i:max => (((Fin.val (i 0) * 4096 + Fin.val (i 1)) * 16 + Fin.val (i 2)) * 64 + Fin.val (i 3))

theorem div_lt (i : S2x4096x16x64.Idx) : 𝕟 i / 1024 < 8192 := by have h0 : (i 0).val < 2 := (i 0).isLt; have h1 : (i 1).val < 4096 := (i 1).isLt; have h2 : (i 2).val < 16 := (i 2).isLt; have h3 : (i 3).val < 64 := (i 3).isLt; omega
theorem mod_lt (i : S2x4096x16x64.Idx) : 𝕟 i % 1024 < 1024 := Nat.mod_lt _ (by decide)
theorem div_mod (i : S2x4096x16x64.Idx) : 𝕟 i / 1024 * 1024 + 𝕟 i % 1024 = 𝕟 i := Nat.div_add_mod' _ _

variable (x0 : (⟨S8192x1024, .bf16⟩ : BufTy).Contents (Elt F)) (x1 : (⟨S8192x2048, .bf16⟩ : BufTy).Contents (Elt F))
  (x2 : (⟨S8192x128, .f32⟩ : BufTy).Contents (Elt F)) (x3 : (⟨S8192x1024, .bf16⟩ : BufTy).Contents (Elt F))

def val_main_v0 : (⟨S8192x1024, .f32⟩ : BufTy).Contents (Elt F) :=
  extf .f32 (x0) bitsLt_bf16_f32
theorem val_main_v0_apply (i : S8192x1024.Idx) :
    val_main_v0 x0 i = FloatOps.extf .f32 bitsLt_bf16_f32 (x0 i) := rfl

def val_main_v1 : (⟨S2x4096x16x64, .f32⟩ : BufTy).Contents (Elt F) :=
  shapeCast _ (val_main_v0 x0) shapeCasts_S8192x1024_S2x4096x16x64
set_option backward.proofsInPublic true in
abbrev idx_main_v1 (i : S2x4096x16x64.Idx) : S8192x1024.Idx := fun a => match a with
  | ⟨0, _⟩ => ⟨𝕟 i / 1024, div_lt i⟩
  | ⟨1, _⟩ => ⟨𝕟 i % 1024, mod_lt i⟩
theorem val_main_v1_apply (i : S2x4096x16x64.Idx) :
    val_main_v1 x0 i = val_main_v0 x0 (idx_main_v1 i) := by
  unfold val_main_v1
  generalize val_main_v0 x0 = y
  exact shapeCast_apply y shapeCasts_S8192x1024_S2x4096x16x64 i (idx_main_v1 i)
    (by rewrite [Shape.rowMajor_val_two, Shape.rowMajor_val_four]; exact div_mod i)

def val_main_v2 : (⟨S8192x1024, .bf16⟩ : BufTy).Contents (Elt F) :=
  extractStridedSlice S8192x1024 ![0, 0] (x1) slices_S8192x2048_S8192x1024_0_0
set_option backward.proofsInPublic true in
abbrev idx_main_v2 (i : S8192x1024.Idx) : S8192x2048.Idx := fun a => match a with
  | ⟨0, _⟩ => ⟨(i 0).val, (i 0).isLt⟩
  | ⟨1, _⟩ => ⟨(i 1).val, by have h1 : (i 1).val < 1024 := (i 1).isLt; show (i 1).val < 2048; omega⟩
theorem val_main_v2_apply (i : S8192x1024.Idx) :
    val_main_v2 x1 i = x1 (idx_main_v2 i) := by
  unfold val_main_v2
  exact extractStridedSlice_apply ![0, 0] x1 slices_S8192x2048_S8192x1024_0_0 i (idx_main_v2 i) (fun a => match a with
    | ⟨0, _⟩ => by show (i 0).val = 0 + (i 0).val; omega
    | ⟨1, _⟩ => by show (i 1).val = 0 + (i 1).val; omega)

def val_main_v3 : (⟨S8192x1024, .f32⟩ : BufTy).Contents (Elt F) :=
  extf .f32 (val_main_v2 x1) bitsLt_bf16_f32
theorem val_main_v3_apply (i : S8192x1024.Idx) :
    val_main_v3 x1 i = FloatOps.extf .f32 bitsLt_bf16_f32 (val_main_v2 x1 i) := rfl

def val_main_v4 : (⟨S2x4096x16x64, .f32⟩ : BufTy).Contents (Elt F) :=
  shapeCast _ (val_main_v3 x1) shapeCasts_S8192x1024_S2x4096x16x64
set_option backward.proofsInPublic true in
abbrev idx_main_v4 (i : S2x4096x16x64.Idx) : S8192x1024.Idx := fun a => match a with
  | ⟨0, _⟩ => ⟨𝕟 i / 1024, div_lt i⟩
  | ⟨1, _⟩ => ⟨𝕟 i % 1024, mod_lt i⟩
theorem val_main_v4_apply (i : S2x4096x16x64.Idx) :
    val_main_v4 x1 i = val_main_v3 x1 (idx_main_v4 i) := by
  unfold val_main_v4
  generalize val_main_v3 x1 = y
  exact shapeCast_apply y shapeCasts_S8192x1024_S2x4096x16x64 i (idx_main_v4 i)
    (by rewrite [Shape.rowMajor_val_two, Shape.rowMajor_val_four]; exact div_mod i)

def val_main_v5 : (⟨S8192x1024, .bf16⟩ : BufTy).Contents (Elt F) :=
  extractStridedSlice S8192x1024 ![0, 1024] (x1) slices_S8192x2048_S8192x1024_0_1024
set_option backward.proofsInPublic true in
abbrev idx_main_v5 (i : S8192x1024.Idx) : S8192x2048.Idx := fun a => match a with
  | ⟨0, _⟩ => ⟨(i 0).val, (i 0).isLt⟩
  | ⟨1, _⟩ => ⟨1024 + (i 1).val, by have h1 : (i 1).val < 1024 := (i 1).isLt; show 1024 + (i 1).val < 2048; omega⟩
theorem val_main_v5_apply (i : S8192x1024.Idx) :
    val_main_v5 x1 i = x1 (idx_main_v5 i) := by
  unfold val_main_v5
  exact extractStridedSlice_apply ![0, 1024] x1 slices_S8192x2048_S8192x1024_0_1024 i (idx_main_v5 i) (fun a => match a with
    | ⟨0, _⟩ => by show (i 0).val = 0 + (i 0).val; omega
    | ⟨1, _⟩ => by show 1024 + (i 1).val = 1024 + (i 1).val; omega)

def val_main_v6 : (⟨S8192x1024, .f32⟩ : BufTy).Contents (Elt F) :=
  extf .f32 (val_main_v5 x1) bitsLt_bf16_f32
theorem val_main_v6_apply (i : S8192x1024.Idx) :
    val_main_v6 x1 i = FloatOps.extf .f32 bitsLt_bf16_f32 (val_main_v5 x1 i) := rfl

def val_main_v7 : (⟨S2x4096x16x64, .f32⟩ : BufTy).Contents (Elt F) :=
  shapeCast _ (val_main_v6 x1) shapeCasts_S8192x1024_S2x4096x16x64
set_option backward.proofsInPublic true in
abbrev idx_main_v7 (i : S2x4096x16x64.Idx) : S8192x1024.Idx := fun a => match a with
  | ⟨0, _⟩ => ⟨𝕟 i / 1024, div_lt i⟩
  | ⟨1, _⟩ => ⟨𝕟 i % 1024, mod_lt i⟩
theorem val_main_v7_apply (i : S2x4096x16x64.Idx) :
    val_main_v7 x1 i = val_main_v6 x1 (idx_main_v7 i) := by
  unfold val_main_v7
  generalize val_main_v6 x1 = y
  exact shapeCast_apply y shapeCasts_S8192x1024_S2x4096x16x64 i (idx_main_v7 i)
    (by rewrite [Shape.rowMajor_val_two, Shape.rowMajor_val_four]; exact div_mod i)

def val_main_v8 : (⟨S8192x1024, .f32⟩ : BufTy).Contents (Elt F) :=
  extf .f32 (x3) bitsLt_bf16_f32
theorem val_main_v8_apply (i : S8192x1024.Idx) :
    val_main_v8 x3 i = FloatOps.extf .f32 bitsLt_bf16_f32 (x3 i) := rfl

def val_main_v9 : (⟨S2x4096x16x64, .f32⟩ : BufTy).Contents (Elt F) :=
  shapeCast _ (val_main_v8 x3) shapeCasts_S8192x1024_S2x4096x16x64
set_option backward.proofsInPublic true in
abbrev idx_main_v9 (i : S2x4096x16x64.Idx) : S8192x1024.Idx := fun a => match a with
  | ⟨0, _⟩ => ⟨𝕟 i / 1024, div_lt i⟩
  | ⟨1, _⟩ => ⟨𝕟 i % 1024, mod_lt i⟩
theorem val_main_v9_apply (i : S2x4096x16x64.Idx) :
    val_main_v9 x3 i = val_main_v8 x3 (idx_main_v9 i) := by
  unfold val_main_v9
  generalize val_main_v8 x3 = y
  exact shapeCast_apply y shapeCasts_S8192x1024_S2x4096x16x64 i (idx_main_v9 i)
    (by rewrite [Shape.rowMajor_val_two, Shape.rowMajor_val_four]; exact div_mod i)

def val_main_v10 : (⟨S8192x16, .f32⟩ : BufTy).Contents (Elt F) :=
  extractStridedSlice S8192x16 ![0, 0] (x2) slices_S8192x128_S8192x16_0_0
set_option backward.proofsInPublic true in
abbrev idx_main_v10 (i : S8192x16.Idx) : S8192x128.Idx := fun a => match a with
  | ⟨0, _⟩ => ⟨(i 0).val, (i 0).isLt⟩
  | ⟨1, _⟩ => ⟨(i 1).val, by have h1 : (i 1).val < 16 := (i 1).isLt; show (i 1).val < 128; omega⟩
theorem val_main_v10_apply (i : S8192x16.Idx) :
    val_main_v10 x2 i = x2 (idx_main_v10 i) := by
  unfold val_main_v10
  exact extractStridedSlice_apply ![0, 0] x2 slices_S8192x128_S8192x16_0_0 i (idx_main_v10 i) (fun a => match a with
    | ⟨0, _⟩ => by show (i 0).val = 0 + (i 0).val; omega
    | ⟨1, _⟩ => by show (i 1).val = 0 + (i 1).val; omega)

def val_main_v11 : (⟨S2x4096x16, .f32⟩ : BufTy).Contents (Elt F) :=
  shapeCast _ (val_main_v10 x2) shapeCasts_S8192x16_S2x4096x16
set_option backward.proofsInPublic true in
abbrev idx_main_v11 (i : S2x4096x16.Idx) : S8192x16.Idx := fun a => match a with
  | ⟨0, _⟩ => ⟨(((i 0).val * 4096 + (i 1).val) * 16 + (i 2).val) / 16, by have h0 : (i 0).val < 2 := (i 0).isLt; have h1 : (i 1).val < 4096 := (i 1).isLt; have h2 : (i 2).val < 16 := (i 2).isLt; show (((i 0).val * 4096 + (i 1).val) * 16 + (i 2).val) / 16 < 8192; omega⟩
  | ⟨1, _⟩ => ⟨(((i 0).val * 4096 + (i 1).val) * 16 + (i 2).val) % 16, by have h0 : (i 0).val < 2 := (i 0).isLt; have h1 : (i 1).val < 4096 := (i 1).isLt; have h2 : (i 2).val < 16 := (i 2).isLt; show (((i 0).val * 4096 + (i 1).val) * 16 + (i 2).val) % 16 < 16; omega⟩
theorem val_main_v11_apply (i : S2x4096x16.Idx) :
    val_main_v11 x2 i = val_main_v10 x2 (idx_main_v11 i) := by
  unfold val_main_v11
  generalize val_main_v10 x2 = y
  exact shapeCast_apply y shapeCasts_S8192x16_S2x4096x16 i (idx_main_v11 i)
    (by rewrite [Shape.rowMajor_val_two, Shape.rowMajor_val_three]; have h0 : (i 0).val < 2 := (i 0).isLt; have h1 : (i 1).val < 4096 := (i 1).isLt; have h2 : (i 2).val < 16 := (i 2).isLt; show (((i 0).val * 4096 + (i 1).val) * 16 + (i 2).val) / 16 * 16 + (((i 0).val * 4096 + (i 1).val) * 16 + (i 2).val) % 16 = ((i 0).val * 4096 + (i 1).val) * 16 + (i 2).val; omega)

def val_main_v12 : (⟨S2x4096x16, .f32⟩ : BufTy).Contents (Elt F) :=
  Host.negf (val_main_v11 x2)
theorem val_main_v12_apply (i : S2x4096x16.Idx) :
    val_main_v12 x2 i = FloatOps.hostNegf (val_main_v11 x2 i) := rfl

def val_main_v13 : (⟨S2x4096x16, .bf16⟩ : BufTy).Contents (Elt F) :=
  truncf .bf16 (val_main_v12 x2) bitsLt_bf16_f32
theorem val_main_v13_apply (i : S2x4096x16.Idx) :
    val_main_v13 x2 i = FloatOps.truncf .bf16 bitsLt_bf16_f32 (val_main_v12 x2 i) := rfl

def val_main_v14 : (⟨S2x4096x16, .f32⟩ : BufTy).Contents (Elt F) :=
  extf .f32 (val_main_v13 x2) bitsLt_bf16_f32
theorem val_main_v14_apply (i : S2x4096x16.Idx) :
    val_main_v14 x2 i = FloatOps.extf .f32 bitsLt_bf16_f32 (val_main_v13 x2 i) := rfl

def val_main_v15 : (⟨S2x4096x16, .f32⟩ : BufTy).Contents (Elt F) :=
  Host.negf (val_main_v11 x2)
theorem val_main_v15_apply (i : S2x4096x16.Idx) :
    val_main_v15 x2 i = FloatOps.hostNegf (val_main_v11 x2 i) := rfl

def val_main_v16 : (⟨S2x4096x16, .f32⟩ : BufTy).Contents (Elt F) :=
  subf (val_main_v15 x2) (val_main_v14 x2)
theorem val_main_v16_apply (i : S2x4096x16.Idx) :
    val_main_v16 x2 i = FloatOps.subf (val_main_v15 x2 i) (val_main_v14 x2 i) := rfl

def val_main_v17 : (⟨S2x4096x16, .bf16⟩ : BufTy).Contents (Elt F) :=
  truncf .bf16 (val_main_v16 x2) bitsLt_bf16_f32
theorem val_main_v17_apply (i : S2x4096x16.Idx) :
    val_main_v17 x2 i = FloatOps.truncf .bf16 bitsLt_bf16_f32 (val_main_v16 x2 i) := rfl

def val_main_v18 : (⟨S2x4096x16, .f32⟩ : BufTy).Contents (Elt F) :=
  extf .f32 (val_main_v17 x2) bitsLt_bf16_f32
theorem val_main_v18_apply (i : S2x4096x16.Idx) :
    val_main_v18 x2 i = FloatOps.extf .f32 bitsLt_bf16_f32 (val_main_v17 x2 i) := rfl

def val_main_v19 : (⟨S2x4096x16, .f32⟩ : BufTy).Contents (Elt F) :=
  Host.negf (val_main_v11 x2)
theorem val_main_v19_apply (i : S2x4096x16.Idx) :
    val_main_v19 x2 i = FloatOps.hostNegf (val_main_v11 x2 i) := rfl

def val_main_v20 : (⟨S2x4096x16, .f32⟩ : BufTy).Contents (Elt F) :=
  subf (val_main_v19 x2) (val_main_v14 x2)
theorem val_main_v20_apply (i : S2x4096x16.Idx) :
    val_main_v20 x2 i = FloatOps.subf (val_main_v19 x2 i) (val_main_v14 x2 i) := rfl

def val_main_v21 : (⟨S2x4096x16, .f32⟩ : BufTy).Contents (Elt F) :=
  subf (val_main_v20 x2) (val_main_v18 x2)
theorem val_main_v21_apply (i : S2x4096x16.Idx) :
    val_main_v21 x2 i = FloatOps.subf (val_main_v20 x2 i) (val_main_v18 x2 i) := rfl

def val_main_v22 : (⟨S2x4096x16x1, .f32⟩ : BufTy).Contents (Elt F) :=
  broadcastInDim S2x4096x16x1 ![0, 1, 2] bcast_S2x4096x16_S2x4096x16x1_0_1_2 (val_main_v14 x2)
abbrev idx_main_v22 (i : S2x4096x16x1.Idx) : S2x4096x16.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v22_apply (i : S2x4096x16x1.Idx) :
    val_main_v22 x2 i = val_main_v14 x2 (idx_main_v22 i) := by
  unfold val_main_v22
  generalize val_main_v14 x2 = y
  exact broadcastInDim_apply _ bcast_S2x4096x16_S2x4096x16x1_0_1_2 y i (idx_main_v22 i) (fun a => match a with
    | ⟨0, _⟩ => by show (i 0).val = if (2 : Nat) = 1 then 0 else (i 0).val; rw [if_neg (by decide)]
    | ⟨1, _⟩ => by show (i 1).val = if (4096 : Nat) = 1 then 0 else (i 1).val; rw [if_neg (by decide)]
    | ⟨2, _⟩ => by show (i 2).val = if (16 : Nat) = 1 then 0 else (i 2).val; rw [if_neg (by decide)])

def val_main_v23 : (⟨S2x4096x16x1, .f32⟩ : BufTy).Contents (Elt F) :=
  broadcastInDim S2x4096x16x1 ![0, 1, 2] bcast_S2x4096x16_S2x4096x16x1_0_1_2 (val_main_v18 x2)
abbrev idx_main_v23 (i : S2x4096x16x1.Idx) : S2x4096x16.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v23_apply (i : S2x4096x16x1.Idx) :
    val_main_v23 x2 i = val_main_v18 x2 (idx_main_v23 i) := by
  unfold val_main_v23
  generalize val_main_v18 x2 = y
  exact broadcastInDim_apply _ bcast_S2x4096x16_S2x4096x16x1_0_1_2 y i (idx_main_v23 i) (fun a => match a with
    | ⟨0, _⟩ => by show (i 0).val = if (2 : Nat) = 1 then 0 else (i 0).val; rw [if_neg (by decide)]
    | ⟨1, _⟩ => by show (i 1).val = if (4096 : Nat) = 1 then 0 else (i 1).val; rw [if_neg (by decide)]
    | ⟨2, _⟩ => by show (i 2).val = if (16 : Nat) = 1 then 0 else (i 2).val; rw [if_neg (by decide)])

def val_main_v24 : (⟨S2x4096x16x1, .f32⟩ : BufTy).Contents (Elt F) :=
  broadcastInDim S2x4096x16x1 ![0, 1, 2] bcast_S2x4096x16_S2x4096x16x1_0_1_2 (val_main_v21 x2)
abbrev idx_main_v24 (i : S2x4096x16x1.Idx) : S2x4096x16.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v24_apply (i : S2x4096x16x1.Idx) :
    val_main_v24 x2 i = val_main_v21 x2 (idx_main_v24 i) := by
  unfold val_main_v24
  generalize val_main_v21 x2 = y
  exact broadcastInDim_apply _ bcast_S2x4096x16_S2x4096x16x1_0_1_2 y i (idx_main_v24 i) (fun a => match a with
    | ⟨0, _⟩ => by show (i 0).val = if (2 : Nat) = 1 then 0 else (i 0).val; rw [if_neg (by decide)]
    | ⟨1, _⟩ => by show (i 1).val = if (4096 : Nat) = 1 then 0 else (i 1).val; rw [if_neg (by decide)]
    | ⟨2, _⟩ => by show (i 2).val = if (16 : Nat) = 1 then 0 else (i 2).val; rw [if_neg (by decide)])

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v25 : (⟨S2x4096x16x61, .f32⟩ : BufTy).Contents (Elt F) :=
  broadcastInDim S2x4096x16x61 ![] bcast_S_S2x4096x16x61 (val_main_cst (F := F))
abbrev idx_main_v25 (i : S2x4096x16x61.Idx) : S_.Idx := fun a => a.elim0
theorem val_main_v25_apply (i : S2x4096x16x61.Idx) :
    val_main_v25 (F := F) i = val_main_cst (F := F) (idx_main_v25 i) := by
  unfold val_main_v25
  generalize val_main_cst (F := F) = y
  exact broadcastInDim_apply _ bcast_S_S2x4096x16x61 y i (idx_main_v25 i) (fun a => a.elim0)

def val_main_v26 : (⟨S2x4096x16x128, .f32⟩ : BufTy).Contents (Elt F) :=
  (concatenate S2x4096x16x128 3 [⟨S2x4096x16x64, ((val_main_v4 x1) : (⟨S2x4096x16x64, .f32⟩ : BufTy).Contents (Elt F))⟩, ⟨S2x4096x16x1, ((val_main_v22 x2) : (⟨S2x4096x16x1, .f32⟩ : BufTy).Contents (Elt F))⟩, ⟨S2x4096x16x1, ((val_main_v23 x2) : (⟨S2x4096x16x1, .f32⟩ : BufTy).Contents (Elt F))⟩, ⟨S2x4096x16x1, ((val_main_v24 x2) : (⟨S2x4096x16x1, .f32⟩ : BufTy).Contents (Elt F))⟩, ⟨S2x4096x16x61, ((val_main_v25 (F := F)) : (⟨S2x4096x16x61, .f32⟩ : BufTy).Contents (Elt F))⟩] concatenates_S2x4096x16x64_S2x4096x16x1_S2x4096x16x1_S2x4096x16x1_S2x4096x16x61_S2x4096x16x128_d3 : (⟨S2x4096x16x128, .f32⟩ : BufTy).Contents (Elt F))

def val_main_v27 : (⟨S8192x2048, .f32⟩ : BufTy).Contents (Elt F) :=
  shapeCast _ (val_main_v26 x1 x2) shapeCasts_S2x4096x16x128_S8192x2048
set_option backward.proofsInPublic true in
abbrev idx_main_v27 (i : S8192x2048.Idx) : S2x4096x16x128.Idx := fun a => match a with
  | ⟨0, _⟩ => ⟨((i 0).val * 2048 + (i 1).val) / 8388608, by have h0 : (i 0).val < 8192 := (i 0).isLt; have h1 : (i 1).val < 2048 := (i 1).isLt; show ((i 0).val * 2048 + (i 1).val) / 8388608 < 2; omega⟩
  | ⟨1, _⟩ => ⟨((i 0).val * 2048 + (i 1).val) / 2048 % 4096, by have h0 : (i 0).val < 8192 := (i 0).isLt; have h1 : (i 1).val < 2048 := (i 1).isLt; show ((i 0).val * 2048 + (i 1).val) / 2048 % 4096 < 4096; omega⟩
  | ⟨2, _⟩ => ⟨((i 0).val * 2048 + (i 1).val) / 128 % 16, by have h0 : (i 0).val < 8192 := (i 0).isLt; have h1 : (i 1).val < 2048 := (i 1).isLt; show ((i 0).val * 2048 + (i 1).val) / 128 % 16 < 16; omega⟩
  | ⟨3, _⟩ => ⟨((i 0).val * 2048 + (i 1).val) % 128, by have h0 : (i 0).val < 8192 := (i 0).isLt; have h1 : (i 1).val < 2048 := (i 1).isLt; show ((i 0).val * 2048 + (i 1).val) % 128 < 128; omega⟩
theorem val_main_v27_apply (i : S8192x2048.Idx) :
    val_main_v27 x1 x2 i = val_main_v26 x1 x2 (idx_main_v27 i) := by
  unfold val_main_v27
  generalize val_main_v26 x1 x2 = y
  exact shapeCast_apply y shapeCasts_S2x4096x16x128_S8192x2048 i (idx_main_v27 i)
    (by rewrite [Shape.rowMajor_val_four, Shape.rowMajor_val_two]; have h0 : (i 0).val < 8192 := (i 0).isLt; have h1 : (i 1).val < 2048 := (i 1).isLt; show ((((i 0).val * 2048 + (i 1).val) / 8388608 * 4096 + ((i 0).val * 2048 + (i 1).val) / 2048 % 4096) * 16 + ((i 0).val * 2048 + (i 1).val) / 128 % 16) * 128 + ((i 0).val * 2048 + (i 1).val) % 128 = (i 0).val * 2048 + (i 1).val; omega)

def val_main_v28 : (⟨S8192x2048, .bf16⟩ : BufTy).Contents (Elt F) :=
  truncf .bf16 (val_main_v27 x1 x2) bitsLt_bf16_f32
theorem val_main_v28_apply (i : S8192x2048.Idx) :
    val_main_v28 x1 x2 i = FloatOps.truncf .bf16 bitsLt_bf16_f32 (val_main_v27 x1 x2 i) := rfl

def val_main_v29 : (⟨S2x16x4096x4096, .f32⟩ : BufTy).Contents (Elt F) :=
  Host.dotGeneral ⊡ none (val_main_v1 x0) (val_main_v4 x1)
theorem lhs_main_v29_0 (i : S2x16x4096x4096.Idx) (q : ⊡.contr.Idx) :
    (⊡.lhsIdx i q 0).val = (i 0).val := by
  unfold DotDims.lhsIdx
  rw [dif_pos (show (0 : Fin S2x4096x16x64.rank) ∈ ⊡.lhsBatch by decide)]
  rfl
theorem lhs_main_v29_1 (i : S2x16x4096x4096.Idx) (q : ⊡.contr.Idx) :
    (⊡.lhsIdx i q 1).val = (i 2).val := by
  unfold DotDims.lhsIdx
  rw [dif_neg (show ¬(1 : Fin S2x4096x16x64.rank) ∈ ⊡.lhsBatch by decide), dif_pos (show (1 : Fin S2x4096x16x64.rank) ∈ ⊡.lhsNonContracting by decide)]
  rfl
theorem lhs_main_v29_2 (i : S2x16x4096x4096.Idx) (q : ⊡.contr.Idx) :
    (⊡.lhsIdx i q 2).val = (i 1).val := by
  unfold DotDims.lhsIdx
  rw [dif_pos (show (2 : Fin S2x4096x16x64.rank) ∈ ⊡.lhsBatch by decide)]
  rfl
theorem lhs_main_v29_3 (i : S2x16x4096x4096.Idx) (q : ⊡.contr.Idx) :
    (⊡.lhsIdx i q 3).val = (q ⟨0, by decide⟩).val :=
  ⊡.lhsIdx_val_of_single rfl i q
theorem rhs_main_v29_0 (i : S2x16x4096x4096.Idx) (q : ⊡.contr.Idx) :
    (⊡.rhsIdx i q 0).val = (i 0).val := by
  unfold DotDims.rhsIdx
  rw [dif_pos (show (0 : Fin S2x4096x16x64.rank) ∈ ⊡.rhsBatch by decide)]
  rfl
theorem rhs_main_v29_1 (i : S2x16x4096x4096.Idx) (q : ⊡.contr.Idx) :
    (⊡.rhsIdx i q 1).val = (i 3).val := by
  unfold DotDims.rhsIdx
  rw [dif_neg (show ¬(1 : Fin S2x4096x16x64.rank) ∈ ⊡.rhsBatch by decide), dif_pos (show (1 : Fin S2x4096x16x64.rank) ∈ ⊡.rhsNonContracting by decide)]
  rfl
theorem rhs_main_v29_2 (i : S2x16x4096x4096.Idx) (q : ⊡.contr.Idx) :
    (⊡.rhsIdx i q 2).val = (i 1).val := by
  unfold DotDims.rhsIdx
  rw [dif_pos (show (2 : Fin S2x4096x16x64.rank) ∈ ⊡.rhsBatch by decide)]
  rfl
theorem rhs_main_v29_3 (i : S2x16x4096x4096.Idx) (q : ⊡.contr.Idx) :
    (⊡.rhsIdx i q 3).val = (q ⟨0, by decide⟩).val :=
  ⊡.rhsIdx_val_of_single rfl i q
abbrev lidx_main_v29 (i : S2x16x4096x4096.Idx) (k : Fin 64) : S2x4096x16x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v29 (i : S2x16x4096x4096.Idx) (k : Fin 64) : S2x4096x16x64.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨k.val, k.isLt⟩
/-- Stated at `F := Ideal`, where the host's `dot_general` is this sum; at a bit-exact instance it is an opaque function of its operands. -/
theorem val_main_v29_apply (x0 : (⟨S8192x1024, .bf16⟩ : BufTy).Contents (Elt Ideal)) (x1 : (⟨S8192x2048, .bf16⟩ : BufTy).Contents (Elt Ideal)) (i : S2x16x4096x4096.Idx) :
    val_main_v29 (F := Ideal) x0 x1 i = ∑ k : Fin 64, (val_main_v1 (F := Ideal) x0) (lidx_main_v29 i k) * (val_main_v4 (F := Ideal) x1) (ridx_main_v29 i k) := by
  unfold val_main_v29
  generalize val_main_v1 (F := Ideal) x0 = y0
  generalize val_main_v4 (F := Ideal) x1 = y1
  simp only [Host.dotGeneral]
  rw [Ideal.dotGeneral_apply, ← Equiv.sum_comp (ValueIdx.contrEquiv1 ⊡ 64 rfl rfl).symm]
  refine Finset.sum_congr rfl fun k _ => ?_
  have hk := ValueIdx.contrEquiv1_symm_val ⊡ 64 rfl rfl k
  have el : ⊡.lhsIdx i ((ValueIdx.contrEquiv1 ⊡ 64 rfl rfl).symm k) = lidx_main_v29 i k := funext fun a => Fin.ext (by
    match a with
    | ⟨0, _⟩ => exact lhs_main_v29_0 _ _
    | ⟨1, _⟩ => exact lhs_main_v29_1 _ _
    | ⟨2, _⟩ => exact lhs_main_v29_2 _ _
    | ⟨3, _⟩ => exact (lhs_main_v29_3 _ _).trans hk)
  have er : ⊡.rhsIdx i ((ValueIdx.contrEquiv1 ⊡ 64 rfl rfl).symm k) = ridx_main_v29 i k := funext fun a => Fin.ext (by
    match a with
    | ⟨0, _⟩ => exact rhs_main_v29_0 _ _
    | ⟨1, _⟩ => exact rhs_main_v29_1 _ _
    | ⟨2, _⟩ => exact rhs_main_v29_2 _ _
    | ⟨3, _⟩ => exact (rhs_main_v29_3 _ _).trans hk)
  rw [el, er]

def val_main_v30 : (⟨S2x16x4096, .f32⟩ : BufTy).Contents (Elt F) :=
  transpose S2x16x4096 [0, 2, 1] (val_main_v11 x2) transposes_S2x4096x16_S2x16x4096_0_2_1
abbrev idx_main_v30 (i : S2x16x4096.Idx) : S2x4096x16.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v30_apply (i : S2x16x4096.Idx) :
    val_main_v30 x2 i = val_main_v11 x2 (idx_main_v30 i) := by
  unfold val_main_v30
  generalize val_main_v11 x2 = y
  exact transpose_apply [0, 2, 1] y transposes_S2x4096x16_S2x16x4096_0_2_1 i (idx_main_v30 i) (fun b => match b with
    | ⟨0, _⟩ => rfl
    | ⟨1, _⟩ => rfl
    | ⟨2, _⟩ => rfl)

def val_main_v31 : (⟨S2x16x1x4096, .f32⟩ : BufTy).Contents (Elt F) :=
  broadcastInDim S2x16x1x4096 ![0, 1, 3] bcast_S2x16x4096_S2x16x1x4096_0_1_3 (val_main_v30 x2)
abbrev idx_main_v31 (i : S2x16x1x4096.Idx) : S2x16x4096.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v31_apply (i : S2x16x1x4096.Idx) :
    val_main_v31 x2 i = val_main_v30 x2 (idx_main_v31 i) := by
  unfold val_main_v31
  generalize val_main_v30 x2 = y
  exact broadcastInDim_apply _ bcast_S2x16x4096_S2x16x1x4096_0_1_3 y i (idx_main_v31 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 3).val = if (4096 : Nat) = 1 then 0 else (i 3).val; rw [if_neg (by decide)])

def val_main_v32 : (⟨S2x16x4096x4096, .f32⟩ : BufTy).Contents (Elt F) :=
  broadcastInDim S2x16x4096x4096 ![0, 1, 2, 3] bcast_S2x16x1x4096_S2x16x4096x4096_0_1_2_3 (val_main_v31 x2)
abbrev idx_main_v32 (i : S2x16x4096x4096.Idx) : S2x16x1x4096.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v32_apply (i : S2x16x4096x4096.Idx) :
    val_main_v32 x2 i = val_main_v31 x2 (idx_main_v32 i) := by
  unfold val_main_v32
  generalize val_main_v31 x2 = y
  exact broadcastInDim_apply _ bcast_S2x16x1x4096_S2x16x4096x4096_0_1_2_3 y i (idx_main_v32 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl]
    | ⟨3, _⟩ => by show (i 3).val = if (4096 : Nat) = 1 then 0 else (i 3).val; rw [if_neg (by decide)])

def val_main_v33 : (⟨S2x16x4096x4096, .f32⟩ : BufTy).Contents (Elt F) :=
  subf (val_main_v29 x0 x1) (val_main_v32 x2)
theorem val_main_v33_apply (i : S2x16x4096x4096.Idx) :
    val_main_v33 x0 x1 x2 i = FloatOps.subf (val_main_v29 x0 x1 i) (val_main_v32 x2 i) := rfl

def val_main_v34 : (⟨S4096, .i32⟩ : BufTy).Contents (Elt F) :=
  iotaInDim S4096 32 0
theorem val_main_v34_apply (i : S4096.Idx) :
    val_main_v34 (F := F) i = BitVec.ofNat 32 (i 0).val := rfl

def val_main_v35 : (⟨S1x4096, .i32⟩ : BufTy).Contents (Elt F) :=
  broadcastInDim S1x4096 ![1] bcast_S4096_S1x4096_1 (val_main_v34 (F := F))
abbrev idx_main_v35 (i : S1x4096.Idx) : S4096.Idx := fun a => match a with
  | ⟨0, _⟩ => ⟨(i 1).val, (i 1).isLt⟩
theorem val_main_v35_apply (i : S1x4096.Idx) :
    val_main_v35 (F := F) i = val_main_v34 (F := F) (idx_main_v35 i) := by
  unfold val_main_v35
  generalize val_main_v34 (F := F) = y
  exact broadcastInDim_apply _ bcast_S4096_S1x4096_1 y i (idx_main_v35 i) (fun a => match a with
    | ⟨0, _⟩ => by show (i 1).val = if (4096 : Nat) = 1 then 0 else (i 1).val; rw [if_neg (by decide)])

def val_main_v36 : (⟨S4096x1, .i32⟩ : BufTy).Contents (Elt F) :=
  broadcastInDim S4096x1 ![0] bcast_S4096_S4096x1_0 (val_main_v34 (F := F))
abbrev idx_main_v36 (i : S4096x1.Idx) : S4096.Idx := fun a => match a with
  | ⟨0, _⟩ => ⟨(i 0).val, (i 0).isLt⟩
theorem val_main_v36_apply (i : S4096x1.Idx) :
    val_main_v36 (F := F) i = val_main_v34 (F := F) (idx_main_v36 i) := by
  unfold val_main_v36
  generalize val_main_v34 (F := F) = y
  exact broadcastInDim_apply _ bcast_S4096_S4096x1_0 y i (idx_main_v36 i) (fun a => match a with
    | ⟨0, _⟩ => by show (i 0).val = if (4096 : Nat) = 1 then 0 else (i 0).val; rw [if_neg (by decide)])

def val_main_v37 : (⟨S4096x4096, .i32⟩ : BufTy).Contents (Elt F) :=
  broadcastInDim S4096x4096 ![0, 1] bcast_S1x4096_S4096x4096_0_1 (val_main_v35 (F := F))
abbrev idx_main_v37 (i : S4096x4096.Idx) : S1x4096.Idx := fun a => match a with
  | ⟨0, _⟩ => ⟨0, Nat.one_pos⟩
  | ⟨1, _⟩ => ⟨(i 1).val, (i 1).isLt⟩
theorem val_main_v37_apply (i : S4096x4096.Idx) :
    val_main_v37 (F := F) i = val_main_v35 (F := F) (idx_main_v37 i) := by
  unfold val_main_v37
  generalize val_main_v35 (F := F) = y
  exact broadcastInDim_apply _ bcast_S1x4096_S4096x4096_0_1 y i (idx_main_v37 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v38 : (⟨S4096x4096, .i32⟩ : BufTy).Contents (Elt F) :=
  broadcastInDim S4096x4096 ![0, 1] bcast_S4096x1_S4096x4096_0_1 (val_main_v36 (F := F))
abbrev idx_main_v38 (i : S4096x4096.Idx) : S4096x1.Idx := fun a => match a with
  | ⟨0, _⟩ => ⟨(i 0).val, (i 0).isLt⟩
  | ⟨1, _⟩ => ⟨0, Nat.one_pos⟩
theorem val_main_v38_apply (i : S4096x4096.Idx) :
    val_main_v38 (F := F) i = val_main_v36 (F := F) (idx_main_v38 i) := by
  unfold val_main_v38
  generalize val_main_v36 (F := F) = y
  exact broadcastInDim_apply _ bcast_S4096x1_S4096x4096_0_1 y i (idx_main_v38 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v39 : (⟨S4096x4096, .i1⟩ : BufTy).Contents (Elt F) :=
  cmpi .sle (val_main_v37 (F := F)) (val_main_v38 (F := F))
theorem val_main_v39_apply (i : S4096x4096.Idx) :
    val_main_v39 (F := F) i = IntOp.cmpi .sle (val_main_v37 (F := F) i) (val_main_v38 (F := F) i) := rfl

def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- @_where's %0 = stablehlo.convert %arg2 : tensor<f32>, in %40 = func.call @_where(…) (record main_call0)
def val_main_call0_v0 : (⟨S_, .f32⟩ : BufTy).Contents (Elt F) :=
  id (val_main_cst_0 (F := F))
theorem val_main_call0_v0_apply (i : S_.Idx) :
    val_main_call0_v0 (F := F) i = (val_main_cst_0 (F := F) i) := rfl

-- @_where's %1 = stablehlo.broadcast_in_dim %arg0, dims = [2, 3] : (tensor<4096x4096xi1>) -> tensor<2x16x4096x4096xi1>, in %40 = func.call @_where(…) (record main_call0)
def val_main_call0_v1 : (⟨S2x16x4096x4096, .i1⟩ : BufTy).Contents (Elt F) :=
  broadcastInDim S2x16x4096x4096 ![2, 3] bcast_S4096x4096_S2x16x4096x4096_2_3 (val_main_v39 (F := F))
abbrev idx_main_call0_v1 (i : S2x16x4096x4096.Idx) : S4096x4096.Idx := fun a => match a with
  | ⟨0, _⟩ => ⟨(i 2).val, (i 2).isLt⟩
  | ⟨1, _⟩ => ⟨(i 3).val, (i 3).isLt⟩
theorem val_main_call0_v1_apply (i : S2x16x4096x4096.Idx) :
    val_main_call0_v1 (F := F) i = val_main_v39 (F := F) (idx_main_call0_v1 i) := by
  unfold val_main_call0_v1
  generalize val_main_v39 (F := F) = y
  exact broadcastInDim_apply _ bcast_S4096x4096_S2x16x4096x4096_2_3 y i (idx_main_call0_v1 i) (fun a => match a with
    | ⟨0, _⟩ => by show (i 2).val = if (4096 : Nat) = 1 then 0 else (i 2).val; rw [if_neg (by decide)]
    | ⟨1, _⟩ => by show (i 3).val = if (4096 : Nat) = 1 then 0 else (i 3).val; rw [if_neg (by decide)])

-- @_where's %2 = stablehlo.broadcast_in_dim %0, dims = [] : (tensor<f32>) -> tensor<2x16x4096x4096xf32>, in %40 = func.call @_where(…) (record main_call0)
def val_main_call0_v2 : (⟨S2x16x4096x4096, .f32⟩ : BufTy).Contents (Elt F) :=
  broadcastInDim S2x16x4096x4096 ![] bcast_S_S2x16x4096x4096 (val_main_call0_v0 (F := F))
abbrev idx_main_call0_v2 (i : S2x16x4096x4096.Idx) : S_.Idx := fun a => a.elim0
theorem val_main_call0_v2_apply (i : S2x16x4096x4096.Idx) :
    val_main_call0_v2 (F := F) i = val_main_call0_v0 (F := F) (idx_main_call0_v2 i) := by
  unfold val_main_call0_v2
  generalize val_main_call0_v0 (F := F) = y
  exact broadcastInDim_apply _ bcast_S_S2x16x4096x4096 y i (idx_main_call0_v2 i) (fun a => a.elim0)

def val_main_v40 : (⟨S2x16x4096x4096, .f32⟩ : BufTy).Contents (Elt F) :=
  select (val_main_call0_v1 (F := F)) (val_main_v33 x0 x1 x2) (val_main_call0_v2 (F := F))
theorem val_main_v40_apply (i : S2x16x4096x4096.Idx) :
    val_main_v40 x0 x1 x2 i = Scalar.select (val_main_call0_v1 (F := F) i) (val_main_v33 x0 x1 x2 i) (val_main_call0_v2 (F := F) i) := rfl

def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

def val_main_v41 : (⟨S2x16x4096, .f32⟩ : BufTy).Contents (Elt F) :=
  Host.reduce FloatOps.maximumf (val_main_v40 x0 x1 x2) (val_main_cst_1 (F := F)) reducesTo_S2x16x4096x4096_S2x16x4096_d3 h_S_

def val_main_v42 : (⟨S2x16x4096x1, .f32⟩ : BufTy).Contents (Elt F) :=
  broadcastInDim S2x16x4096x1 ![0, 1, 2] bcast_S2x16x4096_S2x16x4096x1_0_1_2 (val_main_v41 x0 x1 x2)
abbrev idx_main_v42 (i : S2x16x4096x1.Idx) : S2x16x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v42_apply (i : S2x16x4096x1.Idx) :
    val_main_v42 x0 x1 x2 i = val_main_v41 x0 x1 x2 (idx_main_v42 i) := by
  unfold val_main_v42
  generalize val_main_v41 x0 x1 x2 = y
  exact broadcastInDim_apply _ bcast_S2x16x4096_S2x16x4096x1_0_1_2 y i (idx_main_v42 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (4096 : Nat) = 1 then 0 else (i 2).val; rw [if_neg (by decide)])

def val_main_v43 : (⟨S2x16x4096x4096, .f32⟩ : BufTy).Contents (Elt F) :=
  broadcastInDim S2x16x4096x4096 ![0, 1, 2, 3] bcast_S2x16x4096x1_S2x16x4096x4096_0_1_2_3 (val_main_v42 x0 x1 x2)
abbrev idx_main_v43 (i : S2x16x4096x4096.Idx) : S2x16x4096x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v43_apply (i : S2x16x4096x4096.Idx) :
    val_main_v43 x0 x1 x2 i = val_main_v42 x0 x1 x2 (idx_main_v43 i) := by
  unfold val_main_v43
  generalize val_main_v42 x0 x1 x2 = y
  exact broadcastInDim_apply _ bcast_S2x16x4096x1_S2x16x4096x4096_0_1_2_3 y i (idx_main_v43 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (4096 : Nat) = 1 then 0 else (i 2).val; rw [if_neg (by decide)]
    | ⟨3, _⟩ => by show 0 = if (1 : Nat) = 1 then 0 else (i 3).val; rw [if_pos rfl])

def val_main_v44 : (⟨S2x16x4096x4096, .f32⟩ : BufTy).Contents (Elt F) :=
  subf (val_main_v40 x0 x1 x2) (val_main_v43 x0 x1 x2)
theorem val_main_v44_apply (i : S2x16x4096x4096.Idx) :
    val_main_v44 x0 x1 x2 i = FloatOps.subf (val_main_v40 x0 x1 x2 i) (val_main_v43 x0 x1 x2 i) := rfl

def val_main_v45 : (⟨S2x16x4096x4096, .f32⟩ : BufTy).Contents (Elt F) :=
  Host.exp (val_main_v44 x0 x1 x2)
theorem val_main_v45_apply (i : S2x16x4096x4096.Idx) :
    val_main_v45 x0 x1 x2 i = FloatOps.hostUnary .exp (val_main_v44 x0 x1 x2 i) := rfl

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_v46 : (⟨S2x16x4096, .f32⟩ : BufTy).Contents (Elt F) :=
  Host.reduceAdd (val_main_v45 x0 x1 x2) (val_main_cst_2 (F := F)) reducesTo_S2x16x4096x4096_S2x16x4096_d3 h_S_
abbrev idx_main_v46 (i : S2x16x4096.Idx) (k : Fin 4096) : S2x16x4096x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v46_apply (x0 : (⟨S8192x1024, .bf16⟩ : BufTy).Contents (Elt Ideal)) (x1 : (⟨S8192x2048, .bf16⟩ : BufTy).Contents (Elt Ideal)) (x2 : (⟨S8192x128, .f32⟩ : BufTy).Contents (Elt Ideal)) (i : S2x16x4096.Idx) :
    val_main_v46 (F := Ideal) x0 x1 x2 i = (val_main_cst_2 (F := Ideal)) (Shape.Idx.first h_S_) + ∑ k : Fin 4096, (val_main_v45 (F := Ideal) x0 x1 x2) (idx_main_v46 i k) := by
  unfold val_main_v46
  generalize val_main_v45 (F := Ideal) x0 x1 x2 = y0
  simp only [Host.reduceAdd, Ideal.hostReduceAdd_def]
  rw [Ideal.hostReduceAdd_single reducesTo_S2x16x4096x4096_S2x16x4096_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v47 : (⟨S2x16x4096x1, .f32⟩ : BufTy).Contents (Elt F) :=
  broadcastInDim S2x16x4096x1 ![0, 1, 2] bcast_S2x16x4096_S2x16x4096x1_0_1_2 (val_main_v46 x0 x1 x2)
abbrev idx_main_v47 (i : S2x16x4096x1.Idx) : S2x16x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v47_apply (i : S2x16x4096x1.Idx) :
    val_main_v47 x0 x1 x2 i = val_main_v46 x0 x1 x2 (idx_main_v47 i) := by
  unfold val_main_v47
  generalize val_main_v46 x0 x1 x2 = y
  exact broadcastInDim_apply _ bcast_S2x16x4096_S2x16x4096x1_0_1_2 y i (idx_main_v47 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (4096 : Nat) = 1 then 0 else (i 2).val; rw [if_neg (by decide)])

def val_main_v48 : (⟨S2x16x4096x4096, .f32⟩ : BufTy).Contents (Elt F) :=
  broadcastInDim S2x16x4096x4096 ![0, 1, 2, 3] bcast_S2x16x4096x1_S2x16x4096x4096_0_1_2_3 (val_main_v47 x0 x1 x2)
abbrev idx_main_v48 (i : S2x16x4096x4096.Idx) : S2x16x4096x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v48_apply (i : S2x16x4096x4096.Idx) :
    val_main_v48 x0 x1 x2 i = val_main_v47 x0 x1 x2 (idx_main_v48 i) := by
  unfold val_main_v48
  generalize val_main_v47 x0 x1 x2 = y
  exact broadcastInDim_apply _ bcast_S2x16x4096x1_S2x16x4096x4096_0_1_2_3 y i (idx_main_v48 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (4096 : Nat) = 1 then 0 else (i 2).val; rw [if_neg (by decide)]
    | ⟨3, _⟩ => by show 0 = if (1 : Nat) = 1 then 0 else (i 3).val; rw [if_pos rfl])

def val_main_v49 : (⟨S2x16x4096x4096, .f32⟩ : BufTy).Contents (Elt F) :=
  Host.divf (val_main_v45 x0 x1 x2) (val_main_v48 x0 x1 x2)
theorem val_main_v49_apply (i : S2x16x4096x4096.Idx) :
    val_main_v49 x0 x1 x2 i = FloatOps.hostDivf (val_main_v45 x0 x1 x2 i) (val_main_v48 x0 x1 x2 i) := rfl

def val_main_v50 : (⟨S2x16x64x4096, .f32⟩ : BufTy).Contents (Elt F) :=
  Host.dotGeneral ⊟ none (val_main_v7 x1) (val_main_v49 x0 x1 x2)
theorem lhs_main_v50_0 (i : S2x16x64x4096.Idx) (q : ⊟.contr.Idx) :
    (⊟.lhsIdx i q 0).val = (i 0).val := by
  unfold DotDims.lhsIdx
  rw [dif_pos (show (0 : Fin S2x4096x16x64.rank) ∈ ⊟.lhsBatch by decide)]
  rfl
theorem lhs_main_v50_1 (i : S2x16x64x4096.Idx) (q : ⊟.contr.Idx) :
    (⊟.lhsIdx i q 1).val = (q ⟨0, by decide⟩).val :=
  ⊟.lhsIdx_val_of_single rfl i q
theorem lhs_main_v50_2 (i : S2x16x64x4096.Idx) (q : ⊟.contr.Idx) :
    (⊟.lhsIdx i q 2).val = (i 1).val := by
  unfold DotDims.lhsIdx
  rw [dif_pos (show (2 : Fin S2x4096x16x64.rank) ∈ ⊟.lhsBatch by decide)]
  rfl
theorem lhs_main_v50_3 (i : S2x16x64x4096.Idx) (q : ⊟.contr.Idx) :
    (⊟.lhsIdx i q 3).val = (i 2).val := by
  unfold DotDims.lhsIdx
  rw [dif_neg (show ¬(3 : Fin S2x4096x16x64.rank) ∈ ⊟.lhsBatch by decide), dif_pos (show (3 : Fin S2x4096x16x64.rank) ∈ ⊟.lhsNonContracting by decide)]
  rfl
theorem rhs_main_v50_0 (i : S2x16x64x4096.Idx) (q : ⊟.contr.Idx) :
    (⊟.rhsIdx i q 0).val = (i 0).val := by
  unfold DotDims.rhsIdx
  rw [dif_pos (show (0 : Fin S2x16x4096x4096.rank) ∈ ⊟.rhsBatch by decide)]
  rfl
theorem rhs_main_v50_1 (i : S2x16x64x4096.Idx) (q : ⊟.contr.Idx) :
    (⊟.rhsIdx i q 1).val = (i 1).val := by
  unfold DotDims.rhsIdx
  rw [dif_pos (show (1 : Fin S2x16x4096x4096.rank) ∈ ⊟.rhsBatch by decide)]
  rfl
theorem rhs_main_v50_2 (i : S2x16x64x4096.Idx) (q : ⊟.contr.Idx) :
    (⊟.rhsIdx i q 2).val = (i 3).val := by
  unfold DotDims.rhsIdx
  rw [dif_neg (show ¬(2 : Fin S2x16x4096x4096.rank) ∈ ⊟.rhsBatch by decide), dif_pos (show (2 : Fin S2x16x4096x4096.rank) ∈ ⊟.rhsNonContracting by decide)]
  rfl
theorem rhs_main_v50_3 (i : S2x16x64x4096.Idx) (q : ⊟.contr.Idx) :
    (⊟.rhsIdx i q 3).val = (q ⟨0, by decide⟩).val :=
  ⊟.rhsIdx_val_of_single rfl i q
abbrev lidx_main_v50 (i : S2x16x64x4096.Idx) (k : Fin 4096) : S2x4096x16x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
abbrev ridx_main_v50 (i : S2x16x64x4096.Idx) (k : Fin 4096) : S2x16x4096x4096.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v50_apply (x0 : (⟨S8192x1024, .bf16⟩ : BufTy).Contents (Elt Ideal)) (x1 : (⟨S8192x2048, .bf16⟩ : BufTy).Contents (Elt Ideal)) (x2 : (⟨S8192x128, .f32⟩ : BufTy).Contents (Elt Ideal)) (i : S2x16x64x4096.Idx) :
    val_main_v50 (F := Ideal) x0 x1 x2 i = ∑ k : Fin 4096, (val_main_v7 (F := Ideal) x1) (lidx_main_v50 i k) * (val_main_v49 (F := Ideal) x0 x1 x2) (ridx_main_v50 i k) := by
  unfold val_main_v50
  generalize val_main_v7 (F := Ideal) x1 = y0
  generalize val_main_v49 (F := Ideal) x0 x1 x2 = y1
  simp only [Host.dotGeneral]
  rw [Ideal.dotGeneral_apply, ← Equiv.sum_comp (ValueIdx.contrEquiv1 ⊟ 4096 rfl rfl).symm]
  refine Finset.sum_congr rfl fun k _ => ?_
  have hk := ValueIdx.contrEquiv1_symm_val ⊟ 4096 rfl rfl k
  have el : ⊟.lhsIdx i ((ValueIdx.contrEquiv1 ⊟ 4096 rfl rfl).symm k) = lidx_main_v50 i k := funext fun a => Fin.ext (by
    match a with
    | ⟨0, _⟩ => exact lhs_main_v50_0 _ _
    | ⟨1, _⟩ => exact (lhs_main_v50_1 _ _).trans hk
    | ⟨2, _⟩ => exact lhs_main_v50_2 _ _
    | ⟨3, _⟩ => exact lhs_main_v50_3 _ _)
  have er : ⊟.rhsIdx i ((ValueIdx.contrEquiv1 ⊟ 4096 rfl rfl).symm k) = ridx_main_v50 i k := funext fun a => Fin.ext (by
    match a with
    | ⟨0, _⟩ => exact rhs_main_v50_0 _ _
    | ⟨1, _⟩ => exact rhs_main_v50_1 _ _
    | ⟨2, _⟩ => exact rhs_main_v50_2 _ _
    | ⟨3, _⟩ => exact (rhs_main_v50_3 _ _).trans hk)
  rw [el, er]

def val_main_v51 : (⟨S2x4096x16x64, .f32⟩ : BufTy).Contents (Elt F) :=
  transpose S2x4096x16x64 [0, 3, 1, 2] (val_main_v50 x0 x1 x2) transposes_S2x16x64x4096_S2x4096x16x64_0_3_1_2
abbrev idx_main_v51 (i : S2x4096x16x64.Idx) : S2x16x64x4096.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
theorem val_main_v51_apply (i : S2x4096x16x64.Idx) :
    val_main_v51 x0 x1 x2 i = val_main_v50 x0 x1 x2 (idx_main_v51 i) := by
  unfold val_main_v51
  generalize val_main_v50 x0 x1 x2 = y
  exact transpose_apply [0, 3, 1, 2] y transposes_S2x16x64x4096_S2x4096x16x64_0_3_1_2 i (idx_main_v51 i) (fun b => match b with
    | ⟨0, _⟩ => rfl
    | ⟨1, _⟩ => rfl
    | ⟨2, _⟩ => rfl
    | ⟨3, _⟩ => rfl)

def val_main_v52 : (⟨S2x16x4096x1, .f32⟩ : BufTy).Contents (Elt F) :=
  Host.log (val_main_v47 x0 x1 x2)
theorem val_main_v52_apply (i : S2x16x4096x1.Idx) :
    val_main_v52 x0 x1 x2 i = FloatOps.hostUnary .log (val_main_v47 x0 x1 x2 i) := rfl

def val_main_v53 : (⟨S2x16x4096x1, .f32⟩ : BufTy).Contents (Elt F) :=
  addf (val_main_v52 x0 x1 x2) (val_main_v42 x0 x1 x2)
theorem val_main_v53_apply (i : S2x16x4096x1.Idx) :
    val_main_v53 x0 x1 x2 i = FloatOps.addf (val_main_v52 x0 x1 x2 i) (val_main_v42 x0 x1 x2 i) := rfl

def val_main_v54 : (⟨S2x16x4096, .f32⟩ : BufTy).Contents (Elt F) :=
  shapeCast _ (val_main_v53 x0 x1 x2) shapeCasts_S2x16x4096x1_S2x16x4096
set_option backward.proofsInPublic true in
abbrev idx_main_v54 (i : S2x16x4096.Idx) : S2x16x4096x1.Idx := fun a => match a with
  | ⟨0, _⟩ => ⟨(((i 0).val * 16 + (i 1).val) * 4096 + (i 2).val) / 65536, by have h0 : (i 0).val < 2 := (i 0).isLt; have h1 : (i 1).val < 16 := (i 1).isLt; have h2 : (i 2).val < 4096 := (i 2).isLt; show (((i 0).val * 16 + (i 1).val) * 4096 + (i 2).val) / 65536 < 2; omega⟩
  | ⟨1, _⟩ => ⟨(((i 0).val * 16 + (i 1).val) * 4096 + (i 2).val) / 4096 % 16, by have h0 : (i 0).val < 2 := (i 0).isLt; have h1 : (i 1).val < 16 := (i 1).isLt; have h2 : (i 2).val < 4096 := (i 2).isLt; show (((i 0).val * 16 + (i 1).val) * 4096 + (i 2).val) / 4096 % 16 < 16; omega⟩
  | ⟨2, _⟩ => ⟨(((i 0).val * 16 + (i 1).val) * 4096 + (i 2).val) / 1 % 4096, by have h0 : (i 0).val < 2 := (i 0).isLt; have h1 : (i 1).val < 16 := (i 1).isLt; have h2 : (i 2).val < 4096 := (i 2).isLt; show (((i 0).val * 16 + (i 1).val) * 4096 + (i 2).val) / 1 % 4096 < 4096; omega⟩
  | ⟨3, _⟩ => ⟨0, Nat.one_pos⟩
theorem val_main_v54_apply (i : S2x16x4096.Idx) :
    val_main_v54 x0 x1 x2 i = val_main_v53 x0 x1 x2 (idx_main_v54 i) := by
  unfold val_main_v54
  generalize val_main_v53 x0 x1 x2 = y
  exact shapeCast_apply y shapeCasts_S2x16x4096x1_S2x16x4096 i (idx_main_v54 i)
    (by rewrite [Shape.rowMajor_val_four, Shape.rowMajor_val_three]; have h0 : (i 0).val < 2 := (i 0).isLt; have h1 : (i 1).val < 16 := (i 1).isLt; have h2 : (i 2).val < 4096 := (i 2).isLt; show (((((i 0).val * 16 + (i 1).val) * 4096 + (i 2).val) / 65536 * 16 + (((i 0).val * 16 + (i 1).val) * 4096 + (i 2).val) / 4096 % 16) * 4096 + (((i 0).val * 16 + (i 1).val) * 4096 + (i 2).val) / 1 % 4096) * 1 + 0 = ((i 0).val * 16 + (i 1).val) * 4096 + (i 2).val; omega)

def val_main_v55 : (⟨S16x2x4096, .f32⟩ : BufTy).Contents (Elt F) :=
  transpose S16x2x4096 [1, 0, 2] (val_main_v54 x0 x1 x2) transposes_S2x16x4096_S16x2x4096_1_0_2
abbrev idx_main_v55 (i : S16x2x4096.Idx) : S2x16x4096.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v55_apply (i : S16x2x4096.Idx) :
    val_main_v55 x0 x1 x2 i = val_main_v54 x0 x1 x2 (idx_main_v55 i) := by
  unfold val_main_v55
  generalize val_main_v54 x0 x1 x2 = y
  exact transpose_apply [1, 0, 2] y transposes_S2x16x4096_S16x2x4096_1_0_2 i (idx_main_v55 i) (fun b => match b with
    | ⟨0, _⟩ => rfl
    | ⟨1, _⟩ => rfl
    | ⟨2, _⟩ => rfl)

def val_main_v56 : (⟨S16x8192, .f32⟩ : BufTy).Contents (Elt F) :=
  shapeCast _ (val_main_v55 x0 x1 x2) shapeCasts_S16x2x4096_S16x8192
set_option backward.proofsInPublic true in
abbrev idx_main_v56 (i : S16x8192.Idx) : S16x2x4096.Idx := fun a => match a with
  | ⟨0, _⟩ => ⟨((i 0).val * 8192 + (i 1).val) / 8192, by have h0 : (i 0).val < 16 := (i 0).isLt; have h1 : (i 1).val < 8192 := (i 1).isLt; show ((i 0).val * 8192 + (i 1).val) / 8192 < 16; omega⟩
  | ⟨1, _⟩ => ⟨((i 0).val * 8192 + (i 1).val) / 4096 % 2, by have h0 : (i 0).val < 16 := (i 0).isLt; have h1 : (i 1).val < 8192 := (i 1).isLt; show ((i 0).val * 8192 + (i 1).val) / 4096 % 2 < 2; omega⟩
  | ⟨2, _⟩ => ⟨((i 0).val * 8192 + (i 1).val) % 4096, by have h0 : (i 0).val < 16 := (i 0).isLt; have h1 : (i 1).val < 8192 := (i 1).isLt; show ((i 0).val * 8192 + (i 1).val) % 4096 < 4096; omega⟩
theorem val_main_v56_apply (i : S16x8192.Idx) :
    val_main_v56 x0 x1 x2 i = val_main_v55 x0 x1 x2 (idx_main_v56 i) := by
  unfold val_main_v56
  generalize val_main_v55 x0 x1 x2 = y
  exact shapeCast_apply y shapeCasts_S16x2x4096_S16x8192 i (idx_main_v56 i)
    (by rewrite [Shape.rowMajor_val_three, Shape.rowMajor_val_two]; have h0 : (i 0).val < 16 := (i 0).isLt; have h1 : (i 1).val < 8192 := (i 1).isLt; show (((i 0).val * 8192 + (i 1).val) / 8192 * 2 + ((i 0).val * 8192 + (i 1).val) / 4096 % 2) * 4096 + ((i 0).val * 8192 + (i 1).val) % 4096 = (i 0).val * 8192 + (i 1).val; omega)

def val_main_v57 : (⟨S2x4096x16x64, .f32⟩ : BufTy).Contents (Elt F) :=
  mulf (val_main_v51 x0 x1 x2) (val_main_v9 x3)
theorem val_main_v57_apply (i : S2x4096x16x64.Idx) :
    val_main_v57 x0 x1 x2 x3 i = FloatOps.mulf (val_main_v51 x0 x1 x2 i) (val_main_v9 x3 i) := rfl

def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

def val_main_v58 : (⟨S2x4096x16, .f32⟩ : BufTy).Contents (Elt F) :=
  Host.reduceAdd (val_main_v57 x0 x1 x2 x3) (val_main_cst_3 (F := F)) reducesTo_S2x4096x16x64_S2x4096x16_d3 h_S_
abbrev idx_main_v58 (i : S2x4096x16.Idx) (k : Fin 64) : S2x4096x16x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v58_apply (x0 : (⟨S8192x1024, .bf16⟩ : BufTy).Contents (Elt Ideal)) (x1 : (⟨S8192x2048, .bf16⟩ : BufTy).Contents (Elt Ideal)) (x2 : (⟨S8192x128, .f32⟩ : BufTy).Contents (Elt Ideal)) (x3 : (⟨S8192x1024, .bf16⟩ : BufTy).Contents (Elt Ideal)) (i : S2x4096x16.Idx) :
    val_main_v58 (F := Ideal) x0 x1 x2 x3 i = (val_main_cst_3 (F := Ideal)) (Shape.Idx.first h_S_) + ∑ k : Fin 64, (val_main_v57 (F := Ideal) x0 x1 x2 x3) (idx_main_v58 i k) := by
  unfold val_main_v58
  generalize val_main_v57 (F := Ideal) x0 x1 x2 x3 = y0
  simp only [Host.reduceAdd, Ideal.hostReduceAdd_def]
  rw [Ideal.hostReduceAdd_single reducesTo_S2x4096x16x64_S2x4096x16_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v59 : (⟨S16x2x4096, .f32⟩ : BufTy).Contents (Elt F) :=
  transpose S16x2x4096 [2, 0, 1] (val_main_v58 x0 x1 x2 x3) transposes_S2x4096x16_S16x2x4096_2_0_1
abbrev idx_main_v59 (i : S16x2x4096.Idx) : S2x4096x16.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v59_apply (i : S16x2x4096.Idx) :
    val_main_v59 x0 x1 x2 x3 i = val_main_v58 x0 x1 x2 x3 (idx_main_v59 i) := by
  unfold val_main_v59
  generalize val_main_v58 x0 x1 x2 x3 = y
  exact transpose_apply [2, 0, 1] y transposes_S2x4096x16_S16x2x4096_2_0_1 i (idx_main_v59 i) (fun b => match b with
    | ⟨0, _⟩ => rfl
    | ⟨1, _⟩ => rfl
    | ⟨2, _⟩ => rfl)

def val_main_v60 : (⟨S16x8192, .f32⟩ : BufTy).Contents (Elt F) :=
  shapeCast _ (val_main_v59 x0 x1 x2 x3) shapeCasts_S16x2x4096_S16x8192
set_option backward.proofsInPublic true in
abbrev idx_main_v60 (i : S16x8192.Idx) : S16x2x4096.Idx := fun a => match a with
  | ⟨0, _⟩ => ⟨((i 0).val * 8192 + (i 1).val) / 8192, by have h0 : (i 0).val < 16 := (i 0).isLt; have h1 : (i 1).val < 8192 := (i 1).isLt; show ((i 0).val * 8192 + (i 1).val) / 8192 < 16; omega⟩
  | ⟨1, _⟩ => ⟨((i 0).val * 8192 + (i 1).val) / 4096 % 2, by have h0 : (i 0).val < 16 := (i 0).isLt; have h1 : (i 1).val < 8192 := (i 1).isLt; show ((i 0).val * 8192 + (i 1).val) / 4096 % 2 < 2; omega⟩
  | ⟨2, _⟩ => ⟨((i 0).val * 8192 + (i 1).val) % 4096, by have h0 : (i 0).val < 16 := (i 0).isLt; have h1 : (i 1).val < 8192 := (i 1).isLt; show ((i 0).val * 8192 + (i 1).val) % 4096 < 4096; omega⟩
theorem val_main_v60_apply (i : S16x8192.Idx) :
    val_main_v60 x0 x1 x2 x3 i = val_main_v59 x0 x1 x2 x3 (idx_main_v60 i) := by
  unfold val_main_v60
  generalize val_main_v59 x0 x1 x2 x3 = y
  exact shapeCast_apply y shapeCasts_S16x2x4096_S16x8192 i (idx_main_v60 i)
    (by rewrite [Shape.rowMajor_val_three, Shape.rowMajor_val_two]; have h0 : (i 0).val < 16 := (i 0).isLt; have h1 : (i 1).val < 8192 := (i 1).isLt; show (((i 0).val * 8192 + (i 1).val) / 8192 * 2 + ((i 0).val * 8192 + (i 1).val) / 4096 % 2) * 4096 + ((i 0).val * 8192 + (i 1).val) % 4096 = (i 0).val * 8192 + (i 1).val; omega)

end Cert.FoxBwdIdeal.Host

end
-- ==== Proof.FoxSoft.lean ====
/-
  The softmax of the forgetting attention on real numbers, taken off any number: its weights, their total, the probabilities;
  the sums of a query's row; and that the largest of a row of numbers and minus infinities is a number.
-/
module

public import proofs.«01_k».proof.Proof.FoxSpec
public import proofs.«01_k».proof.Proof.Finite
public import Idealize.ShloMosaic.PureOps.Reduce

@[expose] public section

noncomputable section

namespace Cert.Fox

open Idealize.ShloMosaic

namespace Data
variable (A : Data)

/-- A key's weight, the logit taken off `μ`, and a query's total. -/
def w (μ : ℝ) (b h t s : ℕ) : ℝ := if s ≤ t then Real.exp (A.lg b h t s - μ) else 0
def tot (μ : ℝ) (b h t : ℕ) : ℝ := ∑ s ∈ Finset.range 4096, A.w μ b h t s

theorem w_eq (μ : ℝ) (b h t s : ℕ) : A.w μ b h t s = (if s ≤ t then Real.exp (A.lg b h t s) else 0) * Real.exp (-μ) := by
  unfold w; split
  · rw [← Real.exp_add, sub_eq_add_neg]
  · rw [zero_mul]

theorem tot_eq (μ : ℝ) (b h t : ℕ) : A.tot μ b h t = A.z b h t * Real.exp (-μ) := by
  unfold tot z; rw [Finset.sum_mul]; exact Finset.sum_congr rfl fun s _ => A.w_eq μ b h t s

theorem z_pos (b h : ℕ) {t : ℕ} (ht : t < 4096) : 0 < A.z b h t := by
  refine Finset.sum_pos' (fun s _ => ?_) ⟨t, Finset.mem_range.2 ht, ?_⟩
  · split
    · exact (Real.exp_pos _).le
    · exact le_rfl
  · rw [if_pos le_rfl]; exact Real.exp_pos _

theorem tot_pos (μ : ℝ) (b h : ℕ) {t : ℕ} (ht : t < 4096) : 0 < A.tot μ b h t := by
  rw [tot_eq]; exact mul_pos (A.z_pos b h ht) (Real.exp_pos _)

theorem p_eq (b h : ℕ) {t : ℕ} (ht : t < 4096) (s : ℕ) : A.p b h t s = (if s ≤ t then Real.exp (A.lg b h t s) else 0) / A.z b h t := by
  unfold p; split
  · rw [Real.exp_sub, Real.exp_log (A.z_pos b h ht)]
  · rw [zero_div]

/-- A weight over the total is the probability, whatever the number taken off. -/
theorem w_tot (μ : ℝ) (b h : ℕ) {t : ℕ} (ht : t < 4096) (s : ℕ) : A.w μ b h t s * (1 / A.tot μ b h t) = A.p b h t s := by
  rw [A.p_eq b h ht, w_eq, tot_eq, mul_one_div, mul_div_mul_right _ _ (Real.exp_pos _).ne']

theorem log_tot (μ : ℝ) (b h : ℕ) {t : ℕ} (ht : t < 4096) : Real.log (A.tot μ b h t) + μ = Real.log (A.z b h t) := by
  rw [tot_eq, Real.log_mul (A.z_pos b h ht).ne' (Real.exp_pos _).ne', Real.log_exp, neg_add_cancel_right]

theorem sum_p (b h : ℕ) {t : ℕ} (ht : t < 4096) : ∑ s ∈ Finset.range 4096, A.p b h t s = 1 := by
  rw [Finset.sum_congr rfl fun s _ => A.p_eq b h ht s, ← Finset.sum_div]
  exact div_self (A.z_pos b h ht).ne'

theorem sum_dp (b h t : ℕ) : ∑ s ∈ Finset.range 4096, A.p b h t s * A.dp b h t s = A.ds b h t := by
  unfold ds dp out
  simp only [Finset.mul_sum, Finset.sum_mul]
  rw [Finset.sum_comm]
  exact Finset.sum_congr rfl fun d _ => Finset.sum_congr rfl fun s _ => by ring

/-- The gradients of a query's logits sum to nothing. -/
theorem sum_dl (b h : ℕ) {t : ℕ} (ht : t < 4096) : ∑ s ∈ Finset.range 4096, A.dl b h t s = 0 := by
  unfold dl
  simp only [mul_sub, Finset.sum_sub_distrib]
  rw [A.sum_dp, ← Finset.sum_mul, A.sum_p b h ht, one_mul, sub_self]

/-- The gradient of a logit as the chain rule through the quotient of weight and total writes it. -/
theorem dl_quot (μ : ℝ) (b h : ℕ) {t : ℕ} (ht : t < 4096) (s : ℕ) :
    (A.dp b h t s * (1 / A.tot μ b h t) + -∑ x ∈ Finset.range 4096, A.dp b h t x * (1 / (A.tot μ b h t * A.tot μ b h t)) * A.w μ b h t x) * A.w μ b h t s
      = A.dl b h t s := by
  have hT : A.tot μ b h t ≠ 0 := (A.tot_pos μ b h ht).ne'
  have e : ∑ x ∈ Finset.range 4096, A.dp b h t x * (1 / (A.tot μ b h t * A.tot μ b h t)) * A.w μ b h t x = 1 / A.tot μ b h t * A.ds b h t := by
    rw [← A.sum_dp, Finset.mul_sum]
    refine Finset.sum_congr rfl fun x _ => ?_
    rw [← A.w_tot μ b h ht x]; field_simp
  rw [e, dl, ← A.w_tot μ b h ht s]; ring

end Data

/-- The arguments hold the data. -/
structure Args (A : Data) (x0 : (⟨2, ![8192, 1024]⟩ : Shape).Idx → EReal) (x1 : (⟨2, ![8192, 2048]⟩ : Shape).Idx → EReal)
    (x2 : (⟨2, ![8192, 128]⟩ : Shape).Idx → EReal) (x3 : (⟨2, ![8192, 1024]⟩ : Shape).Idx → EReal) : Prop where
  q : ∀ i, x0 i = ((A.q (i 0).val (i 1).val : ℝ) : EReal)
  k : ∀ i, (i 1).val < 1024 → x1 i = ((A.k (i 0).val (i 1).val : ℝ) : EReal)
  v : ∀ i, 1024 ≤ (i 1).val → x1 i = ((A.v (i 0).val ((i 1).val - 1024) : ℝ) : EReal)
  c : ∀ i, (i 1).val < 16 → x2 i = ((A.c (i 0).val (i 1).val : ℝ) : EReal)
  g : ∀ i, x3 i = ((A.g (i 0).val (i 1).val : ℝ) : EReal)

/-- The largest so far of numbers and minus infinities, from minus infinity: minus infinity or a number, and at least each. -/
theorem foldl_max {ι : Type} (f : ι → EReal) (hf : ∀ n, f n = ⊥ ∨ ∃ r : ℝ, f n = (r : EReal)) (l : List ι) :
    ∀ a : EReal, (a = ⊥ ∨ ∃ r : ℝ, a = (r : EReal)) →
      ((l.foldl (fun r n => max r (f n)) a = ⊥ ∨ ∃ r : ℝ, l.foldl (fun r n => max r (f n)) a = (r : EReal))
        ∧ a ≤ l.foldl (fun r n => max r (f n)) a ∧ ∀ n ∈ l, f n ≤ l.foldl (fun r n => max r (f n)) a) := by
  induction l with
  | nil => exact fun a ha => ⟨ha, le_rfl, fun n hn => absurd hn List.not_mem_nil⟩
  | cons x l ih =>
    intro a ha
    obtain ⟨h1, h2, h3⟩ := ih (max a (f x)) (by rcases max_choice a (f x) with e | e <;> rw [e]; exacts [ha, hf x])
    refine ⟨h1, (le_max_left _ _).trans h2, fun n hn => ?_⟩
    rcases List.mem_cons.1 hn with e | e
    · rw [e]; exact (le_max_right _ _).trans h2
    · exact h3 n e

theorem reduce_max_real {s t u : Shape} {axes : List (Fin s.rank)} (x : s.Idx → EReal) (init : u.Idx → EReal) (h : s.ReducesTo axes t) (hu : 0 < u.numel)
    (j : t.Idx) (hi : init (Shape.Idx.first hu) = ⊥) (hx : ∀ i, x i = ⊥ ∨ ∃ r : ℝ, x i = (r : EReal)) (i₀ : s.Idx) (hd : h.drop i₀ = j)
    (h₀ : ∃ r : ℝ, x i₀ = (r : EReal)) : ∃ μ : ℝ, Host.reduce (max : EReal → EReal → EReal) x init h hu j = (μ : EReal) := by
  obtain ⟨h1, -, h3⟩ := foldl_max (fun n => x (s.rowMajor.symm n)) (fun n => hx _)
    ((List.finRange s.numel).filter fun n => h.drop (s.rowMajor.symm n) = j) (init (Shape.Idx.first hu)) (Or.inl hi)
  rcases h1 with e | e
  · exfalso
    obtain ⟨r, hr⟩ := h₀
    have := h3 (s.rowMajor i₀) (List.mem_filter.2 ⟨List.mem_finRange _, by simpa using hd⟩)
    rw [e] at this
    simp only [Equiv.symm_apply_apply] at this
    rw [hr] at this
    exact absurd (le_bot_iff.1 this) (EReal.coe_ne_bot r)
  · exact e

/-- A weight on extended reals. -/
theorem exp_weight (P : Prop) [Decidable P] (a μ : ℝ) : Ideal.exp ((if P then (a : EReal) else ⊥) - (μ : EReal)) = (((if P then Real.exp (a - μ) else 0 : ℝ)) : EReal) := by
  split
  · rw [← EReal.coe_sub]; rfl
  · rw [EReal.bot_sub]; rfl

theorem sum_fin (f : ℕ → ℝ) (n : ℕ) : ∑ k : Fin n, ((f k.val : ℝ) : EReal) = ((∑ k ∈ Finset.range n, f k : ℝ) : EReal) := by
  rw [Finite.coe_sum, Fin.sum_univ_eq_sum_range]

end Cert.Fox

end
-- ==== Proof.FoxHost.lean ====
/- The values that the FoX gradient call's host lines leave, on real arguments: the keys with the running sums, the logarithm of each query's total, each query's product of output and cotangent. -/
module

public import proofs.«01_k».proof.Proof.FoxHostVals
public import proofs.«01_k».proof.Proof.FoxSoft
public import proofs.«01_k».proof.Proof.FoxInd
public import Idealize.ShloMosaic.Lib.WordCmp
public import Idealize.ShloMosaic.Lib.Pointwise

@[expose] public section

noncomputable section

namespace Cert.FoxBwdIdeal.Host

open Cert.FoxBwdIdeal Cert.FoxBwdIdeal.Gen Cert.Fox Idealize.ShloMosaic Idealize.ShloMosaic.TcCoe Idealize.SL.Sem Idealize.ShloMosaic.StableHlo

variable {A : Data} {x0 : (⟨S8192x1024, .bf16⟩ : BufTy).Contents (Elt Ideal)} {x1 : (⟨S8192x2048, .bf16⟩ : BufTy).Contents (Elt Ideal)}
  {x2 : (⟨S8192x128, .f32⟩ : BufTy).Contents (Elt Ideal)} {x3 : (⟨S8192x1024, .bf16⟩ : BufTy).Contents (Elt Ideal)} (H : Args A x0 x1 x2 x3)

include H in
theorem a_q (i : S2x4096x16x64.Idx) : val_main_v1 (F := Ideal) x0 i = ((A.q (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v1_apply]
  show (_ : EReal) = _
  refine (H.q (idx_main_v1 i)).trans (congrArg (fun r : ℝ => (r : EReal)) (congrArg₂ A.q ?_ ?_))
  · show ((((i 0).val * 4096 + (i 1).val) * 16 + (i 2).val) * 64 + (i 3).val) / 1024 = _
    omega
  · show ((((i 0).val * 4096 + (i 1).val) * 16 + (i 2).val) * 64 + (i 3).val) % 1024 = _
    omega

include H in
theorem a_k (i : S2x4096x16x64.Idx) : val_main_v4 (F := Ideal) x1 i = ((A.k (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v4_apply, val_main_v3_apply, val_main_v2_apply]
  show (x1 (idx_main_v2 (idx_main_v4 i)) : EReal) = _
  refine (H.k (idx_main_v2 (idx_main_v4 i)) (show ((((i 0).val * 4096 + (i 1).val) * 16 + (i 2).val) * 64 + (i 3).val) % 1024 < 1024 by omega)).trans (congrArg (fun r : ℝ => (r : EReal)) (congrArg₂ A.k ?_ ?_))
  · show ((((i 0).val * 4096 + (i 1).val) * 16 + (i 2).val) * 64 + (i 3).val) / 1024 = _
    omega
  · show ((((i 0).val * 4096 + (i 1).val) * 16 + (i 2).val) * 64 + (i 3).val) % 1024 = _
    omega

include H in
theorem a_v (i : S2x4096x16x64.Idx) : val_main_v7 (F := Ideal) x1 i = ((A.v (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v7_apply, val_main_v6_apply, val_main_v5_apply]
  show (x1 (idx_main_v5 (idx_main_v7 i)) : EReal) = _
  refine (H.v (idx_main_v5 (idx_main_v7 i)) (show 1024 ≤ 1024 + ((((i 0).val * 4096 + (i 1).val) * 16 + (i 2).val) * 64 + (i 3).val) % 1024 by omega)).trans (congrArg (fun r : ℝ => (r : EReal)) (congrArg₂ A.v ?_ ?_))
  · show ((((i 0).val * 4096 + (i 1).val) * 16 + (i 2).val) * 64 + (i 3).val) / 1024 = _
    omega
  · show 1024 + ((((i 0).val * 4096 + (i 1).val) * 16 + (i 2).val) * 64 + (i 3).val) % 1024 - 1024 = _
    omega

include H in
theorem a_g (i : S2x4096x16x64.Idx) : val_main_v9 (F := Ideal) x3 i = ((A.g (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v9_apply]
  show (_ : EReal) = _
  refine (H.g (idx_main_v9 i)).trans (congrArg (fun r : ℝ => (r : EReal)) (congrArg₂ A.g ?_ ?_))
  · show ((((i 0).val * 4096 + (i 1).val) * 16 + (i 2).val) * 64 + (i 3).val) / 1024 = _
    omega
  · show ((((i 0).val * 4096 + (i 1).val) * 16 + (i 2).val) * 64 + (i 3).val) % 1024 = _
    omega

include H in
theorem a_c (i : S2x4096x16.Idx) : val_main_v11 (F := Ideal) x2 i = ((A.c (4096 * (i 0).val + (i 1).val) (i 2).val : ℝ) : EReal) := by
  have b0 : (i 0).val < 2 := (i 0).isLt; have b1 : (i 1).val < 4096 := (i 1).isLt; have b2 : (i 2).val < 16 := (i 2).isLt
  rw [val_main_v11_apply, val_main_v10_apply]
  refine (H.c (idx_main_v10 (idx_main_v11 i)) (show (((i 0).val * 4096 + (i 1).val) * 16 + (i 2).val) % 16 < 16 by omega)).trans (congrArg (fun r : ℝ => (r : EReal)) (congrArg₂ A.c ?_ ?_))
  · show (((i 0).val * 4096 + (i 1).val) * 16 + (i 2).val) / 16 = _
    omega
  · show (((i 0).val * 4096 + (i 1).val) * 16 + (i 2).val) % 16 = _
    omega

include H in
theorem a_dot (i : S2x16x4096x4096.Idx) : val_main_v29 (F := Ideal) x0 x1 i
    = ((∑ d : Fin 64, A.k (4096 * (i 0).val + (i 3).val) (64 * (i 1).val + d.val) * A.q (4096 * (i 0).val + (i 2).val) (64 * (i 1).val + d.val) : ℝ) : EReal) := by
  rw [val_main_v29_apply, ← Finite.coe_sum]
  refine Finset.sum_congr rfl fun d _ => ?_
  rw [a_q H, a_k H, ← EReal.coe_mul, mul_comm]

include H in
theorem a_lg (i : S2x16x4096x4096.Idx) : val_main_v33 (F := Ideal) x0 x1 x2 i = ((A.lg (i 0).val (i 1).val (i 2).val (i 3).val : ℝ) : EReal) := by
  rw [val_main_v33_apply, a_dot H, val_main_v32_apply, val_main_v31_apply, val_main_v30_apply, a_c H]
  exact (EReal.coe_sub _ _).symm

theorem a_mask (i : S2x16x4096x4096.Idx) : val_main_call0_v1 (F := Ideal) i = BitVec.ofBool (decide ((i 3).val ≤ (i 2).val)) := by
  have b2 : (i 2).val < 4096 := (i 2).isLt
  have b3 : (i 3).val < 4096 := (i 3).isLt
  rw [val_main_call0_v1_apply, val_main_v39_apply, val_main_v37_apply, val_main_v38_apply, val_main_v35_apply, val_main_v36_apply]
  exact WordCmp.cmpi_sle_ofNat (w := 32) (a := (i 3).val) (b := (i 2).val) (by omega) (by omega)

theorem ofBits_ninf : FloatOps.ofBits (F := Ideal) .f32 0xFF800000#32 = (⊥ : EReal) := by
  show Ideal.ofBits .f32 0xFF800000#32 = ⊥
  simp [Ideal.ofBits, Ideal.ieee]

include H in
theorem a_masked (i : S2x16x4096x4096.Idx) : val_main_v40 (F := Ideal) x0 x1 x2 i
    = if (i 3).val ≤ (i 2).val then ((A.lg (i 0).val (i 1).val (i 2).val (i 3).val : ℝ) : EReal) else ⊥ := by
  rw [val_main_v40_apply, a_mask, WordCmp.select_decide, a_lg H, val_main_call0_v2_apply, val_main_call0_v0_apply, val_main_cst_0_apply, ofBits_ninf]

include H in
theorem a_max (i : S2x16x4096.Idx) : ∃ μ : ℝ, val_main_v41 (F := Ideal) x0 x1 x2 i = (μ : EReal) := by
  refine reduce_max_real (val_main_v40 (F := Ideal) x0 x1 x2) (val_main_cst_1 (F := Ideal)) reducesTo_S2x16x4096x4096_S2x16x4096_d3 h_S_ i ofBits_ninf
    (fun j => ?_) (ix4 (i 0) (i 1) (i 2) (i 2)) (funext fun a => Fin.ext ?_) ?_
  · rw [a_masked H]; split
    · exact Or.inr ⟨_, rfl⟩
    · exact Or.inl rfl
  · match a with
    | ⟨0, _⟩ => rfl
    | ⟨1, _⟩ => rfl
    | ⟨2, _⟩ => rfl
  · rw [a_masked H]; exact ⟨_, if_pos (le_refl (i 2).val)⟩

/-- The number that a query's logits are taken off. -/
def top (x0 : (⟨S8192x1024, .bf16⟩ : BufTy).Contents (Elt Ideal)) (x1 : (⟨S8192x2048, .bf16⟩ : BufTy).Contents (Elt Ideal))
    (x2 : (⟨S8192x128, .f32⟩ : BufTy).Contents (Elt Ideal)) (i : S2x16x4096.Idx) : ℝ := EReal.toReal (val_main_v41 (F := Ideal) x0 x1 x2 i)

include H in
theorem a_top (i : S2x16x4096.Idx) : val_main_v41 (F := Ideal) x0 x1 x2 i = ((top x0 x1 x2 i : ℝ) : EReal) := by
  obtain ⟨μ, h⟩ := a_max H i
  unfold top; rw [h]; rfl

include H in
theorem a_w (i : S2x16x4096x4096.Idx) : val_main_v45 (F := Ideal) x0 x1 x2 i
    = ((A.w (top x0 x1 x2 (ix3 (i 0) (i 1) (i 2))) (i 0).val (i 1).val (i 2).val (i 3).val : ℝ) : EReal) := by
  rw [val_main_v45_apply, val_main_v44_apply, a_masked H, val_main_v43_apply, val_main_v42_apply, a_top H]
  refine (exp_weight _ _ _).trans ?_
  have e : idx_main_v42 (idx_main_v43 i) = ix3 (i 0) (i 1) (i 2) := funext fun a => by match a with | ⟨0, _⟩ => rfl | ⟨1, _⟩ => rfl | ⟨2, _⟩ => rfl
  rw [e]; rfl

include H in
theorem a_tot (i : S2x16x4096.Idx) : val_main_v46 (F := Ideal) x0 x1 x2 i = ((A.tot (top x0 x1 x2 i) (i 0).val (i 1).val (i 2).val : ℝ) : EReal) := by
  rw [val_main_v46_apply]
  have z : (val_main_cst_2 (F := Ideal) (Shape.Idx.first h_S_) : EReal) = 0 := (val_main_cst_2_apply _).trans (Ideal.ofBits_zero .f32)
  refine (congrArg₂ (fun a b : EReal => a + b) z rfl).trans ((zero_add _).trans ?_)
  refine Eq.trans (Finset.sum_congr rfl fun k _ => ?_) (sum_fin (fun s => A.w (top x0 x1 x2 i) (i 0).val (i 1).val (i 2).val s) 4096)
  rw [a_w H]
  have e : ix3 (idx_main_v46 i k 0) (idx_main_v46 i k 1) (idx_main_v46 i k 2) = i := funext fun a => by match a with | ⟨0, _⟩ => rfl | ⟨1, _⟩ => rfl | ⟨2, _⟩ => rfl
  exact congrArg (fun j => ((A.w (top x0 x1 x2 j) (i 0).val (i 1).val (i 2).val k.val : ℝ) : EReal)) e

include H in
theorem a_p (i : S2x16x4096x4096.Idx) : val_main_v49 (F := Ideal) x0 x1 x2 i = ((A.p (i 0).val (i 1).val (i 2).val (i 3).val : ℝ) : EReal) := by
  have b2 : (i 2).val < 4096 := (i 2).isLt
  rw [val_main_v49_apply, a_w H, val_main_v48_apply, val_main_v47_apply, a_tot H]
  have e : idx_main_v47 (idx_main_v48 i) = ix3 (i 0) (i 1) (i 2) := funext fun a => by match a with | ⟨0, _⟩ => rfl | ⟨1, _⟩ => rfl | ⟨2, _⟩ => rfl
  rw [e]
  refine (Ideal.div_coe (A.tot_pos _ _ _ b2).ne' _).trans ?_
  rw [← EReal.coe_mul]
  exact congrArg _ (A.w_tot _ _ _ b2 _)

include H in
theorem a_out (i : S2x4096x16x64.Idx) : val_main_v51 (F := Ideal) x0 x1 x2 i = ((A.out (i 0).val (i 2).val (i 1).val (i 3).val : ℝ) : EReal) := by
  rw [val_main_v51_apply, val_main_v50_apply]
  refine Eq.trans (Finset.sum_congr rfl fun k _ => ?_) (sum_fin (fun s => A.p (i 0).val (i 2).val (i 1).val s * A.v (4096 * (i 0).val + s) (64 * (i 2).val + (i 3).val)) 4096)
  rw [a_v H, a_p H, ← EReal.coe_mul, mul_comm]

include H in
theorem v_lse (i : S16x8192.Idx) : val_main_v56 (F := Ideal) x0 x1 x2 i = ((Real.log (A.z ((i 1).val / 4096) (i 0).val ((i 1).val % 4096)) : ℝ) : EReal) := by
  have b0 : (i 0).val < 16 := (i 0).isLt
  have b1 : (i 1).val < 8192 := (i 1).isLt
  rw [val_main_v56_apply, val_main_v55_apply, val_main_v54_apply, val_main_v53_apply, val_main_v52_apply, val_main_v47_apply, val_main_v42_apply, a_tot H, a_top H]
  generalize hj : idx_main_v47 (idx_main_v54 (idx_main_v55 (idx_main_v56 i))) = j
  have ej : idx_main_v42 (idx_main_v54 (idx_main_v55 (idx_main_v56 i))) = j := hj
  rw [ej]
  have c0 : (j 0).val = (i 1).val / 4096 := by
    rw [← hj]
    show ((((i 0).val * 8192 + (i 1).val) / 4096 % 2 * 16 + ((i 0).val * 8192 + (i 1).val) / 8192) * 4096 + ((i 0).val * 8192 + (i 1).val) % 4096) / 65536 = _
    omega
  have c1 : (j 1).val = (i 0).val := by
    rw [← hj]
    show ((((i 0).val * 8192 + (i 1).val) / 4096 % 2 * 16 + ((i 0).val * 8192 + (i 1).val) / 8192) * 4096 + ((i 0).val * 8192 + (i 1).val) % 4096) / 4096 % 16 = _
    omega
  have c2 : (j 2).val = (i 1).val % 4096 := by
    rw [← hj]
    show ((((i 0).val * 8192 + (i 1).val) / 4096 % 2 * 16 + ((i 0).val * 8192 + (i 1).val) / 8192) * 4096 + ((i 0).val * 8192 + (i 1).val) % 4096) / 1 % 4096 = _
    omega
  rw [c0, c1, c2]
  have ht : (i 1).val % 4096 < 4096 := Nat.mod_lt _ (by norm_num)
  generalize (i 1).val % 4096 = t at ht ⊢
  generalize (i 1).val / 4096 = b
  generalize (i 0).val = h
  generalize top x0 x1 x2 j = μ
  refine Eq.trans ?_ ((EReal.coe_add _ _).symm.trans (congrArg (fun r : ℝ => (r : EReal)) (A.log_tot μ b h ht)))
  exact congrArg (fun x : EReal => x + (μ : EReal)) (if_neg (not_le.2 (A.tot_pos μ b h ht)))

include H in
theorem v_ds (i : S16x8192.Idx) : val_main_v60 (F := Ideal) x0 x1 x2 x3 i = ((A.ds ((i 1).val / 4096) (i 0).val ((i 1).val % 4096) : ℝ) : EReal) := by
  have b0 : (i 0).val < 16 := (i 0).isLt
  have b1 : (i 1).val < 8192 := (i 1).isLt
  rw [val_main_v60_apply, val_main_v59_apply, val_main_v58_apply]
  have z : (val_main_cst_3 (F := Ideal) (Shape.Idx.first h_S_) : EReal) = 0 := (val_main_cst_3_apply _).trans (Ideal.ofBits_zero .f32)
  refine (congrArg₂ (fun a b : EReal => a + b) z rfl).trans ((zero_add _).trans ?_)
  generalize hj : idx_main_v59 (idx_main_v60 i) = j
  have c0 : (j 0).val = (i 1).val / 4096 := by
    rw [← hj]; show ((i 0).val * 8192 + (i 1).val) / 4096 % 2 = _; omega
  have c1 : (j 1).val = (i 1).val % 4096 := by
    rw [← hj]; show ((i 0).val * 8192 + (i 1).val) % 4096 = _; omega
  have c2 : (j 2).val = (i 0).val := by
    rw [← hj]; show ((i 0).val * 8192 + (i 1).val) / 8192 = _; omega
  unfold Data.ds
  rw [← Finite.coe_sum]
  refine Finset.sum_congr rfl fun k _ => ?_
  rw [val_main_v57_apply, a_out H, a_g H]
  refine (EReal.coe_mul _ _).symm.trans (congrArg (fun r : ℝ => (r : EReal)) ?_)
  show A.out (j 0).val (j 2).val (j 1).val k.val * A.g (4096 * (j 0).val + (j 1).val) (64 * (j 2).val + k.val) = _
  rw [c0, c1, c2]

include H in
theorem a_hi (i : S2x4096x16.Idx) : val_main_v14 (F := Ideal) x2 i = ((-A.c (4096 * (i 0).val + (i 1).val) (i 2).val : ℝ) : EReal) := by
  rw [val_main_v14_apply, val_main_v13_apply, val_main_v12_apply, a_c H]
  exact (EReal.coe_neg _).symm

include H in
theorem a_mid (i : S2x4096x16.Idx) : val_main_v18 (F := Ideal) x2 i = ((0 : ℝ) : EReal) := by
  rw [val_main_v18_apply, val_main_v17_apply, val_main_v16_apply, val_main_v15_apply, a_hi H, a_c H]
  show -((_ : ℝ) : EReal) - _ = _
  rw [← EReal.coe_neg, ← EReal.coe_sub, sub_self]

include H in
theorem a_lo (i : S2x4096x16.Idx) : val_main_v21 (F := Ideal) x2 i = ((0 : ℝ) : EReal) := by
  rw [val_main_v21_apply, val_main_v20_apply, val_main_v19_apply, a_mid H, a_hi H, a_c H]
  show -((_ : ℝ) : EReal) - _ - _ = _
  rw [← EReal.coe_neg, ← EReal.coe_sub, ← EReal.coe_sub, sub_self, sub_zero]

/-- What the keys with the running sums are put together from. -/
abbrev pieces (x1 : (⟨S8192x2048, .bf16⟩ : BufTy).Contents (Elt Ideal)) (x2 : (⟨S8192x128, .f32⟩ : BufTy).Contents (Elt Ideal)) : List ((s : Shape) × (s.Idx → EReal)) :=
  [⟨S2x4096x16x64, val_main_v4 (F := Ideal) x1⟩, ⟨S2x4096x16x1, val_main_v22 (F := Ideal) x2⟩, ⟨S2x4096x16x1, val_main_v23 (F := Ideal) x2⟩,
    ⟨S2x4096x16x1, val_main_v24 (F := Ideal) x2⟩, ⟨S2x4096x16x61, val_main_v25 (F := Ideal)⟩]

include H in
theorem a_cat (i : S2x4096x16x128.Idx) : val_main_v26 (F := Ideal) x1 x2 i
    = (((if (i 3).val < 64 then A.k (4096 * (i 0).val + (i 1).val) (64 * (i 2).val + (i 3).val) else if (i 3).val = 64 then -A.c (4096 * (i 0).val + (i 1).val) (i 2).val else 0 : ℝ)) : EReal) := by
  have b3 : (i 3).val < 128 := (i 3).isLt
  unfold val_main_v26
  by_cases h0 : (i 3).val < 64
  · rw [if_pos h0]
    refine (concatenate_apply_piece 3 (pieces x1 x2) concatenates_S2x4096x16x64_S2x4096x16x1_S2x4096x16x1_S2x4096x16x1_S2x4096x16x61_S2x4096x16x128_d3 i 0 (show 0 < 5 by decide) S2x4096x16x64 (val_main_v4 (F := Ideal) x1) rfl rfl 0 rfl (ix4 (i 0) (i 1) (i 2) ⟨(i 3).val, h0⟩) ?_ ?_).trans (a_k H _)
    · intro b hb
      match b with
      | ⟨0, _⟩ => rfl
      | ⟨1, _⟩ => rfl
      | ⟨2, _⟩ => rfl
      | ⟨3, _⟩ => exact absurd rfl hb
    · exact Nat.zero_add _
  rw [if_neg h0]
  by_cases h1 : (i 3).val = 64
  · rw [if_pos h1]
    refine (concatenate_apply_piece 3 (pieces x1 x2) concatenates_S2x4096x16x64_S2x4096x16x1_S2x4096x16x1_S2x4096x16x1_S2x4096x16x61_S2x4096x16x128_d3 i 1 (show 1 < 5 by decide) S2x4096x16x1 (val_main_v22 (F := Ideal) x2) rfl rfl 64 rfl (ix4 (i 0) (i 1) (i 2) ⟨0, Nat.one_pos⟩) ?_ ?_).trans ?_
    · intro b hb
      match b with
      | ⟨0, _⟩ => rfl
      | ⟨1, _⟩ => rfl
      | ⟨2, _⟩ => rfl
      | ⟨3, _⟩ => exact absurd rfl hb
    · exact h1.symm
    · rw [val_main_v22_apply]; exact a_hi H _
  rw [if_neg h1]
  by_cases h2 : (i 3).val = 65
  · refine (concatenate_apply_piece 3 (pieces x1 x2) concatenates_S2x4096x16x64_S2x4096x16x1_S2x4096x16x1_S2x4096x16x1_S2x4096x16x61_S2x4096x16x128_d3 i 2 (show 2 < 5 by decide) S2x4096x16x1 (val_main_v23 (F := Ideal) x2) rfl rfl 65 rfl (ix4 (i 0) (i 1) (i 2) ⟨0, Nat.one_pos⟩) ?_ ?_).trans ?_
    · intro b hb
      match b with
      | ⟨0, _⟩ => rfl
      | ⟨1, _⟩ => rfl
      | ⟨2, _⟩ => rfl
      | ⟨3, _⟩ => exact absurd rfl hb
    · exact h2.symm
    · rw [val_main_v23_apply]; exact a_mid H _
  by_cases h3 : (i 3).val = 66
  · refine (concatenate_apply_piece 3 (pieces x1 x2) concatenates_S2x4096x16x64_S2x4096x16x1_S2x4096x16x1_S2x4096x16x1_S2x4096x16x61_S2x4096x16x128_d3 i 3 (show 3 < 5 by decide) S2x4096x16x1 (val_main_v24 (F := Ideal) x2) rfl rfl 66 rfl (ix4 (i 0) (i 1) (i 2) ⟨0, Nat.one_pos⟩) ?_ ?_).trans ?_
    · intro b hb
      match b with
      | ⟨0, _⟩ => rfl
      | ⟨1, _⟩ => rfl
      | ⟨2, _⟩ => rfl
      | ⟨3, _⟩ => exact absurd rfl hb
    · exact h3.symm
    · rw [val_main_v24_apply]; exact a_lo H _
  · refine (concatenate_apply_piece 3 (pieces x1 x2) concatenates_S2x4096x16x64_S2x4096x16x1_S2x4096x16x1_S2x4096x16x1_S2x4096x16x61_S2x4096x16x128_d3 i 4 (show 4 < 5 by decide) S2x4096x16x61 (val_main_v25 (F := Ideal)) rfl rfl 67 rfl (ix4 (i 0) (i 1) (i 2) ⟨(i 3).val - 67, by omega⟩) ?_ ?_).trans ?_
    · intro b hb
      match b with
      | ⟨0, _⟩ => rfl
      | ⟨1, _⟩ => rfl
      | ⟨2, _⟩ => rfl
      | ⟨3, _⟩ => exact absurd rfl hb
    · show 67 + ((i 3).val - 67) = _
      omega
    · rw [val_main_v25_apply]; exact (val_main_cst_apply _).trans (Ideal.ofBits_zero .f32)

include H in
theorem v_ka (i : S8192x2048.Idx) : val_main_v28 (F := Ideal) x1 x2 i = ((A.ka (i 0).val (i 1).val : ℝ) : EReal) := by
  have b0 : (i 0).val < 8192 := (i 0).isLt
  have b1 : (i 1).val < 2048 := (i 1).isLt
  rw [val_main_v28_apply, val_main_v27_apply, a_cat H]
  have c0 : (idx_main_v27 i 0).val = (i 0).val / 4096 := by show ((i 0).val * 2048 + (i 1).val) / 8388608 = _; omega
  have c1 : (idx_main_v27 i 1).val = (i 0).val % 4096 := by show ((i 0).val * 2048 + (i 1).val) / 2048 % 4096 = _; omega
  have c2 : (idx_main_v27 i 2).val = (i 1).val / 128 := by show ((i 0).val * 2048 + (i 1).val) / 128 % 16 = _; omega
  have c3 : (idx_main_v27 i 3).val = (i 1).val % 128 := by show ((i 0).val * 2048 + (i 1).val) % 128 = _; omega
  rw [c0, c1, c2, c3, show 4096 * ((i 0).val / 4096) + (i 0).val % 4096 = (i 0).val by omega]
  rfl

end Cert.FoxBwdIdeal.Host

end
-- ==== Proof.FoxHostRun.lean ====
/- The FoX gradient call's host lines before the kernel: what they leave in the three arrays that they prepare. -/
module

public import proofs.«01_k».proof.Proof.FoxHostVals

@[expose] public section

noncomputable section

namespace Cert.FoxBwdIdeal.Host

open Cert.FoxBwdIdeal Cert.FoxBwdIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ) (c : Dev nD)

set_option maxRecDepth 8192 in
set_option maxHeartbeats 47600000 in
theorem V_v28 : Gen.V m c main_v28 = val_main_v28 (F := F) (m ((c.tc : Thread nD τ).loc main_arg1)) (m ((c.tc : Thread nD τ).loc main_arg2)) := by
  unfold Gen.V
  simp only [hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxRecDepth 8192 in
set_option maxHeartbeats 47600000 in
theorem V_v56 : Gen.V m c main_v56 = val_main_v56 (F := F) (m ((c.tc : Thread nD τ).loc main_arg0)) (m ((c.tc : Thread nD τ).loc main_arg1)) (m ((c.tc : Thread nD τ).loc main_arg2)) := by
  unfold Gen.V
  simp only [hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

set_option maxRecDepth 8192 in
set_option maxHeartbeats 47600000 in
theorem V_v60 : Gen.V m c main_v60 = val_main_v60 (F := F) (m ((c.tc : Thread nD τ).loc main_arg0)) (m ((c.tc : Thread nD τ).loc main_arg1)) (m ((c.tc : Thread nD τ).loc main_arg2)) (m ((c.tc : Thread nD τ).loc main_arg3)) := by
  unfold Gen.V
  simp only [hostOps0, hostOps0_1, hostOps0_2, List.flatten_cons, List.flatten_nil, List.append_nil, List.cons_append, List.nil_append, TRef.binary, TRef.nullary, TRef.ternary, TRef.unary, TRef.toBuf, TRef.ofBuf, cast_eq]
  after_results_simp <;> rfl

end Cert.FoxBwdIdeal.Host

end
-- ==== Proof.FoxRef.lean ====
/- The forgetting attention's reference gradient read on real arguments: the four results, entry by entry. -/
module

public import proofs.«01_k».proof.Proof.Gen.FoxRefIdeal.Read
public import proofs.«01_k».proof.Proof.FoxSoft
public import Idealize.ShloMosaic.Lib.WordCmp
public import Idealize.ShloMosaic.Lib.Pointwise
public import Idealize.ShloMosaic.Lib.KernelVsHost

@[expose] public section

noncomputable section

namespace Cert.FoxRefIdeal.Hand

open Cert.FoxRefIdeal Cert.FoxRefIdeal.Gen Cert.FoxRefIdeal.Read Cert.Fox Idealize.ShloMosaic Idealize.ShloMosaic.TcCoe Idealize.SL.Sem Idealize.ShloMosaic.StableHlo

variable {A : Data} {x0 : (⟨S8192x1024, .bf16⟩ : BufTy).Contents (Elt Ideal)} {x1 : (⟨S8192x2048, .bf16⟩ : BufTy).Contents (Elt Ideal)}
  {x2 : (⟨S8192x128, .f32⟩ : BufTy).Contents (Elt Ideal)} {x3 : (⟨S8192x1024, .bf16⟩ : BufTy).Contents (Elt Ideal)} (H : Args A x0 x1 x2 x3)

include H in
theorem a_q (i : S2x4096x16x64.Idx) : val_main_v1 (F := Ideal) x0 i = ((A.q (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v1_apply]
  show (_ : EReal) = _
  refine (H.q (idx_main_v1 i)).trans (congrArg (fun r : ℝ => (r : EReal)) (congrArg₂ A.q ?_ ?_))
  · show ((((i 0).val * 4096 + (i 1).val) * 16 + (i 2).val) * 64 + (i 3).val) / 1024 = _
    omega
  · show ((((i 0).val * 4096 + (i 1).val) * 16 + (i 2).val) * 64 + (i 3).val) % 1024 = _
    omega

include H in
theorem a_k (i : S2x4096x16x64.Idx) : val_main_v4 (F := Ideal) x1 i = ((A.k (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v4_apply, val_main_v3_apply, val_main_v2_apply]
  show (x1 (idx_main_v2 (idx_main_v4 i)) : EReal) = _
  refine (H.k (idx_main_v2 (idx_main_v4 i)) (show ((((i 0).val * 4096 + (i 1).val) * 16 + (i 2).val) * 64 + (i 3).val) % 1024 < 1024 by omega)).trans (congrArg (fun r : ℝ => (r : EReal)) (congrArg₂ A.k ?_ ?_))
  · show ((((i 0).val * 4096 + (i 1).val) * 16 + (i 2).val) * 64 + (i 3).val) / 1024 = _
    omega
  · show ((((i 0).val * 4096 + (i 1).val) * 16 + (i 2).val) * 64 + (i 3).val) % 1024 = _
    omega

include H in
theorem a_v (i : S2x4096x16x64.Idx) : val_main_v7 (F := Ideal) x1 i = ((A.v (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v7_apply, val_main_v6_apply, val_main_v5_apply]
  show (x1 (idx_main_v5 (idx_main_v7 i)) : EReal) = _
  refine (H.v (idx_main_v5 (idx_main_v7 i)) (show 1024 ≤ 1024 + ((((i 0).val * 4096 + (i 1).val) * 16 + (i 2).val) * 64 + (i 3).val) % 1024 by omega)).trans (congrArg (fun r : ℝ => (r : EReal)) (congrArg₂ A.v ?_ ?_))
  · show ((((i 0).val * 4096 + (i 1).val) * 16 + (i 2).val) * 64 + (i 3).val) / 1024 = _
    omega
  · show 1024 + ((((i 0).val * 4096 + (i 1).val) * 16 + (i 2).val) * 64 + (i 3).val) % 1024 - 1024 = _
    omega

include H in
theorem a_g (i : S2x4096x16x64.Idx) : val_main_v56 (F := Ideal) x3 i = ((A.g (4096 * (i 0).val + (i 1).val) (64 * (i 2).val + (i 3).val) : ℝ) : EReal) := by
  have b0 : (i 0).val < 2 := (i 0).isLt; have b1 : (i 1).val < 4096 := (i 1).isLt; have b2 : (i 2).val < 16 := (i 2).isLt; have b3 : (i 3).val < 64 := (i 3).isLt
  rw [val_main_v56_apply]
  show (_ : EReal) = _
  refine (H.g (idx_main_v56 i)).trans (congrArg (fun r : ℝ => (r : EReal)) (congrArg₂ A.g ?_ ?_))
  · show ((((i 0).val * 4096 + (i 1).val) * 16 + (i 2).val) * 64 + (i 3).val) / 1024 = _
    omega
  · show ((((i 0).val * 4096 + (i 1).val) * 16 + (i 2).val) * 64 + (i 3).val) % 1024 = _
    omega

include H in
theorem a_c (i : S2x4096x16.Idx) : val_main_v9 (F := Ideal) x2 i = ((A.c (4096 * (i 0).val + (i 1).val) (i 2).val : ℝ) : EReal) := by
  have b0 : (i 0).val < 2 := (i 0).isLt; have b1 : (i 1).val < 4096 := (i 1).isLt; have b2 : (i 2).val < 16 := (i 2).isLt
  rw [val_main_v9_apply, val_main_v8_apply]
  refine (H.c (idx_main_v8 (idx_main_v9 i)) (show (((i 0).val * 4096 + (i 1).val) * 16 + (i 2).val) % 16 < 16 by omega)).trans (congrArg (fun r : ℝ => (r : EReal)) (congrArg₂ A.c ?_ ?_))
  · show (((i 0).val * 4096 + (i 1).val) * 16 + (i 2).val) / 16 = _
    omega
  · show (((i 0).val * 4096 + (i 1).val) * 16 + (i 2).val) % 16 = _
    omega

include H in
theorem a_dot (i : S2x16x4096x4096.Idx) : val_main_v10 (F := Ideal) x0 x1 i
    = ((∑ d : Fin 64, A.k (4096 * (i 0).val + (i 3).val) (64 * (i 1).val + d.val) * A.q (4096 * (i 0).val + (i 2).val) (64 * (i 1).val + d.val) : ℝ) : EReal) := by
  rw [val_main_v10_apply, ← Finite.coe_sum]
  refine Finset.sum_congr rfl fun d _ => ?_
  rw [a_q H, a_k H, ← EReal.coe_mul, mul_comm]

include H in
theorem a_lg (i : S2x16x4096x4096.Idx) : val_main_v17 (F := Ideal) x0 x1 x2 i
    = ((A.lg (i 0).val (i 1).val (i 2).val (i 3).val + A.c (4096 * (i 0).val + (i 2).val) (i 1).val : ℝ) : EReal) := by
  rw [val_main_v17_apply, a_dot H, val_main_v16_apply, val_main_v14_apply, val_main_v15_apply, val_main_v12_apply, val_main_v13_apply, val_main_v11_apply, val_main_v11_apply, a_c H, a_c H]
  show _ + (((_ : ℝ) : EReal) - ((_ : ℝ) : EReal)) = _
  rw [← EReal.coe_sub, ← EReal.coe_add]
  refine congrArg (fun r : ℝ => (r : EReal)) ?_
  unfold Data.lg
  rw [sub_add_eq_add_sub, add_sub_assoc]

theorem a_mask (i : S2x16x4096x4096.Idx) : val_main_v24_1 (F := Ideal) i = BitVec.ofBool (decide ((i 3).val ≤ (i 2).val)) := by
  have b2 : (i 2).val < 4096 := (i 2).isLt
  have b3 : (i 3).val < 4096 := (i 3).isLt
  rw [val_main_v24_1_apply, val_main_v23_apply, val_main_v21_apply, val_main_v22_apply, val_main_v19_apply, val_main_v20_apply]
  exact WordCmp.cmpi_sle_ofNat (w := 32) (a := (i 3).val) (b := (i 2).val) (by omega) (by omega)

theorem ofBits_ninf : FloatOps.ofBits (F := Ideal) .f32 0xFF800000#32 = (⊥ : EReal) := by
  show Ideal.ofBits .f32 0xFF800000#32 = ⊥
  simp [Ideal.ofBits, Ideal.ieee]

include H in
theorem a_masked (i : S2x16x4096x4096.Idx) : val_main_v24_0 (F := Ideal) x0 x1 x2 i
    = if (i 3).val ≤ (i 2).val then ((A.lg (i 0).val (i 1).val (i 2).val (i 3).val + A.c (4096 * (i 0).val + (i 2).val) (i 1).val : ℝ) : EReal) else ⊥ := by
  rw [val_main_v24_0_apply, a_mask, WordCmp.select_decide, a_lg H, val_main_call0_v2_apply, val_main_call0_v0_apply, val_main_cst_apply, ofBits_ninf]

include H in
theorem a_max (i : S2x16x4096.Idx) : ∃ μ : ℝ, val_main_v32 (F := Ideal) x0 x1 x2 i = (μ : EReal) := by
  rw [val_main_v32_apply, val_main_v31_apply, val_main_cst_2_apply, ofBits_ninf]
  have h : ∃ μ : ℝ, val_main_v25 (F := Ideal) x0 x1 x2 i = (μ : EReal) := by
    refine reduce_max_real (val_main_v24_0 (F := Ideal) x0 x1 x2) (val_main_cst_0 (F := Ideal)) reducesTo_S2x16x4096x4096_S2x16x4096_d3 h_S_ i ofBits_ninf
      (fun j => ?_) (ix4 (i 0) (i 1) (i 2) (i 2)) (funext fun a => Fin.ext ?_) ?_
    · rw [a_masked H]; split
      · exact Or.inr ⟨_, rfl⟩
      · exact Or.inl rfl
    · match a with
      | ⟨0, _⟩ => rfl
      | ⟨1, _⟩ => rfl
      | ⟨2, _⟩ => rfl
    · rw [a_masked H]; exact ⟨_, if_pos (le_refl (i 2).val)⟩
  obtain ⟨μ, h⟩ := h
  exact ⟨μ, (max_eq_right bot_le).trans h⟩

/-- The number that a query's logits, without the query's own running sum, are taken off. -/
def top (A : Data) (x0 : (⟨S8192x1024, .bf16⟩ : BufTy).Contents (Elt Ideal)) (x1 : (⟨S8192x2048, .bf16⟩ : BufTy).Contents (Elt Ideal))
    (x2 : (⟨S8192x128, .f32⟩ : BufTy).Contents (Elt Ideal)) (i : S2x16x4096.Idx) : ℝ :=
  EReal.toReal (val_main_v32 (F := Ideal) x0 x1 x2 i) - A.c (4096 * (i 0).val + (i 2).val) (i 1).val

include H in
theorem a_top (i : S2x16x4096.Idx) : val_main_v32 (F := Ideal) x0 x1 x2 i = ((top A x0 x1 x2 i + A.c (4096 * (i 0).val + (i 2).val) (i 1).val : ℝ) : EReal) := by
  obtain ⟨μ, h⟩ := a_max H i
  unfold top; rw [h, sub_add_cancel]; rfl

include H in
theorem a_w (i : S2x16x4096x4096.Idx) : val_main_v45 (F := Ideal) x0 x1 x2 i
    = ((A.w (top A x0 x1 x2 (ix3 (i 0) (i 1) (i 2))) (i 0).val (i 1).val (i 2).val (i 3).val : ℝ) : EReal) := by
  rw [val_main_v45_apply, val_main_v44_apply, a_masked H, val_main_v43_apply, val_main_v42_apply, a_top H]
  refine (exp_weight _ _ _).trans ?_
  have e : idx_main_v42 (idx_main_v43 i) = ix3 (i 0) (i 1) (i 2) := funext fun a => by match a with | ⟨0, _⟩ => rfl | ⟨1, _⟩ => rfl | ⟨2, _⟩ => rfl
  rw [e]
  unfold Data.w
  show (((if (i 3).val ≤ (i 2).val then Real.exp (A.lg (i 0).val (i 1).val (i 2).val (i 3).val + A.c (4096 * (i 0).val + (i 2).val) (i 1).val
    - (top A x0 x1 x2 (ix3 (i 0) (i 1) (i 2)) + A.c (4096 * (i 0).val + (i 2).val) (i 1).val)) else 0 : ℝ)) : EReal) = _
  rw [add_sub_add_right_eq_sub]

include H in
theorem a_tot (i : S2x16x4096.Idx) : val_main_v46 (F := Ideal) x0 x1 x2 i = ((A.tot (top A x0 x1 x2 i) (i 0).val (i 1).val (i 2).val : ℝ) : EReal) := by
  rw [val_main_v46_apply]
  have z : (val_main_cst_8 (F := Ideal) (Shape.Idx.first h_S_) : EReal) = 0 := (val_main_cst_8_apply _).trans (Ideal.ofBits_zero .f32)
  refine (congrArg₂ (fun a b : EReal => a + b) z rfl).trans ((zero_add _).trans ?_)
  refine Eq.trans (Finset.sum_congr rfl fun k _ => ?_) (sum_fin (fun s => A.w (top A x0 x1 x2 i) (i 0).val (i 1).val (i 2).val s) 4096)
  rw [a_w H]
  have e : ix3 (idx_main_v46 i k 0) (idx_main_v46 i k 1) (idx_main_v46 i k 2) = i := funext fun a => by match a with | ⟨0, _⟩ => rfl | ⟨1, _⟩ => rfl | ⟨2, _⟩ => rfl
  exact congrArg (fun j => ((A.w (top A x0 x1 x2 j) (i 0).val (i 1).val (i 2).val k.val : ℝ) : EReal)) e

include H in
theorem a_tot4 (i : S2x16x4096x1.Idx) : val_main_v47 (F := Ideal) x0 x1 x2 i
    = ((A.tot (top A x0 x1 x2 (ix3 (i 0) (i 1) (i 2))) (i 0).val (i 1).val (i 2).val : ℝ) : EReal) := by
  rw [val_main_v47_apply, a_tot H]
  have e : idx_main_v47 i = ix3 (i 0) (i 1) (i 2) := funext fun a => by match a with | ⟨0, _⟩ => rfl | ⟨1, _⟩ => rfl | ⟨2, _⟩ => rfl
  rw [e]; rfl

include H in
theorem a_p (i : S2x16x4096x4096.Idx) : val_main_v49 (F := Ideal) x0 x1 x2 i = ((A.p (i 0).val (i 1).val (i 2).val (i 3).val : ℝ) : EReal) := by
  have b2 : (i 2).val < 4096 := (i 2).isLt
  rw [val_main_v49_apply, a_w H, val_main_v48_apply, a_tot4 H]
  refine (Ideal.div_coe (A.tot_pos _ _ _ b2).ne' _).trans ?_
  rw [← EReal.coe_mul]
  exact congrArg _ (A.w_tot _ _ _ b2 _)

include H in
theorem a_dp (i : S2x16x4096x4096.Idx) : val_main_v58 (F := Ideal) x1 x3 i = ((A.dp (i 0).val (i 1).val (i 2).val (i 3).val : ℝ) : EReal) := by
  rw [val_main_v58_apply]
  unfold Data.dp
  rw [← Finite.coe_sum]
  refine Finset.sum_congr rfl fun d _ => ?_
  rw [val_main_v57_apply, a_g H, a_v H, ← EReal.coe_mul, mul_comm]

include H in
theorem a_sq (i : S2x16x4096x4096.Idx) : val_main_v61 (F := Ideal) x0 x1 x2 i
    = ((1 / (A.tot (top A x0 x1 x2 (ix3 (i 0) (i 1) (i 2))) (i 0).val (i 1).val (i 2).val * A.tot (top A x0 x1 x2 (ix3 (i 0) (i 1) (i 2))) (i 0).val (i 1).val (i 2).val) : ℝ) : EReal) := by
  have b2 : (i 2).val < 4096 := (i 2).isLt
  have hT := (A.tot_pos (top A x0 x1 x2 (ix3 (i 0) (i 1) (i 2))) (i 0).val (i 1).val b2).ne'
  rw [val_main_v61_apply, val_main_v52_apply, val_main_v50_apply, val_main_v51_apply, val_main_cst_9_apply, a_tot4 H]
  show Ideal.div (Ideal.ofBits .f32 0x3F800000#32) (((_ : ℝ) : EReal) * ((_ : ℝ) : EReal)) = _
  rw [Finite.ofBits_one, ← EReal.coe_mul]
  refine (Ideal.div_coe (mul_ne_zero hT hT) _).trans ?_
  rw [← EReal.coe_mul, one_mul]

include H in
theorem a_row (i : S2x16x4096.Idx) : val_main_v64 (F := Ideal) x0 x1 x2 x3 i
    = ((∑ s ∈ Finset.range 4096, A.dp (i 0).val (i 1).val (i 2).val s
        * (1 / (A.tot (top A x0 x1 x2 i) (i 0).val (i 1).val (i 2).val * A.tot (top A x0 x1 x2 i) (i 0).val (i 1).val (i 2).val))
        * A.w (top A x0 x1 x2 i) (i 0).val (i 1).val (i 2).val s : ℝ) : EReal) := by
  rw [val_main_v64_apply]
  have z : (val_main_cst_10 (F := Ideal) (Shape.Idx.first h_S_) : EReal) = 0 := (val_main_cst_10_apply _).trans (Ideal.ofBits_zero .f32)
  refine (congrArg₂ (fun a b : EReal => a + b) z rfl).trans ((zero_add _).trans ?_)
  refine Eq.trans (Finset.sum_congr rfl fun k _ => ?_) (sum_fin (fun s => A.dp (i 0).val (i 1).val (i 2).val s
    * (1 / (A.tot (top A x0 x1 x2 i) (i 0).val (i 1).val (i 2).val * A.tot (top A x0 x1 x2 i) (i 0).val (i 1).val (i 2).val))
    * A.w (top A x0 x1 x2 i) (i 0).val (i 1).val (i 2).val s) 4096)
  have e : ix3 (idx_main_v64 i k 0) (idx_main_v64 i k 1) (idx_main_v64 i k 2) = i := funext fun a => by match a with | ⟨0, _⟩ => rfl | ⟨1, _⟩ => rfl | ⟨2, _⟩ => rfl
  rw [val_main_v63_apply, val_main_v62_apply, a_dp H, a_sq H, a_w H]
  refine ((congrArg (fun x : EReal => x * _) (EReal.coe_mul _ _).symm).trans (EReal.coe_mul _ _).symm).trans ?_
  exact congrArg (fun j => ((A.dp (i 0).val (i 1).val (i 2).val k.val
    * (1 / (A.tot (top A x0 x1 x2 j) (i 0).val (i 1).val (i 2).val * A.tot (top A x0 x1 x2 j) (i 0).val (i 1).val (i 2).val))
    * A.w (top A x0 x1 x2 j) (i 0).val (i 1).val (i 2).val k.val : ℝ) : EReal)) e

include H in
theorem a_dl (i : S2x16x4096x4096.Idx) : val_main_v73 (F := Ideal) x0 x1 x2 x3 i = ((A.dl (i 0).val (i 1).val (i 2).val (i 3).val : ℝ) : EReal) := by
  have b2 : (i 2).val < 4096 := (i 2).isLt
  rw [val_main_v73_apply, a_mask, WordCmp.select_decide]
  split
  · rw [val_main_v72_apply, val_main_v71_apply, val_main_v70_apply, val_main_v69_apply, val_main_v68_apply, val_main_v67_apply, a_dp H, a_tot4 H, a_w H]
    have z : (val_main_cst_11 (F := Ideal) (Shape.Idx.first h_S_) : EReal) = 0 := (val_main_cst_11_apply _).trans (Ideal.ofBits_zero .f32)
    have e : ∀ k : Fin 1, idx_main_v65 (idx_main_v69 (idx_main_v70 i) k) = ix3 (i 0) (i 1) (i 2) := by
      intro k
      have b0 : (i 0).val < 2 := (i 0).isLt
      have b1 : (i 1).val < 16 := (i 1).isLt
      have bk : k.val < 1 := k.isLt
      funext a
      apply Fin.ext
      match a with
      | ⟨0, _⟩ => show ((((i 0).val * 16 + (i 1).val) * 4096 + (i 2).val) * 1 + k.val) / 65536 = (i 0).val; omega
      | ⟨1, _⟩ => show ((((i 0).val * 16 + (i 1).val) * 4096 + (i 2).val) * 1 + k.val) / 4096 % 16 = (i 1).val; omega
      | ⟨2, _⟩ => show ((((i 0).val * 16 + (i 1).val) * 4096 + (i 2).val) * 1 + k.val) % 4096 = (i 2).val; omega
    have hs : ∑ k : Fin 1, val_main_v66 (F := Ideal) x0 x1 x2 x3 (idx_main_v69 (idx_main_v70 i) k)
        = ((-∑ s ∈ Finset.range 4096, A.dp (i 0).val (i 1).val (i 2).val s
          * (1 / (A.tot (top A x0 x1 x2 (ix3 (i 0) (i 1) (i 2))) (i 0).val (i 1).val (i 2).val * A.tot (top A x0 x1 x2 (ix3 (i 0) (i 1) (i 2))) (i 0).val (i 1).val (i 2).val))
          * A.w (top A x0 x1 x2 (ix3 (i 0) (i 1) (i 2))) (i 0).val (i 1).val (i 2).val s : ℝ) : EReal) := by
      refine (Fin.sum_univ_one _).trans ?_
      rw [val_main_v66_apply, val_main_v65_apply, e]
      exact (congrArg (fun x : EReal => -x) (a_row H (ix3 (i 0) (i 1) (i 2)))).trans (EReal.coe_neg _).symm
    rw [hs]
    have hd := Ideal.div_coe (A.tot_pos (top A x0 x1 x2 (ix3 (i 0) (i 1) (i 2))) (i 0).val (i 1).val b2).ne' ((A.dp (i 0).val (i 1).val (i 2).val (i 3).val : ℝ) : EReal)
    rw [← A.dl_quot (top A x0 x1 x2 (ix3 (i 0) (i 1) (i 2))) (i 0).val (i 1).val b2 (i 3).val, EReal.coe_mul, EReal.coe_add, EReal.coe_mul]
    exact congrArg₂ (fun a b : EReal => a * b) (congrArg₂ (fun a b : EReal => a + b) hd ((congrArg₂ (fun a b : EReal => a + b) z rfl).trans (zero_add _))) rfl
  · rename_i hn
    rw [val_main_call1_v0_apply, A.dl_of_lt (not_le.1 hn)]
    exact (val_main_call1_cst_apply _).trans (Ideal.ofBits_zero .f32)

include H in
/-- The gradients of the queries' own running sums vanish: -/
theorem a_own (i : S2x16x4096.Idx) : val_main_v74 (F := Ideal) x0 x1 x2 x3 i = ((0 : ℝ) : EReal) := by
  have b2 : (i 2).val < 4096 := (i 2).isLt
  rw [val_main_v74_apply]
  have z : (val_main_cst_12 (F := Ideal) (Shape.Idx.first h_S_) : EReal) = 0 := (val_main_cst_12_apply _).trans (Ideal.ofBits_zero .f32)
  refine (congrArg₂ (fun a b : EReal => a + b) z rfl).trans ((zero_add _).trans ?_)
  refine Eq.trans (Finset.sum_congr rfl fun k _ => a_dl H _) ((sum_fin (fun s => A.dl (i 0).val (i 1).val (i 2).val s) 4096).trans ?_)
  rw [A.sum_dl _ _ b2]

include H in
/-- what is left is the keys'. -/
theorem a_key (i : S2x16x4096.Idx) : val_main_v77 (F := Ideal) x0 x1 x2 x3 i = ((A.dc 4096 (i 0).val (i 2).val (i 1).val : ℝ) : EReal) := by
  rw [val_main_v77_apply]
  have z : (val_main_cst_13 (F := Ideal) (Shape.Idx.first h_S_) : EReal) = 0 := (val_main_cst_13_apply _).trans (Ideal.ofBits_zero .f32)
  refine (congrArg₂ (fun a b : EReal => a + b) z rfl).trans ((zero_add _).trans ?_)
  unfold Data.dc
  rw [← Finset.sum_neg_distrib]
  refine Eq.trans (Finset.sum_congr rfl fun k _ => ?_) (sum_fin (fun t => -A.dl (i 0).val (i 1).val t (i 2).val) 4096)
  rw [val_main_v76_apply, a_dl H]
  exact (EReal.coe_neg _).symm

include H in
theorem a_dcum (i : S2x16x4096.Idx) : val_main_v81 (F := Ideal) x0 x1 x2 x3 i = ((A.dc 4096 (i 0).val (i 2).val (i 1).val : ℝ) : EReal) := by
  have b0 : (i 0).val < 2 := (i 0).isLt
  have b1 : (i 1).val < 16 := (i 1).isLt
  have b2 : (i 2).val < 4096 := (i 2).isLt
  rw [val_main_v81_apply, val_main_v79_apply, val_main_v80_apply]
  have z : (val_main_cst_14 (F := Ideal) (Shape.Idx.first h_S_) : EReal) = 0 := (val_main_cst_14_apply _).trans (Ideal.ofBits_zero .f32)
  have z' : (val_main_cst_15 (F := Ideal) (Shape.Idx.first h_S_) : EReal) = 0 := (val_main_cst_15_apply _).trans (Ideal.ofBits_zero .f32)
  have h1 : ∑ k : Fin 1, val_main_v78 (F := Ideal) x0 x1 x2 x3 (idx_main_v79 i k) = ((A.dc 4096 (i 0).val (i 2).val (i 1).val : ℝ) : EReal) := by
    refine (Fin.sum_univ_one _).trans ?_
    rw [val_main_v78_apply, a_key H]
    have e0 : (idx_main_v78 (idx_main_v79 i 0) 0).val = (i 0).val := by show ((((i 0).val * 16 + (i 1).val) * 1 + 0) * 4096 + (i 2).val) / 65536 = _; omega
    have e1 : (idx_main_v78 (idx_main_v79 i 0) 1).val = (i 1).val := by show ((((i 0).val * 16 + (i 1).val) * 1 + 0) * 4096 + (i 2).val) / 4096 % 16 = _; omega
    have e2 : (idx_main_v78 (idx_main_v79 i 0) 2).val = (i 2).val := by show ((((i 0).val * 16 + (i 1).val) * 1 + 0) * 4096 + (i 2).val) % 4096 = _; omega
    rw [e0, e1, e2]
  have h2 : ∑ k : Fin 1, val_main_v75 (F := Ideal) x0 x1 x2 x3 (idx_main_v80 i k) = ((0 : ℝ) : EReal) := by
    refine (Fin.sum_univ_one _).trans ?_
    rw [val_main_v75_apply, a_own H]
  rw [h1, h2]
  refine (congrArg₂ (fun a b : EReal => a + b) ((congrArg₂ (fun a b : EReal => a + b) z rfl).trans (zero_add _)) ((congrArg₂ (fun a b : EReal => a + b) z' rfl).trans (zero_add _))).trans ?_
  exact add_zero _

include H in
/-- The four results. -/
theorem v_dq (i : S2x16x1024x256.Idx) : val_main_v88 (F := Ideal) x0 x1 x2 x3 i = ((A.dq 4096 (i 0).val (256 * (i 1).val + (i 3).val) (i 2).val : ℝ) : EReal) := by
  have b0 : (i 0).val < 2 := (i 0).isLt
  have b1 : (i 1).val < 16 := (i 1).isLt
  have b2 : (i 2).val < 1024 := (i 2).isLt
  have b3 : (i 3).val < 256 := (i 3).isLt
  rw [val_main_v88_apply, val_main_v87_apply, val_main_v86_apply, val_main_v85_apply]
  generalize hj : idx_main_v86 (idx_main_v87 (idx_main_v88 i)) = j
  have c0 : (j 0).val = (i 0).val := by
    rw [← hj]; show ((((i 0).val * 16 + (i 1).val) * 256 + (i 3).val) * 1024 + (i 2).val) / 4194304 = _; omega
  have c1 : (j 1).val = (i 2).val / 64 := by
    rw [← hj]; show ((((i 0).val * 16 + (i 1).val) * 256 + (i 3).val) * 1024 + (i 2).val) / 64 % 16 = _; omega
  have c2 : (j 2).val = 256 * (i 1).val + (i 3).val := by
    rw [← hj]; show ((((i 0).val * 16 + (i 1).val) * 256 + (i 3).val) * 1024 + (i 2).val) / 1024 % 4096 = _; omega
  have c3 : (j 3).val = (i 2).val % 64 := by
    rw [← hj]; show ((((i 0).val * 16 + (i 1).val) * 256 + (i 3).val) * 1024 + (i 2).val) % 64 = _; omega
  unfold Data.dq
  refine Eq.trans (Finset.sum_congr rfl fun k _ => ?_) (sum_fin (fun s => A.k (4096 * (i 0).val + s) (i 2).val * A.dl (i 0).val ((i 2).val / 64) (256 * (i 1).val + (i 3).val) s) 4096)
  rw [a_dl H, a_k H, ← EReal.coe_mul, mul_comm]
  refine congrArg (fun r : ℝ => (r : EReal)) ?_
  show A.k (4096 * (j 0).val + k.val) (64 * (j 1).val + (j 3).val) * A.dl (j 0).val (j 1).val (j 2).val k.val = _
  rw [c0, c1, c2, c3, show 64 * ((i 2).val / 64) + (i 2).val % 64 = (i 2).val by omega]

include H in
theorem v_dk (i : S8192x1024.Idx) : val_main_v91 (F := Ideal) x0 x1 x2 x3 i = ((A.dk 4096 ((i 0).val / 4096) ((i 0).val % 4096) (i 1).val : ℝ) : EReal) := by
  have b0 : (i 0).val < 8192 := (i 0).isLt
  have b1 : (i 1).val < 1024 := (i 1).isLt
  rw [val_main_v91_apply, val_main_v84_apply, val_main_v83_apply]
  generalize hj : idx_main_v84 (idx_main_v91 i) = j
  have c0 : (j 0).val = (i 0).val / 4096 := by rw [← hj]; show ((i 0).val * 1024 + (i 1).val) / 4194304 = _; omega
  have c1 : (j 1).val = (i 1).val / 64 := by rw [← hj]; show ((i 0).val * 1024 + (i 1).val) / 64 % 16 = _; omega
  have c2 : (j 2).val = (i 0).val % 4096 := by rw [← hj]; show ((i 0).val * 1024 + (i 1).val) / 1024 % 4096 = _; omega
  have c3 : (j 3).val = (i 1).val % 64 := by rw [← hj]; show ((i 0).val * 1024 + (i 1).val) % 64 = _; omega
  unfold Data.dk
  refine Eq.trans (Finset.sum_congr rfl fun k _ => ?_) (sum_fin (fun t => A.dl ((i 0).val / 4096) ((i 1).val / 64) t ((i 0).val % 4096) * A.q (4096 * ((i 0).val / 4096) + t) (i 1).val) 4096)
  rw [a_dl H, a_q H, ← EReal.coe_mul]
  refine congrArg (fun r : ℝ => (r : EReal)) ?_
  show A.dl (j 0).val (j 1).val k.val (j 2).val * A.q (4096 * (j 0).val + k.val) (64 * (j 1).val + (j 3).val) = _
  rw [c0, c1, c2, c3, show 64 * ((i 1).val / 64) + (i 1).val % 64 = (i 1).val by omega]

include H in
theorem v_dv (i : S8192x1024.Idx) : val_main_v92 (F := Ideal) x0 x1 x2 x3 i = ((A.dv 4096 ((i 0).val / 4096) ((i 0).val % 4096) (i 1).val : ℝ) : EReal) := by
  have b0 : (i 0).val < 8192 := (i 0).isLt
  have b1 : (i 1).val < 1024 := (i 1).isLt
  rw [val_main_v92_apply, val_main_v60_apply, val_main_v59_apply]
  generalize hj : idx_main_v60 (idx_main_v92 i) = j
  have c0 : (j 0).val = (i 0).val / 4096 := by rw [← hj]; show ((i 0).val * 1024 + (i 1).val) / 4194304 = _; omega
  have c1 : (j 1).val = (i 1).val / 64 := by rw [← hj]; show ((i 0).val * 1024 + (i 1).val) / 64 % 16 = _; omega
  have c2 : (j 2).val = (i 1).val % 64 := by rw [← hj]; show ((i 0).val * 1024 + (i 1).val) % 64 = _; omega
  have c3 : (j 3).val = (i 0).val % 4096 := by rw [← hj]; show ((i 0).val * 1024 + (i 1).val) / 1024 % 4096 = _; omega
  unfold Data.dv
  refine Eq.trans (Finset.sum_congr rfl fun k _ => ?_) (sum_fin (fun t => A.p ((i 0).val / 4096) ((i 1).val / 64) t ((i 0).val % 4096) * A.g (4096 * ((i 0).val / 4096) + t) (i 1).val) 4096)
  rw [val_main_v57_apply, a_g H, a_p H, ← EReal.coe_mul, mul_comm]
  refine congrArg (fun r : ℝ => (r : EReal)) ?_
  show A.p (j 0).val (j 1).val k.val (j 3).val * A.g (4096 * (j 0).val + k.val) (64 * (j 1).val + (j 2).val) = _
  rw [c0, c1, c2, c3, show 64 * ((i 1).val / 64) + (i 1).val % 64 = (i 1).val by omega]

include H in
theorem v_dc (i : S8192x128.Idx) : val_main_v90 (F := Ideal) x0 x1 x2 x3 i
    = if (i 1).val < 16 then ((A.dc 4096 ((i 0).val / 4096) ((i 0).val % 4096) (i 1).val : ℝ) : EReal) else 0 := by
  have b0 : (i 0).val < 8192 := (i 0).isLt
  have b1 : (i 1).val < 128 := (i 1).isLt
  unfold val_main_v90
  split
  · rename_i h
    refine (pad_apply_of_inside _ _ _ _ _ _ _ i (ix2 (i 0) ⟨(i 1).val, h⟩) ?_).trans ?_
    · intro a
      match a with
      | ⟨0, _⟩ => show (i 0).val = 0 + (i 0).val * (0 + 1); omega
      | ⟨1, _⟩ => show (i 1).val = 0 + (i 1).val * (0 + 1); omega
    · refine ((val_main_v89_apply (F := Ideal) x0 x1 x2 x3 (ix2 (i 0) ⟨(i 1).val, h⟩)).trans ((val_main_v82_apply (F := Ideal) x0 x1 x2 x3 _).trans (a_dcum H _))).trans ?_
      generalize hj : idx_main_v82 (idx_main_v89 (ix2 (i 0) ⟨(i 1).val, h⟩)) = j
      have c0 : (j 0).val = (i 0).val / 4096 := by rw [← hj]; show ((i 0).val * 16 + (i 1).val) / 65536 = _; omega
      have c1 : (j 1).val = (i 1).val := by rw [← hj]; show ((i 0).val * 16 + (i 1).val) % 16 = _; omega
      have c2 : (j 2).val = (i 0).val % 4096 := by rw [← hj]; show ((i 0).val * 16 + (i 1).val) / 16 % 4096 = _; omega
      rw [c0, c1, c2]
  · rename_i h
    refine (pad_apply_of_not_inside _ _ _ _ _ _ _ i (1 : Fin 2) ?_).trans ?_
    · rintro ⟨-, -, h3⟩
      have h3' : ((i 1).val - 0) / (0 + 1) < 16 := h3
      omega
    · show (((0#32 : BitVec 32).toInt : ℝ) : EReal) = 0
      simp

end Cert.FoxRefIdeal.Hand

end
-- ==== Proof.FoxEq.lean ====
/-
  The FoX gradient call against the reference gradient: finite arguments hold real data, the call's host lines prepare its
  arrays from them, and both programs leave the four gradients of those data.
-/
module

public import proofs.«01_k».proof.Defs
public import proofs.«01_k».proof.Proof.FoxArr
public import proofs.«01_k».proof.Proof.FoxHost
public import proofs.«01_k».proof.Proof.FoxHostRun
public import proofs.«01_k».proof.Proof.FoxRef
public import proofs.«01_k».proof.Proof.Gen.Pre_fox_finite

@[expose] public section

noncomputable section

namespace Cert.Fox

open Idealize.ShloMosaic Idealize.ShloMosaic.TcCoe Idealize.SL.Sem Cert.Finite

/-- Every element is a real number. -/
def AllFin {s : Shape} (x : s.Idx → EReal) : Prop := ∀ i, x i = ((x i).toReal : EReal)

section
variable (x0 : (⟨2, ![8192, 1024]⟩ : Shape).Idx → EReal) (x1 : (⟨2, ![8192, 2048]⟩ : Shape).Idx → EReal)
  (x2 : (⟨2, ![8192, 128]⟩ : Shape).Idx → EReal) (x3 : (⟨2, ![8192, 1024]⟩ : Shape).Idx → EReal)

/-- The data that the arrays hold. -/
def dataOf : Data where
  q r k := if h : r < 8192 ∧ k < 1024 then (x0 (ix2 ⟨r, h.1⟩ ⟨k, h.2⟩)).toReal else 0
  k r k := if h : r < 8192 ∧ k < 1024 then (x1 (ix2 ⟨r, h.1⟩ ⟨k, Nat.lt_trans h.2 (by norm_num)⟩)).toReal else 0
  v r k := if h : r < 8192 ∧ k < 1024 then (x1 (ix2 ⟨r, h.1⟩ ⟨1024 + k, Nat.add_lt_add_left h.2 1024⟩)).toReal else 0
  g r k := if h : r < 8192 ∧ k < 1024 then (x3 (ix2 ⟨r, h.1⟩ ⟨k, h.2⟩)).toReal else 0
  c r k := if h : r < 8192 ∧ k < 16 then (x2 (ix2 ⟨r, h.1⟩ ⟨k, Nat.lt_trans h.2 (by norm_num)⟩)).toReal else 0

theorem ix2_eq {a b : ℕ} (i : (⟨2, ![a, b]⟩ : Shape).Idx) (r : Fin a) (k : Fin b) (hr : r.val = (i 0).val) (hk : k.val = (i 1).val) : ix2 r k = i := by
  funext d
  match d with
  | ⟨0, _⟩ => exact Fin.ext hr
  | ⟨1, _⟩ => exact Fin.ext hk

variable {x0 x1 x2 x3}

theorem args (h0 : AllFin x0) (h1 : AllFin x1) (h2 : AllFin x2) (h3 : AllFin x3) : Args (dataOf x0 x1 x2 x3) x0 x1 x2 x3 where
  q i := by
    have a0 : (i 0).val < 8192 := (i 0).isLt
    have a1 : (i 1).val < 1024 := (i 1).isLt
    refine (h0 i).trans (congrArg (fun r : ℝ => (r : EReal)) (Eq.trans ?_ (dif_pos ⟨a0, a1⟩).symm))
    exact congrArg (fun j => (x0 j).toReal) (ix2_eq i _ _ rfl rfl).symm
  k i hi := by
    have a0 : (i 0).val < 8192 := (i 0).isLt
    refine (h1 i).trans (congrArg (fun r : ℝ => (r : EReal)) (Eq.trans ?_ (dif_pos ⟨a0, hi⟩).symm))
    exact congrArg (fun j => (x1 j).toReal) (ix2_eq i _ _ rfl rfl).symm
  v i hi := by
    have a0 : (i 0).val < 8192 := (i 0).isLt
    have a1 : (i 1).val < 2048 := (i 1).isLt
    refine (h1 i).trans (congrArg (fun r : ℝ => (r : EReal)) (Eq.trans ?_ (dif_pos ⟨a0, by omega⟩).symm))
    exact congrArg (fun j => (x1 j).toReal) (ix2_eq i _ _ rfl (show 1024 + ((i 1).val - 1024) = (i 1).val by omega)).symm
  c i hi := by
    have a0 : (i 0).val < 8192 := (i 0).isLt
    refine (h2 i).trans (congrArg (fun r : ℝ => (r : EReal)) (Eq.trans ?_ (dif_pos ⟨a0, hi⟩).symm))
    exact congrArg (fun j => (x2 j).toReal) (ix2_eq i _ _ rfl rfl).symm
  g i := by
    have a0 : (i 0).val < 8192 := (i 0).isLt
    have a1 : (i 1).val < 1024 := (i 1).isLt
    refine (h3 i).trans (congrArg (fun r : ℝ => (r : EReal)) (Eq.trans ?_ (dif_pos ⟨a0, a1⟩).symm))
    exact congrArg (fun j => (x3 j).toReal) (ix2_eq i _ _ rfl rfl).symm

/-- The precondition's masks say that every element of the four arrays is a real number. -/
theorem finite_of_pre
    (h : (Cert.Pre_fox_finite.fn (F := Ideal) x0 x1 x2 x3).1 = (fun _ => 1#1) ∧ (Cert.Pre_fox_finite.fn (F := Ideal) x0 x1 x2 x3).2.1 = (fun _ => 1#1)
      ∧ (Cert.Pre_fox_finite.fn (F := Ideal) x0 x1 x2 x3).2.2.1 = (fun _ => 1#1) ∧ (Cert.Pre_fox_finite.fn (F := Ideal) x0 x1 x2 x3).2.2.2 = (fun _ => 1#1)) :
    AllFin x0 ∧ AllFin x1 ∧ AllFin x2 ∧ AllFin x3 := by
  refine ⟨fun i => ?_, fun i => ?_, fun i => ?_, fun i => ?_⟩
  · refine real_of_cmp _ (Eq.trans ?_ (congrFun h.1 i)); rw [← ofBits_inf]; rfl
  · refine real_of_cmp _ (Eq.trans ?_ (congrFun h.2.1 i)); rw [← ofBits_inf]; rfl
  · refine real_of_cmp _ (Eq.trans ?_ (congrFun h.2.2.1 i)); rw [← ofBits_inf]; rfl
  · refine real_of_cmp _ (Eq.trans ?_ (congrFun h.2.2.2 i)); rw [← ofBits_inf]; rfl

end

section
open Cert.FoxBwdIdeal Cert.FoxBwdIdeal.Gen Cert.FoxBwdIdeal.Hand
variable {m : (ℓ : Loc nD τ sig) → Buf (Elt Ideal) ℓ} {c : Dev nD} {A : Data}

/-- The host lines prepare the call's arrays. -/
theorem host_of_args (H : Args A (m ((c.tc : Thread nD τ).loc main_arg0)) (m ((c.tc : Thread nD τ).loc main_arg1))
    (m ((c.tc : Thread nD τ).loc main_arg2)) (m ((c.tc : Thread nD τ).loc main_arg3))) : Host m c A where
  q r k := (congrFun (V_main_arg0 m c) (ix2 r k)).trans (H.q _)
  ka r l := (congrFun (Cert.FoxBwdIdeal.Host.V_v28 m c) (ix2 r l)).trans (Cert.FoxBwdIdeal.Host.v_ka H _)
  v r k := (congrFun (V_main_arg1 m c) (ix2 r _)).trans ((H.v _ (Nat.le_add_right 1024 k.val)).trans
    (congrArg (fun j => ((A.v r.val j : ℝ) : EReal)) (Nat.add_sub_cancel_left 1024 k.val)))
  g r k := (congrFun (V_main_arg3 m c) (ix2 r k)).trans (H.g _)
  l h r := (congrFun (Cert.FoxBwdIdeal.Host.V_v56 m c) (ix2 h r)).trans (Cert.FoxBwdIdeal.Host.v_lse H _)
  d h r := (congrFun (Cert.FoxBwdIdeal.Host.V_v60 m c) (ix2 h r)).trans (Cert.FoxBwdIdeal.Host.v_ds H _)

end

/-- The frame of the host reference: it declares no semaphore and writes no argument. -/
theorem frame_ref (m : (ℓ : Loc Cert.FoxRefIdeal.nD Cert.FoxRefIdeal.τ Cert.FoxRefIdeal.sig) → Buf (Elt Ideal) ℓ) (ρ : Dev Cert.FoxRefIdeal.nD → PrngReg) :
    θ_run Cert.FoxRefIdeal.defs (onTc (τ := Cert.FoxRefIdeal.τ) (Cert.FoxRefIdeal.main (F := Ideal))) ⟨m, fun _ => 0, ρ⟩ fun r => (∀ c : Dev Cert.FoxRefIdeal.nD,
      r.2.mem ((c.tc : Thread _ _).loc Cert.FoxRefIdeal.main_arg0) = m ((c.tc : Thread _ _).loc Cert.FoxRefIdeal.main_arg0)
      ∧ r.2.mem ((c.tc : Thread _ _).loc Cert.FoxRefIdeal.main_arg1) = m ((c.tc : Thread _ _).loc Cert.FoxRefIdeal.main_arg1)
      ∧ r.2.mem ((c.tc : Thread _ _).loc Cert.FoxRefIdeal.main_arg2) = m ((c.tc : Thread _ _).loc Cert.FoxRefIdeal.main_arg2)
      ∧ r.2.mem ((c.tc : Thread _ _).loc Cert.FoxRefIdeal.main_arg3) = m ((c.tc : Thread _ _).loc Cert.FoxRefIdeal.main_arg3)) ∧ r.2.sem = fun _ => 0 :=
  (θ_run Cert.FoxRefIdeal.defs _ _).mono (fun r h => ⟨fun c => (h c).2.2.2.2, Idealize.ShloMosaic.sem_eq_zero_of_no_sems (by decide) r.2⟩)
    (Cert.FoxRefIdeal.Value.run (F := Ideal) m ρ)

section
open Cert.FoxRefIdeal.Read
variable {A : Data} {x0 : (⟨2, ![8192, 1024]⟩ : Shape).Idx → EReal} {x1 : (⟨2, ![8192, 2048]⟩ : Shape).Idx → EReal}
  {x2 : (⟨2, ![8192, 128]⟩ : Shape).Idx → EReal} {x3 : (⟨2, ![8192, 1024]⟩ : Shape).Idx → EReal}

theorem ref_dq (H : Args A x0 x1 x2 x3) : val_main_v88 (F := Ideal) x0 x1 x2 x3 = dqArr A := funext fun i => Cert.FoxRefIdeal.Hand.v_dq H i
theorem ref_dk (H : Args A x0 x1 x2 x3) : val_main_v91 (F := Ideal) x0 x1 x2 x3 = dkArr A := funext fun i => Cert.FoxRefIdeal.Hand.v_dk H i
theorem ref_dv (H : Args A x0 x1 x2 x3) : val_main_v92 (F := Ideal) x0 x1 x2 x3 = dvArr A := funext fun i => Cert.FoxRefIdeal.Hand.v_dv H i
theorem ref_dc (H : Args A x0 x1 x2 x3) : val_main_v90 (F := Ideal) x0 x1 x2 x3 = dcArr A := funext fun i => Cert.FoxRefIdeal.Hand.v_dc H i

end

set_option maxHeartbeats 4000000 in
/-- Call and reference compute the same four arrays from finite arguments. -/
theorem algebraic : Cert.algebraic_FoxBwdIdeal_FoxRefIdeal_pre_fox_finite := by
  intro m ρ m' ρ' hpre hagree
  have hE : ∀ c : Dev Cert.FoxBwdIdeal.nD, ∃ A : Data, Args A (m ((c.tc : Thread _ _).loc Cert.FoxBwdIdeal.main_arg0)) (m ((c.tc : Thread _ _).loc Cert.FoxBwdIdeal.main_arg1)) (m ((c.tc : Thread _ _).loc Cert.FoxBwdIdeal.main_arg2)) (m ((c.tc : Thread _ _).loc Cert.FoxBwdIdeal.main_arg3)) := fun c => by
    obtain ⟨f0, f1, f2, f3⟩ := finite_of_pre (hpre c)
    exact ⟨_, args f0 f1 f2 f3⟩
  choose A hH using hE
  refine ⟨fun c => dqArr (A c), fun c => dkArr (A c), fun c => dvArr (A c), fun c => dcArr (A c), ?_, ?_⟩
  · refine (θ_run Cert.FoxBwdIdeal.defs _ _).mono (fun r h c => ?_) (Cert.FoxBwdIdeal.Hand.run_main (F := Ideal) m ρ)
    have h' := h.1.toR c
    have Hc := host_of_args (hH c)
    refine ⟨(h.1.written c (by decide)).trans (finalG Hc), (h'.1 6).trans (final6 Hc), (h'.1 7).trans (final7 Hc), (h'.1 8).trans (final8 Hc), ?_, ?_, ?_, ?_⟩
    · exact (h'.1 0).trans (((Cert.FoxBwdIdeal.Hand.dats m 0 c).arrAt_in 0 rfl _).trans ((Cert.FoxBwdIdeal.Hand.A_eq m c 0).trans (Cert.FoxBwdIdeal.Gen.V_main_arg0 m c)))
    · exact (h'.1 2).trans (((Cert.FoxBwdIdeal.Hand.dats m 0 c).arrAt_in 2 rfl _).trans ((Cert.FoxBwdIdeal.Hand.A_eq m c 2).trans (Cert.FoxBwdIdeal.Gen.V_main_arg1 m c)))
    · exact (h'.2 Cert.FoxBwdIdeal.main_arg2 (Finset.mem_sdiff.mpr ⟨Pipeline.mem_restRefs_of Cert.FoxBwdIdeal.main_arg2 (by decide) (by decide), by decide⟩)).trans (Cert.FoxBwdIdeal.Gen.V_main_arg2 m c)
    · exact (h'.1 3).trans (((Cert.FoxBwdIdeal.Hand.dats m 0 c).arrAt_in 3 rfl _).trans ((Cert.FoxBwdIdeal.Hand.A_eq m c 3).trans (Cert.FoxBwdIdeal.Gen.V_main_arg3 m c)))
  · refine (θ_run Cert.FoxRefIdeal.defs _ _).mono (fun r h c => ?_) (Cert.FoxRefIdeal.Value.run (F := Ideal) m' ρ')
    obtain ⟨a0, a1, a2, a3⟩ := hagree c
    refine ⟨((h c).1.trans (Cert.FoxRefIdeal.Read.val_main_v88_eq _ _)).trans ?_, ((h c).2.1.trans (Cert.FoxRefIdeal.Read.val_main_v91_eq _ _)).trans ?_,
      ((h c).2.2.1.trans (Cert.FoxRefIdeal.Read.val_main_v92_eq _ _)).trans ?_, ((h c).2.2.2.1.trans (Cert.FoxRefIdeal.Read.val_main_v90_eq _ _)).trans ?_, (h c).2.2.2.2⟩
    · rw [a0, a1, a2, a3]; exact ref_dq (hH c)
    · rw [a0, a1, a2, a3]; exact ref_dk (hH c)
    · rw [a0, a1, a2, a3]; exact ref_dv (hH c)
    · rw [a0, a1, a2, a3]; exact ref_dc (hH c)

end Cert.Fox

end
-- ==== Proof.Blocks.lean ====
/- Arrays read at natural numbers, and a sum over blocks of rows as one sum. -/
module

public import Idealize.ShloMosaic.Lib.Pointwise
public import Idealize.ShloMosaic.Lib.Pipeline.ValueKit

@[expose] public section

noncomputable section

namespace Cert.Blocks

open Idealize.ShloMosaic

/-- An array of two axes at a pair of naturals, zero outside. -/
def at2 {p q : ℕ} (X : (⟨2, ![p, q]⟩ : Shape).Idx → EReal) (r a : ℕ) : EReal :=
  if h : r < p ∧ a < q then X (ix2 ⟨r, h.1⟩ ⟨a, h.2⟩) else 0

/-- An array's element at an index whose coordinates are known. -/
theorem at2_of {p q : ℕ} (X : (⟨2, ![p, q]⟩ : Shape).Idx → EReal) (i : (⟨2, ![p, q]⟩ : Shape).Idx) (r a : ℕ)
    (hr : (i 0).val = r) (ha : (i 1).val = a) : X i = at2 X r a := by
  subst hr ha
  have h0 : (i 0).val < p := (i 0).isLt
  have h1 : (i 1).val < q := (i 1).isLt
  unfold at2
  rw [dif_pos ⟨h0, h1⟩]
  refine congrArg X (funext fun d => ?_)
  match d with
  | ⟨0, _⟩ => rfl
  | ⟨1, _⟩ => rfl

/-- Two arrays side by side, read at a pair of naturals. -/
def halves {p q : ℕ} (X Y : (⟨2, ![p, q]⟩ : Shape).Idx → EReal) (r a : ℕ) : EReal :=
  if a < q then at2 X r a else at2 Y r (a - q)

/-- `n` blocks of `k` rows are `n * k` rows. -/
theorem sum_blocks {M : Type} [AddCommMonoid M] (f : ℕ → M) (n k : ℕ) :
    ∑ q ∈ Finset.range n, ∑ j : Fin k, f (k * q + j.val) = ∑ r : Fin (n * k), f r.val := by
  rw [Fin.sum_univ_eq_sum_range (fun r => f r)]
  induction n with
  | zero => simp
  | succ n ih =>
    rw [Finset.sum_range_succ, ih, Nat.succ_mul, Finset.sum_range_add, Fin.sum_univ_eq_sum_range (fun j => f (k * n + j)), Nat.mul_comm k n]

/-- A sum times one half is the sum of the halves, over the extended reals. -/
theorem sum_half {ι : Type} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih => rw [Finset.sum_insert ha, Finset.sum_insert ha, ← ih, EReal.right_distrib_of_nonneg_of_ne_top (EReal.coe_nonneg.2 hc) (EReal.coe_ne_top c)]

end Cert.Blocks

end
-- ==== Proof.InDwEq.lean ====
/-
  The gate and up projections' weight gradients: the kernel runs through four blocks of columns, two of each array, keeps a
  running product over blocks of 1024 rows and writes it at the last one.  Over the extended reals its result is the product over
  all rows of the input with the two arrays side by side.
-/
module

public import proofs.«01_k».proof.Proof.Gen.InDwIdeal.Value
public import proofs.«01_k».proof.Proof.Blocks
public import proofs.«01_k».proof.Proof.Finite
public import Idealize.ShloMosaic.Lib.Pipeline.ReadBack
public import Idealize.ShloMosaic.Lib.ValueIdx
public import proofs.«01_k».proof.Proof.Gen.InDwRefIdeal.Read
public import proofs.«01_k».proof.Defs
public import Idealize.ShloMosaic.Lib.KernelVsHost

@[expose] public section

set_option maxRecDepth 16384

noncomputable section

namespace Cert.InDwEq

section call
open Idealize.ShloMosaic Idealize.ShloMosaic.TcCoe Idealize.SL.Sem Cert.InDwIdeal Cert.InDwIdeal.Gen Cert.Finite Cert.Blocks
open Idealize.ShloMosaic.Pipeline (Dat)

local notation "⟪" m "," c ",0⟫" => m (Thread.loc (c : Thread nD τ) main_arg0)

theorem pay3_apply (i : S1024x1408.Idx) : k0_pay3 (F := Ideal) i = 0 := by
  rw [ValueIdx.eq_ix2 i]
  unfold k0_pay3
  pointwise []

theorem pay1_apply (acc : FVec Ideal S1024x1408 .f32) (x0 : FVec Ideal S1024x1024 .bf16) (x1 : FVec Ideal S1024x1408 .bf16) (a : Fin 1024) (b : Fin 1408) :
    k0_pay1 (F := Ideal) acc x0 x1 (ix2 a b) = acc (ix2 a b) + ∑ k : Fin 1024, x0 (ix2 k a) * x1 (ix2 k b) := by
  unfold k0_pay1
  pointwise []

theorem pay4_eq (acc : FVec Ideal S1024x1408 .f32) (x0 : FVec Ideal S1024x1024 .bf16) (x1 : FVec Ideal S1024x1408 .bf16) :
    k0_pay4 (F := Ideal) acc x0 x1 = k0_pay1 (F := Ideal) acc x0 x1 := rfl

theorem pay2_apply (acc : FVec Ideal S1024x1408 .f32) (z : Fin 1) (a : Fin 1024) (b : Fin 1408) :
    k0_pay2 (F := Ideal) acc (ix3 z a b) = acc (ix2 a b) := by
  unfold k0_pay2
  pointwise []

/-- Where the windows' blocks lie: point `t` takes block `t % 8` of the rows and block `t / 8` of the columns, the first two of
    them in the first array and the last two in the second. -/
theorem idx_facts : ∀ t : Fin cfg0.N, win0_0.index t = ![t.val % 8, 0] ∧ (t.val < 16 → win0_1.index t = ![t.val % 8, t.val / 8])
    ∧ (16 ≤ t.val → win0_2.index t = ![t.val % 8, t.val / 8 - 2]) ∧ win0_3.index t = ![t.val / 8, 0, 0] :=
  (by decide +kernel : ∀ t : Fin grid0.N, _)

variable (m : (ℓ : Loc nD τ sig) → Buf (Elt Ideal) ℓ) (c : Dev nD) (t : Fin cfg0.N)

/-- The two arrays of gradients side by side. -/
abbrev both (c : Dev nD) : ℕ → ℕ → EReal :=
  halves (p := 8192) (q := 2816) (m ((c : Thread nD τ).loc main_arg1)) (m ((c : Thread nD τ).loc main_arg2))

/-- What block `n` of the rows puts to the product at one element. -/
def term (n : ℕ) (i : S1024x1408.Idx) : EReal :=
  ∑ k : Fin 1024, at2 (p := 8192) (q := 1024) ⟪m,c,0⟫ (n % 8 * 1024 + k.val) (i 0).val
    * both m c (n % 8 * 1024 + k.val) (n / 8 * 1408 + (i 1).val)

theorem blk0 (k : Fin 1024) (a : Fin 1024) :
    iblk m c 0 t (ix2 k a) = at2 (p := 8192) (q := 1024) ⟪m,c,0⟫ (t.val % 8 * 1024 + k.val) a.val := by
  obtain ⟨e0, e1, e2, e3⟩ := idx_facts t
  blk_simp [iblk]
  refine at2_of _ _ _ _ ?_ ?_
  · blk_ext [e0]
  · blk_ext [e0]

theorem blk1 (ht : t.val < 16) (k : Fin 1024) (b : Fin 1408) :
    iblk m c 1 t (ix2 k b) = both m c (t.val % 8 * 1024 + k.val) (t.val / 8 * 1408 + b.val) := by
  obtain ⟨e0, e1, e2, e3⟩ := idx_facts t
  have hb := b.isLt
  unfold both halves
  rw [if_pos (by omega)]
  blk_simp [iblk]
  refine at2_of _ _ _ _ ?_ ?_
  · blk_ext [e1 ht]
  · blk_ext [e1 ht]

theorem blk2 (ht : 16 ≤ t.val) (k : Fin 1024) (b : Fin 1408) :
    iblk m c 2 t (ix2 k b) = both m c (t.val % 8 * 1024 + k.val) (t.val / 8 * 1408 + b.val) := by
  obtain ⟨e0, e1, e2, e3⟩ := idx_facts t
  have hb := b.isLt
  unfold both halves
  rw [if_neg (by omega), show t.val / 8 * 1408 + b.val - 2816 = (t.val / 8 - 2) * 1408 + b.val by omega]
  blk_simp [iblk]
  refine at2_of _ _ _ _ ?_ ?_
  · blk_ext [e2 ht]
  · blk_ext [e2 ht]

theorem step1 (ht : t.val < 16) (acc : FVec Ideal S1024x1408 .f32) (i : S1024x1408.Idx) :
    k0_pay1 (F := Ideal) acc (iblk m c 0 t) (iblk m c 1 t) i = acc i + term m c t.val i := by
  rw [ValueIdx.eq_ix2 i]
  refine (pay1_apply acc _ _ (i 0) (i 1)).trans ?_
  exact congrArg (acc _ + ·) (Finset.sum_congr rfl fun k _ => congrArg₂ (· * ·) (blk0 m c t k (i 0)) (blk1 m c t ht k (i 1)))

theorem step2 (ht : 16 ≤ t.val) (acc : FVec Ideal S1024x1408 .f32) (i : S1024x1408.Idx) :
    k0_pay1 (F := Ideal) acc (iblk m c 0 t) (iblk m c 2 t) i = acc i + term m c t.val i := by
  rw [ValueIdx.eq_ix2 i]
  refine (pay1_apply acc _ _ (i 0) (i 1)).trans ?_
  exact congrArg (acc _ + ·) (Finset.sum_congr rfl fun k _ => congrArg₂ (· * ·) (blk0 m c t k (i 0)) (blk2 m c t ht k (i 1)))

theorem acc_first (h0 : t.val % 8 = 0) (i : S1024x1408.Idx) :
    (outsAt0 m c t.val t.isLt).2 i = 0 + term m c t.val i := by
  by_cases h1 : t.val < 16
  · rw [outsAt0_A m c t h0 h1 (by omega) (by omega)]
    frame_out
    rw [pay4_eq, step1 m c t h1, pay3_apply]
  · rw [outsAt0_D m c t h0 h1 (by omega) (by omega)]
    frame_out
    rw [step2 m c t (by omega), pay3_apply]

theorem acc_next (h0 : ¬t.val % 8 = 0) (i : S1024x1408.Idx) :
    (outsAt0 m c t.val t.isLt).2 i = (outsAt0 m c (t.val - 1) (Nat.lt_of_le_of_lt (Nat.sub_le _ _) t.isLt)).2 i + term m c t.val i := by
  by_cases h1 : t.val < 16 <;> by_cases h3 : t.val % 8 = 7
  · rw [outsAt0_C m c t h0 h1 (by omega) h3]
    frame_out
    simp only [read_unread_whole]
    rw [pay4_eq, step1 m c t h1]
  · rw [outsAt0_B m c t h0 h1 (by omega) h3]
    frame_out
    simp only [read_unread_whole]
    rw [pay4_eq, step1 m c t h1]
  · rw [outsAt0_F m c t h0 h1 (by omega) h3]
    frame_out
    simp only [read_unread_whole]
    rw [step2 m c t (by omega)]
  · rw [outsAt0_E m c t h0 h1 (by omega) h3]
    frame_out
    simp only [read_unread_whole]
    rw [step2 m c t (by omega)]

/-- The running product after a point is the sum over the blocks so far. -/
theorem acc_eq (i : S1024x1408.Idx) :
    (outsAt0 m c t.val t.isLt).2 i = ∑ k ∈ Finset.range (t.val % 8 + 1), term m c (8 * (t.val / 8) + k) i := by
  refine (Pipeline.eq_sum_of_reset_step_apply (fun n h => (outsAt0 m c n h).2) 8 (fun _ => 0) (term m c)
    (fun t h i => acc_first m c t h i) (fun t h i => acc_next m c t h i) t i).trans (zero_add _)

/-- The product over the rows of the input with the two arrays side by side, in four blocks of columns. -/
def dwArr (A0 : FVec Ideal S8192x1024 .bf16) (A1 A2 : FVec Ideal S8192x2816 .bf16) : FVec Ideal S4x1024x1408 .f32 := fun i =>
  ∑ r : Fin 8192, at2 (p := 8192) (q := 1024) A0 r.val (i 1).val * halves (p := 8192) (q := 2816) A1 A2 r.val ((i 0).val * 1408 + (i 2).val)

/-- All eight blocks make the whole product. -/
theorem sum_terms (hf : t.val % 8 = 7) (i : S1024x1408.Idx) :
    (outsAt0 m c t.val t.isLt).2 i = ∑ r : Fin 8192, at2 (p := 8192) (q := 1024) ⟪m,c,0⟫ r.val (i 0).val
      * both m c r.val (t.val / 8 * 1408 + (i 1).val) := by
  rw [acc_eq, hf]
  refine Eq.trans (Finset.sum_congr rfl fun k hk => ?_) (sum_blocks (fun r => at2 (p := 8192) (q := 1024) ⟪m,c,0⟫ r (i 0).val
      * both m c r (t.val / 8 * 1408 + (i 1).val)) 8 1024)
  have hk' : k < 8 := Finset.mem_range.1 hk
  unfold term
  rw [show (8 * (t.val / 8) + k) % 8 = k by omega, show (8 * (t.val / 8) + k) / 8 = t.val / 8 by omega]
  exact Finset.sum_congr rfl fun j _ => by rw [Nat.mul_comm k 1024]

/-- What the last point of a block of columns writes. -/
theorem out_last (h3 : t.val % 8 = 7) :
    (outsAt0 m c t.val t.isLt).1 = k0_pay2 (F := Ideal) (outsAt0 m c t.val t.isLt).2 := by
  have h0 : ¬t.val % 8 = 0 := by omega
  by_cases h1 : t.val < 16
  · rw [outsAt0_C m c t h0 h1 (by omega) h3]
    frame_out
  · rw [outsAt0_F m c t h0 h1 (by omega) h3]
    frame_out

/-- The result array. -/
theorem final3 : (dats m 0 c).arrAt 3 cfg0.N = dwArr ⟪m,c,0⟫ (m ((c : Thread nD τ).loc main_arg1)) (m ((c : Thread nD τ).loc main_arg2)) := by
  refine (dats m 0 c).arrAt_eq_of_covers 3 _ (by decide +kernel) fun t hf y => ?_
  obtain ⟨e0, e1, e2, e3⟩ := idx_facts t
  have h7 : t.val % 8 = 7 := (flush0_3 t).1 hf
  blk_simp
  rw [after0_3, out_last m c t h7]
  rw [ValueIdx.eq_ix3 y]
  refine (pay2_apply _ (y 0) (y 1) (y 2)).trans ?_
  rw [sum_terms m c t h7]
  unfold dwArr
  refine (Finset.sum_congr rfl fun r _ => ?_)
  refine congrArg₂ (fun a b => at2 (p := 8192) (q := 1024) _ r.val a * both m c r.val b) ?_ ?_
  · blk_ext [e3]
  · blk_ext [e3]

end call

section reference
open Idealize.ShloMosaic Idealize.ShloMosaic.TcCoe Idealize.SL.Sem Cert.InDwRefIdeal Cert.InDwRefIdeal.Gen Cert.InDwRefIdeal.Read Cert.Finite Cert.Blocks

/-- The padded arrays' sum is the two arrays side by side. -/
theorem ref_both (x1 x2 : FVec Ideal S8192x2816 .bf16) (i : S8192x5632.Idx) :
    val_main_v9 (F := Ideal) x1 x2 i = halves (p := 8192) (q := 2816) x1 x2 (i 0).val (i 1).val := by
  have h0 : (i 0).val < 8192 := (i 0).isLt
  have h1 : (i 1).val < 5632 := (i 1).isLt
  rw [val_main_v9_apply]
  unfold halves val_main_v7 val_main_v8
  by_cases h : (i 1).val < 2816
  · rw [if_pos h, pad_apply_of_not_inside _ _ _ _ _ _ _ _ (1 : Fin 2) (by intro hh; exact absurd hh.1 (by show ¬2816 ≤ (i 1).val; omega)),
      pad_apply_of_inside _ _ _ _ _ _ _ i (ix2 (⟨(i 0).val, h0⟩ : Fin 8192) (⟨(i 1).val, h⟩ : Fin 2816)) (by
        intro a
        match a with
        | ⟨0, _⟩ => show (i 0).val = 0 + (i 0).val * (0 + 1); omega
        | ⟨1, _⟩ => show (i 1).val = 0 + (i 1).val * (0 + 1); omega),
      val_main_cst_0_apply]
    refine Eq.trans ?_ (at2_of x1 (ix2 (⟨(i 0).val, h0⟩ : Fin 8192) (⟨(i 1).val, h⟩ : Fin 2816)) _ _ rfl rfl)
    show Ideal.ofBits .f32 0x00000000#32 + x1 _ = x1 _
    rw [Ideal.ofBits_zero]
    exact zero_add _
  · rw [if_neg h, pad_apply_of_inside _ _ _ _ _ _ _ i (ix2 (⟨(i 0).val, h0⟩ : Fin 8192) (⟨(i 1).val - 2816, by omega⟩ : Fin 2816)) (by
        intro a
        match a with
        | ⟨0, _⟩ => show (i 0).val = 0 + (i 0).val * (0 + 1); omega
        | ⟨1, _⟩ => show (i 1).val = 2816 + ((i 1).val - 2816) * (0 + 1); omega),
      pad_apply_of_not_inside _ _ _ _ _ _ _ _ (1 : Fin 2) (by
        intro hh
        have h2 : ((i 1).val - 0) / (0 + 1) < 2816 := hh.2.2
        omega),
      val_main_cst_1_apply]
    refine Eq.trans ?_ (at2_of x2 (ix2 (⟨(i 0).val, h0⟩ : Fin 8192) (⟨(i 1).val - 2816, by omega⟩ : Fin 2816)) _ _ rfl rfl)
    show x2 _ + Ideal.ofBits .f32 0x00000000#32 = x2 _
    rw [Ideal.ofBits_zero]
    exact add_zero _

theorem ref_dw (A0 : FVec Ideal S8192x1024 .bf16) (A1 A2 : FVec Ideal S8192x2816 .bf16) : val_main_v13 (F := Ideal) A0 A1 A2 = dwArr A0 A1 A2 := by
  funext i
  have h0 : (i 0).val < 4 := (i 0).isLt
  have h1 : (i 1).val < 1024 := (i 1).isLt
  have h2 : (i 2).val < 1408 := (i 2).isLt
  rw [val_main_v13_apply, val_main_v12_apply, val_main_v11_apply, val_main_v10_apply]
  unfold dwArr
  refine Finset.sum_congr rfl fun k _ => ?_
  rw [ref_both, val_main_v1_apply]
  refine (mul_comm _ _).trans (congrArg₂ (· * ·) ?_ ?_)
  · refine at2_of (p := 8192) (q := 1024) A0 _ _ _ rfl ?_
    show (((i 1).val * 4 + (i 0).val) * 1408 + (i 2).val) / 5632 = (i 1).val
    omega
  · refine congrArg (halves (p := 8192) (q := 2816) A1 A2 k.val) ?_
    show (((i 1).val * 4 + (i 0).val) * 1408 + (i 2).val) % 5632 = (i 0).val * 1408 + (i 2).val
    omega

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Cert.InDwRefIdeal.Value.run (F := Ideal) m ρ)

set_option maxHeartbeats 4000000 in
/-- Call and reference compute the same array, whatever the arguments hold. -/
theorem algebraic : Cert.algebraic_InDwIdeal_InDwRefIdeal := by
  intro m ρ m' ρ' _ hagree
  refine ⟨fun c => dwArr (m ((c.tc : Thread _ _).loc Cert.InDwIdeal.main_arg0)) (m ((c.tc : Thread _ _).loc Cert.InDwIdeal.main_arg1)) (m ((c.tc : Thread _ _).loc Cert.InDwIdeal.main_arg2)), ?_, ?_⟩
  · exact (θ_run Cert.InDwIdeal.defs _ _).mono (fun r h c => ⟨(h c).1.trans (final3 m c), (h c).2⟩) (Cert.InDwIdeal.Value.run_blocks (F := Ideal) m ρ)
  · refine (θ_run defs _ _).mono (fun r h c => ?_) (Cert.InDwRefIdeal.Value.run (F := Ideal) m' ρ')
    obtain ⟨a0, a1, a2⟩ := hagree c
    refine ⟨((h c).1.trans (val_main_v13_eq _ _ _)).trans ?_, (h c).2⟩
    rw [a0, a1, a2]; exact ref_dw _ _ _

end reference

end Cert.InDwEq

end
-- ==== Proof.OutDwEq.lean ====
/-
  The down projection's weight gradient: the kernel keeps a running product over blocks of 1024 rows, from zero, and writes its
  half at the last block.  Over the extended reals its result is half the product over all rows.
-/
module

public import proofs.«01_k».proof.Proof.Gen.OutDwIdeal.Value
public import proofs.«01_k».proof.Proof.Blocks
public import proofs.«01_k».proof.Proof.Finite
public import Idealize.ShloMosaic.Lib.Pipeline.ReadBack
public import Idealize.ShloMosaic.Lib.ValueIdx
public import proofs.«01_k».proof.Proof.Gen.OutDwRefIdeal.Read
public import proofs.«01_k».proof.Defs

@[expose] public section

set_option maxRecDepth 16384

noncomputable section

namespace Cert.OutDwEq

section call
open Idealize.ShloMosaic Idealize.ShloMosaic.TcCoe Idealize.SL.Sem Cert.OutDwIdeal Cert.OutDwIdeal.Gen Cert.Finite Cert.Blocks
open Idealize.ShloMosaic.Pipeline (Dat)

local notation "⟪" m "," c ",0⟫" => m (Thread.loc (c : Thread nD τ) main_arg0)
local notation "⟪" m "," c ",1⟫" => m (Thread.loc (c : Thread nD τ) main_arg1)

theorem pay1_apply (i : S1408x1024.Idx) : k0_pay1 (F := Ideal) i = 0 := by
  rw [ValueIdx.eq_ix2 i]
  unfold k0_pay1
  pointwise []

theorem pay2_apply (acc : FVec Ideal S1408x1024 .f32) (x0 : FVec Ideal S1024x1408 .bf16) (x1 : FVec Ideal S1024x1024 .f32) (a : Fin 1408) (b : Fin 1024) :
    k0_pay2 (F := Ideal) acc x0 x1 (ix2 a b) = acc (ix2 a b) + ∑ k : Fin 1024, x0 (ix2 k a) * x1 (ix2 k b) := by
  unfold k0_pay2
  pointwise []

theorem pay3_apply (acc : FVec Ideal S1408x1024 .f32) (z : Fin 1) (a : Fin 1408) (b : Fin 1024) :
    k0_pay3 (F := Ideal) acc (ix3 z a b) = acc (ix2 a b) * ((1 / 2 : ℝ) : EReal) := by
  unfold k0_pay3
  pointwise []
  rw [ofBits_half]

/-- Where the windows' blocks lie: point `t` takes block `t % 8` of the rows and half `t / 8` of the columns. -/
theorem idx_facts : ∀ t : Fin cfg0.N, win0_0.index t = ![t.val % 8, t.val / 8] ∧ win0_1.index t = ![t.val % 8, 0]
    ∧ win0_2.index t = ![0, t.val / 8, 0] :=
  (by decide +kernel : ∀ t : Fin grid0.N, _)

variable (m : (ℓ : Loc nD τ sig) → Buf (Elt Ideal) ℓ) (c : Dev nD) (t : Fin cfg0.N)

/-- What the blocks `n` of the rows put to the product at one element. -/
def term (n : ℕ) (i : S1408x1024.Idx) : EReal :=
  ∑ k : Fin 1024, at2 (p := 8192) (q := 2816) ⟪m,c,0⟫ (n % 8 * 1024 + k.val) (n / 8 * 1408 + (i 0).val)
    * at2 (p := 8192) (q := 1024) ⟪m,c,1⟫ (n % 8 * 1024 + k.val) (i 1).val

theorem blk0 (k : Fin 1024) (a : Fin 1408) :
    iblk m c 0 t (ix2 k a) = at2 (p := 8192) (q := 2816) ⟪m,c,0⟫ (t.val % 8 * 1024 + k.val) (t.val / 8 * 1408 + a.val) := by
  obtain ⟨e0, e1, e2⟩ := idx_facts t
  blk_simp [iblk]
  refine at2_of _ _ _ _ ?_ ?_
  · blk_ext [e0]
  · blk_ext [e0]

theorem blk1 (k : Fin 1024) (b : Fin 1024) :
    iblk m c 1 t (ix2 k b) = at2 (p := 8192) (q := 1024) ⟪m,c,1⟫ (t.val % 8 * 1024 + k.val) b.val := by
  obtain ⟨e0, e1, e2⟩ := idx_facts t
  blk_simp [iblk]
  refine at2_of _ _ _ _ ?_ ?_
  · blk_ext [e1]
  · blk_ext [e1]

theorem step (acc : FVec Ideal S1408x1024 .f32) (i : S1408x1024.Idx) :
    k0_pay2 (F := Ideal) acc (iblk m c 0 t) (iblk m c 1 t) i = acc i + term m c t.val i := by
  rw [ValueIdx.eq_ix2 i]
  refine (pay2_apply acc _ _ (i 0) (i 1)).trans ?_
  exact congrArg (acc _ + ·) (Finset.sum_congr rfl fun k _ => congrArg₂ (· * ·) (blk0 m c t k (i 0)) (blk1 m c t k (i 1)))

theorem acc_first (h0 : t.val % 8 = 0) (i : S1408x1024.Idx) :
    (outsAt0 m c t.val t.isLt).2 i = 0 + term m c t.val i := by
  rw [outsAt0_A m c t h0 (by omega)]
  frame_out
  rw [step, pay1_apply]

theorem acc_next (h0 : ¬t.val % 8 = 0) (i : S1408x1024.Idx) :
    (outsAt0 m c t.val t.isLt).2 i = (outsAt0 m c (t.val - 1) (Nat.lt_of_le_of_lt (Nat.sub_le _ _) t.isLt)).2 i + term m c t.val i := by
  by_cases h2 : t.val % 8 = 7
  · rw [outsAt0_C m c t h0 h2]
    frame_out
    simp only [read_unread_whole]
    rw [step]
  · rw [outsAt0_B m c t h0 h2]
    frame_out
    simp only [read_unread_whole]
    rw [step]

/-- The running product after a point is the sum over the blocks so far. -/
theorem acc_eq (i : S1408x1024.Idx) :
    (outsAt0 m c t.val t.isLt).2 i = ∑ k ∈ Finset.range (t.val % 8 + 1), term m c (8 * (t.val / 8) + k) i := by
  refine (Pipeline.eq_sum_of_reset_step_apply (fun n h => (outsAt0 m c n h).2) 8 (fun _ => 0) (term m c)
    (fun t h i => acc_first m c t h i) (fun t h i => acc_next m c t h i) t i).trans (zero_add _)

/-- Half the product of the two arrays over the rows. -/
def dwArr (A0 : FVec Ideal S8192x2816 .bf16) (A1 : FVec Ideal S8192x1024 .f32) : FVec Ideal S1x2816x1024 .f32 := fun i =>
  (∑ r : Fin 8192, at2 (p := 8192) (q := 2816) A0 r.val (i 1).val * at2 (p := 8192) (q := 1024) A1 r.val (i 2).val) * ((1 / 2 : ℝ) : EReal)

/-- All eight blocks make the whole product. -/
theorem sum_terms (hf : t.val % 8 = 7) (i : S1408x1024.Idx) :
    (outsAt0 m c t.val t.isLt).2 i = ∑ r : Fin 8192, at2 (p := 8192) (q := 2816) ⟪m,c,0⟫ r.val (t.val / 8 * 1408 + (i 0).val)
      * at2 (p := 8192) (q := 1024) ⟪m,c,1⟫ r.val (i 1).val := by
  rw [acc_eq, hf]
  refine Eq.trans (Finset.sum_congr rfl fun k hk => ?_) (sum_blocks (fun r => at2 (p := 8192) (q := 2816) ⟪m,c,0⟫ r (t.val / 8 * 1408 + (i 0).val)
      * at2 (p := 8192) (q := 1024) ⟪m,c,1⟫ r (i 1).val) 8 1024)
  have hk' : k < 8 := Finset.mem_range.1 hk
  unfold term
  rw [show (8 * (t.val / 8) + k) % 8 = k by omega, show (8 * (t.val / 8) + k) / 8 = t.val / 8 by omega]
  exact Finset.sum_congr rfl fun j _ => by rw [Nat.mul_comm k 1024]

/-- The result array. -/
theorem final2 : (dats m 0 c).arrAt 2 cfg0.N = dwArr ⟪m,c,0⟫ ⟪m,c,1⟫ := by
  refine (dats m 0 c).arrAt_eq_of_covers 2 _ (by decide +kernel) fun t hf y => ?_
  obtain ⟨e0, e1, e2⟩ := idx_facts t
  have h7 : t.val % 8 = 7 := (flush0_2 t).1 hf
  have h0 : ¬t.val % 8 = 0 := by omega
  have hs := sum_terms m c t h7
  rw [outsAt0_C m c t h0 h7] at hs
  blk_simp
  rw [after0_2, outsAt0_C m c t h0 h7]
  frame_out
  frame_out at hs
  simp only [read_unread_whole] at hs ⊢
  rw [ValueIdx.eq_ix3 y]
  refine (pay3_apply _ (y 0) (y 1) (y 2)).trans ?_
  rw [hs]
  unfold dwArr
  refine congrArg (· * _) (Finset.sum_congr rfl fun r _ => ?_)
  refine congrArg₂ (fun a b => at2 (p := 8192) (q := 2816) _ r.val a * at2 (p := 8192) (q := 1024) _ r.val b) ?_ ?_
  · blk_ext [e2]
  · blk_ext [e2]

end call

section reference
open Idealize.ShloMosaic Idealize.ShloMosaic.TcCoe Idealize.SL.Sem Cert.OutDwRefIdeal Cert.OutDwRefIdeal.Gen Cert.OutDwRefIdeal.Read Cert.Finite Cert.Blocks

theorem ref_dw (A0 : FVec Ideal S8192x2816 .bf16) (A1 : FVec Ideal S8192x1024 .f32) : val_main_v9 (F := Ideal) A0 A1 = dwArr A0 A1 := by
  funext i
  rw [val_main_v9_apply, val_main_v8_apply, val_main_v7_apply]
  unfold dwArr
  rw [sum_half _ _ _ (by norm_num)]
  refine Finset.sum_congr rfl fun k _ => ?_
  rw [val_main_v6_apply, val_main_v5_apply, val_main_cst_1_apply, val_main_v1_apply]
  show (Ideal.ofBits .f32 0x3F000000#32 * A1 _) * A0 _ = _
  rw [ofBits_half]
  refine Eq.trans ?_ (congrArg (· * _) (congrArg₂ (· * ·) (at2_of A0 (ridx_main_v7 (idx_main_v8 (idx_main_v9 i)) k) _ _ rfl rfl) (at2_of A1 (lidx_main_v7 (idx_main_v8 (idx_main_v9 i)) k) _ _ rfl rfl)))
  rw [mul_comm, mul_comm _ (A1 _), ← mul_assoc]

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (Cert.OutDwRefIdeal.Value.run (F := Ideal) m ρ)

set_option maxHeartbeats 4000000 in
/-- Call and reference compute the same array, whatever the arguments hold. -/
theorem algebraic : Cert.algebraic_OutDwIdeal_OutDwRefIdeal := by
  intro m ρ m' ρ' _ hagree
  refine ⟨fun c => dwArr (m ((c.tc : Thread _ _).loc Cert.OutDwIdeal.main_arg0)) (m ((c.tc : Thread _ _).loc Cert.OutDwIdeal.main_arg1)), ?_, ?_⟩
  · exact (θ_run Cert.OutDwIdeal.defs _ _).mono (fun r h c => ⟨(h c).1.trans (final2 m c), (h c).2⟩) (Cert.OutDwIdeal.Value.run_blocks (F := Ideal) m ρ)
  · refine (θ_run defs _ _).mono (fun r h c => ?_) (Cert.OutDwRefIdeal.Value.run (F := Ideal) m' ρ')
    obtain ⟨a0, a1⟩ := hagree c
    refine ⟨((h c).1.trans (val_main_v9_eq _ _)).trans ?_, (h c).2⟩
    rw [a0, a1]; exact ref_dw _ _

end reference

end Cert.OutDwEq

end
-- ==== Proof.InDxMath.lean ====
/-
  The gradient through the root-mean-square norm, over the extended reals: the kernel's grouping and the reference's are the same;
  and the constants of the two programs.
-/
module

public import proofs.«01_k».proof.Proof.Blocks
public import proofs.«01_k».proof.Proof.Finite

@[expose] public section

noncomputable section

namespace Cert.InDxEq

open Idealize.ShloMosaic Cert.Finite Cert.Blocks

/-- The norm's small constant, the real number its f32 word stands for. -/
def eps : ℝ := 8796093 / 2 ^ 43

theorem eps_pos : 0 < eps := by unfold eps; positivity

theorem ofBits_eps : Ideal.ofBits .f32 0x358637BD#32 = ((eps : ℝ) : EReal) := by
  unfold eps
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- A row's mean square plus the small constant. -/
def ms (x : Fin 1024 → EReal) : EReal := Ideal.div (∑ j, x j * x j) (Ideal.ofBits .f32 0x44800000#32) + Ideal.ofBits .f32 0x358637BD#32

theorem sq_nonneg' (x : EReal) : 0 ≤ x * x := by
  rcases le_total 0 x with h | h
  · exact mul_nonneg h h
  · rw [← neg_mul_neg]
    exact mul_nonneg (EReal.neg_nonneg.2 h) (EReal.neg_nonneg.2 h)

theorem ms_eq (x : Fin 1024 → EReal) : ms x = (∑ j, x j * x j) * ((1 / 1024 : ℝ) : EReal) + ((eps : ℝ) : EReal) := by
  unfold ms
  rw [ofBits_1024, ofBits_eps, Ideal.div_coe (by norm_num)]

/-- The mean square is infinite or a positive real number. -/
theorem ms_cases (x : Fin 1024 → EReal) : ms x = ⊤ ∨ ∃ v : ℝ, 0 < v ∧ ms x = ((v : ℝ) : EReal) := by
  have hS : 0 ≤ ∑ j, x j * x j := Finset.sum_nonneg fun j _ => sq_nonneg' (x j)
  rw [ms_eq]
  induction h : ∑ j, x j * x j with
  | bot => rw [h] at hS; simp at hS
  | top =>
    left
    rw [EReal.top_mul_coe_of_pos (by norm_num)]
    exact EReal.top_add_coe _
  | coe S =>
    right
    rw [h] at hS
    have hS' : 0 ≤ S := EReal.coe_nonneg.1 hS
    refine ⟨S * (1 / 1024) + eps, ?_, by rw [EReal.coe_add, EReal.coe_mul]⟩
    have := eps_pos
    positivity

/-- The stream's gradient at one element of a row, as the kernel groups it: `d` the gradient before the gain `g`, `res` the
    stream's own. -/
def dxK (x d g : Fin 1024 → EReal) (res : EReal) (k : Fin 1024) : EReal :=
  res + Ideal.rsqrt (ms x) * (d k * g k - x k * Ideal.rsqrt (ms x)
    * Ideal.div (∑ j, d j * g j * (x j * Ideal.rsqrt (ms x))) (Ideal.ofBits .f32 0x44800000#32))

/-- The reference's part of it through the factor, for each of the two factors of the row's square. -/
def half (x d g : Fin 1024 → EReal) : EReal :=
  Ideal.div ((∑ j, x j * (d j * g j)) * (Ideal.ofBits .f32 0xBF000000#32 * Ideal.div (Ideal.rsqrt (ms x)) (ms x))) (Ideal.ofBits .f32 0x44800000#32)

/-- The kernel's grouping and the reference's are the same, infinite or not. -/
theorem dxK_ref (x d g : Fin 1024 → EReal) (res : EReal) (k : Fin 1024) :
    res + d k * g k * Ideal.rsqrt (ms x) + x k * half x d g + half x d g * x k = dxK x d g res k := by
  unfold dxK half
  rw [ofBits_1024, ofBits_neg_half]
  rcases ms_cases x with h | ⟨v, hv, h⟩
  · rw [h, Ideal.rsqrt_top]
    have e : Ideal.div 0 ⊤ = 0 := by
      rw [Ideal.div, if_neg (by simp)]
      exact zero_mul _
    rw [e, mul_zero, mul_zero, mul_zero, Ideal.div_coe (by norm_num), zero_mul, zero_mul, zero_mul, mul_zero, add_zero, add_zero, add_zero]
  · have hr : Ideal.rsqrt ((v : ℝ) : EReal) = (((Real.sqrt v)⁻¹ : ℝ) : EReal) := by
      rw [Ideal.rsqrt_coe, if_neg (not_lt.2 hv.le), if_neg hv.ne']
    rw [h, hr, Ideal.div_coe hv.ne', Ideal.div_coe (by norm_num), Ideal.div_coe (by norm_num), ← EReal.coe_mul, ← EReal.coe_mul]
    have hs : (Real.sqrt v)⁻¹ * (Real.sqrt v)⁻¹ = 1 / v := by
      rw [← mul_inv, Real.mul_self_sqrt hv.le, one_div]
    rw [← hs]
    have hp : 0 ≤ (Real.sqrt v)⁻¹ := inv_nonneg.2 (Real.sqrt_nonneg v)
    generalize (Real.sqrt v)⁻¹ = ρ at hp
    have hT : ∑ j, d j * g j * (x j * ((ρ : ℝ) : EReal)) = (∑ j, x j * (d j * g j)) * ((ρ : ℝ) : EReal) := by
      rw [sum_half _ _ _ hp]
      exact Finset.sum_congr rfl fun j _ => by rw [← mul_assoc, mul_comm (x j)]
    rw [hT]
    generalize ∑ j, x j * (d j * g j) = T
    rw [sub_eq_add_neg, EReal.left_distrib_of_nonneg_of_ne_top (EReal.coe_nonneg.2 hp) (EReal.coe_ne_top ρ), add_assoc, add_assoc, mul_comm (d k * g k)]
    refine congrArg (res + ·) (congrArg (((ρ : ℝ) : EReal) * (d k * g k) + ·) ?_)
    have e1 : x k * (T * ((-(1 / 2) * (ρ * (ρ * ρ)) : ℝ) : EReal) * ((1 / 1024 : ℝ) : EReal)) = x k * T * ((-(1 / 2) * (ρ * (ρ * ρ)) * (1 / 1024) : ℝ) : EReal) := by
      rw [EReal.coe_mul _ (1 / 1024), mul_assoc, mul_assoc]
    have e2 : ((ρ : ℝ) : EReal) * -(x k * ((ρ : ℝ) : EReal) * (T * ((ρ : ℝ) : EReal) * ((1 / 1024 : ℝ) : EReal))) = x k * T * ((-(ρ * (ρ * ρ) * (1 / 1024)) : ℝ) : EReal) := by
      rw [mul_neg, EReal.coe_neg, mul_neg, EReal.coe_mul, EReal.coe_mul, EReal.coe_mul]
      refine congrArg (- ·) ?_
      ac_rfl
    rw [mul_comm _ (x k), e1, e2]
    generalize x k * T = Y
    have e3 : ((-(ρ * (ρ * ρ) * (1 / 1024)) : ℝ) : EReal) = ((-(1 / 2) * (ρ * (ρ * ρ)) * (1 / 1024) : ℝ) : EReal) * (1 + 1) := by
      rw [← EReal.coe_one, ← EReal.coe_add, ← EReal.coe_mul]
      exact congrArg _ (by ring)
    rw [e3, ← mul_assoc Y, EReal.left_distrib_of_nonneg zero_le_one zero_le_one, mul_one]

/-- An array of three axes at three naturals, zero outside. -/
def at3 {p q s : ℕ} (X : (⟨3, ![p, q, s]⟩ : Shape).Idx → EReal) (n k l : ℕ) : EReal :=
  if h : n < p ∧ k < q ∧ l < s then X (ix3 ⟨n, h.1⟩ ⟨k, h.2.1⟩ ⟨l, h.2.2⟩) else 0

/-- An array's element at an index whose coordinates are known. -/
theorem at3_of {p q s : ℕ} (X : (⟨3, ![p, q, s]⟩ : Shape).Idx → EReal) (i : (⟨3, ![p, q, s]⟩ : Shape).Idx) (n k l : ℕ)
    (hn : (i 0).val = n) (hk : (i 1).val = k) (hl : (i 2).val = l) : X i = at3 X n k l := by
  subst hn hk hl
  have h0 : (i 0).val < p := (i 0).isLt
  have h1 : (i 1).val < q := (i 1).isLt
  have h2 : (i 2).val < s := (i 2).isLt
  unfold at3
  rw [dif_pos ⟨h0, h1, h2⟩]
  refine congrArg X (funext fun d => ?_)
  match d with
  | ⟨0, _⟩ => rfl
  | ⟨1, _⟩ => rfl
  | ⟨2, _⟩ => rfl

end Cert.InDxEq

end
-- ==== Proof.InDxEq.lean ====
/-
  The gate and up projections' input gradient: the kernel keeps a running product over four blocks of columns, two of each array,
  and at the last one carries it through the norm and adds it to the stream's own gradient.
-/
module

public import proofs.«01_k».proof.Proof.Gen.InDxIdeal.Frame
public import proofs.«01_k».proof.Proof.InDxMath
public import Idealize.ShloMosaic.Lib.Pipeline.ReadBack
public import Idealize.ShloMosaic.Lib.ValueIdx
public import proofs.«01_k».proof.Proof.Gen.InDxRefIdeal.Read
public import proofs.«01_k».proof.Defs
public import Idealize.ShloMosaic.Lib.KernelVsHost

@[expose] public section

set_option maxRecDepth 16384

noncomputable section

namespace Cert.InDxEq

section call
open Idealize.ShloMosaic Idealize.ShloMosaic.TcCoe Idealize.SL.Sem Idealize.ShloMosaic.StableHlo Cert.InDxIdeal Cert.InDxIdeal.Gen Cert.Finite Cert.Blocks
open Idealize.ShloMosaic.Pipeline (Dat)

local notation "⟪" m "," c ",0⟫" => m (Thread.loc (c : Thread nD τ) main_arg0)
local notation "⟪" m "," c ",1⟫" => m (Thread.loc (c : Thread nD τ) main_arg1)
local notation "⟪" m "," c ",2⟫" => m (Thread.loc (c : Thread nD τ) main_arg2)
local notation "⟪" m "," c ",4⟫" => m (Thread.loc (c : Thread nD τ) main_arg4)

theorem pay6_apply (i : S512x1024.Idx) : k0_pay6 (F := Ideal) i = 0 := by
  rw [ValueIdx.eq_ix2 i]
  unfold k0_pay6
  pointwise []

theorem pay1_apply (acc : FVec Ideal S512x1024 .f32) (x : FVec Ideal S512x1408 .bf16) (w : FVec Ideal S1x1024x1408 .bf16) (a : Fin 512) (b : Fin 1024) :
    k0_pay1 (F := Ideal) acc x w (ix2 a b) = acc (ix2 a b) + ∑ k : Fin 1408, x (ix2 a k) * w (ix3 0 b k) := by
  unfold k0_pay1
  pointwise []

theorem pay8_eq (acc : FVec Ideal S512x1024 .f32) (x : FVec Ideal S512x1408 .bf16) (w : FVec Ideal S1x1024x1408 .bf16) :
    k0_pay8 (F := Ideal) acc x w = k0_pay1 (F := Ideal) acc x w := rfl

theorem pay2_apply (x : FVec Ideal S512x1024 .f32) (a : Fin 512) : k0_pay2 (F := Ideal) x (ix2 a 0) = Ideal.rsqrt (ms fun k => x (ix2 a k)) := by
  unfold k0_pay2 ms
  pointwise []

theorem pay3_apply (x : FVec Ideal S512x1024 .f32) (a : Fin 512) (b : Fin 1024) :
    k0_pay3 (F := Ideal) x (ix2 a b) = x (ix2 a b) * Ideal.rsqrt (ms fun k => x (ix2 a k)) := by
  rw [← pay2_apply]
  unfold k0_pay3
  pointwise []

/-- The last point's output at one element of a row. -/
theorem pay4_apply (x : FVec Ideal S512x1024 .f32) (g : FVec Ideal S1x1024 .f32) (acc res : FVec Ideal S512x1024 .f32) (a : Fin 512) (b : Fin 1024) :
    k0_pay4 (F := Ideal) x g acc res (ix2 a b) = dxK (fun k => x (ix2 a k)) (fun k => acc (ix2 a k)) (fun k => g (ix2 0 k)) (res (ix2 a b)) b := by
  have e : k0_pay4 (F := Ideal) x g acc res (ix2 a b) = res (ix2 a b) + k0_pay2 (F := Ideal) x (ix2 a 0) * (acc (ix2 a b) * g (ix2 0 b)
      - k0_pay3 (F := Ideal) x (ix2 a b) * Ideal.div (∑ k : Fin 1024, acc (ix2 a k) * g (ix2 0 k) * k0_pay3 (F := Ideal) x (ix2 a k)) (Ideal.ofBits .f32 0x44800000#32)) := by
    unfold k0_pay4
    pointwise []
  rw [e]
  simp only [pay2_apply, pay3_apply]
  rfl

/-- Where the windows' blocks lie: point `t` takes block `t / 4` of the rows and block `t % 4` of the columns, the first two of
    them in the first array and the last two in the second. -/
theorem idx_facts : ∀ t : Fin cfg0.N, (t.val % 4 ≤ 1 → win0_0.index t = ![t.val / 4, t.val % 4]) ∧ (2 ≤ t.val % 4 → win0_1.index t = ![t.val / 4, t.val % 4 - 2])
    ∧ win0_2.index t = ![t.val % 4, 0, 0] ∧ win0_3.index t = ![t.val / 4, 0] ∧ win0_4.index t = ![0, 0] ∧ win0_5.index t = ![t.val / 4, 0]
    ∧ win0_6.index t = ![t.val / 4, 0] :=
  (by decide +kernel : ∀ t : Fin grid0.N, _)

variable (m : (ℓ : Loc nD τ sig) → Buf (Elt Ideal) ℓ) (c : Dev nD) (t : Fin cfg0.N)

theorem V_v0 : Gen.V m c main_v0 = shapeCast S1x1024 ⟪m,c,4⟫ shapeCasts_S1024_S1x1024 := by
  show StableHlo.after (List.flatten [hostOps0]) (fun b => m (c, b)) (Proc.devRef .tc main_v0) = _
  simp only [hostOps0, List.flatten_cons, List.flatten_nil, List.append_nil, List.cons_append, List.nil_append]
  after_results_simp <;> rfl

/-- The two arrays of gradients side by side. -/
abbrev both (c : Dev nD) : ℕ → ℕ → EReal :=
  halves (p := 8192) (q := 2816) ⟪m,c,0⟫ ⟪m,c,1⟫

/-- The weights at a column of the two arrays side by side. -/
abbrev wt (n k l : ℕ) : EReal := at3 (p := 4) (q := 1024) (s := 1408) ⟪m,c,2⟫ n k l

/-- What block `n` of the columns puts to the product at one element. -/
def term (n : ℕ) (i : S512x1024.Idx) : EReal :=
  ∑ k : Fin 1408, both m c (n / 4 * 512 + (i 0).val) (n % 4 * 1408 + k.val) * wt m c (n % 4) (i 1).val k.val

theorem blk0 (ht : t.val % 4 ≤ 1) (a : Fin 512) (k : Fin 1408) :
    iblk m c 0 t (ix2 a k) = both m c (t.val / 4 * 512 + a.val) (t.val % 4 * 1408 + k.val) := by
  obtain ⟨e0, e1, e2, e3, e4, e5, e6⟩ := idx_facts t
  have hk := k.isLt
  unfold both halves
  rw [if_pos (by omega)]
  blk_simp [iblk]
  refine (congrFun (V_main_arg0 m c) _).trans (at2_of _ _ _ _ ?_ ?_)
  · blk_ext [e0 ht]
  · blk_ext [e0 ht]

theorem blk1 (ht : 2 ≤ t.val % 4) (a : Fin 512) (k : Fin 1408) :
    iblk m c 1 t (ix2 a k) = both m c (t.val / 4 * 512 + a.val) (t.val % 4 * 1408 + k.val) := by
  obtain ⟨e0, e1, e2, e3, e4, e5, e6⟩ := idx_facts t
  have hk := k.isLt
  unfold both halves
  rw [if_neg (by omega), show t.val % 4 * 1408 + k.val - 2816 = (t.val % 4 - 2) * 1408 + k.val by omega]
  blk_simp [iblk]
  refine (congrFun (V_main_arg1 m c) _).trans (at2_of _ _ _ _ ?_ ?_)
  · blk_ext [e1 ht]
  · blk_ext [e1 ht]

theorem blk2 (b : Fin 1024) (k : Fin 1408) :
    iblk m c 2 t (ix3 0 b k) = wt m c (t.val % 4) b.val k.val := by
  obtain ⟨e0, e1, e2, e3, e4, e5, e6⟩ := idx_facts t
  blk_simp [iblk]
  refine (congrFun (V_main_arg2 m c) _).trans (at3_of _ _ _ _ _ ?_ ?_ ?_)
  · blk_simp [e2]
    rfl
  · blk_ext [e2]
  · blk_ext [e2]

theorem blk3 (a : Fin 512) (k : Fin 1024) :
    iblk m c 3 t (ix2 a k) = at2 (p := 8192) (q := 1024) (m ((c : Thread nD τ).loc main_arg3)) (t.val / 4 * 512 + a.val) k.val := by
  obtain ⟨e0, e1, e2, e3, e4, e5, e6⟩ := idx_facts t
  blk_simp [iblk]
  refine (congrFun (V_main_arg3 m c) _).trans (at2_of _ _ _ _ ?_ ?_)
  · blk_ext [e3]
  · blk_ext [e3]

theorem blk4 (k : Fin 1024) :
    iblk m c 4 t (ix2 0 k) = m ((c : Thread nD τ).loc main_arg4) (ix1 k) := by
  obtain ⟨e0, e1, e2, e3, e4, e5, e6⟩ := idx_facts t
  have h : shapeCast S1x1024 ⟪m,c,4⟫ shapeCasts_S1024_S1x1024 (ix2 0 k) = m ((c : Thread nD τ).loc main_arg4) (ix1 k) := by
    pointwise []
  refine Eq.trans ?_ h
  blk_simp [iblk]
  refine (congrFun (V_v0 m c) _).trans (congrArg _ (funext fun d => ?_))
  match d with
  | ⟨0, _⟩ => exact Fin.ext (by blk_ext [e4])
  | ⟨1, _⟩ => exact Fin.ext (by blk_ext [e4])

theorem blk5 (a : Fin 512) (k : Fin 1024) :
    iblk m c 5 t (ix2 a k) = at2 (p := 8192) (q := 1024) (m ((c : Thread nD τ).loc main_arg5)) (t.val / 4 * 512 + a.val) k.val := by
  obtain ⟨e0, e1, e2, e3, e4, e5, e6⟩ := idx_facts t
  blk_simp [iblk]
  refine (congrFun (V_main_arg5 m c) _).trans (at2_of _ _ _ _ ?_ ?_)
  · blk_ext [e5]
  · blk_ext [e5]

theorem step1 (ht : t.val % 4 ≤ 1) (acc : FVec Ideal S512x1024 .f32) (i : S512x1024.Idx) :
    k0_pay1 (F := Ideal) acc (iblk m c 0 t) (iblk m c 2 t) i = acc i + term m c t.val i := by
  rw [ValueIdx.eq_ix2 i]
  refine (pay1_apply acc _ _ (i 0) (i 1)).trans ?_
  exact congrArg (acc _ + ·) (Finset.sum_congr rfl fun k _ => congrArg₂ (· * ·) (blk0 m c t ht (i 0) k) (blk2 m c t (i 1) k))

theorem step2 (ht : 2 ≤ t.val % 4) (acc : FVec Ideal S512x1024 .f32) (i : S512x1024.Idx) :
    k0_pay1 (F := Ideal) acc (iblk m c 1 t) (iblk m c 2 t) i = acc i + term m c t.val i := by
  rw [ValueIdx.eq_ix2 i]
  refine (pay1_apply acc _ _ (i 0) (i 1)).trans ?_
  exact congrArg (acc _ + ·) (Finset.sum_congr rfl fun k _ => congrArg₂ (· * ·) (blk1 m c t ht (i 0) k) (blk2 m c t (i 1) k))

theorem acc_first (h0 : t.val % 4 = 0) (i : S512x1024.Idx) :
    (outsAt0 m c t.val t.isLt).2.2 i = 0 + term m c t.val i := by
  by_cases h1 : t.val % 64 = 0
  · rw [outsAt0_A m c t h0 h1 (by omega) (by omega) (by omega)]
    frame_out
    rw [pay8_eq, step1 m c t (by omega), pay6_apply]
  · rw [outsAt0_E m c t h0 h1 (by omega) (by omega) (by omega)]
    frame_out
    rw [pay8_eq, step1 m c t (by omega), pay6_apply]

theorem acc_next (h0 : ¬t.val % 4 = 0) (i : S512x1024.Idx) :
    (outsAt0 m c t.val t.isLt).2.2 i = (outsAt0 m c (t.val - 1) (Nat.lt_of_le_of_lt (Nat.sub_le _ _) t.isLt)).2.2 i + term m c t.val i := by
  have h1 : ¬t.val % 64 = 0 := by omega
  by_cases h2 : t.val % 4 ≤ 1
  · rw [outsAt0_B m c t h0 h1 h2 (by omega) (by omega)]
    frame_out
    simp only [read_unread_whole]
    rw [pay8_eq, step1 m c t h2]
  by_cases h4 : t.val % 4 = 3
  · rw [outsAt0_D m c t h0 h1 h2 (by omega) h4]
    frame_out
    simp only [read_unread_whole]
    rw [step2 m c t (by omega)]
  · rw [outsAt0_C m c t h0 h1 h2 (by omega) h4]
    frame_out
    simp only [read_unread_whole]
    rw [step2 m c t (by omega)]

/-- The running product after a point is the sum over the blocks so far. -/
theorem acc_eq (i : S512x1024.Idx) :
    (outsAt0 m c t.val t.isLt).2.2 i = ∑ k ∈ Finset.range (t.val % 4 + 1), term m c (4 * (t.val / 4) + k) i := by
  refine (Pipeline.eq_sum_of_reset_step_apply (fun n h => (outsAt0 m c n h).2.2) 4 (fun _ => 0) (term m c)
    (fun t h i => acc_first m c t h i) (fun t h i => acc_next m c t h i) t i).trans (zero_add _)

/-- The product of the two arrays side by side with the weights, at one element. -/
def prod (A0 A1 : FVec Ideal S8192x2816 .bf16) (A2 : FVec Ideal S4x1024x1408 .bf16) (r k : ℕ) : EReal :=
  ∑ a : Fin 5632, halves (p := 8192) (q := 2816) A0 A1 r a.val * at3 (p := 4) (q := 1024) (s := 1408) A2 (a.val / 1408) k (a.val % 1408)

/-- All four blocks make the whole product. -/
theorem sum_terms (hf : t.val % 4 = 3) (i : S512x1024.Idx) :
    (outsAt0 m c t.val t.isLt).2.2 i = prod ⟪m,c,0⟫ ⟪m,c,1⟫ ⟪m,c,2⟫
      (t.val / 4 * 512 + (i 0).val) (i 1).val := by
  rw [acc_eq, hf]
  refine Eq.trans (Finset.sum_congr rfl fun k hk => ?_) (sum_blocks (fun a => both m c (t.val / 4 * 512 + (i 0).val) a * wt m c (a / 1408) (i 1).val (a % 1408)) 4 1408)
  have hk' : k < 4 := Finset.mem_range.1 hk
  unfold term
  rw [show (4 * (t.val / 4) + k) % 4 = k by omega, show (4 * (t.val / 4) + k) / 4 = t.val / 4 by omega]
  refine Finset.sum_congr rfl fun j _ => ?_
  have hj := j.isLt
  show _ = both m c _ (1408 * k + j.val) * wt m c ((1408 * k + j.val) / 1408) _ ((1408 * k + j.val) % 1408)
  rw [show (1408 * k + j.val) / 1408 = k by omega, show (1408 * k + j.val) % 1408 = j.val by omega, Nat.mul_comm k 1408]

/-- What the last point of a block of rows writes. -/
theorem out_last (h4 : t.val % 4 = 3) :
    (outsAt0 m c t.val t.isLt).1 = k0_pay4 (F := Ideal) (iblk m c 3 t) (iblk m c 4 t) (outsAt0 m c t.val t.isLt).2.2 (iblk m c 5 t) := by
  rw [outsAt0_D m c t (by omega) (by omega) (by omega) (by omega) h4]
  frame_out

/-- The stream's gradient at one element. -/
def dxAt (A0 A1 : FVec Ideal S8192x2816 .bf16) (A2 : FVec Ideal S4x1024x1408 .bf16) (A3 : FVec Ideal S8192x1024 .f32) (A4 : FVec Ideal S1024 .f32)
    (A5 : FVec Ideal S8192x1024 .f32) (r : ℕ) (b : Fin 1024) : EReal :=
  dxK (fun k => at2 (p := 8192) (q := 1024) A3 r k.val) (fun k => prod A0 A1 A2 r k.val) (fun k => A4 (ix1 k)) (at2 (p := 8192) (q := 1024) A5 r b.val) b

/-- The stream's gradient, as an array. -/
def dxArr (A0 A1 : FVec Ideal S8192x2816 .bf16) (A2 : FVec Ideal S4x1024x1408 .bf16) (A3 : FVec Ideal S8192x1024 .f32) (A4 : FVec Ideal S1024 .f32)
    (A5 : FVec Ideal S8192x1024 .f32) : FVec Ideal S8192x1024 .f32 := fun i => dxAt A0 A1 A2 A3 A4 A5 (i 0).val (i 1)

theorem dxK_congr {x x' d d' g g' : Fin 1024 → EReal} {r r' : EReal} (k : Fin 1024) (hx : ∀ k, x k = x' k) (hd : ∀ k, d k = d' k) (hg : ∀ k, g k = g' k)
    (hr : r = r') : dxK x d g r k = dxK x' d' g' r' k := by
  rw [funext hx, funext hd, funext hg, hr]

/-- The result array. -/
theorem final6 : (dats m 0 c).arrAt 6 cfg0.N = dxArr ⟪m,c,0⟫ ⟪m,c,1⟫
    ⟪m,c,2⟫ (m ((c : Thread nD τ).loc main_arg3)) ⟪m,c,4⟫ (m ((c : Thread nD τ).loc main_arg5)) := by
  refine (dats m 0 c).arrAt_eq_of_covers 6 _ (by decide +kernel) fun t hf y => ?_
  obtain ⟨e0, e1, e2, e3, e4, e5, e6⟩ := idx_facts t
  have h7 : t.val % 4 = 3 := (flush0_6 t).1 hf
  blk_simp
  rw [after0_6, out_last m c t h7]
  rw [ValueIdx.eq_ix2 y]
  refine (pay4_apply _ _ _ _ (y 0) (y 1)).trans ((dxK_congr (y 1) (fun k => blk3 m c t (y 0) k) (fun k => sum_terms m c t h7 (ix2 (y 0) k)) (fun k => blk4 m c t k)
    (blk5 m c t (y 0) (y 1))).trans ?_)
  unfold dxArr
  refine congrArg₂ (dxAt ⟪m,c,0⟫ ⟪m,c,1⟫ ⟪m,c,2⟫
    (m ((c : Thread nD τ).loc main_arg3)) ⟪m,c,4⟫ (m ((c : Thread nD τ).loc main_arg5))) ?_ (Fin.ext ?_)
  · blk_ext [e6]
  · blk_ext [e6]

end call

section reference
open Idealize.ShloMosaic Idealize.ShloMosaic.TcCoe Idealize.SL.Sem Cert.InDxRefIdeal Cert.InDxRefIdeal.Gen Cert.InDxRefIdeal.Read Cert.Finite Cert.Blocks

/-- The padded arrays' sum is the two arrays side by side. -/
theorem ref_both (x0 x1 : FVec Ideal S8192x2816 .bf16) (i : S8192x5632.Idx) :
    val_main_v26 (F := Ideal) x0 x1 i = halves (p := 8192) (q := 2816) x0 x1 (i 0).val (i 1).val := by
  have h0 : (i 0).val < 8192 := (i 0).isLt
  have h1 : (i 1).val < 5632 := (i 1).isLt
  rw [val_main_v26_apply]
  unfold halves val_main_v24 val_main_v25
  by_cases h : (i 1).val < 2816
  · rw [if_pos h, pad_apply_of_not_inside _ _ _ _ _ _ _ _ (1 : Fin 2) (by intro hh; exact absurd hh.1 (by show ¬2816 ≤ (i 1).val; omega)),
      pad_apply_of_inside _ _ _ _ _ _ _ i (ix2 (⟨(i 0).val, h0⟩ : Fin 8192) (⟨(i 1).val, h⟩ : Fin 2816)) (by
        intro a
        match a with
        | ⟨0, _⟩ => show (i 0).val = 0 + (i 0).val * (0 + 1); omega
        | ⟨1, _⟩ => show (i 1).val = 0 + (i 1).val * (0 + 1); omega),
      val_main_cst_3_apply]
    refine Eq.trans ?_ (at2_of x0 (ix2 (⟨(i 0).val, h0⟩ : Fin 8192) (⟨(i 1).val, h⟩ : Fin 2816)) _ _ rfl rfl)
    show Ideal.ofBits .f32 0x00000000#32 + x0 _ = x0 _
    rw [Ideal.ofBits_zero]
    exact zero_add _
  · rw [if_neg h, pad_apply_of_inside _ _ _ _ _ _ _ i (ix2 (⟨(i 0).val, h0⟩ : Fin 8192) (⟨(i 1).val - 2816, by omega⟩ : Fin 2816)) (by
        intro a
        match a with
        | ⟨0, _⟩ => show (i 0).val = 0 + (i 0).val * (0 + 1); omega
        | ⟨1, _⟩ => show (i 1).val = 2816 + ((i 1).val - 2816) * (0 + 1); omega),
      pad_apply_of_not_inside _ _ _ _ _ _ _ _ (1 : Fin 2) (by
        intro hh
        have h2 : ((i 1).val - 0) / (0 + 1) < 2816 := hh.2.2
        omega),
      val_main_cst_4_apply]
    refine Eq.trans ?_ (at2_of x1 (ix2 (⟨(i 0).val, h0⟩ : Fin 8192) (⟨(i 1).val - 2816, by omega⟩ : Fin 2816)) _ _ rfl rfl)
    show x1 _ + Ideal.ofBits .f32 0x00000000#32 = x1 _
    rw [Ideal.ofBits_zero]
    exact add_zero _

section
variable {A0 A1 : FVec Ideal S8192x2816 .bf16} {A2 : FVec Ideal S4x1024x1408 .bf16} {A3 : FVec Ideal S8192x1024 .f32} {A4 : FVec Ideal S1024 .f32}
  {A5 : FVec Ideal S8192x1024 .f32}

theorem r27 (i : S8192x1024.Idx) : val_main_v27 (F := Ideal) A0 A1 A2 i = prod A0 A1 A2 (i 0).val (i 1).val := by
  have h1 : (i 1).val < 1024 := (i 1).isLt
  rw [val_main_v27_apply]
  unfold prod
  refine Finset.sum_congr rfl fun k _ => ?_
  have hk : k.val < 5632 := k.isLt
  rw [ref_both, val_main_v2_apply, val_main_v1_apply, val_main_v0_apply]
  refine congrArg (halves (p := 8192) (q := 2816) A0 A1 (i 0).val k.val * ·) (at3_of (p := 4) (q := 1024) (s := 1408) A2 _ _ _ _ ?_ ?_ ?_)
  · show ((i 1).val * 5632 + k.val) / 1408 % 4 = k.val / 1408
    omega
  · show ((i 1).val * 5632 + k.val) / 5632 = (i 1).val
    omega
  · show ((i 1).val * 5632 + k.val) % 1408 = k.val % 1408
    omega

/-- The row `r` of the stream. -/
abbrev xrow (A3 : FVec Ideal S8192x1024 .f32) (r : ℕ) (k : Fin 1024) : EReal := at2 (p := 8192) (q := 1024) A3 r k.val
/-- The row `r` of the gradient before the gain. -/
abbrev drow (A0 A1 : FVec Ideal S8192x2816 .bf16) (A2 : FVec Ideal S4x1024x1408 .bf16) (r : ℕ) (k : Fin 1024) : EReal := prod A0 A1 A2 r k.val
/-- The gain. -/
abbrev grow (A4 : FVec Ideal S1024 .f32) (k : Fin 1024) : EReal := A4 (ix1 k)

theorem r3 (i : S8192x1024.Idx) : A3 i = xrow A3 (i 0).val (i 1) := at2_of (p := 8192) (q := 1024) A3 i _ _ rfl rfl

theorem r9 (i : S8192x1.Idx) : val_main_v9 (F := Ideal) A3 i = ms (xrow A3 (i 0).val) := by
  rw [val_main_v9_apply, val_main_v7_apply, val_main_v8_apply, val_main_v6_apply, val_main_v5_apply, val_main_v4_apply, val_main_cst_apply, val_main_cst_0_apply, val_main_cst_1_apply]
  show Ideal.div (Ideal.ofBits .f32 0x00000000#32 + _) (Ideal.ofBits .f32 0x44800000#32) + Ideal.ofBits .f32 0x358637BD#32 = _
  have e : ∀ k : Fin 1024, val_main_v3 (F := Ideal) A3 (idx_main_v4 (idx_main_v5 i) k) = xrow A3 (i 0).val k * xrow A3 (i 0).val k := fun k => by
    rw [val_main_v3_apply]
    exact congrArg₂ (· * ·) (r3 _) (r3 _)
  rw [Ideal.ofBits_zero, Finset.sum_congr rfl fun k _ => e k, zero_add]
  rfl

theorem r10 (i : S8192x1.Idx) : val_main_v10 (F := Ideal) A3 i = Ideal.rsqrt (ms (xrow A3 (i 0).val)) := by
  rw [val_main_v10_apply, r9]
  rfl

theorem r13 (i : S8192x1.Idx) : val_main_v13 (F := Ideal) A3 i
    = Ideal.ofBits .f32 0xBF000000#32 * Ideal.div (Ideal.rsqrt (ms (xrow A3 (i 0).val))) (ms (xrow A3 (i 0).val)) := by
  rw [val_main_v13_apply, val_main_v12_apply, val_main_cst_2_apply, val_main_v11_apply, r10, r9]
  rfl

theorem r29 (i : S8192x1024.Idx) : val_main_v29 (F := Ideal) A0 A1 A2 A4 i = drow A0 A1 A2 (i 0).val (i 1) * grow A4 (i 1) := by
  rw [val_main_v29_apply, r27, val_main_v28_apply, val_main_v16_apply]
  refine congrArg (drow A0 A1 A2 (i 0).val (i 1) * ·) (congrArg A4 (funext fun d => ?_))
  match d with
  | ⟨0, _⟩ => rfl

/-- The sum of a row's elements with their gradients. -/
theorem r32 (i : S8192x1.Idx) : val_main_v32 (F := Ideal) A0 A1 A2 A3 A4 i
    = ∑ k, xrow A3 (i 0).val k * (drow A0 A1 A2 (i 0).val k * grow A4 k) := by
  have hi : (i 1).val = 0 := by have : (i 1).val < 1 := (i 1).isLt; omega
  rw [val_main_v32_apply, val_main_v31_apply, val_main_cst_5_apply]
  show Ideal.ofBits .f32 0x00000000#32 + _ = _
  have e : ∀ k : Fin 1024, val_main_v30 (F := Ideal) A0 A1 A2 A3 A4 (idx_main_v31 (idx_main_v32 i) k)
      = xrow A3 (i 0).val k * (drow A0 A1 A2 (i 0).val k * grow A4 k) := fun k => by
    have hr : (idx_main_v31 (idx_main_v32 i) k 0).val = (i 0).val := by
      show (i 0).val * 1 + (i 1).val = _
      omega
    rw [val_main_v30_apply, r29, hr]
    exact congrArg₂ (· * ·) ((r3 _).trans (congrArg (fun r => xrow A3 r k) hr)) rfl
  rw [Ideal.ofBits_zero, Finset.sum_congr rfl fun k _ => e k, zero_add]

theorem r40 (i : S8192x1024.Idx) : val_main_v40 (F := Ideal) A0 A1 A2 A3 A4 i = half (xrow A3 (i 0).val) (drow A0 A1 A2 (i 0).val) (grow A4) := by
  rw [val_main_v40_apply, val_main_v39_apply, val_main_cst_7_apply]
  show Ideal.ofBits .f32 0x00000000#32 + _ = _
  rw [Ideal.ofBits_zero, zero_add, Fin.sum_univ_one, val_main_v38_apply, val_main_v37_apply, val_main_cst_6_apply, val_main_v36_apply, r32, r13]
  rfl

theorem ref_dx : val_main_v44 (F := Ideal) A0 A1 A2 A3 A4 A5 = dxArr A0 A1 A2 A3 A4 A5 := by
  funext i
  rw [val_main_v44_apply, val_main_v43_apply, val_main_v42_apply, val_main_v41_apply, val_main_v35_apply, val_main_v34_apply, val_main_v33_apply,
    r10, r29, r40, r3 (A3 := A3) i, r3 (A3 := A5) i]
  exact dxK_ref (xrow A3 (i 0).val) (drow A0 A1 A2 (i 0).val) (grow A4) (xrow A5 (i 0).val (i 1)) (i 1)

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2, Idealize.ShloMosaic.sem_eq_zero_of_no_sems (by decide) r.2⟩)
    (Cert.InDxRefIdeal.Value.run (F := Ideal) m ρ)

set_option maxHeartbeats 4000000 in
/-- Call and reference compute the same array, whatever the arguments hold. -/
theorem algebraic : Cert.algebraic_InDxIdeal_InDxRefIdeal := by
  intro m ρ m' ρ' _ hagree
  refine ⟨fun c => dxArr (m ((c.tc : Thread _ _).loc Cert.InDxIdeal.main_arg0)) (m ((c.tc : Thread _ _).loc Cert.InDxIdeal.main_arg1)) (m ((c.tc : Thread _ _).loc Cert.InDxIdeal.main_arg2))
    (m ((c.tc : Thread _ _).loc Cert.InDxIdeal.main_arg3)) (m ((c.tc : Thread _ _).loc Cert.InDxIdeal.main_arg4)) (m ((c.tc : Thread _ _).loc Cert.InDxIdeal.main_arg5)), ?_, ?_⟩
  · refine (θ_run Cert.InDxIdeal.defs _ _).mono (fun r h c => ?_)
      (θ_run_and (Cert.InDxIdeal.Gen.unchanged (F := Ideal) m ρ) (Cert.InDxIdeal.Gen.run_main (F := Ideal) m ρ))
    exact ⟨((h.2 c).1 6).trans (final6 m c), h.1 c⟩
  · refine (θ_run defs _ _).mono (fun r h c => ?_) (Cert.InDxRefIdeal.Value.run (F := Ideal) m' ρ')
    obtain ⟨a0, a1, a2, a3, a4, a5⟩ := hagree c
    refine ⟨((h c).1.trans (val_main_v44_eq _ _)).trans ?_, (h c).2⟩
    rw [a0, a1, a2, a3, a4, a5]; exact ref_dx

end reference

end Cert.InDxEq

end
-- ==== Proof.QkvDwEq.lean ====
/-
  The dilated attention's joint projection, its weights' gradient: the kernel keeps a running product over blocks of 1024 rows, from
  zero, and writes it at the last block.  Over the extended reals its result is the product over all rows.
-/
module

public import proofs.«01_k».proof.Proof.Gen.QkvDwIdeal.Value
public import proofs.«01_k».proof.Proof.Blocks
public import proofs.«01_k».proof.Proof.Finite
public import Idealize.ShloMosaic.Lib.Pipeline.ReadBack
public import Idealize.ShloMosaic.Lib.ValueIdx
public import proofs.«01_k».proof.Proof.Gen.QkvDwRefIdeal.Read
public import proofs.«01_k».proof.Defs

@[expose] public section

set_option maxRecDepth 16384

noncomputable section

namespace Cert.QkvDwEq

section call
open Idealize.ShloMosaic Idealize.ShloMosaic.TcCoe Idealize.SL.Sem Cert.QkvDwIdeal Cert.QkvDwIdeal.Gen Cert.Finite Cert.Blocks
open Idealize.ShloMosaic.Pipeline (Dat)

local notation "⟪" m "," c ",0⟫" => m (Thread.loc (c : Thread nD τ) main_arg0)
local notation "⟪" m "," c ",1⟫" => m (Thread.loc (c : Thread nD τ) main_arg1)

theorem pay1_apply (i : S1024x1152.Idx) : k0_pay1 (F := Ideal) i = 0 := by
  rw [ValueIdx.eq_ix2 i]
  unfold k0_pay1
  pointwise []

theorem pay2_apply (acc : FVec Ideal S1024x1152 .f32) (x0 : FVec Ideal S1024x1024 .bf16) (x1 : FVec Ideal S1024x1152 .bf16) (a : Fin 1024) (b : Fin 1152) :
    k0_pay2 (F := Ideal) acc x0 x1 (ix2 a b) = acc (ix2 a b) + ∑ k : Fin 1024, x0 (ix2 k a) * x1 (ix2 k b) := by
  unfold k0_pay2
  pointwise []

theorem pay3_apply (acc : FVec Ideal S1024x1152 .f32) (z : Fin 1) (a : Fin 1024) (b : Fin 1152) :
    k0_pay3 (F := Ideal) acc (ix3 z a b) = acc (ix2 a b) := by
  unfold k0_pay3
  pointwise []

/-- Where the windows' blocks lie: point `t` takes block `t % 8` of the rows and block `t / 8` of the columns, two to a shard. -/
theorem idx_facts : ∀ t : Fin cfg0.N, win0_0.index t = ![t.val % 8, 0] ∧ win0_1.index t = ![t.val % 8, t.val / 8]
    ∧ win0_2.index t = ![t.val / 8 / 2, 0, t.val / 8 % 2] :=
  (by decide +kernel : ∀ t : Fin grid0.N, _)

variable (m : (ℓ : Loc nD τ sig) → Buf (Elt Ideal) ℓ) (c : Dev nD) (t : Fin cfg0.N)

/-- What the blocks `n` of the rows put to the product at one element. -/
def term (n : ℕ) (i : S1024x1152.Idx) : EReal :=
  ∑ k : Fin 1024, at2 (p := 8192) (q := 1024) ⟪m,c,0⟫ (n % 8 * 1024 + k.val) (i 0).val
    * at2 (p := 8192) (q := 9216) ⟪m,c,1⟫ (n % 8 * 1024 + k.val) (n / 8 * 1152 + (i 1).val)

theorem blk0 (k : Fin 1024) (a : Fin 1024) :
    iblk m c 0 t (ix2 k a) = at2 (p := 8192) (q := 1024) ⟪m,c,0⟫ (t.val % 8 * 1024 + k.val) a.val := by
  obtain ⟨e0, e1, e2⟩ := idx_facts t
  blk_simp [iblk]
  refine at2_of _ _ _ _ ?_ ?_
  · blk_ext [e0]
  · blk_ext [e0]

theorem blk1 (k : Fin 1024) (b : Fin 1152) :
    iblk m c 1 t (ix2 k b) = at2 (p := 8192) (q := 9216) ⟪m,c,1⟫ (t.val % 8 * 1024 + k.val) (t.val / 8 * 1152 + b.val) := by
  obtain ⟨e0, e1, e2⟩ := idx_facts t
  blk_simp [iblk]
  refine at2_of _ _ _ _ ?_ ?_
  · blk_ext [e1]
  · blk_ext [e1]

theorem step (acc : FVec Ideal S1024x1152 .f32) (i : S1024x1152.Idx) :
    k0_pay2 (F := Ideal) acc (iblk m c 0 t) (iblk m c 1 t) i = acc i + term m c t.val i := by
  rw [ValueIdx.eq_ix2 i]
  refine (pay2_apply acc _ _ (i 0) (i 1)).trans ?_
  exact congrArg (acc _ + ·) (Finset.sum_congr rfl fun k _ => congrArg₂ (· * ·) (blk0 m c t k (i 0)) (blk1 m c t k (i 1)))

theorem acc_first (h0 : t.val % 8 = 0) (i : S1024x1152.Idx) :
    (outsAt0 m c t.val t.isLt).2 i = 0 + term m c t.val i := by
  rw [outsAt0_A m c t h0 (by omega)]
  frame_out
  rw [step, pay1_apply]

theorem acc_next (h0 : ¬t.val % 8 = 0) (i : S1024x1152.Idx) :
    (outsAt0 m c t.val t.isLt).2 i = (outsAt0 m c (t.val - 1) (Nat.lt_of_le_of_lt (Nat.sub_le _ _) t.isLt)).2 i + term m c t.val i := by
  by_cases h2 : t.val % 8 = 7
  · rw [outsAt0_C m c t h0 h2]
    frame_out
    simp only [read_unread_whole]
    rw [step]
  · rw [outsAt0_B m c t h0 h2]
    frame_out
    simp only [read_unread_whole]
    rw [step]

/-- The running product after a point is the sum over the blocks so far. -/
theorem acc_eq (i : S1024x1152.Idx) :
    (outsAt0 m c t.val t.isLt).2 i = ∑ k ∈ Finset.range (t.val % 8 + 1), term m c (8 * (t.val / 8) + k) i := by
  refine (Pipeline.eq_sum_of_reset_step_apply (fun n h => (outsAt0 m c n h).2) 8 (fun _ => 0) (term m c)
    (fun t h i => acc_first m c t h i) (fun t h i => acc_next m c t h i) t i).trans (zero_add _)

/-- The product of the two arrays over the rows, in four shards of columns. -/
def dwArr (A0 : FVec Ideal S8192x1024 .bf16) (A1 : FVec Ideal S8192x9216 .bf16) : FVec Ideal S4x1024x2304 .f32 := fun i =>
  ∑ r : Fin 8192, at2 (p := 8192) (q := 1024) A0 r.val (i 1).val * at2 (p := 8192) (q := 9216) A1 r.val ((i 0).val * 2304 + (i 2).val)

/-- All eight blocks make the whole product. -/
theorem sum_terms (hf : t.val % 8 = 7) (i : S1024x1152.Idx) :
    (outsAt0 m c t.val t.isLt).2 i = ∑ r : Fin 8192, at2 (p := 8192) (q := 1024) ⟪m,c,0⟫ r.val (i 0).val
      * at2 (p := 8192) (q := 9216) ⟪m,c,1⟫ r.val (t.val / 8 * 1152 + (i 1).val) := by
  rw [acc_eq, hf]
  refine Eq.trans (Finset.sum_congr rfl fun k hk => ?_) (sum_blocks (fun r => at2 (p := 8192) (q := 1024) ⟪m,c,0⟫ r (i 0).val
      * at2 (p := 8192) (q := 9216) ⟪m,c,1⟫ r (t.val / 8 * 1152 + (i 1).val)) 8 1024)
  have hk' : k < 8 := Finset.mem_range.1 hk
  unfold term
  rw [show (8 * (t.val / 8) + k) % 8 = k by omega, show (8 * (t.val / 8) + k) / 8 = t.val / 8 by omega]
  exact Finset.sum_congr rfl fun j _ => by rw [Nat.mul_comm k 1024]

/-- The result array. -/
theorem final2 : (dats m 0 c).arrAt 2 cfg0.N = dwArr ⟪m,c,0⟫ ⟪m,c,1⟫ := by
  refine (dats m 0 c).arrAt_eq_of_covers 2 _ (by decide +kernel) fun t hf y => ?_
  obtain ⟨e0, e1, e2⟩ := idx_facts t
  have h7 : t.val % 8 = 7 := (flush0_2 t).1 hf
  have h0 : ¬t.val % 8 = 0 := by omega
  have hs := sum_terms m c t h7
  rw [outsAt0_C m c t h0 h7] at hs
  blk_simp
  rw [after0_2, outsAt0_C m c t h0 h7]
  frame_out
  frame_out at hs
  simp only [read_unread_whole] at hs ⊢
  rw [ValueIdx.eq_ix3 y]
  refine (pay3_apply _ (y 0) (y 1) (y 2)).trans ?_
  rw [hs]
  unfold dwArr
  refine Finset.sum_congr rfl fun r _ => ?_
  refine congrArg₂ (fun a b => at2 (p := 8192) (q := 1024) _ r.val a * at2 (p := 8192) (q := 9216) _ r.val b) ?_ ?_
  · blk_ext [e2]
  · blk_simp [e2]
    show _ = t.val / 8 / 2 * 2304 + (t.val / 8 % 2 * 1152 + (y 2).val)
    omega

end call

section reference
open Idealize.ShloMosaic Idealize.ShloMosaic.TcCoe Idealize.SL.Sem Cert.QkvDwRefIdeal Cert.QkvDwRefIdeal.Gen Cert.QkvDwRefIdeal.Read Cert.Finite Cert.Blocks

theorem ref_dw (A0 : FVec Ideal S8192x1024 .bf16) (A1 : FVec Ideal S8192x9216 .bf16) : val_main_v9 (F := Ideal) A0 A1 = dwArr A0 A1 := by
  funext i
  have h0 : (i 0).val < 4 := (i 0).isLt
  have h1 : (i 1).val < 1024 := (i 1).isLt
  have h2 : (i 2).val < 2304 := (i 2).isLt
  rw [val_main_v9_apply, val_main_v8_apply, val_main_v7_apply, val_main_v6_apply]
  unfold dwArr
  refine Finset.sum_congr rfl fun k _ => ?_
  rw [val_main_v5_apply, val_main_v3_apply]
  refine (mul_comm _ _).trans (congrArg₂ (· * ·) ?_ ?_)
  · refine at2_of (p := 8192) (q := 1024) A0 _ _ _ rfl ?_
    show (((i 1).val * 4 + (i 0).val) * 2304 + (i 2).val) / 9216 = (i 1).val
    omega
  · refine at2_of (p := 8192) (q := 9216) A1 _ _ _ rfl ?_
    show (((i 1).val * 4 + (i 0).val) * 2304 + (i 2).val) % 9216 = (i 0).val * 2304 + (i 2).val
    omega

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Cert.QkvDwRefIdeal.Value.run (F := Ideal) m ρ)

set_option maxHeartbeats 4000000 in
/-- Call and reference compute the same array, whatever the arguments hold. -/
theorem algebraic : Cert.algebraic_QkvDwIdeal_QkvDwRefIdeal := by
  intro m ρ m' ρ' _ hagree
  refine ⟨fun c => dwArr (m ((c.tc : Thread _ _).loc Cert.QkvDwIdeal.main_arg0)) (m ((c.tc : Thread _ _).loc Cert.QkvDwIdeal.main_arg1)), ?_, ?_⟩
  · exact (θ_run Cert.QkvDwIdeal.defs _ _).mono (fun r h c => ⟨(h c).1.trans (final2 m c), (h c).2⟩) (Cert.QkvDwIdeal.Value.run_blocks (F := Ideal) m ρ)
  · refine (θ_run defs _ _).mono (fun r h c => ?_) (Cert.QkvDwRefIdeal.Value.run (F := Ideal) m' ρ')
    obtain ⟨a0, a1, a2⟩ := hagree c
    refine ⟨((h c).1.trans (val_main_v9_eq _ _)).trans ?_, (h c).2⟩
    rw [a0, a1]; exact ref_dw _ _

end reference

end Cert.QkvDwEq

end
-- ==== Proof.QkvDxEq.lean ====
/-
  The dilated attention's joint projection, its input gradient: the kernel keeps a running product over eight blocks of columns, and
  at the last one carries it through the norm and adds it to the stream's own gradient.
-/
module

public import proofs.«01_k».proof.Proof.Gen.QkvDxIdeal.Frame
public import proofs.«01_k».proof.Proof.InDxMath
public import Idealize.ShloMosaic.Lib.Pipeline.ReadBack
public import Idealize.ShloMosaic.Lib.ValueIdx
public import proofs.«01_k».proof.Proof.Gen.QkvDxRefIdeal.Read
public import proofs.«01_k».proof.Defs

@[expose] public section

set_option maxRecDepth 16384

noncomputable section

namespace Cert.QkvDxEq

section call
open Idealize.ShloMosaic Idealize.ShloMosaic.TcCoe Idealize.SL.Sem Idealize.ShloMosaic.StableHlo Cert.QkvDxIdeal Cert.QkvDxIdeal.Gen Cert.Finite Cert.Blocks
open Cert.InDxEq (ms dxK at3 at3_of)
open Idealize.ShloMosaic.Pipeline (Dat)

local notation "⟪" m "," c ",0⟫" => m (Thread.loc (c : Thread nD τ) main_arg0)
local notation "⟪" m "," c ",1⟫" => m (Thread.loc (c : Thread nD τ) main_arg1)
local notation "⟪" m "," c ",3⟫" => m (Thread.loc (c : Thread nD τ) main_arg3)

theorem pay1_apply (i : S512x1024.Idx) : k0_pay1 (F := Ideal) i = 0 := by
  rw [ValueIdx.eq_ix2 i]
  unfold k0_pay1
  pointwise []

theorem pay2_apply (acc : FVec Ideal S512x1024 .f32) (x : FVec Ideal S512x1152 .bf16) (w : FVec Ideal S1x1024x1152 .bf16) (a : Fin 512) (b : Fin 1024) :
    k0_pay2 (F := Ideal) acc x w (ix2 a b) = acc (ix2 a b) + ∑ k : Fin 1152, x (ix2 a k) * w (ix3 0 b k) := by
  unfold k0_pay2
  pointwise []

theorem pay4_apply (x : FVec Ideal S512x1024 .f32) (a : Fin 512) : k0_pay4 (F := Ideal) x (ix2 a 0) = Ideal.rsqrt (ms fun k => x (ix2 a k)) := by
  unfold k0_pay4 ms
  pointwise []

theorem pay5_apply (x : FVec Ideal S512x1024 .f32) (a : Fin 512) (b : Fin 1024) :
    k0_pay5 (F := Ideal) x (ix2 a b) = x (ix2 a b) * Ideal.rsqrt (ms fun k => x (ix2 a k)) := by
  rw [← pay4_apply]
  unfold k0_pay5
  pointwise []

/-- The last point's output at one element of a row. -/
theorem pay6_apply (acc x : FVec Ideal S512x1024 .f32) (g : FVec Ideal S1x1024 .f32) (res : FVec Ideal S512x1024 .f32) (a : Fin 512) (b : Fin 1024) :
    k0_pay6 (F := Ideal) acc x g res (ix2 a b) = dxK (fun k => x (ix2 a k)) (fun k => acc (ix2 a k)) (fun k => g (ix2 0 k)) (res (ix2 a b)) b := by
  have e : k0_pay6 (F := Ideal) acc x g res (ix2 a b) = res (ix2 a b) + k0_pay4 (F := Ideal) x (ix2 a 0) * (acc (ix2 a b) * g (ix2 0 b)
      - k0_pay5 (F := Ideal) x (ix2 a b) * Ideal.div (∑ k : Fin 1024, acc (ix2 a k) * g (ix2 0 k) * k0_pay5 (F := Ideal) x (ix2 a k)) (Ideal.ofBits .f32 0x44800000#32)) := by
    unfold k0_pay6
    pointwise []
  rw [e]
  simp only [pay4_apply, pay5_apply]
  rfl

/-- Where the windows' blocks lie: point `t` takes block `t / 8` of the rows and block `t % 8` of the columns, two to a shard. -/
theorem idx_facts : ∀ t : Fin cfg0.N, win0_0.index t = ![t.val / 8, t.val % 8] ∧ win0_1.index t = ![t.val % 8 / 2, 0, t.val % 8 % 2]
    ∧ win0_2.index t = ![t.val / 8, 0] ∧ win0_3.index t = ![0, 0] ∧ win0_4.index t = ![t.val / 8, 0] ∧ win0_5.index t = ![t.val / 8, 0] :=
  (by decide +kernel : ∀ t : Fin grid0.N, _)

variable (m : (ℓ : Loc nD τ sig) → Buf (Elt Ideal) ℓ) (c : Dev nD) (t : Fin cfg0.N)

theorem V_v0 : Gen.V m c main_v0 = shapeCast S1x1024 ⟪m,c,3⟫ shapeCasts_S1024_S1x1024 := by
  show StableHlo.after (List.flatten [hostOps0]) (fun b => m (c, b)) (Proc.devRef .tc main_v0) = _
  simp only [hostOps0, List.flatten_cons, List.flatten_nil, List.append_nil, List.cons_append, List.nil_append]
  after_results_simp <;> rfl

/-- The gradient of the projection. -/
abbrev dq (r j : ℕ) : EReal := at2 (p := 8192) (q := 9216) ⟪m,c,0⟫ r j

/-- The weights, shard by shard. -/
abbrev wt (n k l : ℕ) : EReal := at3 (p := 4) (q := 1024) (s := 2304) ⟪m,c,1⟫ n k l

/-- What block `n` of the columns puts to the product at one element. -/
def term (n : ℕ) (i : S512x1024.Idx) : EReal :=
  ∑ k : Fin 1152, dq m c (n / 8 * 512 + (i 0).val) (n % 8 * 1152 + k.val) * wt m c (n % 8 / 2) (i 1).val (n % 8 % 2 * 1152 + k.val)

theorem blk0 (a : Fin 512) (k : Fin 1152) :
    iblk m c 0 t (ix2 a k) = dq m c (t.val / 8 * 512 + a.val) (t.val % 8 * 1152 + k.val) := by
  obtain ⟨e0, e1, e2, e3, e4, e5⟩ := idx_facts t
  blk_simp [iblk]
  refine (congrFun (V_main_arg0 m c) _).trans (at2_of _ _ _ _ ?_ ?_)
  · blk_ext [e0]
  · blk_ext [e0]

theorem blk1 (b : Fin 1024) (k : Fin 1152) :
    iblk m c 1 t (ix3 0 b k) = wt m c (t.val % 8 / 2) b.val (t.val % 8 % 2 * 1152 + k.val) := by
  obtain ⟨e0, e1, e2, e3, e4, e5⟩ := idx_facts t
  blk_simp [iblk]
  refine (congrFun (V_main_arg1 m c) _).trans (at3_of _ _ _ _ _ ?_ ?_ ?_)
  · blk_simp [e1]
    rfl
  · blk_ext [e1]
  · blk_ext [e1]

theorem blk2 (a : Fin 512) (k : Fin 1024) :
    iblk m c 2 t (ix2 a k) = at2 (p := 8192) (q := 1024) (m ((c : Thread nD τ).loc main_arg2)) (t.val / 8 * 512 + a.val) k.val := by
  obtain ⟨e0, e1, e2, e3, e4, e5⟩ := idx_facts t
  blk_simp [iblk]
  refine (congrFun (V_main_arg2 m c) _).trans (at2_of _ _ _ _ ?_ ?_)
  · blk_ext [e2]
  · blk_ext [e2]

theorem blk3 (k : Fin 1024) :
    iblk m c 3 t (ix2 0 k) = m ((c : Thread nD τ).loc main_arg3) (ix1 k) := by
  obtain ⟨e0, e1, e2, e3, e4, e5⟩ := idx_facts t
  have h : shapeCast S1x1024 ⟪m,c,3⟫ shapeCasts_S1024_S1x1024 (ix2 0 k) = m ((c : Thread nD τ).loc main_arg3) (ix1 k) := by
    pointwise []
  refine Eq.trans ?_ h
  blk_simp [iblk]
  refine (congrFun (V_v0 m c) _).trans (congrArg _ (funext fun d => ?_))
  match d with
  | ⟨0, _⟩ => exact Fin.ext (by blk_ext [e3])
  | ⟨1, _⟩ => exact Fin.ext (by blk_ext [e3])

theorem blk4 (a : Fin 512) (k : Fin 1024) :
    iblk m c 4 t (ix2 a k) = at2 (p := 8192) (q := 1024) (m ((c : Thread nD τ).loc main_arg4)) (t.val / 8 * 512 + a.val) k.val := by
  obtain ⟨e0, e1, e2, e3, e4, e5⟩ := idx_facts t
  blk_simp [iblk]
  refine (congrFun (V_main_arg4 m c) _).trans (at2_of _ _ _ _ ?_ ?_)
  · blk_ext [e4]
  · blk_ext [e4]

theorem step (acc : FVec Ideal S512x1024 .f32) (i : S512x1024.Idx) :
    k0_pay2 (F := Ideal) acc (iblk m c 0 t) (iblk m c 1 t) i = acc i + term m c t.val i := by
  rw [ValueIdx.eq_ix2 i]
  refine (pay2_apply acc _ _ (i 0) (i 1)).trans ?_
  exact congrArg (acc _ + ·) (Finset.sum_congr rfl fun k _ => congrArg₂ (· * ·) (blk0 m c t (i 0) k) (blk1 m c t (i 1) k))

theorem acc_first (h0 : t.val % 8 = 0) (i : S512x1024.Idx) :
    (outsAt0 m c t.val t.isLt).2.2 i = 0 + term m c t.val i := by
  by_cases h1 : t.val % 128 = 0
  · rw [outsAt0_A m c t h0 h1 (by omega)]
    frame_out
    rw [step m c t, pay1_apply]
  · rw [outsAt0_D m c t h0 h1 (by omega)]
    frame_out
    rw [step m c t, pay1_apply]

theorem acc_next (h0 : ¬t.val % 8 = 0) (i : S512x1024.Idx) :
    (outsAt0 m c t.val t.isLt).2.2 i = (outsAt0 m c (t.val - 1) (Nat.lt_of_le_of_lt (Nat.sub_le _ _) t.isLt)).2.2 i + term m c t.val i := by
  have h1 : ¬t.val % 128 = 0 := by omega
  by_cases h2 : t.val % 8 = 7
  · rw [outsAt0_C m c t h0 h1 h2]
    frame_out
    simp only [read_unread_whole]
    rw [step m c t]
  · rw [outsAt0_B m c t h0 h1 h2]
    frame_out
    simp only [read_unread_whole]
    rw [step m c t]

/-- The running product after a point is the sum over the blocks so far. -/
theorem acc_eq (i : S512x1024.Idx) :
    (outsAt0 m c t.val t.isLt).2.2 i = ∑ k ∈ Finset.range (t.val % 8 + 1), term m c (8 * (t.val / 8) + k) i := by
  refine (Pipeline.eq_sum_of_reset_step_apply (fun n h => (outsAt0 m c n h).2.2) 8 (fun _ => 0) (term m c)
    (fun t h i => acc_first m c t h i) (fun t h i => acc_next m c t h i) t i).trans (zero_add _)

/-- The product of the gradient with the joined weights, at one element. -/
def prod (A0 : FVec Ideal S8192x9216 .bf16) (A1 : FVec Ideal S4x1024x2304 .bf16) (r k : ℕ) : EReal :=
  ∑ a : Fin 9216, at2 (p := 8192) (q := 9216) A0 r a.val * at3 (p := 4) (q := 1024) (s := 2304) A1 (a.val / 2304) k (a.val % 2304)

/-- All eight blocks make the whole product. -/
theorem sum_terms (hf : t.val % 8 = 7) (i : S512x1024.Idx) :
    (outsAt0 m c t.val t.isLt).2.2 i = prod ⟪m,c,0⟫ ⟪m,c,1⟫
      (t.val / 8 * 512 + (i 0).val) (i 1).val := by
  rw [acc_eq, hf]
  refine Eq.trans (Finset.sum_congr rfl fun k hk => ?_) (sum_blocks (fun a => dq m c (t.val / 8 * 512 + (i 0).val) a * wt m c (a / 2304) (i 1).val (a % 2304)) 8 1152)
  have hk' : k < 8 := Finset.mem_range.1 hk
  unfold term
  rw [show (8 * (t.val / 8) + k) % 8 = k by omega, show (8 * (t.val / 8) + k) / 8 = t.val / 8 by omega]
  refine Finset.sum_congr rfl fun j _ => ?_
  have hj := j.isLt
  show _ = dq m c _ (1152 * k + j.val) * wt m c ((1152 * k + j.val) / 2304) _ ((1152 * k + j.val) % 2304)
  rw [show (1152 * k + j.val) / 2304 = k / 2 by omega, show (1152 * k + j.val) % 2304 = k % 2 * 1152 + j.val by omega, Nat.mul_comm k 1152]

/-- What the last point of a block of rows writes. -/
theorem out_last (h7 : t.val % 8 = 7) :
    (outsAt0 m c t.val t.isLt).1 = k0_pay6 (F := Ideal) (outsAt0 m c t.val t.isLt).2.2 (iblk m c 2 t) (iblk m c 3 t) (iblk m c 4 t) := by
  rw [outsAt0_C m c t (by omega) (by omega) h7]
  frame_out

/-- The stream's gradient at one element. -/
def dxAt (A0 : FVec Ideal S8192x9216 .bf16) (A1 : FVec Ideal S4x1024x2304 .bf16) (A2 : FVec Ideal S8192x1024 .f32) (A3 : FVec Ideal S1024 .f32)
    (A4 : FVec Ideal S8192x1024 .f32) (r : ℕ) (b : Fin 1024) : EReal :=
  dxK (fun k => at2 (p := 8192) (q := 1024) A2 r k.val) (fun k => prod A0 A1 r k.val) (fun k => A3 (ix1 k)) (at2 (p := 8192) (q := 1024) A4 r b.val) b

/-- The stream's gradient, as an array. -/
def dxArr (A0 : FVec Ideal S8192x9216 .bf16) (A1 : FVec Ideal S4x1024x2304 .bf16) (A2 : FVec Ideal S8192x1024 .f32) (A3 : FVec Ideal S1024 .f32)
    (A4 : FVec Ideal S8192x1024 .f32) : FVec Ideal S8192x1024 .f32 := fun i => dxAt A0 A1 A2 A3 A4 (i 0).val (i 1)

theorem dxK_congr {x x' d d' g g' : Fin 1024 → EReal} {r r' : EReal} (k : Fin 1024) (hx : ∀ k, x k = x' k) (hd : ∀ k, d k = d' k) (hg : ∀ k, g k = g' k)
    (hr : r = r') : dxK x d g r k = dxK x' d' g' r' k := by
  rw [funext hx, funext hd, funext hg, hr]

/-- The result array. -/
theorem final5 : (dats m 0 c).arrAt 5 cfg0.N = dxArr ⟪m,c,0⟫ ⟪m,c,1⟫
    (m ((c : Thread nD τ).loc main_arg2)) ⟪m,c,3⟫ (m ((c : Thread nD τ).loc main_arg4)) := by
  refine (dats m 0 c).arrAt_eq_of_covers 5 _ (by decide +kernel) fun t hf y => ?_
  obtain ⟨e0, e1, e2, e3, e4, e5⟩ := idx_facts t
  have h7 : t.val % 8 = 7 := (flush0_5 t).1 hf
  blk_simp
  rw [after0_5, out_last m c t h7]
  rw [ValueIdx.eq_ix2 y]
  refine (pay6_apply _ _ _ _ (y 0) (y 1)).trans ((dxK_congr (y 1) (fun k => blk2 m c t (y 0) k) (fun k => sum_terms m c t h7 (ix2 (y 0) k)) (fun k => blk3 m c t k)
    (blk4 m c t (y 0) (y 1))).trans ?_)
  unfold dxArr
  refine congrArg₂ (dxAt ⟪m,c,0⟫ ⟪m,c,1⟫ (m ((c : Thread nD τ).loc main_arg2))
    ⟪m,c,3⟫ (m ((c : Thread nD τ).loc main_arg4))) ?_ (Fin.ext ?_)
  · blk_ext [e5]
  · blk_ext [e5]

end call

section reference
open Idealize.ShloMosaic Idealize.ShloMosaic.TcCoe Idealize.SL.Sem Cert.QkvDxRefIdeal Cert.QkvDxRefIdeal.Gen Cert.QkvDxRefIdeal.Read Cert.Finite Cert.Blocks
open Cert.InDxEq (ms dxK half dxK_ref at3 at3_of)

section
variable {A0 : FVec Ideal S8192x9216 .bf16} {A1 : FVec Ideal S4x1024x2304 .bf16} {A2 : FVec Ideal S8192x1024 .f32} {A3 : FVec Ideal S1024 .f32}
  {A4 : FVec Ideal S8192x1024 .f32}

theorem r21 (i : S8192x1024.Idx) : val_main_v21 (F := Ideal) A0 A1 i = prod A0 A1 (i 0).val (i 1).val := by
  have h1 : (i 1).val < 1024 := (i 1).isLt
  rw [val_main_v21_apply]
  unfold prod
  refine Finset.sum_congr rfl fun k _ => ?_
  have hk : k.val < 9216 := k.isLt
  rw [val_main_v20_apply, val_main_v18_apply, val_main_v17_apply, val_main_v16_apply]
  refine congrArg₂ (· * ·) (at2_of (p := 8192) (q := 9216) A0 _ _ _ rfl rfl) (at3_of (p := 4) (q := 1024) (s := 2304) A1 _ _ _ _ ?_ ?_ ?_)
  · show ((i 1).val * 9216 + k.val) / 2304 % 4 = k.val / 2304
    omega
  · show ((i 1).val * 9216 + k.val) / 9216 = (i 1).val
    omega
  · show ((i 1).val * 9216 + k.val) % 2304 = k.val % 2304
    omega

/-- The row `r` of the stream. -/
abbrev xrow (A2 : FVec Ideal S8192x1024 .f32) (r : ℕ) (k : Fin 1024) : EReal := at2 (p := 8192) (q := 1024) A2 r k.val
/-- The row `r` of the gradient before the gain. -/
abbrev drow (A0 : FVec Ideal S8192x9216 .bf16) (A1 : FVec Ideal S4x1024x2304 .bf16) (r : ℕ) (k : Fin 1024) : EReal := prod A0 A1 r k.val
/-- The gain. -/
abbrev grow (A3 : FVec Ideal S1024 .f32) (k : Fin 1024) : EReal := A3 (ix1 k)

theorem r2 (i : S8192x1024.Idx) : A2 i = xrow A2 (i 0).val (i 1) := at2_of (p := 8192) (q := 1024) A2 i _ _ rfl rfl

theorem r6 (i : S8192x1.Idx) : val_main_v6 (F := Ideal) A2 i = ms (xrow A2 (i 0).val) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + _) (Ideal.ofBits .f32 0x44800000#32) + Ideal.ofBits .f32 0x358637BD#32 = _
  have e : ∀ k : Fin 1024, val_main_v0 (F := Ideal) A2 (idx_main_v1 (idx_main_v2 i) k) = xrow A2 (i 0).val k * xrow A2 (i 0).val k := fun k => by
    rw [val_main_v0_apply]
    exact congrArg₂ (· * ·) (r2 _) (r2 _)
  rw [Ideal.ofBits_zero, Finset.sum_congr rfl fun k _ => e k, zero_add]
  rfl

theorem r7 (i : S8192x1.Idx) : val_main_v7 (F := Ideal) A2 i = Ideal.rsqrt (ms (xrow A2 (i 0).val)) := by
  rw [val_main_v7_apply, r6]
  rfl

theorem r10 (i : S8192x1.Idx) : val_main_v10 (F := Ideal) A2 i
    = Ideal.ofBits .f32 0xBF000000#32 * Ideal.div (Ideal.rsqrt (ms (xrow A2 (i 0).val))) (ms (xrow A2 (i 0).val)) := by
  rw [val_main_v10_apply, val_main_v9_apply, val_main_cst_2_apply, val_main_v8_apply, r7, r6]
  rfl

theorem r23 (i : S8192x1024.Idx) : val_main_v23 (F := Ideal) A0 A1 A3 i = drow A0 A1 (i 0).val (i 1) * grow A3 (i 1) := by
  rw [val_main_v23_apply, r21, val_main_v22_apply, val_main_v13_apply]
  refine congrArg (drow A0 A1 (i 0).val (i 1) * ·) (congrArg A3 (funext fun d => ?_))
  match d with
  | ⟨0, _⟩ => rfl

/-- The sum of a row's elements with their gradients. -/
theorem r26 (i : S8192x1.Idx) : val_main_v26 (F := Ideal) A0 A1 A2 A3 i
    = ∑ k, xrow A2 (i 0).val k * (drow A0 A1 (i 0).val k * grow A3 k) := by
  have hi : (i 1).val = 0 := by have : (i 1).val < 1 := (i 1).isLt; omega
  rw [val_main_v26_apply, val_main_v25_apply, val_main_cst_3_apply]
  show Ideal.ofBits .f32 0x00000000#32 + _ = _
  have e : ∀ k : Fin 1024, val_main_v24 (F := Ideal) A0 A1 A2 A3 (idx_main_v25 (idx_main_v26 i) k)
      = xrow A2 (i 0).val k * (drow A0 A1 (i 0).val k * grow A3 k) := fun k => by
    have hr : (idx_main_v25 (idx_main_v26 i) k 0).val = (i 0).val := by
      show (i 0).val * 1 + (i 1).val = _
      omega
    rw [val_main_v24_apply, r23, hr]
    exact congrArg₂ (· * ·) ((r2 _).trans (congrArg (fun r => xrow A2 r k) hr)) rfl
  rw [Ideal.ofBits_zero, Finset.sum_congr rfl fun k _ => e k, zero_add]

theorem r34 (i : S8192x1024.Idx) : val_main_v34 (F := Ideal) A0 A1 A2 A3 i = half (xrow A2 (i 0).val) (drow A0 A1 (i 0).val) (grow A3) := by
  rw [val_main_v34_apply, val_main_v33_apply, val_main_cst_5_apply]
  show Ideal.ofBits .f32 0x00000000#32 + _ = _
  rw [Ideal.ofBits_zero, zero_add, Fin.sum_univ_one, val_main_v32_apply, val_main_v31_apply, val_main_cst_4_apply, val_main_v30_apply, r26, r10]
  rfl

theorem ref_dx : val_main_v38 (F := Ideal) A0 A1 A2 A3 A4 = dxArr A0 A1 A2 A3 A4 := by
  funext i
  rw [val_main_v38_apply, val_main_v37_apply, val_main_v36_apply, val_main_v35_apply, val_main_v29_apply, val_main_v28_apply, val_main_v27_apply,
    r7, r23, r34, r2 (A2 := A2) i, r2 (A2 := A4) i]
  exact dxK_ref (xrow A2 (i 0).val) (drow A0 A1 (i 0).val) (grow A3) (xrow A4 (i 0).val (i 1)) (i 1)

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2, Idealize.ShloMosaic.sem_eq_zero_of_no_sems (by decide) r.2⟩)
    (Cert.QkvDxRefIdeal.Value.run (F := Ideal) m ρ)

set_option maxHeartbeats 4000000 in
/-- Call and reference compute the same array, whatever the arguments hold. -/
theorem algebraic : Cert.algebraic_QkvDxIdeal_QkvDxRefIdeal := by
  intro m ρ m' ρ' _ hagree
  refine ⟨fun c => dxArr (m ((c.tc : Thread _ _).loc Cert.QkvDxIdeal.main_arg0)) (m ((c.tc : Thread _ _).loc Cert.QkvDxIdeal.main_arg1)) (m ((c.tc : Thread _ _).loc Cert.QkvDxIdeal.main_arg2)) (m ((c.tc : Thread _ _).loc Cert.QkvDxIdeal.main_arg3)) (m ((c.tc : Thread _ _).loc Cert.QkvDxIdeal.main_arg4)), ?_, ?_⟩
  · refine (θ_run Cert.QkvDxIdeal.defs _ _).mono (fun r h c => ?_)
      (θ_run_and (Cert.QkvDxIdeal.Gen.unchanged (F := Ideal) m ρ) (Cert.QkvDxIdeal.Gen.run_main (F := Ideal) m ρ))
    exact ⟨((h.2 c).1 5).trans (final5 m c), h.1 c⟩
  · refine (θ_run defs _ _).mono (fun r h c => ?_) (Cert.QkvDxRefIdeal.Value.run (F := Ideal) m' ρ')
    obtain ⟨a0, a1, a2, a3, a4⟩ := hagree c
    refine ⟨((h c).1.trans (val_main_v38_eq _ _)).trans ?_, (h c).2⟩
    rw [a0, a1, a2, a3, a4]; exact ref_dx

end reference

end Cert.QkvDxEq

end
-- ==== Proof.QkvEq.lean ====
/-
  The dilated attention's joint projection: each point makes one block of the product.
-/
module

public import proofs.«01_k».proof.Proof.Gen.QkvIdeal.Value
public import proofs.«01_k».proof.Proof.InDxMath
public import Idealize.ShloMosaic.Lib.Pipeline.ReadBack
public import Idealize.ShloMosaic.Lib.ValueIdx
public import proofs.«01_k».proof.Proof.Gen.QkvRefIdeal.Read
public import proofs.«01_k».proof.Defs

@[expose] public section

set_option maxRecDepth 16384

noncomputable section

namespace Cert.QkvEq

section call
open Idealize.ShloMosaic Idealize.ShloMosaic.TcCoe Idealize.SL.Sem Cert.QkvIdeal Cert.QkvIdeal.Gen Cert.Finite Cert.Blocks Cert.InDxEq
open Idealize.ShloMosaic.Pipeline (Dat)

local notation "⟪" m "," c ",0⟫" => m (Thread.loc (c : Thread nD τ) main_arg0)
local notation "⟪" m "," c ",1⟫" => m (Thread.loc (c : Thread nD τ) main_arg1)

theorem pay1_apply (i : S1024x1152.Idx) : k0_pay1 (F := Ideal) i = 0 := by
  rw [ValueIdx.eq_ix2 i]
  unfold k0_pay1
  pointwise []

theorem pay2_apply (acc : FVec Ideal S1024x1152 .f32) (x : FVec Ideal S1024x1024 .bf16) (w : FVec Ideal S1x1024x1152 .bf16) (a : Fin 1024) (b : Fin 1152) :
    k0_pay2 (F := Ideal) acc x w (ix2 a b) = acc (ix2 a b) + ∑ k : Fin 1024, x (ix2 a k) * w (ix3 0 k b) := by
  unfold k0_pay2
  pointwise []

/-- Where the windows' blocks lie: point `t` takes block `t / 8` of the rows and block `t % 8` of the columns, two to a shard. -/
theorem idx_facts : ∀ t : Fin cfg0.N, win0_0.index t = ![t.val / 8, 0] ∧ win0_1.index t = ![t.val % 8 / 2, 0, t.val % 8 % 2]
    ∧ win0_2.index t = ![t.val / 8, t.val % 8] :=
  (by decide +kernel : ∀ t : Fin grid0.N, _)

/-- The product at row `r` and column `j` of the joined shards. -/
def outAt (A0 : FVec Ideal S8192x1024 .bf16) (A1 : FVec Ideal S4x1024x2304 .bf16) (r j : ℕ) : EReal :=
  ∑ k : Fin 1024, at2 (p := 8192) (q := 1024) A0 r k.val * at3 (p := 4) (q := 1024) (s := 2304) A1 (j / 2304) k.val (j % 2304)

/-- The product, as an array. -/
def outArr (A0 : FVec Ideal S8192x1024 .bf16) (A1 : FVec Ideal S4x1024x2304 .bf16) : FVec Ideal S8192x9216 .f32 := fun i => outAt A0 A1 (i 0).val (i 1).val

variable (m : (ℓ : Loc nD τ sig) → Buf (Elt Ideal) ℓ) (c : Dev nD) (t : Fin cfg0.N)

theorem blk0 (a : Fin 1024) (k : Fin 1024) :
    iblk m c 0 t (ix2 a k) = at2 (p := 8192) (q := 1024) ⟪m,c,0⟫ (t.val / 8 * 1024 + a.val) k.val := by
  obtain ⟨e0, e1, e2⟩ := idx_facts t
  blk_simp [iblk]
  refine at2_of _ _ _ _ ?_ ?_
  · blk_ext [e0]
  · blk_ext [e0]

theorem blk1 (k : Fin 1024) (b : Fin 1152) :
    iblk m c 1 t (ix3 0 k b) = at3 (p := 4) (q := 1024) (s := 2304) ⟪m,c,1⟫ (t.val % 8 / 2) k.val (t.val % 8 % 2 * 1152 + b.val) := by
  obtain ⟨e0, e1, e2⟩ := idx_facts t
  blk_simp [iblk]
  refine at3_of _ _ _ _ _ ?_ ?_ ?_
  · blk_simp [e1]
    rfl
  · blk_ext [e1]
  · blk_ext [e1]

/-- A point's block holds the product at its rows and columns. -/
theorem out_blk (a : Fin 1024) (b : Fin 1152) :
    k0_pay2 (F := Ideal) (k0_pay1 (F := Ideal)) (iblk m c 0 t) (iblk m c 1 t) (ix2 a b)
      = outAt ⟪m,c,0⟫ ⟪m,c,1⟫ (t.val / 8 * 1024 + a.val) (t.val % 8 * 1152 + b.val) := by
  have hb := b.isLt
  refine (pay2_apply _ _ _ a b).trans ?_
  rw [pay1_apply, zero_add]
  unfold outAt
  rw [show (t.val % 8 * 1152 + b.val) / 2304 = t.val % 8 / 2 by omega, show (t.val % 8 * 1152 + b.val) % 2304 = t.val % 8 % 2 * 1152 + b.val by omega]
  exact Finset.sum_congr rfl fun k _ => congrArg₂ (· * ·) (blk0 m c t a k) (blk1 m c t k b)

/-- The result array. -/
theorem final2 : (dats m 0 c).arrAt 2 cfg0.N = outArr ⟪m,c,0⟫ ⟪m,c,1⟫ := by
  refine (dats m 0 c).arrAt_eq_of_covers 2 _ (by decide +kernel) fun t hf y => ?_
  obtain ⟨e0, e1, e2⟩ := idx_facts t
  blk_simp
  rw [after0_2]
  unfold outsAt0
  frame_out
  rw [ValueIdx.eq_ix2 y]
  refine (out_blk m c t (y 0) (y 1)).trans ?_
  refine congrArg₂ (outAt ⟪m,c,0⟫ ⟪m,c,1⟫) ?_ ?_
  · blk_ext [e2]
  · blk_ext [e2]

end call

section reference
open Idealize.ShloMosaic Idealize.ShloMosaic.TcCoe Idealize.SL.Sem Cert.QkvRefIdeal Cert.QkvRefIdeal.Gen Cert.QkvRefIdeal.Read Cert.Finite Cert.Blocks Cert.InDxEq

/-- The reference's product at one element. -/
theorem ref_prod (A0 : FVec Ideal S8192x1024 .bf16) (A1 : FVec Ideal S4x1024x2304 .bf16) (i : S8192x9216.Idx) :
    val_main_v4 (F := Ideal) A0 A1 i = outAt A0 A1 (i 0).val (i 1).val := by
  have h1 : (i 1).val < 9216 := (i 1).isLt
  rw [val_main_v4_apply]
  unfold outAt
  refine Finset.sum_congr rfl fun k _ => ?_
  have hk : k.val < 1024 := k.isLt
  rw [val_main_v0_apply, val_main_v3_apply, val_main_v2_apply, val_main_v1_apply]
  refine congrArg₂ (· * ·) (at2_of (p := 8192) (q := 1024) A0 _ _ _ rfl rfl) (at3_of (p := 4) (q := 1024) (s := 2304) A1 _ _ _ _ ?_ ?_ ?_)
  · show (k.val * 9216 + (i 1).val) / 2304 % 4 = (i 1).val / 2304
    omega
  · show (k.val * 9216 + (i 1).val) / 9216 = k.val
    omega
  · show (k.val * 9216 + (i 1).val) % 2304 = (i 1).val % 2304
    omega

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (Cert.QkvRefIdeal.Value.run (F := Ideal) m ρ)

/-- Call and reference compute the same array, whatever the arguments hold. -/
theorem algebraic : Cert.algebraic_QkvIdeal_QkvRefIdeal := by
  intro m ρ m' ρ' _ hagree
  refine ⟨fun c => outArr (m ((c.tc : Thread _ _).loc Cert.QkvIdeal.main_arg0)) (m ((c.tc : Thread _ _).loc Cert.QkvIdeal.main_arg1)), ?_, ?_⟩
  · exact (θ_run Cert.QkvIdeal.defs _ _).mono (fun r h c => ⟨(h c).1.trans (final2 m c), (h c).2⟩) (Cert.QkvIdeal.Value.run_blocks (F := Ideal) m ρ)
  · refine (θ_run defs _ _).mono (fun r h c => ?_) (Cert.QkvRefIdeal.Value.run (F := Ideal) m' ρ')
    obtain ⟨a0, a1⟩ := hagree c
    refine ⟨((h c).1.trans (val_main_v4_eq _ _)).trans ?_, (h c).2⟩
    rw [a0, a1]; exact funext fun i => ref_prod _ _ i

end reference

end Cert.QkvEq

end
-- ==== Proof.FfnInEq.lean ====
/-
  The SwiGLU half-step's input product and gate: each point makes one block of gate, of up, and of the gated product.
-/
module

public import proofs.«01_k».proof.Proof.Gen.FfnInIdeal.Value
public import proofs.«01_k».proof.Proof.InDxMath
public import Idealize.ShloMosaic.Lib.Pipeline.ReadBack
public import Idealize.ShloMosaic.Lib.ValueIdx
public import proofs.«01_k».proof.Proof.Gen.FfnInRefIdeal.Read
public import proofs.«01_k».proof.Defs

@[expose] public section

set_option maxRecDepth 16384

noncomputable section

namespace Cert.FfnInEq

section call
open Idealize.ShloMosaic Idealize.ShloMosaic.TcCoe Idealize.SL.Sem Cert.FfnInIdeal Cert.FfnInIdeal.Gen Cert.Finite Cert.Blocks Cert.InDxEq
open Idealize.ShloMosaic.Pipeline (Dat)

local notation "⟪" m "," c ",0⟫" => m (Thread.loc (c : Thread nD τ) main_arg0)
local notation "⟪" m "," c ",1⟫" => m (Thread.loc (c : Thread nD τ) main_arg1)

theorem pay1_apply (x : FVec Ideal S512x1024 .bf16) (w : FVec Ideal S1x1024x1408 .bf16) (a : Fin 512) (b : Fin 1408) :
    k0_pay1 (F := Ideal) x w (ix2 a b) = ∑ k : Fin 1024, x (ix2 a k) * w (ix3 0 k b) := by
  unfold k0_pay1
  pointwise []

theorem pay3_apply (x : FVec Ideal S512x1024 .bf16) (w : FVec Ideal S1x1024x1408 .bf16) (a : Fin 512) (b : Fin 1408) :
    k0_pay3 (F := Ideal) x w (ix2 a b) = ∑ k : Fin 1024, x (ix2 a k) * w (ix3 0 k b) := by
  unfold k0_pay3
  pointwise [pay1_apply]

theorem pay2_eq (x : FVec Ideal S512x1024 .bf16) (w : FVec Ideal S1x1024x1408 .bf16) : k0_pay2 (F := Ideal) x w = k0_pay1 (F := Ideal) x w := rfl

theorem pay4_apply (x : FVec Ideal S512x1024 .bf16) (w : FVec Ideal S1x1024x1408 .bf16) (a : Fin 512) (b : Fin 1408) :
    k0_pay4 (F := Ideal) x w (ix2 a b) = ∑ k : Fin 1024, x (ix2 a k) * w (ix3 0 k b) := by
  unfold k0_pay4
  rw [pay2_eq]
  pointwise [pay1_apply]

/-- The gated product of two numbers. -/
def act (g u : EReal) : EReal := g * Ideal.div ((1 : ℝ) : EReal) (((1 : ℝ) : EReal) + Ideal.exp (-g)) * u

theorem pay5_apply (x : FVec Ideal S512x1024 .bf16) (w v : FVec Ideal S1x1024x1408 .bf16) (a : Fin 512) (b : Fin 1408) :
    k0_pay5 (F := Ideal) x w v (ix2 a b) = act (k0_pay3 (F := Ideal) x w (ix2 a b)) (k0_pay4 (F := Ideal) x v (ix2 a b)) := by
  rw [pay3_apply, pay4_apply]
  unfold k0_pay5
  rw [pay2_eq]
  pointwise [pay1_apply]
  rfl

/-- Where the windows' blocks lie: point `t` takes block `t % 16` of the rows, shard `t / 16` for gate and shard `t / 16 + 2` for up. -/
theorem idx_facts : ∀ t : Fin cfg0.N, win0_0.index t = ![t.val % 16, 0] ∧ win0_1.index t = ![t.val / 16, 0, 0] ∧ win0_2.index t = ![t.val / 16 + 2, 0, 0]
    ∧ win0_3.index t = ![t.val % 16, t.val / 16] ∧ win0_4.index t = ![t.val % 16, t.val / 16] ∧ win0_5.index t = ![t.val % 16, t.val / 16] :=
  (by decide +kernel : ∀ t : Fin grid0.N, _)

/-- The product at row `r` and column `j` of the joined shards. -/
def outAt (A0 : FVec Ideal S8192x1024 .bf16) (A1 : FVec Ideal S4x1024x1408 .bf16) (r j : ℕ) : EReal :=
  ∑ k : Fin 1024, at2 (p := 8192) (q := 1024) A0 r k.val * at3 (p := 4) (q := 1024) (s := 1408) A1 (j / 1408) k.val (j % 1408)

/-- The gate, as an array: the first half of the columns. -/
def gateArr (A0 : FVec Ideal S8192x1024 .bf16) (A1 : FVec Ideal S4x1024x1408 .bf16) : FVec Ideal S8192x2816 .bf16 := fun i => outAt A0 A1 (i 0).val (i 1).val

/-- The up projection, as an array: the second half. -/
def upArr (A0 : FVec Ideal S8192x1024 .bf16) (A1 : FVec Ideal S4x1024x1408 .bf16) : FVec Ideal S8192x2816 .bf16 := fun i => outAt A0 A1 (i 0).val (2816 + (i 1).val)

/-- The gated product of the two, as an array. -/
def actArr (A0 : FVec Ideal S8192x1024 .bf16) (A1 : FVec Ideal S4x1024x1408 .bf16) : FVec Ideal S8192x2816 .bf16 := fun i =>
  act (outAt A0 A1 (i 0).val (i 1).val) (outAt A0 A1 (i 0).val (2816 + (i 1).val))

variable (m : (ℓ : Loc nD τ sig) → Buf (Elt Ideal) ℓ) (c : Dev nD) (t : Fin cfg0.N)

theorem blk0 (a : Fin 512) (k : Fin 1024) :
    iblk m c 0 t (ix2 a k) = at2 (p := 8192) (q := 1024) ⟪m,c,0⟫ (t.val % 16 * 512 + a.val) k.val := by
  obtain ⟨e0, e1, e2, e3, e4, e5⟩ := idx_facts t
  blk_simp [iblk]
  refine at2_of _ _ _ _ ?_ ?_
  · blk_ext [e0]
  · blk_ext [e0]

theorem blk1 (k : Fin 1024) (b : Fin 1408) :
    iblk m c 1 t (ix3 0 k b) = at3 (p := 4) (q := 1024) (s := 1408) ⟪m,c,1⟫ (t.val / 16) k.val b.val := by
  obtain ⟨e0, e1, e2, e3, e4, e5⟩ := idx_facts t
  blk_simp [iblk]
  refine at3_of _ _ _ _ _ ?_ ?_ ?_
  · blk_simp [e1]
    rfl
  · blk_ext [e1]
  · blk_ext [e1]

theorem blk2 (k : Fin 1024) (b : Fin 1408) :
    iblk m c 2 t (ix3 0 k b) = at3 (p := 4) (q := 1024) (s := 1408) ⟪m,c,1⟫ (t.val / 16 + 2) k.val b.val := by
  obtain ⟨e0, e1, e2, e3, e4, e5⟩ := idx_facts t
  blk_simp [iblk]
  refine at3_of _ _ _ _ _ ?_ ?_ ?_
  · blk_simp [e2]
    rfl
  · blk_ext [e2]
  · blk_ext [e2]

/-- The gate's block holds the product at the columns of its shard. -/
theorem gate_blk (a : Fin 512) (b : Fin 1408) :
    k0_pay3 (F := Ideal) (iblk m c 0 t) (iblk m c 1 t) (ix2 a b)
      = outAt ⟪m,c,0⟫ ⟪m,c,1⟫ (t.val % 16 * 512 + a.val) (t.val / 16 * 1408 + b.val) := by
  have hb := b.isLt
  refine (pay3_apply _ _ a b).trans ?_
  unfold outAt
  rw [show (t.val / 16 * 1408 + b.val) / 1408 = t.val / 16 by omega, show (t.val / 16 * 1408 + b.val) % 1408 = b.val by omega]
  exact Finset.sum_congr rfl fun k _ => congrArg₂ (· * ·) (blk0 m c t a k) (blk1 m c t k b)

/-- The up projection's block holds the product at the columns of its shard. -/
theorem up_blk (a : Fin 512) (b : Fin 1408) :
    k0_pay4 (F := Ideal) (iblk m c 0 t) (iblk m c 2 t) (ix2 a b)
      = outAt ⟪m,c,0⟫ ⟪m,c,1⟫ (t.val % 16 * 512 + a.val) (2816 + (t.val / 16 * 1408 + b.val)) := by
  have hb := b.isLt
  refine (pay4_apply _ _ a b).trans ?_
  unfold outAt
  rw [show (2816 + (t.val / 16 * 1408 + b.val)) / 1408 = t.val / 16 + 2 by omega, show (2816 + (t.val / 16 * 1408 + b.val)) % 1408 = b.val by omega]
  exact Finset.sum_congr rfl fun k _ => congrArg₂ (· * ·) (blk0 m c t a k) (blk2 m c t k b)

/-- The first result array. -/
theorem final3 : (dats m 0 c).arrAt 3 cfg0.N = gateArr ⟪m,c,0⟫ ⟪m,c,1⟫ := by
  refine (dats m 0 c).arrAt_eq_of_covers 3 _ (by decide +kernel) fun t hf y => ?_
  obtain ⟨e0, e1, e2, e3, e4, e5⟩ := idx_facts t
  blk_simp
  rw [after0_3]
  frame_out
  rw [ValueIdx.eq_ix2 y]
  refine (gate_blk m c t (y 0) (y 1)).trans ?_
  refine congrArg₂ (outAt ⟪m,c,0⟫ ⟪m,c,1⟫) ?_ ?_
  · blk_ext [e3]
  · blk_ext [e3]

/-- The second result array. -/
theorem final4 : (dats m 0 c).arrAt 4 cfg0.N = upArr ⟪m,c,0⟫ ⟪m,c,1⟫ := by
  refine (dats m 0 c).arrAt_eq_of_covers 4 _ (by decide +kernel) fun t hf y => ?_
  obtain ⟨e0, e1, e2, e3, e4, e5⟩ := idx_facts t
  blk_simp
  rw [after0_4]
  frame_out
  rw [ValueIdx.eq_ix2 y]
  refine (up_blk m c t (y 0) (y 1)).trans ?_
  refine congrArg₂ (fun r j => outAt ⟪m,c,0⟫ ⟪m,c,1⟫ r (2816 + j)) ?_ ?_
  · blk_ext [e4]
  · blk_ext [e4]

/-- The third result array. -/
theorem final5 : (dats m 0 c).arrAt 5 cfg0.N = actArr ⟪m,c,0⟫ ⟪m,c,1⟫ := by
  refine (dats m 0 c).arrAt_eq_of_covers 5 _ (by decide +kernel) fun t hf y => ?_
  obtain ⟨e0, e1, e2, e3, e4, e5⟩ := idx_facts t
  blk_simp
  rw [after0_5]
  frame_out
  rw [ValueIdx.eq_ix2 y]
  refine ((pay5_apply _ _ _ (y 0) (y 1)).trans (congrArg₂ act (gate_blk m c t (y 0) (y 1)) (up_blk m c t (y 0) (y 1)))).trans ?_
  refine congrArg₂ (fun r j => act (outAt ⟪m,c,0⟫ ⟪m,c,1⟫ r j) (outAt ⟪m,c,0⟫ ⟪m,c,1⟫ r (2816 + j))) ?_ ?_
  · blk_ext [e5]
  · blk_ext [e5]

end call

section reference
open Idealize.ShloMosaic Idealize.ShloMosaic.TcCoe Idealize.SL.Sem Cert.FfnInRefIdeal Cert.FfnInRefIdeal.Gen Cert.FfnInRefIdeal.Read Cert.Finite Cert.Blocks Cert.InDxEq

/-- The reference's product at one element. -/
theorem ref_prod (A0 : FVec Ideal S8192x1024 .bf16) (A1 : FVec Ideal S4x1024x1408 .bf16) (i : S8192x5632.Idx) :
    val_main_v4 (F := Ideal) A0 A1 i = outAt A0 A1 (i 0).val (i 1).val := by
  have h1 : (i 1).val < 5632 := (i 1).isLt
  rw [val_main_v4_apply]
  unfold outAt
  refine Finset.sum_congr rfl fun k _ => ?_
  have hk : k.val < 1024 := k.isLt
  rw [val_main_v0_apply, val_main_v3_apply, val_main_v2_apply, val_main_v1_apply]
  refine congrArg₂ (· * ·) (at2_of (p := 8192) (q := 1024) A0 _ _ _ rfl rfl) (at3_of (p := 4) (q := 1024) (s := 1408) A1 _ _ _ _ ?_ ?_ ?_)
  · show (k.val * 5632 + (i 1).val) / 1408 % 4 = (i 1).val / 1408
    omega
  · show (k.val * 5632 + (i 1).val) / 5632 = k.val
    omega
  · show (k.val * 5632 + (i 1).val) % 1408 = (i 1).val % 1408
    omega

section
variable (A0 : FVec Ideal S8192x1024 .bf16) (A1 : FVec Ideal S4x1024x1408 .bf16)

theorem ref_gate (i : S8192x2816.Idx) : val_main_v5 (F := Ideal) A0 A1 i = outAt A0 A1 (i 0).val (i 1).val := by
  rw [val_main_v5_apply, ref_prod]

theorem ref_up (i : S8192x2816.Idx) : val_main_v6 (F := Ideal) A0 A1 i = outAt A0 A1 (i 0).val (2816 + (i 1).val) := by
  rw [val_main_v6_apply, ref_prod]

theorem ref_act (i : S8192x2816.Idx) : val_main_v11 (F := Ideal) A0 A1 i = actArr A0 A1 i := by
  rw [val_main_v11_apply, val_main_v10_apply, val_main_v9_apply, val_main_call0_v5_apply, val_main_call0_v4_apply, val_main_call0_cst_0_apply, val_main_call0_v3_apply,
    val_main_call0_v2_apply, val_main_call0_cst_apply, val_main_call0_v1_apply, val_main_call0_v0_apply, ref_gate, ref_up]
  show outAt A0 A1 _ _ * Ideal.div (Ideal.ofBits .f32 0x3F800000#32) (Ideal.ofBits .f32 0x3F800000#32 + Ideal.exp (-outAt A0 A1 _ _)) * outAt A0 A1 _ _ = _
  rw [ofBits_one]
  rfl

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2.2, Idealize.ShloMosaic.sem_eq_zero_of_no_sems (by decide) r.2⟩)
    (Cert.FfnInRefIdeal.Value.run (F := Ideal) m ρ)

/-- Call and reference compute the same three arrays, whatever the arguments hold. -/
theorem algebraic : Cert.algebraic_FfnInIdeal_FfnInRefIdeal := by
  intro m ρ m' ρ' _ hagree
  refine ⟨fun c => gateArr (m ((c.tc : Thread _ _).loc Cert.FfnInIdeal.main_arg0)) (m ((c.tc : Thread _ _).loc Cert.FfnInIdeal.main_arg1)), fun c => upArr (m ((c.tc : Thread _ _).loc Cert.FfnInIdeal.main_arg0)) (m ((c.tc : Thread _ _).loc Cert.FfnInIdeal.main_arg1)),
    fun c => actArr (m ((c.tc : Thread _ _).loc Cert.FfnInIdeal.main_arg0)) (m ((c.tc : Thread _ _).loc Cert.FfnInIdeal.main_arg1)), ?_, ?_⟩
  · exact (θ_run Cert.FfnInIdeal.defs _ _).mono (fun r h c => ⟨(h c).1.trans (final3 m c), (h c).2.1.trans (final4 m c), (h c).2.2.1.trans (final5 m c), (h c).2.2.2⟩)
      (Cert.FfnInIdeal.Value.run_blocks (F := Ideal) m ρ)
  · refine (θ_run defs _ _).mono (fun r h c => ?_) (Cert.FfnInRefIdeal.Value.run (F := Ideal) m' ρ')
    obtain ⟨a0, a1⟩ := hagree c
    refine ⟨((h c).1.trans (val_main_v7_eq _ _)).trans ?_, ((h c).2.1.trans (val_main_v8_eq _ _)).trans ?_, ((h c).2.2.1.trans (val_main_v11_eq _ _)).trans ?_, (h c).2.2.2⟩
    · rw [a0, a1]; exact funext fun i => ref_gate _ _ i
    · rw [a0, a1]; exact funext fun i => ref_up _ _ i
    · rw [a0, a1]; exact funext fun i => ref_act _ _ i

end reference

end Cert.FfnInEq

end
-- ==== Proof.FfnOutMath.lean ====
/-
  The SwiGLU half-step's output product, the residual added, and a norm of the sum, over the extended reals.
-/
module

public import proofs.«01_k».proof.Proof.InDxMath

@[expose] public section

noncomputable section

namespace Cert.FfnOutEq

open Idealize.ShloMosaic Cert.Finite Cert.Blocks Cert.InDxEq

/-- The residual and half the product, at row `r` and column `j`. -/
def outAt (A0 : (⟨2, ![8192, 2816]⟩ : Shape).Idx → EReal) (A1 : (⟨3, ![1, 2816, 1024]⟩ : Shape).Idx → EReal) (A2 : (⟨2, ![8192, 1024]⟩ : Shape).Idx → EReal)
    (r j : ℕ) : EReal :=
  at2 A2 r j + (∑ k : Fin 2816, at2 A0 r k.val * at3 A1 0 k.val j) * ((1 / 2 : ℝ) : EReal)

/-- One element of a row's norm, times the gain there. -/
def nrm (x : Fin 1024 → EReal) (g : EReal) (b : Fin 1024) : EReal := x b * Ideal.rsqrt (ms x) * g

/-- The norm of row `r` of that sum, times the gain. -/
def normAt (A0 : (⟨2, ![8192, 2816]⟩ : Shape).Idx → EReal) (A1 : (⟨3, ![1, 2816, 1024]⟩ : Shape).Idx → EReal) (A2 : (⟨2, ![8192, 1024]⟩ : Shape).Idx → EReal)
    (g : (⟨1, ![1024]⟩ : Shape).Idx → EReal) (r : ℕ) (b : Fin 1024) : EReal :=
  nrm (fun k => outAt A0 A1 A2 r k.val) (g (ix1 b)) b

theorem nrm_congr {x x' : Fin 1024 → EReal} {g g' : EReal} (b : Fin 1024) (hx : ∀ k, x k = x' k) (hg : g = g') : nrm x g b = nrm x' g' b := by
  rw [funext hx, hg]

end Cert.FfnOutEq

end
-- ==== Proof.FfnOutEq.lean ====
/-
  The SwiGLU half-step's output product, with no norm after it: the kernel keeps a running product over two blocks of columns and at
  the second adds half of it to the residual.
-/
module

public import proofs.«01_k».proof.Proof.Gen.FfnOutIdeal.Value
public import proofs.«01_k».proof.Proof.FfnOutMath
public import Idealize.ShloMosaic.Lib.Pipeline.ReadBack
public import Idealize.ShloMosaic.Lib.ValueIdx
public import proofs.«01_k».proof.Proof.Gen.FfnOutRefIdeal.Read
public import proofs.«01_k».proof.Defs

@[expose] public section

set_option maxRecDepth 16384

noncomputable section

namespace Cert.FfnOutEq

section call
open Idealize.ShloMosaic Idealize.ShloMosaic.TcCoe Idealize.SL.Sem Idealize.ShloMosaic.StableHlo Cert.FfnOutIdeal Cert.FfnOutIdeal.Gen Cert.Finite Cert.Blocks
open Cert.InDxEq (ms at3 at3_of)
open Cert.FfnOutEq (outAt nrm normAt nrm_congr)
open Idealize.ShloMosaic.Pipeline (Dat)

local notation "⟪" m "," c ",0⟫" => m (Thread.loc (c : Thread nD τ) main_arg0)
local notation "⟪" m "," c ",1⟫" => m (Thread.loc (c : Thread nD τ) main_arg1)
local notation "⟪" m "," c ",2⟫" => m (Thread.loc (c : Thread nD τ) main_arg2)

theorem pay1_apply (i : S1024x1024.Idx) : k0_pay1 (F := Ideal) i = 0 := by
  rw [ValueIdx.eq_ix2 i]
  unfold k0_pay1
  pointwise []

theorem pay2_apply (acc : FVec Ideal S1024x1024 .f32) (x : FVec Ideal S1024x1408 .bf16) (w : FVec Ideal S1x1408x1024 .bf16) (a : Fin 1024) (b : Fin 1024) :
    k0_pay2 (F := Ideal) acc x w (ix2 a b) = acc (ix2 a b) + ∑ k : Fin 1408, x (ix2 a k) * w (ix3 0 k b) := by
  unfold k0_pay2
  pointwise []

theorem pay3_apply (acc h : FVec Ideal S1024x1024 .f32) (a : Fin 1024) (b : Fin 1024) :
    k0_pay3 (F := Ideal) acc h (ix2 a b) = h (ix2 a b) + acc (ix2 a b) * ((1 / 2 : ℝ) : EReal) := by
  unfold k0_pay3
  pointwise []
  rw [ofBits_half]

/-- Where the windows' blocks lie: point `t` takes block `t / 2` of the rows and block `t % 2` of the columns. -/
theorem idx_facts : ∀ t : Fin cfg0.N, win0_0.index t = ![t.val / 2, t.val % 2] ∧ win0_1.index t = ![0, t.val % 2, 0] ∧ win0_2.index t = ![t.val / 2, 0] ∧ win0_3.index t = ![t.val / 2, 0] :=
  (by decide +kernel : ∀ t : Fin grid0.N, _)

variable (m : (ℓ : Loc nD τ sig) → Buf (Elt Ideal) ℓ) (c : Dev nD) (t : Fin cfg0.N)

/-- What block `n` of the columns puts to the product at one element. -/
def term (n : ℕ) (i : S1024x1024.Idx) : EReal :=
  ∑ k : Fin 1408, at2 (p := 8192) (q := 2816) ⟪m,c,0⟫ (n / 2 * 1024 + (i 0).val) (n % 2 * 1408 + k.val) * at3 (p := 1) (q := 2816) (s := 1024) ⟪m,c,1⟫ 0 (n % 2 * 1408 + k.val) (i 1).val

theorem blk0 (a : Fin 1024) (k : Fin 1408) :
    iblk m c 0 t (ix2 a k) = at2 (p := 8192) (q := 2816) ⟪m,c,0⟫ (t.val / 2 * 1024 + a.val) (t.val % 2 * 1408 + k.val) := by
  obtain ⟨e0, e1, e2, e3⟩ := idx_facts t
  blk_simp [iblk]
  refine at2_of _ _ _ _ ?_ ?_
  · blk_ext [e0]
  · blk_ext [e0]

theorem blk1 (k : Fin 1408) (b : Fin 1024) :
    iblk m c 1 t (ix3 0 k b) = at3 (p := 1) (q := 2816) (s := 1024) ⟪m,c,1⟫ 0 (t.val % 2 * 1408 + k.val) b.val := by
  obtain ⟨e0, e1, e2, e3⟩ := idx_facts t
  blk_simp [iblk]
  refine at3_of _ _ _ _ _ ?_ ?_ ?_
  · blk_simp [e1]
    rfl
  · blk_ext [e1]
  · blk_ext [e1]

theorem blk2 (a : Fin 1024) (k : Fin 1024) :
    iblk m c 2 t (ix2 a k) = at2 (p := 8192) (q := 1024) ⟪m,c,2⟫ (t.val / 2 * 1024 + a.val) k.val := by
  obtain ⟨e0, e1, e2, e3⟩ := idx_facts t
  blk_simp [iblk]
  refine at2_of _ _ _ _ ?_ ?_
  · blk_ext [e2]
  · blk_ext [e2]

theorem step (acc : FVec Ideal S1024x1024 .f32) (i : S1024x1024.Idx) :
    k0_pay2 (F := Ideal) acc (iblk m c 0 t) (iblk m c 1 t) i = acc i + term m c t.val i := by
  rw [ValueIdx.eq_ix2 i]
  refine (pay2_apply acc _ _ (i 0) (i 1)).trans ?_
  exact congrArg (acc _ + ·) (Finset.sum_congr rfl fun k _ => congrArg₂ (· * ·) (blk0 m c t (i 0) k) (blk1 m c t k (i 1)))

theorem acc_first (h0 : t.val % 2 = 0) (i : S1024x1024.Idx) :
    (outsAt0 m c t.val t.isLt).2 i = 0 + term m c t.val i := by
  rw [outsAt0_A m c t h0 (by omega)]
  frame_out
  rw [step m c t, pay1_apply]

theorem acc_next (h0 : ¬t.val % 2 = 0) (i : S1024x1024.Idx) :
    (outsAt0 m c t.val t.isLt).2 i = (outsAt0 m c (t.val - 1) (Nat.lt_of_le_of_lt (Nat.sub_le _ _) t.isLt)).2 i + term m c t.val i := by
  rw [outsAt0_B m c t h0 (by omega)]
  frame_out
  simp only [read_unread_whole]
  rw [step m c t]

/-- Both blocks make the whole product. -/
theorem sum_terms (hf : t.val % 2 = 1) (a : Fin 1024) (b : Fin 1024) :
    (outsAt0 m c t.val t.isLt).2 (ix2 a b) = ∑ k : Fin 2816, at2 (p := 8192) (q := 2816) ⟪m,c,0⟫ (t.val / 2 * 1024 + a.val) k.val * at3 (p := 1) (q := 2816) (s := 1024) ⟪m,c,1⟫ 0 k.val b.val := by
  refine ((Pipeline.eq_sum_of_reset_step_apply (fun n h => (outsAt0 m c n h).2) 2 (fun _ => 0) (term m c)
    (fun t h i => acc_first m c t h i) (fun t h i => acc_next m c t h i) t (ix2 a b)).trans (zero_add _)).trans ?_
  rw [hf]
  refine Eq.trans (Finset.sum_congr rfl fun k hk => ?_) (sum_blocks (fun k => at2 (p := 8192) (q := 2816) ⟪m,c,0⟫ (t.val / 2 * 1024 + a.val) k * at3 (p := 1) (q := 2816) (s := 1024) ⟪m,c,1⟫ 0 k b.val) 2 1408)
  have hk' : k < 2 := Finset.mem_range.1 hk
  unfold term
  rw [show (2 * (t.val / 2) + k) % 2 = k by omega, show (2 * (t.val / 2) + k) / 2 = t.val / 2 by omega]
  exact Finset.sum_congr rfl fun j _ => by rw [Nat.mul_comm k 1408]; rfl

/-- What the second point adds up to. -/
theorem out_blk (hf : t.val % 2 = 1) (a : Fin 1024) (b : Fin 1024) :
    k0_pay3 (F := Ideal) (outsAt0 m c t.val t.isLt).2 (iblk m c 2 t) (ix2 a b) = outAt ⟪m,c,0⟫ ⟪m,c,1⟫ ⟪m,c,2⟫ (t.val / 2 * 1024 + a.val) b.val :=
  (pay3_apply _ _ a b).trans (congrArg₂ (fun x y => x + y * ((1 / 2 : ℝ) : EReal)) (blk2 m c t a b) (sum_terms m c t hf a b))

/-- The sum, as an array. -/
def outArr (A0 : FVec Ideal S8192x2816 .bf16) (A1 : FVec Ideal S1x2816x1024 .bf16) (A2 : FVec Ideal S8192x1024 .f32) : FVec Ideal S8192x1024 .f32 :=
  fun i => outAt A0 A1 A2 (i 0).val (i 1).val

theorem out3 (h1 : t.val % 2 = 1) : (outsAt0 m c t.val t.isLt).1 = k0_pay3 (F := Ideal) (outsAt0 m c t.val t.isLt).2 (iblk m c 2 t) := by
  rw [outsAt0_B m c t (by omega) h1]
  frame_out

/-- The result array. -/
theorem final3 : (dats m 0 c).arrAt 3 cfg0.N = outArr ⟪m,c,0⟫ ⟪m,c,1⟫ ⟪m,c,2⟫ := by
  refine (dats m 0 c).arrAt_eq_of_covers 3 _ (by decide +kernel) fun t hf y => ?_
  obtain ⟨e0, e1, e2, e3⟩ := idx_facts t
  have h1 : t.val % 2 = 1 := (flush0_3 t).1 hf
  blk_simp
  rw [after0_3, out3 m c t h1, ValueIdx.eq_ix2 y]
  refine (out_blk m c t h1 (y 0) (y 1)).trans ?_
  refine congrArg₂ (outAt ⟪m,c,0⟫ ⟪m,c,1⟫ ⟪m,c,2⟫) ?_ ?_
  · blk_ext [e3]
  · blk_ext [e3]

end call

section reference
open Idealize.ShloMosaic Idealize.ShloMosaic.TcCoe Idealize.SL.Sem Cert.FfnOutRefIdeal Cert.FfnOutRefIdeal.Gen Cert.FfnOutRefIdeal.Read Cert.Finite Cert.Blocks
open Cert.InDxEq (ms at3 at3_of)
open Cert.FfnOutEq (outAt nrm normAt)

section
variable {A0 : FVec Ideal S8192x2816 .bf16} {A1 : FVec Ideal S1x2816x1024 .bf16} {A2 : FVec Ideal S8192x1024 .f32}

theorem r7 (i : S8192x1024.Idx) : val_main_v7 (F := Ideal) A0 A1 A2 i = outAt A0 A1 A2 (i 0).val (i 1).val := by
  have h1 : (i 1).val < 1024 := (i 1).isLt
  rw [val_main_v7_apply, val_main_v6_apply, val_main_v5_apply, val_main_cst_apply, val_main_v4_apply]
  show A2 i + Ideal.ofBits .f32 0x3F000000#32 * _ = _
  rw [ofBits_half, mul_comm]
  refine congrArg₂ (fun x y => x + y * ((1 / 2 : ℝ) : EReal)) (at2_of (p := 8192) (q := 1024) A2 i _ _ rfl rfl) (Finset.sum_congr rfl fun k _ => ?_)
  rw [val_main_v0_apply, val_main_v3_apply, val_main_v2_apply, val_main_v1_apply]
  refine congrArg₂ (· * ·) (at2_of (p := 8192) (q := 2816) A0 _ _ _ rfl rfl) (at3_of (p := 1) (q := 2816) (s := 1024) A1 _ _ _ _ ?_ ?_ ?_)
  · first
    | rfl
    | (show (k.val * 1024 + (i 1).val) / 1024 % 1 = 0; omega)
  · show (k.val * 1024 + (i 1).val) / 1024 = k.val
    omega
  · show (k.val * 1024 + (i 1).val) % 1024 = (i 1).val
    omega

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Cert.FfnOutRefIdeal.Value.run (F := Ideal) m ρ)

set_option maxHeartbeats 4000000 in
/-- Call and reference compute the same array, whatever the arguments hold. -/
theorem algebraic : Cert.algebraic_FfnOutIdeal_FfnOutRefIdeal := by
  intro m ρ m' ρ' _ hagree
  refine ⟨fun c => outArr (m ((c.tc : Thread _ _).loc Cert.FfnOutIdeal.main_arg0)) (m ((c.tc : Thread _ _).loc Cert.FfnOutIdeal.main_arg1)) (m ((c.tc : Thread _ _).loc Cert.FfnOutIdeal.main_arg2)), ?_, ?_⟩
  · exact (θ_run Cert.FfnOutIdeal.defs _ _).mono (fun r h c => ⟨(h c).1.trans (final3 m c), (h c).2⟩) (Cert.FfnOutIdeal.Value.run_blocks (F := Ideal) m ρ)
  · refine (θ_run defs _ _).mono (fun r h c => ?_) (Cert.FfnOutRefIdeal.Value.run (F := Ideal) m' ρ')
    obtain ⟨a0, a1, a2⟩ := hagree c
    refine ⟨((h c).1.trans (val_main_v7_eq _ _ _)).trans ?_, (h c).2⟩
    rw [a0, a1, a2]; exact funext fun i => r7 i

end reference

end Cert.FfnOutEq

end
-- ==== Proof.FfnOut1Eq.lean ====
/-
  The SwiGLU half-step's output product, with one norm after it: the kernel keeps a running product over two blocks of columns and at
  the second adds half of it to the residual.
-/
module

public import proofs.«01_k».proof.Proof.Gen.FfnOut1Ideal.Value
public import proofs.«01_k».proof.Proof.FfnOutMath
public import Idealize.ShloMosaic.Lib.Pipeline.ReadBack
public import Idealize.ShloMosaic.Lib.ValueIdx
public import proofs.«01_k».proof.Proof.Gen.FfnOut1RefIdeal.Read
public import proofs.«01_k».proof.Defs

@[expose] public section

set_option maxRecDepth 16384

noncomputable section

namespace Cert.FfnOut1Eq

section call
open Idealize.ShloMosaic Idealize.ShloMosaic.TcCoe Idealize.SL.Sem Idealize.ShloMosaic.StableHlo Cert.FfnOut1Ideal Cert.FfnOut1Ideal.Gen Cert.Finite Cert.Blocks
open Cert.InDxEq (ms at3 at3_of)
open Cert.FfnOutEq (outAt nrm normAt nrm_congr)
open Idealize.ShloMosaic.Pipeline (Dat)

local notation "⟪" m "," c ",0⟫" => m (Thread.loc (c : Thread nD τ) main_arg0)
local notation "⟪" m "," c ",1⟫" => m (Thread.loc (c : Thread nD τ) main_arg1)
local notation "⟪" m "," c ",2⟫" => m (Thread.loc (c : Thread nD τ) main_arg2)
local notation "⟪" m "," c ",3⟫" => m (Thread.loc (c : Thread nD τ) main_arg3)

theorem pay1_apply (i : S512x1024.Idx) : k0_pay1 (F := Ideal) i = 0 := by
  rw [ValueIdx.eq_ix2 i]
  unfold k0_pay1
  pointwise []

theorem pay2_apply (acc : FVec Ideal S512x1024 .f32) (x : FVec Ideal S512x1408 .bf16) (w : FVec Ideal S1x1408x1024 .bf16) (a : Fin 512) (b : Fin 1024) :
    k0_pay2 (F := Ideal) acc x w (ix2 a b) = acc (ix2 a b) + ∑ k : Fin 1408, x (ix2 a k) * w (ix3 0 k b) := by
  unfold k0_pay2
  pointwise []

theorem pay3_apply (acc h : FVec Ideal S512x1024 .f32) (a : Fin 512) (b : Fin 1024) :
    k0_pay3 (F := Ideal) acc h (ix2 a b) = h (ix2 a b) + acc (ix2 a b) * ((1 / 2 : ℝ) : EReal) := by
  unfold k0_pay3
  pointwise []
  rw [ofBits_half]

theorem pay4_apply (acc h : FVec Ideal S512x1024 .f32) (g : FVec Ideal S1x1024 .f32) (a : Fin 512) (b : Fin 1024) :
    k0_pay4 (F := Ideal) acc h g (ix2 a b) = nrm (fun k => k0_pay3 (F := Ideal) acc h (ix2 a k)) (g (ix2 0 b)) b := by
  unfold k0_pay4 nrm ms
  pointwise []

/-- Where the windows' blocks lie: point `t` takes block `t / 2` of the rows and block `t % 2` of the columns. -/
theorem idx_facts : ∀ t : Fin cfg0.N, win0_0.index t = ![t.val / 2, t.val % 2] ∧ win0_1.index t = ![0, t.val % 2, 0] ∧ win0_2.index t = ![t.val / 2, 0] ∧ win0_3.index t = ![0, 0] ∧ win0_4.index t = ![t.val / 2, 0] ∧ win0_5.index t = ![t.val / 2, 0] :=
  (by decide +kernel : ∀ t : Fin grid0.N, _)

variable (m : (ℓ : Loc nD τ sig) → Buf (Elt Ideal) ℓ) (c : Dev nD) (t : Fin cfg0.N)

theorem V_v0 : Gen.V m c main_v0 = shapeCast S1x1024 ⟪m,c,3⟫ shapeCasts_S1024_S1x1024 := by
  show StableHlo.after (List.flatten [hostOps0]) (fun b => m (c, b)) (Proc.devRef .tc main_v0) = _
  simp only [hostOps0, List.flatten_cons, List.flatten_nil, List.append_nil, List.cons_append, List.nil_append]
  after_results_simp <;> rfl

/-- What block `n` of the columns puts to the product at one element. -/
def term (n : ℕ) (i : S512x1024.Idx) : EReal :=
  ∑ k : Fin 1408, at2 (p := 8192) (q := 2816) ⟪m,c,0⟫ (n / 2 * 512 + (i 0).val) (n % 2 * 1408 + k.val) * at3 (p := 1) (q := 2816) (s := 1024) ⟪m,c,1⟫ 0 (n % 2 * 1408 + k.val) (i 1).val

theorem blk0 (a : Fin 512) (k : Fin 1408) :
    iblk m c 0 t (ix2 a k) = at2 (p := 8192) (q := 2816) ⟪m,c,0⟫ (t.val / 2 * 512 + a.val) (t.val % 2 * 1408 + k.val) := by
  obtain ⟨e0, e1, e2, e3, e4, e5⟩ := idx_facts t
  blk_simp [iblk]
  refine (congrFun (V_main_arg0 m c) _).trans (at2_of _ _ _ _ ?_ ?_)
  · blk_ext [e0]
  · blk_ext [e0]

theorem blk1 (k : Fin 1408) (b : Fin 1024) :
    iblk m c 1 t (ix3 0 k b) = at3 (p := 1) (q := 2816) (s := 1024) ⟪m,c,1⟫ 0 (t.val % 2 * 1408 + k.val) b.val := by
  obtain ⟨e0, e1, e2, e3, e4, e5⟩ := idx_facts t
  blk_simp [iblk]
  refine (congrFun (V_main_arg1 m c) _).trans (at3_of _ _ _ _ _ ?_ ?_ ?_)
  · blk_simp [e1]
    rfl
  · blk_ext [e1]
  · blk_ext [e1]

theorem blk2 (a : Fin 512) (k : Fin 1024) :
    iblk m c 2 t (ix2 a k) = at2 (p := 8192) (q := 1024) ⟪m,c,2⟫ (t.val / 2 * 512 + a.val) k.val := by
  obtain ⟨e0, e1, e2, e3, e4, e5⟩ := idx_facts t
  blk_simp [iblk]
  refine (congrFun (V_main_arg2 m c) _).trans (at2_of _ _ _ _ ?_ ?_)
  · blk_ext [e2]
  · blk_ext [e2]

theorem blk3 (k : Fin 1024) : iblk m c 3 t (ix2 0 k) = m ((c : Thread nD τ).loc main_arg3) (ix1 k) := by
  obtain ⟨e0, e1, e2, e3, e4, e5⟩ := idx_facts t
  have h : shapeCast S1x1024 ⟪m,c,3⟫ shapeCasts_S1024_S1x1024 (ix2 0 k) = m ((c : Thread nD τ).loc main_arg3) (ix1 k) := by
    pointwise []
  refine Eq.trans ?_ h
  blk_simp [iblk]
  refine (congrFun (V_v0 m c) _).trans (congrArg _ (funext fun d => ?_))
  match d with
  | ⟨0, _⟩ => exact Fin.ext (by blk_ext [e3])
  | ⟨1, _⟩ => exact Fin.ext (by blk_ext [e3])

theorem step (acc : FVec Ideal S512x1024 .f32) (i : S512x1024.Idx) :
    k0_pay2 (F := Ideal) acc (iblk m c 0 t) (iblk m c 1 t) i = acc i + term m c t.val i := by
  rw [ValueIdx.eq_ix2 i]
  refine (pay2_apply acc _ _ (i 0) (i 1)).trans ?_
  exact congrArg (acc _ + ·) (Finset.sum_congr rfl fun k _ => congrArg₂ (· * ·) (blk0 m c t (i 0) k) (blk1 m c t k (i 1)))

theorem acc_first (h0 : t.val % 2 = 0) (i : S512x1024.Idx) :
    (outsAt0 m c t.val t.isLt).2.2 i = 0 + term m c t.val i := by
  rw [outsAt0_A m c t h0 (by omega)]
  frame_out
  rw [step m c t, pay1_apply]

theorem acc_next (h0 : ¬t.val % 2 = 0) (i : S512x1024.Idx) :
    (outsAt0 m c t.val t.isLt).2.2 i = (outsAt0 m c (t.val - 1) (Nat.lt_of_le_of_lt (Nat.sub_le _ _) t.isLt)).2.2 i + term m c t.val i := by
  rw [outsAt0_B m c t h0 (by omega)]
  frame_out
  simp only [read_unread_whole]
  rw [step m c t]

/-- Both blocks make the whole product. -/
theorem sum_terms (hf : t.val % 2 = 1) (a : Fin 512) (b : Fin 1024) :
    (outsAt0 m c t.val t.isLt).2.2 (ix2 a b) = ∑ k : Fin 2816, at2 (p := 8192) (q := 2816) ⟪m,c,0⟫ (t.val / 2 * 512 + a.val) k.val * at3 (p := 1) (q := 2816) (s := 1024) ⟪m,c,1⟫ 0 k.val b.val := by
  refine ((Pipeline.eq_sum_of_reset_step_apply (fun n h => (outsAt0 m c n h).2.2) 2 (fun _ => 0) (term m c)
    (fun t h i => acc_first m c t h i) (fun t h i => acc_next m c t h i) t (ix2 a b)).trans (zero_add _)).trans ?_
  rw [hf]
  refine Eq.trans (Finset.sum_congr rfl fun k hk => ?_) (sum_blocks (fun k => at2 (p := 8192) (q := 2816) ⟪m,c,0⟫ (t.val / 2 * 512 + a.val) k * at3 (p := 1) (q := 2816) (s := 1024) ⟪m,c,1⟫ 0 k b.val) 2 1408)
  have hk' : k < 2 := Finset.mem_range.1 hk
  unfold term
  rw [show (2 * (t.val / 2) + k) % 2 = k by omega, show (2 * (t.val / 2) + k) / 2 = t.val / 2 by omega]
  exact Finset.sum_congr rfl fun j _ => by rw [Nat.mul_comm k 1408]; rfl

/-- What the second point adds up to. -/
theorem out_blk (hf : t.val % 2 = 1) (a : Fin 512) (b : Fin 1024) :
    k0_pay3 (F := Ideal) (outsAt0 m c t.val t.isLt).2.2 (iblk m c 2 t) (ix2 a b) = outAt ⟪m,c,0⟫ ⟪m,c,1⟫ ⟪m,c,2⟫ (t.val / 2 * 512 + a.val) b.val :=
  (pay3_apply _ _ a b).trans (congrArg₂ (fun x y => x + y * ((1 / 2 : ℝ) : EReal)) (blk2 m c t a b) (sum_terms m c t hf a b))

/-- The sum, as an array. -/
def outArr (A0 : FVec Ideal S8192x2816 .bf16) (A1 : FVec Ideal S1x2816x1024 .bf16) (A2 : FVec Ideal S8192x1024 .f32) : FVec Ideal S8192x1024 .f32 :=
  fun i => outAt A0 A1 A2 (i 0).val (i 1).val

/-- Its norm, as an array. -/
def normArr (A0 : FVec Ideal S8192x2816 .bf16) (A1 : FVec Ideal S1x2816x1024 .bf16) (A2 : FVec Ideal S8192x1024 .f32) (g : FVec Ideal S1024 .f32) :
    FVec Ideal S8192x1024 .bf16 := fun i => normAt A0 A1 A2 g (i 0).val (i 1)

theorem out4 (h1 : t.val % 2 = 1) : (outsAt0 m c t.val t.isLt).1 = k0_pay3 (F := Ideal) (outsAt0 m c t.val t.isLt).2.2 (iblk m c 2 t) := by
  rw [outsAt0_B m c t (by omega) h1]
  frame_out

/-- The first result array. -/
theorem final4 : (dats m 0 c).arrAt 4 cfg0.N = outArr ⟪m,c,0⟫ ⟪m,c,1⟫ ⟪m,c,2⟫ := by
  refine (dats m 0 c).arrAt_eq_of_covers 4 _ (by decide +kernel) fun t hf y => ?_
  obtain ⟨e0, e1, e2, e3, e4, e5⟩ := idx_facts t
  have h1 : t.val % 2 = 1 := (flush0_4 t).1 hf
  blk_simp
  rw [after0_4, out4 m c t h1, ValueIdx.eq_ix2 y]
  refine (out_blk m c t h1 (y 0) (y 1)).trans ?_
  refine congrArg₂ (outAt ⟪m,c,0⟫ ⟪m,c,1⟫ ⟪m,c,2⟫) ?_ ?_
  · blk_ext [e4]
  · blk_ext [e4]

theorem out5 (h1 : t.val % 2 = 1) : (outsAt0 m c t.val t.isLt).2.1 = k0_pay4 (F := Ideal) (outsAt0 m c t.val t.isLt).2.2 (iblk m c 2 t) (iblk m c 3 t) := by
  rw [outsAt0_B m c t (by omega) h1]
  frame_out

/-- The second result array. -/
theorem final5 : (dats m 0 c).arrAt 5 cfg0.N = normArr ⟪m,c,0⟫ ⟪m,c,1⟫ ⟪m,c,2⟫ ⟪m,c,3⟫ := by
  refine (dats m 0 c).arrAt_eq_of_covers 5 _ (by decide +kernel) fun t hf y => ?_
  obtain ⟨e0, e1, e2, e3, e4, e5⟩ := idx_facts t
  have h1 : t.val % 2 = 1 := (flush0_5 t).1 hf
  blk_simp
  rw [after0_5, out5 m c t h1, ValueIdx.eq_ix2 y]
  refine ((pay4_apply _ _ _ (y 0) (y 1)).trans (nrm_congr (y 1) (fun k => out_blk m c t h1 (y 0) k) (blk3 m c t (y 1)))).trans ?_
  refine congrArg₂ (normAt ⟪m,c,0⟫ ⟪m,c,1⟫ ⟪m,c,2⟫ ⟪m,c,3⟫) ?_ (Fin.ext ?_)
  · blk_ext [e5]
  · blk_ext [e5]

end call

section reference
open Idealize.ShloMosaic Idealize.ShloMosaic.TcCoe Idealize.SL.Sem Cert.FfnOut1RefIdeal Cert.FfnOut1RefIdeal.Gen Cert.FfnOut1RefIdeal.Read Cert.Finite Cert.Blocks
open Cert.InDxEq (ms at3 at3_of)
open Cert.FfnOutEq (outAt nrm normAt)

section
variable {A0 : FVec Ideal S8192x2816 .bf16} {A1 : FVec Ideal S1x2816x1024 .bf16} {A2 : FVec Ideal S8192x1024 .f32} {g : FVec Ideal S1024 .f32}

theorem r7 (i : S8192x1024.Idx) : val_main_v7 (F := Ideal) A0 A1 A2 i = outAt A0 A1 A2 (i 0).val (i 1).val := by
  have h1 : (i 1).val < 1024 := (i 1).isLt
  rw [val_main_v7_apply, val_main_v6_apply, val_main_v5_apply, val_main_cst_apply, val_main_v4_apply]
  show A2 i + Ideal.ofBits .f32 0x3F000000#32 * _ = _
  rw [ofBits_half, mul_comm]
  refine congrArg₂ (fun x y => x + y * ((1 / 2 : ℝ) : EReal)) (at2_of (p := 8192) (q := 1024) A2 i _ _ rfl rfl) (Finset.sum_congr rfl fun k _ => ?_)
  rw [val_main_v0_apply, val_main_v3_apply, val_main_v2_apply, val_main_v1_apply]
  refine congrArg₂ (· * ·) (at2_of (p := 8192) (q := 2816) A0 _ _ _ rfl rfl) (at3_of (p := 1) (q := 2816) (s := 1024) A1 _ _ _ _ ?_ ?_ ?_)
  · first
    | rfl
    | (show (k.val * 1024 + (i 1).val) / 1024 % 1 = 0; omega)
  · show (k.val * 1024 + (i 1).val) / 1024 = k.val
    omega
  · show (k.val * 1024 + (i 1).val) % 1024 = (i 1).val
    omega

theorem r14 (i : S8192x1.Idx) : val_main_v14 (F := Ideal) A0 A1 A2 i = ms fun k => outAt A0 A1 A2 (i 0).val k.val := by
  rw [val_main_v14_apply, val_main_v12_apply, val_main_v13_apply, val_main_v11_apply, val_main_v10_apply, val_main_v9_apply, val_main_cst_0_apply, val_main_cst_1_apply, val_main_cst_2_apply]
  show Ideal.div (Ideal.ofBits .f32 0x00000000#32 + _) (Ideal.ofBits .f32 0x44800000#32) + Ideal.ofBits .f32 0x358637BD#32 = _
  have e : ∀ k : Fin 1024, val_main_v8 (F := Ideal) A0 A1 A2 (idx_main_v9 (idx_main_v10 i) k)
      = outAt A0 A1 A2 (i 0).val k.val * outAt A0 A1 A2 (i 0).val k.val := fun k => by
    rw [val_main_v8_apply, r7]
    rfl
  rw [Ideal.ofBits_zero, Finset.sum_congr rfl fun k _ => e k, zero_add]
  rfl

theorem r21 (i : S8192x1024.Idx) : val_main_v21 (F := Ideal) A0 A1 A2 g i = normAt A0 A1 A2 g (i 0).val (i 1) := by
  rw [val_main_v21_apply, val_main_v20_apply, val_main_v17_apply, val_main_v16_apply, val_main_v15_apply, r14, r7, val_main_v19_apply, val_main_v18_apply]
  refine congrArg (outAt A0 A1 A2 (i 0).val (i 1).val * Ideal.rsqrt (ms fun k => outAt A0 A1 A2 (i 0).val k.val) * ·) (congrArg g (funext fun d => ?_))
  match d with
  | ⟨0, _⟩ => rfl

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, Idealize.ShloMosaic.sem_eq_zero_of_no_sems (by decide) r.2⟩)
    (Cert.FfnOut1RefIdeal.Value.run (F := Ideal) m ρ)

set_option maxHeartbeats 4000000 in
/-- Call and reference compute the same arrays, whatever the arguments hold. -/
theorem algebraic : Cert.algebraic_FfnOut1Ideal_FfnOut1RefIdeal := by
  intro m ρ m' ρ' _ hagree
  refine ⟨fun c => outArr (m ((c.tc : Thread _ _).loc Cert.FfnOut1Ideal.main_arg0)) (m ((c.tc : Thread _ _).loc Cert.FfnOut1Ideal.main_arg1)) (m ((c.tc : Thread _ _).loc Cert.FfnOut1Ideal.main_arg2)), fun c => normArr (m ((c.tc : Thread _ _).loc Cert.FfnOut1Ideal.main_arg0)) (m ((c.tc : Thread _ _).loc Cert.FfnOut1Ideal.main_arg1)) (m ((c.tc : Thread _ _).loc Cert.FfnOut1Ideal.main_arg2)) (m ((c.tc : Thread _ _).loc Cert.FfnOut1Ideal.main_arg3)), ?_, ?_⟩
  · exact (θ_run Cert.FfnOut1Ideal.defs _ _).mono (fun r h c => ⟨(h c).1.trans (final4 m c), (h c).2.1.trans (final5 m c), (h c).2.2⟩) (Cert.FfnOut1Ideal.Value.run_blocks (F := Ideal) m ρ)
  · refine (θ_run defs _ _).mono (fun r h c => ?_) (Cert.FfnOut1RefIdeal.Value.run (F := Ideal) m' ρ')
    obtain ⟨a0, a1, a2, a3⟩ := hagree c
    refine ⟨((h c).1.trans (val_main_v7_eq _ _ _)).trans ?_, ((h c).2.1.trans (val_main_v21_eq _ _ _ _)).trans ?_, (h c).2.2⟩
    · rw [a0, a1, a2]; exact funext fun i => r7 i
    · rw [a0, a1, a2, a3]; exact funext fun i => r21 i

end reference

end Cert.FfnOut1Eq

end
-- ==== Proof.FfnOut2Eq.lean ====
/-
  The SwiGLU half-step's output product, with two norms after it: the kernel keeps a running product over two blocks of columns and at
  the second adds half of it to the residual.
-/
module

public import proofs.«01_k».proof.Proof.Gen.FfnOut2Ideal.Value
public import proofs.«01_k».proof.Proof.FfnOutMath
public import Idealize.ShloMosaic.Lib.Pipeline.ReadBack
public import Idealize.ShloMosaic.Lib.ValueIdx
public import proofs.«01_k».proof.Proof.Gen.FfnOut2RefIdeal.Read
public import proofs.«01_k».proof.Defs

@[expose] public section

set_option maxRecDepth 16384

noncomputable section

namespace Cert.FfnOut2Eq

section call
open Idealize.ShloMosaic Idealize.ShloMosaic.TcCoe Idealize.SL.Sem Idealize.ShloMosaic.StableHlo Cert.FfnOut2Ideal Cert.FfnOut2Ideal.Gen Cert.Finite Cert.Blocks
open Cert.InDxEq (ms at3 at3_of)
open Cert.FfnOutEq (outAt nrm normAt nrm_congr)
open Idealize.ShloMosaic.Pipeline (Dat)

local notation "⟪" m "," c ",0⟫" => m (Thread.loc (c : Thread nD τ) main_arg0)
local notation "⟪" m "," c ",1⟫" => m (Thread.loc (c : Thread nD τ) main_arg1)
local notation "⟪" m "," c ",2⟫" => m (Thread.loc (c : Thread nD τ) main_arg2)
local notation "⟪" m "," c ",3⟫" => m (Thread.loc (c : Thread nD τ) main_arg3)
local notation "⟪" m "," c ",4⟫" => m (Thread.loc (c : Thread nD τ) main_arg4)

theorem pay1_apply (i : S512x1024.Idx) : k0_pay1 (F := Ideal) i = 0 := by
  rw [ValueIdx.eq_ix2 i]
  unfold k0_pay1
  pointwise []

theorem pay2_apply (acc : FVec Ideal S512x1024 .f32) (x : FVec Ideal S512x1408 .bf16) (w : FVec Ideal S1x1408x1024 .bf16) (a : Fin 512) (b : Fin 1024) :
    k0_pay2 (F := Ideal) acc x w (ix2 a b) = acc (ix2 a b) + ∑ k : Fin 1408, x (ix2 a k) * w (ix3 0 k b) := by
  unfold k0_pay2
  pointwise []

theorem pay3_apply (acc h : FVec Ideal S512x1024 .f32) (a : Fin 512) (b : Fin 1024) :
    k0_pay3 (F := Ideal) acc h (ix2 a b) = h (ix2 a b) + acc (ix2 a b) * ((1 / 2 : ℝ) : EReal) := by
  unfold k0_pay3
  pointwise []
  rw [ofBits_half]

theorem pay4_apply (acc h : FVec Ideal S512x1024 .f32) (a : Fin 512) :
    k0_pay4 (F := Ideal) acc h (ix2 a 0) = Ideal.rsqrt (ms fun k => k0_pay3 (F := Ideal) acc h (ix2 a k)) := by
  unfold k0_pay4 ms
  pointwise []

theorem pay5_apply (acc h : FVec Ideal S512x1024 .f32) (g : FVec Ideal S1x1024 .f32) (a : Fin 512) (b : Fin 1024) :
    k0_pay5 (F := Ideal) acc h g (ix2 a b) = nrm (fun k => k0_pay3 (F := Ideal) acc h (ix2 a k)) (g (ix2 0 b)) b := by
  unfold nrm
  rw [← pay4_apply]
  unfold k0_pay5
  pointwise []

theorem pay6_apply (acc h : FVec Ideal S512x1024 .f32) (g : FVec Ideal S1x1024 .f32) (a : Fin 512) (b : Fin 1024) :
    k0_pay6 (F := Ideal) acc h g (ix2 a b) = nrm (fun k => k0_pay3 (F := Ideal) acc h (ix2 a k)) (g (ix2 0 b)) b := by
  unfold nrm
  rw [← pay4_apply]
  unfold k0_pay6
  pointwise []

/-- Where the windows' blocks lie: point `t` takes block `t / 2` of the rows and block `t % 2` of the columns. -/
theorem idx_facts : ∀ t : Fin cfg0.N, win0_0.index t = ![t.val / 2, t.val % 2] ∧ win0_1.index t = ![0, t.val % 2, 0] ∧ win0_2.index t = ![t.val / 2, 0] ∧ win0_3.index t = ![0, 0] ∧ win0_4.index t = ![0, 0] ∧ win0_5.index t = ![t.val / 2, 0] ∧ win0_6.index t = ![t.val / 2, 0] ∧ win0_7.index t = ![t.val / 2, 0] :=
  (by decide +kernel : ∀ t : Fin grid0.N, _)

variable (m : (ℓ : Loc nD τ sig) → Buf (Elt Ideal) ℓ) (c : Dev nD) (t : Fin cfg0.N)

theorem V_v0 : Gen.V m c main_v0 = shapeCast S1x1024 ⟪m,c,3⟫ shapeCasts_S1024_S1x1024 := by
  show StableHlo.after (List.flatten [hostOps0]) (fun b => m (c, b)) (Proc.devRef .tc main_v0) = _
  simp only [hostOps0, List.flatten_cons, List.flatten_nil, List.append_nil, List.cons_append, List.nil_append]
  after_results_simp <;> rfl

theorem V_v1 : Gen.V m c main_v1 = shapeCast S1x1024 ⟪m,c,4⟫ shapeCasts_S1024_S1x1024 := by
  show StableHlo.after (List.flatten [hostOps0]) (fun b => m (c, b)) (Proc.devRef .tc main_v1) = _
  simp only [hostOps0, List.flatten_cons, List.flatten_nil, List.append_nil, List.cons_append, List.nil_append]
  after_results_simp <;> rfl

/-- What block `n` of the columns puts to the product at one element. -/
def term (n : ℕ) (i : S512x1024.Idx) : EReal :=
  ∑ k : Fin 1408, at2 (p := 8192) (q := 2816) ⟪m,c,0⟫ (n / 2 * 512 + (i 0).val) (n % 2 * 1408 + k.val) * at3 (p := 1) (q := 2816) (s := 1024) ⟪m,c,1⟫ 0 (n % 2 * 1408 + k.val) (i 1).val

theorem blk0 (a : Fin 512) (k : Fin 1408) :
    iblk m c 0 t (ix2 a k) = at2 (p := 8192) (q := 2816) ⟪m,c,0⟫ (t.val / 2 * 512 + a.val) (t.val % 2 * 1408 + k.val) := by
  obtain ⟨e0, e1, e2, e3, e4, e5, e6, e7⟩ := idx_facts t
  blk_simp [iblk]
  refine (congrFun (V_main_arg0 m c) _).trans (at2_of _ _ _ _ ?_ ?_)
  · blk_ext [e0]
  · blk_ext [e0]

theorem blk1 (k : Fin 1408) (b : Fin 1024) :
    iblk m c 1 t (ix3 0 k b) = at3 (p := 1) (q := 2816) (s := 1024) ⟪m,c,1⟫ 0 (t.val % 2 * 1408 + k.val) b.val := by
  obtain ⟨e0, e1, e2, e3, e4, e5, e6, e7⟩ := idx_facts t
  blk_simp [iblk]
  refine (congrFun (V_main_arg1 m c) _).trans (at3_of _ _ _ _ _ ?_ ?_ ?_)
  · blk_simp [e1]
    rfl
  · blk_ext [e1]
  · blk_ext [e1]

theorem blk2 (a : Fin 512) (k : Fin 1024) :
    iblk m c 2 t (ix2 a k) = at2 (p := 8192) (q := 1024) ⟪m,c,2⟫ (t.val / 2 * 512 + a.val) k.val := by
  obtain ⟨e0, e1, e2, e3, e4, e5, e6, e7⟩ := idx_facts t
  blk_simp [iblk]
  refine (congrFun (V_main_arg2 m c) _).trans (at2_of _ _ _ _ ?_ ?_)
  · blk_ext [e2]
  · blk_ext [e2]

theorem blk3 (k : Fin 1024) : iblk m c 3 t (ix2 0 k) = m ((c : Thread nD τ).loc main_arg3) (ix1 k) := by
  obtain ⟨e0, e1, e2, e3, e4, e5, e6, e7⟩ := idx_facts t
  have h : shapeCast S1x1024 ⟪m,c,3⟫ shapeCasts_S1024_S1x1024 (ix2 0 k) = m ((c : Thread nD τ).loc main_arg3) (ix1 k) := by
    pointwise []
  refine Eq.trans ?_ h
  blk_simp [iblk]
  refine (congrFun (V_v0 m c) _).trans (congrArg _ (funext fun d => ?_))
  match d with
  | ⟨0, _⟩ => exact Fin.ext (by blk_ext [e3])
  | ⟨1, _⟩ => exact Fin.ext (by blk_ext [e3])

theorem blk4 (k : Fin 1024) : iblk m c 4 t (ix2 0 k) = m ((c : Thread nD τ).loc main_arg4) (ix1 k) := by
  obtain ⟨e0, e1, e2, e3, e4, e5, e6, e7⟩ := idx_facts t
  have h : shapeCast S1x1024 ⟪m,c,4⟫ shapeCasts_S1024_S1x1024 (ix2 0 k) = m ((c : Thread nD τ).loc main_arg4) (ix1 k) := by
    pointwise []
  refine Eq.trans ?_ h
  blk_simp [iblk]
  refine (congrFun (V_v1 m c) _).trans (congrArg _ (funext fun d => ?_))
  match d with
  | ⟨0, _⟩ => exact Fin.ext (by blk_ext [e4])
  | ⟨1, _⟩ => exact Fin.ext (by blk_ext [e4])

theorem step (acc : FVec Ideal S512x1024 .f32) (i : S512x1024.Idx) :
    k0_pay2 (F := Ideal) acc (iblk m c 0 t) (iblk m c 1 t) i = acc i + term m c t.val i := by
  rw [ValueIdx.eq_ix2 i]
  refine (pay2_apply acc _ _ (i 0) (i 1)).trans ?_
  exact congrArg (acc _ + ·) (Finset.sum_congr rfl fun k _ => congrArg₂ (· * ·) (blk0 m c t (i 0) k) (blk1 m c t k (i 1)))

theorem acc_first (h0 : t.val % 2 = 0) (i : S512x1024.Idx) :
    (outsAt0 m c t.val t.isLt).2.2.2 i = 0 + term m c t.val i := by
  rw [outsAt0_A m c t h0 (by omega)]
  frame_out
  rw [step m c t, pay1_apply]

theorem acc_next (h0 : ¬t.val % 2 = 0) (i : S512x1024.Idx) :
    (outsAt0 m c t.val t.isLt).2.2.2 i = (outsAt0 m c (t.val - 1) (Nat.lt_of_le_of_lt (Nat.sub_le _ _) t.isLt)).2.2.2 i + term m c t.val i := by
  rw [outsAt0_B m c t h0 (by omega)]
  frame_out
  simp only [read_unread_whole]
  rw [step m c t]

/-- Both blocks make the whole product. -/
theorem sum_terms (hf : t.val % 2 = 1) (a : Fin 512) (b : Fin 1024) :
    (outsAt0 m c t.val t.isLt).2.2.2 (ix2 a b) = ∑ k : Fin 2816, at2 (p := 8192) (q := 2816) ⟪m,c,0⟫ (t.val / 2 * 512 + a.val) k.val * at3 (p := 1) (q := 2816) (s := 1024) ⟪m,c,1⟫ 0 k.val b.val := by
  refine ((Pipeline.eq_sum_of_reset_step_apply (fun n h => (outsAt0 m c n h).2.2.2) 2 (fun _ => 0) (term m c)
    (fun t h i => acc_first m c t h i) (fun t h i => acc_next m c t h i) t (ix2 a b)).trans (zero_add _)).trans ?_
  rw [hf]
  refine Eq.trans (Finset.sum_congr rfl fun k hk => ?_) (sum_blocks (fun k => at2 (p := 8192) (q := 2816) ⟪m,c,0⟫ (t.val / 2 * 512 + a.val) k * at3 (p := 1) (q := 2816) (s := 1024) ⟪m,c,1⟫ 0 k b.val) 2 1408)
  have hk' : k < 2 := Finset.mem_range.1 hk
  unfold term
  rw [show (2 * (t.val / 2) + k) % 2 = k by omega, show (2 * (t.val / 2) + k) / 2 = t.val / 2 by omega]
  exact Finset.sum_congr rfl fun j _ => by rw [Nat.mul_comm k 1408]; rfl

/-- What the second point adds up to. -/
theorem out_blk (hf : t.val % 2 = 1) (a : Fin 512) (b : Fin 1024) :
    k0_pay3 (F := Ideal) (outsAt0 m c t.val t.isLt).2.2.2 (iblk m c 2 t) (ix2 a b) = outAt ⟪m,c,0⟫ ⟪m,c,1⟫ ⟪m,c,2⟫ (t.val / 2 * 512 + a.val) b.val :=
  (pay3_apply _ _ a b).trans (congrArg₂ (fun x y => x + y * ((1 / 2 : ℝ) : EReal)) (blk2 m c t a b) (sum_terms m c t hf a b))

/-- The sum, as an array. -/
def outArr (A0 : FVec Ideal S8192x2816 .bf16) (A1 : FVec Ideal S1x2816x1024 .bf16) (A2 : FVec Ideal S8192x1024 .f32) : FVec Ideal S8192x1024 .f32 :=
  fun i => outAt A0 A1 A2 (i 0).val (i 1).val

/-- Its norm, as an array. -/
def normArr (A0 : FVec Ideal S8192x2816 .bf16) (A1 : FVec Ideal S1x2816x1024 .bf16) (A2 : FVec Ideal S8192x1024 .f32) (g : FVec Ideal S1024 .f32) :
    FVec Ideal S8192x1024 .bf16 := fun i => normAt A0 A1 A2 g (i 0).val (i 1)

theorem out5 (h1 : t.val % 2 = 1) : (outsAt0 m c t.val t.isLt).1 = k0_pay3 (F := Ideal) (outsAt0 m c t.val t.isLt).2.2.2 (iblk m c 2 t) := by
  rw [outsAt0_B m c t (by omega) h1]
  frame_out

/-- The first result array. -/
theorem final5 : (dats m 0 c).arrAt 5 cfg0.N = outArr ⟪m,c,0⟫ ⟪m,c,1⟫ ⟪m,c,2⟫ := by
  refine (dats m 0 c).arrAt_eq_of_covers 5 _ (by decide +kernel) fun t hf y => ?_
  obtain ⟨e0, e1, e2, e3, e4, e5, e6, e7⟩ := idx_facts t
  have h1 : t.val % 2 = 1 := (flush0_5 t).1 hf
  blk_simp
  rw [after0_5, out5 m c t h1, ValueIdx.eq_ix2 y]
  refine (out_blk m c t h1 (y 0) (y 1)).trans ?_
  refine congrArg₂ (outAt ⟪m,c,0⟫ ⟪m,c,1⟫ ⟪m,c,2⟫) ?_ ?_
  · blk_ext [e5]
  · blk_ext [e5]

theorem out6 (h1 : t.val % 2 = 1) : (outsAt0 m c t.val t.isLt).2.1 = k0_pay5 (F := Ideal) (outsAt0 m c t.val t.isLt).2.2.2 (iblk m c 2 t) (iblk m c 3 t) := by
  rw [outsAt0_B m c t (by omega) h1]
  frame_out

/-- The second result array. -/
theorem final6 : (dats m 0 c).arrAt 6 cfg0.N = normArr ⟪m,c,0⟫ ⟪m,c,1⟫ ⟪m,c,2⟫ ⟪m,c,3⟫ := by
  refine (dats m 0 c).arrAt_eq_of_covers 6 _ (by decide +kernel) fun t hf y => ?_
  obtain ⟨e0, e1, e2, e3, e4, e5, e6, e7⟩ := idx_facts t
  have h1 : t.val % 2 = 1 := (flush0_6 t).1 hf
  blk_simp
  rw [after0_6, out6 m c t h1, ValueIdx.eq_ix2 y]
  refine ((pay5_apply _ _ _ (y 0) (y 1)).trans (nrm_congr (y 1) (fun k => out_blk m c t h1 (y 0) k) (blk3 m c t (y 1)))).trans ?_
  refine congrArg₂ (normAt ⟪m,c,0⟫ ⟪m,c,1⟫ ⟪m,c,2⟫ ⟪m,c,3⟫) ?_ (Fin.ext ?_)
  · blk_ext [e6]
  · blk_ext [e6]

theorem out7 (h1 : t.val % 2 = 1) : (outsAt0 m c t.val t.isLt).2.2.1 = k0_pay6 (F := Ideal) (outsAt0 m c t.val t.isLt).2.2.2 (iblk m c 2 t) (iblk m c 4 t) := by
  rw [outsAt0_B m c t (by omega) h1]
  frame_out

/-- The third result array. -/
theorem final7 : (dats m 0 c).arrAt 7 cfg0.N = normArr ⟪m,c,0⟫ ⟪m,c,1⟫ ⟪m,c,2⟫ ⟪m,c,4⟫ := by
  refine (dats m 0 c).arrAt_eq_of_covers 7 _ (by decide +kernel) fun t hf y => ?_
  obtain ⟨e0, e1, e2, e3, e4, e5, e6, e7⟩ := idx_facts t
  have h1 : t.val % 2 = 1 := (flush0_7 t).1 hf
  blk_simp
  rw [after0_7, out7 m c t h1, ValueIdx.eq_ix2 y]
  refine ((pay6_apply _ _ _ (y 0) (y 1)).trans (nrm_congr (y 1) (fun k => out_blk m c t h1 (y 0) k) (blk4 m c t (y 1)))).trans ?_
  refine congrArg₂ (normAt ⟪m,c,0⟫ ⟪m,c,1⟫ ⟪m,c,2⟫ ⟪m,c,4⟫) ?_ (Fin.ext ?_)
  · blk_ext [e7]
  · blk_ext [e7]

end call

section reference
open Idealize.ShloMosaic Idealize.ShloMosaic.TcCoe Idealize.SL.Sem Cert.FfnOut2RefIdeal Cert.FfnOut2RefIdeal.Gen Cert.FfnOut2RefIdeal.Read Cert.Finite Cert.Blocks
open Cert.InDxEq (ms at3 at3_of)
open Cert.FfnOutEq (outAt nrm normAt)

section
variable {A0 : FVec Ideal S8192x2816 .bf16} {A1 : FVec Ideal S1x2816x1024 .bf16} {A2 : FVec Ideal S8192x1024 .f32} {g : FVec Ideal S1024 .f32}

theorem r7 (i : S8192x1024.Idx) : val_main_v7 (F := Ideal) A0 A1 A2 i = outAt A0 A1 A2 (i 0).val (i 1).val := by
  have h1 : (i 1).val < 1024 := (i 1).isLt
  rw [val_main_v7_apply, val_main_v6_apply, val_main_v5_apply, val_main_cst_apply, val_main_v4_apply]
  show A2 i + Ideal.ofBits .f32 0x3F000000#32 * _ = _
  rw [ofBits_half, mul_comm]
  refine congrArg₂ (fun x y => x + y * ((1 / 2 : ℝ) : EReal)) (at2_of (p := 8192) (q := 1024) A2 i _ _ rfl rfl) (Finset.sum_congr rfl fun k _ => ?_)
  rw [val_main_v0_apply, val_main_v3_apply, val_main_v2_apply, val_main_v1_apply]
  refine congrArg₂ (· * ·) (at2_of (p := 8192) (q := 2816) A0 _ _ _ rfl rfl) (at3_of (p := 1) (q := 2816) (s := 1024) A1 _ _ _ _ ?_ ?_ ?_)
  · first
    | rfl
    | (show (k.val * 1024 + (i 1).val) / 1024 % 1 = 0; omega)
  · show (k.val * 1024 + (i 1).val) / 1024 = k.val
    omega
  · show (k.val * 1024 + (i 1).val) % 1024 = (i 1).val
    omega

theorem r14 (i : S8192x1.Idx) : val_main_v14 (F := Ideal) A0 A1 A2 i = ms fun k => outAt A0 A1 A2 (i 0).val k.val := by
  rw [val_main_v14_apply, val_main_v12_apply, val_main_v13_apply, val_main_v11_apply, val_main_v10_apply, val_main_v9_apply, val_main_cst_0_apply, val_main_cst_1_apply, val_main_cst_2_apply]
  show Ideal.div (Ideal.ofBits .f32 0x00000000#32 + _) (Ideal.ofBits .f32 0x44800000#32) + Ideal.ofBits .f32 0x358637BD#32 = _
  have e : ∀ k : Fin 1024, val_main_v8 (F := Ideal) A0 A1 A2 (idx_main_v9 (idx_main_v10 i) k)
      = outAt A0 A1 A2 (i 0).val k.val * outAt A0 A1 A2 (i 0).val k.val := fun k => by
    rw [val_main_v8_apply, r7]
    rfl
  rw [Ideal.ofBits_zero, Finset.sum_congr rfl fun k _ => e k, zero_add]
  rfl

theorem r21 (i : S8192x1024.Idx) : val_main_v21 (F := Ideal) A0 A1 A2 g i = normAt A0 A1 A2 g (i 0).val (i 1) := by
  rw [val_main_v21_apply, val_main_v20_apply, val_main_v17_apply, val_main_v16_apply, val_main_v15_apply, r14, r7, val_main_v19_apply, val_main_v18_apply]
  refine congrArg (outAt A0 A1 A2 (i 0).val (i 1).val * Ideal.rsqrt (ms fun k => outAt A0 A1 A2 (i 0).val k.val) * ·) (congrArg g (funext fun d => ?_))
  match d with
  | ⟨0, _⟩ => rfl

theorem r28 (i : S8192x1.Idx) : val_main_v28 (F := Ideal) A0 A1 A2 i = ms fun k => outAt A0 A1 A2 (i 0).val k.val := by
  rw [val_main_v28_apply, val_main_v26_apply, val_main_v27_apply, val_main_v25_apply, val_main_v24_apply, val_main_v23_apply, val_main_cst_3_apply, val_main_cst_4_apply, val_main_cst_5_apply]
  show Ideal.div (Ideal.ofBits .f32 0x00000000#32 + _) (Ideal.ofBits .f32 0x44800000#32) + Ideal.ofBits .f32 0x358637BD#32 = _
  have e : ∀ k : Fin 1024, val_main_v22 (F := Ideal) A0 A1 A2 (idx_main_v23 (idx_main_v24 i) k)
      = outAt A0 A1 A2 (i 0).val k.val * outAt A0 A1 A2 (i 0).val k.val := fun k => by
    rw [val_main_v22_apply, r7]
    rfl
  rw [Ideal.ofBits_zero, Finset.sum_congr rfl fun k _ => e k, zero_add]
  rfl

theorem r35 (i : S8192x1024.Idx) : val_main_v35 (F := Ideal) A0 A1 A2 g i = normAt A0 A1 A2 g (i 0).val (i 1) := by
  rw [val_main_v35_apply, val_main_v34_apply, val_main_v31_apply, val_main_v30_apply, val_main_v29_apply, r28, r7, val_main_v33_apply, val_main_v32_apply]
  refine congrArg (outAt A0 A1 A2 (i 0).val (i 1).val * Ideal.rsqrt (ms fun k => outAt A0 A1 A2 (i 0).val k.val) * ·) (congrArg g (funext fun d => ?_))
  match d with
  | ⟨0, _⟩ => rfl

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2.2.2, Idealize.ShloMosaic.sem_eq_zero_of_no_sems (by decide) r.2⟩)
    (Cert.FfnOut2RefIdeal.Value.run (F := Ideal) m ρ)

set_option maxHeartbeats 4000000 in
/-- Call and reference compute the same arrays, whatever the arguments hold. -/
theorem algebraic : Cert.algebraic_FfnOut2Ideal_FfnOut2RefIdeal := by
  intro m ρ m' ρ' _ hagree
  refine ⟨fun c => outArr (m ((c.tc : Thread _ _).loc Cert.FfnOut2Ideal.main_arg0)) (m ((c.tc : Thread _ _).loc Cert.FfnOut2Ideal.main_arg1)) (m ((c.tc : Thread _ _).loc Cert.FfnOut2Ideal.main_arg2)), fun c => normArr (m ((c.tc : Thread _ _).loc Cert.FfnOut2Ideal.main_arg0)) (m ((c.tc : Thread _ _).loc Cert.FfnOut2Ideal.main_arg1)) (m ((c.tc : Thread _ _).loc Cert.FfnOut2Ideal.main_arg2)) (m ((c.tc : Thread _ _).loc Cert.FfnOut2Ideal.main_arg3)), fun c => normArr (m ((c.tc : Thread _ _).loc Cert.FfnOut2Ideal.main_arg0)) (m ((c.tc : Thread _ _).loc Cert.FfnOut2Ideal.main_arg1)) (m ((c.tc : Thread _ _).loc Cert.FfnOut2Ideal.main_arg2)) (m ((c.tc : Thread _ _).loc Cert.FfnOut2Ideal.main_arg4)), ?_, ?_⟩
  · exact (θ_run Cert.FfnOut2Ideal.defs _ _).mono (fun r h c => ⟨(h c).1.trans (final5 m c), (h c).2.1.trans (final6 m c), (h c).2.2.1.trans (final7 m c), (h c).2.2.2⟩) (Cert.FfnOut2Ideal.Value.run_blocks (F := Ideal) m ρ)
  · refine (θ_run defs _ _).mono (fun r h c => ?_) (Cert.FfnOut2RefIdeal.Value.run (F := Ideal) m' ρ')
    obtain ⟨a0, a1, a2, a3, a4⟩ := hagree c
    refine ⟨((h c).1.trans (val_main_v7_eq _ _ _)).trans ?_, ((h c).2.1.trans (val_main_v21_eq _ _ _ _)).trans ?_, ((h c).2.2.1.trans (val_main_v35_eq _ _ _ _)).trans ?_, (h c).2.2.2⟩
    · rw [a0, a1, a2]; exact funext fun i => r7 i
    · rw [a0, a1, a2, a3]; exact funext fun i => r21 i
    · rw [a0, a1, a2, a4]; exact funext fun i => r35 i

end reference

end Cert.FfnOut2Eq

end
-- ==== Proof.AoDwEq.lean ====
/-
  An attention's output product, its weights' gradient: the kernel keeps a running product over blocks of 1024 rows, from zero, and
  writes it at the last block.
-/
module

public import proofs.«01_k».proof.Proof.Gen.AoDwIdeal.Value
public import proofs.«01_k».proof.Proof.Gen.AoDwRefIdeal.Read
public import proofs.«01_k».proof.Proof.InDxMath
public import proofs.«01_k».proof.Defs
public import Idealize.ShloMosaic.Lib.Pipeline.ReadBack
public import Idealize.ShloMosaic.Lib.ValueIdx

@[expose] public section

set_option maxRecDepth 16384

noncomputable section

namespace Cert.AoDwEq

open Idealize.ShloMosaic Idealize.ShloMosaic.TcCoe Idealize.SL.Sem Cert.Finite Cert.Blocks Cert.InDxEq

section call

open Cert.AoDwIdeal Cert.AoDwIdeal.Gen
open Idealize.ShloMosaic.Pipeline (Dat)

theorem pay1_apply (i : S1024x1024.Idx) : k0_pay1 (F := Ideal) i = 0 := by
  rw [ValueIdx.eq_ix2 i]
  unfold k0_pay1
  pointwise []

theorem pay2_apply (acc x0 x1 : FVec Ideal S1024x1024 .f32) (a b : Fin 1024) :
    k0_pay2 (F := Ideal) acc x0 x1 (ix2 a b) = acc (ix2 a b) + ∑ k : Fin 1024, x0 (ix2 k a) * x1 (ix2 k b) := by
  unfold k0_pay2
  pointwise []

theorem pay3_apply (acc : FVec Ideal S1024x1024 .f32) (z : Fin 1) (a b : Fin 1024) : k0_pay3 (F := Ideal) acc (ix3 z a b) = acc (ix2 a b) := by
  unfold k0_pay3
  pointwise []

/-- Where the windows' blocks lie: point `t` takes block `t` of the rows. -/
theorem idx_facts : ∀ t : Fin cfg0.N, win0_0.index t = ![t.val % 8, 0] ∧ win0_1.index t = ![t.val % 8, 0] ∧ win0_2.index t = ![0, 0, 0] :=
  (by decide +kernel : ∀ t : Fin grid0.N, _)

/-- The sum over the rows `r` of row `r` of one array, at `a`, times row `r` of the other, at `b`. -/
def prod (A0 A1 : FVec Ideal S8192x1024 .f32) (a b r : ℕ) : EReal := at2 (p := 8192) (q := 1024) A0 r a * at2 (p := 8192) (q := 1024) A1 r b

/-- The product of the two arrays over the rows. -/
def dwArr (A0 A1 : FVec Ideal S8192x1024 .f32) : FVec Ideal S1x1024x1024 .f32 := fun i => ∑ r : Fin 8192, prod A0 A1 (i 1).val (i 2).val r.val

variable (m : (ℓ : Loc nD τ sig) → Buf (Elt Ideal) ℓ) (c : Dev nD) (t : Fin cfg0.N) (i : S1024x1024.Idx)

/-- One row's summand, of the call's arguments. -/
abbrev pr (a b r : ℕ) : EReal := prod (m ((c : Thread nD τ).loc main_arg0)) (m ((c : Thread nD τ).loc main_arg1)) a b r

/-- What block `n` of the rows puts to the product at one element. -/
def term (n : ℕ) : EReal := ∑ k : Fin 1024, pr m c (i 0).val (i 1).val (n % 8 * 1024 + k.val)

theorem blk0 (k a : Fin 1024) :
    iblk m c 0 t (ix2 k a) = at2 (p := 8192) (q := 1024) (m ((c : Thread nD τ).loc main_arg0)) (t.val % 8 * 1024 + k.val) a.val := by
  obtain ⟨e0, e1, e2⟩ := idx_facts t
  blk_simp [iblk]
  refine at2_of _ _ _ _ ?_ ?_
  · blk_ext [e0]
  · blk_ext [e0]

theorem blk1 (k b : Fin 1024) :
    iblk m c 1 t (ix2 k b) = at2 (p := 8192) (q := 1024) (m ((c : Thread nD τ).loc main_arg1)) (t.val % 8 * 1024 + k.val) b.val := by
  obtain ⟨e0, e1, e2⟩ := idx_facts t
  blk_simp [iblk]
  refine at2_of _ _ _ _ ?_ ?_
  · blk_ext [e1]
  · blk_ext [e1]

theorem step (acc : FVec Ideal S1024x1024 .f32) : k0_pay2 (F := Ideal) acc (iblk m c 0 t) (iblk m c 1 t) i = acc i + term m c i t.val := by
  rw [ValueIdx.eq_ix2 i]
  refine (pay2_apply acc _ _ (i 0) (i 1)).trans ?_
  exact congrArg (acc _ + ·) (Finset.sum_congr rfl fun k _ => congrArg₂ (· * ·) (blk0 m c t k (i 0)) (blk1 m c t k (i 1)))

theorem acc_first (h0 : t.val % 8 = 0) : (outsAt0 m c t.val t.isLt).2 i = 0 + term m c i t.val := by
  rw [outsAt0_A m c t h0 (by omega)]
  frame_out
  rw [step, pay1_apply]

theorem acc_next (h0 : ¬t.val % 8 = 0) :
    (outsAt0 m c t.val t.isLt).2 i = (outsAt0 m c (t.val - 1) (Nat.lt_of_le_of_lt (Nat.sub_le _ _) t.isLt)).2 i + term m c i t.val := by
  by_cases h2 : t.val % 8 = 7
  · rw [outsAt0_C m c t h0 h2]
    frame_out
    simp only [read_unread_whole]
    rw [step]
  · rw [outsAt0_B m c t h0 h2]
    frame_out
    simp only [read_unread_whole]
    rw [step]

/-- All eight blocks make the whole product. -/
theorem sum_terms (hf : t.val % 8 = 7) : (outsAt0 m c t.val t.isLt).2 i = ∑ r : Fin 8192, pr m c (i 0).val (i 1).val r.val := by
  rw [(Pipeline.eq_sum_of_reset_step_apply (fun n h => (outsAt0 m c n h).2) 8 (fun _ => 0) (fun n i => term m c i n)
    (fun t h i => acc_first m c t i h) (fun t h i => acc_next m c t i h) t i).trans (zero_add _), hf]
  refine Eq.trans (Finset.sum_congr rfl fun k hk => ?_) (sum_blocks (pr m c (i 0).val (i 1).val) 8 1024)
  have hk' : k < 8 := Finset.mem_range.1 hk
  unfold term
  rw [show (8 * (t.val / 8) + k) % 8 = k by omega]
  exact Finset.sum_congr rfl fun j _ => by rw [Nat.mul_comm k 1024]

/-- The result array. -/
theorem final2 : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  obtain ⟨e0, e1, e2⟩ := idx_facts t
  have h7 : t.val % 8 = 7 := (flush0_2 t).1 hf
  have h0 : ¬t.val % 8 = 0 := by omega
  have hs := fun i => sum_terms m c t i h7
  rw [outsAt0_C m c t h0 h7] at hs
  blk_simp
  rw [after0_2, outsAt0_C m c t h0 h7]
  frame_out
  frame_out at hs
  simp only [read_unread_whole] at hs ⊢
  rw [ValueIdx.eq_ix3 y]
  refine (pay3_apply _ (y 0) (y 1) (y 2)).trans ?_
  rw [hs]
  unfold dwArr
  refine Finset.sum_congr rfl fun r _ => congrArg₂ (fun a b => prod _ _ a b r.val) ?_ ?_
  · blk_ext [e2]
  · blk_ext [e2]

end call

section reference

open Cert.AoDwRefIdeal Cert.AoDwRefIdeal.Gen Cert.AoDwRefIdeal.Read

theorem ref_prod (A0 A1 : FVec Ideal S8192x1024 .f32) (i : S1x1024x1024.Idx) : val_main_v6 (F := Ideal) A0 A1 i = dwArr A0 A1 i := by
  rw [val_main_v6_apply, val_main_v5_apply, val_main_v4_apply]
  unfold dwArr prod
  exact Finset.sum_congr rfl fun k _ => (mul_comm _ _).trans (congrArg₂ (· * ·) (at2_of (p := 8192) (q := 1024) A0 _ _ _ rfl rfl) (at2_of (p := 8192) (q := 1024) A1 _ _ _ rfl rfl))

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Cert.AoDwRefIdeal.Value.run (F := Ideal) m ρ)

/-- Call and reference compute the same array, whatever the arguments hold. -/
theorem algebraic : Cert.algebraic_AoDwIdeal_AoDwRefIdeal := by
  intro m ρ m' ρ' _ hagree
  refine ⟨fun c => dwArr (m ((c.tc : Thread _ _).loc Cert.AoDwIdeal.main_arg0)) (m ((c.tc : Thread _ _).loc Cert.AoDwIdeal.main_arg1)), ?_, ?_⟩
  · exact (θ_run Cert.AoDwIdeal.defs _ _).mono (fun r h c => ⟨(h c).1.trans (final2 m c), (h c).2⟩) (Cert.AoDwIdeal.Value.run_blocks (F := Ideal) m ρ)
  · refine (θ_run defs _ _).mono (fun r h c => ?_) (Cert.AoDwRefIdeal.Value.run (F := Ideal) m' ρ')
    obtain ⟨a0, a1, a2⟩ := hagree c
    refine ⟨((h c).1.trans (val_main_v6_eq _ _)).trans ?_, (h c).2⟩
    rw [a0, a1]; exact funext fun i => ref_prod _ _ i

end reference

end Cert.AoDwEq

end
-- ==== Proof.AoDxEq.lean ====
/-
  An attention's output product, backward to its rows: each point makes one block of the product with the transposed weights.
-/
module

public import proofs.«01_k».proof.Proof.Gen.AoDxIdeal.Value
public import proofs.«01_k».proof.Proof.Gen.AoDxRefIdeal.Read
public import proofs.«01_k».proof.Proof.InDxMath
public import proofs.«01_k».proof.Defs
public import Idealize.ShloMosaic.Lib.Pipeline.ReadBack
public import Idealize.ShloMosaic.Lib.ValueIdx

@[expose] public section

set_option maxRecDepth 16384

noncomputable section

namespace Cert.AoDxEq

open Idealize.ShloMosaic Idealize.ShloMosaic.TcCoe Idealize.SL.Sem Cert.Finite Cert.Blocks Cert.InDxEq

section call

open Cert.AoDxIdeal Cert.AoDxIdeal.Gen
open Idealize.ShloMosaic.Pipeline (Dat)

theorem pay1_apply (i : S1024x1024.Idx) : k0_pay1 (F := Ideal) i = 0 := by
  rw [ValueIdx.eq_ix2 i]
  unfold k0_pay1
  pointwise []

theorem pay2_apply (acc : FVec Ideal S1024x1024 .f32) (x : FVec Ideal S1024x1024 .f32) (w : FVec Ideal S1x1024x1024 .bf16) (a b : Fin 1024) :
    k0_pay2 (F := Ideal) acc x w (ix2 a b) = acc (ix2 a b) + ∑ k : Fin 1024, x (ix2 a k) * w (ix3 0 b k) := by
  unfold k0_pay2
  pointwise []

/-- Where the windows' blocks lie: point `t` takes block `t` of the rows. -/
theorem idx_facts : ∀ t : Fin cfg0.N, win0_0.index t = ![t.val, 0] ∧ win0_1.index t = ![0, 0, 0] ∧ win0_2.index t = ![t.val, 0] :=
  (by decide +kernel : ∀ t : Fin grid0.N, _)

/-- The product at row `r` and column `j`. -/
def outAt (A0 : FVec Ideal S8192x1024 .f32) (A1 : FVec Ideal S1x1024x1024 .bf16) (r j : ℕ) : EReal :=
  ∑ k : Fin 1024, at2 (p := 8192) (q := 1024) A0 r k.val * at3 (p := 1) (q := 1024) (s := 1024) A1 0 j k.val

/-- The product, as an array. -/
def outArr (A0 : FVec Ideal S8192x1024 .f32) (A1 : FVec Ideal S1x1024x1024 .bf16) : FVec Ideal S8192x1024 .f32 := fun i => outAt A0 A1 (i 0).val (i 1).val

variable (m : (ℓ : Loc nD τ sig) → Buf (Elt Ideal) ℓ) (c : Dev nD) (t : Fin cfg0.N)

theorem blk0 (a k : Fin 1024) :
    iblk m c 0 t (ix2 a k) = at2 (p := 8192) (q := 1024) (m ((c : Thread nD τ).loc main_arg0)) (t.val * 1024 + a.val) k.val := by
  obtain ⟨e0, e1, e2⟩ := idx_facts t
  blk_simp [iblk]
  refine at2_of _ _ _ _ ?_ ?_
  · blk_ext [e0]
  · blk_ext [e0]

theorem blk1 (k b : Fin 1024) : iblk m c 1 t (ix3 0 k b) = at3 (p := 1) (q := 1024) (s := 1024) (m ((c : Thread nD τ).loc main_arg1)) 0 k.val b.val := by
  obtain ⟨e0, e1, e2⟩ := idx_facts t
  blk_simp [iblk]
  refine at3_of _ _ _ _ _ ?_ ?_ ?_
  · blk_simp [e1]
    rfl
  · blk_ext [e1]
  · blk_ext [e1]

/-- The result array. -/
theorem final2 : (dats m 0 c).arrAt 2 cfg0.N = outArr (m ((c : Thread nD τ).loc main_arg0)) (m ((c : Thread nD τ).loc main_arg1)) := by
  refine (dats m 0 c).arrAt_eq_of_covers 2 _ (by decide +kernel) fun t hf y => ?_
  obtain ⟨e0, e1, e2⟩ := idx_facts t
  blk_simp
  rw [after0_2]
  unfold outsAt0
  frame_out
  rw [ValueIdx.eq_ix2 y]
  refine (pay2_apply _ _ _ (y 0) (y 1)).trans ?_
  rw [pay1_apply, zero_add]
  refine Eq.trans (b := outAt (m ((c : Thread nD τ).loc main_arg0)) (m ((c : Thread nD τ).loc main_arg1)) (t.val * 1024 + (y 0).val) (y 1).val) ?_ ?_
  · unfold outAt
    exact Finset.sum_congr rfl fun k _ => congrArg₂ (· * ·) (blk0 m c t (y 0) k) (blk1 m c t (y 1) k)
  refine congrArg₂ (outAt (m ((c : Thread nD τ).loc main_arg0)) (m ((c : Thread nD τ).loc main_arg1))) ?_ ?_
  · blk_ext [e2]
  · blk_ext [e2]

end call

section reference

open Cert.AoDxRefIdeal Cert.AoDxRefIdeal.Gen Cert.AoDxRefIdeal.Read

theorem ref_prod (A0 : FVec Ideal S8192x1024 .f32) (A1 : FVec Ideal S1x1024x1024 .bf16) (i : S8192x1024.Idx) :
    val_main_v5 (F := Ideal) A0 A1 i = outArr A0 A1 i := by
  have h1 : (i 1).val < 1024 := (i 1).isLt
  rw [val_main_v5_apply]
  unfold outArr outAt
  refine Finset.sum_congr rfl fun k _ => ?_
  have hk : k.val < 1024 := k.isLt
  rw [val_main_v3_apply, val_main_v2_apply, val_main_v1_apply]
  refine congrArg₂ (· * ·) (at2_of (p := 8192) (q := 1024) A0 _ _ _ rfl rfl) (at3_of (p := 1) (q := 1024) (s := 1024) A1 _ _ _ _ ?_ ?_ ?_)
  · rfl
  · show ((i 1).val * 1024 + k.val) / 1024 = (i 1).val
    omega
  · show ((i 1).val * 1024 + k.val) % 1024 = k.val
    omega

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (Cert.AoDxRefIdeal.Value.run (F := Ideal) m ρ)

/-- Call and reference compute the same array, whatever the arguments hold. -/
theorem algebraic : Cert.algebraic_AoDxIdeal_AoDxRefIdeal := by
  intro m ρ m' ρ' _ hagree
  refine ⟨fun c => outArr (m ((c.tc : Thread _ _).loc Cert.AoDxIdeal.main_arg0)) (m ((c.tc : Thread _ _).loc Cert.AoDxIdeal.main_arg1)), ?_, ?_⟩
  · exact (θ_run Cert.AoDxIdeal.defs _ _).mono (fun r h c => ⟨(h c).1.trans (final2 m c), (h c).2⟩) (Cert.AoDxIdeal.Value.run_blocks (F := Ideal) m ρ)
  · refine (θ_run defs _ _).mono (fun r h c => ?_) (Cert.AoDxRefIdeal.Value.run (F := Ideal) m' ρ')
    obtain ⟨a0, a1⟩ := hagree c
    refine ⟨((h c).1.trans (val_main_v5_eq _ _)).trans ?_, (h c).2⟩
    rw [a0, a1]; exact funext fun i => ref_prod _ _ i

end reference

end Cert.AoDxEq

end
-- ==== Proof.BqEq.lean ====
/-
  The forgetting attention's queries' projection: each point makes one block of the product.
-/
module

public import proofs.«01_k».proof.Proof.Gen.BqIdeal.Value
public import proofs.«01_k».proof.Proof.Gen.BqRefIdeal.Read
public import proofs.«01_k».proof.Proof.InDxMath
public import proofs.«01_k».proof.Defs
public import Idealize.ShloMosaic.Lib.Pipeline.ReadBack
public import Idealize.ShloMosaic.Lib.ValueIdx

@[expose] public section

set_option maxRecDepth 16384

noncomputable section

namespace Cert.BqEq

open Idealize.ShloMosaic Idealize.ShloMosaic.TcCoe Idealize.SL.Sem Cert.Finite Cert.Blocks Cert.InDxEq

section call

open Cert.BqIdeal Cert.BqIdeal.Gen
open Idealize.ShloMosaic.Pipeline (Dat)

theorem pay1_apply (i : S1024x1024.Idx) : k0_pay1 (F := Ideal) i = 0 := by
  rw [ValueIdx.eq_ix2 i]
  unfold k0_pay1
  pointwise []

theorem pay2_apply (acc : FVec Ideal S1024x1024 .f32) (x : FVec Ideal S1024x1024 .bf16) (w : FVec Ideal S1x1024x1024 .bf16) (a b : Fin 1024) :
    k0_pay2 (F := Ideal) acc x w (ix2 a b) = acc (ix2 a b) + ∑ k : Fin 1024, x (ix2 a k) * w (ix3 0 k b) := by
  unfold k0_pay2
  pointwise []

/-- Where the windows' blocks lie: point `t` takes block `t` of the rows. -/
theorem idx_facts : ∀ t : Fin cfg0.N, win0_0.index t = ![t.val, 0] ∧ win0_1.index t = ![0, 0, 0] ∧ win0_2.index t = ![t.val, 0] :=
  (by decide +kernel : ∀ t : Fin grid0.N, _)

/-- The product at row `r` and column `j`. -/
def outAt (A0 : FVec Ideal S8192x1024 .bf16) (A1 : FVec Ideal S1x1024x1024 .bf16) (r j : ℕ) : EReal :=
  ∑ k : Fin 1024, at2 (p := 8192) (q := 1024) A0 r k.val * at3 (p := 1) (q := 1024) (s := 1024) A1 0 k.val j

/-- The product, as an array. -/
def outArr (A0 : FVec Ideal S8192x1024 .bf16) (A1 : FVec Ideal S1x1024x1024 .bf16) : FVec Ideal S8192x1024 .f32 := fun i => outAt A0 A1 (i 0).val (i 1).val

variable (m : (ℓ : Loc nD τ sig) → Buf (Elt Ideal) ℓ) (c : Dev nD) (t : Fin cfg0.N)

theorem blk0 (a k : Fin 1024) :
    iblk m c 0 t (ix2 a k) = at2 (p := 8192) (q := 1024) (m ((c : Thread nD τ).loc main_arg0)) (t.val * 1024 + a.val) k.val := by
  obtain ⟨e0, e1, e2⟩ := idx_facts t
  blk_simp [iblk]
  refine at2_of _ _ _ _ ?_ ?_
  · blk_ext [e0]
  · blk_ext [e0]

theorem blk1 (k b : Fin 1024) : iblk m c 1 t (ix3 0 k b) = at3 (p := 1) (q := 1024) (s := 1024) (m ((c : Thread nD τ).loc main_arg1)) 0 k.val b.val := by
  obtain ⟨e0, e1, e2⟩ := idx_facts t
  blk_simp [iblk]
  refine at3_of _ _ _ _ _ ?_ ?_ ?_
  · blk_simp [e1]
    rfl
  · blk_ext [e1]
  · blk_ext [e1]

/-- The result array. -/
theorem final2 : (dats m 0 c).arrAt 2 cfg0.N = outArr (m ((c : Thread nD τ).loc main_arg0)) (m ((c : Thread nD τ).loc main_arg1)) := by
  refine (dats m 0 c).arrAt_eq_of_covers 2 _ (by decide +kernel) fun t hf y => ?_
  obtain ⟨e0, e1, e2⟩ := idx_facts t
  blk_simp
  rw [after0_2]
  unfold outsAt0
  frame_out
  rw [ValueIdx.eq_ix2 y]
  refine (pay2_apply _ _ _ (y 0) (y 1)).trans ?_
  rw [pay1_apply, zero_add]
  refine Eq.trans (b := outAt (m ((c : Thread nD τ).loc main_arg0)) (m ((c : Thread nD τ).loc main_arg1)) (t.val * 1024 + (y 0).val) (y 1).val) ?_ ?_
  · unfold outAt
    exact Finset.sum_congr rfl fun k _ => congrArg₂ (· * ·) (blk0 m c t (y 0) k) (blk1 m c t k (y 1))
  refine congrArg₂ (outAt (m ((c : Thread nD τ).loc main_arg0)) (m ((c : Thread nD τ).loc main_arg1))) ?_ ?_
  · blk_ext [e2]
  · blk_ext [e2]

end call

section reference

open Cert.BqRefIdeal Cert.BqRefIdeal.Gen Cert.BqRefIdeal.Read

theorem ref_prod (A0 : FVec Ideal S8192x1024 .bf16) (A1 : FVec Ideal S1x1024x1024 .bf16) (i : S8192x1024.Idx) :
    val_main_v4 (F := Ideal) A0 A1 i = outArr A0 A1 i := by
  have h1 : (i 1).val < 1024 := (i 1).isLt
  rw [val_main_v4_apply]
  unfold outArr outAt
  refine Finset.sum_congr rfl fun k _ => ?_
  have hk : k.val < 1024 := k.isLt
  rw [val_main_v0_apply, val_main_v3_apply, val_main_v2_apply, val_main_v1_apply]
  refine congrArg₂ (· * ·) (at2_of (p := 8192) (q := 1024) A0 _ _ _ rfl rfl) (at3_of (p := 1) (q := 1024) (s := 1024) A1 _ _ _ _ ?_ ?_ ?_)
  · rfl
  · show (k.val * 1024 + (i 1).val) / 1024 = k.val
    omega
  · show (k.val * 1024 + (i 1).val) % 1024 = (i 1).val
    omega

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (Cert.BqRefIdeal.Value.run (F := Ideal) m ρ)

/-- Call and reference compute the same array, whatever the arguments hold. -/
theorem algebraic : Cert.algebraic_BqIdeal_BqRefIdeal := by
  intro m ρ m' ρ' _ hagree
  refine ⟨fun c => outArr (m ((c.tc : Thread _ _).loc Cert.BqIdeal.main_arg0)) (m ((c.tc : Thread _ _).loc Cert.BqIdeal.main_arg1)), ?_, ?_⟩
  · exact (θ_run Cert.BqIdeal.defs _ _).mono (fun r h c => ⟨(h c).1.trans (final2 m c), (h c).2⟩) (Cert.BqIdeal.Value.run_blocks (F := Ideal) m ρ)
  · refine (θ_run defs _ _).mono (fun r h c => ?_) (Cert.BqRefIdeal.Value.run (F := Ideal) m' ρ')
    obtain ⟨a0, a1⟩ := hagree c
    refine ⟨((h c).1.trans (val_main_v4_eq _ _)).trans ?_, (h c).2⟩
    rw [a0, a1]; exact funext fun i => ref_prod _ _ i

end reference

end Cert.BqEq

end
-- ==== Proof.KvEq.lean ====
/-
  The projection to the keys, values and gates: each point makes one block of the product.
-/
module

public import proofs.«01_k».proof.Proof.Gen.KvIdeal.Value
public import proofs.«01_k».proof.Proof.Gen.KvRefIdeal.Read
public import proofs.«01_k».proof.Proof.InDxMath
public import proofs.«01_k».proof.Defs
public import Idealize.ShloMosaic.Lib.Pipeline.ReadBack
public import Idealize.ShloMosaic.Lib.ValueIdx

@[expose] public section

set_option maxRecDepth 16384

noncomputable section

namespace Cert.KvEq

open Idealize.ShloMosaic Idealize.ShloMosaic.TcCoe Idealize.SL.Sem Cert.Finite Cert.Blocks Cert.InDxEq

section call

open Cert.KvIdeal Cert.KvIdeal.Gen
open Idealize.ShloMosaic.Pipeline (Dat)

theorem pay1_apply (i : S1024x1152.Idx) : k0_pay1 (F := Ideal) i = 0 := by
  rw [ValueIdx.eq_ix2 i]
  unfold k0_pay1
  pointwise []

theorem pay2_apply (acc : FVec Ideal S1024x1152 .f32) (x : FVec Ideal S1024x1024 .bf16) (w : FVec Ideal S1x1024x1152 .bf16) (a : Fin 1024) (b : Fin 1152) :
    k0_pay2 (F := Ideal) acc x w (ix2 a b) = acc (ix2 a b) + ∑ k : Fin 1024, x (ix2 a k) * w (ix3 0 k b) := by
  unfold k0_pay2
  pointwise []

/-- Where the windows' blocks lie: point `t` takes block `t / 2` of the rows and block `t % 2` of the columns. -/
theorem idx_facts : ∀ t : Fin cfg0.N, win0_0.index t = ![t.val / 2, 0] ∧ win0_1.index t = ![0, 0, t.val % 2] ∧ win0_2.index t = ![t.val / 2, t.val % 2] :=
  (by decide +kernel : ∀ t : Fin grid0.N, _)

/-- The product at row `r` and column `j`. -/
def outAt (A0 : FVec Ideal S8192x1024 .bf16) (A1 : FVec Ideal S1x1024x2304 .bf16) (r j : ℕ) : EReal :=
  ∑ k : Fin 1024, at2 (p := 8192) (q := 1024) A0 r k.val * at3 (p := 1) (q := 1024) (s := 2304) A1 0 k.val j

/-- The product, as an array. -/
def outArr (A0 : FVec Ideal S8192x1024 .bf16) (A1 : FVec Ideal S1x1024x2304 .bf16) : FVec Ideal S8192x2304 .f32 := fun i => outAt A0 A1 (i 0).val (i 1).val

variable (m : (ℓ : Loc nD τ sig) → Buf (Elt Ideal) ℓ) (c : Dev nD) (t : Fin cfg0.N)

theorem blk0 (a k : Fin 1024) :
    iblk m c 0 t (ix2 a k) = at2 (p := 8192) (q := 1024) (m ((c : Thread nD τ).loc main_arg0)) (t.val / 2 * 1024 + a.val) k.val := by
  obtain ⟨e0, e1, e2⟩ := idx_facts t
  blk_simp [iblk]
  refine at2_of _ _ _ _ ?_ ?_
  · blk_ext [e0]
  · blk_ext [e0]

theorem blk1 (k : Fin 1024) (b : Fin 1152) :
    iblk m c 1 t (ix3 0 k b) = at3 (p := 1) (q := 1024) (s := 2304) (m ((c : Thread nD τ).loc main_arg1)) 0 k.val (t.val % 2 * 1152 + b.val) := by
  obtain ⟨e0, e1, e2⟩ := idx_facts t
  blk_simp [iblk]
  refine at3_of _ _ _ _ _ ?_ ?_ ?_
  · blk_simp [e1]
    rfl
  · blk_ext [e1]
  · blk_ext [e1]

/-- The result array. -/
theorem final2 : (dats m 0 c).arrAt 2 cfg0.N = outArr (m ((c : Thread nD τ).loc main_arg0)) (m ((c : Thread nD τ).loc main_arg1)) := by
  refine (dats m 0 c).arrAt_eq_of_covers 2 _ (by decide +kernel) fun t hf y => ?_
  obtain ⟨e0, e1, e2⟩ := idx_facts t
  blk_simp
  rw [after0_2]
  unfold outsAt0
  frame_out
  rw [ValueIdx.eq_ix2 y]
  refine (pay2_apply _ _ _ (y 0) (y 1)).trans ?_
  rw [pay1_apply, zero_add]
  refine Eq.trans (b := outAt (m ((c : Thread nD τ).loc main_arg0)) (m ((c : Thread nD τ).loc main_arg1)) (t.val / 2 * 1024 + (y 0).val) (t.val % 2 * 1152 + (y 1).val)) ?_ ?_
  · unfold outAt
    exact Finset.sum_congr rfl fun k _ => congrArg₂ (· * ·) (blk0 m c t (y 0) k) (blk1 m c t k (y 1))
  refine congrArg₂ (outAt (m ((c : Thread nD τ).loc main_arg0)) (m ((c : Thread nD τ).loc main_arg1))) ?_ ?_
  · blk_ext [e2]
  · blk_ext [e2]

end call

section reference

open Cert.KvRefIdeal Cert.KvRefIdeal.Gen Cert.KvRefIdeal.Read

theorem ref_prod (A0 : FVec Ideal S8192x1024 .bf16) (A1 : FVec Ideal S1x1024x2304 .bf16) (i : S8192x2304.Idx) :
    val_main_v4 (F := Ideal) A0 A1 i = outArr A0 A1 i := by
  have h1 : (i 1).val < 2304 := (i 1).isLt
  rw [val_main_v4_apply]
  unfold outArr outAt
  refine Finset.sum_congr rfl fun k _ => ?_
  have hk : k.val < 1024 := k.isLt
  rw [val_main_v0_apply, val_main_v3_apply, val_main_v2_apply, val_main_v1_apply]
  refine congrArg₂ (· * ·) (at2_of (p := 8192) (q := 1024) A0 _ _ _ rfl rfl) (at3_of (p := 1) (q := 1024) (s := 2304) A1 _ _ _ _ ?_ ?_ ?_)
  · rfl
  · show (k.val * 2304 + (i 1).val) / 2304 = k.val
    omega
  · show (k.val * 2304 + (i 1).val) % 2304 = (i 1).val
    omega

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩)
    (Cert.KvRefIdeal.Value.run (F := Ideal) m ρ)

/-- Call and reference compute the same array, whatever the arguments hold. -/
theorem algebraic : Cert.algebraic_KvIdeal_KvRefIdeal := by
  intro m ρ m' ρ' _ hagree
  refine ⟨fun c => outArr (m ((c.tc : Thread _ _).loc Cert.KvIdeal.main_arg0)) (m ((c.tc : Thread _ _).loc Cert.KvIdeal.main_arg1)), ?_, ?_⟩
  · exact (θ_run Cert.KvIdeal.defs _ _).mono (fun r h c => ⟨(h c).1.trans (final2 m c), (h c).2⟩) (Cert.KvIdeal.Value.run_blocks (F := Ideal) m ρ)
  · refine (θ_run defs _ _).mono (fun r h c => ?_) (Cert.KvRefIdeal.Value.run (F := Ideal) m' ρ')
    obtain ⟨a0, a1⟩ := hagree c
    refine ⟨((h c).1.trans (val_main_v4_eq _ _)).trans ?_, (h c).2⟩
    rw [a0, a1]; exact funext fun i => ref_prod _ _ i

end reference

end Cert.KvEq

end
-- ==== Proof.KvDwEq.lean ====
/-
  The projection to the keys, values and gates, its weights' gradient: the kernel keeps a running product over blocks of 1024 rows, from zero, and
  writes it at the last block.
-/
module

public import proofs.«01_k».proof.Proof.Gen.KvDwIdeal.Value
public import proofs.«01_k».proof.Proof.Gen.KvDwRefIdeal.Read
public import proofs.«01_k».proof.Proof.InDxMath
public import proofs.«01_k».proof.Defs
public import Idealize.ShloMosaic.Lib.Pipeline.ReadBack
public import Idealize.ShloMosaic.Lib.ValueIdx

@[expose] public section

set_option maxRecDepth 16384

noncomputable section

namespace Cert.KvDwEq

open Idealize.ShloMosaic Idealize.ShloMosaic.TcCoe Idealize.SL.Sem Cert.Finite Cert.Blocks Cert.InDxEq

section call

open Cert.KvDwIdeal Cert.KvDwIdeal.Gen
open Idealize.ShloMosaic.Pipeline (Dat)

theorem pay1_apply (i : S1024x1152.Idx) : k0_pay1 (F := Ideal) i = 0 := by
  rw [ValueIdx.eq_ix2 i]
  unfold k0_pay1
  pointwise []

theorem pay2_apply (acc : FVec Ideal S1024x1152 .f32) (x0 : FVec Ideal S1024x1024 .bf16) (x1 : FVec Ideal S1024x1152 .bf16) (a : Fin 1024) (b : Fin 1152) :
    k0_pay2 (F := Ideal) acc x0 x1 (ix2 a b) = acc (ix2 a b) + ∑ k : Fin 1024, x0 (ix2 k a) * x1 (ix2 k b) := by
  unfold k0_pay2
  pointwise []

theorem pay3_apply (acc : FVec Ideal S1024x1152 .f32) (z : Fin 1) (a : Fin 1024) (b : Fin 1152) : k0_pay3 (F := Ideal) acc (ix3 z a b) = acc (ix2 a b) := by
  unfold k0_pay3
  pointwise []

/-- Where the windows' blocks lie: point `t` takes block `t % 8` of the rows and block `t / 8` of the columns. -/
theorem idx_facts : ∀ t : Fin cfg0.N, win0_0.index t = ![t.val % 8, 0] ∧ win0_1.index t = ![t.val % 8, t.val / 8] ∧ win0_2.index t = ![0, 0, t.val / 8] :=
  (by decide +kernel : ∀ t : Fin grid0.N, _)

/-- The sum over the rows `r` of row `r` of one array, at `a`, times row `r` of the other, at `b`. -/
def prod (A0 : FVec Ideal S8192x1024 .bf16) (A1 : FVec Ideal S8192x2304 .bf16) (a b r : ℕ) : EReal := at2 (p := 8192) (q := 1024) A0 r a * at2 (p := 8192) (q := 2304) A1 r b

/-- The product of the two arrays over the rows. -/
def dwArr (A0 : FVec Ideal S8192x1024 .bf16) (A1 : FVec Ideal S8192x2304 .bf16) : FVec Ideal S1x1024x2304 .f32 := fun i => ∑ r : Fin 8192, prod A0 A1 (i 1).val (i 2).val r.val

variable (m : (ℓ : Loc nD τ sig) → Buf (Elt Ideal) ℓ) (c : Dev nD) (t : Fin cfg0.N) (i : S1024x1152.Idx)

/-- One row's summand, of the call's arguments. -/
abbrev pr (a b r : ℕ) : EReal := prod (m ((c : Thread nD τ).loc main_arg0)) (m ((c : Thread nD τ).loc main_arg1)) a b r

/-- What block `n` of the rows puts to the product at one element. -/
def term (n : ℕ) : EReal := ∑ k : Fin 1024, pr m c (i 0).val (n / 8 * 1152 + (i 1).val) (n % 8 * 1024 + k.val)

theorem blk0 (k a : Fin 1024) :
    iblk m c 0 t (ix2 k a) = at2 (p := 8192) (q := 1024) (m ((c : Thread nD τ).loc main_arg0)) (t.val % 8 * 1024 + k.val) a.val := by
  obtain ⟨e0, e1, e2⟩ := idx_facts t
  blk_simp [iblk]
  refine at2_of _ _ _ _ ?_ ?_
  · blk_ext [e0]
  · blk_ext [e0]

theorem blk1 (k : Fin 1024) (b : Fin 1152) :
    iblk m c 1 t (ix2 k b) = at2 (p := 8192) (q := 2304) (m ((c : Thread nD τ).loc main_arg1)) (t.val % 8 * 1024 + k.val) (t.val / 8 * 1152 + b.val) := by
  obtain ⟨e0, e1, e2⟩ := idx_facts t
  blk_simp [iblk]
  refine at2_of _ _ _ _ ?_ ?_
  · blk_ext [e1]
  · blk_ext [e1]

theorem step (acc : FVec Ideal S1024x1152 .f32) : k0_pay2 (F := Ideal) acc (iblk m c 0 t) (iblk m c 1 t) i = acc i + term m c i t.val := by
  rw [ValueIdx.eq_ix2 i]
  refine (pay2_apply acc _ _ (i 0) (i 1)).trans ?_
  exact congrArg (acc _ + ·) (Finset.sum_congr rfl fun k _ => congrArg₂ (· * ·) (blk0 m c t k (i 0)) (blk1 m c t k (i 1)))

theorem acc_first (h0 : t.val % 8 = 0) : (outsAt0 m c t.val t.isLt).2 i = 0 + term m c i t.val := by
  rw [outsAt0_A m c t h0 (by omega)]
  frame_out
  rw [step, pay1_apply]

theorem acc_next (h0 : ¬t.val % 8 = 0) :
    (outsAt0 m c t.val t.isLt).2 i = (outsAt0 m c (t.val - 1) (Nat.lt_of_le_of_lt (Nat.sub_le _ _) t.isLt)).2 i + term m c i t.val := by
  by_cases h2 : t.val % 8 = 7
  · rw [outsAt0_C m c t h0 h2]
    frame_out
    simp only [read_unread_whole]
    rw [step]
  · rw [outsAt0_B m c t h0 h2]
    frame_out
    simp only [read_unread_whole]
    rw [step]

/-- All eight blocks make the whole product. -/
theorem sum_terms (hf : t.val % 8 = 7) : (outsAt0 m c t.val t.isLt).2 i = ∑ r : Fin 8192, pr m c (i 0).val (t.val / 8 * 1152 + (i 1).val) r.val := by
  rw [(Pipeline.eq_sum_of_reset_step_apply (fun n h => (outsAt0 m c n h).2) 8 (fun _ => 0) (fun n i => term m c i n)
    (fun t h i => acc_first m c t i h) (fun t h i => acc_next m c t i h) t i).trans (zero_add _), hf]
  refine Eq.trans (Finset.sum_congr rfl fun k hk => ?_) (sum_blocks (pr m c (i 0).val (t.val / 8 * 1152 + (i 1).val)) 8 1024)
  have hk' : k < 8 := Finset.mem_range.1 hk
  unfold term
  rw [show (8 * (t.val / 8) + k) % 8 = k by omega, show (8 * (t.val / 8) + k) / 8 = t.val / 8 by omega]
  exact Finset.sum_congr rfl fun j _ => by rw [Nat.mul_comm k 1024]

/-- The result array. -/
theorem final2 : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  obtain ⟨e0, e1, e2⟩ := idx_facts t
  have h7 : t.val % 8 = 7 := (flush0_2 t).1 hf
  have h0 : ¬t.val % 8 = 0 := by omega
  have hs := fun i => sum_terms m c t i h7
  rw [outsAt0_C m c t h0 h7] at hs
  blk_simp
  rw [after0_2, outsAt0_C m c t h0 h7]
  frame_out
  frame_out at hs
  simp only [read_unread_whole] at hs ⊢
  rw [ValueIdx.eq_ix3 y]
  refine (pay3_apply _ (y 0) (y 1) (y 2)).trans ?_
  rw [hs]
  unfold dwArr
  refine Finset.sum_congr rfl fun r _ => congrArg₂ (fun a b => prod _ _ a b r.val) ?_ ?_
  · blk_ext [e2]
  · blk_ext [e2]

end call

section reference

open Cert.KvDwRefIdeal Cert.KvDwRefIdeal.Gen Cert.KvDwRefIdeal.Read

theorem ref_prod (A0 : FVec Ideal S8192x1024 .bf16) (A1 : FVec Ideal S8192x2304 .bf16) (i : S1x1024x2304.Idx) : val_main_v8 (F := Ideal) A0 A1 i = dwArr A0 A1 i := by
  rw [val_main_v8_apply, val_main_v7_apply, val_main_v6_apply]
  unfold dwArr prod
  exact Finset.sum_congr rfl fun k _ => (mul_comm _ _).trans (congrArg₂ (· * ·) (at2_of (p := 8192) (q := 1024) A0 _ _ _ rfl rfl) (at2_of (p := 8192) (q := 2304) A1 _ _ _ rfl rfl))

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Cert.KvDwRefIdeal.Value.run (F := Ideal) m ρ)

/-- Call and reference compute the same array, whatever the arguments hold. -/
theorem algebraic : Cert.algebraic_KvDwIdeal_KvDwRefIdeal := by
  intro m ρ m' ρ' _ hagree
  refine ⟨fun c => dwArr (m ((c.tc : Thread _ _).loc Cert.KvDwIdeal.main_arg0)) (m ((c.tc : Thread _ _).loc Cert.KvDwIdeal.main_arg1)), ?_, ?_⟩
  · exact (θ_run Cert.KvDwIdeal.defs _ _).mono (fun r h c => ⟨(h c).1.trans (final2 m c), (h c).2⟩) (Cert.KvDwIdeal.Value.run_blocks (F := Ideal) m ρ)
  · refine (θ_run defs _ _).mono (fun r h c => ?_) (Cert.KvDwRefIdeal.Value.run (F := Ideal) m' ρ')
    obtain ⟨a0, a1, a2⟩ := hagree c
    refine ⟨((h c).1.trans (val_main_v8_eq _ _)).trans ?_, (h c).2⟩
    rw [a0, a1]; exact funext fun i => ref_prod _ _ i

end reference

end Cert.KvDwEq

end
-- ==== Proof.BqDwEq.lean ====
/-
  The projection to the forgetting attention's queries, its weights' gradient: the kernel keeps a running product over blocks of 1024 rows, from zero, and
  writes it at the last block.
-/
module

public import proofs.«01_k».proof.Proof.Gen.BqDwIdeal.Value
public import proofs.«01_k».proof.Proof.Gen.BqDwRefIdeal.Read
public import proofs.«01_k».proof.Proof.InDxMath
public import proofs.«01_k».proof.Defs
public import Idealize.ShloMosaic.Lib.Pipeline.ReadBack
public import Idealize.ShloMosaic.Lib.ValueIdx

@[expose] public section

set_option maxRecDepth 16384

noncomputable section

namespace Cert.BqDwEq

open Idealize.ShloMosaic Idealize.ShloMosaic.TcCoe Idealize.SL.Sem Cert.Finite Cert.Blocks Cert.InDxEq

section call

open Cert.BqDwIdeal Cert.BqDwIdeal.Gen
open Idealize.ShloMosaic.Pipeline (Dat)

theorem pay1_apply (i : S1024x1024.Idx) : k0_pay1 (F := Ideal) i = 0 := by
  rw [ValueIdx.eq_ix2 i]
  unfold k0_pay1
  pointwise []

theorem pay2_apply (acc : FVec Ideal S1024x1024 .f32) (x0 x1 : FVec Ideal S1024x1024 .bf16) (a b : Fin 1024) :
    k0_pay2 (F := Ideal) acc x0 x1 (ix2 a b) = acc (ix2 a b) + ∑ k : Fin 1024, x0 (ix2 k a) * x1 (ix2 k b) := by
  unfold k0_pay2
  pointwise []

theorem pay3_apply (acc : FVec Ideal S1024x1024 .f32) (z : Fin 1) (a b : Fin 1024) : k0_pay3 (F := Ideal) acc (ix3 z a b) = acc (ix2 a b) := by
  unfold k0_pay3
  pointwise []

/-- Where the windows' blocks lie: point `t` takes block `t` of the rows. -/
theorem idx_facts : ∀ t : Fin cfg0.N, win0_0.index t = ![t.val % 8, 0] ∧ win0_1.index t = ![t.val % 8, 0] ∧ win0_2.index t = ![0, 0, 0] :=
  (by decide +kernel : ∀ t : Fin grid0.N, _)

/-- The sum over the rows `r` of row `r` of one array, at `a`, times row `r` of the other, at `b`. -/
def prod (A0 A1 : FVec Ideal S8192x1024 .bf16) (a b r : ℕ) : EReal := at2 (p := 8192) (q := 1024) A0 r a * at2 (p := 8192) (q := 1024) A1 r b

/-- The product of the two arrays over the rows. -/
def dwArr (A0 A1 : FVec Ideal S8192x1024 .bf16) : FVec Ideal S1x1024x1024 .f32 := fun i => ∑ r : Fin 8192, prod A0 A1 (i 1).val (i 2).val r.val

variable (m : (ℓ : Loc nD τ sig) → Buf (Elt Ideal) ℓ) (c : Dev nD) (t : Fin cfg0.N) (i : S1024x1024.Idx)

/-- One row's summand, of the call's arguments. -/
abbrev pr (a b r : ℕ) : EReal := prod (m ((c : Thread nD τ).loc main_arg0)) (m ((c : Thread nD τ).loc main_arg1)) a b r

/-- What block `n` of the rows puts to the product at one element. -/
def term (n : ℕ) : EReal := ∑ k : Fin 1024, pr m c (i 0).val (i 1).val (n % 8 * 1024 + k.val)

theorem blk0 (k a : Fin 1024) :
    iblk m c 0 t (ix2 k a) = at2 (p := 8192) (q := 1024) (m ((c : Thread nD τ).loc main_arg0)) (t.val % 8 * 1024 + k.val) a.val := by
  obtain ⟨e0, e1, e2⟩ := idx_facts t
  blk_simp [iblk]
  refine at2_of _ _ _ _ ?_ ?_
  · blk_ext [e0]
  · blk_ext [e0]

theorem blk1 (k b : Fin 1024) :
    iblk m c 1 t (ix2 k b) = at2 (p := 8192) (q := 1024) (m ((c : Thread nD τ).loc main_arg1)) (t.val % 8 * 1024 + k.val) b.val := by
  obtain ⟨e0, e1, e2⟩ := idx_facts t
  blk_simp [iblk]
  refine at2_of _ _ _ _ ?_ ?_
  · blk_ext [e1]
  · blk_ext [e1]

theorem step (acc : FVec Ideal S1024x1024 .f32) : k0_pay2 (F := Ideal) acc (iblk m c 0 t) (iblk m c 1 t) i = acc i + term m c i t.val := by
  rw [ValueIdx.eq_ix2 i]
  refine (pay2_apply acc _ _ (i 0) (i 1)).trans ?_
  exact congrArg (acc _ + ·) (Finset.sum_congr rfl fun k _ => congrArg₂ (· * ·) (blk0 m c t k (i 0)) (blk1 m c t k (i 1)))

theorem acc_first (h0 : t.val % 8 = 0) : (outsAt0 m c t.val t.isLt).2 i = 0 + term m c i t.val := by
  rw [outsAt0_A m c t h0 (by omega)]
  frame_out
  rw [step, pay1_apply]

theorem acc_next (h0 : ¬t.val % 8 = 0) :
    (outsAt0 m c t.val t.isLt).2 i = (outsAt0 m c (t.val - 1) (Nat.lt_of_le_of_lt (Nat.sub_le _ _) t.isLt)).2 i + term m c i t.val := by
  by_cases h2 : t.val % 8 = 7
  · rw [outsAt0_C m c t h0 h2]
    frame_out
    simp only [read_unread_whole]
    rw [step]
  · rw [outsAt0_B m c t h0 h2]
    frame_out
    simp only [read_unread_whole]
    rw [step]

/-- All eight blocks make the whole product. -/
theorem sum_terms (hf : t.val % 8 = 7) : (outsAt0 m c t.val t.isLt).2 i = ∑ r : Fin 8192, pr m c (i 0).val (i 1).val r.val := by
  rw [(Pipeline.eq_sum_of_reset_step_apply (fun n h => (outsAt0 m c n h).2) 8 (fun _ => 0) (fun n i => term m c i n)
    (fun t h i => acc_first m c t i h) (fun t h i => acc_next m c t i h) t i).trans (zero_add _), hf]
  refine Eq.trans (Finset.sum_congr rfl fun k hk => ?_) (sum_blocks (pr m c (i 0).val (i 1).val) 8 1024)
  have hk' : k < 8 := Finset.mem_range.1 hk
  unfold term
  rw [show (8 * (t.val / 8) + k) % 8 = k by omega]
  exact Finset.sum_congr rfl fun j _ => by rw [Nat.mul_comm k 1024]

/-- The result array. -/
theorem final2 : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  obtain ⟨e0, e1, e2⟩ := idx_facts t
  have h7 : t.val % 8 = 7 := (flush0_2 t).1 hf
  have h0 : ¬t.val % 8 = 0 := by omega
  have hs := fun i => sum_terms m c t i h7
  rw [outsAt0_C m c t h0 h7] at hs
  blk_simp
  rw [after0_2, outsAt0_C m c t h0 h7]
  frame_out
  frame_out at hs
  simp only [read_unread_whole] at hs ⊢
  rw [ValueIdx.eq_ix3 y]
  refine (pay3_apply _ (y 0) (y 1) (y 2)).trans ?_
  rw [hs]
  unfold dwArr
  refine Finset.sum_congr rfl fun r _ => congrArg₂ (fun a b => prod _ _ a b r.val) ?_ ?_
  · blk_ext [e2]
  · blk_ext [e2]

end call

section reference

open Cert.BqDwRefIdeal Cert.BqDwRefIdeal.Gen Cert.BqDwRefIdeal.Read

theorem ref_prod (A0 : FVec Ideal S8192x1024 .bf16) (A1 : FVec Ideal S8192x1024 .bf16) (i : S1x1024x1024.Idx) : val_main_v8 (F := Ideal) A0 A1 i = dwArr A0 A1 i := by
  rw [val_main_v8_apply, val_main_v7_apply, val_main_v6_apply]
  unfold dwArr prod
  exact Finset.sum_congr rfl fun k _ => (mul_comm _ _).trans (congrArg₂ (· * ·) (at2_of (p := 8192) (q := 1024) A0 _ _ _ rfl rfl) (at2_of (p := 8192) (q := 1024) A1 _ _ _ rfl rfl))

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Cert.BqDwRefIdeal.Value.run (F := Ideal) m ρ)

/-- Call and reference compute the same array, whatever the arguments hold. -/
theorem algebraic : Cert.algebraic_BqDwIdeal_BqDwRefIdeal := by
  intro m ρ m' ρ' _ hagree
  refine ⟨fun c => dwArr (m ((c.tc : Thread _ _).loc Cert.BqDwIdeal.main_arg0)) (m ((c.tc : Thread _ _).loc Cert.BqDwIdeal.main_arg1)), ?_, ?_⟩
  · exact (θ_run Cert.BqDwIdeal.defs _ _).mono (fun r h c => ⟨(h c).1.trans (final2 m c), (h c).2⟩) (Cert.BqDwIdeal.Value.run_blocks (F := Ideal) m ρ)
  · refine (θ_run defs _ _).mono (fun r h c => ?_) (Cert.BqDwRefIdeal.Value.run (F := Ideal) m' ρ')
    obtain ⟨a0, a1, a2⟩ := hagree c
    refine ⟨((h c).1.trans (val_main_v8_eq _ _)).trans ?_, (h c).2⟩
    rw [a0, a1]; exact funext fun i => ref_prod _ _ i

end reference

end Cert.BqDwEq

end
-- ==== Proof.AoEq.lean ====
/-
  An attention's output product: each point makes one block of 512 rows of the product, adds the residual, and takes the norm of the sum.
-/
module

public import proofs.«01_k».proof.Proof.Gen.AoIdeal.Value
public import proofs.«01_k».proof.Proof.Gen.AoRefIdeal.Read
public import proofs.«01_k».proof.Proof.FfnOutMath
public import proofs.«01_k».proof.Defs
public import Idealize.ShloMosaic.Lib.Pipeline.ReadBack
public import Idealize.ShloMosaic.Lib.ValueIdx

@[expose] public section

set_option maxRecDepth 16384

noncomputable section

namespace Cert.AoEq

open Idealize.ShloMosaic Idealize.ShloMosaic.TcCoe Idealize.SL.Sem Cert.Finite Cert.Blocks
open Cert.InDxEq (ms at3 at3_of)
open Cert.FfnOutEq (nrm nrm_congr)

section call

open Idealize.ShloMosaic.StableHlo Cert.AoIdeal Cert.AoIdeal.Gen
open Idealize.ShloMosaic.Pipeline (Dat)

local notation "⟪" m "," c ",0⟫" => m (Thread.loc (c : Thread nD τ) main_arg0)
local notation "⟪" m "," c ",1⟫" => m (Thread.loc (c : Thread nD τ) main_arg1)
local notation "⟪" m "," c ",2⟫" => m (Thread.loc (c : Thread nD τ) main_arg2)
local notation "⟪" m "," c ",3⟫" => m (Thread.loc (c : Thread nD τ) main_arg3)

theorem pay1_apply (i : S512x1024.Idx) : k0_pay1 (F := Ideal) i = 0 := by
  rw [ValueIdx.eq_ix2 i]
  unfold k0_pay1
  pointwise []

theorem pay2_apply (acc x : FVec Ideal S512x1024 .f32) (w : FVec Ideal S1x1024x1024 .bf16) (a : Fin 512) (b : Fin 1024) :
    k0_pay2 (F := Ideal) acc x w (ix2 a b) = acc (ix2 a b) + ∑ k : Fin 1024, x (ix2 a k) * w (ix3 0 k b) := by
  unfold k0_pay2
  pointwise []

theorem pay3_apply (acc h : FVec Ideal S512x1024 .f32) (a : Fin 512) (b : Fin 1024) :
    k0_pay3 (F := Ideal) acc h (ix2 a b) = h (ix2 a b) + acc (ix2 a b) := by
  unfold k0_pay3
  pointwise []

theorem pay4_apply (acc h : FVec Ideal S512x1024 .f32) (g : FVec Ideal S1x1024 .f32) (a : Fin 512) (b : Fin 1024) :
    k0_pay4 (F := Ideal) acc h g (ix2 a b) = nrm (fun k => k0_pay3 (F := Ideal) acc h (ix2 a k)) (g (ix2 0 b)) b := by
  unfold k0_pay4 nrm ms
  pointwise []

/-- Where the windows' blocks lie: point `t` takes block `t` of the rows. -/
theorem idx_facts : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] :=
  (by decide +kernel : ∀ t : Fin grid0.N, _)

/-- The residual and the product, at row `r` and column `j`. -/
def outAt (A0 : FVec Ideal S8192x1024 .f32) (A1 : FVec Ideal S1x1024x1024 .bf16) (A2 : FVec Ideal S8192x1024 .f32) (r j : ℕ) : EReal :=
  at2 (p := 8192) (q := 1024) A2 r j + ∑ k : Fin 1024, at2 (p := 8192) (q := 1024) A0 r k.val * at3 (p := 1) (q := 1024) (s := 1024) A1 0 k.val j

/-- The norm of row `r` of that sum, times the gain. -/
def normAt (A0 : FVec Ideal S8192x1024 .f32) (A1 : FVec Ideal S1x1024x1024 .bf16) (A2 : FVec Ideal S8192x1024 .f32) (g : FVec Ideal S1024 .f32) (r : ℕ) (b : Fin 1024) : EReal :=
  nrm (fun k => outAt A0 A1 A2 r k.val) (g (ix1 b)) b

/-- The sum, as an array. -/
def outArr (A0 : FVec Ideal S8192x1024 .f32) (A1 : FVec Ideal S1x1024x1024 .bf16) (A2 : FVec Ideal S8192x1024 .f32) : FVec Ideal S8192x1024 .f32 :=
  fun i => outAt A0 A1 A2 (i 0).val (i 1).val

/-- Its norm, as an array. -/
def normArr (A0 : FVec Ideal S8192x1024 .f32) (A1 : FVec Ideal S1x1024x1024 .bf16) (A2 : FVec Ideal S8192x1024 .f32) (g : FVec Ideal S1024 .f32) :
    FVec Ideal S8192x1024 .bf16 := fun i => normAt A0 A1 A2 g (i 0).val (i 1)

variable (m : (ℓ : Loc nD τ sig) → Buf (Elt Ideal) ℓ) (c : Dev nD) (t : Fin cfg0.N)

theorem V_v0 : Gen.V m c main_v0 = shapeCast S1x1024 ⟪m,c,3⟫ shapeCasts_S1024_S1x1024 := by
  show StableHlo.after (List.flatten [hostOps0]) (fun b => m (c, b)) (Proc.devRef .tc main_v0) = _
  simp only [hostOps0, List.flatten_cons, List.flatten_nil, List.append_nil, List.cons_append, List.nil_append]
  after_results_simp <;> rfl

theorem blk0 (a : Fin 512) (k : Fin 1024) : iblk m c 0 t (ix2 a k) = at2 (p := 8192) (q := 1024) ⟪m,c,0⟫ (t.val * 512 + a.val) k.val := by
  obtain ⟨e0, e1, e2, e3, e4, e5⟩ := idx_facts t
  blk_simp [iblk]
  refine (congrFun (V_main_arg0 m c) _).trans (at2_of _ _ _ _ ?_ ?_)
  · blk_ext [e0]
  · blk_ext [e0]

theorem blk1 (k b : Fin 1024) : iblk m c 1 t (ix3 0 k b) = at3 (p := 1) (q := 1024) (s := 1024) ⟪m,c,1⟫ 0 k.val b.val := by
  obtain ⟨e0, e1, e2, e3, e4, e5⟩ := idx_facts t
  blk_simp [iblk]
  refine (congrFun (V_main_arg1 m c) _).trans (at3_of _ _ _ _ _ ?_ ?_ ?_)
  · blk_simp [e1]
    rfl
  · blk_ext [e1]
  · blk_ext [e1]

theorem blk2 (a : Fin 512) (k : Fin 1024) : iblk m c 2 t (ix2 a k) = at2 (p := 8192) (q := 1024) ⟪m,c,2⟫ (t.val * 512 + a.val) k.val := by
  obtain ⟨e0, e1, e2, e3, e4, e5⟩ := idx_facts t
  blk_simp [iblk]
  refine (congrFun (V_main_arg2 m c) _).trans (at2_of _ _ _ _ ?_ ?_)
  · blk_ext [e2]
  · blk_ext [e2]

theorem blk3 (k : Fin 1024) : iblk m c 3 t (ix2 0 k) = m ((c : Thread nD τ).loc main_arg3) (ix1 k) := by
  obtain ⟨e0, e1, e2, e3, e4, e5⟩ := idx_facts t
  have h : shapeCast S1x1024 ⟪m,c,3⟫ shapeCasts_S1024_S1x1024 (ix2 0 k) = m ((c : Thread nD τ).loc main_arg3) (ix1 k) := by
    pointwise []
  refine Eq.trans ?_ h
  blk_simp [iblk]
  refine (congrFun (V_v0 m c) _).trans (congrArg _ (funext fun d => ?_))
  match d with
  | ⟨0, _⟩ => exact Fin.ext (by blk_ext [e3])
  | ⟨1, _⟩ => exact Fin.ext (by blk_ext [e3])

/-- A point's product, from zero. -/
abbrev acc : FVec Ideal S512x1024 .f32 := k0_pay2 (F := Ideal) (k0_pay1 (F := Ideal)) (iblk m c 0 t) (iblk m c 1 t)

theorem out_blk (a : Fin 512) (b : Fin 1024) :
    k0_pay3 (F := Ideal) (acc m c t) (iblk m c 2 t) (ix2 a b) = outAt ⟪m,c,0⟫ ⟪m,c,1⟫ ⟪m,c,2⟫ (t.val * 512 + a.val) b.val := by
  refine (pay3_apply _ _ a b).trans (congrArg₂ (· + ·) (blk2 m c t a b) ?_)
  refine (pay2_apply _ _ _ a b).trans ?_
  rw [pay1_apply, zero_add]
  exact Finset.sum_congr rfl fun k _ => congrArg₂ (· * ·) (blk0 m c t a k) (blk1 m c t k b)

theorem out4 : (outsAt0 m c t).1 = k0_pay3 (F := Ideal) (acc m c t) (iblk m c 2 t) := by
  unfold outsAt0
  frame_out

theorem out5 : (outsAt0 m c t).2 = k0_pay4 (F := Ideal) (acc m c t) (iblk m c 2 t) (iblk m c 3 t) := by
  unfold outsAt0
  frame_out

/-- The first result array. -/
theorem final4 : (dats m 0 c).arrAt 4 cfg0.N = outArr ⟪m,c,0⟫ ⟪m,c,1⟫ ⟪m,c,2⟫ := by
  refine (dats m 0 c).arrAt_eq_of_covers 4 _ (by decide +kernel) fun t hf y => ?_
  obtain ⟨e0, e1, e2, e3, e4, e5⟩ := idx_facts t
  blk_simp
  rw [after0_4, out4 m c t, ValueIdx.eq_ix2 y]
  refine (out_blk m c t (y 0) (y 1)).trans ?_
  refine congrArg₂ (outAt ⟪m,c,0⟫ ⟪m,c,1⟫ ⟪m,c,2⟫) ?_ ?_
  · blk_ext [e4]
  · blk_ext [e4]

/-- The second result array. -/
theorem final5 : (dats m 0 c).arrAt 5 cfg0.N = normArr ⟪m,c,0⟫ ⟪m,c,1⟫ ⟪m,c,2⟫ ⟪m,c,3⟫ := by
  refine (dats m 0 c).arrAt_eq_of_covers 5 _ (by decide +kernel) fun t hf y => ?_
  obtain ⟨e0, e1, e2, e3, e4, e5⟩ := idx_facts t
  blk_simp
  rw [after0_5, out5 m c t, ValueIdx.eq_ix2 y]
  refine ((pay4_apply _ _ _ (y 0) (y 1)).trans (nrm_congr (y 1) (fun k => out_blk m c t (y 0) k) (blk3 m c t (y 1)))).trans ?_
  refine congrArg₂ (normAt ⟪m,c,0⟫ ⟪m,c,1⟫ ⟪m,c,2⟫ ⟪m,c,3⟫) ?_ (Fin.ext ?_)
  · blk_ext [e5]
  · blk_ext [e5]

end call

section reference

open Cert.AoRefIdeal Cert.AoRefIdeal.Gen Cert.AoRefIdeal.Read

section
variable {A0 : FVec Ideal S8192x1024 .f32} {A1 : FVec Ideal S1x1024x1024 .bf16} {A2 : FVec Ideal S8192x1024 .f32} {g : FVec Ideal S1024 .f32}

theorem r4 (i : S8192x1024.Idx) : val_main_v4 (F := Ideal) A0 A1 A2 i = outAt A0 A1 A2 (i 0).val (i 1).val := by
  have h1 : (i 1).val < 1024 := (i 1).isLt
  rw [val_main_v4_apply, val_main_v3_apply]
  refine congrArg₂ (fun x y : EReal => x + y) (at2_of (p := 8192) (q := 1024) A2 i _ _ rfl rfl) (Finset.sum_congr rfl fun k _ => ?_)
  rw [val_main_v2_apply, val_main_v1_apply, val_main_v0_apply]
  refine congrArg₂ (· * ·) (at2_of (p := 8192) (q := 1024) A0 _ _ _ rfl rfl) (at3_of (p := 1) (q := 1024) (s := 1024) A1 _ _ _ _ ?_ ?_ ?_)
  · rfl
  · show (k.val * 1024 + (i 1).val) / 1024 = k.val
    omega
  · show (k.val * 1024 + (i 1).val) % 1024 = (i 1).val
    omega

theorem r11 (i : S8192x1.Idx) : val_main_v11 (F := Ideal) A0 A1 A2 i = ms fun k => outAt A0 A1 A2 (i 0).val k.val := by
  rw [val_main_v11_apply, val_main_v9_apply, val_main_v10_apply, val_main_v8_apply, val_main_v7_apply, val_main_v6_apply, val_main_cst_apply, val_main_cst_0_apply, val_main_cst_1_apply]
  show Ideal.div (Ideal.ofBits .f32 0x00000000#32 + _) (Ideal.ofBits .f32 0x44800000#32) + Ideal.ofBits .f32 0x358637BD#32 = _
  have e : ∀ k : Fin 1024, val_main_v5 (F := Ideal) A0 A1 A2 (idx_main_v6 (idx_main_v7 i) k)
      = outAt A0 A1 A2 (i 0).val k.val * outAt A0 A1 A2 (i 0).val k.val := fun k => by
    rw [val_main_v5_apply, r4]
    rfl
  rw [Ideal.ofBits_zero, Finset.sum_congr rfl fun k _ => e k, zero_add]
  rfl

theorem r18 (i : S8192x1024.Idx) : val_main_v18 (F := Ideal) A0 A1 A2 g i = normAt A0 A1 A2 g (i 0).val (i 1) := by
  rw [val_main_v18_apply, val_main_v17_apply, val_main_v14_apply, val_main_v13_apply, val_main_v12_apply, r11, r4, val_main_v16_apply, val_main_v15_apply]
  refine congrArg (outAt A0 A1 A2 (i 0).val (i 1).val * Ideal.rsqrt (ms fun k => outAt A0 A1 A2 (i 0).val k.val) * ·) (congrArg g (funext fun d => ?_))
  match d with
  | ⟨0, _⟩ => rfl

end

/-- The frame of the host reference: it declares no semaphore and writes no argument. -/
theorem frame_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, Idealize.ShloMosaic.sem_eq_zero_of_no_sems (by decide) r.2⟩)
    (Cert.AoRefIdeal.Value.run (F := Ideal) m ρ)

set_option maxHeartbeats 4000000 in
/-- Call and reference compute the same arrays, whatever the arguments hold. -/
theorem algebraic : Cert.algebraic_AoIdeal_AoRefIdeal := by
  intro m ρ m' ρ' _ hagree
  refine ⟨fun c => outArr (m ((c.tc : Thread _ _).loc Cert.AoIdeal.main_arg0)) (m ((c.tc : Thread _ _).loc Cert.AoIdeal.main_arg1)) (m ((c.tc : Thread _ _).loc Cert.AoIdeal.main_arg2)), fun c => normArr (m ((c.tc : Thread _ _).loc Cert.AoIdeal.main_arg0)) (m ((c.tc : Thread _ _).loc Cert.AoIdeal.main_arg1)) (m ((c.tc : Thread _ _).loc Cert.AoIdeal.main_arg2)) (m ((c.tc : Thread _ _).loc Cert.AoIdeal.main_arg3)), ?_, ?_⟩
  · exact (θ_run Cert.AoIdeal.defs _ _).mono (fun r h c => ⟨(h c).1.trans (final4 m c), (h c).2.1.trans (final5 m c), (h c).2.2⟩) (Cert.AoIdeal.Value.run_blocks (F := Ideal) m ρ)
  · refine (θ_run defs _ _).mono (fun r h c => ?_) (Cert.AoRefIdeal.Value.run (F := Ideal) m' ρ')
    obtain ⟨a0, a1, a2, a3⟩ := hagree c
    refine ⟨((h c).1.trans (val_main_v4_eq _ _ _)).trans ?_, ((h c).2.1.trans (val_main_v18_eq _ _ _ _)).trans ?_, (h c).2.2⟩
    · rw [a0, a1, a2]; exact funext fun i => r4 i
    · rw [a0, a1, a2, a3]; exact funext fun i => r18 i

end reference

end Cert.AoEq

end
-- ==== Proof.lean ====
/-
  The certificate: for gradient calls of the SwiGLU half-step, of the forgetting attention and of the attentions' projections and
  output products, and for forward calls of the projections and of the half-step's products, the frames of each call, of its
  idealization and of the reference; the ideal program is the call over the extended reals; call and reference agree there.
-/
module

public import proofs.«01_k».proof.Defs
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluRefIdeal
public import proofs.«01_k».proof.Proof.Gen.Pre_swiglu_finite
public import proofs.«01_k».proof.Proof.Gen.SwigluBwdIdeal.Value
public import proofs.«01_k».proof.Proof.Gen.SwigluRefIdeal.Read
public import proofs.«01_k».proof.Proof.SwigluRef
public import proofs.«01_k».proof.Proof.Gen.FoxBwd
public import proofs.«01_k».proof.Proof.Gen.FoxBwd.Skeleton
public import proofs.«01_k».proof.Proof.Gen.FoxBwd.Launch
public import proofs.«01_k».proof.Proof.Gen.FoxBwd.Points
public import proofs.«01_k».proof.Proof.Gen.FoxBwd.Frame
public import proofs.«01_k».proof.Proof.Gen.FoxBwdIdeal
public import proofs.«01_k».proof.Proof.Gen.FoxBwdIdeal.Skeleton
public import proofs.«01_k».proof.Proof.Gen.FoxBwdIdeal.Launch
public import proofs.«01_k».proof.Proof.Gen.FoxBwdIdeal.Points
public import proofs.«01_k».proof.Proof.Gen.FoxBwdIdeal.Frame
public import proofs.«01_k».proof.Proof.Gen.FoxRefIdeal
public import proofs.«01_k».proof.Proof.Gen.Pre_fox_finite
public import proofs.«01_k».proof.Proof.Gen.FoxRefIdeal.Read
public import proofs.«01_k».proof.Proof.FoxFrame
public import proofs.«01_k».proof.Proof.FoxWFrame
public import proofs.«01_k».proof.Proof.FoxEq
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.InDxRefIdeal.Read
public import proofs.«01_k».proof.Proof.Gen.QkvDw
public import proofs.«01_k».proof.Proof.Gen.QkvDw.Skeleton
public import proofs.«01_k».proof.Proof.Gen.QkvDw.Launch
public import proofs.«01_k».proof.Proof.Gen.QkvDw.Points
public import proofs.«01_k».proof.Proof.Gen.QkvDw.Frame
public import proofs.«01_k».proof.Proof.Gen.QkvDwIdeal
public import proofs.«01_k».proof.Proof.Gen.QkvDwIdeal.Skeleton
public import proofs.«01_k».proof.Proof.Gen.QkvDwIdeal.Launch
public import proofs.«01_k».proof.Proof.Gen.QkvDwIdeal.Points
public import proofs.«01_k».proof.Proof.Gen.QkvDwIdeal.Frame
public import proofs.«01_k».proof.Proof.Gen.QkvDwIdeal.Value
public import proofs.«01_k».proof.Proof.Gen.QkvDwRefIdeal
public import proofs.«01_k».proof.Proof.Gen.QkvDwRefIdeal.Read
public import proofs.«01_k».proof.Proof.Gen.QkvDx
public import proofs.«01_k».proof.Proof.Gen.QkvDx.Skeleton
public import proofs.«01_k».proof.Proof.Gen.QkvDx.Launch
public import proofs.«01_k».proof.Proof.Gen.QkvDx.Points
public import proofs.«01_k».proof.Proof.Gen.QkvDx.Frame
public import proofs.«01_k».proof.Proof.Gen.QkvDxIdeal
public import proofs.«01_k».proof.Proof.Gen.QkvDxIdeal.Skeleton
public import proofs.«01_k».proof.Proof.Gen.QkvDxIdeal.Launch
public import proofs.«01_k».proof.Proof.Gen.QkvDxIdeal.Points
public import proofs.«01_k».proof.Proof.Gen.QkvDxIdeal.Frame
public import proofs.«01_k».proof.Proof.Gen.QkvDxRefIdeal
public import proofs.«01_k».proof.Proof.Gen.QkvDxRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Read
public import proofs.«01_k».proof.Proof.Gen.FfnOut1
public import proofs.«01_k».proof.Proof.Gen.FfnOut1.Skeleton
public import proofs.«01_k».proof.Proof.Gen.FfnOut1.Launch
public import proofs.«01_k».proof.Proof.Gen.FfnOut1.Points
public import proofs.«01_k».proof.Proof.Gen.FfnOut1.Frame
public import proofs.«01_k».proof.Proof.Gen.FfnOut1Ideal
public import proofs.«01_k».proof.Proof.Gen.FfnOut1Ideal.Skeleton
public import proofs.«01_k».proof.Proof.Gen.FfnOut1Ideal.Launch
public import proofs.«01_k».proof.Proof.Gen.FfnOut1Ideal.Points
public import proofs.«01_k».proof.Proof.Gen.FfnOut1Ideal.Frame
public import proofs.«01_k».proof.Proof.Gen.FfnOut1Ideal.Value
public import proofs.«01_k».proof.Proof.Gen.FfnOut1RefIdeal
public import proofs.«01_k».proof.Proof.Gen.FfnOut1RefIdeal.Read
public import proofs.«01_k».proof.Proof.Gen.FfnOut2
public import proofs.«01_k».proof.Proof.Gen.FfnOut2.Skeleton
public import proofs.«01_k».proof.Proof.Gen.FfnOut2.Launch
public import proofs.«01_k».proof.Proof.Gen.FfnOut2.Points
public import proofs.«01_k».proof.Proof.Gen.FfnOut2.Frame
public import proofs.«01_k».proof.Proof.Gen.FfnOut2Ideal
public import proofs.«01_k».proof.Proof.Gen.FfnOut2Ideal.Skeleton
public import proofs.«01_k».proof.Proof.Gen.FfnOut2Ideal.Launch
public import proofs.«01_k».proof.Proof.Gen.FfnOut2Ideal.Points
public import proofs.«01_k».proof.Proof.Gen.FfnOut2Ideal.Frame
public import proofs.«01_k».proof.Proof.Gen.FfnOut2Ideal.Value
public import proofs.«01_k».proof.Proof.Gen.FfnOut2RefIdeal
public import proofs.«01_k».proof.Proof.Gen.FfnOut2RefIdeal.Read
public import proofs.«01_k».proof.Proof.Gen.AoDw
public import proofs.«01_k».proof.Proof.Gen.AoDw.Skeleton
public import proofs.«01_k».proof.Proof.Gen.AoDw.Launch
public import proofs.«01_k».proof.Proof.Gen.AoDw.Points
public import proofs.«01_k».proof.Proof.Gen.AoDw.Frame
public import proofs.«01_k».proof.Proof.Gen.AoDwIdeal
public import proofs.«01_k».proof.Proof.Gen.AoDwIdeal.Skeleton
public import proofs.«01_k».proof.Proof.Gen.AoDwIdeal.Launch
public import proofs.«01_k».proof.Proof.Gen.AoDwIdeal.Points
public import proofs.«01_k».proof.Proof.Gen.AoDwIdeal.Frame
public import proofs.«01_k».proof.Proof.Gen.AoDwIdeal.Value
public import proofs.«01_k».proof.Proof.Gen.AoDwRefIdeal
public import proofs.«01_k».proof.Proof.Gen.AoDwRefIdeal.Read
public import proofs.«01_k».proof.Proof.Gen.AoDx
public import proofs.«01_k».proof.Proof.Gen.AoDx.Skeleton
public import proofs.«01_k».proof.Proof.Gen.AoDx.Launch
public import proofs.«01_k».proof.Proof.Gen.AoDx.Points
public import proofs.«01_k».proof.Proof.Gen.AoDx.Frame
public import proofs.«01_k».proof.Proof.Gen.AoDxIdeal
public import proofs.«01_k».proof.Proof.Gen.AoDxIdeal.Skeleton
public import proofs.«01_k».proof.Proof.Gen.AoDxIdeal.Launch
public import proofs.«01_k».proof.Proof.Gen.AoDxIdeal.Points
public import proofs.«01_k».proof.Proof.Gen.AoDxIdeal.Frame
public import proofs.«01_k».proof.Proof.Gen.AoDxIdeal.Value
public import proofs.«01_k».proof.Proof.Gen.AoDxRefIdeal
public import proofs.«01_k».proof.Proof.Gen.AoDxRefIdeal.Read
public import proofs.«01_k».proof.Proof.Gen.Bq
public import proofs.«01_k».proof.Proof.Gen.Bq.Skeleton
public import proofs.«01_k».proof.Proof.Gen.Bq.Launch
public import proofs.«01_k».proof.Proof.Gen.Bq.Points
public import proofs.«01_k».proof.Proof.Gen.Bq.Frame
public import proofs.«01_k».proof.Proof.Gen.BqIdeal
public import proofs.«01_k».proof.Proof.Gen.BqIdeal.Skeleton
public import proofs.«01_k».proof.Proof.Gen.BqIdeal.Launch
public import proofs.«01_k».proof.Proof.Gen.BqIdeal.Points
public import proofs.«01_k».proof.Proof.Gen.BqIdeal.Frame
public import proofs.«01_k».proof.Proof.Gen.BqIdeal.Value
public import proofs.«01_k».proof.Proof.Gen.BqRefIdeal
public import proofs.«01_k».proof.Proof.Gen.BqRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Read
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Read
public import proofs.«01_k».proof.Proof.Gen.BqDw
public import proofs.«01_k».proof.Proof.Gen.BqDw.Skeleton
public import proofs.«01_k».proof.Proof.Gen.BqDw.Launch
public import proofs.«01_k».proof.Proof.Gen.BqDw.Points
public import proofs.«01_k».proof.Proof.Gen.BqDw.Frame
public import proofs.«01_k».proof.Proof.Gen.BqDwIdeal
public import proofs.«01_k».proof.Proof.Gen.BqDwIdeal.Skeleton
public import proofs.«01_k».proof.Proof.Gen.BqDwIdeal.Launch
public import proofs.«01_k».proof.Proof.Gen.BqDwIdeal.Points
public import proofs.«01_k».proof.Proof.Gen.BqDwIdeal.Frame
public import proofs.«01_k».proof.Proof.Gen.BqDwIdeal.Value
public import proofs.«01_k».proof.Proof.Gen.BqDwRefIdeal
public import proofs.«01_k».proof.Proof.Gen.BqDwRefIdeal.Read
public import proofs.«01_k».proof.Proof.Gen.Ao
public import proofs.«01_k».proof.Proof.Gen.Ao.Skeleton
public import proofs.«01_k».proof.Proof.Gen.Ao.Launch
public import proofs.«01_k».proof.Proof.Gen.Ao.Points
public import proofs.«01_k».proof.Proof.Gen.Ao.Frame
public import proofs.«01_k».proof.Proof.Gen.AoIdeal
public import proofs.«01_k».proof.Proof.Gen.AoIdeal.Skeleton
public import proofs.«01_k».proof.Proof.Gen.AoIdeal.Launch
public import proofs.«01_k».proof.Proof.Gen.AoIdeal.Points
public import proofs.«01_k».proof.Proof.Gen.AoIdeal.Frame
public import proofs.«01_k».proof.Proof.Gen.AoIdeal.Value
public import proofs.«01_k».proof.Proof.Gen.AoRefIdeal
public import proofs.«01_k».proof.Proof.Gen.AoRefIdeal.Read
public import proofs.«01_k».proof.Proof.InDwEq
public import proofs.«01_k».proof.Proof.OutDwEq
public import proofs.«01_k».proof.Proof.InDxEq
public import proofs.«01_k».proof.Proof.QkvDwEq
public import proofs.«01_k».proof.Proof.QkvDxEq
public import proofs.«01_k».proof.Proof.QkvEq
public import proofs.«01_k».proof.Proof.FfnInEq
public import proofs.«01_k».proof.Proof.FfnOutEq
public import proofs.«01_k».proof.Proof.FfnOut1Eq
public import proofs.«01_k».proof.Proof.FfnOut2Eq
public import proofs.«01_k».proof.Proof.AoDwEq
public import proofs.«01_k».proof.Proof.AoDxEq
public import proofs.«01_k».proof.Proof.BqEq
public import proofs.«01_k».proof.Proof.KvEq
public import proofs.«01_k».proof.Proof.KvDwEq
public import proofs.«01_k».proof.Proof.BqDwEq
public import proofs.«01_k».proof.Proof.AoEq
public import Idealize.ShloMosaic.Adequacy
public import Idealize.ShloMosaic.Init

@[expose] public section

noncomputable section

namespace Cert.Proof

open Idealize.ShloMosaic Idealize.SL.Sem Cert.SwigluBwd

theorem claim : Cert.Claim := ⟨Cert.SwigluBwd.Gen.facts, Cert.SwigluBwdIdeal.Gen.facts, Cert.SwigluRefIdeal.Gen.facts,
  Cert.FoxBwd.Gen.facts, Cert.FoxBwdIdeal.Gen.facts, Cert.FoxRefIdeal.Gen.facts,
  Cert.InDw.Gen.facts, Cert.InDwIdeal.Gen.facts, Cert.InDwRefIdeal.Gen.facts,
  Cert.OutDw.Gen.facts, Cert.OutDwIdeal.Gen.facts, Cert.OutDwRefIdeal.Gen.facts,
  Cert.InDx.Gen.facts, Cert.InDxIdeal.Gen.facts, Cert.InDxRefIdeal.Gen.facts,
  Cert.QkvDw.Gen.facts, Cert.QkvDwIdeal.Gen.facts, Cert.QkvDwRefIdeal.Gen.facts,
  Cert.QkvDx.Gen.facts, Cert.QkvDxIdeal.Gen.facts, Cert.QkvDxRefIdeal.Gen.facts,
  Cert.Qkv.Gen.facts, Cert.QkvIdeal.Gen.facts, Cert.QkvRefIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.FfnOut1.Gen.facts, Cert.FfnOut1Ideal.Gen.facts, Cert.FfnOut1RefIdeal.Gen.facts,
  Cert.FfnOut2.Gen.facts, Cert.FfnOut2Ideal.Gen.facts, Cert.FfnOut2RefIdeal.Gen.facts,
  Cert.AoDw.Gen.facts, Cert.AoDwIdeal.Gen.facts, Cert.AoDwRefIdeal.Gen.facts,
  Cert.AoDx.Gen.facts, Cert.AoDxIdeal.Gen.facts, Cert.AoDxRefIdeal.Gen.facts,
  Cert.Bq.Gen.facts, Cert.BqIdeal.Gen.facts, Cert.BqRefIdeal.Gen.facts,
  Cert.Kv.Gen.facts, Cert.KvIdeal.Gen.facts, Cert.KvRefIdeal.Gen.facts,
  Cert.KvDw.Gen.facts, Cert.KvDwIdeal.Gen.facts, Cert.KvDwRefIdeal.Gen.facts,
  Cert.BqDw.Gen.facts, Cert.BqDwIdeal.Gen.facts, Cert.BqDwRefIdeal.Gen.facts,
  Cert.Ao.Gen.facts, Cert.AoIdeal.Gen.facts, Cert.AoRefIdeal.Gen.facts,
  Cert.Pre_swiglu_finite.Gen.facts, Cert.Pre_fox_finite.Gen.facts,
  fun m ρ _ => Cert.SwigluBwd.Gen.frame m ρ,
  fun m ρ _ => Cert.SwigluBwdIdeal.Gen.frame m ρ,
  fun m ρ _ => Cert.SwigluBwdIdeal.Gen.frame m ρ,
  fun m ρ _ => Cert.Swiglu.frame_ref m ρ,
  fun m ρ _ => Cert.Swiglu.frame_ref m ρ,
  fun m ρ _ => Cert.FoxBwd.Hand.frame m ρ,
  fun m ρ _ => Cert.FoxBwdIdeal.Hand.frame m ρ,
  fun m ρ _ => Cert.FoxBwdIdeal.Hand.frame m ρ,
  fun m ρ _ => Cert.Fox.frame_ref m ρ,
  fun m ρ _ => Cert.Fox.frame_ref m ρ,
  fun m ρ _ => Cert.InDw.Gen.frame m ρ,
  fun m ρ _ => Cert.InDwIdeal.Gen.frame m ρ,
  fun m ρ _ => Cert.InDwEq.frame_ref m ρ,
  fun m ρ _ => Cert.OutDw.Gen.frame m ρ,
  fun m ρ _ => Cert.OutDwIdeal.Gen.frame m ρ,
  fun m ρ _ => Cert.OutDwEq.frame_ref m ρ,
  fun m ρ _ => Cert.InDx.Gen.frame m ρ,
  fun m ρ _ => Cert.InDxIdeal.Gen.frame m ρ,
  fun m ρ _ => Cert.InDxEq.frame_ref m ρ,
  fun m ρ _ => Cert.QkvDw.Gen.frame m ρ,
  fun m ρ _ => Cert.QkvDwIdeal.Gen.frame m ρ,
  fun m ρ _ => Cert.QkvDwEq.frame_ref m ρ,
  fun m ρ _ => Cert.QkvDx.Gen.frame m ρ,
  fun m ρ _ => Cert.QkvDxIdeal.Gen.frame m ρ,
  fun m ρ _ => Cert.QkvDxEq.frame_ref m ρ,
  fun m ρ _ => Cert.Qkv.Gen.frame m ρ,
  fun m ρ _ => Cert.QkvIdeal.Gen.frame m ρ,
  fun m ρ _ => Cert.QkvEq.frame_ref m ρ,
  fun m ρ _ => Cert.FfnIn.Gen.frame m ρ,
  fun m ρ _ => Cert.FfnInIdeal.Gen.frame m ρ,
  fun m ρ _ => Cert.FfnInEq.frame_ref m ρ,
  fun m ρ _ => Cert.FfnOut.Gen.frame m ρ,
  fun m ρ _ => Cert.FfnOutIdeal.Gen.frame m ρ,
  fun m ρ _ => Cert.FfnOutEq.frame_ref m ρ,
  fun m ρ _ => Cert.FfnOut1.Gen.frame m ρ,
  fun m ρ _ => Cert.FfnOut1Ideal.Gen.frame m ρ,
  fun m ρ _ => Cert.FfnOut1Eq.frame_ref m ρ,
  fun m ρ _ => Cert.FfnOut2.Gen.frame m ρ,
  fun m ρ _ => Cert.FfnOut2Ideal.Gen.frame m ρ,
  fun m ρ _ => Cert.FfnOut2Eq.frame_ref m ρ,
  fun m ρ _ => Cert.AoDw.Gen.frame m ρ,
  fun m ρ _ => Cert.AoDwIdeal.Gen.frame m ρ,
  fun m ρ _ => Cert.AoDwEq.frame_ref m ρ,
  fun m ρ _ => Cert.AoDx.Gen.frame m ρ,
  fun m ρ _ => Cert.AoDxIdeal.Gen.frame m ρ,
  fun m ρ _ => Cert.AoDxEq.frame_ref m ρ,
  fun m ρ _ => Cert.Bq.Gen.frame m ρ,
  fun m ρ _ => Cert.BqIdeal.Gen.frame m ρ,
  fun m ρ _ => Cert.BqEq.frame_ref m ρ,
  fun m ρ _ => Cert.Kv.Gen.frame m ρ,
  fun m ρ _ => Cert.KvIdeal.Gen.frame m ρ,
  fun m ρ _ => Cert.KvEq.frame_ref m ρ,
  fun m ρ _ => Cert.KvDw.Gen.frame m ρ,
  fun m ρ _ => Cert.KvDwIdeal.Gen.frame m ρ,
  fun m ρ _ => Cert.KvDwEq.frame_ref m ρ,
  fun m ρ _ => Cert.BqDw.Gen.frame m ρ,
  fun m ρ _ => Cert.BqDwIdeal.Gen.frame m ρ,
  fun m ρ _ => Cert.BqDwEq.frame_ref m ρ,
  fun m ρ _ => Cert.Ao.Gen.frame m ρ,
  fun m ρ _ => Cert.AoIdeal.Gen.frame m ρ,
  fun m ρ _ => Cert.AoEq.frame_ref m ρ,
  trivial,
  Cert.Swiglu.algebraic,
  IdealRules.named_const.statement Cert.FoxBwdIdeal.κ "mask" .f32 0xF149F2CA#32 ⊥ rfl,
  Cert.Fox.algebraic,
  trivial,
  Cert.InDwEq.algebraic,
  trivial,
  Cert.OutDwEq.algebraic,
  trivial,
  Cert.InDxEq.algebraic,
  trivial,
  Cert.QkvDwEq.algebraic,
  trivial,
  Cert.QkvDxEq.algebraic,
  trivial,
  Cert.QkvEq.algebraic,
  trivial,
  Cert.FfnInEq.algebraic,
  trivial,
  Cert.FfnOutEq.algebraic,
  trivial,
  Cert.FfnOut1Eq.algebraic,
  trivial,
  Cert.FfnOut2Eq.algebraic,
  trivial,
  Cert.AoDwEq.algebraic,
  trivial,
  Cert.AoDxEq.algebraic,
  trivial,
  Cert.BqEq.algebraic,
  trivial,
  Cert.KvEq.algebraic,
  trivial,
  Cert.KvDwEq.algebraic,
  trivial,
  Cert.BqDwEq.algebraic,
  trivial,
  Cert.AoEq.algebraic⟩

end Cert.Proof

end
